-- ==== Defs.lean ====
def Pre_InBwd (m : (ℓ : Loc Cert.InBwd.nD Cert.InBwd.τ Cert.InBwd.sig) → Buf (Elt Bits) ℓ) : Prop :=
  True

def Pre_InBwdIdeal (m : (ℓ : Loc Cert.InBwdIdeal.nD Cert.InBwdIdeal.τ Cert.InBwdIdeal.sig) → Buf (Elt Ideal) ℓ) : Prop :=
  True

def Pre_InBwdIdeal_in_finite [hPre_in_finite : Cert.Pre_in_finite.Facts] (m : (ℓ : Loc Cert.InBwdIdeal.nD Cert.InBwdIdeal.τ Cert.InBwdIdeal.sig) → Buf (Elt Ideal) ℓ) : Prop :=
  ∀ c : Dev Cert.InBwdIdeal.nD,
    (Cert.Pre_in_finite.fn (F := Ideal) (m ((c.tc : Thread Cert.InBwdIdeal.nD Cert.InBwdIdeal.τ).loc Cert.InBwdIdeal.main_arg0)) (m ((c.tc : Thread Cert.InBwdIdeal.nD Cert.InBwdIdeal.τ).loc Cert.InBwdIdeal.main_arg1)) (m ((c.tc : Thread Cert.InBwdIdeal.nD Cert.InBwdIdeal.τ).loc Cert.InBwdIdeal.main_arg2)) (m ((c.tc : Thread Cert.InBwdIdeal.nD Cert.InBwdIdeal.τ).loc Cert.InBwdIdeal.main_arg3)) (m ((c.tc : Thread Cert.InBwdIdeal.nD Cert.InBwdIdeal.τ).loc Cert.InBwdIdeal.main_arg4))) = (fun _ => 1#1)

def Pre_InBwdRefIdeal (m : (ℓ : Loc Cert.InBwdRefIdeal.nD Cert.InBwdRefIdeal.τ Cert.InBwdRefIdeal.sig) → Buf (Elt Ideal) ℓ) : Prop :=
  True

def Pre_InBwdRefIdeal_in_finite [hPre_in_finite : Cert.Pre_in_finite.Facts] (m : (ℓ : Loc Cert.InBwdRefIdeal.nD Cert.InBwdRefIdeal.τ Cert.InBwdRefIdeal.sig) → Buf (Elt Ideal) ℓ) : Prop :=
  ∀ c : Dev Cert.InBwdRefIdeal.nD,
    (Cert.Pre_in_finite.fn (F := Ideal) (m ((c.tc : Thread Cert.InBwdRefIdeal.nD Cert.InBwdRefIdeal.τ).loc Cert.InBwdRefIdeal.main_arg0)) (m ((c.tc : Thread Cert.InBwdRefIdeal.nD Cert.InBwdRefIdeal.τ).loc Cert.InBwdRefIdeal.main_arg1)) (m ((c.tc : Thread Cert.InBwdRefIdeal.nD Cert.InBwdRefIdeal.τ).loc Cert.InBwdRefIdeal.main_arg2)) (m ((c.tc : Thread Cert.InBwdRefIdeal.nD Cert.InBwdRefIdeal.τ).loc Cert.InBwdRefIdeal.main_arg3)) (m ((c.tc : Thread Cert.InBwdRefIdeal.nD Cert.InBwdRefIdeal.τ).loc Cert.InBwdRefIdeal.main_arg4))) = (fun _ => 1#1)

def Pre_AttnBwd (m : (ℓ : Loc Cert.AttnBwd.nD Cert.AttnBwd.τ Cert.AttnBwd.sig) → Buf (Elt Bits) ℓ) : Prop :=
  True

def Pre_AttnBwdIdeal (m : (ℓ : Loc Cert.AttnBwdIdeal.nD Cert.AttnBwdIdeal.τ Cert.AttnBwdIdeal.sig) → Buf (Elt Ideal) ℓ) : Prop :=
  True

def Pre_AttnBwdIdeal_attn_finite [hPre_attn_finite : Cert.Pre_attn_finite.Facts] (m : (ℓ : Loc Cert.AttnBwdIdeal.nD Cert.AttnBwdIdeal.τ Cert.AttnBwdIdeal.sig) → Buf (Elt Ideal) ℓ) : Prop :=
  ∀ c : Dev Cert.AttnBwdIdeal.nD,
    (Cert.Pre_attn_finite.fn (F := Ideal) (m ((c.tc : Thread Cert.AttnBwdIdeal.nD Cert.AttnBwdIdeal.τ).loc Cert.AttnBwdIdeal.main_arg0)) (m ((c.tc : Thread Cert.AttnBwdIdeal.nD Cert.AttnBwdIdeal.τ).loc Cert.AttnBwdIdeal.main_arg1)) (m ((c.tc : Thread Cert.AttnBwdIdeal.nD Cert.AttnBwdIdeal.τ).loc Cert.AttnBwdIdeal.main_arg2)) (m ((c.tc : Thread Cert.AttnBwdIdeal.nD Cert.AttnBwdIdeal.τ).loc Cert.AttnBwdIdeal.main_arg3))) = (fun _ => 1#1)

def Pre_AttnBwdRefIdeal (m : (ℓ : Loc Cert.AttnBwdRefIdeal.nD Cert.AttnBwdRefIdeal.τ Cert.AttnBwdRefIdeal.sig) → Buf (Elt Ideal) ℓ) : Prop :=
  True

def Pre_AttnBwdRefIdeal_attn_finite [hPre_attn_finite : Cert.Pre_attn_finite.Facts] (m : (ℓ : Loc Cert.AttnBwdRefIdeal.nD Cert.AttnBwdRefIdeal.τ Cert.AttnBwdRefIdeal.sig) → Buf (Elt Ideal) ℓ) : Prop :=
  ∀ c : Dev Cert.AttnBwdRefIdeal.nD,
    (Cert.Pre_attn_finite.fn (F := Ideal) (m ((c.tc : Thread Cert.AttnBwdRefIdeal.nD Cert.AttnBwdRefIdeal.τ).loc Cert.AttnBwdRefIdeal.main_arg0)) (m ((c.tc : Thread Cert.AttnBwdRefIdeal.nD Cert.AttnBwdRefIdeal.τ).loc Cert.AttnBwdRefIdeal.main_arg1)) (m ((c.tc : Thread Cert.AttnBwdRefIdeal.nD Cert.AttnBwdRefIdeal.τ).loc Cert.AttnBwdRefIdeal.main_arg2)) (m ((c.tc : Thread Cert.AttnBwdRefIdeal.nD Cert.AttnBwdRefIdeal.τ).loc Cert.AttnBwdRefIdeal.main_arg3))) = (fun _ => 1#1)

def Pre_MergeBwd (m : (ℓ : Loc Cert.MergeBwd.nD Cert.MergeBwd.τ Cert.MergeBwd.sig) → Buf (Elt Bits) ℓ) : Prop :=
  True

def Pre_MergeBwdIdeal (m : (ℓ : Loc Cert.MergeBwdIdeal.nD Cert.MergeBwdIdeal.τ Cert.MergeBwdIdeal.sig) → Buf (Elt Ideal) ℓ) : Prop :=
  True

def Pre_MergeBwdIdeal_merge_finite [hPre_merge_finite : Cert.Pre_merge_finite.Facts] (m : (ℓ : Loc Cert.MergeBwdIdeal.nD Cert.MergeBwdIdeal.τ Cert.MergeBwdIdeal.sig) → Buf (Elt Ideal) ℓ) : Prop :=
  ∀ c : Dev Cert.MergeBwdIdeal.nD,
    (Cert.Pre_merge_finite.fn (F := Ideal) (m ((c.tc : Thread Cert.MergeBwdIdeal.nD Cert.MergeBwdIdeal.τ).loc Cert.MergeBwdIdeal.main_arg0)) (m ((c.tc : Thread Cert.MergeBwdIdeal.nD Cert.MergeBwdIdeal.τ).loc Cert.MergeBwdIdeal.main_arg1)) (m ((c.tc : Thread Cert.MergeBwdIdeal.nD Cert.MergeBwdIdeal.τ).loc Cert.MergeBwdIdeal.main_arg2)) (m ((c.tc : Thread Cert.MergeBwdIdeal.nD Cert.MergeBwdIdeal.τ).loc Cert.MergeBwdIdeal.main_arg3)) (m ((c.tc : Thread Cert.MergeBwdIdeal.nD Cert.MergeBwdIdeal.τ).loc Cert.MergeBwdIdeal.main_arg4)) (m ((c.tc : Thread Cert.MergeBwdIdeal.nD Cert.MergeBwdIdeal.τ).loc Cert.MergeBwdIdeal.main_arg5)) (m ((c.tc : Thread Cert.MergeBwdIdeal.nD Cert.MergeBwdIdeal.τ).loc Cert.MergeBwdIdeal.main_arg6))) = (fun _ => 1#1)

def Pre_MergeBwdRefIdeal (m : (ℓ : Loc Cert.MergeBwdRefIdeal.nD Cert.MergeBwdRefIdeal.τ Cert.MergeBwdRefIdeal.sig) → Buf (Elt Ideal) ℓ) : Prop :=
  True

def Pre_MergeBwdRefIdeal_merge_finite [hPre_merge_finite : Cert.Pre_merge_finite.Facts] (m : (ℓ : Loc Cert.MergeBwdRefIdeal.nD Cert.MergeBwdRefIdeal.τ Cert.MergeBwdRefIdeal.sig) → Buf (Elt Ideal) ℓ) : Prop :=
  ∀ c : Dev Cert.MergeBwdRefIdeal.nD,
    (Cert.Pre_merge_finite.fn (F := Ideal) (m ((c.tc : Thread Cert.MergeBwdRefIdeal.nD Cert.MergeBwdRefIdeal.τ).loc Cert.MergeBwdRefIdeal.main_arg0)) (m ((c.tc : Thread Cert.MergeBwdRefIdeal.nD Cert.MergeBwdRefIdeal.τ).loc Cert.MergeBwdRefIdeal.main_arg1)) (m ((c.tc : Thread Cert.MergeBwdRefIdeal.nD Cert.MergeBwdRefIdeal.τ).loc Cert.MergeBwdRefIdeal.main_arg2)) (m ((c.tc : Thread Cert.MergeBwdRefIdeal.nD Cert.MergeBwdRefIdeal.τ).loc Cert.MergeBwdRefIdeal.main_arg3)) (m ((c.tc : Thread Cert.MergeBwdRefIdeal.nD Cert.MergeBwdRefIdeal.τ).loc Cert.MergeBwdRefIdeal.main_arg4)) (m ((c.tc : Thread Cert.MergeBwdRefIdeal.nD Cert.MergeBwdRefIdeal.τ).loc Cert.MergeBwdRefIdeal.main_arg5)) (m ((c.tc : Thread Cert.MergeBwdRefIdeal.nD Cert.MergeBwdRefIdeal.τ).loc Cert.MergeBwdRefIdeal.main_arg6))) = (fun _ => 1#1)

def Pre_AttnPost (m : (ℓ : Loc Cert.AttnPost.nD Cert.AttnPost.τ Cert.AttnPost.sig) → Buf (Elt Bits) ℓ) : Prop :=
  True

def Pre_AttnPostIdeal (m : (ℓ : Loc Cert.AttnPostIdeal.nD Cert.AttnPostIdeal.τ Cert.AttnPostIdeal.sig) → Buf (Elt Ideal) ℓ) : Prop :=
  True

def Pre_AttnPostIdeal_post_finite [hPre_post_finite : Cert.Pre_post_finite.Facts] (m : (ℓ : Loc Cert.AttnPostIdeal.nD Cert.AttnPostIdeal.τ Cert.AttnPostIdeal.sig) → Buf (Elt Ideal) ℓ) : Prop :=
  ∀ c : Dev Cert.AttnPostIdeal.nD,
    (Cert.Pre_post_finite.fn (F := Ideal) (m ((c.tc : Thread Cert.AttnPostIdeal.nD Cert.AttnPostIdeal.τ).loc Cert.AttnPostIdeal.main_arg0)) (m ((c.tc : Thread Cert.AttnPostIdeal.nD Cert.AttnPostIdeal.τ).loc Cert.AttnPostIdeal.main_arg1)) (m ((c.tc : Thread Cert.AttnPostIdeal.nD Cert.AttnPostIdeal.τ).loc Cert.AttnPostIdeal.main_arg2)) (m ((c.tc : Thread Cert.AttnPostIdeal.nD Cert.AttnPostIdeal.τ).loc Cert.AttnPostIdeal.main_arg3)) (m ((c.tc : Thread Cert.AttnPostIdeal.nD Cert.AttnPostIdeal.τ).loc Cert.AttnPostIdeal.main_arg4)) (m ((c.tc : Thread Cert.AttnPostIdeal.nD Cert.AttnPostIdeal.τ).loc Cert.AttnPostIdeal.main_arg5))) = (fun _ => 1#1)

def Pre_AttnPostRefIdeal (m : (ℓ : Loc Cert.AttnPostRefIdeal.nD Cert.AttnPostRefIdeal.τ Cert.AttnPostRefIdeal.sig) → Buf (Elt Ideal) ℓ) : Prop :=
  True

def Pre_AttnPostRefIdeal_post_finite [hPre_post_finite : Cert.Pre_post_finite.Facts] (m : (ℓ : Loc Cert.AttnPostRefIdeal.nD Cert.AttnPostRefIdeal.τ Cert.AttnPostRefIdeal.sig) → Buf (Elt Ideal) ℓ) : Prop :=
  ∀ c : Dev Cert.AttnPostRefIdeal.nD,
    (Cert.Pre_post_finite.fn (F := Ideal) (m ((c.tc : Thread Cert.AttnPostRefIdeal.nD Cert.AttnPostRefIdeal.τ).loc Cert.AttnPostRefIdeal.main_arg0)) (m ((c.tc : Thread Cert.AttnPostRefIdeal.nD Cert.AttnPostRefIdeal.τ).loc Cert.AttnPostRefIdeal.main_arg1)) (m ((c.tc : Thread Cert.AttnPostRefIdeal.nD Cert.AttnPostRefIdeal.τ).loc Cert.AttnPostRefIdeal.main_arg2)) (m ((c.tc : Thread Cert.AttnPostRefIdeal.nD Cert.AttnPostRefIdeal.τ).loc Cert.AttnPostRefIdeal.main_arg3)) (m ((c.tc : Thread Cert.AttnPostRefIdeal.nD Cert.AttnPostRefIdeal.τ).loc Cert.AttnPostRefIdeal.main_arg4)) (m ((c.tc : Thread Cert.AttnPostRefIdeal.nD Cert.AttnPostRefIdeal.τ).loc Cert.AttnPostRefIdeal.main_arg5))) = (fun _ => 1#1)

def Pre_HeadBwd (m : (ℓ : Loc Cert.HeadBwd.nD Cert.HeadBwd.τ Cert.HeadBwd.sig) → Buf (Elt Bits) ℓ) : Prop :=
  True

def Pre_HeadBwdIdeal (m : (ℓ : Loc Cert.HeadBwdIdeal.nD Cert.HeadBwdIdeal.τ Cert.HeadBwdIdeal.sig) → Buf (Elt Ideal) ℓ) : Prop :=
  True

def Pre_HeadBwdIdeal_head_finite [hPre_head_finite : Cert.Pre_head_finite.Facts] (m : (ℓ : Loc Cert.HeadBwdIdeal.nD Cert.HeadBwdIdeal.τ Cert.HeadBwdIdeal.sig) → Buf (Elt Ideal) ℓ) : Prop :=
  ∀ c : Dev Cert.HeadBwdIdeal.nD,
    (Cert.Pre_head_finite.fn (F := Ideal) (m ((c.tc : Thread Cert.HeadBwdIdeal.nD Cert.HeadBwdIdeal.τ).loc Cert.HeadBwdIdeal.main_arg0)) (m ((c.tc : Thread Cert.HeadBwdIdeal.nD Cert.HeadBwdIdeal.τ).loc Cert.HeadBwdIdeal.main_arg1)) (m ((c.tc : Thread Cert.HeadBwdIdeal.nD Cert.HeadBwdIdeal.τ).loc Cert.HeadBwdIdeal.main_arg2)) (m ((c.tc : Thread Cert.HeadBwdIdeal.nD Cert.HeadBwdIdeal.τ).loc Cert.HeadBwdIdeal.main_arg3)) (m ((c.tc : Thread Cert.HeadBwdIdeal.nD Cert.HeadBwdIdeal.τ).loc Cert.HeadBwdIdeal.main_arg4)) (m ((c.tc : Thread Cert.HeadBwdIdeal.nD Cert.HeadBwdIdeal.τ).loc Cert.HeadBwdIdeal.main_arg5)) (m ((c.tc : Thread Cert.HeadBwdIdeal.nD Cert.HeadBwdIdeal.τ).loc Cert.HeadBwdIdeal.main_arg6)) (m ((c.tc : Thread Cert.HeadBwdIdeal.nD Cert.HeadBwdIdeal.τ).loc Cert.HeadBwdIdeal.main_arg7)) (m ((c.tc : Thread Cert.HeadBwdIdeal.nD Cert.HeadBwdIdeal.τ).loc Cert.HeadBwdIdeal.main_arg8))) = (fun _ => 1#1)

def Pre_HeadBwdRefIdeal (m : (ℓ : Loc Cert.HeadBwdRefIdeal.nD Cert.HeadBwdRefIdeal.τ Cert.HeadBwdRefIdeal.sig) → Buf (Elt Ideal) ℓ) : Prop :=
  True

def Pre_HeadBwdRefIdeal_head_finite [hPre_head_finite : Cert.Pre_head_finite.Facts] (m : (ℓ : Loc Cert.HeadBwdRefIdeal.nD Cert.HeadBwdRefIdeal.τ Cert.HeadBwdRefIdeal.sig) → Buf (Elt Ideal) ℓ) : Prop :=
  ∀ c : Dev Cert.HeadBwdRefIdeal.nD,
    (Cert.Pre_head_finite.fn (F := Ideal) (m ((c.tc : Thread Cert.HeadBwdRefIdeal.nD Cert.HeadBwdRefIdeal.τ).loc Cert.HeadBwdRefIdeal.main_arg0)) (m ((c.tc : Thread Cert.HeadBwdRefIdeal.nD Cert.HeadBwdRefIdeal.τ).loc Cert.HeadBwdRefIdeal.main_arg1)) (m ((c.tc : Thread Cert.HeadBwdRefIdeal.nD Cert.HeadBwdRefIdeal.τ).loc Cert.HeadBwdRefIdeal.main_arg2)) (m ((c.tc : Thread Cert.HeadBwdRefIdeal.nD Cert.HeadBwdRefIdeal.τ).loc Cert.HeadBwdRefIdeal.main_arg3)) (m ((c.tc : Thread Cert.HeadBwdRefIdeal.nD Cert.HeadBwdRefIdeal.τ).loc Cert.HeadBwdRefIdeal.main_arg4)) (m ((c.tc : Thread Cert.HeadBwdRefIdeal.nD Cert.HeadBwdRefIdeal.τ).loc Cert.HeadBwdRefIdeal.main_arg5)) (m ((c.tc : Thread Cert.HeadBwdRefIdeal.nD Cert.HeadBwdRefIdeal.τ).loc Cert.HeadBwdRefIdeal.main_arg6)) (m ((c.tc : Thread Cert.HeadBwdRefIdeal.nD Cert.HeadBwdRefIdeal.τ).loc Cert.HeadBwdRefIdeal.main_arg7)) (m ((c.tc : Thread Cert.HeadBwdRefIdeal.nD Cert.HeadBwdRefIdeal.τ).loc Cert.HeadBwdRefIdeal.main_arg8))) = (fun _ => 1#1)

def Pre_AttnFwd (m : (ℓ : Loc Cert.AttnFwd.nD Cert.AttnFwd.τ Cert.AttnFwd.sig) → Buf (Elt Bits) ℓ) : Prop :=
  True

def Pre_AttnFwdIdeal (m : (ℓ : Loc Cert.AttnFwdIdeal.nD Cert.AttnFwdIdeal.τ Cert.AttnFwdIdeal.sig) → Buf (Elt Ideal) ℓ) : Prop :=
  True

def Pre_AttnFwdIdeal_attnf_finite [hPre_attnf_finite : Cert.Pre_attnf_finite.Facts] (m : (ℓ : Loc Cert.AttnFwdIdeal.nD Cert.AttnFwdIdeal.τ Cert.AttnFwdIdeal.sig) → Buf (Elt Ideal) ℓ) : Prop :=
  ∀ c : Dev Cert.AttnFwdIdeal.nD,
    (Cert.Pre_attnf_finite.fn (F := Ideal) (m ((c.tc : Thread Cert.AttnFwdIdeal.nD Cert.AttnFwdIdeal.τ).loc Cert.AttnFwdIdeal.main_arg0)) (m ((c.tc : Thread Cert.AttnFwdIdeal.nD Cert.AttnFwdIdeal.τ).loc Cert.AttnFwdIdeal.main_arg1)) (m ((c.tc : Thread Cert.AttnFwdIdeal.nD Cert.AttnFwdIdeal.τ).loc Cert.AttnFwdIdeal.main_arg2))) = (fun _ => 1#1)

def Pre_AttnFwdRefIdeal (m : (ℓ : Loc Cert.AttnFwdRefIdeal.nD Cert.AttnFwdRefIdeal.τ Cert.AttnFwdRefIdeal.sig) → Buf (Elt Ideal) ℓ) : Prop :=
  True

def Pre_AttnFwdRefIdeal_attnf_finite [hPre_attnf_finite : Cert.Pre_attnf_finite.Facts] (m : (ℓ : Loc Cert.AttnFwdRefIdeal.nD Cert.AttnFwdRefIdeal.τ Cert.AttnFwdRefIdeal.sig) → Buf (Elt Ideal) ℓ) : Prop :=
  ∀ c : Dev Cert.AttnFwdRefIdeal.nD,
    (Cert.Pre_attnf_finite.fn (F := Ideal) (m ((c.tc : Thread Cert.AttnFwdRefIdeal.nD Cert.AttnFwdRefIdeal.τ).loc Cert.AttnFwdRefIdeal.main_arg0)) (m ((c.tc : Thread Cert.AttnFwdRefIdeal.nD Cert.AttnFwdRefIdeal.τ).loc Cert.AttnFwdRefIdeal.main_arg1)) (m ((c.tc : Thread Cert.AttnFwdRefIdeal.nD Cert.AttnFwdRefIdeal.τ).loc Cert.AttnFwdRefIdeal.main_arg2))) = (fun _ => 1#1)

def Pre_MergeFwd (m : (ℓ : Loc Cert.MergeFwd.nD Cert.MergeFwd.τ Cert.MergeFwd.sig) → Buf (Elt Bits) ℓ) : Prop :=
  True

def Pre_MergeFwdIdeal (m : (ℓ : Loc Cert.MergeFwdIdeal.nD Cert.MergeFwdIdeal.τ Cert.MergeFwdIdeal.sig) → Buf (Elt Ideal) ℓ) : Prop :=
  True

def Pre_MergeFwdRefIdeal (m : (ℓ : Loc Cert.MergeFwdRefIdeal.nD Cert.MergeFwdRefIdeal.τ Cert.MergeFwdRefIdeal.sig) → Buf (Elt Ideal) ℓ) : Prop :=
  True

def quiescent_InBwd [hInBwd : Cert.InBwd.Facts] : Prop :=
  ∀ (m : (ℓ : Loc Cert.InBwd.nD Cert.InBwd.τ Cert.InBwd.sig) → Buf (Elt Bits) ℓ) (g : Dev Cert.InBwd.nD → PrngReg), Pre_InBwd m →
    θ_run (Cert.InBwd.defs (F := Bits)) (onTc (τ := Cert.InBwd.τ) (Cert.InBwd.main (F := Bits))) ⟨m, fun _ => 0, g⟩ (fun r => (∀ c : Dev Cert.InBwd.nD,
      r.2.mem ((c.tc : Thread Cert.InBwd.nD Cert.InBwd.τ).loc Cert.InBwd.main_arg0) = m ((c.tc : Thread Cert.InBwd.nD Cert.InBwd.τ).loc Cert.InBwd.main_arg0)
      ∧ r.2.mem ((c.tc : Thread Cert.InBwd.nD Cert.InBwd.τ).loc Cert.InBwd.main_arg1) = m ((c.tc : Thread Cert.InBwd.nD Cert.InBwd.τ).loc Cert.InBwd.main_arg1)
      ∧ r.2.mem ((c.tc : Thread Cert.InBwd.nD Cert.InBwd.τ).loc Cert.InBwd.main_arg2) = m ((c.tc : Thread Cert.InBwd.nD Cert.InBwd.τ).loc Cert.InBwd.main_arg2)
      ∧ r.2.mem ((c.tc : Thread Cert.InBwd.nD Cert.InBwd.τ).loc Cert.InBwd.main_arg3) = m ((c.tc : Thread Cert.InBwd.nD Cert.InBwd.τ).loc Cert.InBwd.main_arg3)
      ∧ r.2.mem ((c.tc : Thread Cert.InBwd.nD Cert.InBwd.τ).loc Cert.InBwd.main_arg4) = m ((c.tc : Thread Cert.InBwd.nD Cert.InBwd.τ).loc Cert.InBwd.main_arg4))
      ∧ r.2.sem = fun _ => 0)

def quiescent_InBwdIdeal [hInBwdIdeal : Cert.InBwdIdeal.Facts] : Prop :=
  ∀ (m : (ℓ : Loc Cert.InBwdIdeal.nD Cert.InBwdIdeal.τ Cert.InBwdIdeal.sig) → Buf (Elt Ideal) ℓ) (g : Dev Cert.InBwdIdeal.nD → PrngReg), Pre_InBwdIdeal m →
    θ_run (Cert.InBwdIdeal.defs (F := Ideal)) (onTc (τ := Cert.InBwdIdeal.τ) (Cert.InBwdIdeal.main (F := Ideal))) ⟨m, fun _ => 0, g⟩ (fun r => (∀ c : Dev Cert.InBwdIdeal.nD,
      r.2.mem ((c.tc : Thread Cert.InBwdIdeal.nD Cert.InBwdIdeal.τ).loc Cert.InBwdIdeal.main_arg0) = m ((c.tc : Thread Cert.InBwdIdeal.nD Cert.InBwdIdeal.τ).loc Cert.InBwdIdeal.main_arg0)
      ∧ r.2.mem ((c.tc : Thread Cert.InBwdIdeal.nD Cert.InBwdIdeal.τ).loc Cert.InBwdIdeal.main_arg1) = m ((c.tc : Thread Cert.InBwdIdeal.nD Cert.InBwdIdeal.τ).loc Cert.InBwdIdeal.main_arg1)
      ∧ r.2.mem ((c.tc : Thread Cert.InBwdIdeal.nD Cert.InBwdIdeal.τ).loc Cert.InBwdIdeal.main_arg2) = m ((c.tc : Thread Cert.InBwdIdeal.nD Cert.InBwdIdeal.τ).loc Cert.InBwdIdeal.main_arg2)
      ∧ r.2.mem ((c.tc : Thread Cert.InBwdIdeal.nD Cert.InBwdIdeal.τ).loc Cert.InBwdIdeal.main_arg3) = m ((c.tc : Thread Cert.InBwdIdeal.nD Cert.InBwdIdeal.τ).loc Cert.InBwdIdeal.main_arg3)
      ∧ r.2.mem ((c.tc : Thread Cert.InBwdIdeal.nD Cert.InBwdIdeal.τ).loc Cert.InBwdIdeal.main_arg4) = m ((c.tc : Thread Cert.InBwdIdeal.nD Cert.InBwdIdeal.τ).loc Cert.InBwdIdeal.main_arg4))
      ∧ r.2.sem = fun _ => 0)

def quiescent_InBwdIdeal_pre_in_finite [hInBwdIdeal : Cert.InBwdIdeal.Facts] [hPre_in_finite : Cert.Pre_in_finite.Facts] : Prop :=
  ∀ (m : (ℓ : Loc Cert.InBwdIdeal.nD Cert.InBwdIdeal.τ Cert.InBwdIdeal.sig) → Buf (Elt Ideal) ℓ) (g : Dev Cert.InBwdIdeal.nD → PrngReg), Pre_InBwdIdeal_in_finite m →
    θ_run (Cert.InBwdIdeal.defs (F := Ideal)) (onTc (τ := Cert.InBwdIdeal.τ) (Cert.InBwdIdeal.main (F := Ideal))) ⟨m, fun _ => 0, g⟩ (fun r => (∀ c : Dev Cert.InBwdIdeal.nD,
      r.2.mem ((c.tc : Thread Cert.InBwdIdeal.nD Cert.InBwdIdeal.τ).loc Cert.InBwdIdeal.main_arg0) = m ((c.tc : Thread Cert.InBwdIdeal.nD Cert.InBwdIdeal.τ).loc Cert.InBwdIdeal.main_arg0)
      ∧ r.2.mem ((c.tc : Thread Cert.InBwdIdeal.nD Cert.InBwdIdeal.τ).loc Cert.InBwdIdeal.main_arg1) = m ((c.tc : Thread Cert.InBwdIdeal.nD Cert.InBwdIdeal.τ).loc Cert.InBwdIdeal.main_arg1)
      ∧ r.2.mem ((c.tc : Thread Cert.InBwdIdeal.nD Cert.InBwdIdeal.τ).loc Cert.InBwdIdeal.main_arg2) = m ((c.tc : Thread Cert.InBwdIdeal.nD Cert.InBwdIdeal.τ).loc Cert.InBwdIdeal.main_arg2)
      ∧ r.2.mem ((c.tc : Thread Cert.InBwdIdeal.nD Cert.InBwdIdeal.τ).loc Cert.InBwdIdeal.main_arg3) = m ((c.tc : Thread Cert.InBwdIdeal.nD Cert.InBwdIdeal.τ).loc Cert.InBwdIdeal.main_arg3)
      ∧ r.2.mem ((c.tc : Thread Cert.InBwdIdeal.nD Cert.InBwdIdeal.τ).loc Cert.InBwdIdeal.main_arg4) = m ((c.tc : Thread Cert.InBwdIdeal.nD Cert.InBwdIdeal.τ).loc Cert.InBwdIdeal.main_arg4))
      ∧ r.2.sem = fun _ => 0)

def quiescent_InBwdRefIdeal [hInBwdRefIdeal : Cert.InBwdRefIdeal.Facts] : Prop :=
  ∀ (m : (ℓ : Loc Cert.InBwdRefIdeal.nD Cert.InBwdRefIdeal.τ Cert.InBwdRefIdeal.sig) → Buf (Elt Ideal) ℓ) (g : Dev Cert.InBwdRefIdeal.nD → PrngReg), Pre_InBwdRefIdeal m →
    θ_run (Cert.InBwdRefIdeal.defs (F := Ideal)) (onTc (τ := Cert.InBwdRefIdeal.τ) (Cert.InBwdRefIdeal.main (F := Ideal))) ⟨m, fun _ => 0, g⟩ (fun r => (∀ c : Dev Cert.InBwdRefIdeal.nD,
      r.2.mem ((c.tc : Thread Cert.InBwdRefIdeal.nD Cert.InBwdRefIdeal.τ).loc Cert.InBwdRefIdeal.main_arg0) = m ((c.tc : Thread Cert.InBwdRefIdeal.nD Cert.InBwdRefIdeal.τ).loc Cert.InBwdRefIdeal.main_arg0)
      ∧ r.2.mem ((c.tc : Thread Cert.InBwdRefIdeal.nD Cert.InBwdRefIdeal.τ).loc Cert.InBwdRefIdeal.main_arg1) = m ((c.tc : Thread Cert.InBwdRefIdeal.nD Cert.InBwdRefIdeal.τ).loc Cert.InBwdRefIdeal.main_arg1)
      ∧ r.2.mem ((c.tc : Thread Cert.InBwdRefIdeal.nD Cert.InBwdRefIdeal.τ).loc Cert.InBwdRefIdeal.main_arg2) = m ((c.tc : Thread Cert.InBwdRefIdeal.nD Cert.InBwdRefIdeal.τ).loc Cert.InBwdRefIdeal.main_arg2)
      ∧ r.2.mem ((c.tc : Thread Cert.InBwdRefIdeal.nD Cert.InBwdRefIdeal.τ).loc Cert.InBwdRefIdeal.main_arg3) = m ((c.tc : Thread Cert.InBwdRefIdeal.nD Cert.InBwdRefIdeal.τ).loc Cert.InBwdRefIdeal.main_arg3)
      ∧ r.2.mem ((c.tc : Thread Cert.InBwdRefIdeal.nD Cert.InBwdRefIdeal.τ).loc Cert.InBwdRefIdeal.main_arg4) = m ((c.tc : Thread Cert.InBwdRefIdeal.nD Cert.InBwdRefIdeal.τ).loc Cert.InBwdRefIdeal.main_arg4))
      ∧ r.2.sem = fun _ => 0)

def quiescent_InBwdRefIdeal_pre_in_finite [hInBwdRefIdeal : Cert.InBwdRefIdeal.Facts] [hPre_in_finite : Cert.Pre_in_finite.Facts] : Prop :=
  ∀ (m : (ℓ : Loc Cert.InBwdRefIdeal.nD Cert.InBwdRefIdeal.τ Cert.InBwdRefIdeal.sig) → Buf (Elt Ideal) ℓ) (g : Dev Cert.InBwdRefIdeal.nD → PrngReg), Pre_InBwdRefIdeal_in_finite m →
    θ_run (Cert.InBwdRefIdeal.defs (F := Ideal)) (onTc (τ := Cert.InBwdRefIdeal.τ) (Cert.InBwdRefIdeal.main (F := Ideal))) ⟨m, fun _ => 0, g⟩ (fun r => (∀ c : Dev Cert.InBwdRefIdeal.nD,
      r.2.mem ((c.tc : Thread Cert.InBwdRefIdeal.nD Cert.InBwdRefIdeal.τ).loc Cert.InBwdRefIdeal.main_arg0) = m ((c.tc : Thread Cert.InBwdRefIdeal.nD Cert.InBwdRefIdeal.τ).loc Cert.InBwdRefIdeal.main_arg0)
      ∧ r.2.mem ((c.tc : Thread Cert.InBwdRefIdeal.nD Cert.InBwdRefIdeal.τ).loc Cert.InBwdRefIdeal.main_arg1) = m ((c.tc : Thread Cert.InBwdRefIdeal.nD Cert.InBwdRefIdeal.τ).loc Cert.InBwdRefIdeal.main_arg1)
      ∧ r.2.mem ((c.tc : Thread Cert.InBwdRefIdeal.nD Cert.InBwdRefIdeal.τ).loc Cert.InBwdRefIdeal.main_arg2) = m ((c.tc : Thread Cert.InBwdRefIdeal.nD Cert.InBwdRefIdeal.τ).loc Cert.InBwdRefIdeal.main_arg2)
      ∧ r.2.mem ((c.tc : Thread Cert.InBwdRefIdeal.nD Cert.InBwdRefIdeal.τ).loc Cert.InBwdRefIdeal.main_arg3) = m ((c.tc : Thread Cert.InBwdRefIdeal.nD Cert.InBwdRefIdeal.τ).loc Cert.InBwdRefIdeal.main_arg3)
      ∧ r.2.mem ((c.tc : Thread Cert.InBwdRefIdeal.nD Cert.InBwdRefIdeal.τ).loc Cert.InBwdRefIdeal.main_arg4) = m ((c.tc : Thread Cert.InBwdRefIdeal.nD Cert.InBwdRefIdeal.τ).loc Cert.InBwdRefIdeal.main_arg4))
      ∧ r.2.sem = fun _ => 0)

def quiescent_AttnBwd [hAttnBwd : Cert.AttnBwd.Facts] : Prop :=
  ∀ (m : (ℓ : Loc Cert.AttnBwd.nD Cert.AttnBwd.τ Cert.AttnBwd.sig) → Buf (Elt Bits) ℓ) (g : Dev Cert.AttnBwd.nD → PrngReg), Pre_AttnBwd m →
    θ_run (Cert.AttnBwd.defs (F := Bits)) (onTc (τ := Cert.AttnBwd.τ) (Cert.AttnBwd.main (F := Bits))) ⟨m, fun _ => 0, g⟩ (fun r => (∀ c : Dev Cert.AttnBwd.nD,
      r.2.mem ((c.tc : Thread Cert.AttnBwd.nD Cert.AttnBwd.τ).loc Cert.AttnBwd.main_arg0) = m ((c.tc : Thread Cert.AttnBwd.nD Cert.AttnBwd.τ).loc Cert.AttnBwd.main_arg0)
      ∧ r.2.mem ((c.tc : Thread Cert.AttnBwd.nD Cert.AttnBwd.τ).loc Cert.AttnBwd.main_arg1) = m ((c.tc : Thread Cert.AttnBwd.nD Cert.AttnBwd.τ).loc Cert.AttnBwd.main_arg1)
      ∧ r.2.mem ((c.tc : Thread Cert.AttnBwd.nD Cert.AttnBwd.τ).loc Cert.AttnBwd.main_arg2) = m ((c.tc : Thread Cert.AttnBwd.nD Cert.AttnBwd.τ).loc Cert.AttnBwd.main_arg2)
      ∧ r.2.mem ((c.tc : Thread Cert.AttnBwd.nD Cert.AttnBwd.τ).loc Cert.AttnBwd.main_arg3) = m ((c.tc : Thread Cert.AttnBwd.nD Cert.AttnBwd.τ).loc Cert.AttnBwd.main_arg3))
      ∧ r.2.sem = fun _ => 0)

def quiescent_AttnBwdIdeal [hAttnBwdIdeal : Cert.AttnBwdIdeal.Facts] : Prop :=
  ∀ (m : (ℓ : Loc Cert.AttnBwdIdeal.nD Cert.AttnBwdIdeal.τ Cert.AttnBwdIdeal.sig) → Buf (Elt Ideal) ℓ) (g : Dev Cert.AttnBwdIdeal.nD → PrngReg), Pre_AttnBwdIdeal m →
    θ_run (Cert.AttnBwdIdeal.defs (F := Ideal)) (onTc (τ := Cert.AttnBwdIdeal.τ) (Cert.AttnBwdIdeal.main (F := Ideal))) ⟨m, fun _ => 0, g⟩ (fun r => (∀ c : Dev Cert.AttnBwdIdeal.nD,
      r.2.mem ((c.tc : Thread Cert.AttnBwdIdeal.nD Cert.AttnBwdIdeal.τ).loc Cert.AttnBwdIdeal.main_arg0) = m ((c.tc : Thread Cert.AttnBwdIdeal.nD Cert.AttnBwdIdeal.τ).loc Cert.AttnBwdIdeal.main_arg0)
      ∧ r.2.mem ((c.tc : Thread Cert.AttnBwdIdeal.nD Cert.AttnBwdIdeal.τ).loc Cert.AttnBwdIdeal.main_arg1) = m ((c.tc : Thread Cert.AttnBwdIdeal.nD Cert.AttnBwdIdeal.τ).loc Cert.AttnBwdIdeal.main_arg1)
      ∧ r.2.mem ((c.tc : Thread Cert.AttnBwdIdeal.nD Cert.AttnBwdIdeal.τ).loc Cert.AttnBwdIdeal.main_arg2) = m ((c.tc : Thread Cert.AttnBwdIdeal.nD Cert.AttnBwdIdeal.τ).loc Cert.AttnBwdIdeal.main_arg2)
      ∧ r.2.mem ((c.tc : Thread Cert.AttnBwdIdeal.nD Cert.AttnBwdIdeal.τ).loc Cert.AttnBwdIdeal.main_arg3) = m ((c.tc : Thread Cert.AttnBwdIdeal.nD Cert.AttnBwdIdeal.τ).loc Cert.AttnBwdIdeal.main_arg3))
      ∧ r.2.sem = fun _ => 0)

def quiescent_AttnBwdIdeal_pre_attn_finite [hAttnBwdIdeal : Cert.AttnBwdIdeal.Facts] [hPre_attn_finite : Cert.Pre_attn_finite.Facts] : Prop :=
  ∀ (m : (ℓ : Loc Cert.AttnBwdIdeal.nD Cert.AttnBwdIdeal.τ Cert.AttnBwdIdeal.sig) → Buf (Elt Ideal) ℓ) (g : Dev Cert.AttnBwdIdeal.nD → PrngReg), Pre_AttnBwdIdeal_attn_finite m →
    θ_run (Cert.AttnBwdIdeal.defs (F := Ideal)) (onTc (τ := Cert.AttnBwdIdeal.τ) (Cert.AttnBwdIdeal.main (F := Ideal))) ⟨m, fun _ => 0, g⟩ (fun r => (∀ c : Dev Cert.AttnBwdIdeal.nD,
      r.2.mem ((c.tc : Thread Cert.AttnBwdIdeal.nD Cert.AttnBwdIdeal.τ).loc Cert.AttnBwdIdeal.main_arg0) = m ((c.tc : Thread Cert.AttnBwdIdeal.nD Cert.AttnBwdIdeal.τ).loc Cert.AttnBwdIdeal.main_arg0)
      ∧ r.2.mem ((c.tc : Thread Cert.AttnBwdIdeal.nD Cert.AttnBwdIdeal.τ).loc Cert.AttnBwdIdeal.main_arg1) = m ((c.tc : Thread Cert.AttnBwdIdeal.nD Cert.AttnBwdIdeal.τ).loc Cert.AttnBwdIdeal.main_arg1)
      ∧ r.2.mem ((c.tc : Thread Cert.AttnBwdIdeal.nD Cert.AttnBwdIdeal.τ).loc Cert.AttnBwdIdeal.main_arg2) = m ((c.tc : Thread Cert.AttnBwdIdeal.nD Cert.AttnBwdIdeal.τ).loc Cert.AttnBwdIdeal.main_arg2)
      ∧ r.2.mem ((c.tc : Thread Cert.AttnBwdIdeal.nD Cert.AttnBwdIdeal.τ).loc Cert.AttnBwdIdeal.main_arg3) = m ((c.tc : Thread Cert.AttnBwdIdeal.nD Cert.AttnBwdIdeal.τ).loc Cert.AttnBwdIdeal.main_arg3))
      ∧ r.2.sem = fun _ => 0)

def quiescent_AttnBwdRefIdeal [hAttnBwdRefIdeal : Cert.AttnBwdRefIdeal.Facts] : Prop :=
  ∀ (m : (ℓ : Loc Cert.AttnBwdRefIdeal.nD Cert.AttnBwdRefIdeal.τ Cert.AttnBwdRefIdeal.sig) → Buf (Elt Ideal) ℓ) (g : Dev Cert.AttnBwdRefIdeal.nD → PrngReg), Pre_AttnBwdRefIdeal m →
    θ_run (Cert.AttnBwdRefIdeal.defs (F := Ideal)) (onTc (τ := Cert.AttnBwdRefIdeal.τ) (Cert.AttnBwdRefIdeal.main (F := Ideal))) ⟨m, fun _ => 0, g⟩ (fun r => (∀ c : Dev Cert.AttnBwdRefIdeal.nD,
      r.2.mem ((c.tc : Thread Cert.AttnBwdRefIdeal.nD Cert.AttnBwdRefIdeal.τ).loc Cert.AttnBwdRefIdeal.main_arg0) = m ((c.tc : Thread Cert.AttnBwdRefIdeal.nD Cert.AttnBwdRefIdeal.τ).loc Cert.AttnBwdRefIdeal.main_arg0)
      ∧ r.2.mem ((c.tc : Thread Cert.AttnBwdRefIdeal.nD Cert.AttnBwdRefIdeal.τ).loc Cert.AttnBwdRefIdeal.main_arg1) = m ((c.tc : Thread Cert.AttnBwdRefIdeal.nD Cert.AttnBwdRefIdeal.τ).loc Cert.AttnBwdRefIdeal.main_arg1)
      ∧ r.2.mem ((c.tc : Thread Cert.AttnBwdRefIdeal.nD Cert.AttnBwdRefIdeal.τ).loc Cert.AttnBwdRefIdeal.main_arg2) = m ((c.tc : Thread Cert.AttnBwdRefIdeal.nD Cert.AttnBwdRefIdeal.τ).loc Cert.AttnBwdRefIdeal.main_arg2)
      ∧ r.2.mem ((c.tc : Thread Cert.AttnBwdRefIdeal.nD Cert.AttnBwdRefIdeal.τ).loc Cert.AttnBwdRefIdeal.main_arg3) = m ((c.tc : Thread Cert.AttnBwdRefIdeal.nD Cert.AttnBwdRefIdeal.τ).loc Cert.AttnBwdRefIdeal.main_arg3))
      ∧ r.2.sem = fun _ => 0)

def quiescent_AttnBwdRefIdeal_pre_attn_finite [hAttnBwdRefIdeal : Cert.AttnBwdRefIdeal.Facts] [hPre_attn_finite : Cert.Pre_attn_finite.Facts] : Prop :=
  ∀ (m : (ℓ : Loc Cert.AttnBwdRefIdeal.nD Cert.AttnBwdRefIdeal.τ Cert.AttnBwdRefIdeal.sig) → Buf (Elt Ideal) ℓ) (g : Dev Cert.AttnBwdRefIdeal.nD → PrngReg), Pre_AttnBwdRefIdeal_attn_finite m →
    θ_run (Cert.AttnBwdRefIdeal.defs (F := Ideal)) (onTc (τ := Cert.AttnBwdRefIdeal.τ) (Cert.AttnBwdRefIdeal.main (F := Ideal))) ⟨m, fun _ => 0, g⟩ (fun r => (∀ c : Dev Cert.AttnBwdRefIdeal.nD,
      r.2.mem ((c.tc : Thread Cert.AttnBwdRefIdeal.nD Cert.AttnBwdRefIdeal.τ).loc Cert.AttnBwdRefIdeal.main_arg0) = m ((c.tc : Thread Cert.AttnBwdRefIdeal.nD Cert.AttnBwdRefIdeal.τ).loc Cert.AttnBwdRefIdeal.main_arg0)
      ∧ r.2.mem ((c.tc : Thread Cert.AttnBwdRefIdeal.nD Cert.AttnBwdRefIdeal.τ).loc Cert.AttnBwdRefIdeal.main_arg1) = m ((c.tc : Thread Cert.AttnBwdRefIdeal.nD Cert.AttnBwdRefIdeal.τ).loc Cert.AttnBwdRefIdeal.main_arg1)
      ∧ r.2.mem ((c.tc : Thread Cert.AttnBwdRefIdeal.nD Cert.AttnBwdRefIdeal.τ).loc Cert.AttnBwdRefIdeal.main_arg2) = m ((c.tc : Thread Cert.AttnBwdRefIdeal.nD Cert.AttnBwdRefIdeal.τ).loc Cert.AttnBwdRefIdeal.main_arg2)
      ∧ r.2.mem ((c.tc : Thread Cert.AttnBwdRefIdeal.nD Cert.AttnBwdRefIdeal.τ).loc Cert.AttnBwdRefIdeal.main_arg3) = m ((c.tc : Thread Cert.AttnBwdRefIdeal.nD Cert.AttnBwdRefIdeal.τ).loc Cert.AttnBwdRefIdeal.main_arg3))
      ∧ r.2.sem = fun _ => 0)

def quiescent_MergeBwd [hMergeBwd : Cert.MergeBwd.Facts] : Prop :=
  ∀ (m : (ℓ : Loc Cert.MergeBwd.nD Cert.MergeBwd.τ Cert.MergeBwd.sig) → Buf (Elt Bits) ℓ) (g : Dev Cert.MergeBwd.nD → PrngReg), Pre_MergeBwd m →
    θ_run (Cert.MergeBwd.defs (F := Bits)) (onTc (τ := Cert.MergeBwd.τ) (Cert.MergeBwd.main (F := Bits))) ⟨m, fun _ => 0, g⟩ (fun r => (∀ c : Dev Cert.MergeBwd.nD,
      r.2.mem ((c.tc : Thread Cert.MergeBwd.nD Cert.MergeBwd.τ).loc Cert.MergeBwd.main_arg0) = m ((c.tc : Thread Cert.MergeBwd.nD Cert.MergeBwd.τ).loc Cert.MergeBwd.main_arg0)
      ∧ r.2.mem ((c.tc : Thread Cert.MergeBwd.nD Cert.MergeBwd.τ).loc Cert.MergeBwd.main_arg1) = m ((c.tc : Thread Cert.MergeBwd.nD Cert.MergeBwd.τ).loc Cert.MergeBwd.main_arg1)
      ∧ r.2.mem ((c.tc : Thread Cert.MergeBwd.nD Cert.MergeBwd.τ).loc Cert.MergeBwd.main_arg2) = m ((c.tc : Thread Cert.MergeBwd.nD Cert.MergeBwd.τ).loc Cert.MergeBwd.main_arg2)
      ∧ r.2.mem ((c.tc : Thread Cert.MergeBwd.nD Cert.MergeBwd.τ).loc Cert.MergeBwd.main_arg3) = m ((c.tc : Thread Cert.MergeBwd.nD Cert.MergeBwd.τ).loc Cert.MergeBwd.main_arg3)
      ∧ r.2.mem ((c.tc : Thread Cert.MergeBwd.nD Cert.MergeBwd.τ).loc Cert.MergeBwd.main_arg4) = m ((c.tc : Thread Cert.MergeBwd.nD Cert.MergeBwd.τ).loc Cert.MergeBwd.main_arg4)
      ∧ r.2.mem ((c.tc : Thread Cert.MergeBwd.nD Cert.MergeBwd.τ).loc Cert.MergeBwd.main_arg5) = m ((c.tc : Thread Cert.MergeBwd.nD Cert.MergeBwd.τ).loc Cert.MergeBwd.main_arg5)
      ∧ r.2.mem ((c.tc : Thread Cert.MergeBwd.nD Cert.MergeBwd.τ).loc Cert.MergeBwd.main_arg6) = m ((c.tc : Thread Cert.MergeBwd.nD Cert.MergeBwd.τ).loc Cert.MergeBwd.main_arg6))
      ∧ r.2.sem = fun _ => 0)

def quiescent_MergeBwdIdeal [hMergeBwdIdeal : Cert.MergeBwdIdeal.Facts] : Prop :=
  ∀ (m : (ℓ : Loc Cert.MergeBwdIdeal.nD Cert.MergeBwdIdeal.τ Cert.MergeBwdIdeal.sig) → Buf (Elt Ideal) ℓ) (g : Dev Cert.MergeBwdIdeal.nD → PrngReg), Pre_MergeBwdIdeal m →
    θ_run (Cert.MergeBwdIdeal.defs (F := Ideal)) (onTc (τ := Cert.MergeBwdIdeal.τ) (Cert.MergeBwdIdeal.main (F := Ideal))) ⟨m, fun _ => 0, g⟩ (fun r => (∀ c : Dev Cert.MergeBwdIdeal.nD,
      r.2.mem ((c.tc : Thread Cert.MergeBwdIdeal.nD Cert.MergeBwdIdeal.τ).loc Cert.MergeBwdIdeal.main_arg0) = m ((c.tc : Thread Cert.MergeBwdIdeal.nD Cert.MergeBwdIdeal.τ).loc Cert.MergeBwdIdeal.main_arg0)
      ∧ r.2.mem ((c.tc : Thread Cert.MergeBwdIdeal.nD Cert.MergeBwdIdeal.τ).loc Cert.MergeBwdIdeal.main_arg1) = m ((c.tc : Thread Cert.MergeBwdIdeal.nD Cert.MergeBwdIdeal.τ).loc Cert.MergeBwdIdeal.main_arg1)
      ∧ r.2.mem ((c.tc : Thread Cert.MergeBwdIdeal.nD Cert.MergeBwdIdeal.τ).loc Cert.MergeBwdIdeal.main_arg2) = m ((c.tc : Thread Cert.MergeBwdIdeal.nD Cert.MergeBwdIdeal.τ).loc Cert.MergeBwdIdeal.main_arg2)
      ∧ r.2.mem ((c.tc : Thread Cert.MergeBwdIdeal.nD Cert.MergeBwdIdeal.τ).loc Cert.MergeBwdIdeal.main_arg3) = m ((c.tc : Thread Cert.MergeBwdIdeal.nD Cert.MergeBwdIdeal.τ).loc Cert.MergeBwdIdeal.main_arg3)
      ∧ r.2.mem ((c.tc : Thread Cert.MergeBwdIdeal.nD Cert.MergeBwdIdeal.τ).loc Cert.MergeBwdIdeal.main_arg4) = m ((c.tc : Thread Cert.MergeBwdIdeal.nD Cert.MergeBwdIdeal.τ).loc Cert.MergeBwdIdeal.main_arg4)
      ∧ r.2.mem ((c.tc : Thread Cert.MergeBwdIdeal.nD Cert.MergeBwdIdeal.τ).loc Cert.MergeBwdIdeal.main_arg5) = m ((c.tc : Thread Cert.MergeBwdIdeal.nD Cert.MergeBwdIdeal.τ).loc Cert.MergeBwdIdeal.main_arg5)
      ∧ r.2.mem ((c.tc : Thread Cert.MergeBwdIdeal.nD Cert.MergeBwdIdeal.τ).loc Cert.MergeBwdIdeal.main_arg6) = m ((c.tc : Thread Cert.MergeBwdIdeal.nD Cert.MergeBwdIdeal.τ).loc Cert.MergeBwdIdeal.main_arg6))
      ∧ r.2.sem = fun _ => 0)

def quiescent_MergeBwdIdeal_pre_merge_finite [hMergeBwdIdeal : Cert.MergeBwdIdeal.Facts] [hPre_merge_finite : Cert.Pre_merge_finite.Facts] : Prop :=
  ∀ (m : (ℓ : Loc Cert.MergeBwdIdeal.nD Cert.MergeBwdIdeal.τ Cert.MergeBwdIdeal.sig) → Buf (Elt Ideal) ℓ) (g : Dev Cert.MergeBwdIdeal.nD → PrngReg), Pre_MergeBwdIdeal_merge_finite m →
    θ_run (Cert.MergeBwdIdeal.defs (F := Ideal)) (onTc (τ := Cert.MergeBwdIdeal.τ) (Cert.MergeBwdIdeal.main (F := Ideal))) ⟨m, fun _ => 0, g⟩ (fun r => (∀ c : Dev Cert.MergeBwdIdeal.nD,
      r.2.mem ((c.tc : Thread Cert.MergeBwdIdeal.nD Cert.MergeBwdIdeal.τ).loc Cert.MergeBwdIdeal.main_arg0) = m ((c.tc : Thread Cert.MergeBwdIdeal.nD Cert.MergeBwdIdeal.τ).loc Cert.MergeBwdIdeal.main_arg0)
      ∧ r.2.mem ((c.tc : Thread Cert.MergeBwdIdeal.nD Cert.MergeBwdIdeal.τ).loc Cert.MergeBwdIdeal.main_arg1) = m ((c.tc : Thread Cert.MergeBwdIdeal.nD Cert.MergeBwdIdeal.τ).loc Cert.MergeBwdIdeal.main_arg1)
      ∧ r.2.mem ((c.tc : Thread Cert.MergeBwdIdeal.nD Cert.MergeBwdIdeal.τ).loc Cert.MergeBwdIdeal.main_arg2) = m ((c.tc : Thread Cert.MergeBwdIdeal.nD Cert.MergeBwdIdeal.τ).loc Cert.MergeBwdIdeal.main_arg2)
      ∧ r.2.mem ((c.tc : Thread Cert.MergeBwdIdeal.nD Cert.MergeBwdIdeal.τ).loc Cert.MergeBwdIdeal.main_arg3) = m ((c.tc : Thread Cert.MergeBwdIdeal.nD Cert.MergeBwdIdeal.τ).loc Cert.MergeBwdIdeal.main_arg3)
      ∧ r.2.mem ((c.tc : Thread Cert.MergeBwdIdeal.nD Cert.MergeBwdIdeal.τ).loc Cert.MergeBwdIdeal.main_arg4) = m ((c.tc : Thread Cert.MergeBwdIdeal.nD Cert.MergeBwdIdeal.τ).loc Cert.MergeBwdIdeal.main_arg4)
      ∧ r.2.mem ((c.tc : Thread Cert.MergeBwdIdeal.nD Cert.MergeBwdIdeal.τ).loc Cert.MergeBwdIdeal.main_arg5) = m ((c.tc : Thread Cert.MergeBwdIdeal.nD Cert.MergeBwdIdeal.τ).loc Cert.MergeBwdIdeal.main_arg5)
      ∧ r.2.mem ((c.tc : Thread Cert.MergeBwdIdeal.nD Cert.MergeBwdIdeal.τ).loc Cert.MergeBwdIdeal.main_arg6) = m ((c.tc : Thread Cert.MergeBwdIdeal.nD Cert.MergeBwdIdeal.τ).loc Cert.MergeBwdIdeal.main_arg6))
      ∧ r.2.sem = fun _ => 0)

def quiescent_MergeBwdRefIdeal [hMergeBwdRefIdeal : Cert.MergeBwdRefIdeal.Facts] : Prop :=
  ∀ (m : (ℓ : Loc Cert.MergeBwdRefIdeal.nD Cert.MergeBwdRefIdeal.τ Cert.MergeBwdRefIdeal.sig) → Buf (Elt Ideal) ℓ) (g : Dev Cert.MergeBwdRefIdeal.nD → PrngReg), Pre_MergeBwdRefIdeal m →
    θ_run (Cert.MergeBwdRefIdeal.defs (F := Ideal)) (onTc (τ := Cert.MergeBwdRefIdeal.τ) (Cert.MergeBwdRefIdeal.main (F := Ideal))) ⟨m, fun _ => 0, g⟩ (fun r => (∀ c : Dev Cert.MergeBwdRefIdeal.nD,
      r.2.mem ((c.tc : Thread Cert.MergeBwdRefIdeal.nD Cert.MergeBwdRefIdeal.τ).loc Cert.MergeBwdRefIdeal.main_arg0) = m ((c.tc : Thread Cert.MergeBwdRefIdeal.nD Cert.MergeBwdRefIdeal.τ).loc Cert.MergeBwdRefIdeal.main_arg0)
      ∧ r.2.mem ((c.tc : Thread Cert.MergeBwdRefIdeal.nD Cert.MergeBwdRefIdeal.τ).loc Cert.MergeBwdRefIdeal.main_arg1) = m ((c.tc : Thread Cert.MergeBwdRefIdeal.nD Cert.MergeBwdRefIdeal.τ).loc Cert.MergeBwdRefIdeal.main_arg1)
      ∧ r.2.mem ((c.tc : Thread Cert.MergeBwdRefIdeal.nD Cert.MergeBwdRefIdeal.τ).loc Cert.MergeBwdRefIdeal.main_arg2) = m ((c.tc : Thread Cert.MergeBwdRefIdeal.nD Cert.MergeBwdRefIdeal.τ).loc Cert.MergeBwdRefIdeal.main_arg2)
      ∧ r.2.mem ((c.tc : Thread Cert.MergeBwdRefIdeal.nD Cert.MergeBwdRefIdeal.τ).loc Cert.MergeBwdRefIdeal.main_arg3) = m ((c.tc : Thread Cert.MergeBwdRefIdeal.nD Cert.MergeBwdRefIdeal.τ).loc Cert.MergeBwdRefIdeal.main_arg3)
      ∧ r.2.mem ((c.tc : Thread Cert.MergeBwdRefIdeal.nD Cert.MergeBwdRefIdeal.τ).loc Cert.MergeBwdRefIdeal.main_arg4) = m ((c.tc : Thread Cert.MergeBwdRefIdeal.nD Cert.MergeBwdRefIdeal.τ).loc Cert.MergeBwdRefIdeal.main_arg4)
      ∧ r.2.mem ((c.tc : Thread Cert.MergeBwdRefIdeal.nD Cert.MergeBwdRefIdeal.τ).loc Cert.MergeBwdRefIdeal.main_arg5) = m ((c.tc : Thread Cert.MergeBwdRefIdeal.nD Cert.MergeBwdRefIdeal.τ).loc Cert.MergeBwdRefIdeal.main_arg5)
      ∧ r.2.mem ((c.tc : Thread Cert.MergeBwdRefIdeal.nD Cert.MergeBwdRefIdeal.τ).loc Cert.MergeBwdRefIdeal.main_arg6) = m ((c.tc : Thread Cert.MergeBwdRefIdeal.nD Cert.MergeBwdRefIdeal.τ).loc Cert.MergeBwdRefIdeal.main_arg6))
      ∧ r.2.sem = fun _ => 0)

def quiescent_MergeBwdRefIdeal_pre_merge_finite [hMergeBwdRefIdeal : Cert.MergeBwdRefIdeal.Facts] [hPre_merge_finite : Cert.Pre_merge_finite.Facts] : Prop :=
  ∀ (m : (ℓ : Loc Cert.MergeBwdRefIdeal.nD Cert.MergeBwdRefIdeal.τ Cert.MergeBwdRefIdeal.sig) → Buf (Elt Ideal) ℓ) (g : Dev Cert.MergeBwdRefIdeal.nD → PrngReg), Pre_MergeBwdRefIdeal_merge_finite m →
    θ_run (Cert.MergeBwdRefIdeal.defs (F := Ideal)) (onTc (τ := Cert.MergeBwdRefIdeal.τ) (Cert.MergeBwdRefIdeal.main (F := Ideal))) ⟨m, fun _ => 0, g⟩ (fun r => (∀ c : Dev Cert.MergeBwdRefIdeal.nD,
      r.2.mem ((c.tc : Thread Cert.MergeBwdRefIdeal.nD Cert.MergeBwdRefIdeal.τ).loc Cert.MergeBwdRefIdeal.main_arg0) = m ((c.tc : Thread Cert.MergeBwdRefIdeal.nD Cert.MergeBwdRefIdeal.τ).loc Cert.MergeBwdRefIdeal.main_arg0)
      ∧ r.2.mem ((c.tc : Thread Cert.MergeBwdRefIdeal.nD Cert.MergeBwdRefIdeal.τ).loc Cert.MergeBwdRefIdeal.main_arg1) = m ((c.tc : Thread Cert.MergeBwdRefIdeal.nD Cert.MergeBwdRefIdeal.τ).loc Cert.MergeBwdRefIdeal.main_arg1)
      ∧ r.2.mem ((c.tc : Thread Cert.MergeBwdRefIdeal.nD Cert.MergeBwdRefIdeal.τ).loc Cert.MergeBwdRefIdeal.main_arg2) = m ((c.tc : Thread Cert.MergeBwdRefIdeal.nD Cert.MergeBwdRefIdeal.τ).loc Cert.MergeBwdRefIdeal.main_arg2)
      ∧ r.2.mem ((c.tc : Thread Cert.MergeBwdRefIdeal.nD Cert.MergeBwdRefIdeal.τ).loc Cert.MergeBwdRefIdeal.main_arg3) = m ((c.tc : Thread Cert.MergeBwdRefIdeal.nD Cert.MergeBwdRefIdeal.τ).loc Cert.MergeBwdRefIdeal.main_arg3)
      ∧ r.2.mem ((c.tc : Thread Cert.MergeBwdRefIdeal.nD Cert.MergeBwdRefIdeal.τ).loc Cert.MergeBwdRefIdeal.main_arg4) = m ((c.tc : Thread Cert.MergeBwdRefIdeal.nD Cert.MergeBwdRefIdeal.τ).loc Cert.MergeBwdRefIdeal.main_arg4)
      ∧ r.2.mem ((c.tc : Thread Cert.MergeBwdRefIdeal.nD Cert.MergeBwdRefIdeal.τ).loc Cert.MergeBwdRefIdeal.main_arg5) = m ((c.tc : Thread Cert.MergeBwdRefIdeal.nD Cert.MergeBwdRefIdeal.τ).loc Cert.MergeBwdRefIdeal.main_arg5)
      ∧ r.2.mem ((c.tc : Thread Cert.MergeBwdRefIdeal.nD Cert.MergeBwdRefIdeal.τ).loc Cert.MergeBwdRefIdeal.main_arg6) = m ((c.tc : Thread Cert.MergeBwdRefIdeal.nD Cert.MergeBwdRefIdeal.τ).loc Cert.MergeBwdRefIdeal.main_arg6))
      ∧ r.2.sem = fun _ => 0)

def quiescent_AttnPost [hAttnPost : Cert.AttnPost.Facts] : Prop :=
  ∀ (m : (ℓ : Loc Cert.AttnPost.nD Cert.AttnPost.τ Cert.AttnPost.sig) → Buf (Elt Bits) ℓ) (g : Dev Cert.AttnPost.nD → PrngReg), Pre_AttnPost m →
    θ_run (Cert.AttnPost.defs (F := Bits)) (onTc (τ := Cert.AttnPost.τ) (Cert.AttnPost.main (F := Bits))) ⟨m, fun _ => 0, g⟩ (fun r => (∀ c : Dev Cert.AttnPost.nD,
      r.2.mem ((c.tc : Thread Cert.AttnPost.nD Cert.AttnPost.τ).loc Cert.AttnPost.main_arg0) = m ((c.tc : Thread Cert.AttnPost.nD Cert.AttnPost.τ).loc Cert.AttnPost.main_arg0)
      ∧ r.2.mem ((c.tc : Thread Cert.AttnPost.nD Cert.AttnPost.τ).loc Cert.AttnPost.main_arg1) = m ((c.tc : Thread Cert.AttnPost.nD Cert.AttnPost.τ).loc Cert.AttnPost.main_arg1)
      ∧ r.2.mem ((c.tc : Thread Cert.AttnPost.nD Cert.AttnPost.τ).loc Cert.AttnPost.main_arg2) = m ((c.tc : Thread Cert.AttnPost.nD Cert.AttnPost.τ).loc Cert.AttnPost.main_arg2)
      ∧ r.2.mem ((c.tc : Thread Cert.AttnPost.nD Cert.AttnPost.τ).loc Cert.AttnPost.main_arg3) = m ((c.tc : Thread Cert.AttnPost.nD Cert.AttnPost.τ).loc Cert.AttnPost.main_arg3)
      ∧ r.2.mem ((c.tc : Thread Cert.AttnPost.nD Cert.AttnPost.τ).loc Cert.AttnPost.main_arg4) = m ((c.tc : Thread Cert.AttnPost.nD Cert.AttnPost.τ).loc Cert.AttnPost.main_arg4)
      ∧ r.2.mem ((c.tc : Thread Cert.AttnPost.nD Cert.AttnPost.τ).loc Cert.AttnPost.main_arg5) = m ((c.tc : Thread Cert.AttnPost.nD Cert.AttnPost.τ).loc Cert.AttnPost.main_arg5))
      ∧ r.2.sem = fun _ => 0)

def quiescent_AttnPostIdeal [hAttnPostIdeal : Cert.AttnPostIdeal.Facts] : Prop :=
  ∀ (m : (ℓ : Loc Cert.AttnPostIdeal.nD Cert.AttnPostIdeal.τ Cert.AttnPostIdeal.sig) → Buf (Elt Ideal) ℓ) (g : Dev Cert.AttnPostIdeal.nD → PrngReg), Pre_AttnPostIdeal m →
    θ_run (Cert.AttnPostIdeal.defs (F := Ideal)) (onTc (τ := Cert.AttnPostIdeal.τ) (Cert.AttnPostIdeal.main (F := Ideal))) ⟨m, fun _ => 0, g⟩ (fun r => (∀ c : Dev Cert.AttnPostIdeal.nD,
      r.2.mem ((c.tc : Thread Cert.AttnPostIdeal.nD Cert.AttnPostIdeal.τ).loc Cert.AttnPostIdeal.main_arg0) = m ((c.tc : Thread Cert.AttnPostIdeal.nD Cert.AttnPostIdeal.τ).loc Cert.AttnPostIdeal.main_arg0)
      ∧ r.2.mem ((c.tc : Thread Cert.AttnPostIdeal.nD Cert.AttnPostIdeal.τ).loc Cert.AttnPostIdeal.main_arg1) = m ((c.tc : Thread Cert.AttnPostIdeal.nD Cert.AttnPostIdeal.τ).loc Cert.AttnPostIdeal.main_arg1)
      ∧ r.2.mem ((c.tc : Thread Cert.AttnPostIdeal.nD Cert.AttnPostIdeal.τ).loc Cert.AttnPostIdeal.main_arg2) = m ((c.tc : Thread Cert.AttnPostIdeal.nD Cert.AttnPostIdeal.τ).loc Cert.AttnPostIdeal.main_arg2)
      ∧ r.2.mem ((c.tc : Thread Cert.AttnPostIdeal.nD Cert.AttnPostIdeal.τ).loc Cert.AttnPostIdeal.main_arg3) = m ((c.tc : Thread Cert.AttnPostIdeal.nD Cert.AttnPostIdeal.τ).loc Cert.AttnPostIdeal.main_arg3)
      ∧ r.2.mem ((c.tc : Thread Cert.AttnPostIdeal.nD Cert.AttnPostIdeal.τ).loc Cert.AttnPostIdeal.main_arg4) = m ((c.tc : Thread Cert.AttnPostIdeal.nD Cert.AttnPostIdeal.τ).loc Cert.AttnPostIdeal.main_arg4)
      ∧ r.2.mem ((c.tc : Thread Cert.AttnPostIdeal.nD Cert.AttnPostIdeal.τ).loc Cert.AttnPostIdeal.main_arg5) = m ((c.tc : Thread Cert.AttnPostIdeal.nD Cert.AttnPostIdeal.τ).loc Cert.AttnPostIdeal.main_arg5))
      ∧ r.2.sem = fun _ => 0)

def quiescent_AttnPostIdeal_pre_post_finite [hAttnPostIdeal : Cert.AttnPostIdeal.Facts] [hPre_post_finite : Cert.Pre_post_finite.Facts] : Prop :=
  ∀ (m : (ℓ : Loc Cert.AttnPostIdeal.nD Cert.AttnPostIdeal.τ Cert.AttnPostIdeal.sig) → Buf (Elt Ideal) ℓ) (g : Dev Cert.AttnPostIdeal.nD → PrngReg), Pre_AttnPostIdeal_post_finite m →
    θ_run (Cert.AttnPostIdeal.defs (F := Ideal)) (onTc (τ := Cert.AttnPostIdeal.τ) (Cert.AttnPostIdeal.main (F := Ideal))) ⟨m, fun _ => 0, g⟩ (fun r => (∀ c : Dev Cert.AttnPostIdeal.nD,
      r.2.mem ((c.tc : Thread Cert.AttnPostIdeal.nD Cert.AttnPostIdeal.τ).loc Cert.AttnPostIdeal.main_arg0) = m ((c.tc : Thread Cert.AttnPostIdeal.nD Cert.AttnPostIdeal.τ).loc Cert.AttnPostIdeal.main_arg0)
      ∧ r.2.mem ((c.tc : Thread Cert.AttnPostIdeal.nD Cert.AttnPostIdeal.τ).loc Cert.AttnPostIdeal.main_arg1) = m ((c.tc : Thread Cert.AttnPostIdeal.nD Cert.AttnPostIdeal.τ).loc Cert.AttnPostIdeal.main_arg1)
      ∧ r.2.mem ((c.tc : Thread Cert.AttnPostIdeal.nD Cert.AttnPostIdeal.τ).loc Cert.AttnPostIdeal.main_arg2) = m ((c.tc : Thread Cert.AttnPostIdeal.nD Cert.AttnPostIdeal.τ).loc Cert.AttnPostIdeal.main_arg2)
      ∧ r.2.mem ((c.tc : Thread Cert.AttnPostIdeal.nD Cert.AttnPostIdeal.τ).loc Cert.AttnPostIdeal.main_arg3) = m ((c.tc : Thread Cert.AttnPostIdeal.nD Cert.AttnPostIdeal.τ).loc Cert.AttnPostIdeal.main_arg3)
      ∧ r.2.mem ((c.tc : Thread Cert.AttnPostIdeal.nD Cert.AttnPostIdeal.τ).loc Cert.AttnPostIdeal.main_arg4) = m ((c.tc : Thread Cert.AttnPostIdeal.nD Cert.AttnPostIdeal.τ).loc Cert.AttnPostIdeal.main_arg4)
      ∧ r.2.mem ((c.tc : Thread Cert.AttnPostIdeal.nD Cert.AttnPostIdeal.τ).loc Cert.AttnPostIdeal.main_arg5) = m ((c.tc : Thread Cert.AttnPostIdeal.nD Cert.AttnPostIdeal.τ).loc Cert.AttnPostIdeal.main_arg5))
      ∧ r.2.sem = fun _ => 0)

def quiescent_AttnPostRefIdeal [hAttnPostRefIdeal : Cert.AttnPostRefIdeal.Facts] : Prop :=
  ∀ (m : (ℓ : Loc Cert.AttnPostRefIdeal.nD Cert.AttnPostRefIdeal.τ Cert.AttnPostRefIdeal.sig) → Buf (Elt Ideal) ℓ) (g : Dev Cert.AttnPostRefIdeal.nD → PrngReg), Pre_AttnPostRefIdeal m →
    θ_run (Cert.AttnPostRefIdeal.defs (F := Ideal)) (onTc (τ := Cert.AttnPostRefIdeal.τ) (Cert.AttnPostRefIdeal.main (F := Ideal))) ⟨m, fun _ => 0, g⟩ (fun r => (∀ c : Dev Cert.AttnPostRefIdeal.nD,
      r.2.mem ((c.tc : Thread Cert.AttnPostRefIdeal.nD Cert.AttnPostRefIdeal.τ).loc Cert.AttnPostRefIdeal.main_arg0) = m ((c.tc : Thread Cert.AttnPostRefIdeal.nD Cert.AttnPostRefIdeal.τ).loc Cert.AttnPostRefIdeal.main_arg0)
      ∧ r.2.mem ((c.tc : Thread Cert.AttnPostRefIdeal.nD Cert.AttnPostRefIdeal.τ).loc Cert.AttnPostRefIdeal.main_arg1) = m ((c.tc : Thread Cert.AttnPostRefIdeal.nD Cert.AttnPostRefIdeal.τ).loc Cert.AttnPostRefIdeal.main_arg1)
      ∧ r.2.mem ((c.tc : Thread Cert.AttnPostRefIdeal.nD Cert.AttnPostRefIdeal.τ).loc Cert.AttnPostRefIdeal.main_arg2) = m ((c.tc : Thread Cert.AttnPostRefIdeal.nD Cert.AttnPostRefIdeal.τ).loc Cert.AttnPostRefIdeal.main_arg2)
      ∧ r.2.mem ((c.tc : Thread Cert.AttnPostRefIdeal.nD Cert.AttnPostRefIdeal.τ).loc Cert.AttnPostRefIdeal.main_arg3) = m ((c.tc : Thread Cert.AttnPostRefIdeal.nD Cert.AttnPostRefIdeal.τ).loc Cert.AttnPostRefIdeal.main_arg3)
      ∧ r.2.mem ((c.tc : Thread Cert.AttnPostRefIdeal.nD Cert.AttnPostRefIdeal.τ).loc Cert.AttnPostRefIdeal.main_arg4) = m ((c.tc : Thread Cert.AttnPostRefIdeal.nD Cert.AttnPostRefIdeal.τ).loc Cert.AttnPostRefIdeal.main_arg4)
      ∧ r.2.mem ((c.tc : Thread Cert.AttnPostRefIdeal.nD Cert.AttnPostRefIdeal.τ).loc Cert.AttnPostRefIdeal.main_arg5) = m ((c.tc : Thread Cert.AttnPostRefIdeal.nD Cert.AttnPostRefIdeal.τ).loc Cert.AttnPostRefIdeal.main_arg5))
      ∧ r.2.sem = fun _ => 0)

def quiescent_AttnPostRefIdeal_pre_post_finite [hAttnPostRefIdeal : Cert.AttnPostRefIdeal.Facts] [hPre_post_finite : Cert.Pre_post_finite.Facts] : Prop :=
  ∀ (m : (ℓ : Loc Cert.AttnPostRefIdeal.nD Cert.AttnPostRefIdeal.τ Cert.AttnPostRefIdeal.sig) → Buf (Elt Ideal) ℓ) (g : Dev Cert.AttnPostRefIdeal.nD → PrngReg), Pre_AttnPostRefIdeal_post_finite m →
    θ_run (Cert.AttnPostRefIdeal.defs (F := Ideal)) (onTc (τ := Cert.AttnPostRefIdeal.τ) (Cert.AttnPostRefIdeal.main (F := Ideal))) ⟨m, fun _ => 0, g⟩ (fun r => (∀ c : Dev Cert.AttnPostRefIdeal.nD,
      r.2.mem ((c.tc : Thread Cert.AttnPostRefIdeal.nD Cert.AttnPostRefIdeal.τ).loc Cert.AttnPostRefIdeal.main_arg0) = m ((c.tc : Thread Cert.AttnPostRefIdeal.nD Cert.AttnPostRefIdeal.τ).loc Cert.AttnPostRefIdeal.main_arg0)
      ∧ r.2.mem ((c.tc : Thread Cert.AttnPostRefIdeal.nD Cert.AttnPostRefIdeal.τ).loc Cert.AttnPostRefIdeal.main_arg1) = m ((c.tc : Thread Cert.AttnPostRefIdeal.nD Cert.AttnPostRefIdeal.τ).loc Cert.AttnPostRefIdeal.main_arg1)
      ∧ r.2.mem ((c.tc : Thread Cert.AttnPostRefIdeal.nD Cert.AttnPostRefIdeal.τ).loc Cert.AttnPostRefIdeal.main_arg2) = m ((c.tc : Thread Cert.AttnPostRefIdeal.nD Cert.AttnPostRefIdeal.τ).loc Cert.AttnPostRefIdeal.main_arg2)
      ∧ r.2.mem ((c.tc : Thread Cert.AttnPostRefIdeal.nD Cert.AttnPostRefIdeal.τ).loc Cert.AttnPostRefIdeal.main_arg3) = m ((c.tc : Thread Cert.AttnPostRefIdeal.nD Cert.AttnPostRefIdeal.τ).loc Cert.AttnPostRefIdeal.main_arg3)
      ∧ r.2.mem ((c.tc : Thread Cert.AttnPostRefIdeal.nD Cert.AttnPostRefIdeal.τ).loc Cert.AttnPostRefIdeal.main_arg4) = m ((c.tc : Thread Cert.AttnPostRefIdeal.nD Cert.AttnPostRefIdeal.τ).loc Cert.AttnPostRefIdeal.main_arg4)
      ∧ r.2.mem ((c.tc : Thread Cert.AttnPostRefIdeal.nD Cert.AttnPostRefIdeal.τ).loc Cert.AttnPostRefIdeal.main_arg5) = m ((c.tc : Thread Cert.AttnPostRefIdeal.nD Cert.AttnPostRefIdeal.τ).loc Cert.AttnPostRefIdeal.main_arg5))
      ∧ r.2.sem = fun _ => 0)

def quiescent_HeadBwd [hHeadBwd : Cert.HeadBwd.Facts] : Prop :=
  ∀ (m : (ℓ : Loc Cert.HeadBwd.nD Cert.HeadBwd.τ Cert.HeadBwd.sig) → Buf (Elt Bits) ℓ) (g : Dev Cert.HeadBwd.nD → PrngReg), Pre_HeadBwd m →
    θ_run (Cert.HeadBwd.defs (F := Bits)) (onTc (τ := Cert.HeadBwd.τ) (Cert.HeadBwd.main (F := Bits))) ⟨m, fun _ => 0, g⟩ (fun r => (∀ c : Dev Cert.HeadBwd.nD,
      r.2.mem ((c.tc : Thread Cert.HeadBwd.nD Cert.HeadBwd.τ).loc Cert.HeadBwd.main_arg0) = m ((c.tc : Thread Cert.HeadBwd.nD Cert.HeadBwd.τ).loc Cert.HeadBwd.main_arg0)
      ∧ r.2.mem ((c.tc : Thread Cert.HeadBwd.nD Cert.HeadBwd.τ).loc Cert.HeadBwd.main_arg1) = m ((c.tc : Thread Cert.HeadBwd.nD Cert.HeadBwd.τ).loc Cert.HeadBwd.main_arg1)
      ∧ r.2.mem ((c.tc : Thread Cert.HeadBwd.nD Cert.HeadBwd.τ).loc Cert.HeadBwd.main_arg2) = m ((c.tc : Thread Cert.HeadBwd.nD Cert.HeadBwd.τ).loc Cert.HeadBwd.main_arg2)
      ∧ r.2.mem ((c.tc : Thread Cert.HeadBwd.nD Cert.HeadBwd.τ).loc Cert.HeadBwd.main_arg3) = m ((c.tc : Thread Cert.HeadBwd.nD Cert.HeadBwd.τ).loc Cert.HeadBwd.main_arg3)
      ∧ r.2.mem ((c.tc : Thread Cert.HeadBwd.nD Cert.HeadBwd.τ).loc Cert.HeadBwd.main_arg4) = m ((c.tc : Thread Cert.HeadBwd.nD Cert.HeadBwd.τ).loc Cert.HeadBwd.main_arg4)
      ∧ r.2.mem ((c.tc : Thread Cert.HeadBwd.nD Cert.HeadBwd.τ).loc Cert.HeadBwd.main_arg5) = m ((c.tc : Thread Cert.HeadBwd.nD Cert.HeadBwd.τ).loc Cert.HeadBwd.main_arg5)
      ∧ r.2.mem ((c.tc : Thread Cert.HeadBwd.nD Cert.HeadBwd.τ).loc Cert.HeadBwd.main_arg6) = m ((c.tc : Thread Cert.HeadBwd.nD Cert.HeadBwd.τ).loc Cert.HeadBwd.main_arg6)
      ∧ r.2.mem ((c.tc : Thread Cert.HeadBwd.nD Cert.HeadBwd.τ).loc Cert.HeadBwd.main_arg7) = m ((c.tc : Thread Cert.HeadBwd.nD Cert.HeadBwd.τ).loc Cert.HeadBwd.main_arg7)
      ∧ r.2.mem ((c.tc : Thread Cert.HeadBwd.nD Cert.HeadBwd.τ).loc Cert.HeadBwd.main_arg8) = m ((c.tc : Thread Cert.HeadBwd.nD Cert.HeadBwd.τ).loc Cert.HeadBwd.main_arg8))
      ∧ r.2.sem = fun _ => 0)

def quiescent_HeadBwdIdeal [hHeadBwdIdeal : Cert.HeadBwdIdeal.Facts] : Prop :=
  ∀ (m : (ℓ : Loc Cert.HeadBwdIdeal.nD Cert.HeadBwdIdeal.τ Cert.HeadBwdIdeal.sig) → Buf (Elt Ideal) ℓ) (g : Dev Cert.HeadBwdIdeal.nD → PrngReg), Pre_HeadBwdIdeal m →
    θ_run (Cert.HeadBwdIdeal.defs (F := Ideal)) (onTc (τ := Cert.HeadBwdIdeal.τ) (Cert.HeadBwdIdeal.main (F := Ideal))) ⟨m, fun _ => 0, g⟩ (fun r => (∀ c : Dev Cert.HeadBwdIdeal.nD,
      r.2.mem ((c.tc : Thread Cert.HeadBwdIdeal.nD Cert.HeadBwdIdeal.τ).loc Cert.HeadBwdIdeal.main_arg0) = m ((c.tc : Thread Cert.HeadBwdIdeal.nD Cert.HeadBwdIdeal.τ).loc Cert.HeadBwdIdeal.main_arg0)
      ∧ r.2.mem ((c.tc : Thread Cert.HeadBwdIdeal.nD Cert.HeadBwdIdeal.τ).loc Cert.HeadBwdIdeal.main_arg1) = m ((c.tc : Thread Cert.HeadBwdIdeal.nD Cert.HeadBwdIdeal.τ).loc Cert.HeadBwdIdeal.main_arg1)
      ∧ r.2.mem ((c.tc : Thread Cert.HeadBwdIdeal.nD Cert.HeadBwdIdeal.τ).loc Cert.HeadBwdIdeal.main_arg2) = m ((c.tc : Thread Cert.HeadBwdIdeal.nD Cert.HeadBwdIdeal.τ).loc Cert.HeadBwdIdeal.main_arg2)
      ∧ r.2.mem ((c.tc : Thread Cert.HeadBwdIdeal.nD Cert.HeadBwdIdeal.τ).loc Cert.HeadBwdIdeal.main_arg3) = m ((c.tc : Thread Cert.HeadBwdIdeal.nD Cert.HeadBwdIdeal.τ).loc Cert.HeadBwdIdeal.main_arg3)
      ∧ r.2.mem ((c.tc : Thread Cert.HeadBwdIdeal.nD Cert.HeadBwdIdeal.τ).loc Cert.HeadBwdIdeal.main_arg4) = m ((c.tc : Thread Cert.HeadBwdIdeal.nD Cert.HeadBwdIdeal.τ).loc Cert.HeadBwdIdeal.main_arg4)
      ∧ r.2.mem ((c.tc : Thread Cert.HeadBwdIdeal.nD Cert.HeadBwdIdeal.τ).loc Cert.HeadBwdIdeal.main_arg5) = m ((c.tc : Thread Cert.HeadBwdIdeal.nD Cert.HeadBwdIdeal.τ).loc Cert.HeadBwdIdeal.main_arg5)
      ∧ r.2.mem ((c.tc : Thread Cert.HeadBwdIdeal.nD Cert.HeadBwdIdeal.τ).loc Cert.HeadBwdIdeal.main_arg6) = m ((c.tc : Thread Cert.HeadBwdIdeal.nD Cert.HeadBwdIdeal.τ).loc Cert.HeadBwdIdeal.main_arg6)
      ∧ r.2.mem ((c.tc : Thread Cert.HeadBwdIdeal.nD Cert.HeadBwdIdeal.τ).loc Cert.HeadBwdIdeal.main_arg7) = m ((c.tc : Thread Cert.HeadBwdIdeal.nD Cert.HeadBwdIdeal.τ).loc Cert.HeadBwdIdeal.main_arg7)
      ∧ r.2.mem ((c.tc : Thread Cert.HeadBwdIdeal.nD Cert.HeadBwdIdeal.τ).loc Cert.HeadBwdIdeal.main_arg8) = m ((c.tc : Thread Cert.HeadBwdIdeal.nD Cert.HeadBwdIdeal.τ).loc Cert.HeadBwdIdeal.main_arg8))
      ∧ r.2.sem = fun _ => 0)

def quiescent_HeadBwdIdeal_pre_head_finite [hHeadBwdIdeal : Cert.HeadBwdIdeal.Facts] [hPre_head_finite : Cert.Pre_head_finite.Facts] : Prop :=
  ∀ (m : (ℓ : Loc Cert.HeadBwdIdeal.nD Cert.HeadBwdIdeal.τ Cert.HeadBwdIdeal.sig) → Buf (Elt Ideal) ℓ) (g : Dev Cert.HeadBwdIdeal.nD → PrngReg), Pre_HeadBwdIdeal_head_finite m →
    θ_run (Cert.HeadBwdIdeal.defs (F := Ideal)) (onTc (τ := Cert.HeadBwdIdeal.τ) (Cert.HeadBwdIdeal.main (F := Ideal))) ⟨m, fun _ => 0, g⟩ (fun r => (∀ c : Dev Cert.HeadBwdIdeal.nD,
      r.2.mem ((c.tc : Thread Cert.HeadBwdIdeal.nD Cert.HeadBwdIdeal.τ).loc Cert.HeadBwdIdeal.main_arg0) = m ((c.tc : Thread Cert.HeadBwdIdeal.nD Cert.HeadBwdIdeal.τ).loc Cert.HeadBwdIdeal.main_arg0)
      ∧ r.2.mem ((c.tc : Thread Cert.HeadBwdIdeal.nD Cert.HeadBwdIdeal.τ).loc Cert.HeadBwdIdeal.main_arg1) = m ((c.tc : Thread Cert.HeadBwdIdeal.nD Cert.HeadBwdIdeal.τ).loc Cert.HeadBwdIdeal.main_arg1)
      ∧ r.2.mem ((c.tc : Thread Cert.HeadBwdIdeal.nD Cert.HeadBwdIdeal.τ).loc Cert.HeadBwdIdeal.main_arg2) = m ((c.tc : Thread Cert.HeadBwdIdeal.nD Cert.HeadBwdIdeal.τ).loc Cert.HeadBwdIdeal.main_arg2)
      ∧ r.2.mem ((c.tc : Thread Cert.HeadBwdIdeal.nD Cert.HeadBwdIdeal.τ).loc Cert.HeadBwdIdeal.main_arg3) = m ((c.tc : Thread Cert.HeadBwdIdeal.nD Cert.HeadBwdIdeal.τ).loc Cert.HeadBwdIdeal.main_arg3)
      ∧ r.2.mem ((c.tc : Thread Cert.HeadBwdIdeal.nD Cert.HeadBwdIdeal.τ).loc Cert.HeadBwdIdeal.main_arg4) = m ((c.tc : Thread Cert.HeadBwdIdeal.nD Cert.HeadBwdIdeal.τ).loc Cert.HeadBwdIdeal.main_arg4)
      ∧ r.2.mem ((c.tc : Thread Cert.HeadBwdIdeal.nD Cert.HeadBwdIdeal.τ).loc Cert.HeadBwdIdeal.main_arg5) = m ((c.tc : Thread Cert.HeadBwdIdeal.nD Cert.HeadBwdIdeal.τ).loc Cert.HeadBwdIdeal.main_arg5)
      ∧ r.2.mem ((c.tc : Thread Cert.HeadBwdIdeal.nD Cert.HeadBwdIdeal.τ).loc Cert.HeadBwdIdeal.main_arg6) = m ((c.tc : Thread Cert.HeadBwdIdeal.nD Cert.HeadBwdIdeal.τ).loc Cert.HeadBwdIdeal.main_arg6)
      ∧ r.2.mem ((c.tc : Thread Cert.HeadBwdIdeal.nD Cert.HeadBwdIdeal.τ).loc Cert.HeadBwdIdeal.main_arg7) = m ((c.tc : Thread Cert.HeadBwdIdeal.nD Cert.HeadBwdIdeal.τ).loc Cert.HeadBwdIdeal.main_arg7)
      ∧ r.2.mem ((c.tc : Thread Cert.HeadBwdIdeal.nD Cert.HeadBwdIdeal.τ).loc Cert.HeadBwdIdeal.main_arg8) = m ((c.tc : Thread Cert.HeadBwdIdeal.nD Cert.HeadBwdIdeal.τ).loc Cert.HeadBwdIdeal.main_arg8))
      ∧ r.2.sem = fun _ => 0)

def quiescent_HeadBwdRefIdeal [hHeadBwdRefIdeal : Cert.HeadBwdRefIdeal.Facts] : Prop :=
  ∀ (m : (ℓ : Loc Cert.HeadBwdRefIdeal.nD Cert.HeadBwdRefIdeal.τ Cert.HeadBwdRefIdeal.sig) → Buf (Elt Ideal) ℓ) (g : Dev Cert.HeadBwdRefIdeal.nD → PrngReg), Pre_HeadBwdRefIdeal m →
    θ_run (Cert.HeadBwdRefIdeal.defs (F := Ideal)) (onTc (τ := Cert.HeadBwdRefIdeal.τ) (Cert.HeadBwdRefIdeal.main (F := Ideal))) ⟨m, fun _ => 0, g⟩ (fun r => (∀ c : Dev Cert.HeadBwdRefIdeal.nD,
      r.2.mem ((c.tc : Thread Cert.HeadBwdRefIdeal.nD Cert.HeadBwdRefIdeal.τ).loc Cert.HeadBwdRefIdeal.main_arg0) = m ((c.tc : Thread Cert.HeadBwdRefIdeal.nD Cert.HeadBwdRefIdeal.τ).loc Cert.HeadBwdRefIdeal.main_arg0)
      ∧ r.2.mem ((c.tc : Thread Cert.HeadBwdRefIdeal.nD Cert.HeadBwdRefIdeal.τ).loc Cert.HeadBwdRefIdeal.main_arg1) = m ((c.tc : Thread Cert.HeadBwdRefIdeal.nD Cert.HeadBwdRefIdeal.τ).loc Cert.HeadBwdRefIdeal.main_arg1)
      ∧ r.2.mem ((c.tc : Thread Cert.HeadBwdRefIdeal.nD Cert.HeadBwdRefIdeal.τ).loc Cert.HeadBwdRefIdeal.main_arg2) = m ((c.tc : Thread Cert.HeadBwdRefIdeal.nD Cert.HeadBwdRefIdeal.τ).loc Cert.HeadBwdRefIdeal.main_arg2)
      ∧ r.2.mem ((c.tc : Thread Cert.HeadBwdRefIdeal.nD Cert.HeadBwdRefIdeal.τ).loc Cert.HeadBwdRefIdeal.main_arg3) = m ((c.tc : Thread Cert.HeadBwdRefIdeal.nD Cert.HeadBwdRefIdeal.τ).loc Cert.HeadBwdRefIdeal.main_arg3)
      ∧ r.2.mem ((c.tc : Thread Cert.HeadBwdRefIdeal.nD Cert.HeadBwdRefIdeal.τ).loc Cert.HeadBwdRefIdeal.main_arg4) = m ((c.tc : Thread Cert.HeadBwdRefIdeal.nD Cert.HeadBwdRefIdeal.τ).loc Cert.HeadBwdRefIdeal.main_arg4)
      ∧ r.2.mem ((c.tc : Thread Cert.HeadBwdRefIdeal.nD Cert.HeadBwdRefIdeal.τ).loc Cert.HeadBwdRefIdeal.main_arg5) = m ((c.tc : Thread Cert.HeadBwdRefIdeal.nD Cert.HeadBwdRefIdeal.τ).loc Cert.HeadBwdRefIdeal.main_arg5)
      ∧ r.2.mem ((c.tc : Thread Cert.HeadBwdRefIdeal.nD Cert.HeadBwdRefIdeal.τ).loc Cert.HeadBwdRefIdeal.main_arg6) = m ((c.tc : Thread Cert.HeadBwdRefIdeal.nD Cert.HeadBwdRefIdeal.τ).loc Cert.HeadBwdRefIdeal.main_arg6)
      ∧ r.2.mem ((c.tc : Thread Cert.HeadBwdRefIdeal.nD Cert.HeadBwdRefIdeal.τ).loc Cert.HeadBwdRefIdeal.main_arg7) = m ((c.tc : Thread Cert.HeadBwdRefIdeal.nD Cert.HeadBwdRefIdeal.τ).loc Cert.HeadBwdRefIdeal.main_arg7)
      ∧ r.2.mem ((c.tc : Thread Cert.HeadBwdRefIdeal.nD Cert.HeadBwdRefIdeal.τ).loc Cert.HeadBwdRefIdeal.main_arg8) = m ((c.tc : Thread Cert.HeadBwdRefIdeal.nD Cert.HeadBwdRefIdeal.τ).loc Cert.HeadBwdRefIdeal.main_arg8))
      ∧ r.2.sem = fun _ => 0)

def quiescent_HeadBwdRefIdeal_pre_head_finite [hHeadBwdRefIdeal : Cert.HeadBwdRefIdeal.Facts] [hPre_head_finite : Cert.Pre_head_finite.Facts] : Prop :=
  ∀ (m : (ℓ : Loc Cert.HeadBwdRefIdeal.nD Cert.HeadBwdRefIdeal.τ Cert.HeadBwdRefIdeal.sig) → Buf (Elt Ideal) ℓ) (g : Dev Cert.HeadBwdRefIdeal.nD → PrngReg), Pre_HeadBwdRefIdeal_head_finite m →
    θ_run (Cert.HeadBwdRefIdeal.defs (F := Ideal)) (onTc (τ := Cert.HeadBwdRefIdeal.τ) (Cert.HeadBwdRefIdeal.main (F := Ideal))) ⟨m, fun _ => 0, g⟩ (fun r => (∀ c : Dev Cert.HeadBwdRefIdeal.nD,
      r.2.mem ((c.tc : Thread Cert.HeadBwdRefIdeal.nD Cert.HeadBwdRefIdeal.τ).loc Cert.HeadBwdRefIdeal.main_arg0) = m ((c.tc : Thread Cert.HeadBwdRefIdeal.nD Cert.HeadBwdRefIdeal.τ).loc Cert.HeadBwdRefIdeal.main_arg0)
      ∧ r.2.mem ((c.tc : Thread Cert.HeadBwdRefIdeal.nD Cert.HeadBwdRefIdeal.τ).loc Cert.HeadBwdRefIdeal.main_arg1) = m ((c.tc : Thread Cert.HeadBwdRefIdeal.nD Cert.HeadBwdRefIdeal.τ).loc Cert.HeadBwdRefIdeal.main_arg1)
      ∧ r.2.mem ((c.tc : Thread Cert.HeadBwdRefIdeal.nD Cert.HeadBwdRefIdeal.τ).loc Cert.HeadBwdRefIdeal.main_arg2) = m ((c.tc : Thread Cert.HeadBwdRefIdeal.nD Cert.HeadBwdRefIdeal.τ).loc Cert.HeadBwdRefIdeal.main_arg2)
      ∧ r.2.mem ((c.tc : Thread Cert.HeadBwdRefIdeal.nD Cert.HeadBwdRefIdeal.τ).loc Cert.HeadBwdRefIdeal.main_arg3) = m ((c.tc : Thread Cert.HeadBwdRefIdeal.nD Cert.HeadBwdRefIdeal.τ).loc Cert.HeadBwdRefIdeal.main_arg3)
      ∧ r.2.mem ((c.tc : Thread Cert.HeadBwdRefIdeal.nD Cert.HeadBwdRefIdeal.τ).loc Cert.HeadBwdRefIdeal.main_arg4) = m ((c.tc : Thread Cert.HeadBwdRefIdeal.nD Cert.HeadBwdRefIdeal.τ).loc Cert.HeadBwdRefIdeal.main_arg4)
      ∧ r.2.mem ((c.tc : Thread Cert.HeadBwdRefIdeal.nD Cert.HeadBwdRefIdeal.τ).loc Cert.HeadBwdRefIdeal.main_arg5) = m ((c.tc : Thread Cert.HeadBwdRefIdeal.nD Cert.HeadBwdRefIdeal.τ).loc Cert.HeadBwdRefIdeal.main_arg5)
      ∧ r.2.mem ((c.tc : Thread Cert.HeadBwdRefIdeal.nD Cert.HeadBwdRefIdeal.τ).loc Cert.HeadBwdRefIdeal.main_arg6) = m ((c.tc : Thread Cert.HeadBwdRefIdeal.nD Cert.HeadBwdRefIdeal.τ).loc Cert.HeadBwdRefIdeal.main_arg6)
      ∧ r.2.mem ((c.tc : Thread Cert.HeadBwdRefIdeal.nD Cert.HeadBwdRefIdeal.τ).loc Cert.HeadBwdRefIdeal.main_arg7) = m ((c.tc : Thread Cert.HeadBwdRefIdeal.nD Cert.HeadBwdRefIdeal.τ).loc Cert.HeadBwdRefIdeal.main_arg7)
      ∧ r.2.mem ((c.tc : Thread Cert.HeadBwdRefIdeal.nD Cert.HeadBwdRefIdeal.τ).loc Cert.HeadBwdRefIdeal.main_arg8) = m ((c.tc : Thread Cert.HeadBwdRefIdeal.nD Cert.HeadBwdRefIdeal.τ).loc Cert.HeadBwdRefIdeal.main_arg8))
      ∧ r.2.sem = fun _ => 0)

def quiescent_AttnFwd [hAttnFwd : Cert.AttnFwd.Facts] : Prop :=
  ∀ (m : (ℓ : Loc Cert.AttnFwd.nD Cert.AttnFwd.τ Cert.AttnFwd.sig) → Buf (Elt Bits) ℓ) (g : Dev Cert.AttnFwd.nD → PrngReg), Pre_AttnFwd m →
    θ_run (Cert.AttnFwd.defs (F := Bits)) (onTc (τ := Cert.AttnFwd.τ) (Cert.AttnFwd.main (F := Bits))) ⟨m, fun _ => 0, g⟩ (fun r => (∀ c : Dev Cert.AttnFwd.nD,
      r.2.mem ((c.tc : Thread Cert.AttnFwd.nD Cert.AttnFwd.τ).loc Cert.AttnFwd.main_arg0) = m ((c.tc : Thread Cert.AttnFwd.nD Cert.AttnFwd.τ).loc Cert.AttnFwd.main_arg0)
      ∧ r.2.mem ((c.tc : Thread Cert.AttnFwd.nD Cert.AttnFwd.τ).loc Cert.AttnFwd.main_arg1) = m ((c.tc : Thread Cert.AttnFwd.nD Cert.AttnFwd.τ).loc Cert.AttnFwd.main_arg1)
      ∧ r.2.mem ((c.tc : Thread Cert.AttnFwd.nD Cert.AttnFwd.τ).loc Cert.AttnFwd.main_arg2) = m ((c.tc : Thread Cert.AttnFwd.nD Cert.AttnFwd.τ).loc Cert.AttnFwd.main_arg2))
      ∧ r.2.sem = fun _ => 0)

def quiescent_AttnFwdIdeal [hAttnFwdIdeal : Cert.AttnFwdIdeal.Facts] : Prop :=
  ∀ (m : (ℓ : Loc Cert.AttnFwdIdeal.nD Cert.AttnFwdIdeal.τ Cert.AttnFwdIdeal.sig) → Buf (Elt Ideal) ℓ) (g : Dev Cert.AttnFwdIdeal.nD → PrngReg), Pre_AttnFwdIdeal m →
    θ_run (Cert.AttnFwdIdeal.defs (F := Ideal)) (onTc (τ := Cert.AttnFwdIdeal.τ) (Cert.AttnFwdIdeal.main (F := Ideal))) ⟨m, fun _ => 0, g⟩ (fun r => (∀ c : Dev Cert.AttnFwdIdeal.nD,
      r.2.mem ((c.tc : Thread Cert.AttnFwdIdeal.nD Cert.AttnFwdIdeal.τ).loc Cert.AttnFwdIdeal.main_arg0) = m ((c.tc : Thread Cert.AttnFwdIdeal.nD Cert.AttnFwdIdeal.τ).loc Cert.AttnFwdIdeal.main_arg0)
      ∧ r.2.mem ((c.tc : Thread Cert.AttnFwdIdeal.nD Cert.AttnFwdIdeal.τ).loc Cert.AttnFwdIdeal.main_arg1) = m ((c.tc : Thread Cert.AttnFwdIdeal.nD Cert.AttnFwdIdeal.τ).loc Cert.AttnFwdIdeal.main_arg1)
      ∧ r.2.mem ((c.tc : Thread Cert.AttnFwdIdeal.nD Cert.AttnFwdIdeal.τ).loc Cert.AttnFwdIdeal.main_arg2) = m ((c.tc : Thread Cert.AttnFwdIdeal.nD Cert.AttnFwdIdeal.τ).loc Cert.AttnFwdIdeal.main_arg2))
      ∧ r.2.sem = fun _ => 0)

def quiescent_AttnFwdIdeal_pre_attnf_finite [hAttnFwdIdeal : Cert.AttnFwdIdeal.Facts] [hPre_attnf_finite : Cert.Pre_attnf_finite.Facts] : Prop :=
  ∀ (m : (ℓ : Loc Cert.AttnFwdIdeal.nD Cert.AttnFwdIdeal.τ Cert.AttnFwdIdeal.sig) → Buf (Elt Ideal) ℓ) (g : Dev Cert.AttnFwdIdeal.nD → PrngReg), Pre_AttnFwdIdeal_attnf_finite m →
    θ_run (Cert.AttnFwdIdeal.defs (F := Ideal)) (onTc (τ := Cert.AttnFwdIdeal.τ) (Cert.AttnFwdIdeal.main (F := Ideal))) ⟨m, fun _ => 0, g⟩ (fun r => (∀ c : Dev Cert.AttnFwdIdeal.nD,
      r.2.mem ((c.tc : Thread Cert.AttnFwdIdeal.nD Cert.AttnFwdIdeal.τ).loc Cert.AttnFwdIdeal.main_arg0) = m ((c.tc : Thread Cert.AttnFwdIdeal.nD Cert.AttnFwdIdeal.τ).loc Cert.AttnFwdIdeal.main_arg0)
      ∧ r.2.mem ((c.tc : Thread Cert.AttnFwdIdeal.nD Cert.AttnFwdIdeal.τ).loc Cert.AttnFwdIdeal.main_arg1) = m ((c.tc : Thread Cert.AttnFwdIdeal.nD Cert.AttnFwdIdeal.τ).loc Cert.AttnFwdIdeal.main_arg1)
      ∧ r.2.mem ((c.tc : Thread Cert.AttnFwdIdeal.nD Cert.AttnFwdIdeal.τ).loc Cert.AttnFwdIdeal.main_arg2) = m ((c.tc : Thread Cert.AttnFwdIdeal.nD Cert.AttnFwdIdeal.τ).loc Cert.AttnFwdIdeal.main_arg2))
      ∧ r.2.sem = fun _ => 0)

def quiescent_AttnFwdRefIdeal [hAttnFwdRefIdeal : Cert.AttnFwdRefIdeal.Facts] : Prop :=
  ∀ (m : (ℓ : Loc Cert.AttnFwdRefIdeal.nD Cert.AttnFwdRefIdeal.τ Cert.AttnFwdRefIdeal.sig) → Buf (Elt Ideal) ℓ) (g : Dev Cert.AttnFwdRefIdeal.nD → PrngReg), Pre_AttnFwdRefIdeal m →
    θ_run (Cert.AttnFwdRefIdeal.defs (F := Ideal)) (onTc (τ := Cert.AttnFwdRefIdeal.τ) (Cert.AttnFwdRefIdeal.main (F := Ideal))) ⟨m, fun _ => 0, g⟩ (fun r => (∀ c : Dev Cert.AttnFwdRefIdeal.nD,
      r.2.mem ((c.tc : Thread Cert.AttnFwdRefIdeal.nD Cert.AttnFwdRefIdeal.τ).loc Cert.AttnFwdRefIdeal.main_arg0) = m ((c.tc : Thread Cert.AttnFwdRefIdeal.nD Cert.AttnFwdRefIdeal.τ).loc Cert.AttnFwdRefIdeal.main_arg0)
      ∧ r.2.mem ((c.tc : Thread Cert.AttnFwdRefIdeal.nD Cert.AttnFwdRefIdeal.τ).loc Cert.AttnFwdRefIdeal.main_arg1) = m ((c.tc : Thread Cert.AttnFwdRefIdeal.nD Cert.AttnFwdRefIdeal.τ).loc Cert.AttnFwdRefIdeal.main_arg1)
      ∧ r.2.mem ((c.tc : Thread Cert.AttnFwdRefIdeal.nD Cert.AttnFwdRefIdeal.τ).loc Cert.AttnFwdRefIdeal.main_arg2) = m ((c.tc : Thread Cert.AttnFwdRefIdeal.nD Cert.AttnFwdRefIdeal.τ).loc Cert.AttnFwdRefIdeal.main_arg2))
      ∧ r.2.sem = fun _ => 0)

def quiescent_AttnFwdRefIdeal_pre_attnf_finite [hAttnFwdRefIdeal : Cert.AttnFwdRefIdeal.Facts] [hPre_attnf_finite : Cert.Pre_attnf_finite.Facts] : Prop :=
  ∀ (m : (ℓ : Loc Cert.AttnFwdRefIdeal.nD Cert.AttnFwdRefIdeal.τ Cert.AttnFwdRefIdeal.sig) → Buf (Elt Ideal) ℓ) (g : Dev Cert.AttnFwdRefIdeal.nD → PrngReg), Pre_AttnFwdRefIdeal_attnf_finite m →
    θ_run (Cert.AttnFwdRefIdeal.defs (F := Ideal)) (onTc (τ := Cert.AttnFwdRefIdeal.τ) (Cert.AttnFwdRefIdeal.main (F := Ideal))) ⟨m, fun _ => 0, g⟩ (fun r => (∀ c : Dev Cert.AttnFwdRefIdeal.nD,
      r.2.mem ((c.tc : Thread Cert.AttnFwdRefIdeal.nD Cert.AttnFwdRefIdeal.τ).loc Cert.AttnFwdRefIdeal.main_arg0) = m ((c.tc : Thread Cert.AttnFwdRefIdeal.nD Cert.AttnFwdRefIdeal.τ).loc Cert.AttnFwdRefIdeal.main_arg0)
      ∧ r.2.mem ((c.tc : Thread Cert.AttnFwdRefIdeal.nD Cert.AttnFwdRefIdeal.τ).loc Cert.AttnFwdRefIdeal.main_arg1) = m ((c.tc : Thread Cert.AttnFwdRefIdeal.nD Cert.AttnFwdRefIdeal.τ).loc Cert.AttnFwdRefIdeal.main_arg1)
      ∧ r.2.mem ((c.tc : Thread Cert.AttnFwdRefIdeal.nD Cert.AttnFwdRefIdeal.τ).loc Cert.AttnFwdRefIdeal.main_arg2) = m ((c.tc : Thread Cert.AttnFwdRefIdeal.nD Cert.AttnFwdRefIdeal.τ).loc Cert.AttnFwdRefIdeal.main_arg2))
      ∧ r.2.sem = fun _ => 0)

def quiescent_MergeFwd [hMergeFwd : Cert.MergeFwd.Facts] : Prop :=
  ∀ (m : (ℓ : Loc Cert.MergeFwd.nD Cert.MergeFwd.τ Cert.MergeFwd.sig) → Buf (Elt Bits) ℓ) (g : Dev Cert.MergeFwd.nD → PrngReg), Pre_MergeFwd m →
    θ_run (Cert.MergeFwd.defs (F := Bits)) (onTc (τ := Cert.MergeFwd.τ) (Cert.MergeFwd.main (F := Bits))) ⟨m, fun _ => 0, g⟩ (fun r => (∀ c : Dev Cert.MergeFwd.nD,
      r.2.mem ((c.tc : Thread Cert.MergeFwd.nD Cert.MergeFwd.τ).loc Cert.MergeFwd.main_arg0) = m ((c.tc : Thread Cert.MergeFwd.nD Cert.MergeFwd.τ).loc Cert.MergeFwd.main_arg0)
      ∧ r.2.mem ((c.tc : Thread Cert.MergeFwd.nD Cert.MergeFwd.τ).loc Cert.MergeFwd.main_arg1) = m ((c.tc : Thread Cert.MergeFwd.nD Cert.MergeFwd.τ).loc Cert.MergeFwd.main_arg1)
      ∧ r.2.mem ((c.tc : Thread Cert.MergeFwd.nD Cert.MergeFwd.τ).loc Cert.MergeFwd.main_arg2) = m ((c.tc : Thread Cert.MergeFwd.nD Cert.MergeFwd.τ).loc Cert.MergeFwd.main_arg2)
      ∧ r.2.mem ((c.tc : Thread Cert.MergeFwd.nD Cert.MergeFwd.τ).loc Cert.MergeFwd.main_arg3) = m ((c.tc : Thread Cert.MergeFwd.nD Cert.MergeFwd.τ).loc Cert.MergeFwd.main_arg3)
      ∧ r.2.mem ((c.tc : Thread Cert.MergeFwd.nD Cert.MergeFwd.τ).loc Cert.MergeFwd.main_arg4) = m ((c.tc : Thread Cert.MergeFwd.nD Cert.MergeFwd.τ).loc Cert.MergeFwd.main_arg4)
      ∧ r.2.mem ((c.tc : Thread Cert.MergeFwd.nD Cert.MergeFwd.τ).loc Cert.MergeFwd.main_arg5) = m ((c.tc : Thread Cert.MergeFwd.nD Cert.MergeFwd.τ).loc Cert.MergeFwd.main_arg5)
      ∧ r.2.mem ((c.tc : Thread Cert.MergeFwd.nD Cert.MergeFwd.τ).loc Cert.MergeFwd.main_arg6) = m ((c.tc : Thread Cert.MergeFwd.nD Cert.MergeFwd.τ).loc Cert.MergeFwd.main_arg6))
      ∧ r.2.sem = fun _ => 0)

def quiescent_MergeFwdIdeal [hMergeFwdIdeal : Cert.MergeFwdIdeal.Facts] : Prop :=
  ∀ (m : (ℓ : Loc Cert.MergeFwdIdeal.nD Cert.MergeFwdIdeal.τ Cert.MergeFwdIdeal.sig) → Buf (Elt Ideal) ℓ) (g : Dev Cert.MergeFwdIdeal.nD → PrngReg), Pre_MergeFwdIdeal m →
    θ_run (Cert.MergeFwdIdeal.defs (F := Ideal)) (onTc (τ := Cert.MergeFwdIdeal.τ) (Cert.MergeFwdIdeal.main (F := Ideal))) ⟨m, fun _ => 0, g⟩ (fun r => (∀ c : Dev Cert.MergeFwdIdeal.nD,
      r.2.mem ((c.tc : Thread Cert.MergeFwdIdeal.nD Cert.MergeFwdIdeal.τ).loc Cert.MergeFwdIdeal.main_arg0) = m ((c.tc : Thread Cert.MergeFwdIdeal.nD Cert.MergeFwdIdeal.τ).loc Cert.MergeFwdIdeal.main_arg0)
      ∧ r.2.mem ((c.tc : Thread Cert.MergeFwdIdeal.nD Cert.MergeFwdIdeal.τ).loc Cert.MergeFwdIdeal.main_arg1) = m ((c.tc : Thread Cert.MergeFwdIdeal.nD Cert.MergeFwdIdeal.τ).loc Cert.MergeFwdIdeal.main_arg1)
      ∧ r.2.mem ((c.tc : Thread Cert.MergeFwdIdeal.nD Cert.MergeFwdIdeal.τ).loc Cert.MergeFwdIdeal.main_arg2) = m ((c.tc : Thread Cert.MergeFwdIdeal.nD Cert.MergeFwdIdeal.τ).loc Cert.MergeFwdIdeal.main_arg2)
      ∧ r.2.mem ((c.tc : Thread Cert.MergeFwdIdeal.nD Cert.MergeFwdIdeal.τ).loc Cert.MergeFwdIdeal.main_arg3) = m ((c.tc : Thread Cert.MergeFwdIdeal.nD Cert.MergeFwdIdeal.τ).loc Cert.MergeFwdIdeal.main_arg3)
      ∧ r.2.mem ((c.tc : Thread Cert.MergeFwdIdeal.nD Cert.MergeFwdIdeal.τ).loc Cert.MergeFwdIdeal.main_arg4) = m ((c.tc : Thread Cert.MergeFwdIdeal.nD Cert.MergeFwdIdeal.τ).loc Cert.MergeFwdIdeal.main_arg4)
      ∧ r.2.mem ((c.tc : Thread Cert.MergeFwdIdeal.nD Cert.MergeFwdIdeal.τ).loc Cert.MergeFwdIdeal.main_arg5) = m ((c.tc : Thread Cert.MergeFwdIdeal.nD Cert.MergeFwdIdeal.τ).loc Cert.MergeFwdIdeal.main_arg5)
      ∧ r.2.mem ((c.tc : Thread Cert.MergeFwdIdeal.nD Cert.MergeFwdIdeal.τ).loc Cert.MergeFwdIdeal.main_arg6) = m ((c.tc : Thread Cert.MergeFwdIdeal.nD Cert.MergeFwdIdeal.τ).loc Cert.MergeFwdIdeal.main_arg6))
      ∧ r.2.sem = fun _ => 0)

def quiescent_MergeFwdRefIdeal [hMergeFwdRefIdeal : Cert.MergeFwdRefIdeal.Facts] : Prop :=
  ∀ (m : (ℓ : Loc Cert.MergeFwdRefIdeal.nD Cert.MergeFwdRefIdeal.τ Cert.MergeFwdRefIdeal.sig) → Buf (Elt Ideal) ℓ) (g : Dev Cert.MergeFwdRefIdeal.nD → PrngReg), Pre_MergeFwdRefIdeal m →
    θ_run (Cert.MergeFwdRefIdeal.defs (F := Ideal)) (onTc (τ := Cert.MergeFwdRefIdeal.τ) (Cert.MergeFwdRefIdeal.main (F := Ideal))) ⟨m, fun _ => 0, g⟩ (fun r => (∀ c : Dev Cert.MergeFwdRefIdeal.nD,
      r.2.mem ((c.tc : Thread Cert.MergeFwdRefIdeal.nD Cert.MergeFwdRefIdeal.τ).loc Cert.MergeFwdRefIdeal.main_arg0) = m ((c.tc : Thread Cert.MergeFwdRefIdeal.nD Cert.MergeFwdRefIdeal.τ).loc Cert.MergeFwdRefIdeal.main_arg0)
      ∧ r.2.mem ((c.tc : Thread Cert.MergeFwdRefIdeal.nD Cert.MergeFwdRefIdeal.τ).loc Cert.MergeFwdRefIdeal.main_arg1) = m ((c.tc : Thread Cert.MergeFwdRefIdeal.nD Cert.MergeFwdRefIdeal.τ).loc Cert.MergeFwdRefIdeal.main_arg1)
      ∧ r.2.mem ((c.tc : Thread Cert.MergeFwdRefIdeal.nD Cert.MergeFwdRefIdeal.τ).loc Cert.MergeFwdRefIdeal.main_arg2) = m ((c.tc : Thread Cert.MergeFwdRefIdeal.nD Cert.MergeFwdRefIdeal.τ).loc Cert.MergeFwdRefIdeal.main_arg2)
      ∧ r.2.mem ((c.tc : Thread Cert.MergeFwdRefIdeal.nD Cert.MergeFwdRefIdeal.τ).loc Cert.MergeFwdRefIdeal.main_arg3) = m ((c.tc : Thread Cert.MergeFwdRefIdeal.nD Cert.MergeFwdRefIdeal.τ).loc Cert.MergeFwdRefIdeal.main_arg3)
      ∧ r.2.mem ((c.tc : Thread Cert.MergeFwdRefIdeal.nD Cert.MergeFwdRefIdeal.τ).loc Cert.MergeFwdRefIdeal.main_arg4) = m ((c.tc : Thread Cert.MergeFwdRefIdeal.nD Cert.MergeFwdRefIdeal.τ).loc Cert.MergeFwdRefIdeal.main_arg4)
      ∧ r.2.mem ((c.tc : Thread Cert.MergeFwdRefIdeal.nD Cert.MergeFwdRefIdeal.τ).loc Cert.MergeFwdRefIdeal.main_arg5) = m ((c.tc : Thread Cert.MergeFwdRefIdeal.nD Cert.MergeFwdRefIdeal.τ).loc Cert.MergeFwdRefIdeal.main_arg5)
      ∧ r.2.mem ((c.tc : Thread Cert.MergeFwdRefIdeal.nD Cert.MergeFwdRefIdeal.τ).loc Cert.MergeFwdRefIdeal.main_arg6) = m ((c.tc : Thread Cert.MergeFwdRefIdeal.nD Cert.MergeFwdRefIdeal.τ).loc Cert.MergeFwdRefIdeal.main_arg6))
      ∧ r.2.sem = fun _ => 0)

def preserves_InBwd_InBwdIdeal : Prop :=
  True

def algebraic_InBwdIdeal_InBwdRefIdeal_pre_in_finite [hInBwdIdeal : Cert.InBwdIdeal.Facts] [hInBwdRefIdeal : Cert.InBwdRefIdeal.Facts] [hPre_in_finite : Cert.Pre_in_finite.Facts] : Prop :=
  ∀ (m : (ℓ : Loc Cert.InBwdIdeal.nD Cert.InBwdIdeal.τ Cert.InBwdIdeal.sig) → Buf (Elt Ideal) ℓ) (g : Dev Cert.InBwdIdeal.nD → PrngReg)
    (m' : (ℓ : Loc Cert.InBwdRefIdeal.nD Cert.InBwdRefIdeal.τ Cert.InBwdRefIdeal.sig) → Buf (Elt Ideal) ℓ) (g' : Dev Cert.InBwdRefIdeal.nD → PrngReg), Pre_InBwdIdeal_in_finite m →
    (∀ c : Dev Cert.InBwdIdeal.nD,
      m' ((c.tc : Thread Cert.InBwdRefIdeal.nD Cert.InBwdRefIdeal.τ).loc Cert.InBwdRefIdeal.main_arg0) = m ((c.tc : Thread Cert.InBwdIdeal.nD Cert.InBwdIdeal.τ).loc Cert.InBwdIdeal.main_arg0)
      ∧ m' ((c.tc : Thread Cert.InBwdRefIdeal.nD Cert.InBwdRefIdeal.τ).loc Cert.InBwdRefIdeal.main_arg1) = m ((c.tc : Thread Cert.InBwdIdeal.nD Cert.InBwdIdeal.τ).loc Cert.InBwdIdeal.main_arg1)
      ∧ m' ((c.tc : Thread Cert.InBwdRefIdeal.nD Cert.InBwdRefIdeal.τ).loc Cert.InBwdRefIdeal.main_arg2) = m ((c.tc : Thread Cert.InBwdIdeal.nD Cert.InBwdIdeal.τ).loc Cert.InBwdIdeal.main_arg2)
      ∧ m' ((c.tc : Thread Cert.InBwdRefIdeal.nD Cert.InBwdRefIdeal.τ).loc Cert.InBwdRefIdeal.main_arg3) = m ((c.tc : Thread Cert.InBwdIdeal.nD Cert.InBwdIdeal.τ).loc Cert.InBwdIdeal.main_arg3)
      ∧ m' ((c.tc : Thread Cert.InBwdRefIdeal.nD Cert.InBwdRefIdeal.τ).loc Cert.InBwdRefIdeal.main_arg4) = m ((c.tc : Thread Cert.InBwdIdeal.nD Cert.InBwdIdeal.τ).loc Cert.InBwdIdeal.main_arg4)) →
    ∃ (v0 : (c : Dev Cert.InBwdIdeal.nD) → Buf (Elt Ideal) ((c.tc : Thread Cert.InBwdIdeal.nD Cert.InBwdIdeal.τ).loc Cert.InBwdIdeal.main_v15_0)) (v1 : (c : Dev Cert.InBwdIdeal.nD) → Buf (Elt Ideal) ((c.tc : Thread Cert.InBwdIdeal.nD Cert.InBwdIdeal.τ).loc Cert.InBwdIdeal.main_v15_1)),
      θ_run (Cert.InBwdIdeal.defs (F := Ideal)) (onTc (τ := Cert.InBwdIdeal.τ) (Cert.InBwdIdeal.main (F := Ideal))) ⟨m, fun _ => 0, g⟩ (fun r => ∀ c : Dev Cert.InBwdIdeal.nD,
          r.2.mem ((c.tc : Thread Cert.InBwdIdeal.nD Cert.InBwdIdeal.τ).loc Cert.InBwdIdeal.main_v15_0) = v0 c
          ∧ r.2.mem ((c.tc : Thread Cert.InBwdIdeal.nD Cert.InBwdIdeal.τ).loc Cert.InBwdIdeal.main_v15_1) = v1 c
          ∧ r.2.mem ((c.tc : Thread Cert.InBwdIdeal.nD Cert.InBwdIdeal.τ).loc Cert.InBwdIdeal.main_arg0) = m ((c.tc : Thread Cert.InBwdIdeal.nD Cert.InBwdIdeal.τ).loc Cert.InBwdIdeal.main_arg0)
          ∧ r.2.mem ((c.tc : Thread Cert.InBwdIdeal.nD Cert.InBwdIdeal.τ).loc Cert.InBwdIdeal.main_arg1) = m ((c.tc : Thread Cert.InBwdIdeal.nD Cert.InBwdIdeal.τ).loc Cert.InBwdIdeal.main_arg1)
          ∧ r.2.mem ((c.tc : Thread Cert.InBwdIdeal.nD Cert.InBwdIdeal.τ).loc Cert.InBwdIdeal.main_arg2) = m ((c.tc : Thread Cert.InBwdIdeal.nD Cert.InBwdIdeal.τ).loc Cert.InBwdIdeal.main_arg2)
          ∧ r.2.mem ((c.tc : Thread Cert.InBwdIdeal.nD Cert.InBwdIdeal.τ).loc Cert.InBwdIdeal.main_arg3) = m ((c.tc : Thread Cert.InBwdIdeal.nD Cert.InBwdIdeal.τ).loc Cert.InBwdIdeal.main_arg3)
          ∧ r.2.mem ((c.tc : Thread Cert.InBwdIdeal.nD Cert.InBwdIdeal.τ).loc Cert.InBwdIdeal.main_arg4) = m ((c.tc : Thread Cert.InBwdIdeal.nD Cert.InBwdIdeal.τ).loc Cert.InBwdIdeal.main_arg4))
      ∧ θ_run (Cert.InBwdRefIdeal.defs (F := Ideal)) (onTc (τ := Cert.InBwdRefIdeal.τ) (Cert.InBwdRefIdeal.main (F := Ideal))) ⟨m', fun _ => 0, g'⟩ (fun r => ∀ c : Dev Cert.InBwdRefIdeal.nD,
          r.2.mem ((c.tc : Thread Cert.InBwdRefIdeal.nD Cert.InBwdRefIdeal.τ).loc Cert.InBwdRefIdeal.main_v40) = v0 c
          ∧ r.2.mem ((c.tc : Thread Cert.InBwdRefIdeal.nD Cert.InBwdRefIdeal.τ).loc Cert.InBwdRefIdeal.main_v41) = v1 c
          ∧ r.2.mem ((c.tc : Thread Cert.InBwdRefIdeal.nD Cert.InBwdRefIdeal.τ).loc Cert.InBwdRefIdeal.main_arg0) = m' ((c.tc : Thread Cert.InBwdRefIdeal.nD Cert.InBwdRefIdeal.τ).loc Cert.InBwdRefIdeal.main_arg0)
          ∧ r.2.mem ((c.tc : Thread Cert.InBwdRefIdeal.nD Cert.InBwdRefIdeal.τ).loc Cert.InBwdRefIdeal.main_arg1) = m' ((c.tc : Thread Cert.InBwdRefIdeal.nD Cert.InBwdRefIdeal.τ).loc Cert.InBwdRefIdeal.main_arg1)
          ∧ r.2.mem ((c.tc : Thread Cert.InBwdRefIdeal.nD Cert.InBwdRefIdeal.τ).loc Cert.InBwdRefIdeal.main_arg2) = m' ((c.tc : Thread Cert.InBwdRefIdeal.nD Cert.InBwdRefIdeal.τ).loc Cert.InBwdRefIdeal.main_arg2)
          ∧ r.2.mem ((c.tc : Thread Cert.InBwdRefIdeal.nD Cert.InBwdRefIdeal.τ).loc Cert.InBwdRefIdeal.main_arg3) = m' ((c.tc : Thread Cert.InBwdRefIdeal.nD Cert.InBwdRefIdeal.τ).loc Cert.InBwdRefIdeal.main_arg3)
          ∧ r.2.mem ((c.tc : Thread Cert.InBwdRefIdeal.nD Cert.InBwdRefIdeal.τ).loc Cert.InBwdRefIdeal.main_arg4) = m' ((c.tc : Thread Cert.InBwdRefIdeal.nD Cert.InBwdRefIdeal.τ).loc Cert.InBwdRefIdeal.main_arg4))

def preserves_AttnBwd_AttnBwdIdeal : Prop :=
  True

def algebraic_AttnBwdIdeal_AttnBwdRefIdeal_pre_attn_finite [hAttnBwdIdeal : Cert.AttnBwdIdeal.Facts] [hAttnBwdRefIdeal : Cert.AttnBwdRefIdeal.Facts] [hPre_attn_finite : Cert.Pre_attn_finite.Facts] : Prop :=
  ∀ (m : (ℓ : Loc Cert.AttnBwdIdeal.nD Cert.AttnBwdIdeal.τ Cert.AttnBwdIdeal.sig) → Buf (Elt Ideal) ℓ) (g : Dev Cert.AttnBwdIdeal.nD → PrngReg)
    (m' : (ℓ : Loc Cert.AttnBwdRefIdeal.nD Cert.AttnBwdRefIdeal.τ Cert.AttnBwdRefIdeal.sig) → Buf (Elt Ideal) ℓ) (g' : Dev Cert.AttnBwdRefIdeal.nD → PrngReg), Pre_AttnBwdIdeal_attn_finite m →
    (∀ c : Dev Cert.AttnBwdIdeal.nD,
      m' ((c.tc : Thread Cert.AttnBwdRefIdeal.nD Cert.AttnBwdRefIdeal.τ).loc Cert.AttnBwdRefIdeal.main_arg0) = m ((c.tc : Thread Cert.AttnBwdIdeal.nD Cert.AttnBwdIdeal.τ).loc Cert.AttnBwdIdeal.main_arg0)
      ∧ m' ((c.tc : Thread Cert.AttnBwdRefIdeal.nD Cert.AttnBwdRefIdeal.τ).loc Cert.AttnBwdRefIdeal.main_arg1) = m ((c.tc : Thread Cert.AttnBwdIdeal.nD Cert.AttnBwdIdeal.τ).loc Cert.AttnBwdIdeal.main_arg1)
      ∧ m' ((c.tc : Thread Cert.AttnBwdRefIdeal.nD Cert.AttnBwdRefIdeal.τ).loc Cert.AttnBwdRefIdeal.main_arg2) = m ((c.tc : Thread Cert.AttnBwdIdeal.nD Cert.AttnBwdIdeal.τ).loc Cert.AttnBwdIdeal.main_arg2)
      ∧ m' ((c.tc : Thread Cert.AttnBwdRefIdeal.nD Cert.AttnBwdRefIdeal.τ).loc Cert.AttnBwdRefIdeal.main_arg3) = m ((c.tc : Thread Cert.AttnBwdIdeal.nD Cert.AttnBwdIdeal.τ).loc Cert.AttnBwdIdeal.main_arg3)) →
    ∃ (v0 : (c : Dev Cert.AttnBwdIdeal.nD) → Buf (Elt Ideal) ((c.tc : Thread Cert.AttnBwdIdeal.nD Cert.AttnBwdIdeal.τ).loc Cert.AttnBwdIdeal.main_v30_0)) (v1 : (c : Dev Cert.AttnBwdIdeal.nD) → Buf (Elt Ideal) ((c.tc : Thread Cert.AttnBwdIdeal.nD Cert.AttnBwdIdeal.τ).loc Cert.AttnBwdIdeal.main_v30_1)) (v2 : (c : Dev Cert.AttnBwdIdeal.nD) → Buf (Elt Ideal) ((c.tc : Thread Cert.AttnBwdIdeal.nD Cert.AttnBwdIdeal.τ).loc Cert.AttnBwdIdeal.main_v30_2)),
      θ_run (Cert.AttnBwdIdeal.defs (F := Ideal)) (onTc (τ := Cert.AttnBwdIdeal.τ) (Cert.AttnBwdIdeal.main (F := Ideal))) ⟨m, fun _ => 0, g⟩ (fun r => ∀ c : Dev Cert.AttnBwdIdeal.nD,
          r.2.mem ((c.tc : Thread Cert.AttnBwdIdeal.nD Cert.AttnBwdIdeal.τ).loc Cert.AttnBwdIdeal.main_v30_0) = v0 c
          ∧ r.2.mem ((c.tc : Thread Cert.AttnBwdIdeal.nD Cert.AttnBwdIdeal.τ).loc Cert.AttnBwdIdeal.main_v30_1) = v1 c
          ∧ r.2.mem ((c.tc : Thread Cert.AttnBwdIdeal.nD Cert.AttnBwdIdeal.τ).loc Cert.AttnBwdIdeal.main_v30_2) = v2 c
          ∧ r.2.mem ((c.tc : Thread Cert.AttnBwdIdeal.nD Cert.AttnBwdIdeal.τ).loc Cert.AttnBwdIdeal.main_arg0) = m ((c.tc : Thread Cert.AttnBwdIdeal.nD Cert.AttnBwdIdeal.τ).loc Cert.AttnBwdIdeal.main_arg0)
          ∧ r.2.mem ((c.tc : Thread Cert.AttnBwdIdeal.nD Cert.AttnBwdIdeal.τ).loc Cert.AttnBwdIdeal.main_arg1) = m ((c.tc : Thread Cert.AttnBwdIdeal.nD Cert.AttnBwdIdeal.τ).loc Cert.AttnBwdIdeal.main_arg1)
          ∧ r.2.mem ((c.tc : Thread Cert.AttnBwdIdeal.nD Cert.AttnBwdIdeal.τ).loc Cert.AttnBwdIdeal.main_arg2) = m ((c.tc : Thread Cert.AttnBwdIdeal.nD Cert.AttnBwdIdeal.τ).loc Cert.AttnBwdIdeal.main_arg2)
          ∧ r.2.mem ((c.tc : Thread Cert.AttnBwdIdeal.nD Cert.AttnBwdIdeal.τ).loc Cert.AttnBwdIdeal.main_arg3) = m ((c.tc : Thread Cert.AttnBwdIdeal.nD Cert.AttnBwdIdeal.τ).loc Cert.AttnBwdIdeal.main_arg3))
      ∧ θ_run (Cert.AttnBwdRefIdeal.defs (F := Ideal)) (onTc (τ := Cert.AttnBwdRefIdeal.τ) (Cert.AttnBwdRefIdeal.main (F := Ideal))) ⟨m', fun _ => 0, g'⟩ (fun r => ∀ c : Dev Cert.AttnBwdRefIdeal.nD,
          r.2.mem ((c.tc : Thread Cert.AttnBwdRefIdeal.nD Cert.AttnBwdRefIdeal.τ).loc Cert.AttnBwdRefIdeal.main_v62) = v0 c
          ∧ r.2.mem ((c.tc : Thread Cert.AttnBwdRefIdeal.nD Cert.AttnBwdRefIdeal.τ).loc Cert.AttnBwdRefIdeal.main_v64) = v1 c
          ∧ r.2.mem ((c.tc : Thread Cert.AttnBwdRefIdeal.nD Cert.AttnBwdRefIdeal.τ).loc Cert.AttnBwdRefIdeal.main_v66) = v2 c
          ∧ r.2.mem ((c.tc : Thread Cert.AttnBwdRefIdeal.nD Cert.AttnBwdRefIdeal.τ).loc Cert.AttnBwdRefIdeal.main_arg0) = m' ((c.tc : Thread Cert.AttnBwdRefIdeal.nD Cert.AttnBwdRefIdeal.τ).loc Cert.AttnBwdRefIdeal.main_arg0)
          ∧ r.2.mem ((c.tc : Thread Cert.AttnBwdRefIdeal.nD Cert.AttnBwdRefIdeal.τ).loc Cert.AttnBwdRefIdeal.main_arg1) = m' ((c.tc : Thread Cert.AttnBwdRefIdeal.nD Cert.AttnBwdRefIdeal.τ).loc Cert.AttnBwdRefIdeal.main_arg1)
          ∧ r.2.mem ((c.tc : Thread Cert.AttnBwdRefIdeal.nD Cert.AttnBwdRefIdeal.τ).loc Cert.AttnBwdRefIdeal.main_arg2) = m' ((c.tc : Thread Cert.AttnBwdRefIdeal.nD Cert.AttnBwdRefIdeal.τ).loc Cert.AttnBwdRefIdeal.main_arg2)
          ∧ r.2.mem ((c.tc : Thread Cert.AttnBwdRefIdeal.nD Cert.AttnBwdRefIdeal.τ).loc Cert.AttnBwdRefIdeal.main_arg3) = m' ((c.tc : Thread Cert.AttnBwdRefIdeal.nD Cert.AttnBwdRefIdeal.τ).loc Cert.AttnBwdRefIdeal.main_arg3))

def preserves_MergeBwd_MergeBwdIdeal : Prop :=
  True

def algebraic_MergeBwdIdeal_MergeBwdRefIdeal_pre_merge_finite [hMergeBwdIdeal : Cert.MergeBwdIdeal.Facts] [hMergeBwdRefIdeal : Cert.MergeBwdRefIdeal.Facts] [hPre_merge_finite : Cert.Pre_merge_finite.Facts] : Prop :=
  ∀ (m : (ℓ : Loc Cert.MergeBwdIdeal.nD Cert.MergeBwdIdeal.τ Cert.MergeBwdIdeal.sig) → Buf (Elt Ideal) ℓ) (g : Dev Cert.MergeBwdIdeal.nD → PrngReg)
    (m' : (ℓ : Loc Cert.MergeBwdRefIdeal.nD Cert.MergeBwdRefIdeal.τ Cert.MergeBwdRefIdeal.sig) → Buf (Elt Ideal) ℓ) (g' : Dev Cert.MergeBwdRefIdeal.nD → PrngReg), Pre_MergeBwdIdeal_merge_finite m →
    (∀ c : Dev Cert.MergeBwdIdeal.nD,
      m' ((c.tc : Thread Cert.MergeBwdRefIdeal.nD Cert.MergeBwdRefIdeal.τ).loc Cert.MergeBwdRefIdeal.main_arg0) = m ((c.tc : Thread Cert.MergeBwdIdeal.nD Cert.MergeBwdIdeal.τ).loc Cert.MergeBwdIdeal.main_arg0)
      ∧ m' ((c.tc : Thread Cert.MergeBwdRefIdeal.nD Cert.MergeBwdRefIdeal.τ).loc Cert.MergeBwdRefIdeal.main_arg1) = m ((c.tc : Thread Cert.MergeBwdIdeal.nD Cert.MergeBwdIdeal.τ).loc Cert.MergeBwdIdeal.main_arg1)
      ∧ m' ((c.tc : Thread Cert.MergeBwdRefIdeal.nD Cert.MergeBwdRefIdeal.τ).loc Cert.MergeBwdRefIdeal.main_arg2) = m ((c.tc : Thread Cert.MergeBwdIdeal.nD Cert.MergeBwdIdeal.τ).loc Cert.MergeBwdIdeal.main_arg2)
      ∧ m' ((c.tc : Thread Cert.MergeBwdRefIdeal.nD Cert.MergeBwdRefIdeal.τ).loc Cert.MergeBwdRefIdeal.main_arg3) = m ((c.tc : Thread Cert.MergeBwdIdeal.nD Cert.MergeBwdIdeal.τ).loc Cert.MergeBwdIdeal.main_arg3)
      ∧ m' ((c.tc : Thread Cert.MergeBwdRefIdeal.nD Cert.MergeBwdRefIdeal.τ).loc Cert.MergeBwdRefIdeal.main_arg4) = m ((c.tc : Thread Cert.MergeBwdIdeal.nD Cert.MergeBwdIdeal.τ).loc Cert.MergeBwdIdeal.main_arg4)
      ∧ m' ((c.tc : Thread Cert.MergeBwdRefIdeal.nD Cert.MergeBwdRefIdeal.τ).loc Cert.MergeBwdRefIdeal.main_arg5) = m ((c.tc : Thread Cert.MergeBwdIdeal.nD Cert.MergeBwdIdeal.τ).loc Cert.MergeBwdIdeal.main_arg5)
      ∧ m' ((c.tc : Thread Cert.MergeBwdRefIdeal.nD Cert.MergeBwdRefIdeal.τ).loc Cert.MergeBwdRefIdeal.main_arg6) = m ((c.tc : Thread Cert.MergeBwdIdeal.nD Cert.MergeBwdIdeal.τ).loc Cert.MergeBwdIdeal.main_arg6)) →
    ∃ (v0 : (c : Dev Cert.MergeBwdIdeal.nD) → Buf (Elt Ideal) ((c.tc : Thread Cert.MergeBwdIdeal.nD Cert.MergeBwdIdeal.τ).loc Cert.MergeBwdIdeal.main_v29_0)) (v1 : (c : Dev Cert.MergeBwdIdeal.nD) → Buf (Elt Ideal) ((c.tc : Thread Cert.MergeBwdIdeal.nD Cert.MergeBwdIdeal.τ).loc Cert.MergeBwdIdeal.main_v29_1)) (v2 : (c : Dev Cert.MergeBwdIdeal.nD) → Buf (Elt Ideal) ((c.tc : Thread Cert.MergeBwdIdeal.nD Cert.MergeBwdIdeal.τ).loc Cert.MergeBwdIdeal.main_v29_2)) (v3 : (c : Dev Cert.MergeBwdIdeal.nD) → Buf (Elt Ideal) ((c.tc : Thread Cert.MergeBwdIdeal.nD Cert.MergeBwdIdeal.τ).loc Cert.MergeBwdIdeal.main_v29_3)) (v4 : (c : Dev Cert.MergeBwdIdeal.nD) → Buf (Elt Ideal) ((c.tc : Thread Cert.MergeBwdIdeal.nD Cert.MergeBwdIdeal.τ).loc Cert.MergeBwdIdeal.main_v29_4)),
      θ_run (Cert.MergeBwdIdeal.defs (F := Ideal)) (onTc (τ := Cert.MergeBwdIdeal.τ) (Cert.MergeBwdIdeal.main (F := Ideal))) ⟨m, fun _ => 0, g⟩ (fun r => ∀ c : Dev Cert.MergeBwdIdeal.nD,
          r.2.mem ((c.tc : Thread Cert.MergeBwdIdeal.nD Cert.MergeBwdIdeal.τ).loc Cert.MergeBwdIdeal.main_v29_0) = v0 c
          ∧ r.2.mem ((c.tc : Thread Cert.MergeBwdIdeal.nD Cert.MergeBwdIdeal.τ).loc Cert.MergeBwdIdeal.main_v29_1) = v1 c
          ∧ r.2.mem ((c.tc : Thread Cert.MergeBwdIdeal.nD Cert.MergeBwdIdeal.τ).loc Cert.MergeBwdIdeal.main_v29_2) = v2 c
          ∧ r.2.mem ((c.tc : Thread Cert.MergeBwdIdeal.nD Cert.MergeBwdIdeal.τ).loc Cert.MergeBwdIdeal.main_v29_3) = v3 c
          ∧ r.2.mem ((c.tc : Thread Cert.MergeBwdIdeal.nD Cert.MergeBwdIdeal.τ).loc Cert.MergeBwdIdeal.main_v29_4) = v4 c
          ∧ r.2.mem ((c.tc : Thread Cert.MergeBwdIdeal.nD Cert.MergeBwdIdeal.τ).loc Cert.MergeBwdIdeal.main_arg0) = m ((c.tc : Thread Cert.MergeBwdIdeal.nD Cert.MergeBwdIdeal.τ).loc Cert.MergeBwdIdeal.main_arg0)
          ∧ r.2.mem ((c.tc : Thread Cert.MergeBwdIdeal.nD Cert.MergeBwdIdeal.τ).loc Cert.MergeBwdIdeal.main_arg1) = m ((c.tc : Thread Cert.MergeBwdIdeal.nD Cert.MergeBwdIdeal.τ).loc Cert.MergeBwdIdeal.main_arg1)
          ∧ r.2.mem ((c.tc : Thread Cert.MergeBwdIdeal.nD Cert.MergeBwdIdeal.τ).loc Cert.MergeBwdIdeal.main_arg2) = m ((c.tc : Thread Cert.MergeBwdIdeal.nD Cert.MergeBwdIdeal.τ).loc Cert.MergeBwdIdeal.main_arg2)
          ∧ r.2.mem ((c.tc : Thread Cert.MergeBwdIdeal.nD Cert.MergeBwdIdeal.τ).loc Cert.MergeBwdIdeal.main_arg3) = m ((c.tc : Thread Cert.MergeBwdIdeal.nD Cert.MergeBwdIdeal.τ).loc Cert.MergeBwdIdeal.main_arg3)
          ∧ r.2.mem ((c.tc : Thread Cert.MergeBwdIdeal.nD Cert.MergeBwdIdeal.τ).loc Cert.MergeBwdIdeal.main_arg4) = m ((c.tc : Thread Cert.MergeBwdIdeal.nD Cert.MergeBwdIdeal.τ).loc Cert.MergeBwdIdeal.main_arg4)
          ∧ r.2.mem ((c.tc : Thread Cert.MergeBwdIdeal.nD Cert.MergeBwdIdeal.τ).loc Cert.MergeBwdIdeal.main_arg5) = m ((c.tc : Thread Cert.MergeBwdIdeal.nD Cert.MergeBwdIdeal.τ).loc Cert.MergeBwdIdeal.main_arg5)
          ∧ r.2.mem ((c.tc : Thread Cert.MergeBwdIdeal.nD Cert.MergeBwdIdeal.τ).loc Cert.MergeBwdIdeal.main_arg6) = m ((c.tc : Thread Cert.MergeBwdIdeal.nD Cert.MergeBwdIdeal.τ).loc Cert.MergeBwdIdeal.main_arg6))
      ∧ θ_run (Cert.MergeBwdRefIdeal.defs (F := Ideal)) (onTc (τ := Cert.MergeBwdRefIdeal.τ) (Cert.MergeBwdRefIdeal.main (F := Ideal))) ⟨m', fun _ => 0, g'⟩ (fun r => ∀ c : Dev Cert.MergeBwdRefIdeal.nD,
          r.2.mem ((c.tc : Thread Cert.MergeBwdRefIdeal.nD Cert.MergeBwdRefIdeal.τ).loc Cert.MergeBwdRefIdeal.main_v59) = v0 c
          ∧ r.2.mem ((c.tc : Thread Cert.MergeBwdRefIdeal.nD Cert.MergeBwdRefIdeal.τ).loc Cert.MergeBwdRefIdeal.main_v60) = v1 c
          ∧ r.2.mem ((c.tc : Thread Cert.MergeBwdRefIdeal.nD Cert.MergeBwdRefIdeal.τ).loc Cert.MergeBwdRefIdeal.main_v65) = v2 c
          ∧ r.2.mem ((c.tc : Thread Cert.MergeBwdRefIdeal.nD Cert.MergeBwdRefIdeal.τ).loc Cert.MergeBwdRefIdeal.main_v66) = v3 c
          ∧ r.2.mem ((c.tc : Thread Cert.MergeBwdRefIdeal.nD Cert.MergeBwdRefIdeal.τ).loc Cert.MergeBwdRefIdeal.main_v70) = v4 c
          ∧ r.2.mem ((c.tc : Thread Cert.MergeBwdRefIdeal.nD Cert.MergeBwdRefIdeal.τ).loc Cert.MergeBwdRefIdeal.main_arg0) = m' ((c.tc : Thread Cert.MergeBwdRefIdeal.nD Cert.MergeBwdRefIdeal.τ).loc Cert.MergeBwdRefIdeal.main_arg0)
          ∧ r.2.mem ((c.tc : Thread Cert.MergeBwdRefIdeal.nD Cert.MergeBwdRefIdeal.τ).loc Cert.MergeBwdRefIdeal.main_arg1) = m' ((c.tc : Thread Cert.MergeBwdRefIdeal.nD Cert.MergeBwdRefIdeal.τ).loc Cert.MergeBwdRefIdeal.main_arg1)
          ∧ r.2.mem ((c.tc : Thread Cert.MergeBwdRefIdeal.nD Cert.MergeBwdRefIdeal.τ).loc Cert.MergeBwdRefIdeal.main_arg2) = m' ((c.tc : Thread Cert.MergeBwdRefIdeal.nD Cert.MergeBwdRefIdeal.τ).loc Cert.MergeBwdRefIdeal.main_arg2)
          ∧ r.2.mem ((c.tc : Thread Cert.MergeBwdRefIdeal.nD Cert.MergeBwdRefIdeal.τ).loc Cert.MergeBwdRefIdeal.main_arg3) = m' ((c.tc : Thread Cert.MergeBwdRefIdeal.nD Cert.MergeBwdRefIdeal.τ).loc Cert.MergeBwdRefIdeal.main_arg3)
          ∧ r.2.mem ((c.tc : Thread Cert.MergeBwdRefIdeal.nD Cert.MergeBwdRefIdeal.τ).loc Cert.MergeBwdRefIdeal.main_arg4) = m' ((c.tc : Thread Cert.MergeBwdRefIdeal.nD Cert.MergeBwdRefIdeal.τ).loc Cert.MergeBwdRefIdeal.main_arg4)
          ∧ r.2.mem ((c.tc : Thread Cert.MergeBwdRefIdeal.nD Cert.MergeBwdRefIdeal.τ).loc Cert.MergeBwdRefIdeal.main_arg5) = m' ((c.tc : Thread Cert.MergeBwdRefIdeal.nD Cert.MergeBwdRefIdeal.τ).loc Cert.MergeBwdRefIdeal.main_arg5)
          ∧ r.2.mem ((c.tc : Thread Cert.MergeBwdRefIdeal.nD Cert.MergeBwdRefIdeal.τ).loc Cert.MergeBwdRefIdeal.main_arg6) = m' ((c.tc : Thread Cert.MergeBwdRefIdeal.nD Cert.MergeBwdRefIdeal.τ).loc Cert.MergeBwdRefIdeal.main_arg6))

def preserves_AttnPost_AttnPostIdeal : Prop :=
  True

def algebraic_AttnPostIdeal_AttnPostRefIdeal_pre_post_finite [hAttnPostIdeal : Cert.AttnPostIdeal.Facts] [hAttnPostRefIdeal : Cert.AttnPostRefIdeal.Facts] [hPre_post_finite : Cert.Pre_post_finite.Facts] : Prop :=
  ∀ (m : (ℓ : Loc Cert.AttnPostIdeal.nD Cert.AttnPostIdeal.τ Cert.AttnPostIdeal.sig) → Buf (Elt Ideal) ℓ) (g : Dev Cert.AttnPostIdeal.nD → PrngReg)
    (m' : (ℓ : Loc Cert.AttnPostRefIdeal.nD Cert.AttnPostRefIdeal.τ Cert.AttnPostRefIdeal.sig) → Buf (Elt Ideal) ℓ) (g' : Dev Cert.AttnPostRefIdeal.nD → PrngReg), Pre_AttnPostIdeal_post_finite m →
    (∀ c : Dev Cert.AttnPostIdeal.nD,
      m' ((c.tc : Thread Cert.AttnPostRefIdeal.nD Cert.AttnPostRefIdeal.τ).loc Cert.AttnPostRefIdeal.main_arg0) = m ((c.tc : Thread Cert.AttnPostIdeal.nD Cert.AttnPostIdeal.τ).loc Cert.AttnPostIdeal.main_arg0)
      ∧ m' ((c.tc : Thread Cert.AttnPostRefIdeal.nD Cert.AttnPostRefIdeal.τ).loc Cert.AttnPostRefIdeal.main_arg1) = m ((c.tc : Thread Cert.AttnPostIdeal.nD Cert.AttnPostIdeal.τ).loc Cert.AttnPostIdeal.main_arg1)
      ∧ m' ((c.tc : Thread Cert.AttnPostRefIdeal.nD Cert.AttnPostRefIdeal.τ).loc Cert.AttnPostRefIdeal.main_arg2) = m ((c.tc : Thread Cert.AttnPostIdeal.nD Cert.AttnPostIdeal.τ).loc Cert.AttnPostIdeal.main_arg2)
      ∧ m' ((c.tc : Thread Cert.AttnPostRefIdeal.nD Cert.AttnPostRefIdeal.τ).loc Cert.AttnPostRefIdeal.main_arg3) = m ((c.tc : Thread Cert.AttnPostIdeal.nD Cert.AttnPostIdeal.τ).loc Cert.AttnPostIdeal.main_arg3)
      ∧ m' ((c.tc : Thread Cert.AttnPostRefIdeal.nD Cert.AttnPostRefIdeal.τ).loc Cert.AttnPostRefIdeal.main_arg4) = m ((c.tc : Thread Cert.AttnPostIdeal.nD Cert.AttnPostIdeal.τ).loc Cert.AttnPostIdeal.main_arg4)
      ∧ m' ((c.tc : Thread Cert.AttnPostRefIdeal.nD Cert.AttnPostRefIdeal.τ).loc Cert.AttnPostRefIdeal.main_arg5) = m ((c.tc : Thread Cert.AttnPostIdeal.nD Cert.AttnPostIdeal.τ).loc Cert.AttnPostIdeal.main_arg5)) →
    ∃ (v0 : (c : Dev Cert.AttnPostIdeal.nD) → Buf (Elt Ideal) ((c.tc : Thread Cert.AttnPostIdeal.nD Cert.AttnPostIdeal.τ).loc Cert.AttnPostIdeal.main_v76_0)) (v1 : (c : Dev Cert.AttnPostIdeal.nD) → Buf (Elt Ideal) ((c.tc : Thread Cert.AttnPostIdeal.nD Cert.AttnPostIdeal.τ).loc Cert.AttnPostIdeal.main_v76_1)) (v2 : (c : Dev Cert.AttnPostIdeal.nD) → Buf (Elt Ideal) ((c.tc : Thread Cert.AttnPostIdeal.nD Cert.AttnPostIdeal.τ).loc Cert.AttnPostIdeal.main_v76_2)),
      θ_run (Cert.AttnPostIdeal.defs (F := Ideal)) (onTc (τ := Cert.AttnPostIdeal.τ) (Cert.AttnPostIdeal.main (F := Ideal))) ⟨m, fun _ => 0, g⟩ (fun r => ∀ c : Dev Cert.AttnPostIdeal.nD,
          r.2.mem ((c.tc : Thread Cert.AttnPostIdeal.nD Cert.AttnPostIdeal.τ).loc Cert.AttnPostIdeal.main_v76_0) = v0 c
          ∧ r.2.mem ((c.tc : Thread Cert.AttnPostIdeal.nD Cert.AttnPostIdeal.τ).loc Cert.AttnPostIdeal.main_v76_1) = v1 c
          ∧ r.2.mem ((c.tc : Thread Cert.AttnPostIdeal.nD Cert.AttnPostIdeal.τ).loc Cert.AttnPostIdeal.main_v76_2) = v2 c
          ∧ r.2.mem ((c.tc : Thread Cert.AttnPostIdeal.nD Cert.AttnPostIdeal.τ).loc Cert.AttnPostIdeal.main_arg0) = m ((c.tc : Thread Cert.AttnPostIdeal.nD Cert.AttnPostIdeal.τ).loc Cert.AttnPostIdeal.main_arg0)
          ∧ r.2.mem ((c.tc : Thread Cert.AttnPostIdeal.nD Cert.AttnPostIdeal.τ).loc Cert.AttnPostIdeal.main_arg1) = m ((c.tc : Thread Cert.AttnPostIdeal.nD Cert.AttnPostIdeal.τ).loc Cert.AttnPostIdeal.main_arg1)
          ∧ r.2.mem ((c.tc : Thread Cert.AttnPostIdeal.nD Cert.AttnPostIdeal.τ).loc Cert.AttnPostIdeal.main_arg2) = m ((c.tc : Thread Cert.AttnPostIdeal.nD Cert.AttnPostIdeal.τ).loc Cert.AttnPostIdeal.main_arg2)
          ∧ r.2.mem ((c.tc : Thread Cert.AttnPostIdeal.nD Cert.AttnPostIdeal.τ).loc Cert.AttnPostIdeal.main_arg3) = m ((c.tc : Thread Cert.AttnPostIdeal.nD Cert.AttnPostIdeal.τ).loc Cert.AttnPostIdeal.main_arg3)
          ∧ r.2.mem ((c.tc : Thread Cert.AttnPostIdeal.nD Cert.AttnPostIdeal.τ).loc Cert.AttnPostIdeal.main_arg4) = m ((c.tc : Thread Cert.AttnPostIdeal.nD Cert.AttnPostIdeal.τ).loc Cert.AttnPostIdeal.main_arg4)
          ∧ r.2.mem ((c.tc : Thread Cert.AttnPostIdeal.nD Cert.AttnPostIdeal.τ).loc Cert.AttnPostIdeal.main_arg5) = m ((c.tc : Thread Cert.AttnPostIdeal.nD Cert.AttnPostIdeal.τ).loc Cert.AttnPostIdeal.main_arg5))
      ∧ θ_run (Cert.AttnPostRefIdeal.defs (F := Ideal)) (onTc (τ := Cert.AttnPostRefIdeal.τ) (Cert.AttnPostRefIdeal.main (F := Ideal))) ⟨m', fun _ => 0, g'⟩ (fun r => ∀ c : Dev Cert.AttnPostRefIdeal.nD,
          r.2.mem ((c.tc : Thread Cert.AttnPostRefIdeal.nD Cert.AttnPostRefIdeal.τ).loc Cert.AttnPostRefIdeal.main_v214) = v0 c
          ∧ r.2.mem ((c.tc : Thread Cert.AttnPostRefIdeal.nD Cert.AttnPostRefIdeal.τ).loc Cert.AttnPostRefIdeal.main_v215) = v1 c
          ∧ r.2.mem ((c.tc : Thread Cert.AttnPostRefIdeal.nD Cert.AttnPostRefIdeal.τ).loc Cert.AttnPostRefIdeal.main_v216) = v2 c
          ∧ r.2.mem ((c.tc : Thread Cert.AttnPostRefIdeal.nD Cert.AttnPostRefIdeal.τ).loc Cert.AttnPostRefIdeal.main_arg0) = m' ((c.tc : Thread Cert.AttnPostRefIdeal.nD Cert.AttnPostRefIdeal.τ).loc Cert.AttnPostRefIdeal.main_arg0)
          ∧ r.2.mem ((c.tc : Thread Cert.AttnPostRefIdeal.nD Cert.AttnPostRefIdeal.τ).loc Cert.AttnPostRefIdeal.main_arg1) = m' ((c.tc : Thread Cert.AttnPostRefIdeal.nD Cert.AttnPostRefIdeal.τ).loc Cert.AttnPostRefIdeal.main_arg1)
          ∧ r.2.mem ((c.tc : Thread Cert.AttnPostRefIdeal.nD Cert.AttnPostRefIdeal.τ).loc Cert.AttnPostRefIdeal.main_arg2) = m' ((c.tc : Thread Cert.AttnPostRefIdeal.nD Cert.AttnPostRefIdeal.τ).loc Cert.AttnPostRefIdeal.main_arg2)
          ∧ r.2.mem ((c.tc : Thread Cert.AttnPostRefIdeal.nD Cert.AttnPostRefIdeal.τ).loc Cert.AttnPostRefIdeal.main_arg3) = m' ((c.tc : Thread Cert.AttnPostRefIdeal.nD Cert.AttnPostRefIdeal.τ).loc Cert.AttnPostRefIdeal.main_arg3)
          ∧ r.2.mem ((c.tc : Thread Cert.AttnPostRefIdeal.nD Cert.AttnPostRefIdeal.τ).loc Cert.AttnPostRefIdeal.main_arg4) = m' ((c.tc : Thread Cert.AttnPostRefIdeal.nD Cert.AttnPostRefIdeal.τ).loc Cert.AttnPostRefIdeal.main_arg4)
          ∧ r.2.mem ((c.tc : Thread Cert.AttnPostRefIdeal.nD Cert.AttnPostRefIdeal.τ).loc Cert.AttnPostRefIdeal.main_arg5) = m' ((c.tc : Thread Cert.AttnPostRefIdeal.nD Cert.AttnPostRefIdeal.τ).loc Cert.AttnPostRefIdeal.main_arg5))

def preserves_HeadBwd_HeadBwdIdeal : Prop :=
  True

def algebraic_HeadBwdIdeal_HeadBwdRefIdeal_pre_head_finite [hHeadBwdIdeal : Cert.HeadBwdIdeal.Facts] [hHeadBwdRefIdeal : Cert.HeadBwdRefIdeal.Facts] [hPre_head_finite : Cert.Pre_head_finite.Facts] : Prop :=
  ∀ (m : (ℓ : Loc Cert.HeadBwdIdeal.nD Cert.HeadBwdIdeal.τ Cert.HeadBwdIdeal.sig) → Buf (Elt Ideal) ℓ) (g : Dev Cert.HeadBwdIdeal.nD → PrngReg)
    (m' : (ℓ : Loc Cert.HeadBwdRefIdeal.nD Cert.HeadBwdRefIdeal.τ Cert.HeadBwdRefIdeal.sig) → Buf (Elt Ideal) ℓ) (g' : Dev Cert.HeadBwdRefIdeal.nD → PrngReg), Pre_HeadBwdIdeal_head_finite m →
    (∀ c : Dev Cert.HeadBwdIdeal.nD,
      m' ((c.tc : Thread Cert.HeadBwdRefIdeal.nD Cert.HeadBwdRefIdeal.τ).loc Cert.HeadBwdRefIdeal.main_arg0) = m ((c.tc : Thread Cert.HeadBwdIdeal.nD Cert.HeadBwdIdeal.τ).loc Cert.HeadBwdIdeal.main_arg0)
      ∧ m' ((c.tc : Thread Cert.HeadBwdRefIdeal.nD Cert.HeadBwdRefIdeal.τ).loc Cert.HeadBwdRefIdeal.main_arg1) = m ((c.tc : Thread Cert.HeadBwdIdeal.nD Cert.HeadBwdIdeal.τ).loc Cert.HeadBwdIdeal.main_arg1)
      ∧ m' ((c.tc : Thread Cert.HeadBwdRefIdeal.nD Cert.HeadBwdRefIdeal.τ).loc Cert.HeadBwdRefIdeal.main_arg2) = m ((c.tc : Thread Cert.HeadBwdIdeal.nD Cert.HeadBwdIdeal.τ).loc Cert.HeadBwdIdeal.main_arg2)
      ∧ m' ((c.tc : Thread Cert.HeadBwdRefIdeal.nD Cert.HeadBwdRefIdeal.τ).loc Cert.HeadBwdRefIdeal.main_arg3) = m ((c.tc : Thread Cert.HeadBwdIdeal.nD Cert.HeadBwdIdeal.τ).loc Cert.HeadBwdIdeal.main_arg3)
      ∧ m' ((c.tc : Thread Cert.HeadBwdRefIdeal.nD Cert.HeadBwdRefIdeal.τ).loc Cert.HeadBwdRefIdeal.main_arg4) = m ((c.tc : Thread Cert.HeadBwdIdeal.nD Cert.HeadBwdIdeal.τ).loc Cert.HeadBwdIdeal.main_arg4)
      ∧ m' ((c.tc : Thread Cert.HeadBwdRefIdeal.nD Cert.HeadBwdRefIdeal.τ).loc Cert.HeadBwdRefIdeal.main_arg5) = m ((c.tc : Thread Cert.HeadBwdIdeal.nD Cert.HeadBwdIdeal.τ).loc Cert.HeadBwdIdeal.main_arg5)
      ∧ m' ((c.tc : Thread Cert.HeadBwdRefIdeal.nD Cert.HeadBwdRefIdeal.τ).loc Cert.HeadBwdRefIdeal.main_arg6) = m ((c.tc : Thread Cert.HeadBwdIdeal.nD Cert.HeadBwdIdeal.τ).loc Cert.HeadBwdIdeal.main_arg6)
      ∧ m' ((c.tc : Thread Cert.HeadBwdRefIdeal.nD Cert.HeadBwdRefIdeal.τ).loc Cert.HeadBwdRefIdeal.main_arg7) = m ((c.tc : Thread Cert.HeadBwdIdeal.nD Cert.HeadBwdIdeal.τ).loc Cert.HeadBwdIdeal.main_arg7)
      ∧ m' ((c.tc : Thread Cert.HeadBwdRefIdeal.nD Cert.HeadBwdRefIdeal.τ).loc Cert.HeadBwdRefIdeal.main_arg8) = m ((c.tc : Thread Cert.HeadBwdIdeal.nD Cert.HeadBwdIdeal.τ).loc Cert.HeadBwdIdeal.main_arg8)) →
    ∃ (v0 : (c : Dev Cert.HeadBwdIdeal.nD) → Buf (Elt Ideal) ((c.tc : Thread Cert.HeadBwdIdeal.nD Cert.HeadBwdIdeal.τ).loc Cert.HeadBwdIdeal.main_v17_0)) (v1 : (c : Dev Cert.HeadBwdIdeal.nD) → Buf (Elt Ideal) ((c.tc : Thread Cert.HeadBwdIdeal.nD Cert.HeadBwdIdeal.τ).loc Cert.HeadBwdIdeal.main_v17_1)) (v2 : (c : Dev Cert.HeadBwdIdeal.nD) → Buf (Elt Ideal) ((c.tc : Thread Cert.HeadBwdIdeal.nD Cert.HeadBwdIdeal.τ).loc Cert.HeadBwdIdeal.main_v17_2)) (v3 : (c : Dev Cert.HeadBwdIdeal.nD) → Buf (Elt Ideal) ((c.tc : Thread Cert.HeadBwdIdeal.nD Cert.HeadBwdIdeal.τ).loc Cert.HeadBwdIdeal.main_v17_3)) (v4 : (c : Dev Cert.HeadBwdIdeal.nD) → Buf (Elt Ideal) ((c.tc : Thread Cert.HeadBwdIdeal.nD Cert.HeadBwdIdeal.τ).loc Cert.HeadBwdIdeal.main_v17_4)),
      θ_run (Cert.HeadBwdIdeal.defs (F := Ideal)) (onTc (τ := Cert.HeadBwdIdeal.τ) (Cert.HeadBwdIdeal.main (F := Ideal))) ⟨m, fun _ => 0, g⟩ (fun r => ∀ c : Dev Cert.HeadBwdIdeal.nD,
          r.2.mem ((c.tc : Thread Cert.HeadBwdIdeal.nD Cert.HeadBwdIdeal.τ).loc Cert.HeadBwdIdeal.main_v17_0) = v0 c
          ∧ r.2.mem ((c.tc : Thread Cert.HeadBwdIdeal.nD Cert.HeadBwdIdeal.τ).loc Cert.HeadBwdIdeal.main_v17_1) = v1 c
          ∧ r.2.mem ((c.tc : Thread Cert.HeadBwdIdeal.nD Cert.HeadBwdIdeal.τ).loc Cert.HeadBwdIdeal.main_v17_2) = v2 c
          ∧ r.2.mem ((c.tc : Thread Cert.HeadBwdIdeal.nD Cert.HeadBwdIdeal.τ).loc Cert.HeadBwdIdeal.main_v17_3) = v3 c
          ∧ r.2.mem ((c.tc : Thread Cert.HeadBwdIdeal.nD Cert.HeadBwdIdeal.τ).loc Cert.HeadBwdIdeal.main_v17_4) = v4 c
          ∧ r.2.mem ((c.tc : Thread Cert.HeadBwdIdeal.nD Cert.HeadBwdIdeal.τ).loc Cert.HeadBwdIdeal.main_arg0) = m ((c.tc : Thread Cert.HeadBwdIdeal.nD Cert.HeadBwdIdeal.τ).loc Cert.HeadBwdIdeal.main_arg0)
          ∧ r.2.mem ((c.tc : Thread Cert.HeadBwdIdeal.nD Cert.HeadBwdIdeal.τ).loc Cert.HeadBwdIdeal.main_arg1) = m ((c.tc : Thread Cert.HeadBwdIdeal.nD Cert.HeadBwdIdeal.τ).loc Cert.HeadBwdIdeal.main_arg1)
          ∧ r.2.mem ((c.tc : Thread Cert.HeadBwdIdeal.nD Cert.HeadBwdIdeal.τ).loc Cert.HeadBwdIdeal.main_arg2) = m ((c.tc : Thread Cert.HeadBwdIdeal.nD Cert.HeadBwdIdeal.τ).loc Cert.HeadBwdIdeal.main_arg2)
          ∧ r.2.mem ((c.tc : Thread Cert.HeadBwdIdeal.nD Cert.HeadBwdIdeal.τ).loc Cert.HeadBwdIdeal.main_arg3) = m ((c.tc : Thread Cert.HeadBwdIdeal.nD Cert.HeadBwdIdeal.τ).loc Cert.HeadBwdIdeal.main_arg3)
          ∧ r.2.mem ((c.tc : Thread Cert.HeadBwdIdeal.nD Cert.HeadBwdIdeal.τ).loc Cert.HeadBwdIdeal.main_arg4) = m ((c.tc : Thread Cert.HeadBwdIdeal.nD Cert.HeadBwdIdeal.τ).loc Cert.HeadBwdIdeal.main_arg4)
          ∧ r.2.mem ((c.tc : Thread Cert.HeadBwdIdeal.nD Cert.HeadBwdIdeal.τ).loc Cert.HeadBwdIdeal.main_arg5) = m ((c.tc : Thread Cert.HeadBwdIdeal.nD Cert.HeadBwdIdeal.τ).loc Cert.HeadBwdIdeal.main_arg5)
          ∧ r.2.mem ((c.tc : Thread Cert.HeadBwdIdeal.nD Cert.HeadBwdIdeal.τ).loc Cert.HeadBwdIdeal.main_arg6) = m ((c.tc : Thread Cert.HeadBwdIdeal.nD Cert.HeadBwdIdeal.τ).loc Cert.HeadBwdIdeal.main_arg6)
          ∧ r.2.mem ((c.tc : Thread Cert.HeadBwdIdeal.nD Cert.HeadBwdIdeal.τ).loc Cert.HeadBwdIdeal.main_arg7) = m ((c.tc : Thread Cert.HeadBwdIdeal.nD Cert.HeadBwdIdeal.τ).loc Cert.HeadBwdIdeal.main_arg7)
          ∧ r.2.mem ((c.tc : Thread Cert.HeadBwdIdeal.nD Cert.HeadBwdIdeal.τ).loc Cert.HeadBwdIdeal.main_arg8) = m ((c.tc : Thread Cert.HeadBwdIdeal.nD Cert.HeadBwdIdeal.τ).loc Cert.HeadBwdIdeal.main_arg8))
      ∧ θ_run (Cert.HeadBwdRefIdeal.defs (F := Ideal)) (onTc (τ := Cert.HeadBwdRefIdeal.τ) (Cert.HeadBwdRefIdeal.main (F := Ideal))) ⟨m', fun _ => 0, g'⟩ (fun r => ∀ c : Dev Cert.HeadBwdRefIdeal.nD,
          r.2.mem ((c.tc : Thread Cert.HeadBwdRefIdeal.nD Cert.HeadBwdRefIdeal.τ).loc Cert.HeadBwdRefIdeal.main_v83) = v0 c
          ∧ r.2.mem ((c.tc : Thread Cert.HeadBwdRefIdeal.nD Cert.HeadBwdRefIdeal.τ).loc Cert.HeadBwdRefIdeal.main_v85) = v1 c
          ∧ r.2.mem ((c.tc : Thread Cert.HeadBwdRefIdeal.nD Cert.HeadBwdRefIdeal.τ).loc Cert.HeadBwdRefIdeal.main_v87) = v2 c
          ∧ r.2.mem ((c.tc : Thread Cert.HeadBwdRefIdeal.nD Cert.HeadBwdRefIdeal.τ).loc Cert.HeadBwdRefIdeal.main_v88) = v3 c
          ∧ r.2.mem ((c.tc : Thread Cert.HeadBwdRefIdeal.nD Cert.HeadBwdRefIdeal.τ).loc Cert.HeadBwdRefIdeal.main_v89) = v4 c
          ∧ r.2.mem ((c.tc : Thread Cert.HeadBwdRefIdeal.nD Cert.HeadBwdRefIdeal.τ).loc Cert.HeadBwdRefIdeal.main_arg0) = m' ((c.tc : Thread Cert.HeadBwdRefIdeal.nD Cert.HeadBwdRefIdeal.τ).loc Cert.HeadBwdRefIdeal.main_arg0)
          ∧ r.2.mem ((c.tc : Thread Cert.HeadBwdRefIdeal.nD Cert.HeadBwdRefIdeal.τ).loc Cert.HeadBwdRefIdeal.main_arg1) = m' ((c.tc : Thread Cert.HeadBwdRefIdeal.nD Cert.HeadBwdRefIdeal.τ).loc Cert.HeadBwdRefIdeal.main_arg1)
          ∧ r.2.mem ((c.tc : Thread Cert.HeadBwdRefIdeal.nD Cert.HeadBwdRefIdeal.τ).loc Cert.HeadBwdRefIdeal.main_arg2) = m' ((c.tc : Thread Cert.HeadBwdRefIdeal.nD Cert.HeadBwdRefIdeal.τ).loc Cert.HeadBwdRefIdeal.main_arg2)
          ∧ r.2.mem ((c.tc : Thread Cert.HeadBwdRefIdeal.nD Cert.HeadBwdRefIdeal.τ).loc Cert.HeadBwdRefIdeal.main_arg3) = m' ((c.tc : Thread Cert.HeadBwdRefIdeal.nD Cert.HeadBwdRefIdeal.τ).loc Cert.HeadBwdRefIdeal.main_arg3)
          ∧ r.2.mem ((c.tc : Thread Cert.HeadBwdRefIdeal.nD Cert.HeadBwdRefIdeal.τ).loc Cert.HeadBwdRefIdeal.main_arg4) = m' ((c.tc : Thread Cert.HeadBwdRefIdeal.nD Cert.HeadBwdRefIdeal.τ).loc Cert.HeadBwdRefIdeal.main_arg4)
          ∧ r.2.mem ((c.tc : Thread Cert.HeadBwdRefIdeal.nD Cert.HeadBwdRefIdeal.τ).loc Cert.HeadBwdRefIdeal.main_arg5) = m' ((c.tc : Thread Cert.HeadBwdRefIdeal.nD Cert.HeadBwdRefIdeal.τ).loc Cert.HeadBwdRefIdeal.main_arg5)
          ∧ r.2.mem ((c.tc : Thread Cert.HeadBwdRefIdeal.nD Cert.HeadBwdRefIdeal.τ).loc Cert.HeadBwdRefIdeal.main_arg6) = m' ((c.tc : Thread Cert.HeadBwdRefIdeal.nD Cert.HeadBwdRefIdeal.τ).loc Cert.HeadBwdRefIdeal.main_arg6)
          ∧ r.2.mem ((c.tc : Thread Cert.HeadBwdRefIdeal.nD Cert.HeadBwdRefIdeal.τ).loc Cert.HeadBwdRefIdeal.main_arg7) = m' ((c.tc : Thread Cert.HeadBwdRefIdeal.nD Cert.HeadBwdRefIdeal.τ).loc Cert.HeadBwdRefIdeal.main_arg7)
          ∧ r.2.mem ((c.tc : Thread Cert.HeadBwdRefIdeal.nD Cert.HeadBwdRefIdeal.τ).loc Cert.HeadBwdRefIdeal.main_arg8) = m' ((c.tc : Thread Cert.HeadBwdRefIdeal.nD Cert.HeadBwdRefIdeal.τ).loc Cert.HeadBwdRefIdeal.main_arg8))

def preserves_AttnFwd_AttnFwdIdeal : Prop :=
  True

def algebraic_AttnFwdIdeal_AttnFwdRefIdeal_pre_attnf_finite [hAttnFwdIdeal : Cert.AttnFwdIdeal.Facts] [hAttnFwdRefIdeal : Cert.AttnFwdRefIdeal.Facts] [hPre_attnf_finite : Cert.Pre_attnf_finite.Facts] : Prop :=
  ∀ (m : (ℓ : Loc Cert.AttnFwdIdeal.nD Cert.AttnFwdIdeal.τ Cert.AttnFwdIdeal.sig) → Buf (Elt Ideal) ℓ) (g : Dev Cert.AttnFwdIdeal.nD → PrngReg)
    (m' : (ℓ : Loc Cert.AttnFwdRefIdeal.nD Cert.AttnFwdRefIdeal.τ Cert.AttnFwdRefIdeal.sig) → Buf (Elt Ideal) ℓ) (g' : Dev Cert.AttnFwdRefIdeal.nD → PrngReg), Pre_AttnFwdIdeal_attnf_finite m →
    (∀ c : Dev Cert.AttnFwdIdeal.nD,
      m' ((c.tc : Thread Cert.AttnFwdRefIdeal.nD Cert.AttnFwdRefIdeal.τ).loc Cert.AttnFwdRefIdeal.main_arg0) = m ((c.tc : Thread Cert.AttnFwdIdeal.nD Cert.AttnFwdIdeal.τ).loc Cert.AttnFwdIdeal.main_arg0)
      ∧ m' ((c.tc : Thread Cert.AttnFwdRefIdeal.nD Cert.AttnFwdRefIdeal.τ).loc Cert.AttnFwdRefIdeal.main_arg1) = m ((c.tc : Thread Cert.AttnFwdIdeal.nD Cert.AttnFwdIdeal.τ).loc Cert.AttnFwdIdeal.main_arg1)
      ∧ m' ((c.tc : Thread Cert.AttnFwdRefIdeal.nD Cert.AttnFwdRefIdeal.τ).loc Cert.AttnFwdRefIdeal.main_arg2) = m ((c.tc : Thread Cert.AttnFwdIdeal.nD Cert.AttnFwdIdeal.τ).loc Cert.AttnFwdIdeal.main_arg2)) →
    ∃ (v0 : (c : Dev Cert.AttnFwdIdeal.nD) → Buf (Elt Ideal) ((c.tc : Thread Cert.AttnFwdIdeal.nD Cert.AttnFwdIdeal.τ).loc Cert.AttnFwdIdeal.main_v14_0)) (v1 : (c : Dev Cert.AttnFwdIdeal.nD) → Buf (Elt Ideal) ((c.tc : Thread Cert.AttnFwdIdeal.nD Cert.AttnFwdIdeal.τ).loc Cert.AttnFwdIdeal.main_v14_1)),
      θ_run (Cert.AttnFwdIdeal.defs (F := Ideal)) (onTc (τ := Cert.AttnFwdIdeal.τ) (Cert.AttnFwdIdeal.main (F := Ideal))) ⟨m, fun _ => 0, g⟩ (fun r => ∀ c : Dev Cert.AttnFwdIdeal.nD,
          r.2.mem ((c.tc : Thread Cert.AttnFwdIdeal.nD Cert.AttnFwdIdeal.τ).loc Cert.AttnFwdIdeal.main_v14_0) = v0 c
          ∧ r.2.mem ((c.tc : Thread Cert.AttnFwdIdeal.nD Cert.AttnFwdIdeal.τ).loc Cert.AttnFwdIdeal.main_v14_1) = v1 c
          ∧ r.2.mem ((c.tc : Thread Cert.AttnFwdIdeal.nD Cert.AttnFwdIdeal.τ).loc Cert.AttnFwdIdeal.main_arg0) = m ((c.tc : Thread Cert.AttnFwdIdeal.nD Cert.AttnFwdIdeal.τ).loc Cert.AttnFwdIdeal.main_arg0)
          ∧ r.2.mem ((c.tc : Thread Cert.AttnFwdIdeal.nD Cert.AttnFwdIdeal.τ).loc Cert.AttnFwdIdeal.main_arg1) = m ((c.tc : Thread Cert.AttnFwdIdeal.nD Cert.AttnFwdIdeal.τ).loc Cert.AttnFwdIdeal.main_arg1)
          ∧ r.2.mem ((c.tc : Thread Cert.AttnFwdIdeal.nD Cert.AttnFwdIdeal.τ).loc Cert.AttnFwdIdeal.main_arg2) = m ((c.tc : Thread Cert.AttnFwdIdeal.nD Cert.AttnFwdIdeal.τ).loc Cert.AttnFwdIdeal.main_arg2))
      ∧ θ_run (Cert.AttnFwdRefIdeal.defs (F := Ideal)) (onTc (τ := Cert.AttnFwdRefIdeal.τ) (Cert.AttnFwdRefIdeal.main (F := Ideal))) ⟨m', fun _ => 0, g'⟩ (fun r => ∀ c : Dev Cert.AttnFwdRefIdeal.nD,
          r.2.mem ((c.tc : Thread Cert.AttnFwdRefIdeal.nD Cert.AttnFwdRefIdeal.τ).loc Cert.AttnFwdRefIdeal.main_v27) = v0 c
          ∧ r.2.mem ((c.tc : Thread Cert.AttnFwdRefIdeal.nD Cert.AttnFwdRefIdeal.τ).loc Cert.AttnFwdRefIdeal.main_v28) = v1 c
          ∧ r.2.mem ((c.tc : Thread Cert.AttnFwdRefIdeal.nD Cert.AttnFwdRefIdeal.τ).loc Cert.AttnFwdRefIdeal.main_arg0) = m' ((c.tc : Thread Cert.AttnFwdRefIdeal.nD Cert.AttnFwdRefIdeal.τ).loc Cert.AttnFwdRefIdeal.main_arg0)
          ∧ r.2.mem ((c.tc : Thread Cert.AttnFwdRefIdeal.nD Cert.AttnFwdRefIdeal.τ).loc Cert.AttnFwdRefIdeal.main_arg1) = m' ((c.tc : Thread Cert.AttnFwdRefIdeal.nD Cert.AttnFwdRefIdeal.τ).loc Cert.AttnFwdRefIdeal.main_arg1)
          ∧ r.2.mem ((c.tc : Thread Cert.AttnFwdRefIdeal.nD Cert.AttnFwdRefIdeal.τ).loc Cert.AttnFwdRefIdeal.main_arg2) = m' ((c.tc : Thread Cert.AttnFwdRefIdeal.nD Cert.AttnFwdRefIdeal.τ).loc Cert.AttnFwdRefIdeal.main_arg2))

def preserves_MergeFwd_MergeFwdIdeal : Prop :=
  True

def algebraic_MergeFwdIdeal_MergeFwdRefIdeal [hMergeFwdIdeal : Cert.MergeFwdIdeal.Facts] [hMergeFwdRefIdeal : Cert.MergeFwdRefIdeal.Facts] : Prop :=
  ∀ (m : (ℓ : Loc Cert.MergeFwdIdeal.nD Cert.MergeFwdIdeal.τ Cert.MergeFwdIdeal.sig) → Buf (Elt Ideal) ℓ) (g : Dev Cert.MergeFwdIdeal.nD → PrngReg)
    (m' : (ℓ : Loc Cert.MergeFwdRefIdeal.nD Cert.MergeFwdRefIdeal.τ Cert.MergeFwdRefIdeal.sig) → Buf (Elt Ideal) ℓ) (g' : Dev Cert.MergeFwdRefIdeal.nD → PrngReg), Pre_MergeFwdIdeal m →
    (∀ c : Dev Cert.MergeFwdIdeal.nD,
      m' ((c.tc : Thread Cert.MergeFwdRefIdeal.nD Cert.MergeFwdRefIdeal.τ).loc Cert.MergeFwdRefIdeal.main_arg0) = m ((c.tc : Thread Cert.MergeFwdIdeal.nD Cert.MergeFwdIdeal.τ).loc Cert.MergeFwdIdeal.main_arg0)
      ∧ m' ((c.tc : Thread Cert.MergeFwdRefIdeal.nD Cert.MergeFwdRefIdeal.τ).loc Cert.MergeFwdRefIdeal.main_arg1) = m ((c.tc : Thread Cert.MergeFwdIdeal.nD Cert.MergeFwdIdeal.τ).loc Cert.MergeFwdIdeal.main_arg1)
      ∧ m' ((c.tc : Thread Cert.MergeFwdRefIdeal.nD Cert.MergeFwdRefIdeal.τ).loc Cert.MergeFwdRefIdeal.main_arg2) = m ((c.tc : Thread Cert.MergeFwdIdeal.nD Cert.MergeFwdIdeal.τ).loc Cert.MergeFwdIdeal.main_arg2)
      ∧ m' ((c.tc : Thread Cert.MergeFwdRefIdeal.nD Cert.MergeFwdRefIdeal.τ).loc Cert.MergeFwdRefIdeal.main_arg3) = m ((c.tc : Thread Cert.MergeFwdIdeal.nD Cert.MergeFwdIdeal.τ).loc Cert.MergeFwdIdeal.main_arg3)
      ∧ m' ((c.tc : Thread Cert.MergeFwdRefIdeal.nD Cert.MergeFwdRefIdeal.τ).loc Cert.MergeFwdRefIdeal.main_arg4) = m ((c.tc : Thread Cert.MergeFwdIdeal.nD Cert.MergeFwdIdeal.τ).loc Cert.MergeFwdIdeal.main_arg4)
      ∧ m' ((c.tc : Thread Cert.MergeFwdRefIdeal.nD Cert.MergeFwdRefIdeal.τ).loc Cert.MergeFwdRefIdeal.main_arg5) = m ((c.tc : Thread Cert.MergeFwdIdeal.nD Cert.MergeFwdIdeal.τ).loc Cert.MergeFwdIdeal.main_arg5)
      ∧ m' ((c.tc : Thread Cert.MergeFwdRefIdeal.nD Cert.MergeFwdRefIdeal.τ).loc Cert.MergeFwdRefIdeal.main_arg6) = m ((c.tc : Thread Cert.MergeFwdIdeal.nD Cert.MergeFwdIdeal.τ).loc Cert.MergeFwdIdeal.main_arg6)) →
    ∃ (v0 : (c : Dev Cert.MergeFwdIdeal.nD) → Buf (Elt Ideal) ((c.tc : Thread Cert.MergeFwdIdeal.nD Cert.MergeFwdIdeal.τ).loc Cert.MergeFwdIdeal.main_v15_0)) (v1 : (c : Dev Cert.MergeFwdIdeal.nD) → Buf (Elt Ideal) ((c.tc : Thread Cert.MergeFwdIdeal.nD Cert.MergeFwdIdeal.τ).loc Cert.MergeFwdIdeal.main_v15_1)) (v2 : (c : Dev Cert.MergeFwdIdeal.nD) → Buf (Elt Ideal) ((c.tc : Thread Cert.MergeFwdIdeal.nD Cert.MergeFwdIdeal.τ).loc Cert.MergeFwdIdeal.main_v15_2)),
      θ_run (Cert.MergeFwdIdeal.defs (F := Ideal)) (onTc (τ := Cert.MergeFwdIdeal.τ) (Cert.MergeFwdIdeal.main (F := Ideal))) ⟨m, fun _ => 0, g⟩ (fun r => ∀ c : Dev Cert.MergeFwdIdeal.nD,
          r.2.mem ((c.tc : Thread Cert.MergeFwdIdeal.nD Cert.MergeFwdIdeal.τ).loc Cert.MergeFwdIdeal.main_v15_0) = v0 c
          ∧ r.2.mem ((c.tc : Thread Cert.MergeFwdIdeal.nD Cert.MergeFwdIdeal.τ).loc Cert.MergeFwdIdeal.main_v15_1) = v1 c
          ∧ r.2.mem ((c.tc : Thread Cert.MergeFwdIdeal.nD Cert.MergeFwdIdeal.τ).loc Cert.MergeFwdIdeal.main_v15_2) = v2 c
          ∧ r.2.mem ((c.tc : Thread Cert.MergeFwdIdeal.nD Cert.MergeFwdIdeal.τ).loc Cert.MergeFwdIdeal.main_arg0) = m ((c.tc : Thread Cert.MergeFwdIdeal.nD Cert.MergeFwdIdeal.τ).loc Cert.MergeFwdIdeal.main_arg0)
          ∧ r.2.mem ((c.tc : Thread Cert.MergeFwdIdeal.nD Cert.MergeFwdIdeal.τ).loc Cert.MergeFwdIdeal.main_arg1) = m ((c.tc : Thread Cert.MergeFwdIdeal.nD Cert.MergeFwdIdeal.τ).loc Cert.MergeFwdIdeal.main_arg1)
          ∧ r.2.mem ((c.tc : Thread Cert.MergeFwdIdeal.nD Cert.MergeFwdIdeal.τ).loc Cert.MergeFwdIdeal.main_arg2) = m ((c.tc : Thread Cert.MergeFwdIdeal.nD Cert.MergeFwdIdeal.τ).loc Cert.MergeFwdIdeal.main_arg2)
          ∧ r.2.mem ((c.tc : Thread Cert.MergeFwdIdeal.nD Cert.MergeFwdIdeal.τ).loc Cert.MergeFwdIdeal.main_arg3) = m ((c.tc : Thread Cert.MergeFwdIdeal.nD Cert.MergeFwdIdeal.τ).loc Cert.MergeFwdIdeal.main_arg3)
          ∧ r.2.mem ((c.tc : Thread Cert.MergeFwdIdeal.nD Cert.MergeFwdIdeal.τ).loc Cert.MergeFwdIdeal.main_arg4) = m ((c.tc : Thread Cert.MergeFwdIdeal.nD Cert.MergeFwdIdeal.τ).loc Cert.MergeFwdIdeal.main_arg4)
          ∧ r.2.mem ((c.tc : Thread Cert.MergeFwdIdeal.nD Cert.MergeFwdIdeal.τ).loc Cert.MergeFwdIdeal.main_arg5) = m ((c.tc : Thread Cert.MergeFwdIdeal.nD Cert.MergeFwdIdeal.τ).loc Cert.MergeFwdIdeal.main_arg5)
          ∧ r.2.mem ((c.tc : Thread Cert.MergeFwdIdeal.nD Cert.MergeFwdIdeal.τ).loc Cert.MergeFwdIdeal.main_arg6) = m ((c.tc : Thread Cert.MergeFwdIdeal.nD Cert.MergeFwdIdeal.τ).loc Cert.MergeFwdIdeal.main_arg6))
      ∧ θ_run (Cert.MergeFwdRefIdeal.defs (F := Ideal)) (onTc (τ := Cert.MergeFwdRefIdeal.τ) (Cert.MergeFwdRefIdeal.main (F := Ideal))) ⟨m', fun _ => 0, g'⟩ (fun r => ∀ c : Dev Cert.MergeFwdRefIdeal.nD,
          r.2.mem ((c.tc : Thread Cert.MergeFwdRefIdeal.nD Cert.MergeFwdRefIdeal.τ).loc Cert.MergeFwdRefIdeal.main_v31) = v0 c
          ∧ r.2.mem ((c.tc : Thread Cert.MergeFwdRefIdeal.nD Cert.MergeFwdRefIdeal.τ).loc Cert.MergeFwdRefIdeal.main_v33) = v1 c
          ∧ r.2.mem ((c.tc : Thread Cert.MergeFwdRefIdeal.nD Cert.MergeFwdRefIdeal.τ).loc Cert.MergeFwdRefIdeal.main_v35) = v2 c
          ∧ r.2.mem ((c.tc : Thread Cert.MergeFwdRefIdeal.nD Cert.MergeFwdRefIdeal.τ).loc Cert.MergeFwdRefIdeal.main_arg0) = m' ((c.tc : Thread Cert.MergeFwdRefIdeal.nD Cert.MergeFwdRefIdeal.τ).loc Cert.MergeFwdRefIdeal.main_arg0)
          ∧ r.2.mem ((c.tc : Thread Cert.MergeFwdRefIdeal.nD Cert.MergeFwdRefIdeal.τ).loc Cert.MergeFwdRefIdeal.main_arg1) = m' ((c.tc : Thread Cert.MergeFwdRefIdeal.nD Cert.MergeFwdRefIdeal.τ).loc Cert.MergeFwdRefIdeal.main_arg1)
          ∧ r.2.mem ((c.tc : Thread Cert.MergeFwdRefIdeal.nD Cert.MergeFwdRefIdeal.τ).loc Cert.MergeFwdRefIdeal.main_arg2) = m' ((c.tc : Thread Cert.MergeFwdRefIdeal.nD Cert.MergeFwdRefIdeal.τ).loc Cert.MergeFwdRefIdeal.main_arg2)
          ∧ r.2.mem ((c.tc : Thread Cert.MergeFwdRefIdeal.nD Cert.MergeFwdRefIdeal.τ).loc Cert.MergeFwdRefIdeal.main_arg3) = m' ((c.tc : Thread Cert.MergeFwdRefIdeal.nD Cert.MergeFwdRefIdeal.τ).loc Cert.MergeFwdRefIdeal.main_arg3)
          ∧ r.2.mem ((c.tc : Thread Cert.MergeFwdRefIdeal.nD Cert.MergeFwdRefIdeal.τ).loc Cert.MergeFwdRefIdeal.main_arg4) = m' ((c.tc : Thread Cert.MergeFwdRefIdeal.nD Cert.MergeFwdRefIdeal.τ).loc Cert.MergeFwdRefIdeal.main_arg4)
          ∧ r.2.mem ((c.tc : Thread Cert.MergeFwdRefIdeal.nD Cert.MergeFwdRefIdeal.τ).loc Cert.MergeFwdRefIdeal.main_arg5) = m' ((c.tc : Thread Cert.MergeFwdRefIdeal.nD Cert.MergeFwdRefIdeal.τ).loc Cert.MergeFwdRefIdeal.main_arg5)
          ∧ r.2.mem ((c.tc : Thread Cert.MergeFwdRefIdeal.nD Cert.MergeFwdRefIdeal.τ).loc Cert.MergeFwdRefIdeal.main_arg6) = m' ((c.tc : Thread Cert.MergeFwdRefIdeal.nD Cert.MergeFwdRefIdeal.τ).loc Cert.MergeFwdRefIdeal.main_arg6))

def Claim : Prop :=
  ∃ (hInBwd : Cert.InBwd.Facts) (hInBwdIdeal : Cert.InBwdIdeal.Facts) (hInBwdRefIdeal : Cert.InBwdRefIdeal.Facts) (hAttnBwd : Cert.AttnBwd.Facts) (hAttnBwdIdeal : Cert.AttnBwdIdeal.Facts) (hAttnBwdRefIdeal : Cert.AttnBwdRefIdeal.Facts) (hMergeBwd : Cert.MergeBwd.Facts) (hMergeBwdIdeal : Cert.MergeBwdIdeal.Facts) (hMergeBwdRefIdeal : Cert.MergeBwdRefIdeal.Facts) (hAttnPost : Cert.AttnPost.Facts) (hAttnPostIdeal : Cert.AttnPostIdeal.Facts) (hAttnPostRefIdeal : Cert.AttnPostRefIdeal.Facts) (hHeadBwd : Cert.HeadBwd.Facts) (hHeadBwdIdeal : Cert.HeadBwdIdeal.Facts) (hHeadBwdRefIdeal : Cert.HeadBwdRefIdeal.Facts) (hAttnFwd : Cert.AttnFwd.Facts) (hAttnFwdIdeal : Cert.AttnFwdIdeal.Facts) (hAttnFwdRefIdeal : Cert.AttnFwdRefIdeal.Facts) (hMergeFwd : Cert.MergeFwd.Facts) (hMergeFwdIdeal : Cert.MergeFwdIdeal.Facts) (hMergeFwdRefIdeal : Cert.MergeFwdRefIdeal.Facts) (hPre_in_finite : Cert.Pre_in_finite.Facts) (hPre_attn_finite : Cert.Pre_attn_finite.Facts) (hPre_merge_finite : Cert.Pre_merge_finite.Facts) (hPre_post_finite : Cert.Pre_post_finite.Facts) (hPre_head_finite : Cert.Pre_head_finite.Facts) (hPre_attnf_finite : Cert.Pre_attnf_finite.Facts),
    quiescent_InBwd (hInBwd := hInBwd)
    ∧ quiescent_InBwdIdeal (hInBwdIdeal := hInBwdIdeal)
    ∧ quiescent_InBwdIdeal_pre_in_finite (hInBwdIdeal := hInBwdIdeal) (hPre_in_finite := hPre_in_finite)
    ∧ quiescent_InBwdRefIdeal (hInBwdRefIdeal := hInBwdRefIdeal)
    ∧ quiescent_InBwdRefIdeal_pre_in_finite (hInBwdRefIdeal := hInBwdRefIdeal) (hPre_in_finite := hPre_in_finite)
    ∧ quiescent_AttnBwd (hAttnBwd := hAttnBwd)
    ∧ quiescent_AttnBwdIdeal (hAttnBwdIdeal := hAttnBwdIdeal)
    ∧ quiescent_AttnBwdIdeal_pre_attn_finite (hAttnBwdIdeal := hAttnBwdIdeal) (hPre_attn_finite := hPre_attn_finite)
    ∧ quiescent_AttnBwdRefIdeal (hAttnBwdRefIdeal := hAttnBwdRefIdeal)
    ∧ quiescent_AttnBwdRefIdeal_pre_attn_finite (hAttnBwdRefIdeal := hAttnBwdRefIdeal) (hPre_attn_finite := hPre_attn_finite)
    ∧ quiescent_MergeBwd (hMergeBwd := hMergeBwd)
    ∧ quiescent_MergeBwdIdeal (hMergeBwdIdeal := hMergeBwdIdeal)
    ∧ quiescent_MergeBwdIdeal_pre_merge_finite (hMergeBwdIdeal := hMergeBwdIdeal) (hPre_merge_finite := hPre_merge_finite)
    ∧ quiescent_MergeBwdRefIdeal (hMergeBwdRefIdeal := hMergeBwdRefIdeal)
    ∧ quiescent_MergeBwdRefIdeal_pre_merge_finite (hMergeBwdRefIdeal := hMergeBwdRefIdeal) (hPre_merge_finite := hPre_merge_finite)
    ∧ quiescent_AttnPost (hAttnPost := hAttnPost)
    ∧ quiescent_AttnPostIdeal (hAttnPostIdeal := hAttnPostIdeal)
    ∧ quiescent_AttnPostIdeal_pre_post_finite (hAttnPostIdeal := hAttnPostIdeal) (hPre_post_finite := hPre_post_finite)
    ∧ quiescent_AttnPostRefIdeal (hAttnPostRefIdeal := hAttnPostRefIdeal)
    ∧ quiescent_AttnPostRefIdeal_pre_post_finite (hAttnPostRefIdeal := hAttnPostRefIdeal) (hPre_post_finite := hPre_post_finite)
    ∧ quiescent_HeadBwd (hHeadBwd := hHeadBwd)
    ∧ quiescent_HeadBwdIdeal (hHeadBwdIdeal := hHeadBwdIdeal)
    ∧ quiescent_HeadBwdIdeal_pre_head_finite (hHeadBwdIdeal := hHeadBwdIdeal) (hPre_head_finite := hPre_head_finite)
    ∧ quiescent_HeadBwdRefIdeal (hHeadBwdRefIdeal := hHeadBwdRefIdeal)
    ∧ quiescent_HeadBwdRefIdeal_pre_head_finite (hHeadBwdRefIdeal := hHeadBwdRefIdeal) (hPre_head_finite := hPre_head_finite)
    ∧ quiescent_AttnFwd (hAttnFwd := hAttnFwd)
    ∧ quiescent_AttnFwdIdeal (hAttnFwdIdeal := hAttnFwdIdeal)
    ∧ quiescent_AttnFwdIdeal_pre_attnf_finite (hAttnFwdIdeal := hAttnFwdIdeal) (hPre_attnf_finite := hPre_attnf_finite)
    ∧ quiescent_AttnFwdRefIdeal (hAttnFwdRefIdeal := hAttnFwdRefIdeal)
    ∧ quiescent_AttnFwdRefIdeal_pre_attnf_finite (hAttnFwdRefIdeal := hAttnFwdRefIdeal) (hPre_attnf_finite := hPre_attnf_finite)
    ∧ quiescent_MergeFwd (hMergeFwd := hMergeFwd)
    ∧ quiescent_MergeFwdIdeal (hMergeFwdIdeal := hMergeFwdIdeal)
    ∧ quiescent_MergeFwdRefIdeal (hMergeFwdRefIdeal := hMergeFwdRefIdeal)
    ∧ preserves_InBwd_InBwdIdeal
    ∧ algebraic_InBwdIdeal_InBwdRefIdeal_pre_in_finite (hInBwdIdeal := hInBwdIdeal) (hInBwdRefIdeal := hInBwdRefIdeal) (hPre_in_finite := hPre_in_finite)
    ∧ preserves_AttnBwd_AttnBwdIdeal
    ∧ algebraic_AttnBwdIdeal_AttnBwdRefIdeal_pre_attn_finite (hAttnBwdIdeal := hAttnBwdIdeal) (hAttnBwdRefIdeal := hAttnBwdRefIdeal) (hPre_attn_finite := hPre_attn_finite)
    ∧ preserves_MergeBwd_MergeBwdIdeal
    ∧ algebraic_MergeBwdIdeal_MergeBwdRefIdeal_pre_merge_finite (hMergeBwdIdeal := hMergeBwdIdeal) (hMergeBwdRefIdeal := hMergeBwdRefIdeal) (hPre_merge_finite := hPre_merge_finite)
    ∧ preserves_AttnPost_AttnPostIdeal
    ∧ algebraic_AttnPostIdeal_AttnPostRefIdeal_pre_post_finite (hAttnPostIdeal := hAttnPostIdeal) (hAttnPostRefIdeal := hAttnPostRefIdeal) (hPre_post_finite := hPre_post_finite)
    ∧ preserves_HeadBwd_HeadBwdIdeal
    ∧ algebraic_HeadBwdIdeal_HeadBwdRefIdeal_pre_head_finite (hHeadBwdIdeal := hHeadBwdIdeal) (hHeadBwdRefIdeal := hHeadBwdRefIdeal) (hPre_head_finite := hPre_head_finite)
    ∧ preserves_AttnFwd_AttnFwdIdeal
    ∧ algebraic_AttnFwdIdeal_AttnFwdRefIdeal_pre_attnf_finite (hAttnFwdIdeal := hAttnFwdIdeal) (hAttnFwdRefIdeal := hAttnFwdRefIdeal) (hPre_attnf_finite := hPre_attnf_finite)
    ∧ preserves_MergeFwd_MergeFwdIdeal
    ∧ algebraic_MergeFwdIdeal_MergeFwdRefIdeal (hMergeFwdIdeal := hMergeFwdIdeal) (hMergeFwdRefIdeal := hMergeFwdRefIdeal)
-- ==== Pre_attn_finite.lean ====
abbrev S1x4096x8x64 : Shape := ⟨4, ![1, 4096, 8, 64]⟩
abbrev S1x4096x2x64 : Shape := ⟨4, ![1, 4096, 2, 64]⟩
abbrev S1x4096x512 : Shape := ⟨3, ![1, 4096, 512]⟩
abbrev S_ : Shape := ⟨0, ![]⟩

class Facts : Prop where
  bcast_S_S1x4096x8x64 : S_.BroadcastsInDim S1x4096x8x64 (![] : Fin 0 → Fin S1x4096x8x64.rank)
  reducesTo_S1x4096x8x64_S_d0_1_2_3 : S1x4096x8x64.ReducesTo [0, 1, 2, 3] S_
  h_S_ : 0 < S_.numel
  bcast_S_S1x4096x2x64 : S_.BroadcastsInDim S1x4096x2x64 (![] : Fin 0 → Fin S1x4096x2x64.rank)
  reducesTo_S1x4096x2x64_S_d0_1_2_3 : S1x4096x2x64.ReducesTo [0, 1, 2, 3] S_
  bcast_S_S1x4096x512 : S_.BroadcastsInDim S1x4096x512 (![] : Fin 0 → Fin S1x4096x512.rank)
  reducesTo_S1x4096x512_S_d0_1_2 : S1x4096x512.ReducesTo [0, 1, 2] S_

variable [Facts]

def fn_part1 {F : FTy → Type} [FloatOps F] (main_v13 : IVec S_ 1) (main_v16 : IVec S1x4096x512 1) : IVec S_ 1 :=
  let main_c_5 : IVec S_ 1 := constantI S_ 1 1#1
  let main_v17 : IVec S_ 1 := (fun x v => Host.reduce IntOp.andi x v reducesTo_S1x4096x512_S_d0_1_2 h_S_) main_v16 main_c_5
  let main_v18 : IVec S_ 1 := andi main_v13 main_v17
  main_v18

def fn {F : FTy → Type} [FloatOps F] (main_arg0 : FVec F S1x4096x8x64 .f32) (main_arg1 : FVec F S1x4096x2x64 .f32) (main_arg2 : FVec F S1x4096x2x64 .f32) (main_arg3 : FVec F S1x4096x512 .f32) : IVec S_ 1 :=
  let main_v0 : FVec F S1x4096x8x64 .f32 := Host.absf main_arg0
  let main_cst : FVec F S_ .f32 := constant S_ .f32 0x7F800000#32
  let main_v1 : FVec F S1x4096x8x64 .f32 := broadcastInDim S1x4096x8x64 ![] bcast_S_S1x4096x8x64 main_cst
  let main_v2 : IVec S1x4096x8x64 1 := cmpf .olt main_v0 main_v1
  let main_c : IVec S_ 1 := constantI S_ 1 1#1
  let main_v3 : IVec S_ 1 := (fun x v => Host.reduce IntOp.andi x v reducesTo_S1x4096x8x64_S_d0_1_2_3 h_S_) main_v2 main_c
  let main_v4 : FVec F S1x4096x2x64 .f32 := Host.absf main_arg1
  let main_cst_0 : FVec F S_ .f32 := constant S_ .f32 0x7F800000#32
  let main_v5 : FVec F S1x4096x2x64 .f32 := broadcastInDim S1x4096x2x64 ![] bcast_S_S1x4096x2x64 main_cst_0
  let main_v6 : IVec S1x4096x2x64 1 := cmpf .olt main_v4 main_v5
  let main_c_1 : IVec S_ 1 := constantI S_ 1 1#1
  let main_v7 : IVec S_ 1 := (fun x v => Host.reduce IntOp.andi x v reducesTo_S1x4096x2x64_S_d0_1_2_3 h_S_) main_v6 main_c_1
  let main_v8 : IVec S_ 1 := andi main_v3 main_v7
  let main_v9 : FVec F S1x4096x2x64 .f32 := Host.absf main_arg2
  let main_cst_2 : FVec F S_ .f32 := constant S_ .f32 0x7F800000#32
  let main_v10 : FVec F S1x4096x2x64 .f32 := broadcastInDim S1x4096x2x64 ![] bcast_S_S1x4096x2x64 main_cst_2
  let main_v11 : IVec S1x4096x2x64 1 := cmpf .olt main_v9 main_v10
  let main_c_3 : IVec S_ 1 := constantI S_ 1 1#1
  let main_v12 : IVec S_ 1 := (fun x v => Host.reduce IntOp.andi x v reducesTo_S1x4096x2x64_S_d0_1_2_3 h_S_) main_v11 main_c_3
  let main_v13 : IVec S_ 1 := andi main_v8 main_v12
  let main_v14 : FVec F S1x4096x512 .f32 := Host.absf main_arg3
  let main_cst_4 : FVec F S_ .f32 := constant S_ .f32 0x7F800000#32
  let main_v15 : FVec F S1x4096x512 .f32 := broadcastInDim S1x4096x512 ![] bcast_S_S1x4096x512 main_cst_4
  let main_v16 : IVec S1x4096x512 1 := cmpf .olt main_v14 main_v15
  fn_part1 (F := F) main_v13 main_v16
-- ==== Pre_attnf_finite.lean ====
abbrev S1x4096x8x64 : Shape := ⟨4, ![1, 4096, 8, 64]⟩
abbrev S1x4096x2x64 : Shape := ⟨4, ![1, 4096, 2, 64]⟩
abbrev S_ : Shape := ⟨0, ![]⟩

class Facts : Prop where
  bcast_S_S1x4096x8x64 : S_.BroadcastsInDim S1x4096x8x64 (![] : Fin 0 → Fin S1x4096x8x64.rank)
  reducesTo_S1x4096x8x64_S_d0_1_2_3 : S1x4096x8x64.ReducesTo [0, 1, 2, 3] S_
  h_S_ : 0 < S_.numel
  bcast_S_S1x4096x2x64 : S_.BroadcastsInDim S1x4096x2x64 (![] : Fin 0 → Fin S1x4096x2x64.rank)
  reducesTo_S1x4096x2x64_S_d0_1_2_3 : S1x4096x2x64.ReducesTo [0, 1, 2, 3] S_

variable [Facts]

def fn {F : FTy → Type} [FloatOps F] (main_arg0 : FVec F S1x4096x8x64 .f32) (main_arg1 : FVec F S1x4096x2x64 .f32) (main_arg2 : FVec F S1x4096x2x64 .f32) : IVec S_ 1 :=
  let main_v0 : FVec F S1x4096x8x64 .f32 := Host.absf main_arg0
  let main_cst : FVec F S_ .f32 := constant S_ .f32 0x7F800000#32
  let main_v1 : FVec F S1x4096x8x64 .f32 := broadcastInDim S1x4096x8x64 ![] bcast_S_S1x4096x8x64 main_cst
  let main_v2 : IVec S1x4096x8x64 1 := cmpf .olt main_v0 main_v1
  let main_c : IVec S_ 1 := constantI S_ 1 1#1
  let main_v3 : IVec S_ 1 := (fun x v => Host.reduce IntOp.andi x v reducesTo_S1x4096x8x64_S_d0_1_2_3 h_S_) main_v2 main_c
  let main_v4 : FVec F S1x4096x2x64 .f32 := Host.absf main_arg1
  let main_cst_0 : FVec F S_ .f32 := constant S_ .f32 0x7F800000#32
  let main_v5 : FVec F S1x4096x2x64 .f32 := broadcastInDim S1x4096x2x64 ![] bcast_S_S1x4096x2x64 main_cst_0
  let main_v6 : IVec S1x4096x2x64 1 := cmpf .olt main_v4 main_v5
  let main_c_1 : IVec S_ 1 := constantI S_ 1 1#1
  let main_v7 : IVec S_ 1 := (fun x v => Host.reduce IntOp.andi x v reducesTo_S1x4096x2x64_S_d0_1_2_3 h_S_) main_v6 main_c_1
  let main_v8 : IVec S_ 1 := andi main_v3 main_v7
  let main_v9 : FVec F S1x4096x2x64 .f32 := Host.absf main_arg2
  let main_cst_2 : FVec F S_ .f32 := constant S_ .f32 0x7F800000#32
  let main_v10 : FVec F S1x4096x2x64 .f32 := broadcastInDim S1x4096x2x64 ![] bcast_S_S1x4096x2x64 main_cst_2
  let main_v11 : IVec S1x4096x2x64 1 := cmpf .olt main_v9 main_v10
  let main_c_3 : IVec S_ 1 := constantI S_ 1 1#1
  let main_v12 : IVec S_ 1 := (fun x v => Host.reduce IntOp.andi x v reducesTo_S1x4096x2x64_S_d0_1_2_3 h_S_) main_v11 main_c_3
  let main_v13 : IVec S_ 1 := andi main_v8 main_v12
  main_v13
-- ==== Pre_head_finite.lean ====
abbrev S1x4096x1024 : Shape := ⟨3, ![1, 4096, 1024]⟩
abbrev S1x4096x5376 : Shape := ⟨3, ![1, 4096, 5376]⟩
abbrev S1x4096x512 : Shape := ⟨3, ![1, 4096, 512]⟩
abbrev S512x1024 : Shape := ⟨2, ![512, 1024]⟩
abbrev S1024x1024 : Shape := ⟨2, ![1024, 1024]⟩
abbrev S1024 : Shape := ⟨1, ![1024]⟩
abbrev S_ : Shape := ⟨0, ![]⟩

class Facts : Prop where
  bcast_S_S1x4096x1024 : S_.BroadcastsInDim S1x4096x1024 (![] : Fin 0 → Fin S1x4096x1024.rank)
  reducesTo_S1x4096x1024_S_d0_1_2 : S1x4096x1024.ReducesTo [0, 1, 2] S_
  h_S_ : 0 < S_.numel
  bcast_S_S1x4096x5376 : S_.BroadcastsInDim S1x4096x5376 (![] : Fin 0 → Fin S1x4096x5376.rank)
  reducesTo_S1x4096x5376_S_d0_1_2 : S1x4096x5376.ReducesTo [0, 1, 2] S_
  bcast_S_S1x4096x512 : S_.BroadcastsInDim S1x4096x512 (![] : Fin 0 → Fin S1x4096x512.rank)
  reducesTo_S1x4096x512_S_d0_1_2 : S1x4096x512.ReducesTo [0, 1, 2] S_
  bcast_S_S512x1024 : S_.BroadcastsInDim S512x1024 (![] : Fin 0 → Fin S512x1024.rank)
  reducesTo_S512x1024_S_d0_1 : S512x1024.ReducesTo [0, 1] S_
  bcast_S_S1024x1024 : S_.BroadcastsInDim S1024x1024 (![] : Fin 0 → Fin S1024x1024.rank)
  reducesTo_S1024x1024_S_d0_1 : S1024x1024.ReducesTo [0, 1] S_
  bcast_S_S1024 : S_.BroadcastsInDim S1024 (![] : Fin 0 → Fin S1024.rank)
  reducesTo_S1024_S_d0 : S1024.ReducesTo [0] S_

variable [Facts]

def fn_part2 {F : FTy → Type} [FloatOps F] (main_arg7 : FVec F S1024 .f32) (main_arg8 : FVec F S1x4096x1024 .f32) (main_v33 : IVec S_ 1) : IVec S_ 1 :=
  let main_v34 : FVec F S1024 .f32 := Host.absf main_arg7
  let main_cst_12 : FVec F S_ .f32 := constant S_ .f32 0x7F800000#32
  let main_v35 : FVec F S1024 .f32 := broadcastInDim S1024 ![] bcast_S_S1024 main_cst_12
  let main_v36 : IVec S1024 1 := cmpf .olt main_v34 main_v35
  let main_c_13 : IVec S_ 1 := constantI S_ 1 1#1
  let main_v37 : IVec S_ 1 := (fun x v => Host.reduce IntOp.andi x v reducesTo_S1024_S_d0 h_S_) main_v36 main_c_13
  let main_v38 : IVec S_ 1 := andi main_v33 main_v37
  let main_v39 : FVec F S1x4096x1024 .f32 := Host.absf main_arg8
  let main_cst_14 : FVec F S_ .f32 := constant S_ .f32 0x7F800000#32
  let main_v40 : FVec F S1x4096x1024 .f32 := broadcastInDim S1x4096x1024 ![] bcast_S_S1x4096x1024 main_cst_14
  let main_v41 : IVec S1x4096x1024 1 := cmpf .olt main_v39 main_v40
  let main_c_15 : IVec S_ 1 := constantI S_ 1 1#1
  let main_v42 : IVec S_ 1 := (fun x v => Host.reduce IntOp.andi x v reducesTo_S1x4096x1024_S_d0_1_2 h_S_) main_v41 main_c_15
  let main_v43 : IVec S_ 1 := andi main_v38 main_v42
  main_v43

def fn_part1 {F : FTy → Type} [FloatOps F] (main_arg4 : FVec F S512x1024 .f32) (main_arg5 : FVec F S512x1024 .f32) (main_arg6 : FVec F S1024x1024 .f32) (main_arg7 : FVec F S1024 .f32) (main_arg8 : FVec F S1x4096x1024 .f32) (main_v13 : IVec S_ 1) (main_v16 : IVec S1x4096x512 1) : IVec S_ 1 :=
  let main_c_5 : IVec S_ 1 := constantI S_ 1 1#1
  let main_v17 : IVec S_ 1 := (fun x v => Host.reduce IntOp.andi x v reducesTo_S1x4096x512_S_d0_1_2 h_S_) main_v16 main_c_5
  let main_v18 : IVec S_ 1 := andi main_v13 main_v17
  let main_v19 : FVec F S512x1024 .f32 := Host.absf main_arg4
  let main_cst_6 : FVec F S_ .f32 := constant S_ .f32 0x7F800000#32
  let main_v20 : FVec F S512x1024 .f32 := broadcastInDim S512x1024 ![] bcast_S_S512x1024 main_cst_6
  let main_v21 : IVec S512x1024 1 := cmpf .olt main_v19 main_v20
  let main_c_7 : IVec S_ 1 := constantI S_ 1 1#1
  let main_v22 : IVec S_ 1 := (fun x v => Host.reduce IntOp.andi x v reducesTo_S512x1024_S_d0_1 h_S_) main_v21 main_c_7
  let main_v23 : IVec S_ 1 := andi main_v18 main_v22
  let main_v24 : FVec F S512x1024 .f32 := Host.absf main_arg5
  let main_cst_8 : FVec F S_ .f32 := constant S_ .f32 0x7F800000#32
  let main_v25 : FVec F S512x1024 .f32 := broadcastInDim S512x1024 ![] bcast_S_S512x1024 main_cst_8
  let main_v26 : IVec S512x1024 1 := cmpf .olt main_v24 main_v25
  let main_c_9 : IVec S_ 1 := constantI S_ 1 1#1
  let main_v27 : IVec S_ 1 := (fun x v => Host.reduce IntOp.andi x v reducesTo_S512x1024_S_d0_1 h_S_) main_v26 main_c_9
  let main_v28 : IVec S_ 1 := andi main_v23 main_v27
  let main_v29 : FVec F S1024x1024 .f32 := Host.absf main_arg6
  let main_cst_10 : FVec F S_ .f32 := constant S_ .f32 0x7F800000#32
  let main_v30 : FVec F S1024x1024 .f32 := broadcastInDim S1024x1024 ![] bcast_S_S1024x1024 main_cst_10
  let main_v31 : IVec S1024x1024 1 := cmpf .olt main_v29 main_v30
  let main_c_11 : IVec S_ 1 := constantI S_ 1 1#1
  let main_v32 : IVec S_ 1 := (fun x v => Host.reduce IntOp.andi x v reducesTo_S1024x1024_S_d0_1 h_S_) main_v31 main_c_11
  let main_v33 : IVec S_ 1 := andi main_v28 main_v32
  fn_part2 (F := F) main_arg7 main_arg8 main_v33

def fn {F : FTy → Type} [FloatOps F] (main_arg0 : FVec F S1x4096x1024 .f32) (main_arg1 : FVec F S1x4096x5376 .f32) (main_arg2 : FVec F S1x4096x512 .f32) (main_arg3 : FVec F S1x4096x512 .f32) (main_arg4 : FVec F S512x1024 .f32) (main_arg5 : FVec F S512x1024 .f32) (main_arg6 : FVec F S1024x1024 .f32) (main_arg7 : FVec F S1024 .f32) (main_arg8 : FVec F S1x4096x1024 .f32) : IVec S_ 1 :=
  let main_v0 : FVec F S1x4096x1024 .f32 := Host.absf main_arg0
  let main_cst : FVec F S_ .f32 := constant S_ .f32 0x7F800000#32
  let main_v1 : FVec F S1x4096x1024 .f32 := broadcastInDim S1x4096x1024 ![] bcast_S_S1x4096x1024 main_cst
  let main_v2 : IVec S1x4096x1024 1 := cmpf .olt main_v0 main_v1
  let main_c : IVec S_ 1 := constantI S_ 1 1#1
  let main_v3 : IVec S_ 1 := (fun x v => Host.reduce IntOp.andi x v reducesTo_S1x4096x1024_S_d0_1_2 h_S_) main_v2 main_c
  let main_v4 : FVec F S1x4096x5376 .f32 := Host.absf main_arg1
  let main_cst_0 : FVec F S_ .f32 := constant S_ .f32 0x7F800000#32
  let main_v5 : FVec F S1x4096x5376 .f32 := broadcastInDim S1x4096x5376 ![] bcast_S_S1x4096x5376 main_cst_0
  let main_v6 : IVec S1x4096x5376 1 := cmpf .olt main_v4 main_v5
  let main_c_1 : IVec S_ 1 := constantI S_ 1 1#1
  let main_v7 : IVec S_ 1 := (fun x v => Host.reduce IntOp.andi x v reducesTo_S1x4096x5376_S_d0_1_2 h_S_) main_v6 main_c_1
  let main_v8 : IVec S_ 1 := andi main_v3 main_v7
  let main_v9 : FVec F S1x4096x512 .f32 := Host.absf main_arg2
  let main_cst_2 : FVec F S_ .f32 := constant S_ .f32 0x7F800000#32
  let main_v10 : FVec F S1x4096x512 .f32 := broadcastInDim S1x4096x512 ![] bcast_S_S1x4096x512 main_cst_2
  let main_v11 : IVec S1x4096x512 1 := cmpf .olt main_v9 main_v10
  let main_c_3 : IVec S_ 1 := constantI S_ 1 1#1
  let main_v12 : IVec S_ 1 := (fun x v => Host.reduce IntOp.andi x v reducesTo_S1x4096x512_S_d0_1_2 h_S_) main_v11 main_c_3
  let main_v13 : IVec S_ 1 := andi main_v8 main_v12
  let main_v14 : FVec F S1x4096x512 .f32 := Host.absf main_arg3
  let main_cst_4 : FVec F S_ .f32 := constant S_ .f32 0x7F800000#32
  let main_v15 : FVec F S1x4096x512 .f32 := broadcastInDim S1x4096x512 ![] bcast_S_S1x4096x512 main_cst_4
  let main_v16 : IVec S1x4096x512 1 := cmpf .olt main_v14 main_v15
  fn_part1 (F := F) main_arg4 main_arg5 main_arg6 main_arg7 main_arg8 main_v13 main_v16
-- ==== Pre_in_finite.lean ====
abbrev S1x4096x1024 : Shape := ⟨3, ![1, 4096, 1024]⟩
abbrev S1024 : Shape := ⟨1, ![1024]⟩
abbrev S1024x5376 : Shape := ⟨2, ![1024, 5376]⟩
abbrev S1x4096x5376 : Shape := ⟨3, ![1, 4096, 5376]⟩
abbrev S_ : Shape := ⟨0, ![]⟩

class Facts : Prop where
  bcast_S_S1x4096x1024 : S_.BroadcastsInDim S1x4096x1024 (![] : Fin 0 → Fin S1x4096x1024.rank)
  reducesTo_S1x4096x1024_S_d0_1_2 : S1x4096x1024.ReducesTo [0, 1, 2] S_
  h_S_ : 0 < S_.numel
  bcast_S_S1024 : S_.BroadcastsInDim S1024 (![] : Fin 0 → Fin S1024.rank)
  reducesTo_S1024_S_d0 : S1024.ReducesTo [0] S_
  bcast_S_S1024x5376 : S_.BroadcastsInDim S1024x5376 (![] : Fin 0 → Fin S1024x5376.rank)
  reducesTo_S1024x5376_S_d0_1 : S1024x5376.ReducesTo [0, 1] S_
  bcast_S_S1x4096x5376 : S_.BroadcastsInDim S1x4096x5376 (![] : Fin 0 → Fin S1x4096x5376.rank)
  reducesTo_S1x4096x5376_S_d0_1_2 : S1x4096x5376.ReducesTo [0, 1, 2] S_

variable [Facts]

def fn_part1 {F : FTy → Type} [FloatOps F] (main_arg4 : FVec F S1x4096x1024 .f32) (main_v13 : IVec S_ 1) (main_v16 : IVec S1x4096x5376 1) : IVec S_ 1 :=
  let main_c_5 : IVec S_ 1 := constantI S_ 1 1#1
  let main_v17 : IVec S_ 1 := (fun x v => Host.reduce IntOp.andi x v reducesTo_S1x4096x5376_S_d0_1_2 h_S_) main_v16 main_c_5
  let main_v18 : IVec S_ 1 := andi main_v13 main_v17
  let main_v19 : FVec F S1x4096x1024 .f32 := Host.absf main_arg4
  let main_cst_6 : FVec F S_ .f32 := constant S_ .f32 0x7F800000#32
  let main_v20 : FVec F S1x4096x1024 .f32 := broadcastInDim S1x4096x1024 ![] bcast_S_S1x4096x1024 main_cst_6
  let main_v21 : IVec S1x4096x1024 1 := cmpf .olt main_v19 main_v20
  let main_c_7 : IVec S_ 1 := constantI S_ 1 1#1
  let main_v22 : IVec S_ 1 := (fun x v => Host.reduce IntOp.andi x v reducesTo_S1x4096x1024_S_d0_1_2 h_S_) main_v21 main_c_7
  let main_v23 : IVec S_ 1 := andi main_v18 main_v22
  main_v23

def fn {F : FTy → Type} [FloatOps F] (main_arg0 : FVec F S1x4096x1024 .f32) (main_arg1 : FVec F S1024 .f32) (main_arg2 : FVec F S1024x5376 .f32) (main_arg3 : FVec F S1x4096x5376 .f32) (main_arg4 : FVec F S1x4096x1024 .f32) : IVec S_ 1 :=
  let main_v0 : FVec F S1x4096x1024 .f32 := Host.absf main_arg0
  let main_cst : FVec F S_ .f32 := constant S_ .f32 0x7F800000#32
  let main_v1 : FVec F S1x4096x1024 .f32 := broadcastInDim S1x4096x1024 ![] bcast_S_S1x4096x1024 main_cst
  let main_v2 : IVec S1x4096x1024 1 := cmpf .olt main_v0 main_v1
  let main_c : IVec S_ 1 := constantI S_ 1 1#1
  let main_v3 : IVec S_ 1 := (fun x v => Host.reduce IntOp.andi x v reducesTo_S1x4096x1024_S_d0_1_2 h_S_) main_v2 main_c
  let main_v4 : FVec F S1024 .f32 := Host.absf main_arg1
  let main_cst_0 : FVec F S_ .f32 := constant S_ .f32 0x7F800000#32
  let main_v5 : FVec F S1024 .f32 := broadcastInDim S1024 ![] bcast_S_S1024 main_cst_0
  let main_v6 : IVec S1024 1 := cmpf .olt main_v4 main_v5
  let main_c_1 : IVec S_ 1 := constantI S_ 1 1#1
  let main_v7 : IVec S_ 1 := (fun x v => Host.reduce IntOp.andi x v reducesTo_S1024_S_d0 h_S_) main_v6 main_c_1
  let main_v8 : IVec S_ 1 := andi main_v3 main_v7
  let main_v9 : FVec F S1024x5376 .f32 := Host.absf main_arg2
  let main_cst_2 : FVec F S_ .f32 := constant S_ .f32 0x7F800000#32
  let main_v10 : FVec F S1024x5376 .f32 := broadcastInDim S1024x5376 ![] bcast_S_S1024x5376 main_cst_2
  let main_v11 : IVec S1024x5376 1 := cmpf .olt main_v9 main_v10
  let main_c_3 : IVec S_ 1 := constantI S_ 1 1#1
  let main_v12 : IVec S_ 1 := (fun x v => Host.reduce IntOp.andi x v reducesTo_S1024x5376_S_d0_1 h_S_) main_v11 main_c_3
  let main_v13 : IVec S_ 1 := andi main_v8 main_v12
  let main_v14 : FVec F S1x4096x5376 .f32 := Host.absf main_arg3
  let main_cst_4 : FVec F S_ .f32 := constant S_ .f32 0x7F800000#32
  let main_v15 : FVec F S1x4096x5376 .f32 := broadcastInDim S1x4096x5376 ![] bcast_S_S1x4096x5376 main_cst_4
  let main_v16 : IVec S1x4096x5376 1 := cmpf .olt main_v14 main_v15
  fn_part1 (F := F) main_arg4 main_v13 main_v16
-- ==== Pre_merge_finite.lean ====
abbrev S1x4096x5376 : Shape := ⟨3, ![1, 4096, 5376]⟩
abbrev S1x4096x512 : Shape := ⟨3, ![1, 4096, 512]⟩
abbrev S512x1024 : Shape := ⟨2, ![512, 1024]⟩
abbrev S1024x1024 : Shape := ⟨2, ![1024, 1024]⟩
abbrev S1x4096x1024 : Shape := ⟨3, ![1, 4096, 1024]⟩
abbrev S_ : Shape := ⟨0, ![]⟩

class Facts : Prop where
  bcast_S_S1x4096x5376 : S_.BroadcastsInDim S1x4096x5376 (![] : Fin 0 → Fin S1x4096x5376.rank)
  reducesTo_S1x4096x5376_S_d0_1_2 : S1x4096x5376.ReducesTo [0, 1, 2] S_
  h_S_ : 0 < S_.numel
  bcast_S_S1x4096x512 : S_.BroadcastsInDim S1x4096x512 (![] : Fin 0 → Fin S1x4096x512.rank)
  reducesTo_S1x4096x512_S_d0_1_2 : S1x4096x512.ReducesTo [0, 1, 2] S_
  bcast_S_S512x1024 : S_.BroadcastsInDim S512x1024 (![] : Fin 0 → Fin S512x1024.rank)
  reducesTo_S512x1024_S_d0_1 : S512x1024.ReducesTo [0, 1] S_
  bcast_S_S1024x1024 : S_.BroadcastsInDim S1024x1024 (![] : Fin 0 → Fin S1024x1024.rank)
  reducesTo_S1024x1024_S_d0_1 : S1024x1024.ReducesTo [0, 1] S_
  bcast_S_S1x4096x1024 : S_.BroadcastsInDim S1x4096x1024 (![] : Fin 0 → Fin S1x4096x1024.rank)
  reducesTo_S1x4096x1024_S_d0_1_2 : S1x4096x1024.ReducesTo [0, 1, 2] S_

variable [Facts]

def fn_part1 {F : FTy → Type} [FloatOps F] (main_arg4 : FVec F S512x1024 .f32) (main_arg5 : FVec F S1024x1024 .f32) (main_arg6 : FVec F S1x4096x1024 .f32) (main_v13 : IVec S_ 1) (main_v16 : IVec S512x1024 1) : IVec S_ 1 :=
  let main_c_5 : IVec S_ 1 := constantI S_ 1 1#1
  let main_v17 : IVec S_ 1 := (fun x v => Host.reduce IntOp.andi x v reducesTo_S512x1024_S_d0_1 h_S_) main_v16 main_c_5
  let main_v18 : IVec S_ 1 := andi main_v13 main_v17
  let main_v19 : FVec F S512x1024 .f32 := Host.absf main_arg4
  let main_cst_6 : FVec F S_ .f32 := constant S_ .f32 0x7F800000#32
  let main_v20 : FVec F S512x1024 .f32 := broadcastInDim S512x1024 ![] bcast_S_S512x1024 main_cst_6
  let main_v21 : IVec S512x1024 1 := cmpf .olt main_v19 main_v20
  let main_c_7 : IVec S_ 1 := constantI S_ 1 1#1
  let main_v22 : IVec S_ 1 := (fun x v => Host.reduce IntOp.andi x v reducesTo_S512x1024_S_d0_1 h_S_) main_v21 main_c_7
  let main_v23 : IVec S_ 1 := andi main_v18 main_v22
  let main_v24 : FVec F S1024x1024 .f32 := Host.absf main_arg5
  let main_cst_8 : FVec F S_ .f32 := constant S_ .f32 0x7F800000#32
  let main_v25 : FVec F S1024x1024 .f32 := broadcastInDim S1024x1024 ![] bcast_S_S1024x1024 main_cst_8
  let main_v26 : IVec S1024x1024 1 := cmpf .olt main_v24 main_v25
  let main_c_9 : IVec S_ 1 := constantI S_ 1 1#1
  let main_v27 : IVec S_ 1 := (fun x v => Host.reduce IntOp.andi x v reducesTo_S1024x1024_S_d0_1 h_S_) main_v26 main_c_9
  let main_v28 : IVec S_ 1 := andi main_v23 main_v27
  let main_v29 : FVec F S1x4096x1024 .f32 := Host.absf main_arg6
  let main_cst_10 : FVec F S_ .f32 := constant S_ .f32 0x7F800000#32
  let main_v30 : FVec F S1x4096x1024 .f32 := broadcastInDim S1x4096x1024 ![] bcast_S_S1x4096x1024 main_cst_10
  let main_v31 : IVec S1x4096x1024 1 := cmpf .olt main_v29 main_v30
  let main_c_11 : IVec S_ 1 := constantI S_ 1 1#1
  let main_v32 : IVec S_ 1 := (fun x v => Host.reduce IntOp.andi x v reducesTo_S1x4096x1024_S_d0_1_2 h_S_) main_v31 main_c_11
  let main_v33 : IVec S_ 1 := andi main_v28 main_v32
  main_v33

def fn {F : FTy → Type} [FloatOps F] (main_arg0 : FVec F S1x4096x5376 .f32) (main_arg1 : FVec F S1x4096x512 .f32) (main_arg2 : FVec F S1x4096x512 .f32) (main_arg3 : FVec F S512x1024 .f32) (main_arg4 : FVec F S512x1024 .f32) (main_arg5 : FVec F S1024x1024 .f32) (main_arg6 : FVec F S1x4096x1024 .f32) : IVec S_ 1 :=
  let main_v0 : FVec F S1x4096x5376 .f32 := Host.absf main_arg0
  let main_cst : FVec F S_ .f32 := constant S_ .f32 0x7F800000#32
  let main_v1 : FVec F S1x4096x5376 .f32 := broadcastInDim S1x4096x5376 ![] bcast_S_S1x4096x5376 main_cst
  let main_v2 : IVec S1x4096x5376 1 := cmpf .olt main_v0 main_v1
  let main_c : IVec S_ 1 := constantI S_ 1 1#1
  let main_v3 : IVec S_ 1 := (fun x v => Host.reduce IntOp.andi x v reducesTo_S1x4096x5376_S_d0_1_2 h_S_) main_v2 main_c
  let main_v4 : FVec F S1x4096x512 .f32 := Host.absf main_arg1
  let main_cst_0 : FVec F S_ .f32 := constant S_ .f32 0x7F800000#32
  let main_v5 : FVec F S1x4096x512 .f32 := broadcastInDim S1x4096x512 ![] bcast_S_S1x4096x512 main_cst_0
  let main_v6 : IVec S1x4096x512 1 := cmpf .olt main_v4 main_v5
  let main_c_1 : IVec S_ 1 := constantI S_ 1 1#1
  let main_v7 : IVec S_ 1 := (fun x v => Host.reduce IntOp.andi x v reducesTo_S1x4096x512_S_d0_1_2 h_S_) main_v6 main_c_1
  let main_v8 : IVec S_ 1 := andi main_v3 main_v7
  let main_v9 : FVec F S1x4096x512 .f32 := Host.absf main_arg2
  let main_cst_2 : FVec F S_ .f32 := constant S_ .f32 0x7F800000#32
  let main_v10 : FVec F S1x4096x512 .f32 := broadcastInDim S1x4096x512 ![] bcast_S_S1x4096x512 main_cst_2
  let main_v11 : IVec S1x4096x512 1 := cmpf .olt main_v9 main_v10
  let main_c_3 : IVec S_ 1 := constantI S_ 1 1#1
  let main_v12 : IVec S_ 1 := (fun x v => Host.reduce IntOp.andi x v reducesTo_S1x4096x512_S_d0_1_2 h_S_) main_v11 main_c_3
  let main_v13 : IVec S_ 1 := andi main_v8 main_v12
  let main_v14 : FVec F S512x1024 .f32 := Host.absf main_arg3
  let main_cst_4 : FVec F S_ .f32 := constant S_ .f32 0x7F800000#32
  let main_v15 : FVec F S512x1024 .f32 := broadcastInDim S512x1024 ![] bcast_S_S512x1024 main_cst_4
  let main_v16 : IVec S512x1024 1 := cmpf .olt main_v14 main_v15
  fn_part1 (F := F) main_arg4 main_arg5 main_arg6 main_v13 main_v16
-- ==== Pre_post_finite.lean ====
abbrev S1x4096x5376 : Shape := ⟨3, ![1, 4096, 5376]⟩
abbrev S64 : Shape := ⟨1, ![64]⟩
abbrev S1x4096x8x64 : Shape := ⟨4, ![1, 4096, 8, 64]⟩
abbrev S1x4096x2x64 : Shape := ⟨4, ![1, 4096, 2, 64]⟩
abbrev S_ : Shape := ⟨0, ![]⟩

class Facts : Prop where
  bcast_S_S1x4096x5376 : S_.BroadcastsInDim S1x4096x5376 (![] : Fin 0 → Fin S1x4096x5376.rank)
  reducesTo_S1x4096x5376_S_d0_1_2 : S1x4096x5376.ReducesTo [0, 1, 2] S_
  h_S_ : 0 < S_.numel
  bcast_S_S64 : S_.BroadcastsInDim S64 (![] : Fin 0 → Fin S64.rank)
  reducesTo_S64_S_d0 : S64.ReducesTo [0] S_
  bcast_S_S1x4096x8x64 : S_.BroadcastsInDim S1x4096x8x64 (![] : Fin 0 → Fin S1x4096x8x64.rank)
  reducesTo_S1x4096x8x64_S_d0_1_2_3 : S1x4096x8x64.ReducesTo [0, 1, 2, 3] S_
  bcast_S_S1x4096x2x64 : S_.BroadcastsInDim S1x4096x2x64 (![] : Fin 0 → Fin S1x4096x2x64.rank)
  reducesTo_S1x4096x2x64_S_d0_1_2_3 : S1x4096x2x64.ReducesTo [0, 1, 2, 3] S_

variable [Facts]

def fn_part1 {F : FTy → Type} [FloatOps F] (main_arg4 : FVec F S1x4096x2x64 .f32) (main_arg5 : FVec F S1x4096x2x64 .f32) (main_v13 : IVec S_ 1) (main_v16 : IVec S1x4096x8x64 1) : IVec S_ 1 :=
  let main_c_5 : IVec S_ 1 := constantI S_ 1 1#1
  let main_v17 : IVec S_ 1 := (fun x v => Host.reduce IntOp.andi x v reducesTo_S1x4096x8x64_S_d0_1_2_3 h_S_) main_v16 main_c_5
  let main_v18 : IVec S_ 1 := andi main_v13 main_v17
  let main_v19 : FVec F S1x4096x2x64 .f32 := Host.absf main_arg4
  let main_cst_6 : FVec F S_ .f32 := constant S_ .f32 0x7F800000#32
  let main_v20 : FVec F S1x4096x2x64 .f32 := broadcastInDim S1x4096x2x64 ![] bcast_S_S1x4096x2x64 main_cst_6
  let main_v21 : IVec S1x4096x2x64 1 := cmpf .olt main_v19 main_v20
  let main_c_7 : IVec S_ 1 := constantI S_ 1 1#1
  let main_v22 : IVec S_ 1 := (fun x v => Host.reduce IntOp.andi x v reducesTo_S1x4096x2x64_S_d0_1_2_3 h_S_) main_v21 main_c_7
  let main_v23 : IVec S_ 1 := andi main_v18 main_v22
  let main_v24 : FVec F S1x4096x2x64 .f32 := Host.absf main_arg5
  let main_cst_8 : FVec F S_ .f32 := constant S_ .f32 0x7F800000#32
  let main_v25 : FVec F S1x4096x2x64 .f32 := broadcastInDim S1x4096x2x64 ![] bcast_S_S1x4096x2x64 main_cst_8
  let main_v26 : IVec S1x4096x2x64 1 := cmpf .olt main_v24 main_v25
  let main_c_9 : IVec S_ 1 := constantI S_ 1 1#1
  let main_v27 : IVec S_ 1 := (fun x v => Host.reduce IntOp.andi x v reducesTo_S1x4096x2x64_S_d0_1_2_3 h_S_) main_v26 main_c_9
  let main_v28 : IVec S_ 1 := andi main_v23 main_v27
  main_v28

def fn {F : FTy → Type} [FloatOps F] (main_arg0 : FVec F S1x4096x5376 .f32) (main_arg1 : FVec F S64 .f32) (main_arg2 : FVec F S64 .f32) (main_arg3 : FVec F S1x4096x8x64 .f32) (main_arg4 : FVec F S1x4096x2x64 .f32) (main_arg5 : FVec F S1x4096x2x64 .f32) : IVec S_ 1 :=
  let main_v0 : FVec F S1x4096x5376 .f32 := Host.absf main_arg0
  let main_cst : FVec F S_ .f32 := constant S_ .f32 0x7F800000#32
  let main_v1 : FVec F S1x4096x5376 .f32 := broadcastInDim S1x4096x5376 ![] bcast_S_S1x4096x5376 main_cst
  let main_v2 : IVec S1x4096x5376 1 := cmpf .olt main_v0 main_v1
  let main_c : IVec S_ 1 := constantI S_ 1 1#1
  let main_v3 : IVec S_ 1 := (fun x v => Host.reduce IntOp.andi x v reducesTo_S1x4096x5376_S_d0_1_2 h_S_) main_v2 main_c
  let main_v4 : FVec F S64 .f32 := Host.absf main_arg1
  let main_cst_0 : FVec F S_ .f32 := constant S_ .f32 0x7F800000#32
  let main_v5 : FVec F S64 .f32 := broadcastInDim S64 ![] bcast_S_S64 main_cst_0
  let main_v6 : IVec S64 1 := cmpf .olt main_v4 main_v5
  let main_c_1 : IVec S_ 1 := constantI S_ 1 1#1
  let main_v7 : IVec S_ 1 := (fun x v => Host.reduce IntOp.andi x v reducesTo_S64_S_d0 h_S_) main_v6 main_c_1
  let main_v8 : IVec S_ 1 := andi main_v3 main_v7
  let main_v9 : FVec F S64 .f32 := Host.absf main_arg2
  let main_cst_2 : FVec F S_ .f32 := constant S_ .f32 0x7F800000#32
  let main_v10 : FVec F S64 .f32 := broadcastInDim S64 ![] bcast_S_S64 main_cst_2
  let main_v11 : IVec S64 1 := cmpf .olt main_v9 main_v10
  let main_c_3 : IVec S_ 1 := constantI S_ 1 1#1
  let main_v12 : IVec S_ 1 := (fun x v => Host.reduce IntOp.andi x v reducesTo_S64_S_d0 h_S_) main_v11 main_c_3
  let main_v13 : IVec S_ 1 := andi main_v8 main_v12
  let main_v14 : FVec F S1x4096x8x64 .f32 := Host.absf main_arg3
  let main_cst_4 : FVec F S_ .f32 := constant S_ .f32 0x7F800000#32
  let main_v15 : FVec F S1x4096x8x64 .f32 := broadcastInDim S1x4096x8x64 ![] bcast_S_S1x4096x8x64 main_cst_4
  let main_v16 : IVec S1x4096x8x64 1 := cmpf .olt main_v14 main_v15
  fn_part1 (F := F) main_arg4 main_arg5 main_v13 main_v16
-- ==== InBwd.lean ====
abbrev S1x4096x1024 : Shape := ⟨3, ![1, 4096, 1024]⟩
abbrev S1024 : Shape := ⟨1, ![1024]⟩
abbrev S1024x5376 : Shape := ⟨2, ![1024, 5376]⟩
abbrev S1x4096x5376 : Shape := ⟨3, ![1, 4096, 5376]⟩
abbrev S5376x1024 : Shape := ⟨2, ![5376, 1024]⟩
abbrev S4096x5376 : Shape := ⟨2, ![4096, 5376]⟩
abbrev S4096x512 : Shape := ⟨2, ![4096, 512]⟩
abbrev S4096x2048 : Shape := ⟨2, ![4096, 2048]⟩
abbrev S4096x3072 : Shape := ⟨2, ![4096, 3072]⟩
abbrev S4096x1024 : Shape := ⟨2, ![4096, 1024]⟩
abbrev S1x1024 : Shape := ⟨2, ![1, 1024]⟩
abbrev S4096x768 : Shape := ⟨2, ![4096, 768]⟩
abbrev S256x1024 : Shape := ⟨2, ![256, 1024]⟩
abbrev S256x768 : Shape := ⟨2, ![256, 768]⟩
abbrev S256x3072 : Shape := ⟨2, ![256, 3072]⟩
abbrev S256x512 : Shape := ⟨2, ![256, 512]⟩
abbrev S8x1024 : Shape := ⟨2, ![8, 1024]⟩
abbrev S768x1024 : Shape := ⟨2, ![768, 1024]⟩
abbrev S512x1024 : Shape := ⟨2, ![512, 1024]⟩
abbrev S256x2560 : Shape := ⟨2, ![256, 2560]⟩
abbrev S2560x1024 : Shape := ⟨2, ![2560, 1024]⟩
abbrev S256 : Shape := ⟨1, ![256]⟩
abbrev S256x1 : Shape := ⟨2, ![256, 1]⟩
abbrev S32x8x1024 : Shape := ⟨3, ![32, 8, 1024]⟩

abbrev nBuf : Space → Nat
  | .hbm => 22
  | .vmem => 20
  | .smem => 0
  | _ => 0

abbrev bufTy : (tb : Table) → Fin (tcTables nBuf tb) → BufTy
  | .hbm, ⟨0, _⟩ => ⟨S1x4096x1024, .f32⟩
  | .hbm, ⟨1, _⟩ => ⟨S1024, .f32⟩
  | .hbm, ⟨2, _⟩ => ⟨S1024x5376, .f32⟩
  | .hbm, ⟨3, _⟩ => ⟨S1x4096x5376, .f32⟩
  | .hbm, ⟨4, _⟩ => ⟨S1x4096x1024, .f32⟩
  | .hbm, ⟨5, _⟩ => ⟨S5376x1024, .f32⟩
  | .hbm, ⟨6, _⟩ => ⟨S5376x1024, .bf16⟩
  | .hbm, ⟨7, _⟩ => ⟨S4096x5376, .f32⟩
  | .hbm, ⟨8, _⟩ => ⟨S4096x5376, .bf16⟩
  | .hbm, ⟨9, _⟩ => ⟨S4096x512, .bf16⟩
  | .hbm, ⟨10, _⟩ => ⟨S4096x512, .bf16⟩
  | .hbm, ⟨11, _⟩ => ⟨S4096x2048, .bf16⟩
  | .hbm, ⟨12, _⟩ => ⟨S4096x3072, .bf16⟩
  | .hbm, ⟨13, _⟩ => ⟨S4096x1024, .f32⟩
  | .hbm, ⟨14, _⟩ => ⟨S4096x1024, .f32⟩
  | .hbm, ⟨15, _⟩ => ⟨S1x1024, .f32⟩
  | .hbm, ⟨16, _⟩ => ⟨S4096x768, .bf16⟩
  | .hbm, ⟨17, _⟩ => ⟨S4096x512, .bf16⟩
  | .hbm, ⟨18, _⟩ => ⟨S4096x512, .bf16⟩
  | .hbm, ⟨19, _⟩ => ⟨S4096x512, .bf16⟩
  | .hbm, ⟨20, _⟩ => ⟨S4096x1024, .f32⟩
  | .hbm, ⟨21, _⟩ => ⟨S1x1024, .f32⟩
  | .local _ .vmem, ⟨0, _⟩ => ⟨S256x1024, .f32⟩
  | .local _ .vmem, ⟨1, _⟩ => ⟨S256x1024, .f32⟩
  | .local _ .vmem, ⟨2, _⟩ => ⟨S256x1024, .f32⟩
  | .local _ .vmem, ⟨3, _⟩ => ⟨S256x1024, .f32⟩
  | .local _ .vmem, ⟨4, _⟩ => ⟨S1x1024, .f32⟩
  | .local _ .vmem, ⟨5, _⟩ => ⟨S5376x1024, .bf16⟩
  | .local _ .vmem, ⟨6, _⟩ => ⟨S256x768, .bf16⟩
  | .local _ .vmem, ⟨7, _⟩ => ⟨S256x768, .bf16⟩
  | .local _ .vmem, ⟨8, _⟩ => ⟨S256x3072, .bf16⟩
  | .local _ .vmem, ⟨9, _⟩ => ⟨S256x3072, .bf16⟩
  | .local _ .vmem, ⟨10, _⟩ => ⟨S256x512, .bf16⟩
  | .local _ .vmem, ⟨11, _⟩ => ⟨S256x512, .bf16⟩
  | .local _ .vmem, ⟨12, _⟩ => ⟨S256x512, .bf16⟩
  | .local _ .vmem, ⟨13, _⟩ => ⟨S256x512, .bf16⟩
  | .local _ .vmem, ⟨14, _⟩ => ⟨S256x512, .bf16⟩
  | .local _ .vmem, ⟨15, _⟩ => ⟨S256x512, .bf16⟩
  | .local _ .vmem, ⟨16, _⟩ => ⟨S256x1024, .f32⟩
  | .local _ .vmem, ⟨17, _⟩ => ⟨S256x1024, .f32⟩
  | .local _ .vmem, ⟨18, _⟩ => ⟨S1x1024, .f32⟩
  | .local _ .vmem, ⟨19, _⟩ => ⟨S8x1024, .f32⟩
  | _, _ => ⟨S1x4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 0 → Bool
  | ⟨_, h⟩ => absurd h (Nat.not_lt_zero _)

abbrev dmaSemScoped : Fin 19 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | _ => false

abbrev sig : RefSig :=
  ofTc nBuf bufTy 0 19 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15_0 : Ref sig .tc := ⟨.hbm, 20, rfl⟩
abbrev main_v15_1 : Ref sig .tc := ⟨.hbm, 21, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg7_1 : Ref sig .tc := ⟨.vmem, 13, rfl⟩
abbrev cc0_stg8_0 : Ref sig .tc := ⟨.vmem, 14, rfl⟩
abbrev cc0_stg8_1 : Ref sig .tc := ⟨.vmem, 15, rfl⟩
abbrev cc0_stg9_0 : Ref sig .tc := ⟨.vmem, 16, rfl⟩
abbrev cc0_stg9_1 : Ref sig .tc := ⟨.vmem, 17, rfl⟩
abbrev cc0_stg10_0 : Ref sig .tc := ⟨.vmem, 18, rfl⟩
abbrev cc0_scratch0 : Ref sig .tc := ⟨.vmem, 19, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem5_1 : DmaSem sig := 9
abbrev cc0_sem6_0 : DmaSem sig := 10
abbrev cc0_sem6_1 : DmaSem sig := 11
abbrev cc0_sem7_0 : DmaSem sig := 12
abbrev cc0_sem7_1 : DmaSem sig := 13
abbrev cc0_sem8_0 : DmaSem sig := 14
abbrev cc0_sem8_1 : DmaSem sig := 15
abbrev cc0_sem9_0 : DmaSem sig := 16
abbrev cc0_sem9_1 : DmaSem sig := 17
abbrev cc0_sem10_0 : DmaSem sig := 18

abbrev nD : Nat := 1
abbrev τ : Topo := Topo.v7x

variable {F : FTy → Type} [FloatOps F]

abbrev grid0 : Pipeline.Grid := ⟨1, ![16], ![false]⟩

def k0_cond2 (i : grid0.Coords) : BitVec 1 :=
  let arg0 : BitVec 32 := BitVec.ofNat 32 (i 0).val
  let c15_i32 : BitVec 32 := 15#32
  let v78 : BitVec 1 := Scalar.cmpi .eq arg0 c15_i32
  let v79 : BitVec 32 := Scalar.extui v78
  let c0_i32_42 : BitVec 32 := 0#32
  let v80 : BitVec 1 := Scalar.cmpi .ne v79 c0_i32_42
  v80

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S5376x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S256x768 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x3072 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x512 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S256x512 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S256x512 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S256x1024 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 1 → Memref sig .tc .vmem S1x1024 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]
-- ==== InBwdRefIdeal.lean ====
abbrev S1x4096x1024 : Shape := ⟨3, ![1, 4096, 1024]⟩
abbrev S1024 : Shape := ⟨1, ![1024]⟩
abbrev S1024x5376 : Shape := ⟨2, ![1024, 5376]⟩
abbrev S1x4096x5376 : Shape := ⟨3, ![1, 4096, 5376]⟩
abbrev S_ : Shape := ⟨0, ![]⟩
abbrev S1x4096 : Shape := ⟨2, ![1, 4096]⟩
abbrev S1x4096x1 : Shape := ⟨3, ![1, 4096, 1]⟩
abbrev S1x1x1024 : Shape := ⟨3, ![1, 1, 1024]⟩
abbrev S1x1024 : Shape := ⟨2, ![1, 1024]⟩
abbrev S4096 : Shape := ⟨1, ![4096]⟩
abbrev S4096x1024 : Shape := ⟨2, ![4096, 1024]⟩

abbrev nBuf : Space → Nat
  | .hbm => 56
  | .vmem => 0
  | .smem => 0
  | _ => 0

abbrev bufTy : (tb : Table) → Fin (tcTables nBuf tb) → BufTy
  | .hbm, ⟨0, _⟩ => ⟨S1x4096x1024, .f32⟩
  | .hbm, ⟨1, _⟩ => ⟨S1024, .f32⟩
  | .hbm, ⟨2, _⟩ => ⟨S1024x5376, .f32⟩
  | .hbm, ⟨3, _⟩ => ⟨S1x4096x5376, .f32⟩
  | .hbm, ⟨4, _⟩ => ⟨S1x4096x1024, .f32⟩
  | .hbm, ⟨5, _⟩ => ⟨S1x4096x1024, .f32⟩
  | .hbm, ⟨6, _⟩ => ⟨S_, .f32⟩
  | .hbm, ⟨7, _⟩ => ⟨S1x4096, .f32⟩
  | .hbm, ⟨8, _⟩ => ⟨S1x4096x1, .f32⟩
  | .hbm, ⟨9, _⟩ => ⟨S_, .f32⟩
  | .hbm, ⟨10, _⟩ => ⟨S1x4096x1, .f32⟩
  | .hbm, ⟨11, _⟩ => ⟨S1x4096x1, .f32⟩
  | .hbm, ⟨12, _⟩ => ⟨S_, .f32⟩
  | .hbm, ⟨13, _⟩ => ⟨S1x4096x1, .f32⟩
  | .hbm, ⟨14, _⟩ => ⟨S1x4096x1, .f32⟩
  | .hbm, ⟨15, _⟩ => ⟨S1x4096x1, .f32⟩
  | .hbm, ⟨16, _⟩ => ⟨S1x4096x1, .f32⟩
  | .hbm, ⟨17, _⟩ => ⟨S_, .f32⟩
  | .hbm, ⟨18, _⟩ => ⟨S1x4096x1, .f32⟩
  | .hbm, ⟨19, _⟩ => ⟨S1x4096x1, .f32⟩
  | .hbm, ⟨20, _⟩ => ⟨S1x4096x1024, .f32⟩
  | .hbm, ⟨21, _⟩ => ⟨S1x4096x1024, .f32⟩
  | .hbm, ⟨22, _⟩ => ⟨S1x1x1024, .f32⟩
  | .hbm, ⟨23, _⟩ => ⟨S1x4096x1024, .f32⟩
  | .hbm, ⟨24, _⟩ => ⟨S1x4096x1024, .f32⟩
  | .hbm, ⟨25, _⟩ => ⟨S1x4096x5376, .f32⟩
  | .hbm, ⟨26, _⟩ => ⟨S1x4096x1024, .f32⟩
  | .hbm, ⟨27, _⟩ => ⟨S1x4096x1024, .f32⟩
  | .hbm, ⟨28, _⟩ => ⟨S_, .f32⟩
  | .hbm, ⟨29, _⟩ => ⟨S1x1024, .f32⟩
  | .hbm, ⟨30, _⟩ => ⟨S1x1x1024, .f32⟩
  | .hbm, ⟨31, _⟩ => ⟨S1x4096x1024, .f32⟩
  | .hbm, ⟨32, _⟩ => ⟨S1x4096x1024, .f32⟩
  | .hbm, ⟨33, _⟩ => ⟨S_, .f32⟩
  | .hbm, ⟨34, _⟩ => ⟨S1024, .f32⟩
  | .hbm, ⟨35, _⟩ => ⟨S1x4096x1024, .f32⟩
  | .hbm, ⟨36, _⟩ => ⟨S_, .f32⟩
  | .hbm, ⟨37, _⟩ => ⟨S1x4096, .f32⟩
  | .hbm, ⟨38, _⟩ => ⟨S1x4096x1, .f32⟩
  | .hbm, ⟨39, _⟩ => ⟨S1x4096x1024, .f32⟩
  | .hbm, ⟨40, _⟩ => ⟨S1x4096x1024, .f32⟩
  | .hbm, ⟨41, _⟩ => ⟨S1x4096x1024, .f32⟩
  | .hbm, ⟨42, _⟩ => ⟨S1x4096x1, .f32⟩
  | .hbm, ⟨43, _⟩ => ⟨S_, .f32⟩
  | .hbm, ⟨44, _⟩ => ⟨S1x4096x1, .f32⟩
  | .hbm, ⟨45, _⟩ => ⟨S1x4096x1, .f32⟩
  | .hbm, ⟨46, _⟩ => ⟨S_, .f32⟩
  | .hbm, ⟨47, _⟩ => ⟨S4096, .f32⟩
  | .hbm, ⟨48, _⟩ => ⟨S1x4096, .f32⟩
  | .hbm, ⟨49, _⟩ => ⟨S1x4096x1024, .f32⟩
  | .hbm, ⟨50, _⟩ => ⟨S1x4096x1024, .f32⟩
  | .hbm, ⟨51, _⟩ => ⟨S1x4096x1024, .f32⟩
  | .hbm, ⟨52, _⟩ => ⟨S1x4096x1024, .f32⟩
  | .hbm, ⟨53, _⟩ => ⟨S1x4096x1024, .f32⟩
  | .hbm, ⟨54, _⟩ => ⟨S4096x1024, .f32⟩
  | .hbm, ⟨55, _⟩ => ⟨S1x1024, .f32⟩
  | _, _ => ⟨S1x4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_cst_1 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_cst_2 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_cst_3 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_cst_4 : Ref sig .tc := ⟨.hbm, 33, rfl⟩
abbrev main_v23 : Ref sig .tc := ⟨.hbm, 34, rfl⟩
abbrev main_v24 : Ref sig .tc := ⟨.hbm, 35, rfl⟩
abbrev main_cst_5 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_cst_6 : Ref sig .tc := ⟨.hbm, 43, rfl⟩
abbrev main_v31 : Ref sig .tc := ⟨.hbm, 44, rfl⟩
abbrev main_v32 : Ref sig .tc := ⟨.hbm, 45, rfl⟩
abbrev main_cst_7 : Ref sig .tc := ⟨.hbm, 46, rfl⟩
abbrev main_v33 : Ref sig .tc := ⟨.hbm, 47, rfl⟩
abbrev main_v34 : Ref sig .tc := ⟨.hbm, 48, rfl⟩
abbrev main_v35 : Ref sig .tc := ⟨.hbm, 49, rfl⟩
abbrev main_v36 : Ref sig .tc := ⟨.hbm, 50, rfl⟩
abbrev main_v37 : Ref sig .tc := ⟨.hbm, 51, rfl⟩
abbrev main_v38 : Ref sig .tc := ⟨.hbm, 52, rfl⟩
abbrev main_v39 : Ref sig .tc := ⟨.hbm, 53, rfl⟩
abbrev main_v40 : Ref sig .tc := ⟨.hbm, 54, rfl⟩
abbrev main_v41 : Ref sig .tc := ⟨.hbm, 55, rfl⟩

abbrev nD : Nat := 1
abbrev τ : Topo := Topo.v7x

variable {F : FTy → Type} [FloatOps F]
-- ==== AttnBwd.lean ====
abbrev S1x4096x8x64 : Shape := ⟨4, ![1, 4096, 8, 64]⟩
abbrev S1x4096x2x64 : Shape := ⟨4, ![1, 4096, 2, 64]⟩
abbrev S1x4096x512 : Shape := ⟨3, ![1, 4096, 512]⟩
abbrev S4096x8x64 : Shape := ⟨3, ![4096, 8, 64]⟩
abbrev S8x4096x64 : Shape := ⟨3, ![8, 4096, 64]⟩
abbrev S_ : Shape := ⟨0, ![]⟩
abbrev S4096x2x64 : Shape := ⟨3, ![4096, 2, 64]⟩
abbrev S2x4096x64 : Shape := ⟨3, ![2, 4096, 64]⟩
abbrev S2x4x4096x64 : Shape := ⟨4, ![2, 4, 4096, 64]⟩
abbrev S2x4x4096x4096 : Shape := ⟨4, ![2, 4, 4096, 4096]⟩
abbrev S2x4x4096 : Shape := ⟨3, ![2, 4, 4096]⟩
abbrev S2x4x4096x1 : Shape := ⟨4, ![2, 4, 4096, 1]⟩
abbrev S8x64x4096 : Shape := ⟨3, ![8, 64, 4096]⟩
abbrev S4096x512 : Shape := ⟨2, ![4096, 512]⟩
abbrev S4096x2x4x64 : Shape := ⟨4, ![4096, 2, 4, 64]⟩
abbrev S8x1x4096 : Shape := ⟨3, ![8, 1, 4096]⟩
abbrev S2x64x4096 : Shape := ⟨3, ![2, 64, 4096]⟩
abbrev S2x1024x64 : Shape := ⟨3, ![2, 1024, 64]⟩
abbrev S2x64x1024 : Shape := ⟨3, ![2, 64, 1024]⟩
abbrev S1x4096x64 : Shape := ⟨3, ![1, 4096, 64]⟩
abbrev S1024x128 : Shape := ⟨2, ![1024, 128]⟩
abbrev S2x1x1024 : Shape := ⟨3, ![2, 1, 1024]⟩
abbrev S1x64x4096 : Shape := ⟨3, ![1, 64, 4096]⟩
abbrev S128x1024 : Shape := ⟨2, ![128, 1024]⟩
abbrev S1x1024x64 : Shape := ⟨3, ![1, 1024, 64]⟩
abbrev S1024x64 : Shape := ⟨2, ![1024, 64]⟩
abbrev S1x64x1024 : Shape := ⟨3, ![1, 64, 1024]⟩
abbrev S64x1024 : Shape := ⟨2, ![64, 1024]⟩
abbrev S1024 : Shape := ⟨1, ![1024]⟩
abbrev S1024x1 : Shape := ⟨2, ![1024, 1]⟩
abbrev S1024x512 : Shape := ⟨2, ![1024, 512]⟩
abbrev S1x1x1024 : Shape := ⟨3, ![1, 1, 1024]⟩
abbrev S1x1024 : Shape := ⟨2, ![1, 1024]⟩
abbrev S1x512x64 : Shape := ⟨3, ![1, 512, 64]⟩
abbrev S512x64 : Shape := ⟨2, ![512, 64]⟩
abbrev S1x64x512 : Shape := ⟨3, ![1, 64, 512]⟩
abbrev S64x512 : Shape := ⟨2, ![64, 512]⟩

abbrev nBuf : Space → Nat
  | .hbm => 40
  | .vmem => 20
  | .smem => 0
  | _ => 0

abbrev bufTy : (tb : Table) → Fin (tcTables nBuf tb) → BufTy
  | .hbm, ⟨0, _⟩ => ⟨S1x4096x8x64, .f32⟩
  | .hbm, ⟨1, _⟩ => ⟨S1x4096x2x64, .f32⟩
  | .hbm, ⟨2, _⟩ => ⟨S1x4096x2x64, .f32⟩
  | .hbm, ⟨3, _⟩ => ⟨S1x4096x512, .f32⟩
  | .hbm, ⟨4, _⟩ => ⟨S4096x8x64, .f32⟩
  | .hbm, ⟨5, _⟩ => ⟨S8x4096x64, .f32⟩
  | .hbm, ⟨6, _⟩ => ⟨S_, .f32⟩
  | .hbm, ⟨7, _⟩ => ⟨S8x4096x64, .f32⟩
  | .hbm, ⟨8, _⟩ => ⟨S8x4096x64, .f32⟩
  | .hbm, ⟨9, _⟩ => ⟨S4096x2x64, .f32⟩
  | .hbm, ⟨10, _⟩ => ⟨S2x4096x64, .f32⟩
  | .hbm, ⟨11, _⟩ => ⟨S4096x2x64, .f32⟩
  | .hbm, ⟨12, _⟩ => ⟨S2x4096x64, .f32⟩
  | .hbm, ⟨13, _⟩ => ⟨S2x4x4096x64, .f32⟩
  | .hbm, ⟨14, _⟩ => ⟨S2x4x4096x4096, .f32⟩
  | .hbm, ⟨15, _⟩ => ⟨S_, .f32⟩
  | .hbm, ⟨16, _⟩ => ⟨S2x4x4096, .f32⟩
  | .hbm, ⟨17, _⟩ => ⟨S2x4x4096x1, .f32⟩
  | .hbm, ⟨18, _⟩ => ⟨S2x4x4096x4096, .f32⟩
  | .hbm, ⟨19, _⟩ => ⟨S2x4x4096x4096, .f32⟩
  | .hbm, ⟨20, _⟩ => ⟨S2x4x4096x4096, .f32⟩
  | .hbm, ⟨21, _⟩ => ⟨S_, .f32⟩
  | .hbm, ⟨22, _⟩ => ⟨S2x4x4096, .f32⟩
  | .hbm, ⟨23, _⟩ => ⟨S2x4x4096x1, .f32⟩
  | .hbm, ⟨24, _⟩ => ⟨S2x4x4096x64, .f32⟩
  | .hbm, ⟨25, _⟩ => ⟨S2x4x4096x64, .f32⟩
  | .hbm, ⟨26, _⟩ => ⟨S2x4x4096x64, .f32⟩
  | .hbm, ⟨27, _⟩ => ⟨S8x4096x64, .bf16⟩
  | .hbm, ⟨28, _⟩ => ⟨S8x64x4096, .bf16⟩
  | .hbm, ⟨29, _⟩ => ⟨S2x4096x64, .bf16⟩
  | .hbm, ⟨30, _⟩ => ⟨S2x4096x64, .bf16⟩
  | .hbm, ⟨31, _⟩ => ⟨S4096x512, .f32⟩
  | .hbm, ⟨32, _⟩ => ⟨S4096x2x4x64, .f32⟩
  | .hbm, ⟨33, _⟩ => ⟨S4096x512, .f32⟩
  | .hbm, ⟨34, _⟩ => ⟨S2x4x4096x1, .f32⟩
  | .hbm, ⟨35, _⟩ => ⟨S2x4x4096x1, .f32⟩
  | .hbm, ⟨36, _⟩ => ⟨S8x1x4096, .f32⟩
  | .hbm, ⟨37, _⟩ => ⟨S4096x512, .f32⟩
  | .hbm, ⟨38, _⟩ => ⟨S2x64x4096, .f32⟩
  | .hbm, ⟨39, _⟩ => ⟨S2x64x4096, .f32⟩
  | .local _ .vmem, ⟨0, _⟩ => ⟨S2x1024x64, .bf16⟩
  | .local _ .vmem, ⟨1, _⟩ => ⟨S2x1024x64, .bf16⟩
  | .local _ .vmem, ⟨2, _⟩ => ⟨S2x64x1024, .bf16⟩
  | .local _ .vmem, ⟨3, _⟩ => ⟨S2x64x1024, .bf16⟩
  | .local _ .vmem, ⟨4, _⟩ => ⟨S1x4096x64, .bf16⟩
  | .local _ .vmem, ⟨5, _⟩ => ⟨S1x4096x64, .bf16⟩
  | .local _ .vmem, ⟨6, _⟩ => ⟨S1x4096x64, .bf16⟩
  | .local _ .vmem, ⟨7, _⟩ => ⟨S1x4096x64, .bf16⟩
  | .local _ .vmem, ⟨8, _⟩ => ⟨S1024x128, .f32⟩
  | .local _ .vmem, ⟨9, _⟩ => ⟨S1024x128, .f32⟩
  | .local _ .vmem, ⟨10, _⟩ => ⟨S1024x128, .f32⟩
  | .local _ .vmem, ⟨11, _⟩ => ⟨S1024x128, .f32⟩
  | .local _ .vmem, ⟨12, _⟩ => ⟨S2x1x1024, .f32⟩
  | .local _ .vmem, ⟨13, _⟩ => ⟨S2x1x1024, .f32⟩
  | .local _ .vmem, ⟨14, _⟩ => ⟨S1024x128, .f32⟩
  | .local _ .vmem, ⟨15, _⟩ => ⟨S1024x128, .f32⟩
  | .local _ .vmem, ⟨16, _⟩ => ⟨S1x64x4096, .f32⟩
  | .local _ .vmem, ⟨17, _⟩ => ⟨S1x64x4096, .f32⟩
  | .local _ .vmem, ⟨18, _⟩ => ⟨S1x64x4096, .f32⟩
  | .local _ .vmem, ⟨19, _⟩ => ⟨S1x64x4096, .f32⟩
  | _, _ => ⟨S1x4096x8x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_cst : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_cst_0 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_cst_1 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩
abbrev main_v23 : Ref sig .tc := ⟨.hbm, 30, rfl⟩
abbrev main_v24 : Ref sig .tc := ⟨.hbm, 31, rfl⟩
abbrev main_v25 : Ref sig .tc := ⟨.hbm, 32, rfl⟩
abbrev main_v26 : Ref sig .tc := ⟨.hbm, 33, rfl⟩
abbrev main_v27 : Ref sig .tc := ⟨.hbm, 34, rfl⟩
abbrev main_v28 : Ref sig .tc := ⟨.hbm, 35, rfl⟩
abbrev main_v29 : Ref sig .tc := ⟨.hbm, 36, rfl⟩
abbrev main_v30_0 : Ref sig .tc := ⟨.hbm, 37, rfl⟩
abbrev main_v30_1 : Ref sig .tc := ⟨.hbm, 38, rfl⟩
abbrev main_v30_2 : Ref sig .tc := ⟨.hbm, 39, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19

abbrev nD : Nat := 1
abbrev τ : Topo := Topo.v7x

variable {F : FTy → Type} [FloatOps F]

abbrev grid0 : Pipeline.Grid := ⟨2, ![4, 4], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_2 (i : grid0.Coords) : Fin 3 → Nat :=
  let arg0 : BitVec 32 := BitVec.ofNat 32 (i 0).val
  let arg1 : BitVec 32 := BitVec.ofNat 32 (i 1).val
  let c2_i32 : BitVec 32 := 2#32
  let v0 : BitVec 32 := Scalar.divsi arg0 c2_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c2_i32 c0_i32_1
  let v7 : BitVec 32 := Scalar.extui v6
  let c0_i32_2 : BitVec 32 := 0#32
  let v8 : BitVec 1 := Scalar.cmpi .slt c2_i32 c0_i32_2
  let v9 : BitVec 32 := Scalar.extui v8
  let v10 : BitVec 32 := Scalar.subi v7 v9
  let v11 : BitVec 1 := Scalar.cmpi .ne v5 v10
  let v12 : BitVec 32 := Scalar.remsi arg0 c2_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c0_i32_5 : BitVec 32 := 0#32
  let c0_i32_6 : BitVec 32 := 0#32
  ![v16.toNat, c0_i32_4.toNat, c0_i32_5.toNat]

def cc0_transform_3 (i : grid0.Coords) : Fin 3 → Nat :=
  let arg0 : BitVec 32 := BitVec.ofNat 32 (i 0).val
  let arg1 : BitVec 32 := BitVec.ofNat 32 (i 1).val
  let c2_i32 : BitVec 32 := 2#32
  let v0 : BitVec 32 := Scalar.divsi arg0 c2_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c2_i32 c0_i32_1
  let v7 : BitVec 32 := Scalar.extui v6
  let c0_i32_2 : BitVec 32 := 0#32
  let v8 : BitVec 1 := Scalar.cmpi .slt c2_i32 c0_i32_2
  let v9 : BitVec 32 := Scalar.extui v8
  let v10 : BitVec 32 := Scalar.subi v7 v9
  let v11 : BitVec 1 := Scalar.cmpi .ne v5 v10
  let v12 : BitVec 32 := Scalar.remsi arg0 c2_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c0_i32_5 : BitVec 32 := 0#32
  let c0_i32_6 : BitVec 32 := 0#32
  ![v16.toNat, c0_i32_4.toNat, c0_i32_5.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_8 (i : grid0.Coords) : Fin 3 → Nat :=
  let arg0 : BitVec 32 := BitVec.ofNat 32 (i 0).val
  let arg1 : BitVec 32 := BitVec.ofNat 32 (i 1).val
  let c2_i32 : BitVec 32 := 2#32
  let v0 : BitVec 32 := Scalar.divsi arg0 c2_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c2_i32 c0_i32_1
  let v7 : BitVec 32 := Scalar.extui v6
  let c0_i32_2 : BitVec 32 := 0#32
  let v8 : BitVec 1 := Scalar.cmpi .slt c2_i32 c0_i32_2
  let v9 : BitVec 32 := Scalar.extui v8
  let v10 : BitVec 32 := Scalar.subi v7 v9
  let v11 : BitVec 1 := Scalar.cmpi .ne v5 v10
  let v12 : BitVec 32 := Scalar.remsi arg0 c2_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c0_i32_5 : BitVec 32 := 0#32
  let c0_i32_6 : BitVec 32 := 0#32
  ![v16.toNat, c0_i32_4.toNat, c0_i32_5.toNat]

def cc0_transform_9 (i : grid0.Coords) : Fin 3 → Nat :=
  let arg0 : BitVec 32 := BitVec.ofNat 32 (i 0).val
  let arg1 : BitVec 32 := BitVec.ofNat 32 (i 1).val
  let c2_i32 : BitVec 32 := 2#32
  let v0 : BitVec 32 := Scalar.divsi arg0 c2_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c2_i32 c0_i32_1
  let v7 : BitVec 32 := Scalar.extui v6
  let c0_i32_2 : BitVec 32 := 0#32
  let v8 : BitVec 1 := Scalar.cmpi .slt c2_i32 c0_i32_2
  let v9 : BitVec 32 := Scalar.extui v8
  let v10 : BitVec 32 := Scalar.subi v7 v9
  let v11 : BitVec 1 := Scalar.cmpi .ne v5 v10
  let v12 : BitVec 32 := Scalar.remsi arg0 c2_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c0_i32_5 : BitVec 32 := 0#32
  let c0_i32_6 : BitVec 32 := 0#32
  ![v16.toNat, c0_i32_4.toNat, c0_i32_5.toNat]

abbrev stage0_0 : Fin 2 → Memref sig .tc .vmem S2x1024x64 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S2x64x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x4096x64 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1x4096x64 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S1024x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1024x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S2x1x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S1024x128 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S1x64x4096 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, false]

abbrev stage0_9 : Fin 2 → Memref sig .tc .vmem S1x64x4096 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, false]
-- ==== AttnBwdRefIdeal.lean ====
abbrev S1x4096x8x64 : Shape := ⟨4, ![1, 4096, 8, 64]⟩
abbrev S1x4096x2x64 : Shape := ⟨4, ![1, 4096, 2, 64]⟩
abbrev S1x4096x512 : Shape := ⟨3, ![1, 4096, 512]⟩
abbrev S1x4096x2x4x64 : Shape := ⟨5, ![1, 4096, 2, 4, 64]⟩
abbrev S1x2x4096x4096x4 : Shape := ⟨5, ![1, 2, 4096, 4096, 4]⟩
abbrev S1x2x4x4096x4096 : Shape := ⟨5, ![1, 2, 4, 4096, 4096]⟩
abbrev S_ : Shape := ⟨0, ![]⟩
abbrev S1x2x4x4096 : Shape := ⟨4, ![1, 2, 4, 4096]⟩
abbrev S1x2x4x4096x1 : Shape := ⟨5, ![1, 2, 4, 4096, 1]⟩
abbrev S1x2x64x4x4096 : Shape := ⟨5, ![1, 2, 64, 4, 4096]⟩
abbrev S1x2x64x4096 : Shape := ⟨4, ![1, 2, 64, 4096]⟩
abbrev S2x4x4096 : Shape := ⟨3, ![2, 4, 4096]⟩
abbrev S1x2x4096x4x64 : Shape := ⟨5, ![1, 2, 4096, 4, 64]⟩
abbrev S1x2x4096x64 : Shape := ⟨4, ![1, 2, 4096, 64]⟩
abbrev S4096x512 : Shape := ⟨2, ![4096, 512]⟩
abbrev S4096x2x64 : Shape := ⟨3, ![4096, 2, 64]⟩
abbrev S2x64x4096 : Shape := ⟨3, ![2, 64, 4096]⟩

abbrev nBuf : Space → Nat
  | .hbm => 85
  | .vmem => 0
  | .smem => 0
  | _ => 0

abbrev bufTy : (tb : Table) → Fin (tcTables nBuf tb) → BufTy
  | .hbm, ⟨0, _⟩ => ⟨S1x4096x8x64, .f32⟩
  | .hbm, ⟨1, _⟩ => ⟨S1x4096x2x64, .f32⟩
  | .hbm, ⟨2, _⟩ => ⟨S1x4096x2x64, .f32⟩
  | .hbm, ⟨3, _⟩ => ⟨S1x4096x512, .f32⟩
  | .hbm, ⟨4, _⟩ => ⟨S1x4096x2x4x64, .f32⟩
  | .hbm, ⟨5, _⟩ => ⟨S1x2x4096x4096x4, .f32⟩
  | .hbm, ⟨6, _⟩ => ⟨S1x2x4x4096x4096, .f32⟩
  | .hbm, ⟨7, _⟩ => ⟨S_, .f32⟩
  | .hbm, ⟨8, _⟩ => ⟨S1x2x4x4096x4096, .f32⟩
  | .hbm, ⟨9, _⟩ => ⟨S1x2x4x4096x4096, .f32⟩
  | .hbm, ⟨10, _⟩ => ⟨S_, .f32⟩
  | .hbm, ⟨11, _⟩ => ⟨S1x2x4x4096, .f32⟩
  | .hbm, ⟨12, _⟩ => ⟨S1x2x4x4096x1, .f32⟩
  | .hbm, ⟨13, _⟩ => ⟨S1x2x4x4096x4096, .f32⟩
  | .hbm, ⟨14, _⟩ => ⟨S1x2x4x4096x4096, .i1⟩
  | .hbm, ⟨15, _⟩ => ⟨S1x2x4x4096x4096, .f32⟩
  | .hbm, ⟨16, _⟩ => ⟨S_, .f32⟩
  | .hbm, ⟨17, _⟩ => ⟨S1x2x4x4096, .f32⟩
  | .hbm, ⟨18, _⟩ => ⟨S_, .f32⟩
  | .hbm, ⟨19, _⟩ => ⟨S1x2x4x4096, .f32⟩
  | .hbm, ⟨20, _⟩ => ⟨S1x2x4x4096, .f32⟩
  | .hbm, ⟨21, _⟩ => ⟨S_, .f32⟩
  | .hbm, ⟨22, _⟩ => ⟨S1x2x4x4096, .f32⟩
  | .hbm, ⟨23, _⟩ => ⟨S1x2x4x4096, .i1⟩
  | .hbm, ⟨24, _⟩ => ⟨S_, .f32⟩
  | .hbm, ⟨25, _⟩ => ⟨S1x2x4x4096, .f32⟩
  | .hbm, ⟨26, _⟩ => ⟨S1x2x4x4096, .i1⟩
  | .hbm, ⟨27, _⟩ => ⟨S_, .f32⟩
  | .hbm, ⟨28, _⟩ => ⟨S1x2x4x4096, .f32⟩
  | .hbm, ⟨29, _⟩ => ⟨S_, .f32⟩
  | .hbm, ⟨30, _⟩ => ⟨S1x2x4x4096, .f32⟩
  | .hbm, ⟨31, _⟩ => ⟨S_, .f32⟩
  | .hbm, ⟨32, _⟩ => ⟨S1x2x4x4096, .f32⟩
  | .hbm, ⟨33, _⟩ => ⟨S1x2x4x4096, .f32⟩
  | .hbm, ⟨34, _⟩ => ⟨S1x2x4x4096, .f32⟩
  | .hbm, ⟨35, _⟩ => ⟨S1x2x4x4096x1, .f32⟩
  | .hbm, ⟨36, _⟩ => ⟨S1x2x4x4096x4096, .f32⟩
  | .hbm, ⟨37, _⟩ => ⟨S1x2x4x4096x4096, .f32⟩
  | .hbm, ⟨38, _⟩ => ⟨S1x2x4x4096x4096, .f32⟩
  | .hbm, ⟨39, _⟩ => ⟨S_, .f32⟩
  | .hbm, ⟨40, _⟩ => ⟨S1x2x4x4096, .f32⟩
  | .hbm, ⟨41, _⟩ => ⟨S1x2x4x4096x1, .f32⟩
  | .hbm, ⟨42, _⟩ => ⟨S1x2x4x4096x4096, .f32⟩
  | .hbm, ⟨43, _⟩ => ⟨S1x2x4x4096x4096, .f32⟩
  | .hbm, ⟨44, _⟩ => ⟨S1x2x4x4096x1, .f32⟩
  | .hbm, ⟨45, _⟩ => ⟨S_, .f32⟩
  | .hbm, ⟨46, _⟩ => ⟨S1x2x4x4096x1, .f32⟩
  | .hbm, ⟨47, _⟩ => ⟨S1x2x4x4096x1, .f32⟩
  | .hbm, ⟨48, _⟩ => ⟨S1x2x64x4x4096, .f32⟩
  | .hbm, ⟨49, _⟩ => ⟨S1x4096x2x4x64, .f32⟩
  | .hbm, ⟨50, _⟩ => ⟨S1x4096x512, .f32⟩
  | .hbm, ⟨51, _⟩ => ⟨S1x4096x2x4x64, .f32⟩
  | .hbm, ⟨52, _⟩ => ⟨S1x2x64x4x4096, .f32⟩
  | .hbm, ⟨53, _⟩ => ⟨S1x2x4x4096x4096, .f32⟩
  | .hbm, ⟨54, _⟩ => ⟨S1x2x64x4096, .f32⟩
  | .hbm, ⟨55, _⟩ => ⟨S1x4096x2x64, .f32⟩
  | .hbm, ⟨56, _⟩ => ⟨S1x2x4x4096x4096, .f32⟩
  | .hbm, ⟨57, _⟩ => ⟨S1x2x4x4096x4096, .f32⟩
  | .hbm, ⟨58, _⟩ => ⟨S1x2x4x4096x4096, .f32⟩
  | .hbm, ⟨59, _⟩ => ⟨S_, .f32⟩
  | .hbm, ⟨60, _⟩ => ⟨S1x2x4x4096, .f32⟩
  | .hbm, ⟨61, _⟩ => ⟨S1x2x4x4096x1, .f32⟩
  | .hbm, ⟨62, _⟩ => ⟨S1x2x4x4096x1, .f32⟩
  | .hbm, ⟨63, _⟩ => ⟨S1x2x4x4096x4096, .f32⟩
  | .hbm, ⟨64, _⟩ => ⟨S1x2x4x4096x4096, .f32⟩
  | .hbm, ⟨65, _⟩ => ⟨S_, .f32⟩
  | .hbm, ⟨66, _⟩ => ⟨S2x4x4096, .f32⟩
  | .hbm, ⟨67, _⟩ => ⟨S1x2x4x4096, .f32⟩
  | .hbm, ⟨68, _⟩ => ⟨S1x2x4x4096x4096, .f32⟩
  | .hbm, ⟨69, _⟩ => ⟨S1x2x4x4096x4096, .f32⟩
  | .hbm, ⟨70, _⟩ => ⟨S1x2x4x4096x4096, .f32⟩
  | .hbm, ⟨71, _⟩ => ⟨S_, .f32⟩
  | .hbm, ⟨72, _⟩ => ⟨S1x2x4x4096x4096, .f32⟩
  | .hbm, ⟨73, _⟩ => ⟨S1x2x4x4096x4096, .f32⟩
  | .hbm, ⟨74, _⟩ => ⟨S1x2x4096x4096x4, .f32⟩
  | .hbm, ⟨75, _⟩ => ⟨S1x2x4096x4x64, .f32⟩
  | .hbm, ⟨76, _⟩ => ⟨S1x4096x2x4x64, .f32⟩
  | .hbm, ⟨77, _⟩ => ⟨S1x2x4096x64, .f32⟩
  | .hbm, ⟨78, _⟩ => ⟨S1x4096x2x64, .f32⟩
  | .hbm, ⟨79, _⟩ => ⟨S1x4096x8x64, .f32⟩
  | .hbm, ⟨80, _⟩ => ⟨S4096x512, .f32⟩
  | .hbm, ⟨81, _⟩ => ⟨S4096x2x64, .f32⟩
  | .hbm, ⟨82, _⟩ => ⟨S2x64x4096, .f32⟩
  | .hbm, ⟨83, _⟩ => ⟨S4096x2x64, .f32⟩
  | .hbm, ⟨84, _⟩ => ⟨S2x64x4096, .f32⟩
  | _, _ => ⟨S1x4096x8x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_cst : Ref sig .tc := ⟨.hbm, 7, rfl⟩
abbrev main_v3 : Ref sig .tc := ⟨.hbm, 8, rfl⟩
abbrev main_v4 : Ref sig .tc := ⟨.hbm, 9, rfl⟩
abbrev main_cst_0 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_cst_1 : Ref sig .tc := ⟨.hbm, 16, rfl⟩
abbrev main_v10 : Ref sig .tc := ⟨.hbm, 17, rfl⟩
abbrev main_cst_2 : Ref sig .tc := ⟨.hbm, 18, rfl⟩
abbrev main_v11 : Ref sig .tc := ⟨.hbm, 19, rfl⟩
abbrev main_v12 : Ref sig .tc := ⟨.hbm, 20, rfl⟩
abbrev main_cst_3 : Ref sig .tc := ⟨.hbm, 21, rfl⟩
abbrev main_v13 : Ref sig .tc := ⟨.hbm, 22, rfl⟩
abbrev main_v14 : Ref sig .tc := ⟨.hbm, 23, rfl⟩
abbrev main_cst_4 : Ref sig .tc := ⟨.hbm, 24, rfl⟩
abbrev main_v15 : Ref sig .tc := ⟨.hbm, 25, rfl⟩
abbrev main_v16 : Ref sig .tc := ⟨.hbm, 26, rfl⟩
abbrev main_cst_5 : Ref sig .tc := ⟨.hbm, 27, rfl⟩
abbrev main_v17 : Ref sig .tc := ⟨.hbm, 28, rfl⟩
abbrev main_cst_6 : Ref sig .tc := ⟨.hbm, 29, rfl⟩
abbrev main_v18 : Ref sig .tc := ⟨.hbm, 30, rfl⟩
abbrev main_cst_7 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_cst_8 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_cst_9 : Ref sig .tc := ⟨.hbm, 45, rfl⟩
abbrev main_v31 : Ref sig .tc := ⟨.hbm, 46, rfl⟩
abbrev main_v32 : Ref sig .tc := ⟨.hbm, 47, rfl⟩
abbrev main_v33 : Ref sig .tc := ⟨.hbm, 48, rfl⟩
abbrev main_v34 : Ref sig .tc := ⟨.hbm, 49, rfl⟩
abbrev main_v35 : Ref sig .tc := ⟨.hbm, 50, rfl⟩
abbrev main_v36 : Ref sig .tc := ⟨.hbm, 51, rfl⟩
abbrev main_v37 : Ref sig .tc := ⟨.hbm, 52, rfl⟩
abbrev main_v38 : Ref sig .tc := ⟨.hbm, 53, rfl⟩
abbrev main_v39 : Ref sig .tc := ⟨.hbm, 54, rfl⟩
abbrev main_v40 : Ref sig .tc := ⟨.hbm, 55, rfl⟩
abbrev main_v41 : Ref sig .tc := ⟨.hbm, 56, rfl⟩
abbrev main_v42 : Ref sig .tc := ⟨.hbm, 57, rfl⟩
abbrev main_v43 : Ref sig .tc := ⟨.hbm, 58, rfl⟩
abbrev main_cst_10 : Ref sig .tc := ⟨.hbm, 59, rfl⟩
abbrev main_v44 : Ref sig .tc := ⟨.hbm, 60, rfl⟩
abbrev main_v45 : Ref sig .tc := ⟨.hbm, 61, rfl⟩
abbrev main_v46 : Ref sig .tc := ⟨.hbm, 62, rfl⟩
abbrev main_v47 : Ref sig .tc := ⟨.hbm, 63, rfl⟩
abbrev main_v48 : Ref sig .tc := ⟨.hbm, 64, rfl⟩
abbrev main_cst_11 : Ref sig .tc := ⟨.hbm, 65, rfl⟩
abbrev main_v49 : Ref sig .tc := ⟨.hbm, 66, rfl⟩
abbrev main_v50 : Ref sig .tc := ⟨.hbm, 67, rfl⟩
abbrev main_v51 : Ref sig .tc := ⟨.hbm, 68, rfl⟩
abbrev main_v52 : Ref sig .tc := ⟨.hbm, 69, rfl⟩
abbrev main_v53 : Ref sig .tc := ⟨.hbm, 70, rfl⟩
abbrev main_cst_12 : Ref sig .tc := ⟨.hbm, 71, rfl⟩
abbrev main_v54 : Ref sig .tc := ⟨.hbm, 72, rfl⟩
abbrev main_v55 : Ref sig .tc := ⟨.hbm, 73, rfl⟩
abbrev main_v56 : Ref sig .tc := ⟨.hbm, 74, rfl⟩
abbrev main_v57 : Ref sig .tc := ⟨.hbm, 75, rfl⟩
abbrev main_v58 : Ref sig .tc := ⟨.hbm, 76, rfl⟩
abbrev main_v59 : Ref sig .tc := ⟨.hbm, 77, rfl⟩
abbrev main_v60 : Ref sig .tc := ⟨.hbm, 78, rfl⟩
abbrev main_v61 : Ref sig .tc := ⟨.hbm, 79, rfl⟩
abbrev main_v62 : Ref sig .tc := ⟨.hbm, 80, rfl⟩
abbrev main_v63 : Ref sig .tc := ⟨.hbm, 81, rfl⟩
abbrev main_v64 : Ref sig .tc := ⟨.hbm, 82, rfl⟩
abbrev main_v65 : Ref sig .tc := ⟨.hbm, 83, rfl⟩
abbrev main_v66 : Ref sig .tc := ⟨.hbm, 84, rfl⟩

abbrev nD : Nat := 1
abbrev τ : Topo := Topo.v7x

variable {F : FTy → Type} [FloatOps F]
-- ==== MergeBwd.lean ====
abbrev S1x4096x5376 : Shape := ⟨3, ![1, 4096, 5376]⟩
abbrev S1x4096x512 : Shape := ⟨3, ![1, 4096, 512]⟩
abbrev S512x1024 : Shape := ⟨2, ![512, 1024]⟩
abbrev S1024x1024 : Shape := ⟨2, ![1024, 1024]⟩
abbrev S1x4096x1024 : Shape := ⟨3, ![1, 4096, 1024]⟩
abbrev S4096x512 : Shape := ⟨2, ![4096, 512]⟩
abbrev S1x4096x4608 : Shape := ⟨3, ![1, 4096, 4608]⟩
abbrev S4096x4608 : Shape := ⟨2, ![4096, 4608]⟩
abbrev S1x4096x256 : Shape := ⟨3, ![1, 4096, 256]⟩
abbrev S4096x256 : Shape := ⟨2, ![4096, 256]⟩
abbrev S4096x5376 : Shape := ⟨2, ![4096, 5376]⟩
abbrev S1024x512 : Shape := ⟨2, ![1024, 512]⟩
abbrev S_ : Shape := ⟨0, ![]⟩
abbrev S4096x1024 : Shape := ⟨2, ![4096, 1024]⟩
abbrev S4096x3072 : Shape := ⟨2, ![4096, 3072]⟩
abbrev S256x1024 : Shape := ⟨2, ![256, 1024]⟩
abbrev S256x512 : Shape := ⟨2, ![256, 512]⟩
abbrev S256x3072 : Shape := ⟨2, ![256, 3072]⟩

abbrev nBuf : Space → Nat
  | .hbm => 57
  | .vmem => 30
  | .smem => 0
  | _ => 0

abbrev bufTy : (tb : Table) → Fin (tcTables nBuf tb) → BufTy
  | .hbm, ⟨0, _⟩ => ⟨S1x4096x5376, .f32⟩
  | .hbm, ⟨1, _⟩ => ⟨S1x4096x512, .f32⟩
  | .hbm, ⟨2, _⟩ => ⟨S1x4096x512, .f32⟩
  | .hbm, ⟨3, _⟩ => ⟨S512x1024, .f32⟩
  | .hbm, ⟨4, _⟩ => ⟨S512x1024, .f32⟩
  | .hbm, ⟨5, _⟩ => ⟨S1024x1024, .f32⟩
  | .hbm, ⟨6, _⟩ => ⟨S1x4096x1024, .f32⟩
  | .hbm, ⟨7, _⟩ => ⟨S1x4096x512, .f32⟩
  | .hbm, ⟨8, _⟩ => ⟨S4096x512, .f32⟩
  | .hbm, ⟨9, _⟩ => ⟨S1x4096x4608, .f32⟩
  | .hbm, ⟨10, _⟩ => ⟨S4096x4608, .f32⟩
  | .hbm, ⟨11, _⟩ => ⟨S1x4096x256, .f32⟩
  | .hbm, ⟨12, _⟩ => ⟨S4096x256, .f32⟩
  | .hbm, ⟨13, _⟩ => ⟨S4096x5376, .f32⟩
  | .hbm, ⟨14, _⟩ => ⟨S1024x512, .f32⟩
  | .hbm, ⟨15, _⟩ => ⟨S1024x512, .f32⟩
  | .hbm, ⟨16, _⟩ => ⟨S1024x1024, .f32⟩
  | .hbm, ⟨17, _⟩ => ⟨S1024x1024, .bf16⟩
  | .hbm, ⟨18, _⟩ => ⟨S1x4096x512, .f32⟩
  | .hbm, ⟨19, _⟩ => ⟨S4096x512, .f32⟩
  | .hbm, ⟨20, _⟩ => ⟨S4096x512, .f32⟩
  | .hbm, ⟨21, _⟩ => ⟨S4096x512, .f32⟩
  | .hbm, ⟨22, _⟩ => ⟨S_, .f32⟩
  | .hbm, ⟨23, _⟩ => ⟨S4096x512, .f32⟩
  | .hbm, ⟨24, _⟩ => ⟨S4096x512, .f32⟩
  | .hbm, ⟨25, _⟩ => ⟨S_, .f32⟩
  | .hbm, ⟨26, _⟩ => ⟨S4096x512, .f32⟩
  | .hbm, ⟨27, _⟩ => ⟨S4096x512, .f32⟩
  | .hbm, ⟨28, _⟩ => ⟨S4096x512, .f32⟩
  | .hbm, ⟨29, _⟩ => ⟨S4096x512, .f32⟩
  | .hbm, ⟨30, _⟩ => ⟨S4096x512, .f32⟩
  | .hbm, ⟨31, _⟩ => ⟨S4096x1024, .f32⟩
  | .hbm, ⟨32, _⟩ => ⟨S1x4096x512, .f32⟩
  | .hbm, ⟨33, _⟩ => ⟨S4096x512, .f32⟩
  | .hbm, ⟨34, _⟩ => ⟨S4096x512, .f32⟩
  | .hbm, ⟨35, _⟩ => ⟨S4096x512, .f32⟩
  | .hbm, ⟨36, _⟩ => ⟨S_, .f32⟩
  | .hbm, ⟨37, _⟩ => ⟨S4096x512, .f32⟩
  | .hbm, ⟨38, _⟩ => ⟨S4096x512, .f32⟩
  | .hbm, ⟨39, _⟩ => ⟨S_, .f32⟩
  | .hbm, ⟨40, _⟩ => ⟨S4096x512, .f32⟩
  | .hbm, ⟨41, _⟩ => ⟨S4096x512, .f32⟩
  | .hbm, ⟨42, _⟩ => ⟨S4096x512, .f32⟩
  | .hbm, ⟨43, _⟩ => ⟨S4096x512, .f32⟩
  | .hbm, ⟨44, _⟩ => ⟨S4096x512, .f32⟩
  | .hbm, ⟨45, _⟩ => ⟨S4096x1024, .f32⟩
  | .hbm, ⟨46, _⟩ => ⟨S4096x1024, .f32⟩
  | .hbm, ⟨47, _⟩ => ⟨S4096x512, .f32⟩
  | .hbm, ⟨48, _⟩ => ⟨S4096x512, .f32⟩
  | .hbm, ⟨49, _⟩ => ⟨S4096x1024, .bf16⟩
  | .hbm, ⟨50, _⟩ => ⟨S4096x1024, .bf16⟩
  | .hbm, ⟨51, _⟩ => ⟨S1024x1024, .bf16⟩
  | .hbm, ⟨52, _⟩ => ⟨S4096x512, .f32⟩
  | .hbm, ⟨53, _⟩ => ⟨S4096x512, .f32⟩
  | .hbm, ⟨54, _⟩ => ⟨S4096x3072, .bf16⟩
  | .hbm, ⟨55, _⟩ => ⟨S1024x1024, .bf16⟩
  | .hbm, ⟨56, _⟩ => ⟨S1024x1024, .bf16⟩
  | .local _ .vmem, ⟨0, _⟩ => ⟨S256x1024, .f32⟩
  | .local _ .vmem, ⟨1, _⟩ => ⟨S256x1024, .f32⟩
  | .local _ .vmem, ⟨2, _⟩ => ⟨S256x512, .f32⟩
  | .local _ .vmem, ⟨3, _⟩ => ⟨S256x512, .f32⟩
  | .local _ .vmem, ⟨4, _⟩ => ⟨S256x512, .f32⟩
  | .local _ .vmem, ⟨5, _⟩ => ⟨S256x512, .f32⟩
  | .local _ .vmem, ⟨6, _⟩ => ⟨S256x1024, .f32⟩
  | .local _ .vmem, ⟨7, _⟩ => ⟨S256x1024, .f32⟩
  | .local _ .vmem, ⟨8, _⟩ => ⟨S256x1024, .f32⟩
  | .local _ .vmem, ⟨9, _⟩ => ⟨S256x1024, .f32⟩
  | .local _ .vmem, ⟨10, _⟩ => ⟨S256x512, .f32⟩
  | .local _ .vmem, ⟨11, _⟩ => ⟨S256x512, .f32⟩
  | .local _ .vmem, ⟨12, _⟩ => ⟨S256x512, .f32⟩
  | .local _ .vmem, ⟨13, _⟩ => ⟨S256x512, .f32⟩
  | .local _ .vmem, ⟨14, _⟩ => ⟨S256x1024, .bf16⟩
  | .local _ .vmem, ⟨15, _⟩ => ⟨S256x1024, .bf16⟩
  | .local _ .vmem, ⟨16, _⟩ => ⟨S256x1024, .bf16⟩
  | .local _ .vmem, ⟨17, _⟩ => ⟨S256x1024, .bf16⟩
  | .local _ .vmem, ⟨18, _⟩ => ⟨S1024x1024, .bf16⟩
  | .local _ .vmem, ⟨19, _⟩ => ⟨S1024x1024, .bf16⟩
  | .local _ .vmem, ⟨20, _⟩ => ⟨S256x512, .f32⟩
  | .local _ .vmem, ⟨21, _⟩ => ⟨S256x512, .f32⟩
  | .local _ .vmem, ⟨22, _⟩ => ⟨S256x512, .f32⟩
  | .local _ .vmem, ⟨23, _⟩ => ⟨S256x512, .f32⟩
  | .local _ .vmem, ⟨24, _⟩ => ⟨S256x3072, .bf16⟩
  | .local _ .vmem, ⟨25, _⟩ => ⟨S256x3072, .bf16⟩
  | .local _ .vmem, ⟨26, _⟩ => ⟨S1024x1024, .bf16⟩
  | .local _ .vmem, ⟨27, _⟩ => ⟨S1024x1024, .bf16⟩
  | .local _ .vmem, ⟨28, _⟩ => ⟨S1024x1024, .f32⟩
  | .local _ .vmem, ⟨29, _⟩ => ⟨S1024x1024, .f32⟩
  | _, _ => ⟨S1x4096x5376, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | _, _ => false

abbrev semScoped : Fin 0 → Bool
  | ⟨_, h⟩ => absurd h (Nat.not_lt_zero _)

abbrev dmaSemScoped : Fin 28 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | _ => false

abbrev sig : RefSig :=
  ofTc nBuf bufTy 0 28 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_call0_v0 : Ref sig .tc := ⟨.hbm, 20, rfl⟩
abbrev main_call0_v1 : Ref sig .tc := ⟨.hbm, 21, rfl⟩
abbrev main_call0_cst : Ref sig .tc := ⟨.hbm, 22, rfl⟩
abbrev main_call0_v2 : Ref sig .tc := ⟨.hbm, 23, rfl⟩
abbrev main_call0_v3 : Ref sig .tc := ⟨.hbm, 24, rfl⟩
abbrev main_call0_cst_0 : Ref sig .tc := ⟨.hbm, 25, rfl⟩
abbrev main_call0_v4 : Ref sig .tc := ⟨.hbm, 26, rfl⟩
abbrev main_call0_v5 : Ref sig .tc := ⟨.hbm, 27, rfl⟩
abbrev main_v13 : Ref sig .tc := ⟨.hbm, 28, rfl⟩
abbrev main_v14 : Ref sig .tc := ⟨.hbm, 29, rfl⟩
abbrev main_v15 : Ref sig .tc := ⟨.hbm, 30, rfl⟩
abbrev main_v16 : Ref sig .tc := ⟨.hbm, 31, rfl⟩
abbrev main_v17 : Ref sig .tc := ⟨.hbm, 32, rfl⟩
abbrev main_v18 : Ref sig .tc := ⟨.hbm, 33, rfl⟩
abbrev main_call1_v0 : Ref sig .tc := ⟨.hbm, 34, rfl⟩
abbrev main_call1_v1 : Ref sig .tc := ⟨.hbm, 35, rfl⟩
abbrev main_call1_cst : Ref sig .tc := ⟨.hbm, 36, rfl⟩
abbrev main_call1_v2 : Ref sig .tc := ⟨.hbm, 37, rfl⟩
abbrev main_call1_v3 : Ref sig .tc := ⟨.hbm, 38, rfl⟩
abbrev main_call1_cst_0 : Ref sig .tc := ⟨.hbm, 39, rfl⟩
abbrev main_call1_v4 : Ref sig .tc := ⟨.hbm, 40, rfl⟩
abbrev main_call1_v5 : Ref sig .tc := ⟨.hbm, 41, rfl⟩
abbrev main_v19 : Ref sig .tc := ⟨.hbm, 42, rfl⟩
abbrev main_v20 : Ref sig .tc := ⟨.hbm, 43, rfl⟩
abbrev main_v21 : Ref sig .tc := ⟨.hbm, 44, rfl⟩
abbrev main_v22 : Ref sig .tc := ⟨.hbm, 45, rfl⟩
abbrev main_v23 : Ref sig .tc := ⟨.hbm, 46, rfl⟩
abbrev main_v24 : Ref sig .tc := ⟨.hbm, 47, rfl⟩
abbrev main_v25 : Ref sig .tc := ⟨.hbm, 48, rfl⟩
abbrev main_v26 : Ref sig .tc := ⟨.hbm, 49, rfl⟩
abbrev main_v27 : Ref sig .tc := ⟨.hbm, 50, rfl⟩
abbrev main_v28 : Ref sig .tc := ⟨.hbm, 51, rfl⟩
abbrev main_v29_0 : Ref sig .tc := ⟨.hbm, 52, rfl⟩
abbrev main_v29_1 : Ref sig .tc := ⟨.hbm, 53, rfl⟩
abbrev main_v29_2 : Ref sig .tc := ⟨.hbm, 54, rfl⟩
abbrev main_v29_3 : Ref sig .tc := ⟨.hbm, 55, rfl⟩
abbrev main_v29_4 : Ref sig .tc := ⟨.hbm, 56, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg10_0 : Ref sig .tc := ⟨.vmem, 19, rfl⟩
abbrev cc0_stg11_0 : Ref sig .tc := ⟨.vmem, 20, rfl⟩
abbrev cc0_stg11_1 : Ref sig .tc := ⟨.vmem, 21, rfl⟩
abbrev cc0_stg12_0 : Ref sig .tc := ⟨.vmem, 22, rfl⟩
abbrev cc0_stg12_1 : Ref sig .tc := ⟨.vmem, 23, rfl⟩
abbrev cc0_stg13_0 : Ref sig .tc := ⟨.vmem, 24, rfl⟩
abbrev cc0_stg13_1 : Ref sig .tc := ⟨.vmem, 25, rfl⟩
abbrev cc0_stg14_0 : Ref sig .tc := ⟨.vmem, 26, rfl⟩
abbrev cc0_stg15_0 : Ref sig .tc := ⟨.vmem, 27, rfl⟩
abbrev cc0_scratch0 : Ref sig .tc := ⟨.vmem, 28, rfl⟩
abbrev cc0_scratch1 : Ref sig .tc := ⟨.vmem, 29, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem10_0 : DmaSem sig := 19
abbrev cc0_sem11_0 : DmaSem sig := 20
abbrev cc0_sem11_1 : DmaSem sig := 21
abbrev cc0_sem12_0 : DmaSem sig := 22
abbrev cc0_sem12_1 : DmaSem sig := 23
abbrev cc0_sem13_0 : DmaSem sig := 24
abbrev cc0_sem13_1 : DmaSem sig := 25
abbrev cc0_sem14_0 : DmaSem sig := 26
abbrev cc0_sem15_0 : DmaSem sig := 27

abbrev nD : Nat := 1
abbrev τ : Topo := Topo.v7x

variable {F : FTy → Type} [FloatOps F]

abbrev grid0 : Pipeline.Grid := ⟨1, ![16], ![false]⟩

def k0_cond2 (i : grid0.Coords) : BitVec 1 :=
  let arg0 : BitVec 32 := BitVec.ofNat 32 (i 0).val
  let c15_i32 : BitVec 32 := 15#32
  let v131 : BitVec 1 := Scalar.cmpi .eq arg0 c15_i32
  let v132 : BitVec 32 := Scalar.extui v131
  let c0_i32_68 : BitVec 32 := 0#32
  let v133 : BitVec 1 := Scalar.cmpi .ne v132 c0_i32_68
  v133

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c1_i32 : BitVec 32 := 1#32
  let c0_i32 : BitVec 32 := 0#32
  ![arg0.toNat, c1_i32.toNat]

def cc0_transform_2 (i : grid0.Coords) : Fin 2 → Nat :=
  let arg0 : BitVec 32 := BitVec.ofNat 32 (i 0).val
  let c5_i32 : BitVec 32 := 5#32
  let c0_i32 : BitVec 32 := 0#32
  ![arg0.toNat, c5_i32.toNat]

def cc0_transform_3 (i : grid0.Coords) : Fin 2 → Nat :=
  let arg0 : BitVec 32 := BitVec.ofNat 32 (i 0).val
  let c3_i32 : BitVec 32 := 3#32
  let c0_i32 : BitVec 32 := 0#32
  ![arg0.toNat, c3_i32.toNat]

def cc0_transform_4 (i : grid0.Coords) : Fin 2 → Nat :=
  let arg0 : BitVec 32 := BitVec.ofNat 32 (i 0).val
  let c4_i32 : BitVec 32 := 4#32
  let c0_i32 : BitVec 32 := 0#32
  ![arg0.toNat, c4_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_12 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_13 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_14 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_15 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x512 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x512 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S256x1024 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S256x1024 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 1 → Memref sig .tc .vmem S1024x1024 .bf16 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S1024x1024 .bf16 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 2 → Memref sig .tc .vmem S256x512 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S256x512 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev stage0_13 : Fin 2 → Memref sig .tc .vmem S256x3072 .bf16 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]

abbrev stage0_14 : Fin 1 → Memref sig .tc .vmem S1024x1024 .bf16 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))
abbrev reads0_14 : Fin grid0.rank → Bool := ![false]

abbrev stage0_15 : Fin 1 → Memref sig .tc .vmem S1024x1024 .bf16 := fun | 0 => Memref.whole cc0_stg15_0 | ⟨_ + 1, h⟩ => absurd h (Nat.not_lt.2 (Nat.le_add_left _ _))
abbrev sem0_15 : Fin 1 → DmaSem sig := fun | 0 => cc0_sem15_0 | ⟨_ + 1, h⟩ => absurd h (Nat.not_lt.2 (Nat.le_add_left _ _))
abbrev reads0_15 : Fin grid0.rank → Bool := ![false]
-- ==== MergeBwdRefIdeal.lean ====
abbrev S1x4096x5376 : Shape := ⟨3, ![1, 4096, 5376]⟩
abbrev S1x4096x512 : Shape := ⟨3, ![1, 4096, 512]⟩
abbrev S512x1024 : Shape := ⟨2, ![512, 1024]⟩
abbrev S1024x1024 : Shape := ⟨2, ![1024, 1024]⟩
abbrev S1x4096x1024 : Shape := ⟨3, ![1, 4096, 1024]⟩
abbrev S1x4096x128 : Shape := ⟨3, ![1, 4096, 128]⟩
abbrev S1x4096x2048 : Shape := ⟨3, ![1, 4096, 2048]⟩
abbrev S_ : Shape := ⟨0, ![]⟩
abbrev S1x4096x2x1024 : Shape := ⟨4, ![1, 4096, 2, 1024]⟩
abbrev S1x4096x1x1024 : Shape := ⟨4, ![1, 4096, 1, 1024]⟩
abbrev S1024x512 : Shape := ⟨2, ![1024, 512]⟩
abbrev S4096x512 : Shape := ⟨2, ![4096, 512]⟩
abbrev S4096x2048 : Shape := ⟨2, ![4096, 2048]⟩
abbrev S4096x3072 : Shape := ⟨2, ![4096, 3072]⟩

abbrev nBuf : Space → Nat
  | .hbm => 113
  | .vmem => 0
  | .smem => 0
  | _ => 0

abbrev bufTy : (tb : Table) → Fin (tcTables nBuf tb) → BufTy
  | .hbm, ⟨0, _⟩ => ⟨S1x4096x5376, .f32⟩
  | .hbm, ⟨1, _⟩ => ⟨S1x4096x512, .f32⟩
  | .hbm, ⟨2, _⟩ => ⟨S1x4096x512, .f32⟩
  | .hbm, ⟨3, _⟩ => ⟨S512x1024, .f32⟩
  | .hbm, ⟨4, _⟩ => ⟨S512x1024, .f32⟩
  | .hbm, ⟨5, _⟩ => ⟨S1024x1024, .f32⟩
  | .hbm, ⟨6, _⟩ => ⟨S1x4096x1024, .f32⟩
  | .hbm, ⟨7, _⟩ => ⟨S1x4096x512, .f32⟩
  | .hbm, ⟨8, _⟩ => ⟨S1x4096x128, .f32⟩
  | .hbm, ⟨9, _⟩ => ⟨S1x4096x128, .f32⟩
  | .hbm, ⟨10, _⟩ => ⟨S1x4096x512, .f32⟩
  | .hbm, ⟨11, _⟩ => ⟨S1x4096x512, .f32⟩
  | .hbm, ⟨12, _⟩ => ⟨S1x4096x512, .f32⟩
  | .hbm, ⟨13, _⟩ => ⟨S1x4096x512, .f32⟩
  | .hbm, ⟨14, _⟩ => ⟨S1x4096x512, .f32⟩
  | .hbm, ⟨15, _⟩ => ⟨S1x4096x2048, .f32⟩
  | .hbm, ⟨16, _⟩ => ⟨S1x4096x512, .f32⟩
  | .hbm, ⟨17, _⟩ => ⟨S1x4096x512, .f32⟩
  | .hbm, ⟨18, _⟩ => ⟨S_, .f32⟩
  | .hbm, ⟨19, _⟩ => ⟨S1x4096x512, .f32⟩
  | .hbm, ⟨20, _⟩ => ⟨S1x4096x512, .f32⟩
  | .hbm, ⟨21, _⟩ => ⟨S_, .f32⟩
  | .hbm, ⟨22, _⟩ => ⟨S1x4096x512, .f32⟩
  | .hbm, ⟨23, _⟩ => ⟨S1x4096x512, .f32⟩
  | .hbm, ⟨24, _⟩ => ⟨S_, .f32⟩
  | .hbm, ⟨25, _⟩ => ⟨S1x4096x512, .f32⟩
  | .hbm, ⟨26, _⟩ => ⟨S1x4096x512, .f32⟩
  | .hbm, ⟨27, _⟩ => ⟨S1x4096x512, .f32⟩
  | .hbm, ⟨28, _⟩ => ⟨S1x4096x512, .f32⟩
  | .hbm, ⟨29, _⟩ => ⟨S1x4096x512, .f32⟩
  | .hbm, ⟨30, _⟩ => ⟨S1x4096x1024, .f32⟩
  | .hbm, ⟨31, _⟩ => ⟨S1x4096x512, .f32⟩
  | .hbm, ⟨32, _⟩ => ⟨S1x4096x512, .f32⟩
  | .hbm, ⟨33, _⟩ => ⟨S_, .f32⟩
  | .hbm, ⟨34, _⟩ => ⟨S1x4096x512, .f32⟩
  | .hbm, ⟨35, _⟩ => ⟨S1x4096x512, .f32⟩
  | .hbm, ⟨36, _⟩ => ⟨S_, .f32⟩
  | .hbm, ⟨37, _⟩ => ⟨S1x4096x512, .f32⟩
  | .hbm, ⟨38, _⟩ => ⟨S1x4096x512, .f32⟩
  | .hbm, ⟨39, _⟩ => ⟨S_, .f32⟩
  | .hbm, ⟨40, _⟩ => ⟨S1x4096x512, .f32⟩
  | .hbm, ⟨41, _⟩ => ⟨S1x4096x512, .f32⟩
  | .hbm, ⟨42, _⟩ => ⟨S1x4096x512, .f32⟩
  | .hbm, ⟨43, _⟩ => ⟨S1x4096x512, .f32⟩
  | .hbm, ⟨44, _⟩ => ⟨S1x4096x512, .f32⟩
  | .hbm, ⟨45, _⟩ => ⟨S1x4096x1024, .f32⟩
  | .hbm, ⟨46, _⟩ => ⟨S1x4096x2048, .f32⟩
  | .hbm, ⟨47, _⟩ => ⟨S1x4096x2048, .f32⟩
  | .hbm, ⟨48, _⟩ => ⟨S_, .f32⟩
  | .hbm, ⟨49, _⟩ => ⟨S1x4096x2048, .f32⟩
  | .hbm, ⟨50, _⟩ => ⟨S1x4096x2048, .f32⟩
  | .hbm, ⟨51, _⟩ => ⟨S_, .f32⟩
  | .hbm, ⟨52, _⟩ => ⟨S1x4096x2048, .f32⟩
  | .hbm, ⟨53, _⟩ => ⟨S1x4096x2048, .f32⟩
  | .hbm, ⟨54, _⟩ => ⟨S_, .f32⟩
  | .hbm, ⟨55, _⟩ => ⟨S1x4096x2048, .f32⟩
  | .hbm, ⟨56, _⟩ => ⟨S1x4096x2048, .f32⟩
  | .hbm, ⟨57, _⟩ => ⟨S1x4096x2048, .f32⟩
  | .hbm, ⟨58, _⟩ => ⟨S1x4096x2x1024, .f32⟩
  | .hbm, ⟨59, _⟩ => ⟨S1x4096x1x1024, .f32⟩
  | .hbm, ⟨60, _⟩ => ⟨S1x4096x1024, .f32⟩
  | .hbm, ⟨61, _⟩ => ⟨S1x4096x1024, .f32⟩
  | .hbm, ⟨62, _⟩ => ⟨S1x4096x1x1024, .f32⟩
  | .hbm, ⟨63, _⟩ => ⟨S1x4096x1024, .f32⟩
  | .hbm, ⟨64, _⟩ => ⟨S1x4096x1024, .f32⟩
  | .hbm, ⟨65, _⟩ => ⟨S1x4096x1024, .f32⟩
  | .hbm, ⟨66, _⟩ => ⟨S1x4096x1024, .f32⟩
  | .hbm, ⟨67, _⟩ => ⟨S1024x1024, .f32⟩
  | .hbm, ⟨68, _⟩ => ⟨S1024x1024, .f32⟩
  | .hbm, ⟨69, _⟩ => ⟨S1x4096x1024, .f32⟩
  | .hbm, ⟨70, _⟩ => ⟨S1x4096x1024, .f32⟩
  | .hbm, ⟨71, _⟩ => ⟨S1x4096x1024, .f32⟩
  | .hbm, ⟨72, _⟩ => ⟨S1x4096x1x1024, .f32⟩
  | .hbm, ⟨73, _⟩ => ⟨S_, .f32⟩
  | .hbm, ⟨74, _⟩ => ⟨S1x4096x2x1024, .f32⟩
  | .hbm, ⟨75, _⟩ => ⟨S1x4096x1024, .f32⟩
  | .hbm, ⟨76, _⟩ => ⟨S1x4096x1024, .f32⟩
  | .hbm, ⟨77, _⟩ => ⟨S1x4096x1x1024, .f32⟩
  | .hbm, ⟨78, _⟩ => ⟨S_, .f32⟩
  | .hbm, ⟨79, _⟩ => ⟨S1x4096x2x1024, .f32⟩
  | .hbm, ⟨80, _⟩ => ⟨S1x4096x2x1024, .f32⟩
  | .hbm, ⟨81, _⟩ => ⟨S1x4096x2048, .f32⟩
  | .hbm, ⟨82, _⟩ => ⟨S1x4096x2048, .f32⟩
  | .hbm, ⟨83, _⟩ => ⟨S1024x512, .f32⟩
  | .hbm, ⟨84, _⟩ => ⟨S512x1024, .f32⟩
  | .hbm, ⟨85, _⟩ => ⟨S1x4096x512, .f32⟩
  | .hbm, ⟨86, _⟩ => ⟨S1x4096x512, .f32⟩
  | .hbm, ⟨87, _⟩ => ⟨S1x4096x512, .f32⟩
  | .hbm, ⟨88, _⟩ => ⟨S1x4096x512, .f32⟩
  | .hbm, ⟨89, _⟩ => ⟨S1x4096x512, .f32⟩
  | .hbm, ⟨90, _⟩ => ⟨S1x4096x512, .f32⟩
  | .hbm, ⟨91, _⟩ => ⟨S1x4096x512, .f32⟩
  | .hbm, ⟨92, _⟩ => ⟨S1024x512, .f32⟩
  | .hbm, ⟨93, _⟩ => ⟨S512x1024, .f32⟩
  | .hbm, ⟨94, _⟩ => ⟨S1x4096x512, .f32⟩
  | .hbm, ⟨95, _⟩ => ⟨S1x4096x512, .f32⟩
  | .hbm, ⟨96, _⟩ => ⟨S1x4096x512, .f32⟩
  | .hbm, ⟨97, _⟩ => ⟨S1x4096x512, .f32⟩
  | .hbm, ⟨98, _⟩ => ⟨S1x4096x512, .f32⟩
  | .hbm, ⟨99, _⟩ => ⟨S1x4096x512, .f32⟩
  | .hbm, ⟨100, _⟩ => ⟨S1x4096x512, .f32⟩
  | .hbm, ⟨101, _⟩ => ⟨S4096x512, .f32⟩
  | .hbm, ⟨102, _⟩ => ⟨S4096x512, .f32⟩
  | .hbm, ⟨103, _⟩ => ⟨S4096x512, .f32⟩
  | .hbm, ⟨104, _⟩ => ⟨S4096x512, .f32⟩
  | .hbm, ⟨105, _⟩ => ⟨S4096x2048, .f32⟩
  | .hbm, ⟨106, _⟩ => ⟨S4096x3072, .f32⟩
  | .hbm, ⟨107, _⟩ => ⟨S4096x3072, .bf16⟩
  | .hbm, ⟨108, _⟩ => ⟨S1024x1024, .bf16⟩
  | .hbm, ⟨109, _⟩ => ⟨S1024x512, .f32⟩
  | .hbm, ⟨110, _⟩ => ⟨S1024x512, .f32⟩
  | .hbm, ⟨111, _⟩ => ⟨S1024x1024, .f32⟩
  | .hbm, ⟨112, _⟩ => ⟨S1024x1024, .bf16⟩
  | _, _ => ⟨S1x4096x5376, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_call0_v0 : Ref sig .tc := ⟨.hbm, 16, rfl⟩
abbrev main_call0_v1 : Ref sig .tc := ⟨.hbm, 17, rfl⟩
abbrev main_call0_cst : Ref sig .tc := ⟨.hbm, 18, rfl⟩
abbrev main_call0_v2 : Ref sig .tc := ⟨.hbm, 19, rfl⟩
abbrev main_call0_v3 : Ref sig .tc := ⟨.hbm, 20, rfl⟩
abbrev main_call0_cst_0 : Ref sig .tc := ⟨.hbm, 21, rfl⟩
abbrev main_call0_v4 : Ref sig .tc := ⟨.hbm, 22, rfl⟩
abbrev main_v9_2 : Ref sig .tc := ⟨.hbm, 23, rfl⟩
abbrev main_call0_cst_1 : Ref sig .tc := ⟨.hbm, 24, rfl⟩
abbrev main_call0_v6 : Ref sig .tc := ⟨.hbm, 25, rfl⟩
abbrev main_call0_v7 : Ref sig .tc := ⟨.hbm, 26, rfl⟩
abbrev main_v9_1 : Ref sig .tc := ⟨.hbm, 27, rfl⟩
abbrev main_v9_0 : Ref sig .tc := ⟨.hbm, 28, rfl⟩
abbrev main_v10 : Ref sig .tc := ⟨.hbm, 29, rfl⟩
abbrev main_v11 : Ref sig .tc := ⟨.hbm, 30, rfl⟩
abbrev main_call1_v0 : Ref sig .tc := ⟨.hbm, 31, rfl⟩
abbrev main_call1_v1 : Ref sig .tc := ⟨.hbm, 32, rfl⟩
abbrev main_call1_cst : Ref sig .tc := ⟨.hbm, 33, rfl⟩
abbrev main_call1_v2 : Ref sig .tc := ⟨.hbm, 34, rfl⟩
abbrev main_call1_v3 : Ref sig .tc := ⟨.hbm, 35, rfl⟩
abbrev main_call1_cst_0 : Ref sig .tc := ⟨.hbm, 36, rfl⟩
abbrev main_call1_v4 : Ref sig .tc := ⟨.hbm, 37, rfl⟩
abbrev main_v12_2 : Ref sig .tc := ⟨.hbm, 38, rfl⟩
abbrev main_call1_cst_1 : Ref sig .tc := ⟨.hbm, 39, rfl⟩
abbrev main_call1_v6 : Ref sig .tc := ⟨.hbm, 40, rfl⟩
abbrev main_call1_v7 : Ref sig .tc := ⟨.hbm, 41, rfl⟩
abbrev main_v12_1 : Ref sig .tc := ⟨.hbm, 42, rfl⟩
abbrev main_v12_0 : Ref sig .tc := ⟨.hbm, 43, rfl⟩
abbrev main_v13 : Ref sig .tc := ⟨.hbm, 44, rfl⟩
abbrev main_v14 : Ref sig .tc := ⟨.hbm, 45, rfl⟩
abbrev main_v15 : Ref sig .tc := ⟨.hbm, 46, rfl⟩
abbrev main_v16 : Ref sig .tc := ⟨.hbm, 47, rfl⟩
abbrev main_cst : Ref sig .tc := ⟨.hbm, 48, rfl⟩
abbrev main_v17 : Ref sig .tc := ⟨.hbm, 49, rfl⟩
abbrev main_v18 : Ref sig .tc := ⟨.hbm, 50, rfl⟩
abbrev main_cst_0 : Ref sig .tc := ⟨.hbm, 51, rfl⟩
abbrev main_v19 : Ref sig .tc := ⟨.hbm, 52, rfl⟩
abbrev main_v20 : Ref sig .tc := ⟨.hbm, 53, rfl⟩
abbrev main_cst_1 : Ref sig .tc := ⟨.hbm, 54, rfl⟩
abbrev main_v21 : Ref sig .tc := ⟨.hbm, 55, rfl⟩
abbrev main_v22 : Ref sig .tc := ⟨.hbm, 56, rfl⟩
abbrev main_v23 : Ref sig .tc := ⟨.hbm, 57, rfl⟩
abbrev main_v24 : Ref sig .tc := ⟨.hbm, 58, rfl⟩
abbrev main_v25 : Ref sig .tc := ⟨.hbm, 59, rfl⟩
abbrev main_v26 : Ref sig .tc := ⟨.hbm, 60, rfl⟩
abbrev main_v27 : Ref sig .tc := ⟨.hbm, 61, rfl⟩
abbrev main_v28 : Ref sig .tc := ⟨.hbm, 62, rfl⟩
abbrev main_v29 : Ref sig .tc := ⟨.hbm, 63, rfl⟩
abbrev main_v30 : Ref sig .tc := ⟨.hbm, 64, rfl⟩
abbrev main_v31 : Ref sig .tc := ⟨.hbm, 65, rfl⟩
abbrev main_v32 : Ref sig .tc := ⟨.hbm, 66, rfl⟩
abbrev main_v33 : Ref sig .tc := ⟨.hbm, 67, rfl⟩
abbrev main_v34 : Ref sig .tc := ⟨.hbm, 68, rfl⟩
abbrev main_v35 : Ref sig .tc := ⟨.hbm, 69, rfl⟩
abbrev main_v36 : Ref sig .tc := ⟨.hbm, 70, rfl⟩
abbrev main_v37 : Ref sig .tc := ⟨.hbm, 71, rfl⟩
abbrev main_v38 : Ref sig .tc := ⟨.hbm, 72, rfl⟩
abbrev main_cst_2 : Ref sig .tc := ⟨.hbm, 73, rfl⟩
abbrev main_v39 : Ref sig .tc := ⟨.hbm, 74, rfl⟩
abbrev main_v40 : Ref sig .tc := ⟨.hbm, 75, rfl⟩
abbrev main_v41 : Ref sig .tc := ⟨.hbm, 76, rfl⟩
abbrev main_v42 : Ref sig .tc := ⟨.hbm, 77, rfl⟩
abbrev main_cst_3 : Ref sig .tc := ⟨.hbm, 78, rfl⟩
abbrev main_v43 : Ref sig .tc := ⟨.hbm, 79, rfl⟩
abbrev main_v44 : Ref sig .tc := ⟨.hbm, 80, rfl⟩
abbrev main_v45 : Ref sig .tc := ⟨.hbm, 81, rfl⟩
abbrev main_v46 : Ref sig .tc := ⟨.hbm, 82, rfl⟩
abbrev main_v47 : Ref sig .tc := ⟨.hbm, 83, rfl⟩
abbrev main_v48 : Ref sig .tc := ⟨.hbm, 84, rfl⟩
abbrev main_v49 : Ref sig .tc := ⟨.hbm, 85, rfl⟩
abbrev main_v50 : Ref sig .tc := ⟨.hbm, 86, rfl⟩
abbrev main_v51 : Ref sig .tc := ⟨.hbm, 87, rfl⟩
abbrev main_call2_v0 : Ref sig .tc := ⟨.hbm, 88, rfl⟩
abbrev main_call2_v1 : Ref sig .tc := ⟨.hbm, 89, rfl⟩
abbrev main_call2_v2 : Ref sig .tc := ⟨.hbm, 90, rfl⟩
abbrev main_v52 : Ref sig .tc := ⟨.hbm, 91, rfl⟩
abbrev main_v53 : Ref sig .tc := ⟨.hbm, 92, rfl⟩
abbrev main_v54 : Ref sig .tc := ⟨.hbm, 93, rfl⟩
abbrev main_v55 : Ref sig .tc := ⟨.hbm, 94, rfl⟩
abbrev main_v56 : Ref sig .tc := ⟨.hbm, 95, rfl⟩
abbrev main_v57 : Ref sig .tc := ⟨.hbm, 96, rfl⟩
abbrev main_call3_v0 : Ref sig .tc := ⟨.hbm, 97, rfl⟩
abbrev main_call3_v1 : Ref sig .tc := ⟨.hbm, 98, rfl⟩
abbrev main_call3_v2 : Ref sig .tc := ⟨.hbm, 99, rfl⟩
abbrev main_v58 : Ref sig .tc := ⟨.hbm, 100, rfl⟩
abbrev main_v59 : Ref sig .tc := ⟨.hbm, 101, rfl⟩
abbrev main_v60 : Ref sig .tc := ⟨.hbm, 102, rfl⟩
abbrev main_v61 : Ref sig .tc := ⟨.hbm, 103, rfl⟩
abbrev main_v62 : Ref sig .tc := ⟨.hbm, 104, rfl⟩
abbrev main_v63 : Ref sig .tc := ⟨.hbm, 105, rfl⟩
abbrev main_v64 : Ref sig .tc := ⟨.hbm, 106, rfl⟩
abbrev main_v65 : Ref sig .tc := ⟨.hbm, 107, rfl⟩
abbrev main_v66 : Ref sig .tc := ⟨.hbm, 108, rfl⟩
abbrev main_v67 : Ref sig .tc := ⟨.hbm, 109, rfl⟩
abbrev main_v68 : Ref sig .tc := ⟨.hbm, 110, rfl⟩
abbrev main_v69 : Ref sig .tc := ⟨.hbm, 111, rfl⟩
abbrev main_v70 : Ref sig .tc := ⟨.hbm, 112, rfl⟩

abbrev nD : Nat := 1
abbrev τ : Topo := Topo.v7x

variable {F : FTy → Type} [FloatOps F]
-- ==== AttnPost.lean ====
abbrev S1x4096x5376 : Shape := ⟨3, ![1, 4096, 5376]⟩
abbrev S64 : Shape := ⟨1, ![64]⟩
abbrev S1x4096x8x64 : Shape := ⟨4, ![1, 4096, 8, 64]⟩
abbrev S1x4096x2x64 : Shape := ⟨4, ![1, 4096, 2, 64]⟩
abbrev S1x4096x512 : Shape := ⟨3, ![1, 4096, 512]⟩
abbrev S4096x512 : Shape := ⟨2, ![4096, 512]⟩
abbrev S1x4096x4608 : Shape := ⟨3, ![1, 4096, 4608]⟩
abbrev S4096x4608 : Shape := ⟨2, ![4096, 4608]⟩
abbrev S1x4096x256 : Shape := ⟨3, ![1, 4096, 256]⟩
abbrev S4096x256 : Shape := ⟨2, ![4096, 256]⟩
abbrev S4096x5376 : Shape := ⟨2, ![4096, 5376]⟩
abbrev S16 : Shape := ⟨1, ![16]⟩
abbrev S_ : Shape := ⟨0, ![]⟩
abbrev S64x1 : Shape := ⟨2, ![64, 1]⟩
abbrev S1x16 : Shape := ⟨2, ![1, 16]⟩
abbrev S64x16 : Shape := ⟨2, ![64, 16]⟩
abbrev S64x64x16 : Shape := ⟨3, ![64, 64, 16]⟩
abbrev S4096x16 : Shape := ⟨2, ![4096, 16]⟩
abbrev S1x64x1x16 : Shape := ⟨4, ![1, 64, 1, 16]⟩
abbrev S64x64x1x16 : Shape := ⟨4, ![64, 64, 1, 16]⟩
abbrev S4096x64 : Shape := ⟨2, ![4096, 64]⟩
abbrev S512 : Shape := ⟨1, ![512]⟩
abbrev S512x1 : Shape := ⟨2, ![512, 1]⟩
abbrev S1x512 : Shape := ⟨2, ![1, 512]⟩
abbrev S512x512 : Shape := ⟨2, ![512, 512]⟩
abbrev S4096x8x64 : Shape := ⟨3, ![4096, 8, 64]⟩
abbrev S4096x2x64 : Shape := ⟨3, ![4096, 2, 64]⟩
abbrev S2x64x4096 : Shape := ⟨3, ![2, 64, 4096]⟩
abbrev S1x64 : Shape := ⟨2, ![1, 64]⟩
abbrev S8x64 : Shape := ⟨2, ![8, 64]⟩
abbrev S2x64 : Shape := ⟨2, ![2, 64]⟩
abbrev S128 : Shape := ⟨1, ![128]⟩
abbrev S1x128 : Shape := ⟨2, ![1, 128]⟩
abbrev S1x4096x1x64 : Shape := ⟨4, ![1, 4096, 1, 64]⟩
abbrev S4096x128 : Shape := ⟨2, ![4096, 128]⟩
abbrev S4096x768 : Shape := ⟨2, ![4096, 768]⟩
abbrev S2x64x512 : Shape := ⟨3, ![2, 64, 512]⟩
abbrev S512x256 : Shape := ⟨2, ![512, 256]⟩
abbrev S512x128 : Shape := ⟨2, ![512, 128]⟩
abbrev S512x768 : Shape := ⟨2, ![512, 768]⟩
abbrev S8x512 : Shape := ⟨2, ![8, 512]⟩
abbrev S8x128 : Shape := ⟨2, ![8, 128]⟩
abbrev S64x8x512 : Shape := ⟨3, ![64, 8, 512]⟩
abbrev S1x64x512 : Shape := ⟨3, ![1, 64, 512]⟩
abbrev S64x512 : Shape := ⟨2, ![64, 512]⟩
abbrev S128x512 : Shape := ⟨2, ![128, 512]⟩
abbrev S128x128 : Shape := ⟨2, ![128, 128]⟩
abbrev S64x8x128 : Shape := ⟨3, ![64, 8, 128]⟩

abbrev nBuf : Space → Nat
  | .hbm => 110
  | .vmem => 23
  | .smem => 0
  | _ => 0

abbrev bufTy : (tb : Table) → Fin (tcTables nBuf tb) → BufTy
  | .hbm, ⟨0, _⟩ => ⟨S1x4096x5376, .f32⟩
  | .hbm, ⟨1, _⟩ => ⟨S64, .f32⟩
  | .hbm, ⟨2, _⟩ => ⟨S64, .f32⟩
  | .hbm, ⟨3, _⟩ => ⟨S1x4096x8x64, .f32⟩
  | .hbm, ⟨4, _⟩ => ⟨S1x4096x2x64, .f32⟩
  | .hbm, ⟨5, _⟩ => ⟨S1x4096x2x64, .f32⟩
  | .hbm, ⟨6, _⟩ => ⟨S1x4096x512, .f32⟩
  | .hbm, ⟨7, _⟩ => ⟨S4096x512, .f32⟩
  | .hbm, ⟨8, _⟩ => ⟨S1x4096x4608, .f32⟩
  | .hbm, ⟨9, _⟩ => ⟨S4096x4608, .f32⟩
  | .hbm, ⟨10, _⟩ => ⟨S1x4096x256, .f32⟩
  | .hbm, ⟨11, _⟩ => ⟨S4096x256, .f32⟩
  | .hbm, ⟨12, _⟩ => ⟨S4096x5376, .f32⟩
  | .hbm, ⟨13, _⟩ => ⟨S16, .f32⟩
  | .hbm, ⟨14, _⟩ => ⟨S_, .f32⟩
  | .hbm, ⟨15, _⟩ => ⟨S16, .f32⟩
  | .hbm, ⟨16, _⟩ => ⟨S16, .f32⟩
  | .hbm, ⟨17, _⟩ => ⟨S_, .f32⟩
  | .hbm, ⟨18, _⟩ => ⟨S16, .f32⟩
  | .hbm, ⟨19, _⟩ => ⟨S16, .f32⟩
  | .hbm, ⟨20, _⟩ => ⟨S16, .f32⟩
  | .hbm, ⟨21, _⟩ => ⟨S_, .f32⟩
  | .hbm, ⟨22, _⟩ => ⟨S16, .f32⟩
  | .hbm, ⟨23, _⟩ => ⟨S16, .f32⟩
  | .hbm, ⟨24, _⟩ => ⟨S_, .f32⟩
  | .hbm, ⟨25, _⟩ => ⟨S16, .f32⟩
  | .hbm, ⟨26, _⟩ => ⟨S16, .f32⟩
  | .hbm, ⟨27, _⟩ => ⟨S64, .f32⟩
  | .hbm, ⟨28, _⟩ => ⟨S64x1, .f32⟩
  | .hbm, ⟨29, _⟩ => ⟨S1x16, .f32⟩
  | .hbm, ⟨30, _⟩ => ⟨S64x16, .f32⟩
  | .hbm, ⟨31, _⟩ => ⟨S64x16, .f32⟩
  | .hbm, ⟨32, _⟩ => ⟨S64x16, .f32⟩
  | .hbm, ⟨33, _⟩ => ⟨S64, .f32⟩
  | .hbm, ⟨34, _⟩ => ⟨S64x1, .f32⟩
  | .hbm, ⟨35, _⟩ => ⟨S1x16, .f32⟩
  | .hbm, ⟨36, _⟩ => ⟨S64x16, .f32⟩
  | .hbm, ⟨37, _⟩ => ⟨S64x16, .f32⟩
  | .hbm, ⟨38, _⟩ => ⟨S64x16, .f32⟩
  | .hbm, ⟨39, _⟩ => ⟨S64x16, .f32⟩
  | .hbm, ⟨40, _⟩ => ⟨S64x64x16, .f32⟩
  | .hbm, ⟨41, _⟩ => ⟨S4096x16, .f32⟩
  | .hbm, ⟨42, _⟩ => ⟨S64x16, .f32⟩
  | .hbm, ⟨43, _⟩ => ⟨S64x64x16, .f32⟩
  | .hbm, ⟨44, _⟩ => ⟨S4096x16, .f32⟩
  | .hbm, ⟨45, _⟩ => ⟨S64x16, .f32⟩
  | .hbm, ⟨46, _⟩ => ⟨S1x64x1x16, .f32⟩
  | .hbm, ⟨47, _⟩ => ⟨S64x64x1x16, .f32⟩
  | .hbm, ⟨48, _⟩ => ⟨S4096x16, .f32⟩
  | .hbm, ⟨49, _⟩ => ⟨S64x16, .f32⟩
  | .hbm, ⟨50, _⟩ => ⟨S1x64x1x16, .f32⟩
  | .hbm, ⟨51, _⟩ => ⟨S64x64x1x16, .f32⟩
  | .hbm, ⟨52, _⟩ => ⟨S4096x16, .f32⟩
  | .hbm, ⟨53, _⟩ => ⟨S4096x64, .f32⟩
  | .hbm, ⟨54, _⟩ => ⟨S4096x16, .f32⟩
  | .hbm, ⟨55, _⟩ => ⟨S4096x16, .f32⟩
  | .hbm, ⟨56, _⟩ => ⟨S4096x64, .f32⟩
  | .hbm, ⟨57, _⟩ => ⟨S512, .i32⟩
  | .hbm, ⟨58, _⟩ => ⟨S_, .i32⟩
  | .hbm, ⟨59, _⟩ => ⟨S_, .i32⟩
  | .hbm, ⟨60, _⟩ => ⟨S512, .i32⟩
  | .hbm, ⟨61, _⟩ => ⟨S512, .i32⟩
  | .hbm, ⟨62, _⟩ => ⟨S512, .i32⟩
  | .hbm, ⟨63, _⟩ => ⟨S_, .i32⟩
  | .hbm, ⟨64, _⟩ => ⟨S512, .i32⟩
  | .hbm, ⟨65, _⟩ => ⟨S512, .i1⟩
  | .hbm, ⟨66, _⟩ => ⟨S512, .i32⟩
  | .hbm, ⟨67, _⟩ => ⟨S512, .i32⟩
  | .hbm, ⟨68, _⟩ => ⟨S_, .i32⟩
  | .hbm, ⟨69, _⟩ => ⟨S512, .i32⟩
  | .hbm, ⟨70, _⟩ => ⟨S512, .i1⟩
  | .hbm, ⟨71, _⟩ => ⟨S512, .i1⟩
  | .hbm, ⟨72, _⟩ => ⟨S_, .i32⟩
  | .hbm, ⟨73, _⟩ => ⟨S512, .i32⟩
  | .hbm, ⟨74, _⟩ => ⟨S512, .i32⟩
  | .hbm, ⟨75, _⟩ => ⟨S512, .i32⟩
  | .hbm, ⟨76, _⟩ => ⟨S512x1, .i32⟩
  | .hbm, ⟨77, _⟩ => ⟨S1x512, .i32⟩
  | .hbm, ⟨78, _⟩ => ⟨S512x512, .i32⟩
  | .hbm, ⟨79, _⟩ => ⟨S512x512, .i32⟩
  | .hbm, ⟨80, _⟩ => ⟨S512x512, .i1⟩
  | .hbm, ⟨81, _⟩ => ⟨S_, .f32⟩
  | .hbm, ⟨82, _⟩ => ⟨S_, .f32⟩
  | .hbm, ⟨83, _⟩ => ⟨S512x512, .f32⟩
  | .hbm, ⟨84, _⟩ => ⟨S512x512, .f32⟩
  | .hbm, ⟨85, _⟩ => ⟨S512x512, .f32⟩
  | .hbm, ⟨86, _⟩ => ⟨S512x512, .bf16⟩
  | .hbm, ⟨87, _⟩ => ⟨S4096x8x64, .f32⟩
  | .hbm, ⟨88, _⟩ => ⟨S4096x512, .f32⟩
  | .hbm, ⟨89, _⟩ => ⟨S4096x2x64, .f32⟩
  | .hbm, ⟨90, _⟩ => ⟨S2x64x4096, .f32⟩
  | .hbm, ⟨91, _⟩ => ⟨S4096x2x64, .f32⟩
  | .hbm, ⟨92, _⟩ => ⟨S2x64x4096, .f32⟩
  | .hbm, ⟨93, _⟩ => ⟨S1x64, .f32⟩
  | .hbm, ⟨94, _⟩ => ⟨S8x64, .f32⟩
  | .hbm, ⟨95, _⟩ => ⟨S512, .f32⟩
  | .hbm, ⟨96, _⟩ => ⟨S1x512, .f32⟩
  | .hbm, ⟨97, _⟩ => ⟨S1x64, .f32⟩
  | .hbm, ⟨98, _⟩ => ⟨S2x64, .f32⟩
  | .hbm, ⟨99, _⟩ => ⟨S128, .f32⟩
  | .hbm, ⟨100, _⟩ => ⟨S1x128, .f32⟩
  | .hbm, ⟨101, _⟩ => ⟨S1x4096x1x64, .f32⟩
  | .hbm, ⟨102, _⟩ => ⟨S1x4096x2x64, .f32⟩
  | .hbm, ⟨103, _⟩ => ⟨S4096x128, .f32⟩
  | .hbm, ⟨104, _⟩ => ⟨S1x4096x1x64, .f32⟩
  | .hbm, ⟨105, _⟩ => ⟨S1x4096x2x64, .f32⟩
  | .hbm, ⟨106, _⟩ => ⟨S4096x128, .f32⟩
  | .hbm, ⟨107, _⟩ => ⟨S4096x768, .bf16⟩
  | .hbm, ⟨108, _⟩ => ⟨S1x512, .f32⟩
  | .hbm, ⟨109, _⟩ => ⟨S1x128, .f32⟩
  | .local _ .vmem, ⟨0, _⟩ => ⟨S512x512, .f32⟩
  | .local _ .vmem, ⟨1, _⟩ => ⟨S512x512, .f32⟩
  | .local _ .vmem, ⟨2, _⟩ => ⟨S2x64x512, .f32⟩
  | .local _ .vmem, ⟨3, _⟩ => ⟨S2x64x512, .f32⟩
  | .local _ .vmem, ⟨4, _⟩ => ⟨S2x64x512, .f32⟩
  | .local _ .vmem, ⟨5, _⟩ => ⟨S2x64x512, .f32⟩
  | .local _ .vmem, ⟨6, _⟩ => ⟨S512x512, .f32⟩
  | .local _ .vmem, ⟨7, _⟩ => ⟨S512x512, .f32⟩
  | .local _ .vmem, ⟨8, _⟩ => ⟨S512x256, .f32⟩
  | .local _ .vmem, ⟨9, _⟩ => ⟨S512x256, .f32⟩
  | .local _ .vmem, ⟨10, _⟩ => ⟨S1x512, .f32⟩
  | .local _ .vmem, ⟨11, _⟩ => ⟨S1x128, .f32⟩
  | .local _ .vmem, ⟨12, _⟩ => ⟨S512x128, .f32⟩
  | .local _ .vmem, ⟨13, _⟩ => ⟨S512x128, .f32⟩
  | .local _ .vmem, ⟨14, _⟩ => ⟨S512x128, .f32⟩
  | .local _ .vmem, ⟨15, _⟩ => ⟨S512x128, .f32⟩
  | .local _ .vmem, ⟨16, _⟩ => ⟨S512x512, .bf16⟩
  | .local _ .vmem, ⟨17, _⟩ => ⟨S512x768, .bf16⟩
  | .local _ .vmem, ⟨18, _⟩ => ⟨S512x768, .bf16⟩
  | .local _ .vmem, ⟨19, _⟩ => ⟨S1x512, .f32⟩
  | .local _ .vmem, ⟨20, _⟩ => ⟨S1x128, .f32⟩
  | .local _ .vmem, ⟨21, _⟩ => ⟨S8x512, .f32⟩
  | .local _ .vmem, ⟨22, _⟩ => ⟨S8x128, .f32⟩
  | _, _ => ⟨S1x4096x5376, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | _, _ => false

abbrev semScoped : Fin 0 → Bool
  | ⟨_, h⟩ => absurd h (Nat.not_lt_zero _)

abbrev dmaSemScoped : Fin 21 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | _ => false

abbrev sig : RefSig :=
  ofTc nBuf bufTy 0 21 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_cst : Ref sig .tc := ⟨.hbm, 14, rfl⟩
abbrev main_v8 : Ref sig .tc := ⟨.hbm, 15, rfl⟩
abbrev main_v9 : Ref sig .tc := ⟨.hbm, 16, rfl⟩
abbrev main_cst_0 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_cst_1 : Ref sig .tc := ⟨.hbm, 21, rfl⟩
abbrev main_v13 : Ref sig .tc := ⟨.hbm, 22, rfl⟩
abbrev main_v14 : Ref sig .tc := ⟨.hbm, 23, rfl⟩
abbrev main_cst_2 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_v29 : Ref sig .tc := ⟨.hbm, 39, rfl⟩
abbrev main_v30 : Ref sig .tc := ⟨.hbm, 40, rfl⟩
abbrev main_v31 : Ref sig .tc := ⟨.hbm, 41, rfl⟩
abbrev main_v32 : Ref sig .tc := ⟨.hbm, 42, rfl⟩
abbrev main_v33 : Ref sig .tc := ⟨.hbm, 43, rfl⟩
abbrev main_v34 : Ref sig .tc := ⟨.hbm, 44, rfl⟩
abbrev main_v35 : Ref sig .tc := ⟨.hbm, 45, rfl⟩
abbrev main_v36 : Ref sig .tc := ⟨.hbm, 46, rfl⟩
abbrev main_v37 : Ref sig .tc := ⟨.hbm, 47, rfl⟩
abbrev main_v38 : Ref sig .tc := ⟨.hbm, 48, rfl⟩
abbrev main_v39 : Ref sig .tc := ⟨.hbm, 49, rfl⟩
abbrev main_v40 : Ref sig .tc := ⟨.hbm, 50, rfl⟩
abbrev main_v41 : Ref sig .tc := ⟨.hbm, 51, rfl⟩
abbrev main_v42 : Ref sig .tc := ⟨.hbm, 52, rfl⟩
abbrev main_v43 : Ref sig .tc := ⟨.hbm, 53, rfl⟩
abbrev main_v44 : Ref sig .tc := ⟨.hbm, 54, rfl⟩
abbrev main_v45 : Ref sig .tc := ⟨.hbm, 55, rfl⟩
abbrev main_v46 : Ref sig .tc := ⟨.hbm, 56, rfl⟩
abbrev main_v47 : Ref sig .tc := ⟨.hbm, 57, rfl⟩
abbrev main_c : Ref sig .tc := ⟨.hbm, 58, rfl⟩
abbrev main_call0_v0 : Ref sig .tc := ⟨.hbm, 59, rfl⟩
abbrev main_call0_v1 : Ref sig .tc := ⟨.hbm, 60, rfl⟩
abbrev main_call0_v2 : Ref sig .tc := ⟨.hbm, 61, rfl⟩
abbrev main_call0_v3 : Ref sig .tc := ⟨.hbm, 62, rfl⟩
abbrev main_call0_v4 : Ref sig .tc := ⟨.hbm, 63, rfl⟩
abbrev main_call0_v5 : Ref sig .tc := ⟨.hbm, 64, rfl⟩
abbrev main_call0_v6 : Ref sig .tc := ⟨.hbm, 65, rfl⟩
abbrev main_call0_v7 : Ref sig .tc := ⟨.hbm, 66, rfl⟩
abbrev main_call0_v8 : Ref sig .tc := ⟨.hbm, 67, rfl⟩
abbrev main_call0_c : Ref sig .tc := ⟨.hbm, 68, rfl⟩
abbrev main_call0_v9 : Ref sig .tc := ⟨.hbm, 69, rfl⟩
abbrev main_call0_v10 : Ref sig .tc := ⟨.hbm, 70, rfl⟩
abbrev main_call0_v11 : Ref sig .tc := ⟨.hbm, 71, rfl⟩
abbrev main_call0_c_0 : Ref sig .tc := ⟨.hbm, 72, rfl⟩
abbrev main_call0_v12 : Ref sig .tc := ⟨.hbm, 73, rfl⟩
abbrev main_call0_v13 : Ref sig .tc := ⟨.hbm, 74, rfl⟩
abbrev main_v48 : Ref sig .tc := ⟨.hbm, 75, rfl⟩
abbrev main_v49 : Ref sig .tc := ⟨.hbm, 76, rfl⟩
abbrev main_v50 : Ref sig .tc := ⟨.hbm, 77, rfl⟩
abbrev main_v51 : Ref sig .tc := ⟨.hbm, 78, rfl⟩
abbrev main_v52 : Ref sig .tc := ⟨.hbm, 79, rfl⟩
abbrev main_v53 : Ref sig .tc := ⟨.hbm, 80, rfl⟩
abbrev main_cst_3 : Ref sig .tc := ⟨.hbm, 81, rfl⟩
abbrev main_cst_4 : Ref sig .tc := ⟨.hbm, 82, rfl⟩
abbrev main_call1_v0 : Ref sig .tc := ⟨.hbm, 83, rfl⟩
abbrev main_call1_v1 : Ref sig .tc := ⟨.hbm, 84, rfl⟩
abbrev main_v54 : Ref sig .tc := ⟨.hbm, 85, rfl⟩
abbrev main_v55 : Ref sig .tc := ⟨.hbm, 86, rfl⟩
abbrev main_v56 : Ref sig .tc := ⟨.hbm, 87, rfl⟩
abbrev main_v57 : Ref sig .tc := ⟨.hbm, 88, rfl⟩
abbrev main_v58 : Ref sig .tc := ⟨.hbm, 89, rfl⟩
abbrev main_v59 : Ref sig .tc := ⟨.hbm, 90, rfl⟩
abbrev main_v60 : Ref sig .tc := ⟨.hbm, 91, rfl⟩
abbrev main_v61 : Ref sig .tc := ⟨.hbm, 92, rfl⟩
abbrev main_v62 : Ref sig .tc := ⟨.hbm, 93, rfl⟩
abbrev main_v63 : Ref sig .tc := ⟨.hbm, 94, rfl⟩
abbrev main_v64 : Ref sig .tc := ⟨.hbm, 95, rfl⟩
abbrev main_v65 : Ref sig .tc := ⟨.hbm, 96, rfl⟩
abbrev main_v66 : Ref sig .tc := ⟨.hbm, 97, rfl⟩
abbrev main_v67 : Ref sig .tc := ⟨.hbm, 98, rfl⟩
abbrev main_v68 : Ref sig .tc := ⟨.hbm, 99, rfl⟩
abbrev main_v69 : Ref sig .tc := ⟨.hbm, 100, rfl⟩
abbrev main_v70 : Ref sig .tc := ⟨.hbm, 101, rfl⟩
abbrev main_v71 : Ref sig .tc := ⟨.hbm, 102, rfl⟩
abbrev main_v72 : Ref sig .tc := ⟨.hbm, 103, rfl⟩
abbrev main_v73 : Ref sig .tc := ⟨.hbm, 104, rfl⟩
abbrev main_v74 : Ref sig .tc := ⟨.hbm, 105, rfl⟩
abbrev main_v75 : Ref sig .tc := ⟨.hbm, 106, rfl⟩
abbrev main_v76_0 : Ref sig .tc := ⟨.hbm, 107, rfl⟩
abbrev main_v76_1 : Ref sig .tc := ⟨.hbm, 108, rfl⟩
abbrev main_v76_2 : Ref sig .tc := ⟨.hbm, 109, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg6_0 : Ref sig .tc := ⟨.vmem, 11, rfl⟩
abbrev cc0_stg7_0 : Ref sig .tc := ⟨.vmem, 12, rfl⟩
abbrev cc0_stg7_1 : Ref sig .tc := ⟨.vmem, 13, rfl⟩
abbrev cc0_stg8_0 : Ref sig .tc := ⟨.vmem, 14, rfl⟩
abbrev cc0_stg8_1 : Ref sig .tc := ⟨.vmem, 15, rfl⟩
abbrev cc0_stg9_0 : Ref sig .tc := ⟨.vmem, 16, rfl⟩
abbrev cc0_stg10_0 : Ref sig .tc := ⟨.vmem, 17, rfl⟩
abbrev cc0_stg10_1 : Ref sig .tc := ⟨.vmem, 18, rfl⟩
abbrev cc0_stg11_0 : Ref sig .tc := ⟨.vmem, 19, rfl⟩
abbrev cc0_stg12_0 : Ref sig .tc := ⟨.vmem, 20, rfl⟩
abbrev cc0_scratch0 : Ref sig .tc := ⟨.vmem, 21, rfl⟩
abbrev cc0_scratch1 : Ref sig .tc := ⟨.vmem, 22, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem6_0 : DmaSem sig := 11
abbrev cc0_sem7_0 : DmaSem sig := 12
abbrev cc0_sem7_1 : DmaSem sig := 13
abbrev cc0_sem8_0 : DmaSem sig := 14
abbrev cc0_sem8_1 : DmaSem sig := 15
abbrev cc0_sem9_0 : DmaSem sig := 16
abbrev cc0_sem10_0 : DmaSem sig := 17
abbrev cc0_sem10_1 : DmaSem sig := 18
abbrev cc0_sem11_0 : DmaSem sig := 19
abbrev cc0_sem12_0 : DmaSem sig := 20

abbrev nD : Nat := 1
abbrev τ : Topo := Topo.v7x

variable {F : FTy → Type} [FloatOps F]

abbrev grid0 : Pipeline.Grid := ⟨1, ![8], ![false]⟩

def k0_cond2 (i : grid0.Coords) : BitVec 1 :=
  let arg0 : BitVec 32 := BitVec.ofNat 32 (i 0).val
  let c7_i32 : BitVec 32 := 7#32
  let v157 : BitVec 1 := Scalar.cmpi .eq arg0 c7_i32
  let v158 : BitVec 32 := Scalar.extui v157
  let c0_i32_63 : BitVec 32 := 0#32
  let v159 : BitVec 1 := Scalar.cmpi .ne v158 c0_i32_63
  v159

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat, arg0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat, arg0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c20_i32 : BitVec 32 := 20#32
  let c0_i32 : BitVec 32 := 0#32
  ![arg0.toNat, c20_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S2x64x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S2x64x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x256 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S1x512 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S512x128 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S512x128 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 1 → Memref sig .tc .vmem S512x512 .bf16 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 2 → Memref sig .tc .vmem S512x768 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 1 → Memref sig .tc .vmem S1x512 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 1 → Memref sig .tc .vmem S1x128 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]
-- ==== AttnPostRefIdeal.lean ====
abbrev S1x4096x5376 : Shape := ⟨3, ![1, 4096, 5376]⟩
abbrev S64 : Shape := ⟨1, ![64]⟩
abbrev S1x4096x8x64 : Shape := ⟨4, ![1, 4096, 8, 64]⟩
abbrev S1x4096x2x64 : Shape := ⟨4, ![1, 4096, 2, 64]⟩
abbrev S64x64 : Shape := ⟨2, ![64, 64]⟩
abbrev S4096 : Shape := ⟨1, ![4096]⟩
abbrev S1x64 : Shape := ⟨2, ![1, 64]⟩
abbrev S16 : Shape := ⟨1, ![16]⟩
abbrev S_ : Shape := ⟨0, ![]⟩
abbrev S4096x1 : Shape := ⟨2, ![4096, 1]⟩
abbrev S1x16 : Shape := ⟨2, ![1, 16]⟩
abbrev S4096x16 : Shape := ⟨2, ![4096, 16]⟩
abbrev S4096x32 : Shape := ⟨2, ![4096, 32]⟩
abbrev S8x64 : Shape := ⟨2, ![8, 64]⟩
abbrev S2x64 : Shape := ⟨2, ![2, 64]⟩
abbrev S1x4096x512 : Shape := ⟨3, ![1, 4096, 512]⟩
abbrev S1x4096x128 : Shape := ⟨3, ![1, 4096, 128]⟩
abbrev S1x4096x4608 : Shape := ⟨3, ![1, 4096, 4608]⟩
abbrev S1x4096x8 : Shape := ⟨3, ![1, 4096, 8]⟩
abbrev S1x4096x8x1 : Shape := ⟨4, ![1, 4096, 8, 1]⟩
abbrev S1x1x8x64 : Shape := ⟨4, ![1, 1, 8, 64]⟩
abbrev S1x4096x2 : Shape := ⟨3, ![1, 4096, 2]⟩
abbrev S1x4096x2x1 : Shape := ⟨4, ![1, 4096, 2, 1]⟩
abbrev S1x1x2x64 : Shape := ⟨4, ![1, 1, 2, 64]⟩
abbrev S1x4096x8x2x2x16 : Shape := ⟨6, ![1, 4096, 8, 2, 2, 16]⟩
abbrev S1x4096x8x2x1x16 : Shape := ⟨6, ![1, 4096, 8, 2, 1, 16]⟩
abbrev S1x4096x8x2x16 : Shape := ⟨5, ![1, 4096, 8, 2, 16]⟩
abbrev S4096x1x2x16 : Shape := ⟨4, ![4096, 1, 2, 16]⟩
abbrev S1x4096x1x2x16 : Shape := ⟨5, ![1, 4096, 1, 2, 16]⟩
abbrev S1x4096x2x2x2x16 : Shape := ⟨6, ![1, 4096, 2, 2, 2, 16]⟩
abbrev S1x4096x2x2x1x16 : Shape := ⟨6, ![1, 4096, 2, 2, 1, 16]⟩
abbrev S1x4096x2x2x16 : Shape := ⟨5, ![1, 4096, 2, 2, 16]⟩
abbrev S1x2x64 : Shape := ⟨3, ![1, 2, 64]⟩
abbrev S4096x2 : Shape := ⟨2, ![4096, 2]⟩
abbrev S1x8x64 : Shape := ⟨3, ![1, 8, 64]⟩
abbrev S4096x8 : Shape := ⟨2, ![4096, 8]⟩
abbrev S4096x512 : Shape := ⟨2, ![4096, 512]⟩
abbrev S4096x128 : Shape := ⟨2, ![4096, 128]⟩
abbrev S4096x768 : Shape := ⟨2, ![4096, 768]⟩
abbrev S1x512 : Shape := ⟨2, ![1, 512]⟩
abbrev S1x128 : Shape := ⟨2, ![1, 128]⟩

abbrev nBuf : Space → Nat
  | .hbm => 249
  | .vmem => 0
  | .smem => 0
  | _ => 0

abbrev hbmTy0_0 (i : Nat) : BufTy := match i % 128 with
  | 0 => ⟨S1x4096x5376, .f32⟩
  | 1 => ⟨S64, .f32⟩
  | 2 => ⟨S64, .f32⟩
  | 3 => ⟨S1x4096x8x64, .f32⟩
  | 4 => ⟨S1x4096x2x64, .f32⟩
  | 5 => ⟨S1x4096x2x64, .f32⟩
  | 6 => ⟨S64, .f32⟩
  | 7 => ⟨S64x64, .f32⟩
  | 8 => ⟨S4096, .f32⟩
  | 9 => ⟨S64, .f32⟩
  | 10 => ⟨S1x64, .f32⟩
  | 11 => ⟨S64x64, .f32⟩
  | 12 => ⟨S4096, .f32⟩
  | 13 => ⟨S16, .f32⟩
  | 14 => ⟨S_, .f32⟩
  | 15 => ⟨S16, .f32⟩
  | 16 => ⟨S16, .f32⟩
  | 17 => ⟨S_, .f32⟩
  | 18 => ⟨S16, .f32⟩
  | 19 => ⟨S16, .f32⟩
  | 20 => ⟨S16, .f32⟩
  | 21 => ⟨S_, .f32⟩
  | 22 => ⟨S16, .f32⟩
  | 23 => ⟨S16, .f32⟩
  | 24 => ⟨S_, .f32⟩
  | 25 => ⟨S16, .f32⟩
  | 26 => ⟨S16, .f32⟩
  | 27 => ⟨S4096x1, .f32⟩
  | 28 => ⟨S1x16, .f32⟩
  | 29 => ⟨S4096x16, .f32⟩
  | 30 => ⟨S4096x16, .f32⟩
  | 31 => ⟨S4096x16, .f32⟩
  | 32 => ⟨S4096x1, .f32⟩
  | 33 => ⟨S1x16, .f32⟩
  | 34 => ⟨S4096x16, .f32⟩
  | 35 => ⟨S4096x16, .f32⟩
  | 36 => ⟨S4096x16, .f32⟩
  | 37 => ⟨S4096x32, .f32⟩
  | 38 => ⟨S4096x32, .f32⟩
  | 39 => ⟨S4096x32, .f32⟩
  | 40 => ⟨S8x64, .f32⟩
  | 41 => ⟨S2x64, .f32⟩
  | 42 => ⟨S1x4096x512, .f32⟩
  | 43 => ⟨S1x4096x128, .f32⟩
  | 44 => ⟨S1x4096x128, .f32⟩
  | 45 => ⟨S1x4096x4608, .f32⟩
  | 46 => ⟨S1x4096x8x64, .f32⟩
  | 47 => ⟨S1x4096x8x64, .f32⟩
  | 48 => ⟨S_, .f32⟩
  | 49 => ⟨S1x4096x8, .f32⟩
  | 50 => ⟨S1x4096x8x1, .f32⟩
  | 51 => ⟨S_, .f32⟩
  | 52 => ⟨S1x4096x8x1, .f32⟩
  | 53 => ⟨S1x4096x8x1, .f32⟩
  | 54 => ⟨S_, .f32⟩
  | 55 => ⟨S1x4096x8x1, .f32⟩
  | 56 => ⟨S1x4096x8x1, .f32⟩
  | 57 => ⟨S1x4096x8x1, .f32⟩
  | 58 => ⟨S1x4096x8x1, .f32⟩
  | 59 => ⟨S_, .f32⟩
  | 60 => ⟨S1x4096x8x1, .f32⟩
  | 61 => ⟨S1x4096x8x1, .f32⟩
  | 62 => ⟨S1x4096x8x64, .f32⟩
  | 63 => ⟨S1x4096x8x64, .f32⟩
  | 64 => ⟨S1x1x8x64, .f32⟩
  | 65 => ⟨S1x4096x8x64, .f32⟩
  | 66 => ⟨S1x4096x8x64, .f32⟩
  | 67 => ⟨S1x4096x2x64, .f32⟩
  | 68 => ⟨S1x4096x2x64, .f32⟩
  | 69 => ⟨S_, .f32⟩
  | 70 => ⟨S1x4096x2, .f32⟩
  | 71 => ⟨S1x4096x2x1, .f32⟩
  | 72 => ⟨S_, .f32⟩
  | 73 => ⟨S1x4096x2x1, .f32⟩
  | 74 => ⟨S1x4096x2x1, .f32⟩
  | 75 => ⟨S_, .f32⟩
  | 76 => ⟨S1x4096x2x1, .f32⟩
  | 77 => ⟨S1x4096x2x1, .f32⟩
  | 78 => ⟨S1x4096x2x1, .f32⟩
  | 79 => ⟨S1x4096x2x1, .f32⟩
  | 80 => ⟨S_, .f32⟩
  | 81 => ⟨S1x4096x2x1, .f32⟩
  | 82 => ⟨S1x4096x2x1, .f32⟩
  | 83 => ⟨S1x4096x2x64, .f32⟩
  | 84 => ⟨S1x4096x2x64, .f32⟩
  | 85 => ⟨S1x1x2x64, .f32⟩
  | 86 => ⟨S1x4096x2x64, .f32⟩
  | 87 => ⟨S1x4096x2x64, .f32⟩
  | 88 => ⟨S1x4096x8x2x2x16, .f32⟩
  | 89 => ⟨S1x4096x8x2x1x16, .f32⟩
  | 90 => ⟨S1x4096x8x2x16, .f32⟩
  | 91 => ⟨S1x4096x8x2x1x16, .f32⟩
  | 92 => ⟨S1x4096x8x2x16, .f32⟩
  | 93 => ⟨S4096x1x2x16, .f32⟩
  | 94 => ⟨S4096x1x2x16, .f32⟩
  | 95 => ⟨S1x4096x1x2x16, .f32⟩
  | 96 => ⟨S1x4096x8x2x16, .f32⟩
  | 97 => ⟨S1x4096x8x2x16, .f32⟩
  | 98 => ⟨S1x4096x1x2x16, .f32⟩
  | 99 => ⟨S1x4096x8x2x16, .f32⟩
  | 100 => ⟨S1x4096x8x2x16, .f32⟩
  | 101 => ⟨S1x4096x8x2x16, .f32⟩
  | 102 => ⟨S1x4096x1x2x16, .f32⟩
  | 103 => ⟨S1x4096x8x2x16, .f32⟩
  | 104 => ⟨S1x4096x8x2x16, .f32⟩
  | 105 => ⟨S1x4096x1x2x16, .f32⟩
  | 106 => ⟨S1x4096x8x2x16, .f32⟩
  | 107 => ⟨S1x4096x8x2x16, .f32⟩
  | 108 => ⟨S1x4096x8x2x16, .f32⟩
  | 109 => ⟨S1x4096x8x2x1x16, .f32⟩
  | 110 => ⟨S1x4096x8x2x1x16, .f32⟩
  | 111 => ⟨S1x4096x8x2x2x16, .f32⟩
  | 112 => ⟨S1x4096x8x64, .f32⟩
  | 113 => ⟨S1x4096x2x2x2x16, .f32⟩
  | 114 => ⟨S1x4096x2x2x1x16, .f32⟩
  | 115 => ⟨S1x4096x2x2x16, .f32⟩
  | 116 => ⟨S1x4096x2x2x1x16, .f32⟩
  | 117 => ⟨S1x4096x2x2x16, .f32⟩
  | 118 => ⟨S4096x1x2x16, .f32⟩
  | 119 => ⟨S4096x1x2x16, .f32⟩
  | 120 => ⟨S1x4096x1x2x16, .f32⟩
  | 121 => ⟨S1x4096x2x2x16, .f32⟩
  | 122 => ⟨S1x4096x2x2x16, .f32⟩
  | 123 => ⟨S1x4096x1x2x16, .f32⟩
  | 124 => ⟨S1x4096x2x2x16, .f32⟩
  | 125 => ⟨S1x4096x2x2x16, .f32⟩
  | 126 => ⟨S1x4096x2x2x16, .f32⟩
  | 127 => ⟨S1x4096x1x2x16, .f32⟩
  | _ => ⟨S1x4096x5376, .f32⟩

abbrev hbmTy0_1 (i : Nat) : BufTy := match i % 128 with
  | 0 => ⟨S1x4096x2x2x16, .f32⟩
  | 1 => ⟨S1x4096x2x2x16, .f32⟩
  | 2 => ⟨S1x4096x1x2x16, .f32⟩
  | 3 => ⟨S1x4096x2x2x16, .f32⟩
  | 4 => ⟨S1x4096x2x2x16, .f32⟩
  | 5 => ⟨S1x4096x2x2x16, .f32⟩
  | 6 => ⟨S1x4096x2x2x1x16, .f32⟩
  | 7 => ⟨S1x4096x2x2x1x16, .f32⟩
  | 8 => ⟨S1x4096x2x2x2x16, .f32⟩
  | 9 => ⟨S1x4096x2x64, .f32⟩
  | 10 => ⟨S1x4096x2x64, .f32⟩
  | 11 => ⟨S1x4096x128, .f32⟩
  | 12 => ⟨S1x4096x2x2x2x16, .f32⟩
  | 13 => ⟨S1x4096x2x2x1x16, .f32⟩
  | 14 => ⟨S1x4096x2x2x16, .f32⟩
  | 15 => ⟨S1x4096x2x2x1x16, .f32⟩
  | 16 => ⟨S1x4096x2x2x16, .f32⟩
  | 17 => ⟨S1x4096x2x2x16, .f32⟩
  | 18 => ⟨S1x4096x2x2x16, .f32⟩
  | 19 => ⟨S1x4096x2x2x16, .f32⟩
  | 20 => ⟨S1x4096x2x2x16, .f32⟩
  | 21 => ⟨S1x4096x2x2x16, .f32⟩
  | 22 => ⟨S1x4096x2x2x16, .f32⟩
  | 23 => ⟨S1x4096x2x2x16, .f32⟩
  | 24 => ⟨S1x4096x2x2x16, .f32⟩
  | 25 => ⟨S1x4096x2x2x16, .f32⟩
  | 26 => ⟨S1x4096x2x2x16, .f32⟩
  | 27 => ⟨S1x4096x2x2x16, .f32⟩
  | 28 => ⟨S1x4096x2x2x1x16, .f32⟩
  | 29 => ⟨S_, .f32⟩
  | 30 => ⟨S1x4096x2x2x2x16, .f32⟩
  | 31 => ⟨S1x4096x2x2x1x16, .f32⟩
  | 32 => ⟨S_, .f32⟩
  | 33 => ⟨S1x4096x2x2x2x16, .f32⟩
  | 34 => ⟨S1x4096x2x2x2x16, .f32⟩
  | 35 => ⟨S1x4096x2x64, .f32⟩
  | 36 => ⟨S1x4096x8x2x2x16, .f32⟩
  | 37 => ⟨S1x4096x8x2x1x16, .f32⟩
  | 38 => ⟨S1x4096x8x2x16, .f32⟩
  | 39 => ⟨S1x4096x8x2x1x16, .f32⟩
  | 40 => ⟨S1x4096x8x2x16, .f32⟩
  | 41 => ⟨S1x4096x8x2x16, .f32⟩
  | 42 => ⟨S1x4096x8x2x16, .f32⟩
  | 43 => ⟨S1x4096x8x2x16, .f32⟩
  | 44 => ⟨S1x4096x8x2x16, .f32⟩
  | 45 => ⟨S1x4096x8x2x16, .f32⟩
  | 46 => ⟨S1x4096x8x2x16, .f32⟩
  | 47 => ⟨S1x4096x8x2x16, .f32⟩
  | 48 => ⟨S1x4096x8x2x16, .f32⟩
  | 49 => ⟨S1x4096x8x2x16, .f32⟩
  | 50 => ⟨S1x4096x8x2x16, .f32⟩
  | 51 => ⟨S1x4096x8x2x16, .f32⟩
  | 52 => ⟨S1x4096x8x2x1x16, .f32⟩
  | 53 => ⟨S_, .f32⟩
  | 54 => ⟨S1x4096x8x2x2x16, .f32⟩
  | 55 => ⟨S1x4096x8x2x1x16, .f32⟩
  | 56 => ⟨S_, .f32⟩
  | 57 => ⟨S1x4096x8x2x2x16, .f32⟩
  | 58 => ⟨S1x4096x8x2x2x16, .f32⟩
  | 59 => ⟨S1x4096x8x64, .f32⟩
  | 60 => ⟨S1x4096x2x64, .f32⟩
  | 61 => ⟨S_, .f32⟩
  | 62 => ⟨S1x2x64, .f32⟩
  | 63 => ⟨S1x1x2x64, .f32⟩
  | 64 => ⟨S1x4096x2x64, .f32⟩
  | 65 => ⟨S1x4096x2x64, .f32⟩
  | 66 => ⟨S_, .f32⟩
  | 67 => ⟨S2x64, .f32⟩
  | 68 => ⟨S1x4096x2x64, .f32⟩
  | 69 => ⟨S_, .f32⟩
  | 70 => ⟨S1x4096x2, .f32⟩
  | 71 => ⟨S1x4096x2x1, .f32⟩
  | 72 => ⟨S1x4096x2x64, .f32⟩
  | 73 => ⟨S1x4096x2x64, .f32⟩
  | 74 => ⟨S1x4096x2x1, .f32⟩
  | 75 => ⟨S_, .f32⟩
  | 76 => ⟨S1x4096x2x1, .f32⟩
  | 77 => ⟨S1x4096x2x1, .f32⟩
  | 78 => ⟨S_, .f32⟩
  | 79 => ⟨S4096x2, .f32⟩
  | 80 => ⟨S1x4096x2, .f32⟩
  | 81 => ⟨S1x4096x2x64, .f32⟩
  | 82 => ⟨S1x4096x2x64, .f32⟩
  | 83 => ⟨S1x4096x2x64, .f32⟩
  | 84 => ⟨S1x4096x2x64, .f32⟩
  | 85 => ⟨S1x4096x2x64, .f32⟩
  | 86 => ⟨S1x4096x128, .f32⟩
  | 87 => ⟨S1x4096x8x64, .f32⟩
  | 88 => ⟨S_, .f32⟩
  | 89 => ⟨S1x8x64, .f32⟩
  | 90 => ⟨S1x1x8x64, .f32⟩
  | 91 => ⟨S1x4096x8x64, .f32⟩
  | 92 => ⟨S1x4096x8x64, .f32⟩
  | 93 => ⟨S_, .f32⟩
  | 94 => ⟨S8x64, .f32⟩
  | 95 => ⟨S1x4096x8x64, .f32⟩
  | 96 => ⟨S_, .f32⟩
  | 97 => ⟨S1x4096x8, .f32⟩
  | 98 => ⟨S1x4096x8x1, .f32⟩
  | 99 => ⟨S1x4096x8x64, .f32⟩
  | 100 => ⟨S1x4096x8x64, .f32⟩
  | 101 => ⟨S1x4096x8x1, .f32⟩
  | 102 => ⟨S_, .f32⟩
  | 103 => ⟨S1x4096x8x1, .f32⟩
  | 104 => ⟨S1x4096x8x1, .f32⟩
  | 105 => ⟨S_, .f32⟩
  | 106 => ⟨S4096x8, .f32⟩
  | 107 => ⟨S1x4096x8, .f32⟩
  | 108 => ⟨S1x4096x8x64, .f32⟩
  | 109 => ⟨S1x4096x8x64, .f32⟩
  | 110 => ⟨S1x4096x8x64, .f32⟩
  | 111 => ⟨S1x4096x8x64, .f32⟩
  | 112 => ⟨S1x4096x8x64, .f32⟩
  | 113 => ⟨S1x4096x512, .f32⟩
  | 114 => ⟨S4096x512, .f32⟩
  | 115 => ⟨S4096x128, .f32⟩
  | 116 => ⟨S4096x128, .f32⟩
  | 117 => ⟨S4096x768, .f32⟩
  | 118 => ⟨S4096x768, .bf16⟩
  | 119 => ⟨S1x512, .f32⟩
  | 120 => ⟨S1x128, .f32⟩
  | _ => ⟨S1x4096x5376, .f32⟩

abbrev hbmTy (i : Nat) : BufTy := match i / 128 with
  | 0 => hbmTy0_0 i
  | 1 => hbmTy0_1 i
  | _ => ⟨S1x4096x5376, .f32⟩

abbrev bufTy : (tb : Table) → Fin (tcTables nBuf tb) → BufTy
  | .hbm, ⟨i, _⟩ => hbmTy i
  | _, _ => ⟨S1x4096x5376, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_cst : Ref sig .tc := ⟨.hbm, 14, rfl⟩
abbrev main_v8 : Ref sig .tc := ⟨.hbm, 15, rfl⟩
abbrev main_v9 : Ref sig .tc := ⟨.hbm, 16, rfl⟩
abbrev main_cst_0 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_cst_1 : Ref sig .tc := ⟨.hbm, 21, rfl⟩
abbrev main_v13 : Ref sig .tc := ⟨.hbm, 22, rfl⟩
abbrev main_v14 : Ref sig .tc := ⟨.hbm, 23, rfl⟩
abbrev main_cst_2 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_v29 : Ref sig .tc := ⟨.hbm, 39, rfl⟩
abbrev main_v30 : Ref sig .tc := ⟨.hbm, 40, rfl⟩
abbrev main_v31 : Ref sig .tc := ⟨.hbm, 41, rfl⟩
abbrev main_v32 : Ref sig .tc := ⟨.hbm, 42, rfl⟩
abbrev main_v33 : Ref sig .tc := ⟨.hbm, 43, rfl⟩
abbrev main_v34 : Ref sig .tc := ⟨.hbm, 44, rfl⟩
abbrev main_v35 : Ref sig .tc := ⟨.hbm, 45, rfl⟩
abbrev main_v36 : Ref sig .tc := ⟨.hbm, 46, rfl⟩
abbrev main_v37 : Ref sig .tc := ⟨.hbm, 47, rfl⟩
abbrev main_cst_3 : Ref sig .tc := ⟨.hbm, 48, rfl⟩
abbrev main_v38 : Ref sig .tc := ⟨.hbm, 49, rfl⟩
abbrev main_v39 : Ref sig .tc := ⟨.hbm, 50, rfl⟩
abbrev main_cst_4 : Ref sig .tc := ⟨.hbm, 51, rfl⟩
abbrev main_v40 : Ref sig .tc := ⟨.hbm, 52, rfl⟩
abbrev main_v41 : Ref sig .tc := ⟨.hbm, 53, rfl⟩
abbrev main_cst_5 : Ref sig .tc := ⟨.hbm, 54, rfl⟩
abbrev main_v42 : Ref sig .tc := ⟨.hbm, 55, rfl⟩
abbrev main_v43 : Ref sig .tc := ⟨.hbm, 56, rfl⟩
abbrev main_v44 : Ref sig .tc := ⟨.hbm, 57, rfl⟩
abbrev main_v45 : Ref sig .tc := ⟨.hbm, 58, rfl⟩
abbrev main_cst_6 : Ref sig .tc := ⟨.hbm, 59, rfl⟩
abbrev main_v46 : Ref sig .tc := ⟨.hbm, 60, rfl⟩
abbrev main_v47 : Ref sig .tc := ⟨.hbm, 61, rfl⟩
abbrev main_v48 : Ref sig .tc := ⟨.hbm, 62, rfl⟩
abbrev main_v49 : Ref sig .tc := ⟨.hbm, 63, rfl⟩
abbrev main_v50 : Ref sig .tc := ⟨.hbm, 64, rfl⟩
abbrev main_v51 : Ref sig .tc := ⟨.hbm, 65, rfl⟩
abbrev main_v52 : Ref sig .tc := ⟨.hbm, 66, rfl⟩
abbrev main_v53 : Ref sig .tc := ⟨.hbm, 67, rfl⟩
abbrev main_v54 : Ref sig .tc := ⟨.hbm, 68, rfl⟩
abbrev main_cst_7 : Ref sig .tc := ⟨.hbm, 69, rfl⟩
abbrev main_v55 : Ref sig .tc := ⟨.hbm, 70, rfl⟩
abbrev main_v56 : Ref sig .tc := ⟨.hbm, 71, rfl⟩
abbrev main_cst_8 : Ref sig .tc := ⟨.hbm, 72, rfl⟩
abbrev main_v57 : Ref sig .tc := ⟨.hbm, 73, rfl⟩
abbrev main_v58 : Ref sig .tc := ⟨.hbm, 74, rfl⟩
abbrev main_cst_9 : Ref sig .tc := ⟨.hbm, 75, rfl⟩
abbrev main_v59 : Ref sig .tc := ⟨.hbm, 76, rfl⟩
abbrev main_v60 : Ref sig .tc := ⟨.hbm, 77, rfl⟩
abbrev main_v61 : Ref sig .tc := ⟨.hbm, 78, rfl⟩
abbrev main_v62 : Ref sig .tc := ⟨.hbm, 79, rfl⟩
abbrev main_cst_10 : Ref sig .tc := ⟨.hbm, 80, rfl⟩
abbrev main_v63 : Ref sig .tc := ⟨.hbm, 81, rfl⟩
abbrev main_v64 : Ref sig .tc := ⟨.hbm, 82, rfl⟩
abbrev main_v65 : Ref sig .tc := ⟨.hbm, 83, rfl⟩
abbrev main_v66 : Ref sig .tc := ⟨.hbm, 84, rfl⟩
abbrev main_v67 : Ref sig .tc := ⟨.hbm, 85, rfl⟩
abbrev main_v68 : Ref sig .tc := ⟨.hbm, 86, rfl⟩
abbrev main_v69 : Ref sig .tc := ⟨.hbm, 87, rfl⟩
abbrev main_v70 : Ref sig .tc := ⟨.hbm, 88, rfl⟩
abbrev main_v71 : Ref sig .tc := ⟨.hbm, 89, rfl⟩
abbrev main_v72 : Ref sig .tc := ⟨.hbm, 90, rfl⟩
abbrev main_v73 : Ref sig .tc := ⟨.hbm, 91, rfl⟩
abbrev main_v74 : Ref sig .tc := ⟨.hbm, 92, rfl⟩
abbrev main_v75 : Ref sig .tc := ⟨.hbm, 93, rfl⟩
abbrev main_v76 : Ref sig .tc := ⟨.hbm, 94, rfl⟩
abbrev main_v77 : Ref sig .tc := ⟨.hbm, 95, rfl⟩
abbrev main_v78 : Ref sig .tc := ⟨.hbm, 96, rfl⟩
abbrev main_v79 : Ref sig .tc := ⟨.hbm, 97, rfl⟩
abbrev main_v80 : Ref sig .tc := ⟨.hbm, 98, rfl⟩
abbrev main_v81 : Ref sig .tc := ⟨.hbm, 99, rfl⟩
abbrev main_v82 : Ref sig .tc := ⟨.hbm, 100, rfl⟩
abbrev main_v83 : Ref sig .tc := ⟨.hbm, 101, rfl⟩
abbrev main_v84 : Ref sig .tc := ⟨.hbm, 102, rfl⟩
abbrev main_v85 : Ref sig .tc := ⟨.hbm, 103, rfl⟩
abbrev main_v86 : Ref sig .tc := ⟨.hbm, 104, rfl⟩
abbrev main_v87 : Ref sig .tc := ⟨.hbm, 105, rfl⟩
abbrev main_v88 : Ref sig .tc := ⟨.hbm, 106, rfl⟩
abbrev main_v89 : Ref sig .tc := ⟨.hbm, 107, rfl⟩
abbrev main_v90 : Ref sig .tc := ⟨.hbm, 108, rfl⟩
abbrev main_v91 : Ref sig .tc := ⟨.hbm, 109, rfl⟩
abbrev main_v92 : Ref sig .tc := ⟨.hbm, 110, rfl⟩
abbrev main_v93 : Ref sig .tc := ⟨.hbm, 111, rfl⟩
abbrev main_v94 : Ref sig .tc := ⟨.hbm, 112, rfl⟩
abbrev main_v95 : Ref sig .tc := ⟨.hbm, 113, rfl⟩
abbrev main_v96 : Ref sig .tc := ⟨.hbm, 114, rfl⟩
abbrev main_v97 : Ref sig .tc := ⟨.hbm, 115, rfl⟩
abbrev main_v98 : Ref sig .tc := ⟨.hbm, 116, rfl⟩
abbrev main_v99 : Ref sig .tc := ⟨.hbm, 117, rfl⟩
abbrev main_v100 : Ref sig .tc := ⟨.hbm, 118, rfl⟩
abbrev main_v101 : Ref sig .tc := ⟨.hbm, 119, rfl⟩
abbrev main_v102 : Ref sig .tc := ⟨.hbm, 120, rfl⟩
abbrev main_v103 : Ref sig .tc := ⟨.hbm, 121, rfl⟩
abbrev main_v104 : Ref sig .tc := ⟨.hbm, 122, rfl⟩
abbrev main_v105 : Ref sig .tc := ⟨.hbm, 123, rfl⟩
abbrev main_v106 : Ref sig .tc := ⟨.hbm, 124, rfl⟩
abbrev main_v107 : Ref sig .tc := ⟨.hbm, 125, rfl⟩
abbrev main_v108 : Ref sig .tc := ⟨.hbm, 126, rfl⟩
abbrev main_v109 : Ref sig .tc := ⟨.hbm, 127, rfl⟩
abbrev main_v110 : Ref sig .tc := ⟨.hbm, 128, rfl⟩
abbrev main_v111 : Ref sig .tc := ⟨.hbm, 129, rfl⟩
abbrev main_v112 : Ref sig .tc := ⟨.hbm, 130, rfl⟩
abbrev main_v113 : Ref sig .tc := ⟨.hbm, 131, rfl⟩
abbrev main_v114 : Ref sig .tc := ⟨.hbm, 132, rfl⟩
abbrev main_v115 : Ref sig .tc := ⟨.hbm, 133, rfl⟩
abbrev main_v116 : Ref sig .tc := ⟨.hbm, 134, rfl⟩
abbrev main_v117 : Ref sig .tc := ⟨.hbm, 135, rfl⟩
abbrev main_v118 : Ref sig .tc := ⟨.hbm, 136, rfl⟩
abbrev main_v119 : Ref sig .tc := ⟨.hbm, 137, rfl⟩
abbrev main_v120 : Ref sig .tc := ⟨.hbm, 138, rfl⟩
abbrev main_v121 : Ref sig .tc := ⟨.hbm, 139, rfl⟩
abbrev main_v122 : Ref sig .tc := ⟨.hbm, 140, rfl⟩
abbrev main_v123 : Ref sig .tc := ⟨.hbm, 141, rfl⟩
abbrev main_v124 : Ref sig .tc := ⟨.hbm, 142, rfl⟩
abbrev main_v125 : Ref sig .tc := ⟨.hbm, 143, rfl⟩
abbrev main_v126 : Ref sig .tc := ⟨.hbm, 144, rfl⟩
abbrev main_v127 : Ref sig .tc := ⟨.hbm, 145, rfl⟩
abbrev main_v128 : Ref sig .tc := ⟨.hbm, 146, rfl⟩
abbrev main_v129 : Ref sig .tc := ⟨.hbm, 147, rfl⟩
abbrev main_v130 : Ref sig .tc := ⟨.hbm, 148, rfl⟩
abbrev main_v131 : Ref sig .tc := ⟨.hbm, 149, rfl⟩
abbrev main_v132 : Ref sig .tc := ⟨.hbm, 150, rfl⟩
abbrev main_v133 : Ref sig .tc := ⟨.hbm, 151, rfl⟩
abbrev main_v134 : Ref sig .tc := ⟨.hbm, 152, rfl⟩
abbrev main_v135 : Ref sig .tc := ⟨.hbm, 153, rfl⟩
abbrev main_v136 : Ref sig .tc := ⟨.hbm, 154, rfl⟩
abbrev main_v137 : Ref sig .tc := ⟨.hbm, 155, rfl⟩
abbrev main_v138 : Ref sig .tc := ⟨.hbm, 156, rfl⟩
abbrev main_cst_11 : Ref sig .tc := ⟨.hbm, 157, rfl⟩
abbrev main_v139 : Ref sig .tc := ⟨.hbm, 158, rfl⟩
abbrev main_v140 : Ref sig .tc := ⟨.hbm, 159, rfl⟩
abbrev main_cst_12 : Ref sig .tc := ⟨.hbm, 160, rfl⟩
abbrev main_v141 : Ref sig .tc := ⟨.hbm, 161, rfl⟩
abbrev main_v142 : Ref sig .tc := ⟨.hbm, 162, rfl⟩
abbrev main_v143 : Ref sig .tc := ⟨.hbm, 163, rfl⟩
abbrev main_v144 : Ref sig .tc := ⟨.hbm, 164, rfl⟩
abbrev main_v145 : Ref sig .tc := ⟨.hbm, 165, rfl⟩
abbrev main_v146 : Ref sig .tc := ⟨.hbm, 166, rfl⟩
abbrev main_v147 : Ref sig .tc := ⟨.hbm, 167, rfl⟩
abbrev main_v148 : Ref sig .tc := ⟨.hbm, 168, rfl⟩
abbrev main_v149 : Ref sig .tc := ⟨.hbm, 169, rfl⟩
abbrev main_v150 : Ref sig .tc := ⟨.hbm, 170, rfl⟩
abbrev main_v151 : Ref sig .tc := ⟨.hbm, 171, rfl⟩
abbrev main_v152 : Ref sig .tc := ⟨.hbm, 172, rfl⟩
abbrev main_v153 : Ref sig .tc := ⟨.hbm, 173, rfl⟩
abbrev main_v154 : Ref sig .tc := ⟨.hbm, 174, rfl⟩
abbrev main_v155 : Ref sig .tc := ⟨.hbm, 175, rfl⟩
abbrev main_v156 : Ref sig .tc := ⟨.hbm, 176, rfl⟩
abbrev main_v157 : Ref sig .tc := ⟨.hbm, 177, rfl⟩
abbrev main_v158 : Ref sig .tc := ⟨.hbm, 178, rfl⟩
abbrev main_v159 : Ref sig .tc := ⟨.hbm, 179, rfl⟩
abbrev main_v160 : Ref sig .tc := ⟨.hbm, 180, rfl⟩
abbrev main_cst_13 : Ref sig .tc := ⟨.hbm, 181, rfl⟩
abbrev main_v161 : Ref sig .tc := ⟨.hbm, 182, rfl⟩
abbrev main_v162 : Ref sig .tc := ⟨.hbm, 183, rfl⟩
abbrev main_cst_14 : Ref sig .tc := ⟨.hbm, 184, rfl⟩
abbrev main_v163 : Ref sig .tc := ⟨.hbm, 185, rfl⟩
abbrev main_v164 : Ref sig .tc := ⟨.hbm, 186, rfl⟩
abbrev main_v165 : Ref sig .tc := ⟨.hbm, 187, rfl⟩
abbrev main_v166 : Ref sig .tc := ⟨.hbm, 188, rfl⟩
abbrev main_cst_15 : Ref sig .tc := ⟨.hbm, 189, rfl⟩
abbrev main_v167 : Ref sig .tc := ⟨.hbm, 190, rfl⟩
abbrev main_v168 : Ref sig .tc := ⟨.hbm, 191, rfl⟩
abbrev main_v169 : Ref sig .tc := ⟨.hbm, 192, rfl⟩
abbrev main_v170 : Ref sig .tc := ⟨.hbm, 193, rfl⟩
abbrev main_cst_16 : Ref sig .tc := ⟨.hbm, 194, rfl⟩
abbrev main_v171 : Ref sig .tc := ⟨.hbm, 195, rfl⟩
abbrev main_v172 : Ref sig .tc := ⟨.hbm, 196, rfl⟩
abbrev main_cst_17 : Ref sig .tc := ⟨.hbm, 197, rfl⟩
abbrev main_v173 : Ref sig .tc := ⟨.hbm, 198, rfl⟩
abbrev main_v174 : Ref sig .tc := ⟨.hbm, 199, rfl⟩
abbrev main_v175 : Ref sig .tc := ⟨.hbm, 200, rfl⟩
abbrev main_v176 : Ref sig .tc := ⟨.hbm, 201, rfl⟩
abbrev main_v177 : Ref sig .tc := ⟨.hbm, 202, rfl⟩
abbrev main_cst_18 : Ref sig .tc := ⟨.hbm, 203, rfl⟩
abbrev main_v178 : Ref sig .tc := ⟨.hbm, 204, rfl⟩
abbrev main_v179 : Ref sig .tc := ⟨.hbm, 205, rfl⟩
abbrev main_cst_19 : Ref sig .tc := ⟨.hbm, 206, rfl⟩
abbrev main_v180 : Ref sig .tc := ⟨.hbm, 207, rfl⟩
abbrev main_v181 : Ref sig .tc := ⟨.hbm, 208, rfl⟩
abbrev main_v182 : Ref sig .tc := ⟨.hbm, 209, rfl⟩
abbrev main_v183 : Ref sig .tc := ⟨.hbm, 210, rfl⟩
abbrev main_v184 : Ref sig .tc := ⟨.hbm, 211, rfl⟩
abbrev main_v185 : Ref sig .tc := ⟨.hbm, 212, rfl⟩
abbrev main_v186 : Ref sig .tc := ⟨.hbm, 213, rfl⟩
abbrev main_v187 : Ref sig .tc := ⟨.hbm, 214, rfl⟩
abbrev main_v188 : Ref sig .tc := ⟨.hbm, 215, rfl⟩
abbrev main_cst_20 : Ref sig .tc := ⟨.hbm, 216, rfl⟩
abbrev main_v189 : Ref sig .tc := ⟨.hbm, 217, rfl⟩
abbrev main_v190 : Ref sig .tc := ⟨.hbm, 218, rfl⟩
abbrev main_v191 : Ref sig .tc := ⟨.hbm, 219, rfl⟩
abbrev main_v192 : Ref sig .tc := ⟨.hbm, 220, rfl⟩
abbrev main_cst_21 : Ref sig .tc := ⟨.hbm, 221, rfl⟩
abbrev main_v193 : Ref sig .tc := ⟨.hbm, 222, rfl⟩
abbrev main_v194 : Ref sig .tc := ⟨.hbm, 223, rfl⟩
abbrev main_cst_22 : Ref sig .tc := ⟨.hbm, 224, rfl⟩
abbrev main_v195 : Ref sig .tc := ⟨.hbm, 225, rfl⟩
abbrev main_v196 : Ref sig .tc := ⟨.hbm, 226, rfl⟩
abbrev main_v197 : Ref sig .tc := ⟨.hbm, 227, rfl⟩
abbrev main_v198 : Ref sig .tc := ⟨.hbm, 228, rfl⟩
abbrev main_v199 : Ref sig .tc := ⟨.hbm, 229, rfl⟩
abbrev main_cst_23 : Ref sig .tc := ⟨.hbm, 230, rfl⟩
abbrev main_v200 : Ref sig .tc := ⟨.hbm, 231, rfl⟩
abbrev main_v201 : Ref sig .tc := ⟨.hbm, 232, rfl⟩
abbrev main_cst_24 : Ref sig .tc := ⟨.hbm, 233, rfl⟩
abbrev main_v202 : Ref sig .tc := ⟨.hbm, 234, rfl⟩
abbrev main_v203 : Ref sig .tc := ⟨.hbm, 235, rfl⟩
abbrev main_v204 : Ref sig .tc := ⟨.hbm, 236, rfl⟩
abbrev main_v205 : Ref sig .tc := ⟨.hbm, 237, rfl⟩
abbrev main_v206 : Ref sig .tc := ⟨.hbm, 238, rfl⟩
abbrev main_v207 : Ref sig .tc := ⟨.hbm, 239, rfl⟩
abbrev main_v208 : Ref sig .tc := ⟨.hbm, 240, rfl⟩
abbrev main_v209 : Ref sig .tc := ⟨.hbm, 241, rfl⟩
abbrev main_v210 : Ref sig .tc := ⟨.hbm, 242, rfl⟩
abbrev main_v211 : Ref sig .tc := ⟨.hbm, 243, rfl⟩
abbrev main_v212 : Ref sig .tc := ⟨.hbm, 244, rfl⟩
abbrev main_v213 : Ref sig .tc := ⟨.hbm, 245, rfl⟩
abbrev main_v214 : Ref sig .tc := ⟨.hbm, 246, rfl⟩
abbrev main_v215 : Ref sig .tc := ⟨.hbm, 247, rfl⟩
abbrev main_v216 : Ref sig .tc := ⟨.hbm, 248, rfl⟩

abbrev nD : Nat := 1
abbrev τ : Topo := Topo.v7x

variable {F : FTy → Type} [FloatOps F]
-- ==== HeadBwd.lean ====
abbrev S1x4096x1024 : Shape := ⟨3, ![1, 4096, 1024]⟩
abbrev S1x4096x5376 : Shape := ⟨3, ![1, 4096, 5376]⟩
abbrev S1x4096x512 : Shape := ⟨3, ![1, 4096, 512]⟩
abbrev S512x1024 : Shape := ⟨2, ![512, 1024]⟩
abbrev S1024x1024 : Shape := ⟨2, ![1024, 1024]⟩
abbrev S1024 : Shape := ⟨1, ![1024]⟩
abbrev S4096x512 : Shape := ⟨2, ![4096, 512]⟩
abbrev S1x4096x4608 : Shape := ⟨3, ![1, 4096, 4608]⟩
abbrev S4096x4608 : Shape := ⟨2, ![4096, 4608]⟩
abbrev S1x4096x256 : Shape := ⟨3, ![1, 4096, 256]⟩
abbrev S4096x256 : Shape := ⟨2, ![4096, 256]⟩
abbrev S4096x5376 : Shape := ⟨2, ![4096, 5376]⟩
abbrev S1024x512 : Shape := ⟨2, ![1024, 512]⟩
abbrev S4096x1024 : Shape := ⟨2, ![4096, 1024]⟩
abbrev S1x1024 : Shape := ⟨2, ![1, 1024]⟩
abbrev S1x128 : Shape := ⟨2, ![1, 128]⟩
abbrev S256x1024 : Shape := ⟨2, ![256, 1024]⟩
abbrev S256x512 : Shape := ⟨2, ![256, 512]⟩
abbrev S8x1024 : Shape := ⟨2, ![8, 1024]⟩
abbrev S256 : Shape := ⟨1, ![256]⟩
abbrev S256x1 : Shape := ⟨2, ![256, 1]⟩
abbrev S32x8x1024 : Shape := ⟨3, ![32, 8, 1024]⟩
abbrev S1 : Shape := ⟨1, ![1]⟩
abbrev S1x1 : Shape := ⟨2, ![1, 1]⟩

abbrev nBuf : Space → Nat
  | .hbm => 31
  | .vmem => 29
  | .smem => 0
  | _ => 0

abbrev bufTy : (tb : Table) → Fin (tcTables nBuf tb) → BufTy
  | .hbm, ⟨0, _⟩ => ⟨S1x4096x1024, .f32⟩
  | .hbm, ⟨1, _⟩ => ⟨S1x4096x5376, .f32⟩
  | .hbm, ⟨2, _⟩ => ⟨S1x4096x512, .f32⟩
  | .hbm, ⟨3, _⟩ => ⟨S1x4096x512, .f32⟩
  | .hbm, ⟨4, _⟩ => ⟨S512x1024, .f32⟩
  | .hbm, ⟨5, _⟩ => ⟨S512x1024, .f32⟩
  | .hbm, ⟨6, _⟩ => ⟨S1024x1024, .f32⟩
  | .hbm, ⟨7, _⟩ => ⟨S1024, .f32⟩
  | .hbm, ⟨8, _⟩ => ⟨S1x4096x1024, .f32⟩
  | .hbm, ⟨9, _⟩ => ⟨S1x4096x512, .f32⟩
  | .hbm, ⟨10, _⟩ => ⟨S4096x512, .f32⟩
  | .hbm, ⟨11, _⟩ => ⟨S1x4096x4608, .f32⟩
  | .hbm, ⟨12, _⟩ => ⟨S4096x4608, .f32⟩
  | .hbm, ⟨13, _⟩ => ⟨S1x4096x256, .f32⟩
  | .hbm, ⟨14, _⟩ => ⟨S4096x256, .f32⟩
  | .hbm, ⟨15, _⟩ => ⟨S4096x5376, .f32⟩
  | .hbm, ⟨16, _⟩ => ⟨S1024x512, .f32⟩
  | .hbm, ⟨17, _⟩ => ⟨S1024x512, .f32⟩
  | .hbm, ⟨18, _⟩ => ⟨S1024x1024, .f32⟩
  | .hbm, ⟨19, _⟩ => ⟨S1024x1024, .bf16⟩
  | .hbm, ⟨20, _⟩ => ⟨S4096x1024, .f32⟩
  | .hbm, ⟨21, _⟩ => ⟨S4096x512, .f32⟩
  | .hbm, ⟨22, _⟩ => ⟨S4096x512, .f32⟩
  | .hbm, ⟨23, _⟩ => ⟨S1024x1024, .bf16⟩
  | .hbm, ⟨24, _⟩ => ⟨S1x1024, .f32⟩
  | .hbm, ⟨25, _⟩ => ⟨S4096x1024, .f32⟩
  | .hbm, ⟨26, _⟩ => ⟨S4096x1024, .f32⟩
  | .hbm, ⟨27, _⟩ => ⟨S4096x1024, .bf16⟩
  | .hbm, ⟨28, _⟩ => ⟨S4096x1024, .bf16⟩
  | .hbm, ⟨29, _⟩ => ⟨S1x1024, .f32⟩
  | .hbm, ⟨30, _⟩ => ⟨S1x128, .f32⟩
  | .local _ .vmem, ⟨0, _⟩ => ⟨S256x1024, .f32⟩
  | .local _ .vmem, ⟨1, _⟩ => ⟨S256x1024, .f32⟩
  | .local _ .vmem, ⟨2, _⟩ => ⟨S256x512, .f32⟩
  | .local _ .vmem, ⟨3, _⟩ => ⟨S256x512, .f32⟩
  | .local _ .vmem, ⟨4, _⟩ => ⟨S256x512, .f32⟩
  | .local _ .vmem, ⟨5, _⟩ => ⟨S256x512, .f32⟩
  | .local _ .vmem, ⟨6, _⟩ => ⟨S256x1024, .f32⟩
  | .local _ .vmem, ⟨7, _⟩ => ⟨S256x1024, .f32⟩
  | .local _ .vmem, ⟨8, _⟩ => ⟨S256x1024, .f32⟩
  | .local _ .vmem, ⟨9, _⟩ => ⟨S256x1024, .f32⟩
  | .local _ .vmem, ⟨10, _⟩ => ⟨S256x512, .f32⟩
  | .local _ .vmem, ⟨11, _⟩ => ⟨S256x512, .f32⟩
  | .local _ .vmem, ⟨12, _⟩ => ⟨S256x512, .f32⟩
  | .local _ .vmem, ⟨13, _⟩ => ⟨S256x512, .f32⟩
  | .local _ .vmem, ⟨14, _⟩ => ⟨S1024x1024, .bf16⟩
  | .local _ .vmem, ⟨15, _⟩ => ⟨S1024x1024, .bf16⟩
  | .local _ .vmem, ⟨16, _⟩ => ⟨S1x1024, .f32⟩
  | .local _ .vmem, ⟨17, _⟩ => ⟨S256x1024, .f32⟩
  | .local _ .vmem, ⟨18, _⟩ => ⟨S256x1024, .f32⟩
  | .local _ .vmem, ⟨19, _⟩ => ⟨S256x1024, .f32⟩
  | .local _ .vmem, ⟨20, _⟩ => ⟨S256x1024, .f32⟩
  | .local _ .vmem, ⟨21, _⟩ => ⟨S256x1024, .bf16⟩
  | .local _ .vmem, ⟨22, _⟩ => ⟨S256x1024, .bf16⟩
  | .local _ .vmem, ⟨23, _⟩ => ⟨S256x1024, .bf16⟩
  | .local _ .vmem, ⟨24, _⟩ => ⟨S256x1024, .bf16⟩
  | .local _ .vmem, ⟨25, _⟩ => ⟨S1x1024, .f32⟩
  | .local _ .vmem, ⟨26, _⟩ => ⟨S1x128, .f32⟩
  | .local _ .vmem, ⟨27, _⟩ => ⟨S8x1024, .f32⟩
  | .local _ .vmem, ⟨28, _⟩ => ⟨S8x1024, .f32⟩
  | _, _ => ⟨S1x4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | _, _ => false

abbrev semScoped : Fin 0 → Bool
  | ⟨_, h⟩ => absurd h (Nat.not_lt_zero _)

abbrev dmaSemScoped : Fin 27 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | _ => false

abbrev sig : RefSig :=
  ofTc nBuf bufTy 0 27 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17_0 : Ref sig .tc := ⟨.hbm, 26, rfl⟩
abbrev main_v17_1 : Ref sig .tc := ⟨.hbm, 27, rfl⟩
abbrev main_v17_2 : Ref sig .tc := ⟨.hbm, 28, rfl⟩
abbrev main_v17_3 : Ref sig .tc := ⟨.hbm, 29, rfl⟩
abbrev main_v17_4 : Ref sig .tc := ⟨.hbm, 30, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg8_0 : Ref sig .tc := ⟨.vmem, 15, rfl⟩
abbrev cc0_stg9_0 : Ref sig .tc := ⟨.vmem, 16, rfl⟩
abbrev cc0_stg10_0 : Ref sig .tc := ⟨.vmem, 17, rfl⟩
abbrev cc0_stg10_1 : Ref sig .tc := ⟨.vmem, 18, rfl⟩
abbrev cc0_stg11_0 : Ref sig .tc := ⟨.vmem, 19, rfl⟩
abbrev cc0_stg11_1 : Ref sig .tc := ⟨.vmem, 20, rfl⟩
abbrev cc0_stg12_0 : Ref sig .tc := ⟨.vmem, 21, rfl⟩
abbrev cc0_stg12_1 : Ref sig .tc := ⟨.vmem, 22, rfl⟩
abbrev cc0_stg13_0 : Ref sig .tc := ⟨.vmem, 23, rfl⟩
abbrev cc0_stg13_1 : Ref sig .tc := ⟨.vmem, 24, rfl⟩
abbrev cc0_stg14_0 : Ref sig .tc := ⟨.vmem, 25, rfl⟩
abbrev cc0_stg15_0 : Ref sig .tc := ⟨.vmem, 26, rfl⟩
abbrev cc0_scratch0 : Ref sig .tc := ⟨.vmem, 27, rfl⟩
abbrev cc0_scratch1 : Ref sig .tc := ⟨.vmem, 28, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem8_0 : DmaSem sig := 15
abbrev cc0_sem9_0 : DmaSem sig := 16
abbrev cc0_sem10_0 : DmaSem sig := 17
abbrev cc0_sem10_1 : DmaSem sig := 18
abbrev cc0_sem11_0 : DmaSem sig := 19
abbrev cc0_sem11_1 : DmaSem sig := 20
abbrev cc0_sem12_0 : DmaSem sig := 21
abbrev cc0_sem12_1 : DmaSem sig := 22
abbrev cc0_sem13_0 : DmaSem sig := 23
abbrev cc0_sem13_1 : DmaSem sig := 24
abbrev cc0_sem14_0 : DmaSem sig := 25
abbrev cc0_sem15_0 : DmaSem sig := 26

abbrev nD : Nat := 1
abbrev τ : Topo := Topo.v7x

variable {F : FTy → Type} [FloatOps F]

abbrev grid0 : Pipeline.Grid := ⟨1, ![16], ![false]⟩

def k0_cond2 (i : grid0.Coords) : BitVec 1 :=
  let arg0 : BitVec 32 := BitVec.ofNat 32 (i 0).val
  let c15_i32 : BitVec 32 := 15#32
  let v113 : BitVec 1 := Scalar.cmpi .eq arg0 c15_i32
  let v114 : BitVec 32 := Scalar.extui v113
  let c0_i32_55 : BitVec 32 := 0#32
  let v115 : BitVec 1 := Scalar.cmpi .ne v114 c0_i32_55
  v115

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c1_i32 : BitVec 32 := 1#32
  let c0_i32 : BitVec 32 := 0#32
  ![arg0.toNat, c1_i32.toNat]

def cc0_transform_2 (i : grid0.Coords) : Fin 2 → Nat :=
  let arg0 : BitVec 32 := BitVec.ofNat 32 (i 0).val
  let c5_i32 : BitVec 32 := 5#32
  let c0_i32 : BitVec 32 := 0#32
  ![arg0.toNat, c5_i32.toNat]

def cc0_transform_3 (i : grid0.Coords) : Fin 2 → Nat :=
  let arg0 : BitVec 32 := BitVec.ofNat 32 (i 0).val
  let c3_i32 : BitVec 32 := 3#32
  let c0_i32 : BitVec 32 := 0#32
  ![arg0.toNat, c3_i32.toNat]

def cc0_transform_4 (i : grid0.Coords) : Fin 2 → Nat :=
  let arg0 : BitVec 32 := BitVec.ofNat 32 (i 0).val
  let c4_i32 : BitVec 32 := 4#32
  let c0_i32 : BitVec 32 := 0#32
  ![arg0.toNat, c4_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_12 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_13 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_14 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_15 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x512 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x512 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 1 → Memref sig .tc .vmem S1024x1024 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1024x1024 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1x1024 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 2 → Memref sig .tc .vmem S256x1024 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S256x1024 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S256x1024 .bf16 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev stage0_13 : Fin 2 → Memref sig .tc .vmem S256x1024 .bf16 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]

abbrev stage0_14 : Fin 1 → Memref sig .tc .vmem S1x1024 .f32 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))
abbrev reads0_14 : Fin grid0.rank → Bool := ![false]

abbrev stage0_15 : Fin 1 → Memref sig .tc .vmem S1x128 .f32 := fun | 0 => Memref.whole cc0_stg15_0 | ⟨_ + 1, h⟩ => absurd h (Nat.not_lt.2 (Nat.le_add_left _ _))
abbrev sem0_15 : Fin 1 → DmaSem sig := fun | 0 => cc0_sem15_0 | ⟨_ + 1, h⟩ => absurd h (Nat.not_lt.2 (Nat.le_add_left _ _))
abbrev reads0_15 : Fin grid0.rank → Bool := ![false]
-- ==== HeadBwdRefIdeal.lean ====
abbrev S1x4096x1024 : Shape := ⟨3, ![1, 4096, 1024]⟩
abbrev S1x4096x5376 : Shape := ⟨3, ![1, 4096, 5376]⟩
abbrev S1x4096x512 : Shape := ⟨3, ![1, 4096, 512]⟩
abbrev S512x1024 : Shape := ⟨2, ![512, 1024]⟩
abbrev S1024x1024 : Shape := ⟨2, ![1024, 1024]⟩
abbrev S1024 : Shape := ⟨1, ![1024]⟩
abbrev S1x4096x128 : Shape := ⟨3, ![1, 4096, 128]⟩
abbrev S1x4096x2048 : Shape := ⟨3, ![1, 4096, 2048]⟩
abbrev S_ : Shape := ⟨0, ![]⟩
abbrev S1x4096x2x1024 : Shape := ⟨4, ![1, 4096, 2, 1024]⟩
abbrev S1x4096x1x1024 : Shape := ⟨4, ![1, 4096, 1, 1024]⟩
abbrev S1x4096 : Shape := ⟨2, ![1, 4096]⟩
abbrev S1x4096x1 : Shape := ⟨3, ![1, 4096, 1]⟩
abbrev S1x1x1024 : Shape := ⟨3, ![1, 1, 1024]⟩
abbrev S1x1024 : Shape := ⟨2, ![1, 1024]⟩
abbrev S4096 : Shape := ⟨1, ![4096]⟩
abbrev S4096x1024 : Shape := ⟨2, ![4096, 1024]⟩
abbrev S1x128 : Shape := ⟨2, ![1, 128]⟩

abbrev nBuf : Space → Nat
  | .hbm => 134
  | .vmem => 0
  | .smem => 0
  | _ => 0

abbrev hbmTy0_0 (i : Nat) : BufTy := match i % 128 with
  | 0 => ⟨S1x4096x1024, .f32⟩
  | 1 => ⟨S1x4096x5376, .f32⟩
  | 2 => ⟨S1x4096x512, .f32⟩
  | 3 => ⟨S1x4096x512, .f32⟩
  | 4 => ⟨S512x1024, .f32⟩
  | 5 => ⟨S512x1024, .f32⟩
  | 6 => ⟨S1024x1024, .f32⟩
  | 7 => ⟨S1024, .f32⟩
  | 8 => ⟨S1x4096x1024, .f32⟩
  | 9 => ⟨S1x4096x512, .f32⟩
  | 10 => ⟨S1x4096x128, .f32⟩
  | 11 => ⟨S1x4096x128, .f32⟩
  | 12 => ⟨S1x4096x512, .f32⟩
  | 13 => ⟨S1x4096x512, .f32⟩
  | 14 => ⟨S1x4096x512, .f32⟩
  | 15 => ⟨S1x4096x512, .f32⟩
  | 16 => ⟨S1x4096x512, .f32⟩
  | 17 => ⟨S1x4096x2048, .f32⟩
  | 18 => ⟨S1x4096x512, .f32⟩
  | 19 => ⟨S1x4096x512, .f32⟩
  | 20 => ⟨S_, .f32⟩
  | 21 => ⟨S1x4096x512, .f32⟩
  | 22 => ⟨S1x4096x512, .f32⟩
  | 23 => ⟨S_, .f32⟩
  | 24 => ⟨S1x4096x512, .f32⟩
  | 25 => ⟨S1x4096x512, .f32⟩
  | 26 => ⟨S1x4096x512, .f32⟩
  | 27 => ⟨S1x4096x512, .f32⟩
  | 28 => ⟨S1x4096x1024, .f32⟩
  | 29 => ⟨S1x4096x512, .f32⟩
  | 30 => ⟨S1x4096x512, .f32⟩
  | 31 => ⟨S_, .f32⟩
  | 32 => ⟨S1x4096x512, .f32⟩
  | 33 => ⟨S1x4096x512, .f32⟩
  | 34 => ⟨S_, .f32⟩
  | 35 => ⟨S1x4096x512, .f32⟩
  | 36 => ⟨S1x4096x512, .f32⟩
  | 37 => ⟨S1x4096x512, .f32⟩
  | 38 => ⟨S1x4096x512, .f32⟩
  | 39 => ⟨S1x4096x1024, .f32⟩
  | 40 => ⟨S1x4096x2048, .f32⟩
  | 41 => ⟨S1x4096x2048, .f32⟩
  | 42 => ⟨S_, .f32⟩
  | 43 => ⟨S1x4096x2048, .f32⟩
  | 44 => ⟨S1x4096x2048, .f32⟩
  | 45 => ⟨S_, .f32⟩
  | 46 => ⟨S1x4096x2048, .f32⟩
  | 47 => ⟨S1x4096x2048, .f32⟩
  | 48 => ⟨S1x4096x2x1024, .f32⟩
  | 49 => ⟨S1x4096x1x1024, .f32⟩
  | 50 => ⟨S1x4096x1024, .f32⟩
  | 51 => ⟨S1x4096x1024, .f32⟩
  | 52 => ⟨S1x4096x1x1024, .f32⟩
  | 53 => ⟨S1x4096x1024, .f32⟩
  | 54 => ⟨S1x4096x1024, .f32⟩
  | 55 => ⟨S1x4096x1024, .f32⟩
  | 56 => ⟨S1x4096x1024, .f32⟩
  | 57 => ⟨S1x4096x1024, .f32⟩
  | 58 => ⟨S1x4096x1024, .f32⟩
  | 59 => ⟨S_, .f32⟩
  | 60 => ⟨S1x4096, .f32⟩
  | 61 => ⟨S1x4096x1, .f32⟩
  | 62 => ⟨S_, .f32⟩
  | 63 => ⟨S1x4096x1, .f32⟩
  | 64 => ⟨S1x4096x1, .f32⟩
  | 65 => ⟨S_, .f32⟩
  | 66 => ⟨S1x4096x1, .f32⟩
  | 67 => ⟨S1x4096x1, .f32⟩
  | 68 => ⟨S1x4096x1, .f32⟩
  | 69 => ⟨S1x4096x1, .f32⟩
  | 70 => ⟨S_, .f32⟩
  | 71 => ⟨S1x4096x1, .f32⟩
  | 72 => ⟨S1x4096x1, .f32⟩
  | 73 => ⟨S1x4096x1024, .f32⟩
  | 74 => ⟨S1x4096x1024, .f32⟩
  | 75 => ⟨S1x1x1024, .f32⟩
  | 76 => ⟨S1x4096x1024, .f32⟩
  | 77 => ⟨S1x4096x1024, .f32⟩
  | 78 => ⟨S1x4096x1024, .f32⟩
  | 79 => ⟨S1x4096x1024, .f32⟩
  | 80 => ⟨S_, .f32⟩
  | 81 => ⟨S1x4096x1024, .f32⟩
  | 82 => ⟨S1x4096x1024, .f32⟩
  | 83 => ⟨S_, .f32⟩
  | 84 => ⟨S1x4096, .f32⟩
  | 85 => ⟨S_, .f32⟩
  | 86 => ⟨S1x4096, .f32⟩
  | 87 => ⟨S1x4096, .f32⟩
  | 88 => ⟨S_, .f32⟩
  | 89 => ⟨S_, .f32⟩
  | 90 => ⟨S_, .f32⟩
  | 91 => ⟨S_, .f32⟩
  | 92 => ⟨S_, .f32⟩
  | 93 => ⟨S_, .f32⟩
  | 94 => ⟨S_, .f32⟩
  | 95 => ⟨S1x4096, .f32⟩
  | 96 => ⟨S_, .f32⟩
  | 97 => ⟨S1x4096, .f32⟩
  | 98 => ⟨S1x4096, .f32⟩
  | 99 => ⟨S1x4096x1024, .f32⟩
  | 100 => ⟨S1x4096x1024, .f32⟩
  | 101 => ⟨S1x4096x1024, .f32⟩
  | 102 => ⟨S_, .f32⟩
  | 103 => ⟨S1x1024, .f32⟩
  | 104 => ⟨S1x1x1024, .f32⟩
  | 105 => ⟨S1x4096x1024, .f32⟩
  | 106 => ⟨S1x4096x1024, .f32⟩
  | 107 => ⟨S_, .f32⟩
  | 108 => ⟨S1024, .f32⟩
  | 109 => ⟨S1x4096x1024, .f32⟩
  | 110 => ⟨S_, .f32⟩
  | 111 => ⟨S1x4096, .f32⟩
  | 112 => ⟨S1x4096x1, .f32⟩
  | 113 => ⟨S1x4096x1024, .f32⟩
  | 114 => ⟨S1x4096x1024, .f32⟩
  | 115 => ⟨S1x4096x1, .f32⟩
  | 116 => ⟨S_, .f32⟩
  | 117 => ⟨S1x4096x1, .f32⟩
  | 118 => ⟨S1x4096x1, .f32⟩
  | 119 => ⟨S_, .f32⟩
  | 120 => ⟨S4096, .f32⟩
  | 121 => ⟨S1x4096, .f32⟩
  | 122 => ⟨S1x4096x1024, .f32⟩
  | 123 => ⟨S1x4096x1024, .f32⟩
  | 124 => ⟨S1x4096x1024, .f32⟩
  | 125 => ⟨S1x4096x1024, .f32⟩
  | 126 => ⟨S1x4096x1024, .f32⟩
  | 127 => ⟨S4096x1024, .f32⟩
  | _ => ⟨S1x4096x1024, .f32⟩

abbrev hbmTy0_1 (i : Nat) : BufTy := match i % 128 with
  | 0 => ⟨S4096x1024, .f32⟩
  | 1 => ⟨S4096x1024, .bf16⟩
  | 2 => ⟨S4096x1024, .f32⟩
  | 3 => ⟨S4096x1024, .bf16⟩
  | 4 => ⟨S1x1024, .f32⟩
  | 5 => ⟨S1x128, .f32⟩
  | _ => ⟨S1x4096x1024, .f32⟩

abbrev hbmTy (i : Nat) : BufTy := match i / 128 with
  | 0 => hbmTy0_0 i
  | 1 => hbmTy0_1 i
  | _ => ⟨S1x4096x1024, .f32⟩

abbrev bufTy : (tb : Table) → Fin (tcTables nBuf tb) → BufTy
  | .hbm, ⟨i, _⟩ => hbmTy i
  | _, _ => ⟨S1x4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_call0_v0 : Ref sig .tc := ⟨.hbm, 18, rfl⟩
abbrev main_call0_v1 : Ref sig .tc := ⟨.hbm, 19, rfl⟩
abbrev main_call0_cst : Ref sig .tc := ⟨.hbm, 20, rfl⟩
abbrev main_call0_v2 : Ref sig .tc := ⟨.hbm, 21, rfl⟩
abbrev main_call0_v3 : Ref sig .tc := ⟨.hbm, 22, rfl⟩
abbrev main_call0_cst_0 : Ref sig .tc := ⟨.hbm, 23, rfl⟩
abbrev main_call0_v4 : Ref sig .tc := ⟨.hbm, 24, rfl⟩
abbrev main_call0_v5 : Ref sig .tc := ⟨.hbm, 25, rfl⟩
abbrev main_v9 : Ref sig .tc := ⟨.hbm, 26, rfl⟩
abbrev main_v10 : Ref sig .tc := ⟨.hbm, 27, rfl⟩
abbrev main_v11 : Ref sig .tc := ⟨.hbm, 28, rfl⟩
abbrev main_call1_v0 : Ref sig .tc := ⟨.hbm, 29, rfl⟩
abbrev main_call1_v1 : Ref sig .tc := ⟨.hbm, 30, rfl⟩
abbrev main_call1_cst : Ref sig .tc := ⟨.hbm, 31, rfl⟩
abbrev main_call1_v2 : Ref sig .tc := ⟨.hbm, 32, rfl⟩
abbrev main_call1_v3 : Ref sig .tc := ⟨.hbm, 33, rfl⟩
abbrev main_call1_cst_0 : Ref sig .tc := ⟨.hbm, 34, rfl⟩
abbrev main_call1_v4 : Ref sig .tc := ⟨.hbm, 35, rfl⟩
abbrev main_call1_v5 : Ref sig .tc := ⟨.hbm, 36, rfl⟩
abbrev main_v12 : Ref sig .tc := ⟨.hbm, 37, rfl⟩
abbrev main_v13 : Ref sig .tc := ⟨.hbm, 38, rfl⟩
abbrev main_v14 : Ref sig .tc := ⟨.hbm, 39, rfl⟩
abbrev main_v15 : Ref sig .tc := ⟨.hbm, 40, rfl⟩
abbrev main_v16 : Ref sig .tc := ⟨.hbm, 41, rfl⟩
abbrev main_cst : Ref sig .tc := ⟨.hbm, 42, rfl⟩
abbrev main_v17 : Ref sig .tc := ⟨.hbm, 43, rfl⟩
abbrev main_v18 : Ref sig .tc := ⟨.hbm, 44, rfl⟩
abbrev main_cst_0 : Ref sig .tc := ⟨.hbm, 45, rfl⟩
abbrev main_v19 : Ref sig .tc := ⟨.hbm, 46, rfl⟩
abbrev main_v20 : Ref sig .tc := ⟨.hbm, 47, rfl⟩
abbrev main_v21 : Ref sig .tc := ⟨.hbm, 48, rfl⟩
abbrev main_v22 : Ref sig .tc := ⟨.hbm, 49, rfl⟩
abbrev main_v23 : Ref sig .tc := ⟨.hbm, 50, rfl⟩
abbrev main_v24 : Ref sig .tc := ⟨.hbm, 51, rfl⟩
abbrev main_v25 : Ref sig .tc := ⟨.hbm, 52, rfl⟩
abbrev main_v26 : Ref sig .tc := ⟨.hbm, 53, rfl⟩
abbrev main_v27 : Ref sig .tc := ⟨.hbm, 54, rfl⟩
abbrev main_v28 : Ref sig .tc := ⟨.hbm, 55, rfl⟩
abbrev main_v29 : Ref sig .tc := ⟨.hbm, 56, rfl⟩
abbrev main_v30 : Ref sig .tc := ⟨.hbm, 57, rfl⟩
abbrev main_v31 : Ref sig .tc := ⟨.hbm, 58, rfl⟩
abbrev main_cst_1 : Ref sig .tc := ⟨.hbm, 59, rfl⟩
abbrev main_v32 : Ref sig .tc := ⟨.hbm, 60, rfl⟩
abbrev main_v33 : Ref sig .tc := ⟨.hbm, 61, rfl⟩
abbrev main_cst_2 : Ref sig .tc := ⟨.hbm, 62, rfl⟩
abbrev main_v34 : Ref sig .tc := ⟨.hbm, 63, rfl⟩
abbrev main_v35 : Ref sig .tc := ⟨.hbm, 64, rfl⟩
abbrev main_cst_3 : Ref sig .tc := ⟨.hbm, 65, rfl⟩
abbrev main_v36 : Ref sig .tc := ⟨.hbm, 66, rfl⟩
abbrev main_v37 : Ref sig .tc := ⟨.hbm, 67, rfl⟩
abbrev main_v38 : Ref sig .tc := ⟨.hbm, 68, rfl⟩
abbrev main_v39 : Ref sig .tc := ⟨.hbm, 69, rfl⟩
abbrev main_cst_4 : Ref sig .tc := ⟨.hbm, 70, rfl⟩
abbrev main_v40 : Ref sig .tc := ⟨.hbm, 71, rfl⟩
abbrev main_v41 : Ref sig .tc := ⟨.hbm, 72, rfl⟩
abbrev main_v42 : Ref sig .tc := ⟨.hbm, 73, rfl⟩
abbrev main_v43 : Ref sig .tc := ⟨.hbm, 74, rfl⟩
abbrev main_v44 : Ref sig .tc := ⟨.hbm, 75, rfl⟩
abbrev main_v45 : Ref sig .tc := ⟨.hbm, 76, rfl⟩
abbrev main_v46 : Ref sig .tc := ⟨.hbm, 77, rfl⟩
abbrev main_v47 : Ref sig .tc := ⟨.hbm, 78, rfl⟩
abbrev main_v48 : Ref sig .tc := ⟨.hbm, 79, rfl⟩
abbrev main_cst_5 : Ref sig .tc := ⟨.hbm, 80, rfl⟩
abbrev main_v49 : Ref sig .tc := ⟨.hbm, 81, rfl⟩
abbrev main_v50 : Ref sig .tc := ⟨.hbm, 82, rfl⟩
abbrev main_cst_6 : Ref sig .tc := ⟨.hbm, 83, rfl⟩
abbrev main_v51 : Ref sig .tc := ⟨.hbm, 84, rfl⟩
abbrev main_cst_7 : Ref sig .tc := ⟨.hbm, 85, rfl⟩
abbrev main_v52 : Ref sig .tc := ⟨.hbm, 86, rfl⟩
abbrev main_v53 : Ref sig .tc := ⟨.hbm, 87, rfl⟩
abbrev main_cst_8 : Ref sig .tc := ⟨.hbm, 88, rfl⟩
abbrev main_v54 : Ref sig .tc := ⟨.hbm, 89, rfl⟩
abbrev main_cst_9 : Ref sig .tc := ⟨.hbm, 90, rfl⟩
abbrev main_v55 : Ref sig .tc := ⟨.hbm, 91, rfl⟩
abbrev main_cst_10 : Ref sig .tc := ⟨.hbm, 92, rfl⟩
abbrev main_cst_11 : Ref sig .tc := ⟨.hbm, 93, rfl⟩
abbrev main_v56 : Ref sig .tc := ⟨.hbm, 94, rfl⟩
abbrev main_v57 : Ref sig .tc := ⟨.hbm, 95, rfl⟩
abbrev main_cst_12 : Ref sig .tc := ⟨.hbm, 96, rfl⟩
abbrev main_v58 : Ref sig .tc := ⟨.hbm, 97, rfl⟩
abbrev main_v59 : Ref sig .tc := ⟨.hbm, 98, rfl⟩
abbrev main_v60 : Ref sig .tc := ⟨.hbm, 99, rfl⟩
abbrev main_v61 : Ref sig .tc := ⟨.hbm, 100, rfl⟩
abbrev main_v62 : Ref sig .tc := ⟨.hbm, 101, rfl⟩
abbrev main_cst_13 : Ref sig .tc := ⟨.hbm, 102, rfl⟩
abbrev main_v63 : Ref sig .tc := ⟨.hbm, 103, rfl⟩
abbrev main_v64 : Ref sig .tc := ⟨.hbm, 104, rfl⟩
abbrev main_v65 : Ref sig .tc := ⟨.hbm, 105, rfl⟩
abbrev main_v66 : Ref sig .tc := ⟨.hbm, 106, rfl⟩
abbrev main_cst_14 : Ref sig .tc := ⟨.hbm, 107, rfl⟩
abbrev main_v67 : Ref sig .tc := ⟨.hbm, 108, rfl⟩
abbrev main_v68 : Ref sig .tc := ⟨.hbm, 109, rfl⟩
abbrev main_cst_15 : Ref sig .tc := ⟨.hbm, 110, rfl⟩
abbrev main_v69 : Ref sig .tc := ⟨.hbm, 111, rfl⟩
abbrev main_v70 : Ref sig .tc := ⟨.hbm, 112, rfl⟩
abbrev main_v71 : Ref sig .tc := ⟨.hbm, 113, rfl⟩
abbrev main_v72 : Ref sig .tc := ⟨.hbm, 114, rfl⟩
abbrev main_v73 : Ref sig .tc := ⟨.hbm, 115, rfl⟩
abbrev main_cst_16 : Ref sig .tc := ⟨.hbm, 116, rfl⟩
abbrev main_v74 : Ref sig .tc := ⟨.hbm, 117, rfl⟩
abbrev main_v75 : Ref sig .tc := ⟨.hbm, 118, rfl⟩
abbrev main_cst_17 : Ref sig .tc := ⟨.hbm, 119, rfl⟩
abbrev main_v76 : Ref sig .tc := ⟨.hbm, 120, rfl⟩
abbrev main_v77 : Ref sig .tc := ⟨.hbm, 121, rfl⟩
abbrev main_v78 : Ref sig .tc := ⟨.hbm, 122, rfl⟩
abbrev main_v79 : Ref sig .tc := ⟨.hbm, 123, rfl⟩
abbrev main_v80 : Ref sig .tc := ⟨.hbm, 124, rfl⟩
abbrev main_v81 : Ref sig .tc := ⟨.hbm, 125, rfl⟩
abbrev main_v82 : Ref sig .tc := ⟨.hbm, 126, rfl⟩
abbrev main_v83 : Ref sig .tc := ⟨.hbm, 127, rfl⟩
abbrev main_v84 : Ref sig .tc := ⟨.hbm, 128, rfl⟩
abbrev main_v85 : Ref sig .tc := ⟨.hbm, 129, rfl⟩
abbrev main_v86 : Ref sig .tc := ⟨.hbm, 130, rfl⟩
abbrev main_v87 : Ref sig .tc := ⟨.hbm, 131, rfl⟩
abbrev main_v88 : Ref sig .tc := ⟨.hbm, 132, rfl⟩
abbrev main_v89 : Ref sig .tc := ⟨.hbm, 133, rfl⟩

abbrev nD : Nat := 1
abbrev τ : Topo := Topo.v7x

variable {F : FTy → Type} [FloatOps F]
-- ==== AttnFwd.lean ====
abbrev S1x4096x8x64 : Shape := ⟨4, ![1, 4096, 8, 64]⟩
abbrev S1x4096x2x64 : Shape := ⟨4, ![1, 4096, 2, 64]⟩
abbrev S4096x8x64 : Shape := ⟨3, ![4096, 8, 64]⟩
abbrev S8x4096x64 : Shape := ⟨3, ![8, 4096, 64]⟩
abbrev S_ : Shape := ⟨0, ![]⟩
abbrev S4096x2x64 : Shape := ⟨3, ![4096, 2, 64]⟩
abbrev S2x4096x64 : Shape := ⟨3, ![2, 4096, 64]⟩
abbrev S8x512x2x64 : Shape := ⟨4, ![8, 512, 2, 64]⟩
abbrev S2x8x64x512 : Shape := ⟨4, ![2, 8, 64, 512]⟩
abbrev S2x8x128x512 : Shape := ⟨4, ![2, 8, 128, 512]⟩
abbrev S4096x512 : Shape := ⟨2, ![4096, 512]⟩
abbrev S8x1x4096 : Shape := ⟨3, ![8, 1, 4096]⟩
abbrev S4x512x64 : Shape := ⟨3, ![4, 512, 64]⟩
abbrev S1x4096x64 : Shape := ⟨3, ![1, 4096, 64]⟩
abbrev S1x8x128x512 : Shape := ⟨4, ![1, 8, 128, 512]⟩
abbrev S512x256 : Shape := ⟨2, ![512, 256]⟩
abbrev S4x1x512 : Shape := ⟨3, ![4, 1, 512]⟩
abbrev S2x4096x512 : Shape := ⟨3, ![2, 4096, 512]⟩
abbrev S8x512 : Shape := ⟨2, ![8, 512]⟩
abbrev S1x512x64 : Shape := ⟨3, ![1, 512, 64]⟩
abbrev S512x64 : Shape := ⟨2, ![512, 64]⟩
abbrev S512x512 : Shape := ⟨2, ![512, 512]⟩
abbrev S1x512x512 : Shape := ⟨3, ![1, 512, 512]⟩
abbrev S64x8x512 : Shape := ⟨3, ![64, 8, 512]⟩
abbrev S512 : Shape := ⟨1, ![512]⟩
abbrev S1x512 : Shape := ⟨2, ![1, 512]⟩
abbrev S128x512 : Shape := ⟨2, ![128, 512]⟩
abbrev S1x1x128x512 : Shape := ⟨4, ![1, 1, 128, 512]⟩
abbrev S64x512 : Shape := ⟨2, ![64, 512]⟩
abbrev S1x1x512 : Shape := ⟨3, ![1, 1, 512]⟩

abbrev nBuf : Space → Nat
  | .hbm => 21
  | .vmem => 11
  | .smem => 0
  | _ => 0

abbrev bufTy : (tb : Table) → Fin (tcTables nBuf tb) → BufTy
  | .hbm, ⟨0, _⟩ => ⟨S1x4096x8x64, .f32⟩
  | .hbm, ⟨1, _⟩ => ⟨S1x4096x2x64, .f32⟩
  | .hbm, ⟨2, _⟩ => ⟨S1x4096x2x64, .f32⟩
  | .hbm, ⟨3, _⟩ => ⟨S4096x8x64, .f32⟩
  | .hbm, ⟨4, _⟩ => ⟨S8x4096x64, .f32⟩
  | .hbm, ⟨5, _⟩ => ⟨S_, .f32⟩
  | .hbm, ⟨6, _⟩ => ⟨S8x4096x64, .f32⟩
  | .hbm, ⟨7, _⟩ => ⟨S8x4096x64, .f32⟩
  | .hbm, ⟨8, _⟩ => ⟨S8x4096x64, .bf16⟩
  | .hbm, ⟨9, _⟩ => ⟨S4096x2x64, .f32⟩
  | .hbm, ⟨10, _⟩ => ⟨S2x4096x64, .f32⟩
  | .hbm, ⟨11, _⟩ => ⟨S2x4096x64, .bf16⟩
  | .hbm, ⟨12, _⟩ => ⟨S4096x2x64, .f32⟩
  | .hbm, ⟨13, _⟩ => ⟨S8x512x2x64, .f32⟩
  | .hbm, ⟨14, _⟩ => ⟨S2x8x64x512, .f32⟩
  | .hbm, ⟨15, _⟩ => ⟨S_, .f32⟩
  | .hbm, ⟨16, _⟩ => ⟨S2x8x64x512, .f32⟩
  | .hbm, ⟨17, _⟩ => ⟨S2x8x128x512, .f32⟩
  | .hbm, ⟨18, _⟩ => ⟨S2x8x128x512, .bf16⟩
  | .hbm, ⟨19, _⟩ => ⟨S4096x512, .f32⟩
  | .hbm, ⟨20, _⟩ => ⟨S8x1x4096, .f32⟩
  | .local _ .vmem, ⟨0, _⟩ => ⟨S4x512x64, .bf16⟩
  | .local _ .vmem, ⟨1, _⟩ => ⟨S4x512x64, .bf16⟩
  | .local _ .vmem, ⟨2, _⟩ => ⟨S1x4096x64, .bf16⟩
  | .local _ .vmem, ⟨3, _⟩ => ⟨S1x4096x64, .bf16⟩
  | .local _ .vmem, ⟨4, _⟩ => ⟨S1x8x128x512, .bf16⟩
  | .local _ .vmem, ⟨5, _⟩ => ⟨S1x8x128x512, .bf16⟩
  | .local _ .vmem, ⟨6, _⟩ => ⟨S512x256, .f32⟩
  | .local _ .vmem, ⟨7, _⟩ => ⟨S512x256, .f32⟩
  | .local _ .vmem, ⟨8, _⟩ => ⟨S4x1x512, .f32⟩
  | .local _ .vmem, ⟨9, _⟩ => ⟨S4x1x512, .f32⟩
  | .local _ .vmem, ⟨10, _⟩ => ⟨S2x4096x512, .f32⟩
  | _, _ => ⟨S1x4096x8x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_cst : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_cst_0 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14_0 : Ref sig .tc := ⟨.hbm, 19, rfl⟩
abbrev main_v14_1 : Ref sig .tc := ⟨.hbm, 20, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_scratch0 : Ref sig .tc := ⟨.vmem, 10, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨2, ![2, 8], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

abbrev stage0_0 : Fin 2 → Memref sig .tc .vmem S4x512x64 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x4096x64 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1x8x128x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S512x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S4x1x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]
-- ==== AttnFwdRefIdeal.lean ====
abbrev S1x4096x8x64 : Shape := ⟨4, ![1, 4096, 8, 64]⟩
abbrev S1x4096x2x64 : Shape := ⟨4, ![1, 4096, 2, 64]⟩
abbrev S1x4096x2x4x64 : Shape := ⟨5, ![1, 4096, 2, 4, 64]⟩
abbrev S1x2x4096x4096x4 : Shape := ⟨5, ![1, 2, 4096, 4096, 4]⟩
abbrev S1x2x4x4096x4096 : Shape := ⟨5, ![1, 2, 4, 4096, 4096]⟩
abbrev S_ : Shape := ⟨0, ![]⟩
abbrev S1x2x4x4096 : Shape := ⟨4, ![1, 2, 4, 4096]⟩
abbrev S1x2x4x4096x1 : Shape := ⟨5, ![1, 2, 4, 4096, 1]⟩
abbrev S1x2x64x4x4096 : Shape := ⟨5, ![1, 2, 64, 4, 4096]⟩
abbrev S4096x512 : Shape := ⟨2, ![4096, 512]⟩
abbrev S8x1x4096 : Shape := ⟨3, ![8, 1, 4096]⟩

abbrev nBuf : Space → Nat
  | .hbm => 38
  | .vmem => 0
  | .smem => 0
  | _ => 0

abbrev bufTy : (tb : Table) → Fin (tcTables nBuf tb) → BufTy
  | .hbm, ⟨0, _⟩ => ⟨S1x4096x8x64, .f32⟩
  | .hbm, ⟨1, _⟩ => ⟨S1x4096x2x64, .f32⟩
  | .hbm, ⟨2, _⟩ => ⟨S1x4096x2x64, .f32⟩
  | .hbm, ⟨3, _⟩ => ⟨S1x4096x2x4x64, .f32⟩
  | .hbm, ⟨4, _⟩ => ⟨S1x2x4096x4096x4, .f32⟩
  | .hbm, ⟨5, _⟩ => ⟨S1x2x4x4096x4096, .f32⟩
  | .hbm, ⟨6, _⟩ => ⟨S_, .f32⟩
  | .hbm, ⟨7, _⟩ => ⟨S1x2x4x4096x4096, .f32⟩
  | .hbm, ⟨8, _⟩ => ⟨S1x2x4x4096x4096, .f32⟩
  | .hbm, ⟨9, _⟩ => ⟨S_, .f32⟩
  | .hbm, ⟨10, _⟩ => ⟨S1x2x4x4096, .f32⟩
  | .hbm, ⟨11, _⟩ => ⟨S_, .f32⟩
  | .hbm, ⟨12, _⟩ => ⟨S1x2x4x4096, .f32⟩
  | .hbm, ⟨13, _⟩ => ⟨S1x2x4x4096, .f32⟩
  | .hbm, ⟨14, _⟩ => ⟨S1x2x4x4096x1, .f32⟩
  | .hbm, ⟨15, _⟩ => ⟨S1x2x4x4096x4096, .f32⟩
  | .hbm, ⟨16, _⟩ => ⟨S1x2x4x4096x4096, .f32⟩
  | .hbm, ⟨17, _⟩ => ⟨S1x2x4x4096x4096, .f32⟩
  | .hbm, ⟨18, _⟩ => ⟨S_, .f32⟩
  | .hbm, ⟨19, _⟩ => ⟨S1x2x4x4096, .f32⟩
  | .hbm, ⟨20, _⟩ => ⟨S1x2x4x4096x1, .f32⟩
  | .hbm, ⟨21, _⟩ => ⟨S1x2x4x4096x4096, .f32⟩
  | .hbm, ⟨22, _⟩ => ⟨S1x2x4x4096x4096, .f32⟩
  | .hbm, ⟨23, _⟩ => ⟨S1x2x64x4x4096, .f32⟩
  | .hbm, ⟨24, _⟩ => ⟨S1x4096x2x4x64, .f32⟩
  | .hbm, ⟨25, _⟩ => ⟨S_, .f32⟩
  | .hbm, ⟨26, _⟩ => ⟨S1x2x4x4096, .f32⟩
  | .hbm, ⟨27, _⟩ => ⟨S1x2x4x4096x1, .f32⟩
  | .hbm, ⟨28, _⟩ => ⟨S1x2x4x4096x4096, .f32⟩
  | .hbm, ⟨29, _⟩ => ⟨S1x2x4x4096x4096, .f32⟩
  | .hbm, ⟨30, _⟩ => ⟨S1x2x4x4096x4096, .f32⟩
  | .hbm, ⟨31, _⟩ => ⟨S_, .f32⟩
  | .hbm, ⟨32, _⟩ => ⟨S1x2x4x4096, .f32⟩
  | .hbm, ⟨33, _⟩ => ⟨S1x2x4x4096x1, .f32⟩
  | .hbm, ⟨34, _⟩ => ⟨S1x2x4x4096x1, .f32⟩
  | .hbm, ⟨35, _⟩ => ⟨S1x2x4x4096x1, .f32⟩
  | .hbm, ⟨36, _⟩ => ⟨S4096x512, .f32⟩
  | .hbm, ⟨37, _⟩ => ⟨S8x1x4096, .f32⟩
  | _, _ => ⟨S1x4096x8x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_cst : Ref sig .tc := ⟨.hbm, 6, rfl⟩
abbrev main_v3 : Ref sig .tc := ⟨.hbm, 7, rfl⟩
abbrev main_v4 : Ref sig .tc := ⟨.hbm, 8, rfl⟩
abbrev main_cst_0 : Ref sig .tc := ⟨.hbm, 9, rfl⟩
abbrev main_v5 : Ref sig .tc := ⟨.hbm, 10, rfl⟩
abbrev main_cst_1 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_cst_2 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_cst_3 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_cst_4 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩
abbrev main_v27 : Ref sig .tc := ⟨.hbm, 36, rfl⟩
abbrev main_v28 : Ref sig .tc := ⟨.hbm, 37, rfl⟩

abbrev nD : Nat := 1
abbrev τ : Topo := Topo.v7x

variable {F : FTy → Type} [FloatOps F]
-- ==== MergeFwd.lean ====
abbrev S1x4096x1024 : Shape := ⟨3, ![1, 4096, 1024]⟩
abbrev S1x4096x5376 : Shape := ⟨3, ![1, 4096, 5376]⟩
abbrev S1x4096x512 : Shape := ⟨3, ![1, 4096, 512]⟩
abbrev S512x1024 : Shape := ⟨2, ![512, 1024]⟩
abbrev S1024x1024 : Shape := ⟨2, ![1024, 1024]⟩
abbrev S4096x512 : Shape := ⟨2, ![4096, 512]⟩
abbrev S1x4096x4608 : Shape := ⟨3, ![1, 4096, 4608]⟩
abbrev S4096x4608 : Shape := ⟨2, ![4096, 4608]⟩
abbrev S1x4096x256 : Shape := ⟨3, ![1, 4096, 256]⟩
abbrev S4096x256 : Shape := ⟨2, ![4096, 256]⟩
abbrev S4096x5376 : Shape := ⟨2, ![4096, 5376]⟩
abbrev S1024x512 : Shape := ⟨2, ![1024, 512]⟩
abbrev S4096x1024 : Shape := ⟨2, ![4096, 1024]⟩
abbrev S256x1024 : Shape := ⟨2, ![256, 1024]⟩
abbrev S256x512 : Shape := ⟨2, ![256, 512]⟩

abbrev nBuf : Space → Nat
  | .hbm => 25
  | .vmem => 22
  | .smem => 0
  | _ => 0

abbrev bufTy : (tb : Table) → Fin (tcTables nBuf tb) → BufTy
  | .hbm, ⟨0, _⟩ => ⟨S1x4096x1024, .f32⟩
  | .hbm, ⟨1, _⟩ => ⟨S1x4096x5376, .f32⟩
  | .hbm, ⟨2, _⟩ => ⟨S1x4096x512, .f32⟩
  | .hbm, ⟨3, _⟩ => ⟨S1x4096x512, .f32⟩
  | .hbm, ⟨4, _⟩ => ⟨S512x1024, .f32⟩
  | .hbm, ⟨5, _⟩ => ⟨S512x1024, .f32⟩
  | .hbm, ⟨6, _⟩ => ⟨S1024x1024, .f32⟩
  | .hbm, ⟨7, _⟩ => ⟨S1x4096x512, .f32⟩
  | .hbm, ⟨8, _⟩ => ⟨S4096x512, .f32⟩
  | .hbm, ⟨9, _⟩ => ⟨S1x4096x4608, .f32⟩
  | .hbm, ⟨10, _⟩ => ⟨S4096x4608, .f32⟩
  | .hbm, ⟨11, _⟩ => ⟨S1x4096x256, .f32⟩
  | .hbm, ⟨12, _⟩ => ⟨S4096x256, .f32⟩
  | .hbm, ⟨13, _⟩ => ⟨S4096x5376, .f32⟩
  | .hbm, ⟨14, _⟩ => ⟨S1024x512, .f32⟩
  | .hbm, ⟨15, _⟩ => ⟨S1024x512, .f32⟩
  | .hbm, ⟨16, _⟩ => ⟨S1024x1024, .f32⟩
  | .hbm, ⟨17, _⟩ => ⟨S1024x1024, .bf16⟩
  | .hbm, ⟨18, _⟩ => ⟨S4096x1024, .f32⟩
  | .hbm, ⟨19, _⟩ => ⟨S4096x512, .f32⟩
  | .hbm, ⟨20, _⟩ => ⟨S4096x512, .f32⟩
  | .hbm, ⟨21, _⟩ => ⟨S1024x1024, .bf16⟩
  | .hbm, ⟨22, _⟩ => ⟨S4096x1024, .f32⟩
  | .hbm, ⟨23, _⟩ => ⟨S4096x1024, .bf16⟩
  | .hbm, ⟨24, _⟩ => ⟨S4096x1024, .bf16⟩
  | .local _ .vmem, ⟨0, _⟩ => ⟨S256x1024, .f32⟩
  | .local _ .vmem, ⟨1, _⟩ => ⟨S256x1024, .f32⟩
  | .local _ .vmem, ⟨2, _⟩ => ⟨S256x512, .f32⟩
  | .local _ .vmem, ⟨3, _⟩ => ⟨S256x512, .f32⟩
  | .local _ .vmem, ⟨4, _⟩ => ⟨S256x512, .f32⟩
  | .local _ .vmem, ⟨5, _⟩ => ⟨S256x512, .f32⟩
  | .local _ .vmem, ⟨6, _⟩ => ⟨S256x1024, .f32⟩
  | .local _ .vmem, ⟨7, _⟩ => ⟨S256x1024, .f32⟩
  | .local _ .vmem, ⟨8, _⟩ => ⟨S256x1024, .f32⟩
  | .local _ .vmem, ⟨9, _⟩ => ⟨S256x1024, .f32⟩
  | .local _ .vmem, ⟨10, _⟩ => ⟨S256x512, .f32⟩
  | .local _ .vmem, ⟨11, _⟩ => ⟨S256x512, .f32⟩
  | .local _ .vmem, ⟨12, _⟩ => ⟨S256x512, .f32⟩
  | .local _ .vmem, ⟨13, _⟩ => ⟨S256x512, .f32⟩
  | .local _ .vmem, ⟨14, _⟩ => ⟨S1024x1024, .bf16⟩
  | .local _ .vmem, ⟨15, _⟩ => ⟨S1024x1024, .bf16⟩
  | .local _ .vmem, ⟨16, _⟩ => ⟨S256x1024, .f32⟩
  | .local _ .vmem, ⟨17, _⟩ => ⟨S256x1024, .f32⟩
  | .local _ .vmem, ⟨18, _⟩ => ⟨S256x1024, .bf16⟩
  | .local _ .vmem, ⟨19, _⟩ => ⟨S256x1024, .bf16⟩
  | .local _ .vmem, ⟨20, _⟩ => ⟨S256x1024, .bf16⟩
  | .local _ .vmem, ⟨21, _⟩ => ⟨S256x1024, .bf16⟩
  | _, _ => ⟨S1x4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | _, _ => false

abbrev semScoped : Fin 0 → Bool
  | ⟨_, h⟩ => absurd h (Nat.not_lt_zero _)

abbrev dmaSemScoped : Fin 22 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | _ => false

abbrev sig : RefSig :=
  ofTc nBuf bufTy 0 22 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15_0 : Ref sig .tc := ⟨.hbm, 22, rfl⟩
abbrev main_v15_1 : Ref sig .tc := ⟨.hbm, 23, rfl⟩
abbrev main_v15_2 : Ref sig .tc := ⟨.hbm, 24, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg8_0 : Ref sig .tc := ⟨.vmem, 15, rfl⟩
abbrev cc0_stg9_0 : Ref sig .tc := ⟨.vmem, 16, rfl⟩
abbrev cc0_stg9_1 : Ref sig .tc := ⟨.vmem, 17, rfl⟩
abbrev cc0_stg10_0 : Ref sig .tc := ⟨.vmem, 18, rfl⟩
abbrev cc0_stg10_1 : Ref sig .tc := ⟨.vmem, 19, rfl⟩
abbrev cc0_stg11_0 : Ref sig .tc := ⟨.vmem, 20, rfl⟩
abbrev cc0_stg11_1 : Ref sig .tc := ⟨.vmem, 21, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem8_0 : DmaSem sig := 15
abbrev cc0_sem9_0 : DmaSem sig := 16
abbrev cc0_sem9_1 : DmaSem sig := 17
abbrev cc0_sem10_0 : DmaSem sig := 18
abbrev cc0_sem10_1 : DmaSem sig := 19
abbrev cc0_sem11_0 : DmaSem sig := 20
abbrev cc0_sem11_1 : DmaSem sig := 21

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c1_i32 : BitVec 32 := 1#32
  let c0_i32 : BitVec 32 := 0#32
  ![arg0.toNat, c1_i32.toNat]

def cc0_transform_2 (i : grid0.Coords) : Fin 2 → Nat :=
  let arg0 : BitVec 32 := BitVec.ofNat 32 (i 0).val
  let c5_i32 : BitVec 32 := 5#32
  let c0_i32 : BitVec 32 := 0#32
  ![arg0.toNat, c5_i32.toNat]

def cc0_transform_3 (i : grid0.Coords) : Fin 2 → Nat :=
  let arg0 : BitVec 32 := BitVec.ofNat 32 (i 0).val
  let c3_i32 : BitVec 32 := 3#32
  let c0_i32 : BitVec 32 := 0#32
  ![arg0.toNat, c3_i32.toNat]

def cc0_transform_4 (i : grid0.Coords) : Fin 2 → Nat :=
  let arg0 : BitVec 32 := BitVec.ofNat 32 (i 0).val
  let c4_i32 : BitVec 32 := 4#32
  let c0_i32 : BitVec 32 := 0#32
  ![arg0.toNat, c4_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x512 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x512 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 1 → Memref sig .tc .vmem S1024x1024 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1024x1024 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 2 → Memref sig .tc .vmem S256x1024 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S256x1024 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S256x1024 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]
-- ==== MergeFwdRefIdeal.lean ====
abbrev S1x4096x1024 : Shape := ⟨3, ![1, 4096, 1024]⟩
abbrev S1x4096x5376 : Shape := ⟨3, ![1, 4096, 5376]⟩
abbrev S1x4096x512 : Shape := ⟨3, ![1, 4096, 512]⟩
abbrev S512x1024 : Shape := ⟨2, ![512, 1024]⟩
abbrev S1024x1024 : Shape := ⟨2, ![1024, 1024]⟩
abbrev S1x4096x128 : Shape := ⟨3, ![1, 4096, 128]⟩
abbrev S1x4096x2048 : Shape := ⟨3, ![1, 4096, 2048]⟩
abbrev S_ : Shape := ⟨0, ![]⟩
abbrev S1x4096x2x1024 : Shape := ⟨4, ![1, 4096, 2, 1024]⟩
abbrev S1x4096x1x1024 : Shape := ⟨4, ![1, 4096, 1, 1024]⟩
abbrev S4096x1024 : Shape := ⟨2, ![4096, 1024]⟩

abbrev nBuf : Space → Nat
  | .hbm => 61
  | .vmem => 0
  | .smem => 0
  | _ => 0

abbrev bufTy : (tb : Table) → Fin (tcTables nBuf tb) → BufTy
  | .hbm, ⟨0, _⟩ => ⟨S1x4096x1024, .f32⟩
  | .hbm, ⟨1, _⟩ => ⟨S1x4096x5376, .f32⟩
  | .hbm, ⟨2, _⟩ => ⟨S1x4096x512, .f32⟩
  | .hbm, ⟨3, _⟩ => ⟨S1x4096x512, .f32⟩
  | .hbm, ⟨4, _⟩ => ⟨S512x1024, .f32⟩
  | .hbm, ⟨5, _⟩ => ⟨S512x1024, .f32⟩
  | .hbm, ⟨6, _⟩ => ⟨S1024x1024, .f32⟩
  | .hbm, ⟨7, _⟩ => ⟨S1x4096x512, .f32⟩
  | .hbm, ⟨8, _⟩ => ⟨S1x4096x128, .f32⟩
  | .hbm, ⟨9, _⟩ => ⟨S1x4096x128, .f32⟩
  | .hbm, ⟨10, _⟩ => ⟨S1x4096x512, .f32⟩
  | .hbm, ⟨11, _⟩ => ⟨S1x4096x512, .f32⟩
  | .hbm, ⟨12, _⟩ => ⟨S1x4096x512, .f32⟩
  | .hbm, ⟨13, _⟩ => ⟨S1x4096x512, .f32⟩
  | .hbm, ⟨14, _⟩ => ⟨S1x4096x512, .f32⟩
  | .hbm, ⟨15, _⟩ => ⟨S1x4096x2048, .f32⟩
  | .hbm, ⟨16, _⟩ => ⟨S1x4096x512, .f32⟩
  | .hbm, ⟨17, _⟩ => ⟨S1x4096x512, .f32⟩
  | .hbm, ⟨18, _⟩ => ⟨S_, .f32⟩
  | .hbm, ⟨19, _⟩ => ⟨S1x4096x512, .f32⟩
  | .hbm, ⟨20, _⟩ => ⟨S1x4096x512, .f32⟩
  | .hbm, ⟨21, _⟩ => ⟨S_, .f32⟩
  | .hbm, ⟨22, _⟩ => ⟨S1x4096x512, .f32⟩
  | .hbm, ⟨23, _⟩ => ⟨S1x4096x512, .f32⟩
  | .hbm, ⟨24, _⟩ => ⟨S1x4096x512, .f32⟩
  | .hbm, ⟨25, _⟩ => ⟨S1x4096x512, .f32⟩
  | .hbm, ⟨26, _⟩ => ⟨S1x4096x1024, .f32⟩
  | .hbm, ⟨27, _⟩ => ⟨S1x4096x512, .f32⟩
  | .hbm, ⟨28, _⟩ => ⟨S1x4096x512, .f32⟩
  | .hbm, ⟨29, _⟩ => ⟨S_, .f32⟩
  | .hbm, ⟨30, _⟩ => ⟨S1x4096x512, .f32⟩
  | .hbm, ⟨31, _⟩ => ⟨S1x4096x512, .f32⟩
  | .hbm, ⟨32, _⟩ => ⟨S_, .f32⟩
  | .hbm, ⟨33, _⟩ => ⟨S1x4096x512, .f32⟩
  | .hbm, ⟨34, _⟩ => ⟨S1x4096x512, .f32⟩
  | .hbm, ⟨35, _⟩ => ⟨S1x4096x512, .f32⟩
  | .hbm, ⟨36, _⟩ => ⟨S1x4096x512, .f32⟩
  | .hbm, ⟨37, _⟩ => ⟨S1x4096x1024, .f32⟩
  | .hbm, ⟨38, _⟩ => ⟨S1x4096x2048, .f32⟩
  | .hbm, ⟨39, _⟩ => ⟨S1x4096x2048, .f32⟩
  | .hbm, ⟨40, _⟩ => ⟨S_, .f32⟩
  | .hbm, ⟨41, _⟩ => ⟨S1x4096x2048, .f32⟩
  | .hbm, ⟨42, _⟩ => ⟨S1x4096x2048, .f32⟩
  | .hbm, ⟨43, _⟩ => ⟨S_, .f32⟩
  | .hbm, ⟨44, _⟩ => ⟨S1x4096x2048, .f32⟩
  | .hbm, ⟨45, _⟩ => ⟨S1x4096x2048, .f32⟩
  | .hbm, ⟨46, _⟩ => ⟨S1x4096x2x1024, .f32⟩
  | .hbm, ⟨47, _⟩ => ⟨S1x4096x1x1024, .f32⟩
  | .hbm, ⟨48, _⟩ => ⟨S1x4096x1024, .f32⟩
  | .hbm, ⟨49, _⟩ => ⟨S1x4096x1024, .f32⟩
  | .hbm, ⟨50, _⟩ => ⟨S1x4096x1x1024, .f32⟩
  | .hbm, ⟨51, _⟩ => ⟨S1x4096x1024, .f32⟩
  | .hbm, ⟨52, _⟩ => ⟨S1x4096x1024, .f32⟩
  | .hbm, ⟨53, _⟩ => ⟨S1x4096x1024, .f32⟩
  | .hbm, ⟨54, _⟩ => ⟨S1x4096x1024, .f32⟩
  | .hbm, ⟨55, _⟩ => ⟨S1x4096x1024, .f32⟩
  | .hbm, ⟨56, _⟩ => ⟨S4096x1024, .f32⟩
  | .hbm, ⟨57, _⟩ => ⟨S4096x1024, .f32⟩
  | .hbm, ⟨58, _⟩ => ⟨S4096x1024, .bf16⟩
  | .hbm, ⟨59, _⟩ => ⟨S4096x1024, .f32⟩
  | .hbm, ⟨60, _⟩ => ⟨S4096x1024, .bf16⟩
  | _, _ => ⟨S1x4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_call0_v0 : Ref sig .tc := ⟨.hbm, 16, rfl⟩
abbrev main_call0_v1 : Ref sig .tc := ⟨.hbm, 17, rfl⟩
abbrev main_call0_cst : Ref sig .tc := ⟨.hbm, 18, rfl⟩
abbrev main_call0_v2 : Ref sig .tc := ⟨.hbm, 19, rfl⟩
abbrev main_call0_v3 : Ref sig .tc := ⟨.hbm, 20, rfl⟩
abbrev main_call0_cst_0 : Ref sig .tc := ⟨.hbm, 21, rfl⟩
abbrev main_call0_v4 : Ref sig .tc := ⟨.hbm, 22, rfl⟩
abbrev main_call0_v5 : Ref sig .tc := ⟨.hbm, 23, rfl⟩
abbrev main_v9 : Ref sig .tc := ⟨.hbm, 24, rfl⟩
abbrev main_v10 : Ref sig .tc := ⟨.hbm, 25, rfl⟩
abbrev main_v11 : Ref sig .tc := ⟨.hbm, 26, rfl⟩
abbrev main_call1_v0 : Ref sig .tc := ⟨.hbm, 27, rfl⟩
abbrev main_call1_v1 : Ref sig .tc := ⟨.hbm, 28, rfl⟩
abbrev main_call1_cst : Ref sig .tc := ⟨.hbm, 29, rfl⟩
abbrev main_call1_v2 : Ref sig .tc := ⟨.hbm, 30, rfl⟩
abbrev main_call1_v3 : Ref sig .tc := ⟨.hbm, 31, rfl⟩
abbrev main_call1_cst_0 : Ref sig .tc := ⟨.hbm, 32, rfl⟩
abbrev main_call1_v4 : Ref sig .tc := ⟨.hbm, 33, rfl⟩
abbrev main_call1_v5 : Ref sig .tc := ⟨.hbm, 34, rfl⟩
abbrev main_v12 : Ref sig .tc := ⟨.hbm, 35, rfl⟩
abbrev main_v13 : Ref sig .tc := ⟨.hbm, 36, rfl⟩
abbrev main_v14 : Ref sig .tc := ⟨.hbm, 37, rfl⟩
abbrev main_v15 : Ref sig .tc := ⟨.hbm, 38, rfl⟩
abbrev main_v16 : Ref sig .tc := ⟨.hbm, 39, rfl⟩
abbrev main_cst : Ref sig .tc := ⟨.hbm, 40, rfl⟩
abbrev main_v17 : Ref sig .tc := ⟨.hbm, 41, rfl⟩
abbrev main_v18 : Ref sig .tc := ⟨.hbm, 42, rfl⟩
abbrev main_cst_0 : Ref sig .tc := ⟨.hbm, 43, rfl⟩
abbrev main_v19 : Ref sig .tc := ⟨.hbm, 44, rfl⟩
abbrev main_v20 : Ref sig .tc := ⟨.hbm, 45, rfl⟩
abbrev main_v21 : Ref sig .tc := ⟨.hbm, 46, rfl⟩
abbrev main_v22 : Ref sig .tc := ⟨.hbm, 47, rfl⟩
abbrev main_v23 : Ref sig .tc := ⟨.hbm, 48, rfl⟩
abbrev main_v24 : Ref sig .tc := ⟨.hbm, 49, rfl⟩
abbrev main_v25 : Ref sig .tc := ⟨.hbm, 50, rfl⟩
abbrev main_v26 : Ref sig .tc := ⟨.hbm, 51, rfl⟩
abbrev main_v27 : Ref sig .tc := ⟨.hbm, 52, rfl⟩
abbrev main_v28 : Ref sig .tc := ⟨.hbm, 53, rfl⟩
abbrev main_v29 : Ref sig .tc := ⟨.hbm, 54, rfl⟩
abbrev main_v30 : Ref sig .tc := ⟨.hbm, 55, rfl⟩
abbrev main_v31 : Ref sig .tc := ⟨.hbm, 56, rfl⟩
abbrev main_v32 : Ref sig .tc := ⟨.hbm, 57, rfl⟩
abbrev main_v33 : Ref sig .tc := ⟨.hbm, 58, rfl⟩
abbrev main_v34 : Ref sig .tc := ⟨.hbm, 59, rfl⟩
abbrev main_v35 : Ref sig .tc := ⟨.hbm, 60, rfl⟩

abbrev nD : Nat := 1
abbrev τ : Topo := Topo.v7x

variable {F : FTy → Type} [FloatOps F]
-- ==== Proof.Common.lean ====
/- Facts about extended reals that are real numbers, shared by the value proofs: sums, quotients and
   roots of reals, the float constants of the programs, and what a finite precondition says. -/
module

public import Idealize.ShloMosaic.PureOps.Ideal.Laws
public import Idealize.ShloMosaic.Lib.ReduceAll
public import Idealize.ShloMosaic.Lib.Affine
public import Mathlib.Tactic.FieldSimp
public import Mathlib.Tactic.Ring
public import Mathlib.Tactic.Linarith
public import Mathlib.Tactic.NormNum
public import Mathlib.Tactic.Positivity

@[expose] public section

noncomputable section

namespace Cert.Common

open Idealize.ShloMosaic

/-- A finite sum of reals, read in the extended reals, is the real sum. -/
theorem coe_sum {ι : Type} (s : Finset ι) (f : ι → ℝ) : ∑ i ∈ s, (f i : EReal) = ((∑ i ∈ s, f i : ℝ) : EReal) := by
  classical
  induction s using Finset.induction_on with
  | empty => simp
  | insert a s ha ih => rw [Finset.sum_insert ha, Finset.sum_insert ha, ih, EReal.coe_add]

/-- A quotient of reals by a divisor that is not zero. -/
theorem div_real (x : ℝ) {y : ℝ} (h : y ≠ 0) : Ideal.div (x : EReal) (y : EReal) = ((x / y : ℝ) : EReal) := by
  rw [Ideal.div_coe h, ← EReal.coe_mul, mul_one_div]

/-- The reciprocal root of a positive real. -/
theorem rsqrt_real {x : ℝ} (h : 0 < x) : Ideal.rsqrt (x : EReal) = (((√x)⁻¹ : ℝ) : EReal) := by
  rw [Ideal.rsqrt_coe, if_neg h.le.not_gt, if_neg h.ne']

/-- The real number the constant added to a mean square denotes. -/
def eps : ℝ := 8796093 * (2 : ℝ) ^ (-43 : ℤ)

theorem eps_pos : 0 < eps := by unfold eps; positivity

theorem of_eps : Ideal.ofBits .f32 0x358637BD#32 = (eps : EReal) := by
  simp [Ideal.ofBits, Ideal.ieee, eps, -EReal.coe_mul]

theorem of_1024 : Ideal.ofBits .f32 0x44800000#32 = ((1024 : ℝ) : EReal) := by
  simp [Ideal.ofBits, Ideal.ieee, -EReal.coe_mul]; norm_num

theorem of_neg_half : Ideal.ofBits .f32 0xBF000000#32 = ((-(1 / 2) : ℝ) : EReal) := by
  simp [Ideal.ofBits, Ideal.ieee, -EReal.coe_mul]; norm_num

theorem of_two : Ideal.ofBits .f32 0x40000000#32 = ((2 : ℝ) : EReal) := by
  simp [Ideal.ofBits, Ideal.ieee, -EReal.coe_mul]; norm_num

theorem of_one : Ideal.ofBits .f32 0x3F800000#32 = ((1 : ℝ) : EReal) := by
  simp [Ideal.ofBits, Ideal.ieee, -EReal.coe_mul]
  norm_num

theorem of_zero : Ideal.ofBits .f32 0x00000000#32 = ((0 : ℝ) : EReal) := by
  simp [Ideal.ofBits, Ideal.ieee]

theorem of_inf : Ideal.ofBits .f32 0x7F800000#32 = (⊤ : EReal) := by
  simp [Ideal.ofBits, Ideal.ieee]

theorem of_eighth : Ideal.ofBits .f32 0x3E000000#32 = ((1 / 8 : ℝ) : EReal) := by
  simp [Ideal.ofBits, Ideal.ieee, -EReal.coe_mul]; norm_num

theorem of_neg_inf : Ideal.ofBits .f32 0xFF800000#32 = (⊥ : EReal) := by
  simp [Ideal.ofBits, Ideal.ieee]

/-- The largest of finitely many reals, from minus infinity. -/
def maxR {n : ℕ} (f : Fin n → ℝ) : ℝ := (Finset.univ.fold max (⊥ : EReal) (fun i => (f i : EReal))).toReal

theorem fold_max_real {n : ℕ} (hn : 0 < n) (f : Fin n → ℝ) : Finset.univ.fold max (⊥ : EReal) (fun i => (f i : EReal)) = (maxR f : EReal) := by
  unfold maxR
  refine (EReal.coe_toReal ?_ ?_).symm
  · refine ne_of_lt (Finset.fold_max_lt ⊤ |>.2 ⟨bot_lt_top, fun i _ => EReal.coe_lt_top _⟩)
  · exact ne_of_gt (Finset.lt_fold_max ⊥ |>.2 (Or.inr ⟨⟨0, hn⟩, Finset.mem_univ _, EReal.bot_lt_coe _⟩))

/-- An extended real of finite magnitude is a real. -/
theorem real_of_abs_lt {a : EReal} (h : max a (-a) < ⊤) : ∃ r : ℝ, a = r := by
  refine ⟨a.toReal, (EReal.coe_toReal ?_ ?_).symm⟩
  · rintro rfl; simp at h
  · rintro rfl; simp at h

/-- An `and` of two bits is one only where both are. -/
theorem andi_split {s : Shape} {x y : IVec s 1} {i : s.Idx} (h : andi x y i = 1#1) : x i = 1#1 ∧ y i = 1#1 :=
  IntOp.andi_eq_one.1 h

/-- Where "every element is smaller in magnitude than infinity" came out one, every element is a real. -/
theorem real_of_all {s t : Shape} [Subsingleton t.Idx] {axes : List (Fin s.rank)} {d : Fin t.rank → Fin s.rank} (x : FVec Ideal s .f32) (b : t.BroadcastsInDim s d)
    (hr : s.ReducesTo axes t) (hu : 0 < t.numel) (j : t.Idx)
    (h : Host.reduce IntOp.andi (cmpf .olt (Host.absf x) (broadcastInDim s d b (constant t .f32 0x7F800000#32)))
      (constantI t 1 1#1) hr hu j = 1#1) (i : s.Idx) : ∃ r : ℝ, x i = r := by
  have e := Host.reduce_andi_all _ _ hr hu j h i
  refine real_of_abs_lt ?_
  by_contra hlt
  have e' : BitVec.ofBool (decide (max (x i) (-x i) < Ideal.ofBits .f32 0x7F800000#32)) = 1#1 := e
  rw [of_inf, decide_eq_false hlt] at e'
  exact absurd e' (by decide)

/-- A sum over `a + b` places is the sum over the first `a` and the sum over the last `b`. -/
theorem sum_split {M : Type} [AddCommMonoid M] {n : ℕ} (a b : ℕ) (h : n = a + b) (f : Fin n → M) :
    ∑ i, f i = ∑ i : Fin a, f ⟨i.val, by omega⟩ + ∑ i : Fin b, f ⟨a + i.val, by omega⟩ := by
  subst h
  exact Fin.sum_univ_add f

/-- A sum over `a * b` places, tile by tile of `b`. -/
theorem sum_tile {M : Type} [AddCommMonoid M] {n : ℕ} (a b : ℕ) (h : n = a * b) (f : Fin n → M) :
    ∑ i, f i = ∑ t : Fin a, ∑ r : Fin b, f ⟨b * t.val + r.val, by
      have := r.isLt; have := Nat.mul_le_mul_left b (Nat.succ_le_of_lt t.isLt); rw [h, Nat.mul_comm a b]; rw [Nat.mul_succ] at this; omega⟩ := by
  subst h
  rw [← Fintype.sum_prod_type', ← Equiv.sum_comp finProdFinEquiv]
  refine Finset.sum_congr rfl fun x _ => congrArg f (Fin.ext ?_)
  simp [finProdFinEquiv, Nat.add_comm]

/-- A host sum where one place alone drops to an index: the initial value plus that place's element. -/
theorem hostReduceAdd_one {s t : Shape} {axes : List (Fin s.rank)} (h : s.ReducesTo axes t) (x : s.Idx → EReal) (init : EReal) (j : t.Idx) (i0 : s.Idx)
    (hu : ∀ i, h.drop i = j ↔ i = i0) : Ideal.hostReduceAdd h x init j = init + x i0 := by
  unfold Ideal.hostReduceAdd
  simp only [hu, Finset.filter_eq', Finset.mem_univ, if_true, Finset.sum_singleton]

end Cert.Common

end
-- ==== Proof.InBwdPay.lean ====
/- The values one tile of the input norm's gradient stores, over real operands: the cotangent of the
   normalised rows from five bands of the projection's gradient, the row gradient, the gain's partial sums. -/
module

public import proofs.«01_k».proof.Proof.Gen.InBwdIdeal.Value
public import proofs.«01_k».proof.Proof.Common
public import Idealize.ShloMosaic.Lib.Pointwise
public import Idealize.ShloMosaic.Lib.Pipeline.ValueKit
public import Idealize.ShloMosaic.Lib.StableHlo.ReadAt

@[expose] public section

set_option maxRecDepth 16384

noncomputable section

namespace Cert.InBwdIdeal.Pay

open Cert.InBwdIdeal Cert.InBwdIdeal.Gen Cert.InBwdIdeal.Value Cert.Common Idealize.ShloMosaic Idealize.ShloMosaic.TcCoe Idealize.SL.Sem Idealize.ShloMosaic.Tactic

/-- The tile's cotangent of the normalised rows: the bands of the projection's gradient against the rows of the weight. -/
def dhT (w : Vec Ideal S5376x1024 .bf16) (a : Vec Ideal S256x768 .bf16) (g : Vec Ideal S256x3072 .bf16) (q k v : Vec Ideal S256x512 .bf16) :
    FVec Ideal S256x1024 .f32 :=
  k0_pay6 (k0_pay4 a (View.ld w (Rect.unit ![0, 0] ![768, 1024] inb_S5376x1024_S768x1024_0_0))
     (View.ld g (Rect.unit ![0, 0] ![256, 512] inb_S256x3072_S256x512_0_0)) (View.ld w (Rect.unit ![768, 0] ![512, 1024] inb_S5376x1024_S512x1024_768_0)) q
     (View.ld w (Rect.unit ![1280, 0] ![512, 1024] inb_S5376x1024_S512x1024_1280_0)) k (View.ld w (Rect.unit ![1792, 0] ![512, 1024] inb_S5376x1024_S512x1024_1792_0)))
   (k0_pay5 v) (View.ld w (Rect.unit ![2304, 0] ![512, 1024] inb_S5376x1024_S512x1024_2304_0)) (View.ld g (Rect.unit ![0, 512] ![256, 2560] inb_S256x3072_S256x2560_0_512))
   (View.ld w (Rect.unit ![2816, 0] ![2560, 1024] inb_S5376x1024_S2560x1024_2816_0))

theorem dhT_apply (w : Vec Ideal S5376x1024 .bf16) (a : Vec Ideal S256x768 .bf16) (g : Vec Ideal S256x3072 .bf16) (q k v : Vec Ideal S256x512 .bf16)
    (W : Fin 1024 → Fin 5376 → ℝ) (D : Fin 256 → Fin 5376 → ℝ)
    (hw : ∀ j l, w (ix2 j l) = (W l j : EReal))
    (ha : ∀ r (j : Fin 768), a (ix2 r j) = (D r ⟨j.val, by omega⟩ : EReal))
    (hg0 : ∀ r (j : Fin 512), g (ix2 r ⟨j.val, by omega⟩) = (D r ⟨768 + j.val, by omega⟩ : EReal))
    (hq : ∀ r (j : Fin 512), q (ix2 r j) = (D r ⟨1280 + j.val, by omega⟩ : EReal))
    (hk : ∀ r (j : Fin 512), k (ix2 r j) = (D r ⟨1792 + j.val, by omega⟩ : EReal))
    (hv : ∀ r (j : Fin 512), v (ix2 r j) = (D r ⟨2304 + j.val, by omega⟩ : EReal))
    (hg1 : ∀ r (j : Fin 2560), g (ix2 r ⟨512 + j.val, by omega⟩) = (D r ⟨2816 + j.val, by omega⟩ : EReal))
    (r : Fin 256) (l : Fin 1024) :
    dhT w a g q k v (ix2 r l) = ((∑ j, D r j * W l j : ℝ) : EReal) := by
  unfold dhT
  pointwise [k0_pay6, k0_pay4, k0_pay5]
  simp only [hw, ha, hg0, hq, hk, hv, hg1, of_zero, ← EReal.coe_mul, coe_sum, ← EReal.coe_add]
  rw [sum_split 2816 2560 rfl (fun j => D r j * W l j), sum_split 2304 512 rfl, sum_split 1792 512 rfl, sum_split 1280 512 rfl, sum_split 768 512 rfl]

/-- The reciprocal root of a row's mean square. -/
def rms (x : Fin 1024 → ℝ) : ℝ := (√((∑ k, x k * x k) / 1024 + eps))⁻¹

theorem rms_arg_pos (x : Fin 1024 → ℝ) : 0 < (∑ k, x k * x k) / 1024 + eps :=
  add_pos_of_nonneg_of_pos (div_nonneg (Finset.sum_nonneg fun k _ => mul_self_nonneg (x k)) (by norm_num)) eps_pos

/-- The gradient of a row through the norm, and the residual's. -/
def dxRow (x g dh dxo : Fin 1024 → ℝ) (l : Fin 1024) : ℝ :=
  dxo l + rms x * (dh l * g l - x l * rms x * ((∑ k, dh k * g k * (x k * rms x)) / 1024))

theorem xh_apply (x : Vec Ideal S256x1024 .f32) (X : Fin 256 → Fin 1024 → ℝ) (hx : ∀ r l, x (ix2 r l) = (X r l : EReal)) (r : Fin 256) (l : Fin 1024) :
    k0_pay9 x (ix2 r l) = ((X r l * rms (X r) : ℝ) : EReal) := by
  pointwise [k0_pay9, k0_pay8, k0_pay7]
  simp only [hx, of_zero, of_1024, of_eps, ← EReal.coe_mul, coe_sum, ← EReal.coe_add, div_real _ (show (1024 : ℝ) ≠ 0 by norm_num), zero_add,
    rsqrt_real (rms_arg_pos (X r))]
  rfl

theorem dx_apply (v27 : FVec Ideal S256x1024 .f32) (v29 : FVec Ideal S256x512 .bf16) (v30 : Vec Ideal S512x1024 .bf16) (v34 : Vec Ideal S256x2560 .bf16)
    (v36 : Vec Ideal S2560x1024 .bf16) (x : Vec Ideal S256x1024 .f32) (g : Vec Ideal S1x1024 .f32) (dxo : Vec Ideal S256x1024 .f32)
    (X DH DXO : Fin 256 → Fin 1024 → ℝ) (G : Fin 1024 → ℝ)
    (hx : ∀ r l, x (ix2 r l) = (X r l : EReal)) (hg : ∀ l, g (ix2 0 l) = (G l : EReal)) (hd : ∀ r l, dxo (ix2 r l) = (DXO r l : EReal))
    (hh : ∀ r l, k0_pay6 v27 v29 v30 v34 v36 (ix2 r l) = (DH r l : EReal)) (r : Fin 256) (l : Fin 1024) :
    k0_pay10 v27 v29 v30 v34 v36 x g dxo (ix2 r l) = (dxRow (X r) G (DH r) (DXO r) l : EReal) := by
  have hx' := xh_apply x X hx
  unfold k0_pay10
  generalize k0_pay9 x = xh at *
  generalize k0_pay6 v27 v29 v30 v34 v36 = dh at *
  pointwise [k0_pay8, k0_pay7]
  simp only [hx, hx', hh, hg, hd, of_zero, of_1024, of_eps, ← EReal.coe_mul, coe_sum, ← EReal.coe_add, ← EReal.coe_sub, div_real _ (show (1024 : ℝ) ≠ 0 by norm_num),
    zero_add, rsqrt_real (rms_arg_pos (X r))]
  rfl

theorem acc_apply (dh xh : FVec Ideal S256x1024 .f32) (acc : Vec Ideal S8x1024 .f32) (E : Fin 256 → Fin 1024 → ℝ) (A : Fin 8 → Fin 1024 → ℝ)
    (he : ∀ r l, dh (ix2 r l) * xh (ix2 r l) = (E r l : EReal)) (ha : ∀ s l, acc (ix2 s l) = (A s l : EReal)) (s : Fin 8) (l : Fin 1024) :
    k0_pay1 dh xh acc (ix2 s l) = ((A s l + ∑ i : Fin 32, E ⟨i.val * 8 + s.val, by omega⟩ l : ℝ) : EReal) := by
  pointwise [k0_pay1]
  simp only [he, ha, of_zero, coe_sum, ← EReal.coe_add, zero_add]

theorem dg_apply (acc : Vec Ideal S8x1024 .f32) (A : Fin 8 → Fin 1024 → ℝ)
    (ha : ∀ s l, acc (ix2 s l) = (A s l : EReal)) (l : Fin 1024) :
    k0_pay2 acc (ix2 0 l) = ((∑ s : Fin 8, A s l : ℝ) : EReal) := by
  pointwise [k0_pay2]
  simp only [ha, of_zero, coe_sum, ← EReal.coe_add, zero_add]

end Cert.InBwdIdeal.Pay

end
-- ==== Proof.MergeBwdState.lean ====
/- What each grid point of the merge's gradient leaves: its rows' gradients, and the running weight gradients. -/
module

public import proofs.«01_k».proof.Proof.Gen.MergeBwdIdeal.Value
public import proofs.«01_k».proof.Proof.Common
public import Idealize.ShloMosaic.Lib.Pointwise
public import Idealize.ShloMosaic.Lib.Pipeline.ValueKit
public import Idealize.ShloMosaic.Lib.Pipeline.ReadBack
public import Idealize.ShloMosaic.Lib.StableHlo.ReadAt

@[expose] public section

set_option maxRecDepth 16384

noncomputable section

namespace Cert.MergeBwdIdeal.Pay

open Cert.MergeBwdIdeal Cert.MergeBwdIdeal.Gen Cert.MergeBwdIdeal.Value Cert.Common Idealize.ShloMosaic Idealize.ShloMosaic.TcCoe Idealize.SL.Sem Idealize.ShloMosaic.Tactic

variable (m : (ℓ : Loc nD τ sig) → Buf (Elt Ideal) ℓ) (c : Dev nD)

/-- The blocks one point reads. -/
structure Blk where
  dx : Vec Ideal S256x1024 .f32
  ga : Vec Ideal S256x512 .f32
  gr : Vec Ideal S256x512 .f32
  m0 : Vec Ideal S256x1024 .f32
  m1 : Vec Ideal S256x1024 .f32
  oa : Vec Ideal S256x512 .f32
  on : Vec Ideal S256x512 .f32
  ya : Vec Ideal S256x1024 .bf16
  yb : Vec Ideal S256x1024 .bf16
  wb : Vec Ideal S1024x1024 .bf16
  wo : Vec Ideal S1024x1024 .bf16

namespace Blk
variable (b : Blk)
/-- The cotangent of the merged rows, and the two gates. -/
def dm : FVec Ideal S256x1024 .f32 := k0_pay14 b.dx b.wo
def g0 : FVec Ideal S256x1024 .f32 := k0_pay11 b.m0
def g1 : FVec Ideal S256x1024 .f32 := k0_pay12 b.m1
/-- The two branches' halves of the weight. -/
def wa : Vec Ideal S1024x512 .bf16 := View.ld b.wb (Rect.unit ![0, 0] ![1024, 512] inb_S1024x1024_S1024x512_0_0)
def wr : Vec Ideal S1024x512 .bf16 := View.ld b.wb (Rect.unit ![0, 512] ![1024, 512] inb_S1024x1024_S1024x512_0_512)
/-- What a point stores of its rows. -/
def doa : FVec Ideal S256x512 .f32 := k0_pay24 b.g0 b.dm b.wa b.ga
def don : FVec Ideal S256x512 .f32 := k0_pay34 (k0_pay16 b.g1 b.dm) b.wr b.gr
def dza : FVec Ideal S256x512 .bf16 := k0_pay27 (k0_pay19 b.ga) (k0_pay21 b.ga) (k0_pay25 b.g0 b.dm b.wa b.oa) (k0_pay26 b.ga)
def dzr : FVec Ideal S256x512 .bf16 := k0_pay1 (k0_pay31 b.gr) (k0_pay35 (k0_pay16 b.g1 b.dm) b.wr b.on) (k0_pay36 b.gr)
def dz0 : FVec Ideal S256x1024 .bf16 := k0_pay17 (k0_pay9 b.ya) b.g0 b.dm
def dz1 : FVec Ideal S256x1024 .bf16 := k0_pay18 (k0_pay10 b.yb) b.g1 b.dm
/-- The running weight gradients after a point. -/
def accO (s : Vec Ideal S1024x1024 .f32) : FVec Ideal S1024x1024 .f32 := k0_pay3 (k0_pay8 b.dx) (k0_pay13 b.ya b.yb b.m0 b.m1) s
def accA (s : Vec Ideal S1024x1024 .f32) : FVec Ideal S1024x512 .f32 :=
  k0_pay28 (k0_pay15 b.g0 b.dm) (k0_pay20 b.oa) (k0_pay22 b.ga) (View.ld s (Rect.unit ![0, 0] ![1024, 512] inb_S1024x1024_S1024x512_0_0))
def accR (s : Vec Ideal S1024x1024 .f32) : FVec Ideal S1024x512 .f32 :=
  k0_pay2 (k0_pay16 b.g1 b.dm) (k0_pay30 b.on) (k0_pay32 b.gr) (View.ld s (Rect.unit ![0, 512] ![1024, 512] inb_S1024x1024_S1024x512_0_512))
/-- The pieces stored of the gates' gradient, and of the branch weights' running gradient. -/
def dz : Vec Ideal S256x3072 .bf16 :=
  View.canon [⟨Rect.unit (s := S256x3072) ![0, 512] S256x512.size inb_S256x3072_S256x512_0_512, b.dzr⟩, ⟨Rect.unit (s := S256x3072) ![0, 0] S256x512.size inb_S256x3072_S256x512_0_0, b.dza⟩,
    ⟨Rect.unit (s := S256x3072) ![0, 2048] S256x1024.size inb_S256x3072_S256x1024_0_2048, b.dz1⟩, ⟨Rect.unit (s := S256x3072) ![0, 1024] S256x1024.size inb_S256x3072_S256x1024_0_1024, b.dz0⟩]
def accB (s : Vec Ideal S1024x1024 .f32) (L : List (View.Piece (Elt Ideal) S1024x1024 .f32)) : Vec Ideal S1024x1024 .f32 :=
  View.canon (⟨Rect.unit (s := S1024x1024) ![0, 512] S1024x512.size inb_S1024x1024_S1024x512_0_512, b.accR s⟩ ::
    ⟨Rect.unit (s := S1024x1024) ![0, 0] S1024x512.size inb_S1024x1024_S1024x512_0_0, b.accA s⟩ :: L)
end Blk

/-- The blocks of a point. -/
def blkAt (t : Fin cfg0.N) : Blk :=
  ⟨iblk m c 0 t, X0_1 m c t, X0_2 m c t, X0_3 m c t, X0_4 m c t, iblk m c 5 t, iblk m c 6 t, iblk m c 7 t, iblk m c 8 t, iblk m c 9 t, iblk m c 10 t⟩

theorem N16 (t : Fin cfg0.N) : t.val < 16 := lt_of_lt_of_eq t.isLt N_0

/-- The state the point before left. -/
abbrev before (t : Fin cfg0.N) := outsAt0 m c (t.val - 1) (Nat.lt_of_le_of_lt (Nat.sub_le _ _) t.isLt)

/-- The running gradients a point starts from. -/
def carO (t : Fin cfg0.N) : Vec Ideal S1024x1024 .f32 := if t.val % 16 = 0 then k0_pay6 (F := Ideal) else (before m c t).2.2.2.2.2.1
def carB (t : Fin cfg0.N) : Vec Ideal S1024x1024 .f32 := if t.val % 16 = 0 then k0_pay7 (F := Ideal) else (before m c t).2.2.2.2.2.2

set_option maxHeartbeats 8000000 in
theorem doa_at (t : Fin cfg0.N) : (outsAt0 m c t.val t.isLt).1 = (blkAt m c t).doa := by
  by_cases h0 : t.val % 16 = 0
  case' pos => rw [outsAt0_A m c t h0 (by omega)]
  case' neg =>
    by_cases h1 : t.val % 16 = 15
    case' pos => rw [outsAt0_C m c t h0 h1]
    case' neg => rw [outsAt0_B m c t h0 h1]
  all_goals frame_open
  all_goals frame_out
  all_goals rfl

set_option maxHeartbeats 8000000 in
theorem don_at (t : Fin cfg0.N) : (outsAt0 m c t.val t.isLt).2.1 = (blkAt m c t).don := by
  by_cases h0 : t.val % 16 = 0
  case' pos => rw [outsAt0_A m c t h0 (by omega)]
  case' neg =>
    by_cases h1 : t.val % 16 = 15
    case' pos => rw [outsAt0_C m c t h0 h1]
    case' neg => rw [outsAt0_B m c t h0 h1]
  all_goals frame_open
  all_goals frame_out
  all_goals rfl

set_option maxHeartbeats 8000000 in
theorem dz_at (t : Fin cfg0.N) : (outsAt0 m c t.val t.isLt).2.2.1 = (blkAt m c t).dz := by
  by_cases h0 : t.val % 16 = 0
  case' pos => rw [outsAt0_A m c t h0 (by omega)]
  case' neg =>
    by_cases h1 : t.val % 16 = 15
    case' pos => rw [outsAt0_C m c t h0 h1]
    case' neg => rw [outsAt0_B m c t h0 h1]
  all_goals frame_open
  all_goals frame_out
  all_goals rfl

set_option maxHeartbeats 8000000 in
theorem accO_at (t : Fin cfg0.N) : (outsAt0 m c t.val t.isLt).2.2.2.2.2.1 = (blkAt m c t).accO (carO m c t) := by
  by_cases h0 : t.val % 16 = 0
  case' pos => rw [outsAt0_A m c t h0 (by omega)]
  case' neg =>
    by_cases h1 : t.val % 16 = 15
    case' pos => rw [outsAt0_C m c t h0 h1]
    case' neg => rw [outsAt0_B m c t h0 h1]
  all_goals frame_open
  all_goals frame_out
  all_goals simp only [carO, h0, if_true, if_false, read_unread_whole]
  all_goals rfl

set_option maxHeartbeats 8000000 in
theorem accB_at (t : Fin cfg0.N) : ∃ L, (outsAt0 m c t.val t.isLt).2.2.2.2.2.2 = (blkAt m c t).accB (carB m c t) L := by
  by_cases h0 : t.val % 16 = 0
  case' pos => rw [outsAt0_A m c t h0 (by omega)]
  case' neg =>
    by_cases h1 : t.val % 16 = 15
    case' pos => rw [outsAt0_C m c t h0 h1]
    case' neg => rw [outsAt0_B m c t h0 h1]
  all_goals frame_open
  all_goals simp (disch := decide) only [↓ View.readCov_skip, ↓ View.readCov_cons_toLoadRect, ↓ View.readCov_fill]
  all_goals frame_out
  all_goals simp only [carB, h0, if_true, if_false, read_unread_whole]
  all_goals exact ⟨_, rfl⟩

set_option maxHeartbeats 8000000 in
theorem dwo_at (t : Fin cfg0.N) (h1 : t.val % 16 = 15) : (outsAt0 m c t.val t.isLt).2.2.2.1 = k0_pay4 (F := Ideal) ((blkAt m c t).accO (carO m c t)) := by
  have h0 : ¬ t.val % 16 = 0 := by omega
  rw [outsAt0_C m c t h0 h1]
  frame_open
  frame_out
  simp only [carO, h0, if_false, read_unread_whole]
  rfl

set_option maxHeartbeats 8000000 in
theorem dwb_at (t : Fin cfg0.N) (h1 : t.val % 16 = 15) : (outsAt0 m c t.val t.isLt).2.2.2.2.1 = k0_pay5 (F := Ideal) fun j => (blkAt m c t).accB (carB m c t) [] ((Rect.unit (s := S1024x1024) ![0, 0] S1024x1024.size inb_S1024x1024_S1024x1024_0_0).idx j) := by
  have h0 : ¬ t.val % 16 = 0 := by omega
  rw [outsAt0_C m c t h0 h1]
  frame_open
  simp (disch := decide) only [↓ View.readCov_skip, ↓ View.readCov_cons_toLoadRect, ↓ View.readCov_fill]
  frame_out
  simp only [View.readCov_eq_canon', carB, h0, if_false, read_unread_whole]
  dsimp only [Blk.accB, Blk.accR, Blk.accA, Blk.dm, Blk.g0, Blk.g1, blkAt]
  rfl

end Cert.MergeBwdIdeal.Pay
-- ==== Proof.MergeBwdPay.lean ====
/- The values one tile of the merge's gradient stores, over real operands: for each of the two branches the
   gradients of its rows, of its gates and of its weight. -/
module

public import proofs.«01_k».proof.Proof.MergeBwdState

@[expose] public section

set_option maxRecDepth 16384

noncomputable section

namespace Cert.MergeBwdIdeal.Pay

open Cert.MergeBwdIdeal Cert.MergeBwdIdeal.Gen Cert.MergeBwdIdeal.Value Cert.Common Idealize.ShloMosaic Idealize.ShloMosaic.TcCoe Idealize.SL.Sem Idealize.ShloMosaic.Tactic

/-- The logistic function. -/
def sg (x : ℝ) : ℝ := 1 / (1 + Real.exp (-x))

theorem sg_pos (x : ℝ) : (1 + Real.exp (-x)) ≠ 0 := (add_pos one_pos (Real.exp_pos _)).ne'

/-- One branch over `n` rows: its gate's logits, its rows, its weight, its merge gate's logits, its projected rows,
    and the cotangent of the merged rows. -/
structure Br (n : ℕ) where
  G : Fin n → Fin 512 → ℝ
  O : Fin n → Fin 512 → ℝ
  W : Fin 512 → Fin 1024 → ℝ
  M : Fin n → Fin 1024 → ℝ
  Y : Fin n → Fin 1024 → ℝ
  D : Fin n → Fin 1024 → ℝ

namespace Br
variable {n : ℕ} (b : Br n)
/-- The gated rows; the cotangents of the projected and of the gated rows. -/
def u (r : Fin n) (j : Fin 512) : ℝ := b.G r j * sg (b.G r j) * b.O r j
def dy (r : Fin n) (l : Fin 1024) : ℝ := b.D r l * sg (b.M r l)
def du (r : Fin n) (j : Fin 512) : ℝ := ∑ l, b.dy r l * b.W j l
/-- The gradients of the rows, of the gate's logits, of the merge gate's logits. -/
def dO (r : Fin n) (j : Fin 512) : ℝ := b.du r j * (b.G r j * sg (b.G r j))
def dG (r : Fin n) (j : Fin 512) : ℝ := b.du r j * b.O r j * (sg (b.G r j) * (1 + b.G r j * (1 - sg (b.G r j))))
def dM (r : Fin n) (l : Fin 1024) : ℝ := b.D r l * b.Y r l * sg (b.M r l) * (1 - sg (b.M r l))
/-- Some of the rows. -/
def at_ {k : ℕ} (f : Fin k → Fin n) : Br k := ⟨fun r => b.G (f r), fun r => b.O (f r), b.W, fun r => b.M (f r), fun r => b.Y (f r), fun r => b.D (f r)⟩
end Br

/-- A tile's blocks are these reals: the two branches, the cotangent and the output weight. -/
structure Blk.On (b : Blk) (A R : Br 256) (DX : Fin 256 → Fin 1024 → ℝ) (WO : Fin 1024 → Fin 1024 → ℝ) : Prop where
  dx : ∀ r l, b.dx (ix2 r l) = (DX r l : EReal)
  ga : ∀ r l, b.ga (ix2 r l) = (A.G r l : EReal)
  gr : ∀ r l, b.gr (ix2 r l) = (R.G r l : EReal)
  m0 : ∀ r l, b.m0 (ix2 r l) = (A.M r l : EReal)
  m1 : ∀ r l, b.m1 (ix2 r l) = (R.M r l : EReal)
  oa : ∀ r l, b.oa (ix2 r l) = (A.O r l : EReal)
  on : ∀ r l, b.on (ix2 r l) = (R.O r l : EReal)
  ya : ∀ r l, b.ya (ix2 r l) = (A.Y r l : EReal)
  yb : ∀ r l, b.yb (ix2 r l) = (R.Y r l : EReal)
  wa : ∀ l (j : Fin 512), b.wb (ix2 l ⟨j.val, by omega⟩) = (A.W j l : EReal)
  wr : ∀ l (j : Fin 512), b.wb (ix2 l ⟨512 + j.val, by omega⟩) = (R.W j l : EReal)
  wo : ∀ l k, b.wo (ix2 l k) = (WO l k : EReal)
  dA : ∀ r l, A.D r l = ∑ k, DX r k * WO l k
  dR : ∀ r l, R.D r l = ∑ k, DX r k * WO l k

section
variable {b : Blk} {A R : Br 256} {DX : Fin 256 → Fin 1024 → ℝ} {WO : Fin 1024 → Fin 1024 → ℝ} (B : b.On A R DX WO)
include B

theorem g0_apply (r : Fin 256) (l : Fin 1024) : b.g0 (ix2 r l) = (sg (A.M r l) : EReal) := by
  unfold Blk.g0
  pointwise [k0_pay11]
  simp only [B.m0, of_zero, of_one, ← EReal.coe_zero, ← EReal.coe_sub, Ideal.exp_coe, ← EReal.coe_one, ← EReal.coe_add, zero_sub, div_real _ (sg_pos _)]
  rfl

theorem g1_apply (r : Fin 256) (l : Fin 1024) : b.g1 (ix2 r l) = (sg (R.M r l) : EReal) := by
  unfold Blk.g1
  pointwise [k0_pay12]
  simp only [B.m1, of_zero, of_one, ← EReal.coe_zero, ← EReal.coe_sub, Ideal.exp_coe, ← EReal.coe_one, ← EReal.coe_add, zero_sub, div_real _ (sg_pos _)]
  rfl

theorem sgA_apply (r : Fin 256) (j : Fin 512) : k0_pay21 b.ga (ix2 r j) = (sg (A.G r j) : EReal) := by
  pointwise [k0_pay21, k0_pay19]
  simp only [B.ga, of_zero, of_one, ← EReal.coe_zero, ← EReal.coe_sub, Ideal.exp_coe, ← EReal.coe_one, ← EReal.coe_add, zero_sub, div_real _ (sg_pos _)]
  rfl

theorem sgR_apply (r : Fin 256) (j : Fin 512) : k0_pay31 b.gr (ix2 r j) = (sg (R.G r j) : EReal) := by
  pointwise [k0_pay31, k0_pay29]
  simp only [B.gr, of_zero, of_one, ← EReal.coe_zero, ← EReal.coe_sub, Ideal.exp_coe, ← EReal.coe_one, ← EReal.coe_add, zero_sub, div_real _ (sg_pos _)]
  rfl

theorem dm_apply (r : Fin 256) (l : Fin 1024) : b.dm (ix2 r l) = ((∑ k, DX r k * WO l k : ℝ) : EReal) := by
  unfold Blk.dm
  pointwise [k0_pay14, k0_pay8]
  simp only [B.dx, B.wo, of_zero, ← EReal.coe_mul, coe_sum, zero_add]

theorem dyA_apply (r : Fin 256) (l : Fin 1024) : k0_pay15 b.g0 b.dm (ix2 r l) = (A.dy r l : EReal) := by
  have h0 := g0_apply B
  have h1 := dm_apply B
  generalize b.g0 = g at *
  generalize b.dm = d at *
  pointwise [k0_pay15]
  rw [h0, h1, ← EReal.coe_mul, ← B.dA]; rfl

theorem dyR_apply (r : Fin 256) (l : Fin 1024) : k0_pay16 b.g1 b.dm (ix2 r l) = (R.dy r l : EReal) := by
  have h0 := g1_apply B
  have h1 := dm_apply B
  generalize b.g1 = g at *
  generalize b.dm = d at *
  pointwise [k0_pay16]
  rw [h0, h1, ← EReal.coe_mul, ← B.dR]; rfl

theorem duA_apply (r : Fin 256) (j : Fin 512) : k0_pay23 b.g0 b.dm b.wa (ix2 r j) = (A.du r j : EReal) := by
  have h := dyA_apply B
  unfold k0_pay23 Blk.wa
  generalize k0_pay15 b.g0 b.dm = d at *
  pointwise
  simp only [h, B.wa, of_zero, ← EReal.coe_mul, coe_sum, zero_add]
  rfl

theorem duR_apply (r : Fin 256) (j : Fin 512) : k0_pay33 (k0_pay16 b.g1 b.dm) b.wr (ix2 r j) = (R.du r j : EReal) := by
  have h := dyR_apply B
  unfold Blk.wr
  generalize k0_pay16 b.g1 b.dm = d at *
  pointwise [k0_pay33]
  simp only [h, B.wr, of_zero, ← EReal.coe_mul, coe_sum, zero_add]
  rfl

theorem doa_apply (r : Fin 256) (j : Fin 512) : b.doa (ix2 r j) = (A.dO r j : EReal) := by
  have h := duA_apply B
  have hs := sgA_apply B
  unfold Blk.doa k0_pay24 k0_pay22
  generalize k0_pay23 b.g0 b.dm b.wa = d at *
  generalize k0_pay21 b.ga = s at *
  pointwise [k0_pay19]
  simp only [h, hs, B.ga, ← EReal.coe_mul]
  rfl

theorem don_apply (r : Fin 256) (j : Fin 512) : b.don (ix2 r j) = (R.dO r j : EReal) := by
  have h := duR_apply B
  have hs := sgR_apply B
  unfold Blk.don k0_pay34 k0_pay32
  generalize k0_pay33 (k0_pay16 b.g1 b.dm) b.wr = d at *
  generalize k0_pay31 b.gr = s at *
  pointwise [k0_pay29]
  simp only [h, hs, B.gr, ← EReal.coe_mul]
  rfl

theorem dza_apply (r : Fin 256) (j : Fin 512) : b.dza (ix2 r j) = (A.dG r j : EReal) := by
  have h := duA_apply B
  have hs := sgA_apply B
  unfold Blk.dza k0_pay25 k0_pay26
  generalize k0_pay23 b.g0 b.dm b.wa = d at *
  generalize k0_pay21 b.ga = s at *
  pointwise [k0_pay27, k0_pay19, k0_pay20]
  simp only [h, hs, B.ga, B.oa, of_one, ← EReal.coe_one, ← EReal.coe_mul, ← EReal.coe_sub, ← EReal.coe_add]
  rfl

theorem dzr_apply (r : Fin 256) (j : Fin 512) : b.dzr (ix2 r j) = (R.dG r j : EReal) := by
  have h := duR_apply B
  have hs := sgR_apply B
  unfold Blk.dzr k0_pay35 k0_pay36
  generalize k0_pay33 (k0_pay16 b.g1 b.dm) b.wr = d at *
  generalize k0_pay31 b.gr = s at *
  pointwise [k0_pay1, k0_pay29, k0_pay30]
  simp only [h, hs, B.gr, B.on, of_one, ← EReal.coe_one, ← EReal.coe_mul, ← EReal.coe_sub, ← EReal.coe_add]
  rfl

theorem dz0_apply (r : Fin 256) (l : Fin 1024) : b.dz0 (ix2 r l) = (A.dM r l : EReal) := by
  have h0 := g0_apply B
  have h1 := dm_apply B
  unfold Blk.dz0
  generalize b.g0 = g at *
  generalize b.dm = d at *
  pointwise [k0_pay17, k0_pay9]
  simp only [h0, h1, ← B.dA, B.ya, of_one, ← EReal.coe_one, ← EReal.coe_mul, ← EReal.coe_sub, ← EReal.coe_add]
  rfl

theorem dz1_apply (r : Fin 256) (l : Fin 1024) : b.dz1 (ix2 r l) = (R.dM r l : EReal) := by
  have h0 := g1_apply B
  have h1 := dm_apply B
  unfold Blk.dz1
  generalize b.g1 = g at *
  generalize b.dm = d at *
  pointwise [k0_pay18, k0_pay10]
  simp only [h0, h1, ← B.dR, B.yb, of_one, ← EReal.coe_one, ← EReal.coe_mul, ← EReal.coe_sub, ← EReal.coe_add]
  rfl

/-- The output weight's running gradient. -/
theorem accO_apply (s : Vec Ideal S1024x1024 .f32) (S : Fin 1024 → Fin 1024 → ℝ) (hs : ∀ l k, s (ix2 l k) = (S l k : EReal)) (l k : Fin 1024) :
    b.accO s (ix2 l k) = ((S l k + ∑ r, (sg (A.M r l) * A.Y r l + sg (R.M r l) * R.Y r l) * DX r k : ℝ) : EReal) := by
  have h0 : ∀ r l, k0_pay11 b.m0 (ix2 r l) = (sg (A.M r l) : EReal) := g0_apply B
  have h1 : ∀ r l, k0_pay12 b.m1 (ix2 r l) = (sg (R.M r l) : EReal) := g1_apply B
  unfold Blk.accO k0_pay13
  generalize k0_pay11 b.m0 = g at *
  generalize k0_pay12 b.m1 = g' at *
  pointwise [k0_pay3, k0_pay8, k0_pay9, k0_pay10]
  simp only [h0, h1, hs, B.dx, B.ya, B.yb, of_zero, ← EReal.coe_mul, coe_sum, ← EReal.coe_add, zero_add]

/-- The branches' halves of the weight's running gradient. -/
theorem accA_apply (s : Vec Ideal S1024x1024 .f32) (S : Fin 1024 → Fin 512 → ℝ) (hs : ∀ l (j : Fin 512), s (ix2 l ⟨j.val, by omega⟩) = (S l j : EReal))
    (l : Fin 1024) (j : Fin 512) : b.accA s (ix2 l j) = ((S l j + ∑ r, A.dy r l * A.u r j : ℝ) : EReal) := by
  have h := dyA_apply B
  have hg := sgA_apply B
  unfold Blk.accA k0_pay22
  generalize k0_pay15 b.g0 b.dm = d at *
  generalize k0_pay21 b.ga = g at *
  pointwise [k0_pay28, k0_pay19, k0_pay20]
  simp only [h, hg, hs, B.ga, B.oa, of_zero, ← EReal.coe_mul, coe_sum, ← EReal.coe_add, zero_add]
  rfl

theorem accR_apply (s : Vec Ideal S1024x1024 .f32) (S : Fin 1024 → Fin 512 → ℝ) (hs : ∀ l (j : Fin 512), s (ix2 l ⟨512 + j.val, by omega⟩) = (S l j : EReal))
    (l : Fin 1024) (j : Fin 512) : b.accR s (ix2 l j) = ((S l j + ∑ r, R.dy r l * R.u r j : ℝ) : EReal) := by
  have h := dyR_apply B
  have hg := sgR_apply B
  unfold Blk.accR k0_pay32
  generalize k0_pay16 b.g1 b.dm = d at *
  generalize k0_pay31 b.gr = g at *
  pointwise [k0_pay2, k0_pay29, k0_pay30]
  simp only [h, hg, hs, B.gr, B.on, of_zero, ← EReal.coe_mul, coe_sum, ← EReal.coe_add, zero_add]
  rfl
end

/-- Reading a list of stored column bands: in the last one stored, and off it. -/
theorem canon_in {n N w o : ℕ} {e : EltTy} (inb) (P : (⟨2, ![n, w]⟩ : Shape).Idx → Elt Ideal e) (L : List (View.Piece (Elt Ideal) (⟨2, ![n, N]⟩ : Shape) e))
    (r : Fin n) (k : Fin N) (j : Fin w) (h : k.val = o + j.val) :
    View.canon (⟨Rect.unit (s := ⟨2, ![n, N]⟩) ![0, o] ![n, w] inb, P⟩ :: L) (ix2 r k) = P (ix2 r j) := by
  have hx : (ix2 r k : (⟨2, ![n, N]⟩ : Shape).Idx) = (Rect.unit (s := ⟨2, ![n, N]⟩) ![0, o] ![n, w] inb).emb (ix2 r j) := funext fun a => by
    match a with
    | ⟨0, _⟩ => exact Fin.ext (by show r.val = 0 + 1 * r.val; omega)
    | ⟨1, _⟩ => exact Fin.ext (by show k.val = o + 1 * j.val; omega)
  rw [hx]
  exact View.canon_cons_emb (Val := Elt Ideal) (Rect.unit (s := ⟨2, ![n, N]⟩) ![0, o] ![n, w] inb) P L (show (Rect.unit (s := (⟨2, ![n, N]⟩ : Shape)) ![0, o] ![n, w] inb).shape.Idx from (ix2 r j : (⟨2, ![n, w]⟩ : Shape).Idx))

theorem canon_out {n N w o : ℕ} {e : EltTy} (inb) (P : (⟨2, ![n, w]⟩ : Shape).Idx → Elt Ideal e) (L : List (View.Piece (Elt Ideal) (⟨2, ![n, N]⟩ : Shape) e))
    (r : Fin n) (k : Fin N) (h : k.val < o ∨ o + w ≤ k.val) :
    View.canon (⟨Rect.unit (s := ⟨2, ![n, N]⟩) ![0, o] ![n, w] inb, P⟩ :: L) (ix2 r k) = View.canon L (ix2 r k) := by
  refine View.canon_cons_of_not_mem _ L fun hm => ?_
  have h1 := (Rect.mem_set_unit (inb := inb)).mp hm ⟨1, Nat.one_lt_two⟩
  have : o ≤ k.val ∧ k.val < o + w := h1
  omega

end Cert.MergeBwdIdeal.Pay

end
-- ==== Proof.AttnPostBlk.lean ====
/- What the head norms' and rotary embedding's gradient makes of the blocks a grid point reads. -/
module

public import proofs.«01_k».proof.Proof.Gen.AttnPostIdeal.Value
public import proofs.«01_k».proof.Proof.Common
public import proofs.«01_k».proof.Proof.InBwdPay
public import proofs.«01_k».proof.Proof.MergeBwdPay
public import Idealize.ShloMosaic.Lib.Pointwise
public import Idealize.ShloMosaic.Lib.Pipeline.ValueKit
public import Idealize.ShloMosaic.Lib.Pipeline.ReadBack
public import Idealize.ShloMosaic.Lib.StableHlo.ReadAt

@[expose] public section

set_option maxRecDepth 16384

noncomputable section

namespace Cert.AttnPostIdeal.Pay

open Cert.AttnPostIdeal Cert.AttnPostIdeal.Gen Cert.AttnPostIdeal.Value Cert.Common Idealize.ShloMosaic Idealize.ShloMosaic.TcCoe Idealize.SL.Sem Idealize.ShloMosaic.Tactic

/-- The blocks a point reads: the cotangents of q, k and v, the projection's columns of q and of k and v, the gains, the tables of
    cosines and signed sines, and the averaging matrix. -/
structure Blk where
  dq : Vec Ideal S512x512 .f32
  dk : Vec Ideal S2x64x512 .f32
  dv : Vec Ideal S2x64x512 .f32
  zq : Vec Ideal S512x512 .f32
  zkv : Vec Ideal S512x256 .f32
  qn : Vec Ideal S1x512 .f32
  kn : Vec Ideal S1x128 .f32
  cs : Vec Ideal S512x128 .f32
  sn : Vec Ideal S512x128 .f32
  bd : Vec Ideal S512x512 .bf16

namespace Blk

variable (b : Blk)

/-- The two heads' parts of a block of cotangents. -/
abbrev h0 (x : Vec Ideal S2x64x512 .f32) : Vec Ideal S1x64x512 .f32 := View.ld x (Rect.unit ![0, 0, 0] ![1, 64, 512] inb_S2x64x512_S1x64x512_0_0_0)
abbrev h1 (x : Vec Ideal S2x64x512 .f32) : Vec Ideal S1x64x512 .f32 := View.ld x (Rect.unit ![1, 0, 0] ![1, 64, 512] inb_S2x64x512_S1x64x512_1_0_0)

/-- The gradient of q's columns, and the running sums of its gain. -/
def dzq : FVec Ideal S512x512 .bf16 := k0_pay18 (k0_pay5 b.bd) (k0_pay8 b.sn) (k0_pay9 b.dq) (k0_pay10 b.zq) (k0_pay11 b.qn) (k0_pay12 b.cs b.dq) k0_pay13
def accQ (s : Vec Ideal S8x512 .f32) : FVec Ideal S8x512 .f32 := k0_pay17 (k0_pay5 b.bd) (k0_pay8 b.sn) (k0_pay9 b.dq) (k0_pay10 b.zq) (k0_pay12 b.cs b.dq) k0_pay13 s

/-- The cotangent of k's normalised rows. -/
def dyk : FVec Ideal S512x128 .f32 := k0_pay23 (k0_pay6 b.cs) (k0_pay7 b.sn) (h0 b.dk) (h1 b.dk)
/-- The gradient of k's columns, and the running sums of its gain. -/
def dzk : FVec Ideal S512x128 .bf16 := k0_pay31 (k0_pay20 (k0_pay19 b.zkv)) (k0_pay21 b.kn) (k0_pay22 (k0_pay5 b.bd)) b.dyk (k0_pay26 (k0_pay19 b.zkv))
  (k0_pay27 (k0_pay5 b.bd) (k0_pay19 b.zkv)) (constant S512x128 .f32 0x00000000#32)
def accK (s : Vec Ideal S8x128 .f32) : FVec Ideal S8x128 .f32 := k0_pay30 (k0_pay20 (k0_pay19 b.zkv)) (k0_pay22 (k0_pay5 b.bd)) b.dyk (k0_pay26 (k0_pay19 b.zkv))
  (k0_pay27 (k0_pay5 b.bd) (k0_pay19 b.zkv)) (constant S512x128 .f32 0x00000000#32) s
/-- v's columns. -/
def dzv : FVec Ideal S512x128 .bf16 := k0_pay32 (h0 b.dv) (h1 b.dv)

/-- The three bands a point stores. -/
def dz : Vec Ideal S512x768 .bf16 :=
  View.canon [⟨Rect.unit (s := S512x768) ![0, 640] S512x128.size inb_S512x768_S512x128_0_640, b.dzv⟩, ⟨Rect.unit (s := S512x768) ![0, 512] S512x128.size inb_S512x768_S512x128_0_512, b.dzk⟩,
    ⟨Rect.unit (s := S512x768) ![0, 0] S512x512.size inb_S512x768_S512x512_0_0, b.dzq⟩]

end Blk

end Cert.AttnPostIdeal.Pay

end
-- ==== Proof.AttnPostState.lean ====
/- What each grid point of the head norms' and rotary embedding's gradient leaves: its rows' gradient, and the running sums of
   the two gains' gradients; then the blocks the points read, from the arrays the host prepared. -/
module

public import proofs.«01_k».proof.Proof.AttnPostBlk

@[expose] public section

set_option maxRecDepth 16384

noncomputable section

namespace Cert.AttnPostIdeal.Pay

open Cert.AttnPostIdeal Cert.AttnPostIdeal.Gen Cert.AttnPostIdeal.Value Cert.Common Idealize.ShloMosaic Idealize.ShloMosaic.TcCoe Idealize.SL.Sem Idealize.ShloMosaic.Tactic

variable (m : (ℓ : Loc nD τ sig) → Buf (Elt Ideal) ℓ) (c : Dev nD)

/-- The blocks of a point. -/
def blkAt (t : Fin cfg0.N) : Blk :=
  ⟨iblk m c 0 t, iblk m c 1 t, iblk m c 2 t, X0_3 m c t, iblk m c 4 t, iblk m c 5 t, iblk m c 6 t, iblk m c 7 t, iblk m c 8 t, iblk m c 9 t⟩

theorem N8 (t : Fin cfg0.N) : t.val < 8 := lt_of_lt_of_eq t.isLt N_0

/-- The state the point before left. -/
abbrev before (t : Fin cfg0.N) := outsAt0 m c (t.val - 1) (Nat.lt_of_le_of_lt (Nat.sub_le _ _) t.isLt)

/-- The running sums a point starts from. -/
def carQ (t : Fin cfg0.N) : Vec Ideal S8x512 .f32 := if t.val % 8 = 0 then k0_pay3 (F := Ideal) else (before m c t).2.2.2.1
def carK (t : Fin cfg0.N) : Vec Ideal S8x128 .f32 := if t.val % 8 = 0 then k0_pay4 (F := Ideal) else (before m c t).2.2.2.2

set_option maxHeartbeats 8000000 in
theorem dz_at (t : Fin cfg0.N) : (outsAt0 m c t.val t.isLt).1 = (blkAt m c t).dz := by
  by_cases h0 : t.val % 8 = 0
  case' pos => rw [outsAt0_A m c t h0 (by omega)]
  case' neg =>
    by_cases h1 : t.val % 8 = 7
    case' pos => rw [outsAt0_C m c t h0 h1]
    case' neg => rw [outsAt0_B m c t h0 h1]
  all_goals frame_open
  all_goals frame_out
  all_goals rfl

set_option maxHeartbeats 8000000 in
theorem acc_at (t : Fin cfg0.N) : (outsAt0 m c t.val t.isLt).2.2.2.1 = (blkAt m c t).accQ (carQ m c t)
    ∧ (outsAt0 m c t.val t.isLt).2.2.2.2 = (blkAt m c t).accK (carK m c t) := by
  by_cases h0 : t.val % 8 = 0
  case' pos => rw [outsAt0_A m c t h0 (by omega)]
  case' neg =>
    by_cases h1 : t.val % 8 = 7
    case' pos => rw [outsAt0_C m c t h0 h1]
    case' neg => rw [outsAt0_B m c t h0 h1]
  all_goals refine ⟨?_, ?_⟩
  all_goals frame_open
  all_goals frame_out
  all_goals simp only [carQ, carK, h0, if_true, if_false, read_unread_whole]
  all_goals rfl

set_option maxHeartbeats 8000000 in
theorem last_at (t : Fin cfg0.N) (h1 : t.val % 8 = 7) : (outsAt0 m c t.val t.isLt).2.1 = k0_pay1 (F := Ideal) ((blkAt m c t).accQ (carQ m c t))
    ∧ (outsAt0 m c t.val t.isLt).2.2.1 = k0_pay2 (F := Ideal) ((blkAt m c t).accK (carK m c t)) := by
  have h0 : ¬ t.val % 8 = 0 := by omega
  rw [outsAt0_C m c t h0 h1]
  constructor
  all_goals frame_open
  all_goals frame_out
  all_goals simp only [carQ, carK, h0, if_false, read_unread_whole]
  all_goals rfl

theorem idx : ∀ t : Fin cfg0.N, win0_0.index t = ![t.val, 0] ∧ win0_1.index t = ![0, 0, t.val] ∧ win0_2.index t = ![0, 0, t.val] ∧ win0_3.index t = ![t.val, 0]
    ∧ win0_4.index t = ![t.val, 20] ∧ win0_5.index t = ![0, 0] ∧ win0_6.index t = ![0, 0] ∧ win0_7.index t = ![t.val, 0] ∧ win0_8.index t = ![t.val, 0]
    ∧ win0_9.index t = ![0, 0] :=
  (by decide +kernel : ∀ t : Fin grid0.N, _)

/-- The row of the arrays that row `r` of point `t`'s blocks is. -/
def row (t : Fin cfg0.N) (r : Fin 512) : Fin 4096 := ⟨512 * t.val + r.val, by have := N8 t; omega⟩

theorem row_val (t : Fin cfg0.N) (r : Fin 512) : (row t r).val = 512 * t.val + r.val := rfl

set_option maxHeartbeats 4000000 in
/-- The blocks a point reads, from the arrays the host prepared. -/
theorem blocks (t : Fin cfg0.N) :
    (∀ r j, iblk m c 0 t (ix2 r j) = V m c main_v57 (ix2 (row t r) j))
    ∧ (∀ h e r, iblk m c 1 t (ix3 h e r) = V m c main_v59 (ix3 h e (row t r))) ∧ (∀ h e r, iblk m c 2 t (ix3 h e r) = V m c main_v61 (ix3 h e (row t r)))
    ∧ (∀ r (j : Fin 256), iblk m c 4 t (ix2 r j) = V m c main_v6 (ix2 (row t r) ⟨5120 + j.val, by omega⟩))
    ∧ (∀ j, iblk m c 5 t (ix2 0 j) = V m c main_v65 (ix2 0 j)) ∧ (∀ j, iblk m c 6 t (ix2 0 j) = V m c main_v69 (ix2 0 j))
    ∧ (∀ r j, iblk m c 7 t (ix2 r j) = V m c main_v72 (ix2 (row t r) j)) ∧ (∀ r j, iblk m c 8 t (ix2 r j) = V m c main_v75 (ix2 (row t r) j))
    ∧ (∀ k j, iblk m c 9 t (ix2 k j) = V m c main_v55 (ix2 k j)) := by
  refine ⟨?_, ?_, ?_, ?_, ?_, ?_, ?_, ?_, ?_⟩ <;> intros <;> blk_ext [iblk, idx t, row_val t]

set_option maxHeartbeats 4000000 in
theorem blocks_z (t : Fin cfg0.N) (r : Fin 512) (j : Fin 512) : X0_3 m c t (ix2 r j) = V m c main_v6 (ix2 (row t r) ⟨j.val, by omega⟩) := by
  unfold X0_3 Pipeline.Window.fill
  rw [dif_pos (moved0_3 t _)]
  blk_ext [iblk, idx t, row_val t]

end Cert.AttnPostIdeal.Pay

end
-- ==== Proof.AttnPostTables.lean ====
/- The rotary tables over the reals, and the words the host and the kernel compute them from. -/
module

public import proofs.«01_k».proof.Proof.AttnPostBlk

@[expose] public section

set_option maxRecDepth 16384

noncomputable section

namespace Cert.AttnPostIdeal.Pay

open Cert.AttnPostIdeal Cert.AttnPostIdeal.Gen Cert.AttnPostIdeal.Value Cert.Common Idealize.ShloMosaic Idealize.ShloMosaic.TcCoe Idealize.SL.Sem Idealize.ShloMosaic.Tactic

theorem of_10000 : Ideal.ofBits .f32 1176256512#32 = ((10000 : ℝ) : EReal) := by
  simp [Ideal.ofBits, Ideal.ieee, -EReal.coe_mul]; norm_num

theorem of_32 : Ideal.ofBits .f32 1107296256#32 = ((32 : ℝ) : EReal) := by
  simp [Ideal.ofBits, Ideal.ieee, -EReal.coe_mul]; norm_num

/-- A small word as a real. -/
theorem word (n : ℕ) (h : n < 64) : FloatOps.sitofp (F := Ideal) .f32 (BitVec.ofNat 32 n) = ((n : ℝ) : EReal) := by
  have e : (BitVec.ofNat 32 n).toInt = (n : ℤ) := (by decide +kernel : ∀ n : Fin 64, (BitVec.ofNat 32 n.val).toInt = (n.val : ℤ)) ⟨n, h⟩
  show ((((BitVec.ofNat 32 n).toInt : ℤ) : ℝ) : EReal) = _
  rw [e]; rfl

/-- The angle of a coordinate and a frequency. -/
def ang (n i : ℕ) : ℝ := n * Real.rpow 10000 (-(2 * i) / 32)

theorem angle (n i : ℕ) (hn : n < 64) (hi : i < 64) :
    FloatOps.sitofp (F := Ideal) .f32 (BitVec.ofNat 32 n) * Ideal.pow (Ideal.ofBits .f32 1176256512#32)
      (Ideal.div (-(Ideal.ofBits .f32 1073741824#32 * FloatOps.sitofp (F := Ideal) .f32 (BitVec.ofNat 32 i))) (Ideal.ofBits .f32 1107296256#32)) = (ang n i : EReal) := by
  rw [word n hn, word i hi, of_10000, of_32, show Ideal.ofBits .f32 1073741824#32 = ((2 : ℝ) : EReal) from of_two, ← EReal.coe_mul, ← EReal.coe_neg, div_real _ (by norm_num : (32 : ℝ) ≠ 0)]
  show ((n : ℝ) : EReal) * ((Real.rpow 10000 (-(2 * (i : ℝ)) / 32) : ℝ) : EReal) = _
  rw [← EReal.coe_mul]; rfl

/-- The tables of cosines, sines and signed sines, of a row and a lane of a head. -/
def angT (R e : ℕ) : ℝ := if e < 32 then ang (R / 64) (e % 16) else ang (R % 64) (e % 16)
def cosT (R e : ℕ) : ℝ := Real.cos (angT R e)
def sinT (R e : ℕ) : ℝ := Real.sin (angT R e)
def sgnT (R e : ℕ) : ℝ := if e % 32 < 16 then -sinT R e else sinT R e

/-- The tables' angle of a coordinate and a frequency. -/
theorem angT_low (R e i : ℕ) (h : e < 32) (hi : e % 16 = i) : angT R e = ang (R / 64) i := by
  unfold angT; rw [if_pos h, hi]

theorem angT_high (R e i : ℕ) (h : ¬ e < 32) (hi : e % 16 = i) : angT R e = ang (R % 64) i := by
  unfold angT; rw [if_neg h, hi]

/-- The averaging matrix's entry. -/
theorem of_64th : Ideal.ofBits .f32 1015021568#32 = ((1 / 64 : ℝ) : EReal) := by
  simp [Ideal.ofBits, Ideal.ieee, -EReal.coe_mul]; norm_num

/-- The group of a lane, as the host counts it. -/
def laneGroup (j : ℕ) : BitVec 32 :=
  Scalar.select
      (IntOp.andi
        (IntOp.cmpi CmpIPredicate.ne
              (if BitVec.ofNat 32 j = 0 then (0 : BitVec 32) else if (BitVec.ofNat 32 j).msb = true then -1 else 1)
              (if (id (constantI S_ 32 64#32) : IVec S_ 32) ix0 = 0 then (0 : BitVec 32) else if BitVec.msb ((id (constantI S_ 32 64#32) : IVec S_ 32) ix0) = true then -1 else 1))
        (IntOp.cmpi CmpIPredicate.ne (IntOp.remsi ArithUnit.host (BitVec.ofNat 32 j) ((id (constantI S_ 32 64#32) : IVec S_ 32) ix0)) 0#32))
      (IntOp.subi (IntOp.divsi ArithUnit.host (BitVec.ofNat 32 j) ((id (constantI S_ 32 64#32) : IVec S_ 32) ix0)) 1#32)
      (IntOp.divsi ArithUnit.host (BitVec.ofNat 32 j) ((id (constantI S_ 32 64#32) : IVec S_ 32) ix0))

theorem lane_group : ∀ j : Fin 512, laneGroup j.val = BitVec.ofNat 32 (j.val / 64) := by
  decide +kernel

theorem same (a b : ℕ) (ha : a < 8) (hb : b < 8) : IntOp.cmpi CmpIPredicate.eq (BitVec.ofNat 32 a) (BitVec.ofNat 32 b) = if a = b then 1#1 else 0#1 :=
  (by decide +kernel : ∀ a b : Fin 8, IntOp.cmpi CmpIPredicate.eq (BitVec.ofNat 32 a.val) (BitVec.ofNat 32 b.val) = if a.val = b.val then 1#1 else 0#1) ⟨a, ha⟩ ⟨b, hb⟩

end Cert.AttnPostIdeal.Pay

end
-- ==== Proof.AttnPostHost.lean ====
/- The tables of cosines and signed sines and the averaging matrix, as the host writes them out. -/
module

public import proofs.«01_k».proof.Proof.AttnPostTables

@[expose] public section

set_option maxRecDepth 16384

noncomputable section

namespace Cert.AttnPostIdeal.Pay

open Cert.AttnPostIdeal Cert.AttnPostIdeal.Gen Cert.AttnPostIdeal.Value Cert.Common Idealize.ShloMosaic Idealize.ShloMosaic.TcCoe Idealize.SL.Sem Idealize.ShloMosaic.Tactic

variable (m : (ℓ : Loc nD τ sig) → Buf (Elt Ideal) ℓ) (c : Dev nD)

/-- The host's arrays, from the arguments. -/
theorem host_z (R : Fin 4096) : (∀ k : Fin 512, V m c main_v6 (ix2 R ⟨k.val, by omega⟩) = m ((c : Thread nD τ).loc main_arg0) (ix3 0 R ⟨k.val, by omega⟩))
    ∧ ∀ k : Fin 256, V m c main_v6 (ix2 R ⟨5120 + k.val, by omega⟩) = m ((c : Thread nD τ).loc main_arg0) (ix3 0 R ⟨512 + k.val, by omega⟩) := by
  unfold V
  after_reads_at
  after_reads_at
  refine ⟨fun _ => trivial, fun k => ?_⟩
  rw [dif_neg (by omega), dif_neg (by omega)]
  have e : 512 + (5120 + k.val - 512 - 4608) = 512 + k.val := by omega
  simp only [e]

theorem hosts :
    (∀ R (j : Fin 512), V m c main_v57 (ix2 R j) = m ((c : Thread nD τ).loc main_arg3) (ix4 0 R ⟨j.val / 64, by omega⟩ ⟨j.val % 64, by omega⟩))
    ∧ (∀ h e R, V m c main_v59 (ix3 h e R) = m ((c : Thread nD τ).loc main_arg4) (ix4 0 R h e)) ∧ (∀ h e R, V m c main_v61 (ix3 h e R) = m ((c : Thread nD τ).loc main_arg5) (ix4 0 R h e))
    ∧ (∀ j : Fin 512, V m c main_v65 (ix2 0 j) = m ((c : Thread nD τ).loc main_arg1) (ix1 ⟨j.val % 64, by omega⟩))
    ∧ (∀ j : Fin 128, V m c main_v69 (ix2 0 j) = m ((c : Thread nD τ).loc main_arg2) (ix1 ⟨j.val % 64, by omega⟩)) := by
  refine ⟨?_, ?_, ?_, ?_, ?_⟩ <;> intros <;> unfold V <;> after_reads_at

set_option maxHeartbeats 4000000 in
/-- The table of cosines, over two heads. -/
theorem host_cos (R : Fin 4096) (j : Fin 128) : V m c main_v72 (ix2 R j) = (cosT R.val (j.val % 64) : EReal) := by
  have h1 := R.isLt
  have h2 := j.isLt
  unfold cosT V
  after_reads_simp
  clean_types
  pointwise
  by_cases c1 : j.val % 64 < 16
  · rw [dif_pos c1, angT_low _ _ (j.val % 64) (by omega) (by omega)]; after_reads_at
    rw [angle _ _ (by omega) (by omega)]; rfl
  rw [dif_neg c1]
  by_cases c2 : j.val % 64 - 16 < 16
  · rw [dif_pos c2, angT_low _ _ (j.val % 64 - 16) (by omega) (by omega)]; after_reads_at
    rw [angle _ _ (by omega) (by omega)]; rfl
  rw [dif_neg c2]
  by_cases c3 : j.val % 64 - 16 - 16 < 16
  · rw [dif_pos c3, angT_high _ _ (j.val % 64 - 16 - 16) (by omega) (by omega)]; after_reads_at
    rw [angle _ _ (by omega) (by omega)]; rfl
  · rw [dif_neg c3, angT_high _ _ (j.val % 64 - 16 - 16 - 16) (by omega) (by omega)]; after_reads_at
    rw [angle _ _ (by omega) (by omega)]; rfl

set_option maxHeartbeats 4000000 in
/-- The table of signed sines, over two heads. -/
theorem host_sin (R : Fin 4096) (j : Fin 128) : V m c main_v75 (ix2 R j) = (sgnT R.val (j.val % 64) : EReal) := by
  have h1 := R.isLt
  have h2 := j.isLt
  unfold sgnT sinT V
  after_reads_simp
  clean_types
  pointwise
  by_cases c1 : j.val % 64 < 16
  · rw [dif_pos c1, if_pos (show j.val % 64 % 32 < 16 by omega), angT_low _ _ (j.val % 64) (by omega) (by omega)]; after_reads_at
    rw [angle _ _ (by omega) (by omega), EReal.coe_neg]; rfl
  rw [dif_neg c1]
  by_cases c2 : j.val % 64 - 16 < 16
  · rw [dif_pos c2, if_neg (show ¬ j.val % 64 % 32 < 16 by omega), angT_low _ _ (j.val % 64 - 16) (by omega) (by omega)]; after_reads_at
    rw [angle _ _ (by omega) (by omega)]; rfl
  rw [dif_neg c2]
  by_cases c3 : j.val % 64 - 16 - 16 < 16
  · rw [dif_pos c3, if_pos (show j.val % 64 % 32 < 16 by omega), angT_high _ _ (j.val % 64 - 16 - 16) (by omega) (by omega)]; after_reads_at
    rw [angle _ _ (by omega) (by omega), EReal.coe_neg]; rfl
  · rw [dif_neg c3, if_neg (show ¬ j.val % 64 % 32 < 16 by omega), angT_high _ _ (j.val % 64 - 16 - 16 - 16) (by omega) (by omega)]; after_reads_at
    rw [angle _ _ (by omega) (by omega)]; rfl

theorem host_bd (k j : Fin 512) : V m c main_v55 (ix2 k j) = (if k.val / 64 = j.val / 64 then ((1 / 64 : ℝ) : EReal) else 0) := by
  unfold V
  after_reads_simp
  clean_types
  simp -implicitDefEqProofs only [StableHlo.TRef.toBuf, StableHlo.TRef.ofBuf, cast_cast, cast_eq]
  pointwise
  show Scalar.select (IntOp.cmpi CmpIPredicate.eq (laneGroup k.val) (laneGroup j.val)) (Ideal.ofBits .f32 1015021568#32) 0 = _
  rw [lane_group, lane_group, same _ _ (by omega) (by omega), of_64th]
  have hk := k.isLt
  have hj := j.isLt
  by_cases h : k.val / 64 = j.val / 64
  · rw [if_pos h, if_pos h]; rfl
  · rw [if_neg h, if_neg h]; rfl

end Cert.AttnPostIdeal.Pay

end
-- ==== Proof.AttnPostPay.lean ====
/- The head norms' and rotary embedding's gradient over real arguments: what each payload of the kernel is, entry by entry. -/
module

public import proofs.«01_k».proof.Proof.AttnPostBlk

@[expose] public section

set_option maxRecDepth 16384

noncomputable section

namespace Cert.AttnPostIdeal.Pay

open Cert.MergeBwdIdeal.Pay (canon_in canon_out)
open Cert.AttnPostIdeal Cert.AttnPostIdeal.Gen Cert.AttnPostIdeal.Value Cert.Common Idealize.ShloMosaic Idealize.ShloMosaic.TcCoe Idealize.SL.Sem Idealize.ShloMosaic.Tactic

/-- The lane a lane is rotated with. -/
def sw (e : Fin 64) : Fin 64 := if e.val % 32 < 16 then ⟨(e.val + 16) % 64, by omega⟩ else ⟨e.val - 16, by omega⟩

/-- Rows of `H` heads: the columns, the cotangents of the rotated normalised rows, the gain, the cosines and the signed sines. -/
structure Nd (n H : ℕ) where
  X : Fin n → Fin H → Fin 64 → ℝ
  D : Fin n → Fin H → Fin 64 → ℝ
  W : Fin 64 → ℝ
  C : Fin n → Fin 64 → ℝ
  S : Fin n → Fin 64 → ℝ

namespace Nd

variable {n H : ℕ} (a : Nd n H) (r : Fin n) (h : Fin H)

/-- The cotangent of the rows before their rotation. -/
def dy (e : Fin 64) : ℝ := a.D r h e * a.C r e - a.D r h (sw e) * a.S r e
/-- A head's mean square with the small constant, and its inverse root. -/
def ms : ℝ := (∑ i, a.X r h i * a.X r h i) / 64 + eps
def rms : ℝ := (√(a.ms r h))⁻¹
def xh (e : Fin 64) : ℝ := a.X r h e * a.rms r h
def gy (e : Fin 64) : ℝ := a.dy r h e * a.W e
/-- A row's part of the gain's gradient. -/
def eg (e : Fin 64) : ℝ := a.dy r h e * a.xh r h e
/-- The gradient of the columns. -/
def dx (e : Fin 64) : ℝ := a.rms r h * (a.gy r h e - a.xh r h e * ((∑ i, a.gy r h i * a.xh r h i) / 64))
/-- The same operands at some of the rows. -/
def at_ {k : ℕ} (f : Fin k → Fin n) : Nd k H := ⟨fun r => a.X (f r), fun r => a.D (f r), a.W, fun r => a.C (f r), fun r => a.S (f r)⟩

theorem ms_pos : 0 < a.ms r h := add_pos_of_nonneg_of_pos (div_nonneg (Finset.sum_nonneg fun i _ => mul_self_nonneg _) (by norm_num)) eps_pos

end Nd

/-- The averaging matrix. -/
def avg (k j : ℕ) : ℝ := if k / 64 = j / 64 then 1 / 64 else 0

theorem grp {N H : ℕ} (hN : N = H * 64) (hd : Fin N → Fin H) (ln : Fin N → Fin 64) (h1 : ∀ k, (hd k).val = k.val / 64) (h2 : ∀ k, (ln k).val = k.val % 64)
    (f : Fin H → Fin 64 → ℝ) (j : Fin N) : ∑ k, f (hd k) (ln k) * avg k.val j.val = (∑ i, f (hd j) i) / 64 := by
  rw [sum_tile H 64 hN, Finset.sum_eq_single (hd j)]
  · rw [Finset.sum_div]
    refine Finset.sum_congr rfl fun i _ => ?_
    have e1 : hd ⟨64 * (hd j).val + i.val, by subst hN; have := (hd j).isLt; omega⟩ = hd j := Fin.ext (by rw [h1]; show (64 * (hd j).val + i.val) / 64 = _; omega)
    have e2 : ln ⟨64 * (hd j).val + i.val, by subst hN; have := (hd j).isLt; omega⟩ = i := Fin.ext (by rw [h2]; show (64 * (hd j).val + i.val) % 64 = _; omega)
    have e3 : avg (64 * (hd j).val + i.val) j.val = 1 / 64 := if_pos (by rw [← h1 j]; omega)
    show f (hd ⟨64 * (hd j).val + i.val, _⟩) (ln ⟨64 * (hd j).val + i.val, _⟩) * avg (64 * (hd j).val + i.val) j.val = _
    rw [e1, e2, e3, mul_one_div]
  · intro b _ hb
    refine Finset.sum_eq_zero fun i _ => ?_
    have e3 : avg (64 * b.val + i.val) j.val = 0 := if_neg fun h => hb (Fin.ext (by rw [h1 j]; omega))
    show _ * avg (64 * b.val + i.val) j.val = 0
    rw [e3, mul_zero]
  · intro h; exact absurd (Finset.mem_univ _) h

/-- Whether a lane is in the first half of its axis' lanes, as the kernel finds it out. -/
def laneBit (j : ℕ) : BitVec 1 :=
  IntOp.cmpi CmpIPredicate.slt
      (Scalar.select
        (IntOp.andi
          (IntOp.xori
            (IntOp.cmpi CmpIPredicate.slt (IntOp.remsi ArithUnit.vector (BitVec.ofNat 32 j) (Scalar.select (Scalar.cmpi CmpIPredicate.eq 32#32 0#32) 1#32 32#32)) 0#32)
            (Scalar.cmpi CmpIPredicate.slt (Scalar.select (Scalar.cmpi CmpIPredicate.eq 32#32 0#32) 1#32 32#32) 0#32))
          (IntOp.cmpi CmpIPredicate.ne (IntOp.remsi ArithUnit.vector (BitVec.ofNat 32 j) (Scalar.select (Scalar.cmpi CmpIPredicate.eq 32#32 0#32) 1#32 32#32)) 0#32))
        (IntOp.addi (IntOp.remsi ArithUnit.vector (BitVec.ofNat 32 j) (Scalar.select (Scalar.cmpi CmpIPredicate.eq 32#32 0#32) 1#32 32#32))
          (Scalar.select (Scalar.cmpi CmpIPredicate.eq 32#32 0#32) 1#32 32#32))
        (IntOp.remsi ArithUnit.vector (BitVec.ofNat 32 j) (Scalar.select (Scalar.cmpi CmpIPredicate.eq 32#32 0#32) 1#32 32#32)))
      16#32

theorem lane_bit : ∀ j : Fin 512, laneBit j.val = if j.val % 32 < 16 then 1#1 else 0#1 := by
  decide +kernel

theorem pick {α : Type} (p : Prop) [Decidable p] (x y : α) : Scalar.select (if p then 1#1 else 0#1) x y = if p then x else y := by
  split_ifs <;> rfl

/-- A head and a lane with the same numbers. -/
theorem at_eq {H : ℕ} (f : Fin H → Fin 64 → ℝ) {h h' : Fin H} {e e' : Fin 64} (hh : h.val = h'.val) (he : e.val = e'.val) : (f h e : EReal) = (f h' e' : EReal) := by
  rw [Fin.ext hh, Fin.ext he]

/-- A table of two heads, repeated for eight. -/
theorem four (x : (n : ℕ) → n < 128 → EReal) (f : Fin 64 → ℝ) (hx : ∀ n h, x n h = (f ⟨n % 64, by omega⟩ : EReal)) (n : ℕ) (hn : n < 512) :
    (if h : n < 128 then x n h else if h : n - 128 < 128 then x (n - 128) h else if h : n - 128 - 128 < 128 then x (n - 128 - 128) h else x (n - 128 - 128 - 128) (by omega))
      = (f ⟨n % 64, by omega⟩ : EReal) := by
  have e : ∀ k, k % 64 = n % 64 → ((f ⟨k % 64, by omega⟩ : ℝ) : EReal) = (f ⟨n % 64, by omega⟩ : EReal) := fun k hk => by simp only [hk]
  split_ifs <;> rw [hx] <;> exact e _ (by omega)

/-- The blocks hold these reals. -/
structure Blk.On (b : Blk) (q : Nd 512 8) (k : Nd 512 2) (DV : Fin 512 → Fin 2 → Fin 64 → ℝ) : Prop where
  dq : ∀ r (j : Fin 512), b.dq (ix2 r j) = (q.D r ⟨j.val / 64, by omega⟩ ⟨j.val % 64, by omega⟩ : EReal)
  zq : ∀ r (j : Fin 512), b.zq (ix2 r j) = (q.X r ⟨j.val / 64, by omega⟩ ⟨j.val % 64, by omega⟩ : EReal)
  qn : ∀ j : Fin 512, b.qn (ix2 0 j) = (q.W ⟨j.val % 64, by omega⟩ : EReal)
  cq : ∀ r (j : Fin 128), b.cs (ix2 r j) = (q.C r ⟨j.val % 64, by omega⟩ : EReal)
  sq : ∀ r (j : Fin 128), b.sn (ix2 r j) = (q.S r ⟨j.val % 64, by omega⟩ : EReal)
  ck : ∀ r (j : Fin 128), b.cs (ix2 r j) = (k.C r ⟨j.val % 64, by omega⟩ : EReal)
  sk : ∀ r (j : Fin 128), b.sn (ix2 r j) = (k.S r ⟨j.val % 64, by omega⟩ : EReal)
  dk : ∀ h e r, b.dk (ix3 h e r) = (k.D r h e : EReal)
  zk : ∀ r (j : Fin 128), b.zkv (ix2 r ⟨j.val, by omega⟩) = (k.X r ⟨j.val / 64, by omega⟩ ⟨j.val % 64, by omega⟩ : EReal)
  kn : ∀ j : Fin 128, b.kn (ix2 0 j) = (k.W ⟨j.val % 64, by omega⟩ : EReal)
  dv : ∀ h e r, b.dv (ix3 h e r) = (DV r h e : EReal)
  bd : ∀ i j, b.bd (ix2 i j) = (avg i.val j.val : EReal)

variable {b : Blk} {q : Nd 512 8} {k : Nd 512 2} {DV : Fin 512 → Fin 2 → Fin 64 → ℝ} (B : b.On q k DV)

include B

theorem sn4 (r j : Fin 512) : k0_pay8 b.sn (ix2 r j) = (q.S r ⟨j.val % 64, by omega⟩ : EReal) := by
  pointwise [k0_pay8, k0_pay7]
  exact four (fun n h => b.sn (ix2 r ⟨n, h⟩)) (q.S r) (fun n h => B.sq r ⟨n, h⟩) j.val j.isLt

theorem dc4 (r j : Fin 512) : k0_pay12 b.cs b.dq (ix2 r j) = ((q.D r ⟨j.val / 64, by omega⟩ ⟨j.val % 64, by omega⟩ * q.C r ⟨j.val % 64, by omega⟩ : ℝ) : EReal) := by
  pointwise [k0_pay12, k0_pay6, k0_pay9]
  rw [B.dq, EReal.coe_mul]
  refine congrArg (_ * ·) ?_
  exact four (fun n h => b.cs (ix2 r ⟨n, h⟩)) (q.C r) (fun n h => B.cq r ⟨n, h⟩) j.val j.isLt

omit B in
theorem mask (r j : Fin 512) : k0_pay13 (ix2 r j) = if j.val % 32 < 16 then 1#1 else 0#1 := by
  rw [← lane_bit]
  pointwise [k0_pay13]
  rfl

/-- The cotangent of q's normalised rows. -/
theorem dyq (r j : Fin 512) : k0_pay14 (k0_pay8 b.sn) (k0_pay9 b.dq) (k0_pay12 b.cs b.dq) k0_pay13 (ix2 r j) = (q.dy r ⟨j.val / 64, by omega⟩ ⟨j.val % 64, by omega⟩ : EReal) := by
  have h := sn4 B
  have h1 := dc4 B
  have h2 := mask
  unfold k0_pay14
  generalize k0_pay8 (F := Ideal) b.sn = y at *
  generalize k0_pay12 (F := Ideal) b.cs b.dq = y1 at *
  generalize k0_pay13 = z at *
  pointwise [k0_pay9]
  have hs : sw ⟨j.val % 64, by omega⟩ = if j.val % 64 % 32 < 16 then ⟨(j.val % 64 + 16) % 64, by omega⟩ else ⟨j.val % 64 - 16, by omega⟩ := rfl
  unfold Nd.dy
  rw [h, h1, h2, pick, B.dq, B.dq, EReal.coe_sub, EReal.coe_mul (q.D r _ (sw _)), hs]
  refine congrArg (_ - ·) (congrArg (· * _) ?_)
  by_cases c : j.val % 32 < 16
  · rw [if_pos c, if_pos (by omega)]
    exact at_eq (q.D r) (by show (j.val + 512 - 496) % 512 / 64 = j.val / 64; omega) (by show (j.val + 512 - 496) % 512 % 64 = (j.val % 64 + 16) % 64; omega)
  · rw [if_neg c, if_neg (by omega)]
    exact at_eq (q.D r) (by show (j.val + 512 - 16) % 512 / 64 = j.val / 64; omega) (by show (j.val + 512 - 16) % 512 % 64 = j.val % 64 - 16; omega)

/-- The inverse root of a head's mean square. -/
theorem rmq (r j : Fin 512) : k0_pay15 (k0_pay5 b.bd) (k0_pay10 b.zq) (ix2 r j) = (q.rms r ⟨j.val / 64, by omega⟩ : EReal) := by
  pointwise [k0_pay15, k0_pay5, k0_pay10]
  simp only [B.zq, B.bd, show Ideal.ofBits FTy.f32 897988541#32 = (eps : EReal) from of_eps, ← EReal.coe_mul, ← EReal.coe_sub, coe_sum, ← EReal.coe_add, sub_self, zero_mul, Finset.sum_const_zero, add_zero]
  have e := grp (N := 512) (H := 8) rfl (fun i => ⟨i.val / 64, by omega⟩) (fun i => ⟨i.val % 64, by omega⟩) (fun _ => rfl) (fun _ => rfl) (fun h e => q.X r h e * q.X r h e) j
  rw [e]
  exact rsqrt_real (q.ms_pos r _)

theorem xhq (r j : Fin 512) : k0_pay16 (k0_pay5 b.bd) (k0_pay10 b.zq) (ix2 r j) = (q.xh r ⟨j.val / 64, by omega⟩ ⟨j.val % 64, by omega⟩ : EReal) := by
  have h := rmq B
  unfold k0_pay16
  generalize k0_pay15 (F := Ideal) (k0_pay5 b.bd) (k0_pay10 b.zq) = y at *
  pointwise [k0_pay10]
  rw [h, B.zq, ← EReal.coe_mul]
  rfl

/-- The gradient of q's columns. -/
theorem dzq_apply (r j : Fin 512) : (b.dzq (ix2 r j) : EReal) = (q.dx r ⟨j.val / 64, by omega⟩ ⟨j.val % 64, by omega⟩ : EReal) := by
  have h := dyq B
  have h1 := rmq B
  have h2 := xhq B
  unfold Blk.dzq k0_pay18
  generalize k0_pay14 (F := Ideal) (k0_pay8 b.sn) (k0_pay9 b.dq) (k0_pay12 b.cs b.dq) k0_pay13 = y at *
  generalize k0_pay15 (F := Ideal) (k0_pay5 b.bd) (k0_pay10 b.zq) = y1 at *
  generalize k0_pay16 (F := Ideal) (k0_pay5 b.bd) (k0_pay10 b.zq) = y2 at *
  pointwise [k0_pay5, k0_pay11]
  simp only [h, h1, h2, B.qn, B.bd, ← EReal.coe_mul, ← EReal.coe_sub, coe_sum, ← EReal.coe_add, sub_self, zero_mul, Finset.sum_const_zero, add_zero]
  have e := grp (N := 512) (H := 8) rfl (fun i => ⟨i.val / 64, by omega⟩) (fun i => ⟨i.val % 64, by omega⟩) (fun _ => rfl) (fun _ => rfl) (fun h e => q.gy r h e * q.xh r h e) j
  exact congrArg (fun x : ℝ => ((q.rms r ⟨j.val / 64, by omega⟩ * (q.gy r ⟨j.val / 64, by omega⟩ ⟨j.val % 64, by omega⟩ - q.xh r ⟨j.val / 64, by omega⟩ ⟨j.val % 64, by omega⟩ * x) : ℝ) : EReal)) e

/-- The running sums of q's gain. -/
theorem accQ_apply (s : Vec Ideal S8x512 .f32) (f : Fin 8 → Fin 512 → ℝ) (hs : ∀ i j, s (ix2 i j) = (f i j : EReal)) (i : Fin 8) (j : Fin 512) :
    b.accQ s (ix2 i j) = ((f i j + ∑ x : Fin 64, q.eg ⟨x.val * 8 + i.val, by omega⟩ ⟨j.val / 64, by omega⟩ ⟨j.val % 64, by omega⟩ : ℝ) : EReal) := by
  have h := dyq B
  have h2 := xhq B
  unfold Blk.accQ k0_pay17
  generalize k0_pay14 (F := Ideal) (k0_pay8 b.sn) (k0_pay9 b.dq) (k0_pay12 b.cs b.dq) k0_pay13 = y at *
  generalize k0_pay16 (F := Ideal) (k0_pay5 b.bd) (k0_pay10 b.zq) = y2 at *
  pointwise
  simp only [hs, h, h2, ← EReal.coe_mul, coe_sum, ← EReal.coe_add]
  rfl

omit B in
theorem h0_apply (x : Vec Ideal S2x64x512 .f32) (e : Fin 64) (r : Fin 512) : Blk.h0 x (ix3 0 e r) = x (ix3 0 e r) := by
  unfold Blk.h0
  pointwise

omit B in
theorem h1_apply (x : Vec Ideal S2x64x512 .f32) (e : Fin 64) (r : Fin 512) : Blk.h1 x (ix3 0 e r) = x (ix3 1 e r) := by
  unfold Blk.h1
  pointwise

omit B in
/-- The two heads side by side. -/
theorem two (x : Vec Ideal S2x64x512 .f32) (f : Fin 2 → Fin 64 → ℝ) (r : Fin 512) (hx : ∀ h e, x (ix3 h e r) = (f h e : EReal)) (n : ℕ) (hn : n < 128) :
    (if h : n < 64 then Blk.h0 x (ix3 0 ⟨n, h⟩ r) else Blk.h1 x (ix3 0 ⟨n - 64, by omega⟩ r)) = (f ⟨n / 64, by omega⟩ ⟨n % 64, by omega⟩ : EReal) := by
  split_ifs with c
  · rw [h0_apply, hx]; exact at_eq f (by show 0 = n / 64; omega) (by show n = n % 64; omega)
  · rw [h1_apply, hx]; exact at_eq f (by show 1 = n / 64; omega) (by show n - 64 = n % 64; omega)

/-- v's columns. -/
theorem dzv_apply (r : Fin 512) (j : Fin 128) : (b.dzv (ix2 r j) : EReal) = (DV r ⟨j.val / 64, by omega⟩ ⟨j.val % 64, by omega⟩ : EReal) := by
  unfold Blk.dzv
  pointwise [k0_pay32]
  exact two b.dv (DV r) r (fun h e => B.dv h e r) j.val j.isLt

/-- The cotangent of k's normalised rows. -/
theorem dyk_apply (r : Fin 512) (j : Fin 128) : b.dyk (ix2 r j) = (k.dy r ⟨j.val / 64, by omega⟩ ⟨j.val % 64, by omega⟩ : EReal) := by
  have t := two b.dk (k.D r) r (fun h e => B.dk h e r)
  have hb := lane_bit ⟨j.val, by omega⟩
  unfold laneBit at hb
  unfold Blk.dyk
  pointwise [k0_pay23, k0_pay7, k0_pay6]
  have hs : sw ⟨j.val % 64, by omega⟩ = if j.val % 64 % 32 < 16 then ⟨(j.val % 64 + 16) % 64, by omega⟩ else ⟨j.val % 64 - 16, by omega⟩ := rfl
  unfold Nd.dy
  dsimp only at hb
  rw [hb, pick, t _ j.isLt, t _ (by omega), t _ (by omega), B.ck, B.sk, EReal.coe_sub, EReal.coe_mul, EReal.coe_mul, hs]
  refine congrArg (_ - ·) (congrArg (· * _) ?_)
  by_cases c : j.val % 32 < 16
  · rw [if_pos c, if_pos (by omega)]
    exact at_eq (k.D r) (by show (j.val + 128 - 112) % 128 / 64 = j.val / 64; omega) (by show (j.val + 128 - 112) % 128 % 64 = (j.val % 64 + 16) % 64; omega)
  · rw [if_neg c, if_neg (by omega)]
    exact at_eq (k.D r) (by show (j.val + 128 - 16) % 128 / 64 = j.val / 64; omega) (by show (j.val + 128 - 16) % 128 % 64 = j.val % 64 - 16; omega)

theorem rmk (r : Fin 512) (j : Fin 128) : k0_pay28 (k0_pay22 (k0_pay5 b.bd)) (k0_pay26 (k0_pay19 b.zkv)) (k0_pay27 (k0_pay5 b.bd) (k0_pay19 b.zkv)) (constant S512x128 .f32 0x00000000#32) (ix2 r j)
    = (k.rms r ⟨j.val / 64, by omega⟩ : EReal) := by
  pointwise [k0_pay28, k0_pay22, k0_pay5, k0_pay26, k0_pay25, k0_pay24, k0_pay20, k0_pay19, k0_pay27]
  simp only [B.zk, B.bd, show Ideal.ofBits FTy.f32 897988541#32 = (eps : EReal) from of_eps, ← EReal.coe_mul, ← EReal.coe_sub, coe_sum, ← EReal.coe_add, sub_self, zero_mul, Finset.sum_const_zero, add_zero]
  have e := grp (N := 128) (H := 2) rfl (fun i => ⟨i.val / 64, by omega⟩) (fun i => ⟨i.val % 64, by omega⟩) (fun _ => rfl) (fun _ => rfl) (fun h e => k.X r h e * k.X r h e) j
  rw [e]
  exact rsqrt_real (k.ms_pos r _)

theorem xhk (r : Fin 512) (j : Fin 128) :
    k0_pay29 (k0_pay20 (k0_pay19 b.zkv)) (k0_pay22 (k0_pay5 b.bd)) (k0_pay26 (k0_pay19 b.zkv)) (k0_pay27 (k0_pay5 b.bd) (k0_pay19 b.zkv)) (constant S512x128 .f32 0x00000000#32) (ix2 r j)
    = (k.xh r ⟨j.val / 64, by omega⟩ ⟨j.val % 64, by omega⟩ : EReal) := by
  have h := rmk B
  unfold k0_pay29
  generalize k0_pay28 (F := Ideal) (k0_pay22 (k0_pay5 b.bd)) (k0_pay26 (k0_pay19 b.zkv)) (k0_pay27 (k0_pay5 b.bd) (k0_pay19 b.zkv)) (constant S512x128 .f32 0x00000000#32) = y at *
  pointwise [k0_pay20, k0_pay19]
  rw [h, B.zk, ← EReal.coe_mul]
  rfl

/-- The gradient of k's columns. -/
theorem dzk_apply (r : Fin 512) (j : Fin 128) : (b.dzk (ix2 r j) : EReal) = (k.dx r ⟨j.val / 64, by omega⟩ ⟨j.val % 64, by omega⟩ : EReal) := by
  have h := dyk_apply B
  have h1 := rmk B
  have h2 := xhk B
  unfold Blk.dzk k0_pay31
  generalize b.dyk = y at *
  generalize k0_pay29 (F := Ideal) (k0_pay20 (k0_pay19 b.zkv)) (k0_pay22 (k0_pay5 b.bd)) (k0_pay26 (k0_pay19 b.zkv)) (k0_pay27 (k0_pay5 b.bd) (k0_pay19 b.zkv)) (constant S512x128 .f32 0x00000000#32) = y2 at *
  generalize k0_pay28 (F := Ideal) (k0_pay22 (k0_pay5 b.bd)) (k0_pay26 (k0_pay19 b.zkv)) (k0_pay27 (k0_pay5 b.bd) (k0_pay19 b.zkv)) (constant S512x128 .f32 0x00000000#32) = y1 at *
  pointwise [k0_pay22, k0_pay5, k0_pay21]
  simp only [h, h1, h2, B.kn, B.bd, ← EReal.coe_mul, ← EReal.coe_sub, coe_sum, ← EReal.coe_add, sub_self, zero_mul, Finset.sum_const_zero, add_zero]
  have e := grp (N := 128) (H := 2) rfl (fun i => ⟨i.val / 64, by omega⟩) (fun i => ⟨i.val % 64, by omega⟩) (fun _ => rfl) (fun _ => rfl) (fun h e => k.gy r h e * k.xh r h e) j
  exact congrArg (fun x : ℝ => ((k.rms r ⟨j.val / 64, by omega⟩ * (k.gy r ⟨j.val / 64, by omega⟩ ⟨j.val % 64, by omega⟩ - k.xh r ⟨j.val / 64, by omega⟩ ⟨j.val % 64, by omega⟩ * x) : ℝ) : EReal)) e

/-- The running sums of k's gain. -/
theorem accK_apply (s : Vec Ideal S8x128 .f32) (f : Fin 8 → Fin 128 → ℝ) (hs : ∀ i j, s (ix2 i j) = (f i j : EReal)) (i : Fin 8) (j : Fin 128) :
    b.accK s (ix2 i j) = ((f i j + ∑ x : Fin 64, k.eg ⟨x.val * 8 + i.val, by omega⟩ ⟨j.val / 64, by omega⟩ ⟨j.val % 64, by omega⟩ : ℝ) : EReal) := by
  have h := dyk_apply B
  have h2 := xhk B
  unfold Blk.accK k0_pay30
  generalize b.dyk = y at *
  generalize k0_pay29 (F := Ideal) (k0_pay20 (k0_pay19 b.zkv)) (k0_pay22 (k0_pay5 b.bd)) (k0_pay26 (k0_pay19 b.zkv)) (k0_pay27 (k0_pay5 b.bd) (k0_pay19 b.zkv)) (constant S512x128 .f32 0x00000000#32) = y2 at *
  pointwise
  simp only [hs, h, h2, ← EReal.coe_mul, coe_sum, ← EReal.coe_add]
  rfl

omit B in
/-- The sums over the eight rows. -/
theorem last_apply (s : Vec Ideal S8x512 .f32) (s' : Vec Ideal S8x128 .f32) (f : Fin 8 → Fin 512 → ℝ) (f' : Fin 8 → Fin 128 → ℝ) (hs : ∀ i j, s (ix2 i j) = (f i j : EReal))
    (hs' : ∀ i j, s' (ix2 i j) = (f' i j : EReal)) : (∀ j, k0_pay1 (F := Ideal) s (ix2 0 j) = ((∑ i, f i j : ℝ) : EReal)) ∧ ∀ j, k0_pay2 (F := Ideal) s' (ix2 0 j) = ((∑ i, f' i j : ℝ) : EReal) := by
  constructor <;> intro j
  · pointwise [k0_pay1]
    simp only [hs, coe_sum]
  · pointwise [k0_pay2]
    simp only [hs', coe_sum]

end Cert.AttnPostIdeal.Pay

end
-- ==== Proof.AttnPostKernel.lean ====
/- What the head norms' and rotary embedding's gradient kernel computes over real arguments, in closed form. -/
module

public import proofs.«01_k».proof.Proof.AttnPostState
public import proofs.«01_k».proof.Proof.AttnPostHost
public import proofs.«01_k».proof.Proof.AttnPostPay

@[expose] public section

set_option maxRecDepth 16384

noncomputable section

namespace Cert.AttnPostIdeal.Pay

open Cert.MergeBwdIdeal.Pay (canon_in canon_out)
open Cert.AttnPostIdeal Cert.AttnPostIdeal.Gen Cert.AttnPostIdeal.Value Cert.Common Idealize.ShloMosaic Idealize.ShloMosaic.TcCoe Idealize.SL.Sem Idealize.ShloMosaic.Tactic

/-- Real arguments: the projection, the two gains, the cotangents of q, k and v. -/
structure Args where
  Z : Fin 4096 → Fin 5376 → ℝ
  GQ : Fin 64 → ℝ
  GK : Fin 64 → ℝ
  DQ : Fin 4096 → Fin 8 → Fin 64 → ℝ
  DK : Fin 4096 → Fin 2 → Fin 64 → ℝ
  DV : Fin 4096 → Fin 2 → Fin 64 → ℝ

namespace Args

variable (a : Args)

/-- q's rows and k's rows. -/
def q : Nd 4096 8 := ⟨fun R h e => a.Z R ⟨64 * h.val + e.val, by omega⟩, a.DQ, a.GQ, fun R e => cosT R.val e.val, fun R e => sgnT R.val e.val⟩
def k : Nd 4096 2 := ⟨fun R h e => a.Z R ⟨512 + (64 * h.val + e.val), by omega⟩, a.DK, a.GK, fun R e => cosT R.val e.val, fun R e => sgnT R.val e.val⟩

/-- The gradient of the projection's columns of q, k and v. -/
def dz (R : Fin 4096) (j : Fin 768) : ℝ :=
  if h : j.val < 512 then a.q.dx R ⟨j.val / 64, by omega⟩ ⟨j.val % 64, by omega⟩
  else if h : j.val < 640 then a.k.dx R ⟨(j.val - 512) / 64, by omega⟩ ⟨(j.val - 512) % 64, by omega⟩
  else a.DV R ⟨(j.val - 640) / 64, by omega⟩ ⟨(j.val - 640) % 64, by omega⟩

/-- The arguments in memory are these reals. -/
structure On (z : Vec Ideal S1x4096x5376 .f32) (gq gk : Vec Ideal S64 .f32) (dq : Vec Ideal S1x4096x8x64 .f32) (dk dv : Vec Ideal S1x4096x2x64 .f32) : Prop where
  z : ∀ R j, z (ix3 0 R j) = (a.Z R j : EReal)
  gq : ∀ e, gq (ix1 e) = (a.GQ e : EReal)
  gk : ∀ e, gk (ix1 e) = (a.GK e : EReal)
  dq : ∀ R h e, dq (ix4 0 R h e) = (a.DQ R h e : EReal)
  dk : ∀ R h e, dk (ix4 0 R h e) = (a.DK R h e : EReal)
  dv : ∀ R h e, dv (ix4 0 R h e) = (a.DV R h e : EReal)

end Args

/-- A sum over every eighth row, from the `s`-th, of the tiles up to the `n`-th. -/
def part (f : Fin 4096 → ℝ) (n : ℕ) (s : Fin 8) : ℝ :=
  ∑ t ∈ Finset.range n, ∑ i : Fin 64, if h : 512 * t + (i.val * 8 + s.val) < 4096 then f ⟨512 * t + (i.val * 8 + s.val), h⟩ else 0

theorem part_succ (f : Fin 4096 → ℝ) (t : Fin cfg0.N) (s : Fin 8) : part f (t.val + 1) s = part f t.val s + ∑ i : Fin 64, f (row t ⟨i.val * 8 + s.val, by omega⟩) := by
  unfold part
  rw [Finset.sum_range_succ]
  refine congrArg (_ + ·) (Finset.sum_congr rfl fun i _ => ?_)
  exact dif_pos (row t ⟨i.val * 8 + s.val, by omega⟩).isLt

theorem part_all (f : Fin 4096 → ℝ) : ∑ s, part f 8 s = ∑ R, f R := by
  unfold part
  rw [Finset.sum_comm, Finset.sum_range, sum_tile 8 512 rfl f]
  refine Finset.sum_congr rfl fun t _ => ?_
  rw [sum_tile 64 8 rfl, Finset.sum_comm]
  refine Finset.sum_congr rfl fun i _ => Finset.sum_congr rfl fun s _ => ?_
  rw [dif_pos (by omega)]
  exact congrArg f (Fin.ext (by show 512 * t.val + (i.val * 8 + s.val) = 512 * t.val + (8 * i.val + s.val); omega))

variable (m : (ℓ : Loc nD τ sig) → Buf (Elt Ideal) ℓ) (c : Dev nD) (a : Args)
  (ha : a.On (m ((c : Thread nD τ).loc main_arg0)) (m ((c : Thread nD τ).loc main_arg1)) (m ((c : Thread nD τ).loc main_arg2)) (m ((c : Thread nD τ).loc main_arg3))
    (m ((c : Thread nD τ).loc main_arg4)) (m ((c : Thread nD τ).loc main_arg5)))

include ha

set_option maxHeartbeats 4000000 in
theorem blk_on (t : Fin cfg0.N) : (blkAt m c t).On (a.q.at_ (row t)) (a.k.at_ (row t)) (fun r => a.DV (row t r)) := by
  obtain ⟨b0, b1, b2, b4, b5, b6, b7, b8, b9⟩ := blocks m c t
  obtain ⟨h57, h59, h61, h65, h69⟩ := hosts m c
  unfold blkAt
  constructor <;> try dsimp only
  · intro r j; exact (b0 r j).trans ((h57 _ _).trans (ha.dq _ _ _))
  · intro r j
    refine (blocks_z m c t r j).trans (((host_z m c _).1 j).trans ((ha.z _ _).trans ?_))
    exact congrArg (fun x => (a.Z (row t r) x : EReal)) (Fin.ext (by show j.val = 64 * (j.val / 64) + j.val % 64; omega))
  · intro j; exact (b5 j).trans ((h65 _).trans (ha.gq _))
  · intro r j; exact (b7 r j).trans (host_cos m c _ _)
  · intro r j; exact (b8 r j).trans (host_sin m c _ _)
  · intro r j; exact (b7 r j).trans (host_cos m c _ _)
  · intro r j; exact (b8 r j).trans (host_sin m c _ _)
  · intro h e r; exact (b1 h e r).trans ((h59 _ _ _).trans (ha.dk _ _ _))
  · intro r j
    refine (b4 r ⟨j.val, by omega⟩).trans (((host_z m c _).2 ⟨j.val, by omega⟩).trans ((ha.z _ _).trans ?_))
    exact congrArg (fun x => (a.Z (row t r) x : EReal)) (Fin.ext (by show 512 + j.val = 512 + (64 * (j.val / 64) + j.val % 64); omega))
  · intro j; exact (b6 j).trans ((h69 _).trans (ha.gk _))
  · intro h e r; exact (b2 h e r).trans ((h61 _ _ _).trans (ha.dv _ _ _))
  · intro i j
    refine (b9 i j).trans ((host_bd m c i j).trans ?_)
    unfold avg
    split_ifs <;> simp

/-- The running sums after a point that started from the sums up to it. -/
theorem step (t : Fin cfg0.N) (hQ : ∀ s (j : Fin 512), carQ m c t (ix2 s j) = (part (fun R => a.q.eg R ⟨j.val / 64, by omega⟩ ⟨j.val % 64, by omega⟩) t.val s : EReal))
    (hK : ∀ s (j : Fin 128), carK m c t (ix2 s j) = (part (fun R => a.k.eg R ⟨j.val / 64, by omega⟩ ⟨j.val % 64, by omega⟩) t.val s : EReal)) :
    (∀ s (j : Fin 512), (blkAt m c t).accQ (carQ m c t) (ix2 s j) = (part (fun R => a.q.eg R ⟨j.val / 64, by omega⟩ ⟨j.val % 64, by omega⟩) (t.val + 1) s : EReal))
    ∧ ∀ s (j : Fin 128), (blkAt m c t).accK (carK m c t) (ix2 s j) = (part (fun R => a.k.eg R ⟨j.val / 64, by omega⟩ ⟨j.val % 64, by omega⟩) (t.val + 1) s : EReal) := by
  have B := blk_on m c a ha t
  refine ⟨fun s j => ?_, fun s j => ?_⟩
  · rw [accQ_apply B _ _ hQ, part_succ]; rfl
  · rw [accK_apply B _ _ hK, part_succ]; rfl

/-- The running sums a point starts from: over the rows of the points before it. -/
theorem car (n : ℕ) (hn : n < cfg0.N) : (∀ s (j : Fin 512), carQ m c ⟨n, hn⟩ (ix2 s j) = (part (fun R => a.q.eg R ⟨j.val / 64, by omega⟩ ⟨j.val % 64, by omega⟩) n s : EReal))
    ∧ ∀ s (j : Fin 128), carK m c ⟨n, hn⟩ (ix2 s j) = (part (fun R => a.k.eg R ⟨j.val / 64, by omega⟩ ⟨j.val % 64, by omega⟩) n s : EReal) := by
  induction n with
  | zero =>
    unfold carQ carK
    rw [if_pos (show (0 : ℕ) % 8 = 0 from rfl), if_pos (show (0 : ℕ) % 8 = 0 from rfl)]
    refine ⟨?_, ?_⟩ <;> intros <;> pointwise [k0_pay3, k0_pay4] <;> exact EReal.coe_zero.symm
  | succ n ih =>
    have hN : n + 1 < 8 := lt_of_lt_of_eq hn N_0
    have h := ih (Nat.lt_of_succ_lt hn)
    have s := step m c a ha ⟨n, Nat.lt_of_succ_lt hn⟩ h.1 h.2
    have hc : ¬ (n + 1) % 8 = 0 := by omega
    have e := acc_at m c ⟨n, Nat.lt_of_succ_lt hn⟩
    have hQ : carQ m c ⟨n + 1, hn⟩ = (blkAt m c ⟨n, Nat.lt_of_succ_lt hn⟩).accQ (carQ m c ⟨n, Nat.lt_of_succ_lt hn⟩) := (if_neg hc).trans e.1
    have hK : carK m c ⟨n + 1, hn⟩ = (blkAt m c ⟨n, Nat.lt_of_succ_lt hn⟩).accK (carK m c ⟨n, Nat.lt_of_succ_lt hn⟩) := (if_neg hc).trans e.2
    rw [hQ, hK]
    exact s

omit ha in
theorem last_lt : 7 < cfg0.N := by rw [show cfg0.N = 8 from N_0]; decide

/-- The kernel's gradients of the gains, head by head. -/
theorem G11_apply (j : Fin 512) : G11 m c (ix2 0 j) = ((∑ R, a.q.eg R ⟨j.val / 64, by omega⟩ ⟨j.val % 64, by omega⟩ : ℝ) : EReal) := by
  have h := car m c a ha 7 last_lt
  have s := step m c a ha ⟨7, last_lt⟩ h.1 h.2
  rw [G11_last, ← outsAt0_sweep m c 7 last_lt, (last_at m c ⟨7, last_lt⟩ rfl).1, (last_apply _ _ _ _ s.1 s.2).1 j, ← part_all]

theorem G12_apply (j : Fin 128) : G12 m c (ix2 0 j) = ((∑ R, a.k.eg R ⟨j.val / 64, by omega⟩ ⟨j.val % 64, by omega⟩ : ℝ) : EReal) := by
  have h := car m c a ha 7 last_lt
  have s := step m c a ha ⟨7, last_lt⟩ h.1 h.2
  rw [G12_last, ← outsAt0_sweep m c 7 last_lt, (last_at m c ⟨7, last_lt⟩ rfl).2, (last_apply _ _ _ _ s.1 s.2).2 j, ← part_all]

omit ha in
theorem tile_lt (R : Fin 4096) : R.val / 512 < cfg0.N := by rw [show cfg0.N = 8 from N_0]; omega

omit ha in
theorem row_eq (R : Fin 4096) : row ⟨R.val / 512, tile_lt R⟩ ⟨R.val % 512, by omega⟩ = R := Fin.ext (by show 512 * (R.val / 512) + R.val % 512 = R.val; omega)

/-- A point's rows of the gradient. -/
theorem dz_apply (t : Fin cfg0.N) (r : Fin 512) (j : Fin 768) : ((blkAt m c t).dz (ix2 r j) : EReal) = (a.dz (row t r) j : EReal) := by
  have B := blk_on m c a ha t
  unfold Blk.dz Args.dz
  by_cases h0 : j.val < 512
  · rw [dif_pos h0]
    refine (canon_out (n := 512) (N := 768) (w := 128) (o := 640) _ _ _ r _ (Or.inl (by omega))).trans ?_
    refine (canon_out (n := 512) (N := 768) (w := 128) (o := 512) _ _ _ r _ (Or.inl h0)).trans ?_
    refine (canon_in (n := 512) (N := 768) (w := 512) (o := 0) _ _ _ r _ ⟨j.val, h0⟩ (Nat.zero_add _).symm).trans ?_
    exact dzq_apply B _ _
  · by_cases h1 : j.val < 640
    · rw [dif_neg h0, dif_pos h1]
      refine (canon_out (n := 512) (N := 768) (w := 128) (o := 640) _ _ _ r _ (Or.inl h1)).trans ?_
      refine (canon_in (n := 512) (N := 768) (w := 128) (o := 512) _ _ _ r _ ⟨j.val - 512, by omega⟩ (by show j.val = 512 + (j.val - 512); omega)).trans ?_
      exact dzk_apply B _ _
    · rw [dif_neg h0, dif_neg h1]
      refine (canon_in (n := 512) (N := 768) (w := 128) (o := 640) _ _ _ r _ ⟨j.val - 640, by omega⟩ (by show j.val = 640 + (j.val - 640); omega)).trans ?_
      exact dzv_apply B _ _

/-- The kernel's gradient of the projection's columns of q, k and v. -/
theorem G10_apply (R : Fin 4096) (j : Fin 768) : (G10 m c (ix2 R j) : EReal) = (a.dz R j : EReal) := by
  have hp : pt10Of (ix2 R j) = R.val / 512 := by show 1 * (R.val / 512 - 0) + 1 * (j.val / 768 - 0) = R.val / 512; omega
  have hl : loc10Of (ix2 R j) = ix2 ⟨R.val % 512, by omega⟩ j := funext fun k => by
    fin_cases k
    · rfl
    · exact Fin.ext (Nat.mod_eq_of_lt j.isLt)
  unfold G10
  rw [dif_pos (by rw [hp]; exact tile_lt R), hl, ← outsAt0_sweep m c _ (by rw [hp]; exact tile_lt R)]
  simp only [hp]
  rw [dz_at m c ⟨R.val / 512, tile_lt R⟩]
  exact (dz_apply m c a ha _ _ _).trans (congrArg (fun x => (a.dz x j : EReal)) (row_eq R))

end Cert.AttnPostIdeal.Pay

end
-- ==== Proof.AttnPostRope.lean ====
/- The rotary embedding's gradient in the reference: its tables and its halves of a head's lanes, entry by entry. -/
module

public import proofs.«01_k».proof.Defs
public import proofs.«01_k».proof.Proof.AttnPostKernel
public import proofs.«01_k».proof.Proof.Gen.AttnPostRefIdeal.Run
public import proofs.«01_k».proof.Proof.Gen.AttnPostRefIdeal.Read

@[expose] public section

set_option maxRecDepth 16384

noncomputable section

namespace Cert.AttnPostRefIdeal.Stages

open Cert.AttnPostRefIdeal Cert.AttnPostRefIdeal.Gen Cert.AttnPostRefIdeal.Read Cert.AttnPostIdeal.Pay Cert.Common Idealize.ShloMosaic Idealize.ShloMosaic.Tactic

/-- An index of rows, heads, halves, parts and lanes. -/
def six {H P : ℕ} (R : Fin 4096) (h : Fin H) (g : Fin 2) (p : Fin P) (i : Fin 16) : (⟨6, ![1, 4096, H, 2, P, 16]⟩ : Shape).Idx := fun a => match a with
  | ⟨0, _⟩ => (0 : Fin 1)
  | ⟨1, _⟩ => R
  | ⟨2, _⟩ => h
  | ⟨3, _⟩ => g
  | ⟨4, _⟩ => p
  | ⟨5, _⟩ => i

theorem six_val {H P : ℕ} (R : Fin 4096) (h : Fin H) (g : Fin 2) (p : Fin P) (i : Fin 16) :
    ((⟨6, ![1, 4096, H, 2, P, 16]⟩ : Shape).rowMajor (six R h g p i)).val = (((R.val * H + h.val) * 2 + g.val) * P + p.val) * 16 + i.val := by
  rw [Shape.rowMajor_val_succ, Shape.rowMajor_val_five]
  show 0 * _ + _ = _
  rw [Nat.zero_mul, Nat.zero_add]
  rfl

theorem four_val {H : ℕ} (R : Fin 4096) (h : Fin H) (e : Fin 64) :
    ((⟨4, ![1, 4096, H, 64]⟩ : Shape).rowMajor (ix4 0 R h e)).val = (R.val * H + h.val) * 64 + e.val := by
  rw [Shape.rowMajor_val_four]
  show ((0 * 4096 + R.val) * H + h.val) * 64 + e.val = _
  rw [Nat.zero_mul, Nat.zero_add]

theorem five_val {H : ℕ} (R : Fin 4096) (h : Fin H) (g : Fin 2) (i : Fin 16) :
    ((⟨5, ![1, 4096, H, 2, 16]⟩ : Shape).rowMajor (ix5 0 R h g i)).val = ((R.val * H + h.val) * 2 + g.val) * 16 + i.val := by
  rw [Shape.rowMajor_val_five]
  show (((0 * 4096 + R.val) * H + h.val) * 2 + g.val) * 16 + i.val = _
  rw [Nat.zero_mul, Nat.zero_add]

/-- A head's lanes in halves and parts. -/
theorem parted {α : Type} {H : ℕ} (x : (⟨4, ![1, 4096, H, 64]⟩ : Shape).Idx → α) (hc : (⟨4, ![1, 4096, H, 64]⟩ : Shape).ShapeCasts ⟨6, ![1, 4096, H, 2, 2, 16]⟩)
    (R : Fin 4096) (h : Fin H) (g p : Fin 2) (i : Fin 16) (e : Fin 64) (he : e.val = 32 * g.val + 16 * p.val + i.val) :
    shapeCast ⟨6, ![1, 4096, H, 2, 2, 16]⟩ x hc (six R h g p i) = x (ix4 0 R h e) := by
  refine shapeCast_apply x hc _ _ ?_
  rw [six_val, four_val, he]
  generalize R.val * H + h.val = y
  omega

/-- One part of the halves. -/
theorem onePart {α : Type} {H : ℕ} (x : (⟨6, ![1, 4096, H, 2, 1, 16]⟩ : Shape).Idx → α) (hc : (⟨6, ![1, 4096, H, 2, 1, 16]⟩ : Shape).ShapeCasts ⟨5, ![1, 4096, H, 2, 16]⟩)
    (R : Fin 4096) (h : Fin H) (g : Fin 2) (i : Fin 16) : shapeCast ⟨5, ![1, 4096, H, 2, 16]⟩ x hc (ix5 0 R h g i) = x (six R h g 0 i) := by
  refine shapeCast_apply x hc _ _ ?_
  rw [six_val, five_val]
  show ((_ * 2 + _) * 1 + 0) * 16 + _ = _
  omega

/-- The lanes from their halves and parts. -/
theorem joined {α : Type} {H : ℕ} (x : (⟨6, ![1, 4096, H, 2, 2, 16]⟩ : Shape).Idx → α) (hc : (⟨6, ![1, 4096, H, 2, 2, 16]⟩ : Shape).ShapeCasts ⟨4, ![1, 4096, H, 64]⟩)
    (R : Fin 4096) (h : Fin H) (e : Fin 64) (g p : Fin 2) (i : Fin 16) (he : e.val = 32 * g.val + 16 * p.val + i.val) :
    shapeCast ⟨4, ![1, 4096, H, 64]⟩ x hc (ix4 0 R h e) = x (six R h g p i) := by
  refine shapeCast_apply x hc _ _ ?_
  rw [six_val, four_val, he]
  generalize R.val * H + h.val = y
  omega

/-- A pad in front of the parts, and one behind them. -/
theorem padFront {H : ℕ} (x : Vec Ideal ⟨6, ![1, 4096, H, 2, 1, 16]⟩ .f32) (v : Vec Ideal S_ .f32)
    (hp : (⟨6, ![1, 4096, H, 2, 1, 16]⟩ : Shape).Pads ![0, 0, 0, 0, 1, 0] ![0, 0, 0, 0, 0, 0] ![0, 0, 0, 0, 0, 0] ⟨6, ![1, 4096, H, 2, 2, 16]⟩) (hu : 0 < S_.numel)
    (R : Fin 4096) (h : Fin H) (g : Fin 2) (i : Fin 16) :
    pad ⟨6, ![1, 4096, H, 2, 2, 16]⟩ ![0, 0, 0, 0, 1, 0] ![0, 0, 0, 0, 0, 0] ![0, 0, 0, 0, 0, 0] x v hp hu (six R h g (0 : Fin 2) i) = v (Shape.Idx.first hu)
    ∧ pad ⟨6, ![1, 4096, H, 2, 2, 16]⟩ ![0, 0, 0, 0, 1, 0] ![0, 0, 0, 0, 0, 0] ![0, 0, 0, 0, 0, 0] x v hp hu (six R h g (1 : Fin 2) i) = x (six R h g (0 : Fin 1) i) := by
  unfold pad
  refine ⟨dif_neg fun hin => absurd (hin 4).1 (by show ¬ (1 ≤ 0); omega), (dif_pos fun a => ?_).trans (congrArg x (funext fun a => ?_))⟩
  · fin_cases a
    · exact ⟨Nat.zero_le _, Nat.mod_one _, by show (0 - 0) / 1 < 1; omega⟩
    · exact ⟨Nat.zero_le _, Nat.mod_one _, by show (R.val - 0) / 1 < 4096; omega⟩
    · exact ⟨Nat.zero_le _, Nat.mod_one _, by show (h.val - 0) / 1 < H; omega⟩
    · exact ⟨Nat.zero_le _, Nat.mod_one _, by show (g.val - 0) / 1 < 2; omega⟩
    · exact ⟨le_refl _, Nat.mod_one _, by show (1 - 1) / 1 < 1; omega⟩
    · exact ⟨Nat.zero_le _, Nat.mod_one _, by show (i.val - 0) / 1 < 16; omega⟩
  · refine Fin.ext ?_
    fin_cases a <;> exact Nat.div_one _

theorem padBehind {H : ℕ} (x : Vec Ideal ⟨6, ![1, 4096, H, 2, 1, 16]⟩ .f32) (v : Vec Ideal S_ .f32)
    (hp : (⟨6, ![1, 4096, H, 2, 1, 16]⟩ : Shape).Pads ![0, 0, 0, 0, 0, 0] ![0, 0, 0, 0, 1, 0] ![0, 0, 0, 0, 0, 0] ⟨6, ![1, 4096, H, 2, 2, 16]⟩) (hu : 0 < S_.numel)
    (R : Fin 4096) (h : Fin H) (g : Fin 2) (i : Fin 16) :
    pad ⟨6, ![1, 4096, H, 2, 2, 16]⟩ ![0, 0, 0, 0, 0, 0] ![0, 0, 0, 0, 1, 0] ![0, 0, 0, 0, 0, 0] x v hp hu (six R h g (0 : Fin 2) i) = x (six R h g (0 : Fin 1) i)
    ∧ pad ⟨6, ![1, 4096, H, 2, 2, 16]⟩ ![0, 0, 0, 0, 0, 0] ![0, 0, 0, 0, 1, 0] ![0, 0, 0, 0, 0, 0] x v hp hu (six R h g (1 : Fin 2) i) = v (Shape.Idx.first hu) := by
  unfold pad
  refine ⟨(dif_pos fun a => ?_).trans (congrArg x (funext fun a => ?_)), dif_neg fun hin => absurd (hin 4).2.2 (by show ¬ ((1 - 0) / 1 < 1); omega)⟩
  · fin_cases a <;> refine ⟨Nat.zero_le _, Nat.mod_one _, ?_⟩
    · show (0 - 0) / 1 < 1; omega
    · show (R.val - 0) / 1 < 4096; omega
    · show (h.val - 0) / 1 < H; omega
    · show (g.val - 0) / 1 < 2; omega
    · show (0 - 0) / 1 < 1; omega
    · show (i.val - 0) / 1 < 16; omega
  · refine Fin.ext ?_
    fin_cases a <;> exact Nat.div_one _

/-- The tables repeat themselves over a half's two parts. -/
theorem angT_part (R g i : ℕ) (hi : i < 16) : angT R (32 * g + 16 + i) = angT R (32 * g + i) := by
  have e : (32 * g + 16 + i) % 16 = (32 * g + i) % 16 := by omega
  unfold angT
  rw [e]
  by_cases h : 32 * g + i < 32
  · rw [if_pos h, if_pos (by omega)]
  · rw [if_neg h, if_neg (by omega)]

/-- The two halves of a rotation's gradient are the kernel's form of it. -/
theorem turn0 (D : Fin 64 → ℝ) (R : ℕ) (g : Fin 2) (i : Fin 16) (e : Fin 64) (he : e.val = 32 * g.val + i.val) (e' : Fin 64) (he' : e'.val = 32 * g.val + 16 + i.val) :
    D e' * sinT R e.val + D e * cosT R e.val = D e * cosT R e.val - D (sw e) * sgnT R e.val := by
  have h : e.val % 32 < 16 := by omega
  have hs : sw e = e' := by
    unfold sw; rw [if_pos h]; exact Fin.ext (by show (e.val + 16) % 64 = e'.val; omega)
  rw [hs, show sgnT R e.val = -sinT R e.val from if_pos h]
  ring

theorem turn1 (D : Fin 64 → ℝ) (R : ℕ) (g : Fin 2) (i : Fin 16) (e : Fin 64) (he : e.val = 32 * g.val + i.val) (e' : Fin 64) (he' : e'.val = 32 * g.val + 16 + i.val) :
    D e' * cosT R e.val + -D e * sinT R e.val = D e' * cosT R e'.val - D (sw e') * sgnT R e'.val := by
  have h : ¬ e'.val % 32 < 16 := by omega
  have ha : angT R e'.val = angT R e.val := by rw [he, he']; exact angT_part R g.val i.val i.isLt
  have hs : sw e' = e := by
    unfold sw; rw [if_neg h]; exact Fin.ext (by show e'.val - 16 = e.val; omega)
  rw [hs, show sgnT R e'.val = sinT R e'.val from if_neg h, show cosT R e'.val = cosT R e.val from congrArg Real.cos ha, show sinT R e'.val = sinT R e.val from congrArg Real.sin ha]
  ring

/-- Every lane lies in a half and in one of its parts. -/
theorem lane_cases (e : Fin 64) : ∃ (g : Fin 2) (i : Fin 16) (b : Fin 64) (b' : Fin 64), b.val = 32 * g.val + i.val ∧ b'.val = 32 * g.val + 16 + i.val ∧ (e = b ∨ e = b') := by
  by_cases h : e.val % 32 < 16
  · exact ⟨⟨e.val / 32, by omega⟩, ⟨e.val % 32, h⟩, e, ⟨32 * (e.val / 32) + 16 + e.val % 32, by omega⟩, by show e.val = 32 * (e.val / 32) + e.val % 32; omega, rfl, Or.inl rfl⟩
  · exact ⟨⟨e.val / 32, by omega⟩, ⟨e.val % 32 - 16, by omega⟩, ⟨e.val - 16, by omega⟩, e, by show e.val - 16 = 32 * (e.val / 32) + (e.val % 32 - 16); omega, by show e.val = 32 * (e.val / 32) + 16 + (e.val % 32 - 16); omega, Or.inr rfl⟩

/-- The angles of a row: its first coordinate's, then its second's. -/
theorem v21 (R : Fin 4096) (i : Fin 16) : val_main_v21 (F := Ideal) (ix2 R i) = (ang (R.val / 64) i.val : EReal) := by
  pointwise [val_main_v21, val_main_v20, val_main_v19, val_main_v18, val_main_v17, val_main_v16, val_main_v15, val_main_cst_2, val_main_v14, val_main_v13, val_main_cst_1, val_main_v12, val_main_v11,
    val_main_v10, val_main_cst_0, val_main_v9, val_main_v8, val_main_cst, val_main_v7, val_main_v2, val_main_v1, val_main_v0]
  exact angle _ _ (by omega) (by omega)

theorem v26 (R : Fin 4096) (i : Fin 16) : val_main_v26 (F := Ideal) (ix2 R i) = (ang (R.val % 64) i.val : EReal) := by
  pointwise [val_main_v26, val_main_v25, val_main_v24, val_main_v23, val_main_v22, val_main_v16, val_main_v15, val_main_cst_2, val_main_v14, val_main_v13, val_main_cst_1, val_main_v12, val_main_v11,
    val_main_v10, val_main_cst_0, val_main_v9, val_main_v8, val_main_cst, val_main_v7, val_main_v6, val_main_v5, val_main_v4, val_main_v3]
  exact angle _ _ (by omega) (by omega)

theorem v27 (R : Fin 4096) (g : Fin 2) (i : Fin 16) : val_main_v27 (F := Ideal) (ix2 R ⟨g.val * 16 + i.val, by omega⟩) = (angT R.val (32 * g.val + i.val) : EReal) := by
  have h := v21 R
  have h' := v26 R
  unfold val_main_v27
  generalize val_main_v21 (F := Ideal) = y at *
  generalize val_main_v26 (F := Ideal) = y' at *
  pointwise
  by_cases hg : g.val = 0
  · rw [dif_pos (by omega), h, angT_low R.val _ i.val (by omega) (by omega)]
    exact congrArg (fun n => ((ang (R.val / 64) n : ℝ) : EReal)) (by show g.val * 16 + i.val = i.val; omega)
  · rw [dif_neg (by omega), h', angT_high R.val _ i.val (by omega) (by omega)]
    exact congrArg (fun n => ((ang (R.val % 64) n : ℝ) : EReal)) (by show g.val * 16 + i.val - 16 = i.val; omega)

theorem v28 (R : Fin 4096) (g : Fin 2) (i : Fin 16) : val_main_v28 (F := Ideal) (ix2 R ⟨g.val * 16 + i.val, by omega⟩) = (cosT R.val (32 * g.val + i.val) : EReal) := by
  have h := v27 R g i
  unfold val_main_v28
  generalize val_main_v27 (F := Ideal) = y at *
  pointwise
  rw [h]; rfl

theorem v29 (R : Fin 4096) (g : Fin 2) (i : Fin 16) : val_main_v29 (F := Ideal) (ix2 R ⟨g.val * 16 + i.val, by omega⟩) = (sinT R.val (32 * g.val + i.val) : EReal) := by
  have h := v27 R g i
  unfold val_main_v29
  generalize val_main_v27 (F := Ideal) = y at *
  pointwise
  rw [h]; rfl

/-- The cosines and sines where k's rotation reads them. -/
theorem tabK (R : Fin 4096) (g : Fin 2) (i : Fin 16) :
    val_main_v112 (F := Ideal) (ix5 0 R 0 g i) = (cosT R.val (32 * g.val + i.val) : EReal) ∧ val_main_v102 (F := Ideal) (ix5 0 R 0 g i) = (cosT R.val (32 * g.val + i.val) : EReal)
    ∧ val_main_v109 (F := Ideal) (ix5 0 R 0 g i) = (sinT R.val (32 * g.val + i.val) : EReal) ∧ val_main_v105 (F := Ideal) (ix5 0 R 0 g i) = (sinT R.val (32 * g.val + i.val) : EReal) := by
  have h := v28 R g i
  have h' := v29 R g i
  unfold val_main_v112 val_main_v102 val_main_v100 val_main_v109 val_main_v105 val_main_v101
  generalize val_main_v28 (F := Ideal) = y at *
  generalize val_main_v29 (F := Ideal) = y' at *
  refine ⟨?_, ?_, ?_, ?_⟩ <;> pointwise <;> assumption

/-- And where q's does. -/
theorem tabQ (R : Fin 4096) (g : Fin 2) (i : Fin 16) :
    (val_main_v87 (F := Ideal) (ix5 0 R 0 g i) = (cosT R.val (32 * g.val + i.val) : EReal) ∧ val_main_v77 (F := Ideal) (ix5 0 R 0 g i) = (cosT R.val (32 * g.val + i.val) : EReal))
    ∧ val_main_v84 (F := Ideal) (ix5 0 R 0 g i) = (sinT R.val (32 * g.val + i.val) : EReal) ∧ val_main_v80 (F := Ideal) (ix5 0 R 0 g i) = (sinT R.val (32 * g.val + i.val) : EReal) := by
  have h := v28 R g i
  have h' := v29 R g i
  unfold val_main_v87 val_main_v77 val_main_v75 val_main_v84 val_main_v80 val_main_v76
  generalize val_main_v28 (F := Ideal) = y at *
  generalize val_main_v29 (F := Ideal) = y' at *
  refine ⟨⟨?_, ?_⟩, ?_, ?_⟩ <;> pointwise <;> assumption

section K

variable (x4 : Vec Ideal S1x4096x2x64 .f32) (D : Fin 4096 → Fin 2 → Fin 64 → ℝ) (hD : ∀ R h e, x4 (ix4 0 R h e) = (D R h e : EReal)) (R : Fin 4096) (h g : Fin 2) (i : Fin 16)
  (e e' : Fin 64) (he : e.val = 32 * g.val + i.val) (he' : e'.val = 32 * g.val + 16 + i.val)

include hD he

theorem k0 : val_main_v124 (F := Ideal) x4 (ix5 0 R h g i) = (D R h e : EReal) := by
  unfold val_main_v124
  refine (onePart _ _ R h g i).trans ((val_main_v123_apply x4 _).trans ?_)
  refine Eq.trans (congrArg _ (?_ : _ = six R h g (0 : Fin 2) i)) ((parted x4 _ R h g 0 i e he).trans (hD R h e))
  funext a; fin_cases a <;> rfl

omit he
include he'

theorem k1 : val_main_v126 (F := Ideal) x4 (ix5 0 R h g i) = (D R h e' : EReal) := by
  unfold val_main_v126
  refine (onePart _ _ R h g i).trans ((val_main_v125_apply x4 _).trans ?_)
  refine Eq.trans (congrArg _ (?_ : _ = six R h g (1 : Fin 2) i)) ((parted x4 _ R h g 1 i e' he').trans (hD R h e'))
  funext a; fin_cases a <;> rfl

include he

/-- The gradient's two parts of a half. -/
theorem kHalves : val_main_v137 (F := Ideal) x4 (ix5 0 R h g i) = ((D R h e' * sinT R.val e.val + D R h e * cosT R.val e.val : ℝ) : EReal)
    ∧ val_main_v134 (F := Ideal) x4 (ix5 0 R h g i) = ((D R h e' * cosT R.val e.val + -D R h e * sinT R.val e.val : ℝ) : EReal) := by
  have h0 := k0 x4 D hD R h g i e he
  have h1 := k1 x4 D hD R h g i e' he'
  obtain ⟨t0, t1, t2, t3⟩ := tabK R g i
  rw [← he] at t0 t1 t2 t3
  unfold val_main_v137 val_main_v134 val_main_v136 val_main_v135 val_main_v133 val_main_v132 val_main_v131 val_main_v130 val_main_v129 val_main_v128 val_main_v127
  generalize val_main_v124 (F := Ideal) x4 = y0 at *
  generalize val_main_v126 (F := Ideal) x4 = y1 at *
  generalize val_main_v112 (F := Ideal) = w0 at *
  generalize val_main_v102 (F := Ideal) = w1 at *
  generalize val_main_v109 (F := Ideal) = w2 at *
  generalize val_main_v105 (F := Ideal) = w3 at *
  refine ⟨?_, ?_⟩
  · pointwise
    simp only [h0, h1, t1, t2, ← EReal.coe_mul, ← EReal.coe_add]
  · pointwise
    simp only [h0, h1, t0, t3, ← EReal.coe_mul, ← EReal.coe_neg, ← EReal.coe_add]

omit hD he he'

theorem kParts : val_main_v142 (F := Ideal) x4 (six R h g (0 : Fin 2) i) = val_main_v137 (F := Ideal) x4 (ix5 0 R h g i)
    ∧ val_main_v142 (F := Ideal) x4 (six R h g (1 : Fin 2) i) = val_main_v134 (F := Ideal) x4 (ix5 0 R h g i) := by
  obtain ⟨a0, a1⟩ := padFront (val_main_v138 (F := Ideal) x4) (val_main_cst_11 (F := Ideal)) pads_S1x4096x2x2x1x16_S1x4096x2x2x2x16_000_000_000_000_100_000 h_S_ R h g i
  obtain ⟨b0, b1⟩ := padBehind (val_main_v140 (F := Ideal) x4) (val_main_cst_12 (F := Ideal)) pads_S1x4096x2x2x1x16_S1x4096x2x2x2x16_000_000_000_000_010_000 h_S_ R h g i
  refine ⟨(val_main_v142_apply x4 _).trans ((congrArg₂ (· + ·) (a0.trans of_zero) (b0.trans ((val_main_v140_apply x4 _).trans (congrArg _ ?_)))).trans (zero_add _)),
    (val_main_v142_apply x4 _).trans ((congrArg₂ (· + ·) (a1.trans ((val_main_v138_apply x4 _).trans (congrArg _ ?_))) (b1.trans of_zero)).trans (add_zero _))⟩
  · funext a; fin_cases a <;> rfl
  · funext a; fin_cases a <;> rfl

end K

/-- The cotangent of k's normalised rows: the rotation undone. -/
theorem v143 (x4 : Vec Ideal S1x4096x2x64 .f32) (D : Fin 4096 → Fin 2 → Fin 64 → ℝ) (hD : ∀ R h e, x4 (ix4 0 R h e) = (D R h e : EReal)) (R : Fin 4096) (h : Fin 2) (e : Fin 64) :
    val_main_v143 (F := Ideal) x4 (ix4 0 R h e) = ((D R h e * cosT R.val e.val - D R h (sw e) * sgnT R.val e.val : ℝ) : EReal) := by
  obtain ⟨g, i, b, b', hb, hb', rfl | rfl⟩ := lane_cases e
  · refine (joined _ _ R h _ g 0 i (by rw [hb]; rfl)).trans ((kParts x4 R h g i).1.trans ((kHalves x4 D hD R h g i _ b' hb hb').1.trans ?_))
    rw [turn0 (D R h) R.val g i _ hb b' hb']
  · refine (joined _ _ R h _ g 1 i (by rw [hb']; rfl)).trans ((kParts x4 R h g i).2.trans ((kHalves x4 D hD R h g i b _ hb hb').2.trans ?_))
    rw [turn1 (D R h) R.val g i b hb _ hb']

section Q

variable (x3 : Vec Ideal S1x4096x8x64 .f32) (D : Fin 4096 → Fin 8 → Fin 64 → ℝ) (hD : ∀ R h e, x3 (ix4 0 R h e) = (D R h e : EReal)) (R : Fin 4096) (h : Fin 8) (g : Fin 2) (i : Fin 16)
  (e e' : Fin 64) (he : e.val = 32 * g.val + i.val) (he' : e'.val = 32 * g.val + 16 + i.val)

include hD he he'

theorem qLanes : val_main_v146 (F := Ideal) x3 (ix5 0 R h g i) = (D R h e : EReal) ∧ val_main_v148 (F := Ideal) x3 (ix5 0 R h g i) = (D R h e' : EReal) := by
  unfold val_main_v146 val_main_v148
  refine ⟨(onePart _ _ R h g i).trans ((val_main_v145_apply x3 _).trans ?_), (onePart _ _ R h g i).trans ((val_main_v147_apply x3 _).trans ?_)⟩
  · refine Eq.trans (congrArg _ (?_ : _ = six R h g (0 : Fin 2) i)) ((parted x3 _ R h g 0 i e he).trans (hD R h e))
    funext a; fin_cases a <;> rfl
  · refine Eq.trans (congrArg _ (?_ : _ = six R h g (1 : Fin 2) i)) ((parted x3 _ R h g 1 i e' he').trans (hD R h e'))
    funext a; fin_cases a <;> rfl

theorem qFirst : val_main_v159 (F := Ideal) x3 (ix5 0 R h g i) = ((D R h e' * sinT R.val e.val + D R h e * cosT R.val e.val : ℝ) : EReal) := by
  obtain ⟨h0, h1⟩ := qLanes x3 D hD R h g i e e' he he'
  obtain ⟨⟨_, t1⟩, t2, _⟩ := tabQ R g i
  rw [← he] at t1 t2
  unfold val_main_v159 val_main_v158 val_main_v157 val_main_v152 val_main_v151
  generalize val_main_v146 (F := Ideal) x3 = y0 at *
  generalize val_main_v148 (F := Ideal) x3 = y1 at *
  generalize val_main_v77 (F := Ideal) = w1 at *
  generalize val_main_v84 (F := Ideal) = w2 at *
  pointwise
  simp only [h0, h1, t1, t2, ← EReal.coe_mul, ← EReal.coe_add]

theorem qSecond : val_main_v156 (F := Ideal) x3 (ix5 0 R h g i) = ((D R h e' * cosT R.val e.val + -D R h e * sinT R.val e.val : ℝ) : EReal) := by
  obtain ⟨h0, h1⟩ := qLanes x3 D hD R h g i e e' he he'
  obtain ⟨⟨t0, _⟩, _, t3⟩ := tabQ R g i
  rw [← he] at t0 t3
  unfold val_main_v156 val_main_v155 val_main_v154 val_main_v153 val_main_v150 val_main_v149
  generalize val_main_v146 (F := Ideal) x3 = y0 at *
  generalize val_main_v148 (F := Ideal) x3 = y1 at *
  generalize val_main_v87 (F := Ideal) = w0 at *
  generalize val_main_v80 (F := Ideal) = w3 at *
  pointwise
  simp only [h0, h1, t0, t3, ← EReal.coe_mul, ← EReal.coe_neg, ← EReal.coe_add]

omit hD he he'

theorem qParts : val_main_v164 (F := Ideal) x3 (six R h g (0 : Fin 2) i) = val_main_v159 (F := Ideal) x3 (ix5 0 R h g i)
    ∧ val_main_v164 (F := Ideal) x3 (six R h g (1 : Fin 2) i) = val_main_v156 (F := Ideal) x3 (ix5 0 R h g i) := by
  have a := padFront (val_main_v160 (F := Ideal) x3) (val_main_cst_13 (F := Ideal)) pads_S1x4096x8x2x1x16_S1x4096x8x2x2x16_000_000_000_000_100_000 h_S_ R h g i
  have b := padBehind (val_main_v162 (F := Ideal) x3) (val_main_cst_14 (F := Ideal)) pads_S1x4096x8x2x1x16_S1x4096x8x2x2x16_000_000_000_000_010_000 h_S_ R h g i
  have ea : val_main_v160 (F := Ideal) x3 (six R h g (0 : Fin 1) i) = val_main_v156 (F := Ideal) x3 (ix5 0 R h g i) :=
    (val_main_v160_apply x3 _).trans (congrArg _ (funext fun a => by fin_cases a <;> rfl))
  have eb : val_main_v162 (F := Ideal) x3 (six R h g (0 : Fin 1) i) = val_main_v159 (F := Ideal) x3 (ix5 0 R h g i) :=
    (val_main_v162_apply x3 _).trans (congrArg _ (funext fun a => by fin_cases a <;> rfl))
  refine ⟨(val_main_v164_apply x3 _).trans ?_, (val_main_v164_apply x3 _).trans ?_⟩
  · exact (congrArg₂ (· + ·) (a.1.trans of_zero) (b.1.trans eb)).trans (zero_add _)
  · exact (congrArg₂ (· + ·) (a.2.trans ea) (b.2.trans of_zero)).trans (add_zero _)

end Q

/-- The cotangent of q's normalised rows. -/
theorem v165 (x3 : Vec Ideal S1x4096x8x64 .f32) (D : Fin 4096 → Fin 8 → Fin 64 → ℝ) (hD : ∀ R h e, x3 (ix4 0 R h e) = (D R h e : EReal)) (R : Fin 4096) (h : Fin 8) (e : Fin 64) :
    val_main_v165 (F := Ideal) x3 (ix4 0 R h e) = ((D R h e * cosT R.val e.val - D R h (sw e) * sgnT R.val e.val : ℝ) : EReal) := by
  obtain ⟨g, i, b, b', hb, hb', rfl | rfl⟩ := lane_cases e
  · refine (joined _ _ R h _ g 0 i (by rw [hb]; rfl)).trans ((qParts x3 R h g i).1.trans ((qFirst x3 D hD R h g i _ b' hb hb').trans ?_))
    rw [turn0 (D R h) R.val g i _ hb b' hb']
  · refine (joined _ _ R h _ g 1 i (by rw [hb']; rfl)).trans ((qParts x3 R h g i).2.trans ((qSecond x3 D hD R h g i b _ hb hb').trans ?_))
    rw [turn1 (D R h) R.val g i b hb _ hb']

end Cert.AttnPostRefIdeal.Stages

end
-- ==== Proof.AttnPostReference.lean ====
/- The head norms' and rotary embedding's reference over real arguments, stage by stage, and that its gradients are the kernel's. -/
module

public import proofs.«01_k».proof.Proof.AttnPostRope

@[expose] public section

set_option maxRecDepth 16384

noncomputable section

namespace Cert.AttnPostRefIdeal.Stages

open Cert.AttnPostRefIdeal Cert.AttnPostRefIdeal.Gen Cert.AttnPostRefIdeal.Read Cert.AttnPostIdeal.Pay Cert.Common Idealize.ShloMosaic Idealize.ShloMosaic.Tactic

theorem of_64 : Ideal.ofBits .f32 0x42800000#32 = ((64 : ℝ) : EReal) := by
  simp [Ideal.ofBits, Ideal.ieee, -EReal.coe_mul]; norm_num

/-- A head's factor in the derivative of its mean square. -/
def half {n H : ℕ} (q : Nd n H) (r : Fin n) (h : Fin H) : ℝ := -(1 / 2) * (q.rms r h / q.ms r h)
def coef {n H : ℕ} (q : Nd n H) (r : Fin n) (h : Fin H) : ℝ := (∑ i, q.X r h i * q.gy r h i) * half q r h / 64

/-- The chain rule's gradient of a head's lanes is the kernel's form of it. -/
theorem dx_eq {n H : ℕ} (q : Nd n H) (r : Fin n) (h : Fin H) (e : Fin 64) :
    q.gy r h e * q.rms r h + q.X r h e * coef q r h + coef q r h * q.X r h e = q.dx r h e := by
  have hm := q.ms_pos r h
  have hr : q.rms r h * q.rms r h * q.ms r h = 1 := by
    have : q.rms r h = (√(q.ms r h))⁻¹ := rfl
    rw [this, ← mul_inv, Real.mul_self_sqrt hm.le, inv_mul_cancel₀ hm.ne']
  have hd : q.rms r h / q.ms r h = q.rms r h * q.rms r h * q.rms r h := by
    rw [div_eq_iff hm.ne']; linear_combination -(q.rms r h) * hr
  have hs : ∑ i, q.gy r h i * q.xh r h i = (∑ i, q.X r h i * q.gy r h i) * q.rms r h := by
    rw [Finset.sum_mul]; exact Finset.sum_congr rfl fun i _ => by unfold Nd.xh; ring
  unfold Nd.dx coef half
  rw [hd, hs]
  unfold Nd.xh
  ring

variable (a : Args) (z : Vec Ideal S1x4096x5376 .f32) (gq gk : Vec Ideal S64 .f32) (dq : Vec Ideal S1x4096x8x64 .f32) (dk dv : Vec Ideal S1x4096x2x64 .f32) (ha : a.On z gq gk dq dk dv)

include ha

theorem v36 (R : Fin 4096) (h : Fin 8) (e : Fin 64) : val_main_v36 (F := Ideal) z (ix4 0 R h e) = (a.q.X R h e : EReal) := by
  pointwise [val_main_v36, val_main_v32]
  refine (congrArg (fun x => z (ix3 0 R x)) (Fin.ext ?_)).trans (ha.z R ⟨64 * h.val + e.val, by omega⟩)
  show h.val * 64 + e.val = 64 * h.val + e.val
  omega

theorem v53 (R : Fin 4096) (h : Fin 2) (e : Fin 64) : val_main_v53 (F := Ideal) z (ix4 0 R h e) = (a.k.X R h e : EReal) := by
  pointwise [val_main_v53, val_main_v33]
  refine (congrArg (fun x => z (ix3 0 R x)) (Fin.ext ?_)).trans (ha.z R ⟨512 + (64 * h.val + e.val), by omega⟩)
  show 512 + (h.val * 64 + e.val) = 512 + (64 * h.val + e.val)
  omega

theorem v43 (R : Fin 4096) (h : Fin 8) : val_main_v43 (F := Ideal) z (ix4 0 R h 0) = (a.q.ms R h : EReal) := by
  have h0 := v36 a z gq gk dq dk dv ha R h
  unfold val_main_v43 val_main_v41 val_main_v39 val_main_v38 val_main_v37
  generalize val_main_v36 (F := Ideal) z = y at *
  pointwise [val_main_v42, val_main_v40, val_main_cst_3, val_main_cst_4, val_main_cst_5]
  simp only [h0, of_zero, of_64, of_eps, ← EReal.coe_mul, coe_sum, ← EReal.coe_add, div_real _ (show (64 : ℝ) ≠ 0 by norm_num), zero_add]
  rfl

theorem v60 (R : Fin 4096) (h : Fin 2) : val_main_v60 (F := Ideal) z (ix4 0 R h 0) = (a.k.ms R h : EReal) := by
  have h0 := v53 a z gq gk dq dk dv ha R h
  unfold val_main_v60 val_main_v58 val_main_v56 val_main_v55 val_main_v54
  generalize val_main_v53 (F := Ideal) z = x at *
  pointwise [val_main_v59, val_main_v57, val_main_cst_7, val_main_cst_8, val_main_cst_9]
  simp only [h0, of_zero, of_64, of_eps, ← EReal.coe_mul, coe_sum, zero_add, div_real _ (show (64 : ℝ) ≠ 0 by norm_num), ← EReal.coe_add]
  rfl

theorem v44 (R : Fin 4096) (h : Fin 8) : val_main_v44 (F := Ideal) z (ix4 0 R h 0) = (a.q.rms R h : EReal) := by
  have h0 := v43 a z gq gk dq dk dv ha R h
  unfold val_main_v44
  generalize val_main_v43 (F := Ideal) z = y at *
  pointwise
  rw [h0, rsqrt_real (a.q.ms_pos _ _)]; rfl

theorem v61 (R : Fin 4096) (h : Fin 2) : val_main_v61 (F := Ideal) z (ix4 0 R h 0) = (a.k.rms R h : EReal) := by
  have h0 := v60 a z gq gk dq dk dv ha R h
  unfold val_main_v61
  generalize val_main_v60 (F := Ideal) z = x at *
  pointwise
  rw [h0, rsqrt_real (a.k.ms_pos _ _)]; rfl

theorem v47 (R : Fin 4096) (h : Fin 8) : val_main_v47 (F := Ideal) z (ix4 0 R h 0) = (half a.q R h : EReal) := by
  have h0 := v43 a z gq gk dq dk dv ha R h
  have h1 := v44 a z gq gk dq dk dv ha R h
  unfold val_main_v47 val_main_v45
  generalize val_main_v43 (F := Ideal) z = y at *
  generalize val_main_v44 (F := Ideal) z = y' at *
  pointwise [val_main_v46, val_main_cst_6]
  rw [h0, h1, div_real _ (a.q.ms_pos _ _).ne', of_neg_half, ← EReal.coe_mul]; rfl

theorem v64 (R : Fin 4096) (h : Fin 2) : val_main_v64 (F := Ideal) z (ix4 0 R h 0) = (half a.k R h : EReal) := by
  have h0 := v60 a z gq gk dq dk dv ha R h
  have h1 := v61 a z gq gk dq dk dv ha R h
  unfold val_main_v64 val_main_v62
  generalize val_main_v60 (F := Ideal) z = x at *
  generalize val_main_v61 (F := Ideal) z = x' at *
  pointwise [val_main_v63, val_main_cst_10]
  rw [h0, h1, div_real _ (a.k.ms_pos _ _).ne', of_neg_half, ← EReal.coe_mul]; rfl

/-- The gain's gradient, head by head. -/
theorem v189 (h : Fin 8) (e : Fin 64) : val_main_v189 (F := Ideal) z dq (ix3 0 h e) = ((∑ R, a.q.eg R h e : ℝ) : EReal) := by
  have h0 := fun R => v36 a z gq gk dq dk dv ha R h e
  have h1 := fun R => v44 a z gq gk dq dk dv ha R h
  have h2 := fun R => v165 dq a.DQ ha.dq R h e
  unfold val_main_v189 val_main_v188 val_main_v49 val_main_v48
  generalize val_main_v36 (F := Ideal) z = y at *
  generalize val_main_v44 (F := Ideal) z = y' at *
  generalize val_main_v165 (F := Ideal) dq = w at *
  pointwise [val_main_cst_20]
  simp only [h0, h1, h2, of_zero, ← EReal.coe_mul, coe_sum, ← EReal.coe_add, zero_add]
  exact congrArg (fun x : ℝ => (x : EReal)) (Finset.sum_congr rfl fun R _ => mul_comm _ _)

theorem v167 (h : Fin 2) (e : Fin 64) : val_main_v167 (F := Ideal) z dk (ix3 0 h e) = ((∑ R, a.k.eg R h e : ℝ) : EReal) := by
  have h0 := fun R => v53 a z gq gk dq dk dv ha R h e
  have h1 := fun R => v61 a z gq gk dq dk dv ha R h
  have h2 := fun R => v143 dk a.DK ha.dk R h e
  unfold val_main_v167 val_main_v166 val_main_v66 val_main_v65
  generalize val_main_v53 (F := Ideal) z = x at *
  generalize val_main_v61 (F := Ideal) z = x' at *
  generalize val_main_v143 (F := Ideal) dk = w at *
  pointwise [val_main_cst_15]
  simp only [h0, h1, h2, of_zero, ← EReal.coe_mul, coe_sum, ← EReal.coe_add, zero_add]
  exact congrArg (fun x : ℝ => (x : EReal)) (Finset.sum_congr rfl fun R _ => mul_comm _ _)

theorem v215 (j : Fin 512) : val_main_v215 (F := Ideal) z dq (ix2 0 j) = ((∑ R, a.q.eg R ⟨j.val / 64, by omega⟩ ⟨j.val % 64, by omega⟩ : ℝ) : EReal) := by
  have h := v189 a z gq gk dq dk dv ha ⟨j.val / 64, by omega⟩ ⟨j.val % 64, by omega⟩
  unfold val_main_v215 val_main_v193 val_main_v190
  generalize val_main_v189 (F := Ideal) z dq = y at *
  pointwise
  rw [hostReduceAdd_one _ _ _ _ (ix4 0 0 ⟨j.val / 64, by omega⟩ ⟨j.val % 64, by omega⟩)]
  · pointwise [val_main_cst_21]
    exact h
  · refine fun i => ⟨fun e => funext fun k => ?_, ?_⟩
    · fin_cases k
      · exact Subsingleton.elim (α := Fin 1) _ _
      · exact Subsingleton.elim (α := Fin 1) _ _
      · exact congrFun e 0
      · exact congrFun e 1
    · rintro rfl
      funext k; fin_cases k <;> rfl

theorem v216 (j : Fin 128) : val_main_v216 (F := Ideal) z dk (ix2 0 j) = ((∑ R, a.k.eg R ⟨j.val / 64, by omega⟩ ⟨j.val % 64, by omega⟩ : ℝ) : EReal) := by
  have h := v167 a z gq gk dq dk dv ha ⟨j.val / 64, by omega⟩ ⟨j.val % 64, by omega⟩
  unfold val_main_v216 val_main_v171 val_main_v168
  generalize val_main_v167 (F := Ideal) z dk = y at *
  pointwise
  rw [hostReduceAdd_one _ _ _ _ (ix4 0 0 ⟨j.val / 64, by omega⟩ ⟨j.val % 64, by omega⟩)]
  · pointwise [val_main_cst_16]
    exact h
  · intro i
    constructor
    · intro e
      funext k
      fin_cases k
      · exact Subsingleton.elim (α := Fin 1) _ _
      · exact Subsingleton.elim (α := Fin 1) _ _
      · exact congrFun e 0
      · exact congrFun e 1
    · rintro rfl
      funext k; fin_cases k <;> rfl

/-- The cotangent of the normalised rows under the gain. -/
theorem v192 (R : Fin 4096) (h : Fin 8) (e : Fin 64) : val_main_v192 (F := Ideal) gq dq (ix4 0 R h e) = (a.q.gy R h e : EReal) := by
  have h2 := v165 dq a.DQ ha.dq R h e
  unfold val_main_v192
  generalize val_main_v165 (F := Ideal) dq = w at *
  pointwise [val_main_v191, val_main_v50, val_main_v30]
  rw [h2, ha.gq, ← EReal.coe_mul]; rfl

theorem v170 (R : Fin 4096) (h : Fin 2) (e : Fin 64) : val_main_v170 (F := Ideal) gk dk (ix4 0 R h e) = (a.k.gy R h e : EReal) := by
  have h2 := v143 dk a.DK ha.dk R h e
  unfold val_main_v170
  generalize val_main_v143 (F := Ideal) dk = w at *
  pointwise [val_main_v169, val_main_v67, val_main_v31]
  rw [h2, ha.gk, ← EReal.coe_mul]; rfl

theorem v201 (R : Fin 4096) (h : Fin 8) : val_main_v201 (F := Ideal) z gq dq (ix4 0 R h 0) = (coef a.q R h : EReal) := by
  have h0 := v36 a z gq gk dq dk dv ha R h
  have h1 := v192 a z gq gk dq dk dv ha R h
  have h2 := v47 a z gq gk dq dk dv ha R h
  unfold val_main_v201 val_main_v199 val_main_v196 val_main_v195 val_main_v194
  generalize val_main_v36 (F := Ideal) z = y at *
  generalize val_main_v192 (F := Ideal) gq dq = w at *
  generalize val_main_v47 (F := Ideal) z = y' at *
  pointwise [val_main_v200, val_main_cst_23, val_main_cst_22]
  simp only [h0, h1, h2, of_zero, of_64, ← EReal.coe_mul, coe_sum, zero_add, div_real _ (show (64 : ℝ) ≠ 0 by norm_num)]
  rfl

theorem v179 (R : Fin 4096) (h : Fin 2) : val_main_v179 (F := Ideal) z gk dk (ix4 0 R h 0) = (coef a.k R h : EReal) := by
  have h0 := v53 a z gq gk dq dk dv ha R h
  have h1 := v170 a z gq gk dq dk dv ha R h
  have h2 := v64 a z gq gk dq dk dv ha R h
  unfold val_main_v179 val_main_v177 val_main_v174 val_main_v173 val_main_v172
  generalize val_main_v53 (F := Ideal) z = x at *
  generalize val_main_v170 (F := Ideal) gk dk = w at *
  generalize val_main_v64 (F := Ideal) z = x' at *
  pointwise [val_main_v178, val_main_cst_18, val_main_cst_17]
  simp only [h0, h1, h2, of_zero, of_64, ← EReal.coe_mul, coe_sum, zero_add, div_real _ (show (64 : ℝ) ≠ 0 by norm_num)]
  rfl

theorem v202 (R : Fin 4096) (h : Fin 8) : val_main_v202 (F := Ideal) z gq dq (ix2 R h) = (coef a.q R h : EReal) := by
  have h0 := v201 a z gq gk dq dk dv ha R h
  unfold val_main_v202
  generalize val_main_v201 (F := Ideal) z gq dq = y at *
  pointwise
  rw [hostReduceAdd_one _ _ _ _ (ix4 0 R h 0), h0]
  · pointwise [val_main_cst_24]
  · refine fun i => ⟨fun e => funext fun k => ?_, ?_⟩
    · fin_cases k
      · exact Subsingleton.elim (α := Fin 1) _ _
      · exact congrFun e 0
      · exact congrFun e 1
      · exact Subsingleton.elim (α := Fin 1) _ _
    · rintro rfl
      funext k; fin_cases k <;> rfl

theorem v180 (R : Fin 4096) (h : Fin 2) : val_main_v180 (F := Ideal) z gk dk (ix2 R h) = (coef a.k R h : EReal) := by
  have h0 := v179 a z gq gk dq dk dv ha R h
  unfold val_main_v180
  generalize val_main_v179 (F := Ideal) z gk dk = x at *
  pointwise
  rw [hostReduceAdd_one _ _ _ _ (ix4 0 R h 0), h0]
  · pointwise [val_main_cst_19]
  · intro i
    constructor
    · intro e
      funext k
      fin_cases k
      · exact Subsingleton.elim (α := Fin 1) _ _
      · exact congrFun e 0
      · exact congrFun e 1
      · exact Subsingleton.elim (α := Fin 1) _ _
    · rintro rfl
      funext k; fin_cases k <;> rfl

/-- The gradient of a head's lanes. -/
theorem v208 (R : Fin 4096) (h : Fin 8) (e : Fin 64) : val_main_v208 (F := Ideal) z gq dq (ix4 0 R h e) = (a.q.dx R h e : EReal) := by
  have h0 := v36 a z gq gk dq dk dv ha R h e
  have h1 := v44 a z gq gk dq dk dv ha R h
  have h2 := v192 a z gq gk dq dk dv ha R h e
  have h3 := v202 a z gq gk dq dk dv ha R h
  unfold val_main_v208 val_main_v207 val_main_v206 val_main_v205 val_main_v204 val_main_v203 val_main_v198 val_main_v197
  generalize val_main_v36 (F := Ideal) z = y0 at *
  generalize val_main_v44 (F := Ideal) z = y1 at *
  generalize val_main_v192 (F := Ideal) gq dq = y2 at *
  generalize val_main_v202 (F := Ideal) z gq dq = y3 at *
  pointwise
  simp only [h0, h1, h2, h3, ← EReal.coe_mul, ← EReal.coe_add]
  rw [dx_eq]

theorem v186 (R : Fin 4096) (h : Fin 2) (e : Fin 64) : val_main_v186 (F := Ideal) z gk dk (ix4 0 R h e) = (a.k.dx R h e : EReal) := by
  have h0 := v53 a z gq gk dq dk dv ha R h e
  have h1 := v61 a z gq gk dq dk dv ha R h
  have h2 := v170 a z gq gk dq dk dv ha R h e
  have h3 := v180 a z gq gk dq dk dv ha R h
  unfold val_main_v186 val_main_v185 val_main_v184 val_main_v183 val_main_v182 val_main_v181 val_main_v176 val_main_v175
  generalize val_main_v53 (F := Ideal) z = x0 at *
  generalize val_main_v61 (F := Ideal) z = x1 at *
  generalize val_main_v170 (F := Ideal) gk dk = x2 at *
  generalize val_main_v180 (F := Ideal) z gk dk = x3 at *
  pointwise
  simp only [h0, h1, h2, h3, ← EReal.coe_mul, ← EReal.coe_add]
  rw [dx_eq]

/-- The reference's gradient of the projection's columns of q, k and v. -/
theorem v214 (R : Fin 4096) (j : Fin 768) : (val_main_v214 (F := Ideal) z gq gk dq dk dv (ix2 R j) : EReal) = (a.dz R j : EReal) := by
  have h0 := v208 a z gq gk dq dk dv ha R
  have h1 := v186 a z gq gk dq dk dv ha R
  have h2 := ha.dv R
  unfold val_main_v214 val_main_v213 val_main_v210 val_main_v211 val_main_v212 val_main_v209 val_main_v187 val_main_v121
  generalize val_main_v208 (F := Ideal) z gq dq = y0 at *
  generalize val_main_v186 (F := Ideal) z gk dk = y1 at *
  pointwise
  unfold Args.dz
  by_cases c0 : j.val < 512
  · rw [dif_pos c0, dif_pos c0]
    exact h0 _ _
  · rw [dif_neg c0, dif_neg c0]
    by_cases c1 : j.val < 640
    · rw [dif_pos (show j.val - 512 < 128 by omega), dif_pos c1]
      exact h1 _ _
    · rw [dif_neg (show ¬ j.val - 512 < 128 by omega), dif_neg c1]
      refine (h2 _ _).trans (congrArg₂ (fun x y => (a.DV R x y : EReal)) (Fin.ext ?_) (Fin.ext ?_))
      · show (j.val - 512 - 128) / 64 = (j.val - 640) / 64; omega
      · show (j.val - 512 - 128) % 64 = (j.val - 640) % 64; omega

omit ha in
/-- Where the precondition holds of the arguments, they are real. -/
theorem args_of_finite [Cert.Pre_post_finite.Facts] (h : Cert.Pre_post_finite.fn (F := Ideal) z gq gk dq dk dv = fun _ => 1#1) : ∃ a : Args, a.On z gq gk dq dk dv := by
  have h1 := congrFun h (fun k => k.elim0)
  unfold Cert.Pre_post_finite.fn Cert.Pre_post_finite.fn_part1 at h1
  dsimp only at h1
  haveI : Subsingleton (Cert.Pre_post_finite.S_).Idx := ⟨fun p q => funext fun k => k.elim0⟩
  obtain ⟨h1, h6⟩ := andi_split h1
  obtain ⟨h1, h5⟩ := andi_split h1
  obtain ⟨h1, h4⟩ := andi_split h1
  obtain ⟨h1, h3⟩ := andi_split h1
  obtain ⟨h1, h2⟩ := andi_split h1
  choose Z hZ using fun R j => real_of_all _ _ _ _ _ h1 (ix3 0 R j)
  choose GQ hGQ using fun e => real_of_all _ _ _ _ _ h2 (ix1 e)
  choose GK hGK using fun e => real_of_all _ _ _ _ _ h3 (ix1 e)
  choose DQ hDQ using fun R h e => real_of_all _ _ _ _ _ h4 (ix4 0 R h e)
  choose DK hDK using fun R h e => real_of_all _ _ _ _ _ h5 (ix4 0 R h e)
  choose DV hDV using fun R h e => real_of_all _ _ _ _ _ h6 (ix4 0 R h e)
  exact ⟨⟨Z, GQ, GK, DQ, DK, DV⟩, hZ, hGQ, hGK, hDQ, hDK, hDV⟩

end Cert.AttnPostRefIdeal.Stages

namespace Cert.AttnPostProof

open Cert.AttnPostIdeal.Pay Cert.AttnPostRefIdeal.Stages Idealize.ShloMosaic Idealize.ShloMosaic.TcCoe Idealize.SL.Sem

set_option maxHeartbeats 8000000 in
theorem algebraic [Cert.Pre_post_finite.Facts] : Cert.algebraic_AttnPostIdeal_AttnPostRefIdeal_pre_post_finite := by
  intro m ρ m' ρ' hpre hargs
  refine ⟨_, _, _, Cert.AttnPostIdeal.Value.run_blocks m ρ, ?_⟩
  refine (θ_run _ _ _).mono (fun r h c => ?_) (Cert.AttnPostRefIdeal.Value.run (F := Ideal) m' ρ')
  obtain ⟨h0, h1, h2, hk⟩ := h c
  obtain ⟨a, ha⟩ := args_of_finite _ _ _ _ _ _ (hpre c)
  obtain ⟨e0, e1, e2, e3, e4, e5⟩ := hargs c
  have ha' := ha
  rw [← e0, ← e1, ← e2, ← e3, ← e4, ← e5] at ha'
  refine ⟨h0.trans ?_, h1.trans ?_, h2.trans ?_, hk⟩
  · refine (Cert.AttnPostRefIdeal.Read.val_main_v214_eq _).trans (Eq.trans ?_ (Cert.AttnPostIdeal.Value.final10 m c).symm)
    funext i
    obtain ⟨R, j, rfl⟩ : ∃ R j, i = ix2 R j := ⟨i 0, i 1, (ix2_eta i).symm⟩
    exact (v214 a _ _ _ _ _ _ ha' R j).trans (G10_apply m c a ha R j).symm
  · refine (Cert.AttnPostRefIdeal.Read.val_main_v215_eq _).trans (Eq.trans ?_ (Cert.AttnPostIdeal.Value.final11 m c).symm)
    funext i
    obtain ⟨j, rfl⟩ : ∃ j, i = ix2 0 j := ⟨i 1, (eq_ix2 i).trans (congrArg (fun x => ix2 x (i 1)) (Subsingleton.elim (α := Fin 1) _ _))⟩
    exact (v215 a _ _ _ _ _ _ ha' j).trans (G11_apply m c a ha j).symm
  · refine (Cert.AttnPostRefIdeal.Read.val_main_v216_eq _).trans (Eq.trans ?_ (Cert.AttnPostIdeal.Value.final12 m c).symm)
    funext i
    obtain ⟨j, rfl⟩ : ∃ j, i = ix2 0 j := ⟨i 1, (eq_ix2 i).trans (congrArg (fun x => ix2 x (i 1)) (Subsingleton.elim (α := Fin 1) _ _))⟩
    exact (v216 a _ _ _ _ _ _ ha' j).trans (G12_apply m c a ha j).symm

end Cert.AttnPostProof

end
-- ==== Proof.InBwdState.lean ====
/- What each grid point of the input norm's gradient leaves: its rows' gradient, the running partial sums of the
   gain's gradient, and at the last point the gain's gradient; then the blocks the points read, from the arguments. -/
module

public import proofs.«01_k».proof.Proof.InBwdPay

@[expose] public section

set_option maxRecDepth 16384

noncomputable section

namespace Cert.InBwdIdeal.Pay

open Cert.InBwdIdeal Cert.InBwdIdeal.Gen Cert.InBwdIdeal.Value Cert.Common Idealize.ShloMosaic Idealize.ShloMosaic.TcCoe Idealize.SL.Sem Idealize.ShloMosaic.Tactic

variable (m : (ℓ : Loc nD τ sig) → Buf (Elt Ideal) ℓ) (c : Dev nD)

theorem hz : (![0, 0] : Fin 2 → Nat) = fun _ => 0 := funext fun a => by fin_cases a <;> rfl

/-- The carried state: a block of rows, the gain's gradient, the partial sums. -/
abbrev St : Type := Vec Ideal S256x1024 .f32 × Vec Ideal S1x1024 .f32 × Vec Ideal S8x1024 .f32

/-- The tile's cotangent of the normalised rows at a point. -/
def dhAt (t : Fin cfg0.N) : FVec Ideal S256x1024 .f32 :=
  dhT (iblk m c 3 t) (iblk m c 4 t) (iblk m c 5 t) (iblk m c 6 t) (iblk m c 7 t) (iblk m c 8 t)

/-- The rows' gradient a point stores. -/
def dxAt (t : Fin cfg0.N) : FVec Ideal S256x1024 .f32 :=
  k0_pay10 (k0_pay4 (iblk m c 4 t) (View.ld (iblk m c 3 t) (Rect.unit ![0, 0] ![768, 1024] inb_S5376x1024_S768x1024_0_0))
     (View.ld (iblk m c 5 t) (Rect.unit ![0, 0] ![256, 512] inb_S256x3072_S256x512_0_0)) (View.ld (iblk m c 3 t) (Rect.unit ![768, 0] ![512, 1024] inb_S5376x1024_S512x1024_768_0)) (iblk m c 6 t)
     (View.ld (iblk m c 3 t) (Rect.unit ![1280, 0] ![512, 1024] inb_S5376x1024_S512x1024_1280_0)) (iblk m c 7 t) (View.ld (iblk m c 3 t) (Rect.unit ![1792, 0] ![512, 1024] inb_S5376x1024_S512x1024_1792_0)))
   (k0_pay5 (iblk m c 8 t)) (View.ld (iblk m c 3 t) (Rect.unit ![2304, 0] ![512, 1024] inb_S5376x1024_S512x1024_2304_0)) (View.ld (iblk m c 5 t) (Rect.unit ![0, 512] ![256, 2560] inb_S256x3072_S256x2560_0_512))
   (View.ld (iblk m c 3 t) (Rect.unit ![2816, 0] ![2560, 1024] inb_S5376x1024_S2560x1024_2816_0)) (iblk m c 1 t) (iblk m c 2 t) (iblk m c 0 t)

theorem N16 (t : Fin cfg0.N) : t.val < 16 := lt_of_lt_of_eq t.isLt N_0

/-- The partial sums a point adds to. -/
def accIn (t : Fin cfg0.N) (acc : St) : Vec Ideal S8x1024 .f32 := if t.val % 16 = 0 then k0_pay3 (F := Ideal) else acc.2.2

/-- What every point leaves: its rows' gradient, the running partial sums, and the gain's gradient at the last point. -/
theorem st_eq (t : Fin cfg0.N) (acc : St) : (stAt0 m c t.val t.isLt acc).1 = dxAt m c t
    ∧ (stAt0 m c t.val t.isLt acc).2.2 = k0_pay1 (dhAt m c t) (k0_pay9 (iblk m c 1 t)) (accIn t acc)
    ∧ (t.val % 16 = 15 → (stAt0 m c t.val t.isLt acc).2.1 = k0_pay2 (k0_pay1 (dhAt m c t) (k0_pay9 (iblk m c 1 t)) (accIn t acc))) := by
  by_cases h0 : t.val % 16 = 0
  · have h1 : ¬ t.val % 16 = 15 := by omega
    refine ⟨?_, ?_, fun h => absurd h h1⟩ <;> rw [stAt0_A m c t acc h0 h1] <;> dsimp only
    on_goal 1 => unfold out0_A_9; rw [View.read_writes_eq_canon _ _ _ (by apply cover0_A_9)]
    on_goal 2 => unfold sout0_A_0 accIn; rw [if_pos h0, View.read_writes_eq_canon _ _ _ (by apply scover0_A_0)]
    all_goals unfold kernelRun0_A; dsimp only; sl_unfold_words
    on_goal 1 => rw [View.canon_unit_zero hz]
    on_goal 2 => rw [View.canon_cons_unit_zero (S := S8x1024) hz, View.readCov_unit_zero (S := S8x1024) _ hz]
    all_goals (simp only [View.readAt_eq_ld, (hs0_0 t).read_unread, (hs0_1 t).read_unread, (hs0_2 t).read_unread, (hs0_3 t).read_unread, (hs0_4 t).read_unread, (hs0_5 t).read_unread, (hs0_6 t).read_unread, (hs0_7 t).read_unread, (hs0_8 t).read_unread, (Memref.isWhole_whole (sig := sig) _).read_unread, View.ld_unit_zero (S := S256x1024) hz, View.ld_unit_zero (S := S256x768) hz, View.ld_unit_zero (S := S256x512) hz, View.ld_unit_zero (S := S1x1024) hz, View.ld_unit_zero (S := S8x1024) hz, shapeCast_self]; rfl)
  by_cases h1 : t.val % 16 = 15
  · refine ⟨?_, ?_, fun _ => ?_⟩ <;> rw [stAt0_C m c t acc h0 h1] <;> dsimp only
    on_goal 1 => unfold out0_C_9; rw [View.read_writes_eq_canon _ _ _ (by apply cover0_C_9)]
    on_goal 2 => unfold sout0_C_0 accIn; rw [if_neg h0, View.read_writes_eq_canon _ _ _ (by apply scover0_C_0)]
    on_goal 3 => unfold out0_C_10 accIn; rw [if_neg h0, View.read_writes_eq_canon _ _ _ (by apply cover0_C_10)]
    all_goals unfold kernelRun0_C; dsimp only; sl_unfold_words; rw [View.canon_unit_zero hz]
    on_goal 3 => rw [View.readCov_unit_zero (S := S8x1024) _ hz]
    all_goals (simp only [View.readAt_eq_ld, (hs0_0 t).read_unread, (hs0_1 t).read_unread, (hs0_2 t).read_unread, (hs0_3 t).read_unread, (hs0_4 t).read_unread, (hs0_5 t).read_unread, (hs0_6 t).read_unread, (hs0_7 t).read_unread, (hs0_8 t).read_unread, (Memref.isWhole_whole (sig := sig) _).read_unread, View.ld_unit_zero (S := S256x1024) hz, View.ld_unit_zero (S := S256x768) hz, View.ld_unit_zero (S := S256x512) hz, View.ld_unit_zero (S := S1x1024) hz, View.ld_unit_zero (S := S8x1024) hz, shapeCast_self]; rfl)
  · refine ⟨?_, ?_, fun h => absurd h h1⟩ <;> rw [stAt0_B m c t acc h0 h1] <;> dsimp only
    on_goal 1 => unfold out0_B_9; rw [View.read_writes_eq_canon _ _ _ (by apply cover0_B_9)]
    on_goal 2 => unfold sout0_B_0 accIn; rw [if_neg h0, View.read_writes_eq_canon _ _ _ (by apply scover0_B_0)]
    all_goals unfold kernelRun0_B; dsimp only; sl_unfold_words; rw [View.canon_unit_zero hz]
    all_goals (simp only [View.readAt_eq_ld, (hs0_0 t).read_unread, (hs0_1 t).read_unread, (hs0_2 t).read_unread, (hs0_3 t).read_unread, (hs0_4 t).read_unread, (hs0_5 t).read_unread, (hs0_6 t).read_unread, (hs0_7 t).read_unread, (hs0_8 t).read_unread, (Memref.isWhole_whole (sig := sig) _).read_unread, View.ld_unit_zero (S := S256x1024) hz, View.ld_unit_zero (S := S256x768) hz, View.ld_unit_zero (S := S256x512) hz, View.ld_unit_zero (S := S1x1024) hz, View.ld_unit_zero (S := S8x1024) hz, shapeCast_self]; rfl)

theorem idx : ∀ t : Fin cfg0.N, win0_0.index t = ![t.val, 0] ∧ win0_1.index t = ![t.val, 0] ∧ win0_2.index t = ![0, 0] ∧ win0_3.index t = ![0, 0]
    ∧ win0_4.index t = ![t.val, 0] ∧ win0_5.index t = ![t.val, 0] ∧ win0_6.index t = ![t.val, 0] ∧ win0_7.index t = ![t.val, 0] ∧ win0_8.index t = ![t.val, 0] :=
  (by decide +kernel : ∀ t : Fin grid0.N, _)

/-- The row of the arrays that row `r` of point `t`'s blocks is. -/
def row (t : Fin cfg0.N) (r : Fin 256) : Fin 4096 := ⟨256 * t.val + r.val, by have := N16 t; omega⟩

theorem row_val (t : Fin cfg0.N) (r : Fin 256) : (row t r).val = 256 * t.val + r.val := rfl

/-- The blocks a point reads, from the arrays the host prepared. -/
theorem blocks (t : Fin cfg0.N) :
    (∀ r l, iblk m c 0 t (ix2 r l) = V m c main_v8 (ix2 (row t r) l)) ∧ (∀ r l, iblk m c 1 t (ix2 r l) = V m c main_v9 (ix2 (row t r) l))
    ∧ (∀ l, iblk m c 2 t (ix2 0 l) = V m c main_v10 (ix2 0 l)) ∧ (∀ j l, iblk m c 3 t (ix2 j l) = V m c main_v1 (ix2 j l))
    ∧ (∀ r j, iblk m c 4 t (ix2 r j) = V m c main_v11 (ix2 (row t r) j)) ∧ (∀ r j, iblk m c 5 t (ix2 r j) = V m c main_v7 (ix2 (row t r) j))
    ∧ (∀ r j, iblk m c 6 t (ix2 r j) = V m c main_v12 (ix2 (row t r) j)) ∧ (∀ r j, iblk m c 7 t (ix2 r j) = V m c main_v13 (ix2 (row t r) j))
    ∧ (∀ r j, iblk m c 8 t (ix2 r j) = V m c main_v14 (ix2 (row t r) j)) := by
  refine ⟨?_, ?_, ?_, ?_, ?_, ?_, ?_, ?_, ?_⟩ <;> intros <;> blk_ext [iblk, idx t, row_val t]

/-- The host's arrays, from the arguments. -/
theorem hosts :
    (∀ R l, V m c main_v8 (ix2 R l) = m ((c : Thread nD τ).loc main_arg4) (ix3 0 R l)) ∧ (∀ R l, V m c main_v9 (ix2 R l) = m ((c : Thread nD τ).loc main_arg0) (ix3 0 R l))
    ∧ (∀ l, V m c main_v10 (ix2 0 l) = m ((c : Thread nD τ).loc main_arg1) (ix1 l)) ∧ (∀ j l, V m c main_v1 (ix2 j l) = m ((c : Thread nD τ).loc main_arg2) (ix2 l j))
    ∧ (∀ R (j : Fin 768), V m c main_v11 (ix2 R j) = m ((c : Thread nD τ).loc main_arg3) (ix3 0 R ⟨j.val, by omega⟩))
    ∧ (∀ R (j : Fin 512), V m c main_v12 (ix2 R j) = m ((c : Thread nD τ).loc main_arg3) (ix3 0 R ⟨1280 + j.val, by omega⟩))
    ∧ (∀ R (j : Fin 512), V m c main_v13 (ix2 R j) = m ((c : Thread nD τ).loc main_arg3) (ix3 0 R ⟨1792 + j.val, by omega⟩))
    ∧ (∀ R (j : Fin 512), V m c main_v14 (ix2 R j) = m ((c : Thread nD τ).loc main_arg3) (ix3 0 R ⟨2304 + j.val, by omega⟩)) := by
  refine ⟨?_, ?_, ?_, ?_, ?_, ?_, ?_, ?_⟩ <;> intros <;> unfold V <;> after_reads_at

theorem host7a (R) (j : Fin 512) : V m c main_v7 (ix2 R ⟨j.val, by omega⟩) = m ((c : Thread nD τ).loc main_arg3) (ix3 0 R ⟨768 + j.val, by omega⟩) := by
  unfold V; after_reads_at
  after_reads_at

theorem host7b (R) (j : Fin 2560) : V m c main_v7 (ix2 R ⟨512 + j.val, by omega⟩) = m ((c : Thread nD τ).loc main_arg3) (ix3 0 R ⟨2816 + j.val, by omega⟩) := by
  unfold V; after_reads_at
  split <;> after_reads_at
  rename_i h
  have e : 3328 + (j.val - 512) = 2816 + j.val := by omega
  simp only [e]

/-- After any point the block of rows is that point's. -/
theorem outs_dx (n : ℕ) (hn : n < cfg0.N) : (outsAt0 m c n hn).1 = dxAt m c ⟨n, hn⟩ := by
  cases n with
  | zero => rw [outsAt0_zero, (st_eq m c ⟨0, hn⟩ junk0).1]
  | succ n => rw [outsAt0_succ, (st_eq m c ⟨n + 1, hn⟩ _).1]

end Cert.InBwdIdeal.Pay

end
-- ==== Proof.InBwdKernel.lean ====
/- What the input norm's gradient kernel computes over real arguments, in closed form. -/
module

public import proofs.«01_k».proof.Proof.InBwdState

@[expose] public section

set_option maxRecDepth 16384

noncomputable section

namespace Cert.InBwdIdeal.Pay

open Cert.InBwdIdeal Cert.InBwdIdeal.Gen Cert.InBwdIdeal.Value Cert.Common Idealize.ShloMosaic Idealize.ShloMosaic.TcCoe Idealize.SL.Sem Idealize.ShloMosaic.Tactic

/-- Real arguments: the rows, the gain, the weight, the projection's gradient, the residual's gradient. -/
structure Args where
  X : Fin 4096 → Fin 1024 → ℝ
  G : Fin 1024 → ℝ
  W : Fin 1024 → Fin 5376 → ℝ
  DZ : Fin 4096 → Fin 5376 → ℝ
  DXO : Fin 4096 → Fin 1024 → ℝ

/-- The gradient of the normalised rows. -/
def Args.dh (a : Args) (R : Fin 4096) (l : Fin 1024) : ℝ := ∑ j, a.DZ R j * a.W l j

/-- What the kernel stores for a row. -/
def Args.dx (a : Args) (R : Fin 4096) (l : Fin 1024) : ℝ := dxRow (a.X R) a.G (a.dh R) (a.DXO R) l

/-- A row's share of the gain's gradient. -/
def Args.e (a : Args) (R : Fin 4096) (l : Fin 1024) : ℝ := a.dh R l * (a.X R l * rms (a.X R))

/-- The arguments in memory are these reals. -/
structure Args.On (a : Args) (x : Vec Ideal S1x4096x1024 .f32) (g : Vec Ideal S1024 .f32) (w : Vec Ideal S1024x5376 .f32)
    (dz : Vec Ideal S1x4096x5376 .f32) (dxo : Vec Ideal S1x4096x1024 .f32) : Prop where
  x : ∀ R l, x (ix3 0 R l) = (a.X R l : EReal)
  g : ∀ l, g (ix1 l) = (a.G l : EReal)
  w : ∀ l j, w (ix2 l j) = (a.W l j : EReal)
  dz : ∀ R j, dz (ix3 0 R j) = (a.DZ R j : EReal)
  dxo : ∀ R l, dxo (ix3 0 R l) = (a.DXO R l : EReal)

variable (m : (ℓ : Loc nD τ sig) → Buf (Elt Ideal) ℓ) (c : Dev nD) (a : Args)
  (ha : a.On (m ((c : Thread nD τ).loc main_arg0)) (m ((c : Thread nD τ).loc main_arg1)) (m ((c : Thread nD τ).loc main_arg2)) (m ((c : Thread nD τ).loc main_arg3))
    (m ((c : Thread nD τ).loc main_arg4)))

include ha

theorem dhAt_apply (t : Fin cfg0.N) (r : Fin 256) (l : Fin 1024) : dhAt m c t (ix2 r l) = (a.dh (row t r) l : EReal) := by
  obtain ⟨-, -, -, b3, b4, b5, b6, b7, b8⟩ := blocks m c t
  obtain ⟨-, -, -, h1, h11, h12, h13, h14⟩ := hosts m c
  refine dhT_apply _ _ _ _ _ _ a.W (fun r => a.DZ (row t r)) ?_ ?_ ?_ ?_ ?_ ?_ ?_ r l
  · intro j l; rw [b3, h1]; exact ha.w l j
  · intro r j; rw [b4, h11]; exact ha.dz _ _
  · intro r j; rw [b5, host7a]; exact ha.dz _ _
  · intro r j; rw [b6, h12]; exact ha.dz _ _
  · intro r j; rw [b7, h13]; exact ha.dz _ _
  · intro r j; rw [b8, h14]; exact ha.dz _ _
  · intro r j; rw [b5, host7b]; exact ha.dz _ _

theorem xAt (t : Fin cfg0.N) (r : Fin 256) (l : Fin 1024) : iblk m c 1 t (ix2 r l) = (a.X (row t r) l : EReal) := by
  rw [(blocks m c t).2.1, (hosts m c).2.1]; exact ha.x _ _

theorem dxAt_apply (t : Fin cfg0.N) (r : Fin 256) (l : Fin 1024) : dxAt m c t (ix2 r l) = (a.dx (row t r) l : EReal) := by
  obtain ⟨b0, -, b2, -⟩ := blocks m c t
  obtain ⟨h8, -, h10, -⟩ := hosts m c
  refine dx_apply _ _ _ _ _ _ _ _ (fun r => a.X (row t r)) (fun r => a.dh (row t r)) (fun r => a.DXO (row t r)) a.G (xAt m c a ha t) ?_ ?_ (dhAt_apply m c a ha t) r l
  · intro l; rw [b2, h10]; exact ha.g l
  · intro r l; rw [b0, h8]; exact ha.dxo _ _

/-- A row's share of the gain's gradient, by the row's number. -/
def Args.en (a : Args) (n : ℕ) (l : Fin 1024) : ℝ := if h : n < 4096 then a.e ⟨n, h⟩ l else 0

theorem sums_apply (t : Fin cfg0.N) (acc : Vec Ideal S8x1024 .f32) (A : Fin 8 → Fin 1024 → ℝ) (hA : ∀ s l, acc (ix2 s l) = (A s l : EReal)) (s : Fin 8) (l : Fin 1024) :
    k0_pay1 (dhAt m c t) (k0_pay9 (iblk m c 1 t)) acc (ix2 s l) = ((A s l + ∑ i : Fin 32, a.en (256 * t.val + (i.val * 8 + s.val)) l : ℝ) : EReal) := by
  rw [acc_apply _ _ _ (fun r l => a.e (row t r) l) A ?_ hA]
  · have := N16 t
    refine congrArg (fun z : ℝ => (z : EReal)) (congrArg (A s l + ·) (Finset.sum_congr rfl fun i _ => ?_))
    unfold Args.en; rw [dif_pos (by omega)]; rfl
  · intro r l
    rw [dhAt_apply m c a ha, xh_apply _ _ (xAt m c a ha t), ← EReal.coe_mul]; rfl

/-- The partial sums after point `n`: over the rows of the points up to it. -/
theorem fold_apply (n : ℕ) (hn : n < cfg0.N) (s : Fin 8) (l : Fin 1024) :
    (outsAt0 m c n hn).2.2 (ix2 s l) = ((∑ t ∈ Finset.range (n + 1), ∑ i : Fin 32, a.en (256 * t + (i.val * 8 + s.val)) l : ℝ) : EReal) := by
  induction n generalizing s l with
  | zero =>
    rw [outsAt0_zero, (st_eq m c ⟨0, hn⟩ junk0).2.1, sums_apply m c a ha _ _ (fun _ _ => 0) (fun s l => ?_)]
    · simp
    · unfold accIn; rw [if_pos (show (0 : ℕ) % 16 = 0 from rfl)]; pointwise [k0_pay3]; exact EReal.coe_zero.symm
  | succ n ih =>
    have hN : n + 1 < 16 := lt_of_lt_of_eq hn N_0
    rw [outsAt0_succ, (st_eq m c ⟨n + 1, hn⟩ _).2.1, sums_apply m c a ha _ _
      (fun s l => ∑ t ∈ Finset.range (n + 1), ∑ i : Fin 32, a.en (256 * t + (i.val * 8 + s.val)) l) (fun s l => ?_)]
    · conv_rhs => rw [Finset.sum_range_succ]
    · unfold accIn; rw [if_neg (show ¬ (n + 1) % 16 = 0 by omega)]; exact ih _ s l

/-- The kernel's row gradients. -/
theorem G9_apply (R : Fin 4096) (l : Fin 1024) : G9 m c (ix2 R l) = (a.dx R l : EReal) := by
  have hN : R.val / 256 < cfg0.N := by rw [show cfg0.N = 16 from N_0]; omega
  have hp : pt9Of (ix2 R l) = R.val / 256 := by
    show 1 * (R.val / 256 - 0) + 1 * (l.val / 1024 - 0) = R.val / 256
    omega
  have hl : loc9Of (ix2 R l) = ix2 ⟨R.val % 256, by omega⟩ l := funext fun k => by
    fin_cases k
    · rfl
    · exact Fin.ext (Nat.mod_eq_of_lt l.isLt)
  unfold G9
  rw [dif_pos (by rw [hp]; exact hN), hl, ← outsAt0_sweep m c _ (by rw [hp]; exact hN), outs_dx, dxAt_apply m c a ha]
  rw [show row ⟨pt9Of (ix2 R l), by rw [hp]; exact hN⟩ ⟨R.val % 256, by omega⟩ = R from Fin.ext (by
    show 256 * pt9Of (ix2 R l) + R.val % 256 = R.val; rw [hp]; omega)]

/-- The kernel's gradient of the gain: the rows' shares, summed. -/
theorem G10_apply (l : Fin 1024) : G10 m c (ix2 0 l) = ((∑ R, a.e R l : ℝ) : EReal) := by
  have hN : 15 < cfg0.N := by rw [show cfg0.N = 16 from N_0]; decide
  rw [G10_last, ← outsAt0_sweep m c 15 hN, outsAt0_succ, (st_eq m c ⟨15, hN⟩ _).2.2 rfl, ← (st_eq m c ⟨15, hN⟩ _).2.1]
  erw [← outsAt0_succ m c 14 hN]
  rw [dg_apply _ _ (fun s l => fold_apply m c a ha 15 hN s l), Finset.sum_comm, Finset.sum_range, sum_tile 16 256 rfl (fun R => a.e R l)]
  refine congrArg (fun z : ℝ => (z : EReal)) (Finset.sum_congr rfl fun t _ => ?_)
  rw [sum_tile 32 8 rfl, Finset.sum_comm]
  refine Finset.sum_congr rfl fun i _ => Finset.sum_congr rfl fun s _ => ?_
  unfold Args.en
  rw [dif_pos (by omega)]
  exact congrArg (fun R => a.e R l) (Fin.ext (by show 256 * t.val + (i.val * 8 + s.val) = 256 * t.val + (8 * i.val + s.val); omega))

end Cert.InBwdIdeal.Pay

end
-- ==== Proof.InBwdReference.lean ====
/- The input norm's reference gradients over real arguments, stage by stage, and that they are the kernel's. -/
module

public import proofs.«01_k».proof.Defs
public import proofs.«01_k».proof.Proof.InBwdKernel
public import proofs.«01_k».proof.Proof.Gen.InBwdRefIdeal.Run
public import proofs.«01_k».proof.Proof.Gen.InBwdRefIdeal.Read

@[expose] public section

set_option maxRecDepth 16384

noncomputable section

namespace Cert.InBwdRefIdeal.Stages

open Cert.InBwdRefIdeal Cert.InBwdRefIdeal.Gen Cert.InBwdRefIdeal.Read Cert.InBwdIdeal.Pay Cert.Common Idealize.ShloMosaic Idealize.ShloMosaic.Tactic

variable (a : Args) (x : Vec Ideal S1x4096x1024 .f32) (g : Vec Ideal S1024 .f32) (w : Vec Ideal S1024x5376 .f32)
    (dz : Vec Ideal S1x4096x5376 .f32) (dxo : Vec Ideal S1x4096x1024 .f32) (ha : a.On x g w dz dxo)

/-- The mean square of a row, and the constant added to it. -/
def ms (x : Fin 1024 → ℝ) : ℝ := (∑ k, x k * x k) / 1024 + eps

theorem ms_pos (x : Fin 1024 → ℝ) : 0 < ms x := rms_arg_pos x

include ha

theorem v6 (R : Fin 4096) : val_main_v6 (F := Ideal) x (ix3 0 R 0) = (ms (a.X R) : EReal) := by
  pointwise [val_main_v6, val_main_v5, val_main_v4, val_main_v3, val_main_v2, val_main_v1, val_main_v0, val_main_cst, val_main_cst_0, val_main_cst_1]
  simp only [ha.x, of_zero, of_1024, of_eps, ← EReal.coe_mul, coe_sum, ← EReal.coe_add, div_real _ (show (1024 : ℝ) ≠ 0 by norm_num), zero_add]
  rfl

theorem v7 (R : Fin 4096) : val_main_v7 (F := Ideal) x (ix3 0 R 0) = (rms (a.X R) : EReal) := by
  have h := v6 a x g w dz dxo ha R
  unfold val_main_v7
  generalize val_main_v6 (F := Ideal) x = y at *
  pointwise []
  rw [h, rsqrt_real (ms_pos (a.X R))]; rfl

theorem v10 (R : Fin 4096) : val_main_v10 (F := Ideal) x (ix3 0 R 0) = ((-(1 / 2) * (rms (a.X R) / ms (a.X R)) : ℝ) : EReal) := by
  have h := v6 a x g w dz dxo ha R
  have h' := v7 a x g w dz dxo ha R
  unfold val_main_v10 val_main_v8
  generalize val_main_v6 (F := Ideal) x = y at *
  generalize val_main_v7 (F := Ideal) x = y' at *
  pointwise [val_main_v9, val_main_cst_2]
  rw [h, h', div_real _ (ms_pos (a.X R)).ne', of_neg_half, ← EReal.coe_mul]

theorem v12 (R : Fin 4096) (l : Fin 1024) : val_main_v12 (F := Ideal) x (ix3 0 R l) = ((a.X R l * rms (a.X R) : ℝ) : EReal) := by
  have h := v7 a x g w dz dxo ha R
  unfold val_main_v12 val_main_v11
  generalize val_main_v7 (F := Ideal) x = y at *
  pointwise []
  rw [h, ha.x, ← EReal.coe_mul]

theorem v17 (R : Fin 4096) (l : Fin 1024) : val_main_v17 (F := Ideal) w dz (ix3 0 R l) = (a.dh R l : EReal) := by
  pointwise [val_main_v17]
  simp only [ha.dz, ha.w, ← EReal.coe_mul, coe_sum]; rfl

theorem v22 (R : Fin 4096) (l : Fin 1024) : val_main_v22 (F := Ideal) g w dz (ix3 0 R l) = ((a.dh R l * a.G l : ℝ) : EReal) := by
  have h := v17 a x g w dz dxo ha R l
  unfold val_main_v22
  generalize val_main_v17 (F := Ideal) w dz = y at *
  pointwise [val_main_v21, val_main_v13]
  rw [h, ha.g, ← EReal.coe_mul]

/-- The factor of the row in its gradient that comes through the mean square. -/
def coef (a : Args) (R : Fin 4096) : ℝ := (∑ l, a.X R l * (a.dh R l * a.G l)) * (-(1 / 2) * (rms (a.X R) / ms (a.X R))) / 1024

theorem v32 (R : Fin 4096) : val_main_v32 (F := Ideal) x g w dz (ix3 0 R 0) = (coef a R : EReal) := by
  have h := fun l => v22 a x g w dz dxo ha R l
  have h' := v10 a x g w dz dxo ha R
  unfold val_main_v32 val_main_v30 val_main_v26 val_main_v25 val_main_v24
  generalize val_main_v22 (F := Ideal) g w dz = y at *
  generalize val_main_v10 (F := Ideal) x = y' at *
  pointwise [val_main_v31, val_main_cst_5, val_main_cst_6]
  simp only [h, h', ha.x, of_zero, of_1024, ← EReal.coe_mul, coe_sum, ← EReal.coe_add, div_real _ (show (1024 : ℝ) ≠ 0 by norm_num), zero_add]
  rfl

theorem v33 (R : Fin 4096) : val_main_v33 (F := Ideal) x g w dz (ix1 R) = (coef a R : EReal) := by
  unfold val_main_v33
  simp only [Host.reduceAdd, Ideal.hostReduceAdd_def]
  rw [hostReduceAdd_one _ _ _ _ (ix3 0 R 0), v32 a x g w dz dxo ha R]
  · pointwise [val_main_cst_7]
  · intro i
    constructor
    · intro e
      funext k
      fin_cases k
      · exact Subsingleton.elim (α := Fin 1) _ _
      · exact congrFun e 0
      · exact Subsingleton.elim (α := Fin 1) _ _
    · rintro rfl
      funext k; fin_cases k; rfl

theorem v40 (R : Fin 4096) (l : Fin 1024) : val_main_v40 (F := Ideal) x g w dz dxo (ix2 R l)
    = ((a.DXO R l + a.dh R l * a.G l * rms (a.X R) + a.X R l * coef a R + coef a R * a.X R l : ℝ) : EReal) := by
  have h := v33 a x g w dz dxo ha R
  have h7 := v7 a x g w dz dxo ha R
  have h22 := v22 a x g w dz dxo ha R l
  unfold val_main_v40 val_main_v39 val_main_v38 val_main_v37 val_main_v36 val_main_v35 val_main_v34 val_main_v29 val_main_v28 val_main_v27
  generalize val_main_v22 (F := Ideal) g w dz = y at *
  generalize val_main_v7 (F := Ideal) x = y' at *
  generalize val_main_v33 (F := Ideal) x g w dz = y'' at *
  pointwise []
  simp only [h, h7, h22, ha.x, ha.dxo, ← EReal.coe_mul, ← EReal.coe_add]

theorem v20 (l : Fin 1024) : val_main_v20 (F := Ideal) x w dz (ix3 0 0 l) = ((∑ R, a.e R l : ℝ) : EReal) := by
  have h := fun R => v12 a x g w dz dxo ha R l
  have h' := fun R => v17 a x g w dz dxo ha R l
  unfold val_main_v20 val_main_v19 val_main_v18
  generalize val_main_v12 (F := Ideal) x = y at *
  generalize val_main_v17 (F := Ideal) w dz = y' at *
  pointwise [val_main_cst_3]
  simp only [h, h', of_zero, ← EReal.coe_mul, coe_sum, ← EReal.coe_add, zero_add]
  exact congrArg (fun z : ℝ => (z : EReal)) (Finset.sum_congr rfl fun R _ => mul_comm _ _)

theorem v41 (l : Fin 1024) : val_main_v41 (F := Ideal) x w dz (ix2 0 l) = ((∑ R, a.e R l : ℝ) : EReal) := by
  have h := v20 a x g w dz dxo ha l
  unfold val_main_v41 val_main_v23
  generalize val_main_v20 (F := Ideal) x w dz = y at *
  pointwise []
  rw [hostReduceAdd_one _ _ _ _ (ix3 0 0 l), h]
  · pointwise [val_main_cst_4]
  · intro i
    constructor
    · intro e
      funext k
      fin_cases k
      · exact Subsingleton.elim (α := Fin 1) _ _
      · exact Subsingleton.elim (α := Fin 1) _ _
      · exact congrFun e 0
    · rintro rfl
      funext k; fin_cases k; rfl

omit ha in
/-- The reference's row gradient is the kernel's. -/
theorem dx_eq (a : Args) (R : Fin 4096) (l : Fin 1024) :
    a.DXO R l + a.dh R l * a.G l * rms (a.X R) + a.X R l * coef a R + coef a R * a.X R l = a.dx R l := by
  have hm := ms_pos (a.X R)
  have hr : rms (a.X R) * rms (a.X R) * ms (a.X R) = 1 := by
    have : rms (a.X R) = (√(ms (a.X R)))⁻¹ := rfl
    rw [this, ← mul_inv, Real.mul_self_sqrt hm.le, inv_mul_cancel₀ hm.ne']
  have hd : rms (a.X R) / ms (a.X R) = rms (a.X R) * rms (a.X R) * rms (a.X R) := by
    rw [div_eq_iff hm.ne']; linear_combination -(rms (a.X R)) * hr
  have hs : ∑ k, a.dh R k * a.G k * (a.X R k * rms (a.X R)) = (∑ k, a.X R k * (a.dh R k * a.G k)) * rms (a.X R) := by
    rw [Finset.sum_mul]; exact Finset.sum_congr rfl fun k _ => by ring
  unfold Args.dx dxRow coef
  rw [hd, hs]
  ring

omit ha in
/-- Where the precondition holds of the arguments, they are real. -/
theorem args_of_finite [Cert.Pre_in_finite.Facts] (h : Cert.Pre_in_finite.fn (F := Ideal) x g w dz dxo = fun _ => 1#1) : ∃ a : Args, a.On x g w dz dxo := by
  have h1 := congrFun h (fun k => k.elim0)
  unfold Cert.Pre_in_finite.fn Cert.Pre_in_finite.fn_part1 at h1
  dsimp only at h1
  haveI : Subsingleton (Cert.Pre_in_finite.S_).Idx := ⟨fun p q => funext fun k => k.elim0⟩
  obtain ⟨h1, h5⟩ := andi_split h1
  obtain ⟨h1, h4⟩ := andi_split h1
  obtain ⟨h1, h3⟩ := andi_split h1
  obtain ⟨h1, h2⟩ := andi_split h1
  choose X hX using fun R l => real_of_all _ _ _ _ _ h1 (ix3 0 R l)
  choose G hG using fun l => real_of_all _ _ _ _ _ h2 (ix1 l)
  choose W hW using fun l j => real_of_all _ _ _ _ _ h3 (ix2 l j)
  choose DZ hDZ using fun R j => real_of_all _ _ _ _ _ h4 (ix3 0 R j)
  choose DXO hDXO using fun R l => real_of_all _ _ _ _ _ h5 (ix3 0 R l)
  exact ⟨⟨X, G, W, DZ, DXO⟩, hX, hG, hW, hDZ, hDXO⟩

end Cert.InBwdRefIdeal.Stages

namespace Cert.InBwdProof

open Cert.InBwdIdeal.Pay Cert.InBwdRefIdeal.Stages Idealize.ShloMosaic Idealize.ShloMosaic.TcCoe Idealize.SL.Sem

/-- Over the reals the kernel's gradients of the rows and of the gain are the reference's. -/
theorem algebraic [Cert.Pre_in_finite.Facts] : Cert.algebraic_InBwdIdeal_InBwdRefIdeal_pre_in_finite := by
  intro m ρ m' ρ' hpre hargs
  refine ⟨fun c => Cert.InBwdIdeal.Value.G9 m c, fun c => Cert.InBwdIdeal.Value.G10 m c, Cert.InBwdIdeal.Value.run m ρ, ?_⟩
  refine (θ_run _ _ _).mono (fun r h c => ?_) (Cert.InBwdRefIdeal.Value.run (F := Ideal) m' ρ')
  obtain ⟨h0, h1, hk⟩ := h c
  obtain ⟨a, ha⟩ := args_of_finite _ _ _ _ _ (hpre c)
  obtain ⟨e0, e1, e2, e3, e4⟩ := hargs c
  refine ⟨h0.trans ?_, h1.trans ?_, hk⟩
  · rw [Cert.InBwdRefIdeal.Read.val_main_v40_eq, e0, e1, e2, e3, e4]
    funext i
    obtain ⟨R, l, rfl⟩ : ∃ R l, i = ix2 R l := ⟨i 0, i 1, (ix2_eta i).symm⟩
    exact (v40 a _ _ _ _ _ ha R l).trans ((congrArg _ (dx_eq a R l)).trans (G9_apply m c a ha R l).symm)
  · rw [Cert.InBwdRefIdeal.Read.val_main_v41_eq, e0, e2, e3]
    funext i
    obtain ⟨l, rfl⟩ : ∃ l, i = ix2 0 l := ⟨i 1, (eq_ix2 i).trans (congrArg (fun z => ix2 z (i 1)) (Subsingleton.elim (α := Fin 1) _ _))⟩
    exact (v41 a _ _ _ _ _ ha l).trans (G10_apply m c a ha l).symm

end Cert.InBwdProof

end
-- ==== Proof.AttnBwdPay.lean ====
/- One head's chunk of keys in the attention's gradient, over real operands: the probabilities rebuilt from
   the row's log-sum, the scores' gradient, and the three products that accumulate dq, dk and dv. -/
module

public import proofs.«01_k».proof.Proof.Gen.AttnBwdIdeal.Value
public import proofs.«01_k».proof.Proof.Common
public import Idealize.ShloMosaic.Lib.Pointwise
public import Idealize.ShloMosaic.Lib.Pipeline.ValueKit
public import Idealize.ShloMosaic.Lib.Pipeline.ReadBack
public import Idealize.ShloMosaic.Lib.StableHlo.ReadAt

@[expose] public section

set_option maxRecDepth 16384

noncomputable section

namespace Cert.AttnBwdIdeal.Pay

open Cert.AttnBwdIdeal Cert.AttnBwdIdeal.Gen Cert.AttnBwdIdeal.Value Cert.Common Idealize.ShloMosaic Idealize.ShloMosaic.TcCoe Idealize.SL.Sem Idealize.ShloMosaic.Tactic

/-- What one head brings to a grid point: its queries both ways round, its cotangents both ways round, and the two
    row sums (cotangent against output, and the scores' log-sum), each repeated along the lanes. -/
structure Hd where
  q : Vec Ideal S1x1024x64 .bf16
  qt : Vec Ideal S1x64x1024 .bf16
  dob : FVec Ideal S1024x64 .bf16
  dot : FVec Ideal S64x1024 .bf16
  dd : FVec Ideal S1024x512 .f32
  lse : FVec Ideal S1024x512 .f32

/-- The head's operands hold these reals. -/
structure Hd.On (h : Hd) (Q DO : Fin 1024 → Fin 64 → ℝ) (D L : Fin 1024 → ℝ) : Prop where
  q : ∀ r d, h.q (ix3 0 r d) = (Q r d : EReal)
  qt : ∀ r d, h.qt (ix3 0 d r) = (Q r d : EReal)
  dob : ∀ r d, h.dob (ix2 r d) = (DO r d : EReal)
  dot : ∀ r d, h.dot (ix2 d r) = (DO r d : EReal)
  dd : ∀ r s, h.dd (ix2 r s) = (D r : EReal)
  lse : ∀ r s, h.lse (ix2 r s) = (L r : EReal)

/-- The probabilities of the head's rows at a chunk of keys. -/
def Hd.pr (h : Hd) (kc : Vec Ideal S1x512x64 .bf16) : FVec Ideal S1024x512 .f32 :=
  exp (subf (matmul (φ₁ := .bf16) (φ₂ := .bf16) dot_S1024x64_S512x64_S1024x512_1_1_0_0_n_n none (shapeCast S1024x64 h.q shapeCasts_S1x1024x64_S1024x64)
    (shapeCast S512x64 kc shapeCasts_S1x512x64_S512x64) (constant S1024x512 .f32 0x00000000#32)) h.lse)

/-- The gradient of the head's scores at a chunk of keys. -/
def Hd.ds (h : Hd) (kc vc : Vec Ideal S1x512x64 .bf16) : FVec Ideal S1024x512 .bf16 :=
  truncf .bf16 (mulf (h.pr kc) (subf (matmul (φ₁ := .bf16) (φ₂ := .bf16) dot_S1024x64_S512x64_S1024x512_1_1_0_0_n_n none h.dob
    (shapeCast S512x64 vc shapeCasts_S1x512x64_S512x64) (constant S1024x512 .f32 0x00000000#32)) h.dd)) bitsLt_bf16_f32

/-- A chunk of columns of dk or dv with a head's product added. -/
def accT (a : FVec Ideal S64x1024 .bf16) (b : FVec Ideal S1024x512 .bf16) (acc : Vec Ideal S1x64x512 .f32) : FVec Ideal S1x64x512 .f32 :=
  shapeCast S1x64x512 (addf (shapeCast S64x512 acc shapeCasts_S1x64x512_S64x512)
    (matmul dot_S64x1024_S1024x512_S64x512_1_0_0_1_n_n none a b (constant S64x512 .f32 0x00000000#32))) shapeCasts_S64x512_S1x64x512

def Hd.dk (h : Hd) (kc vc : Vec Ideal S1x512x64 .bf16) (acc : Vec Ideal S1x64x512 .f32) : FVec Ideal S1x64x512 .f32 :=
  accT (shapeCast S64x1024 h.qt shapeCasts_S1x64x1024_S64x1024) (h.ds kc vc) acc

def Hd.dv (h : Hd) (kc : Vec Ideal S1x512x64 .bf16) (acc : Vec Ideal S1x64x512 .f32) : FVec Ideal S1x64x512 .f32 :=
  accT h.dot (truncf .bf16 (h.pr kc) bitsLt_bf16_f32) acc

/-- The queries' gradient with a chunk's product added. -/
def Hd.dq (h : Hd) (acc : FVec Ideal S1024x64 .f32) (kc vc : Vec Ideal S1x512x64 .bf16) : FVec Ideal S1024x64 .f32 :=
  addf acc (matmul (φ₁ := .bf16) (φ₂ := .bf16) dot_S1024x512_S512x64_S1024x64_1_0_0_1_n_n none (h.ds kc vc) (shapeCast S512x64 kc shapeCasts_S1x512x64_S512x64)
    (constant S1024x64 .f32 0x00000000#32))

/-- The probability and the scores' gradient as reals. -/
def prR (q k : Fin 64 → ℝ) (l : ℝ) : ℝ := Real.exp ((∑ d, q d * k d) - l)
def dsR (q do_ k v : Fin 64 → ℝ) (dd l : ℝ) : ℝ := prR q k l * ((∑ d, do_ d * v d) - dd)

section
variable {h : Hd} {Q DO : Fin 1024 → Fin 64 → ℝ} {D L : Fin 1024 → ℝ} (H : h.On Q DO D L) {kc vc : Vec Ideal S1x512x64 .bf16} {K V : Fin 512 → Fin 64 → ℝ}
  (hk : ∀ s d, kc (ix3 0 s d) = (K s d : EReal)) (hv : ∀ s d, vc (ix3 0 s d) = (V s d : EReal))

include H hk in
theorem Hd.pr_apply (r : Fin 1024) (s : Fin 512) : h.pr kc (ix2 r s) = (prR (Q r) (K s) (L r) : EReal) := by
  pointwise [Hd.pr]
  simp only [H.q, H.lse, hk, of_zero, ← EReal.coe_mul, coe_sum, ← EReal.coe_add, ← EReal.coe_sub, zero_add, Ideal.exp_coe]
  rfl

include H hk hv in
theorem Hd.ds_apply (r : Fin 1024) (s : Fin 512) : h.ds kc vc (ix2 r s) = (dsR (Q r) (DO r) (K s) (V s) (D r) (L r) : EReal) := by
  have hp := Hd.pr_apply H hk r s
  unfold Hd.ds
  generalize h.pr kc = p at *
  pointwise
  simp only [hp, H.dob, H.dd, hv, of_zero, ← EReal.coe_mul, coe_sum, ← EReal.coe_add, ← EReal.coe_sub, zero_add]
  rfl

theorem accT_apply (a : FVec Ideal S64x1024 .bf16) (b : FVec Ideal S1024x512 .bf16) (acc : Vec Ideal S1x64x512 .f32)
    (A : Fin 1024 → Fin 64 → ℝ) (B : Fin 1024 → Fin 512 → ℝ) (C : Fin 64 → Fin 512 → ℝ)
    (ha : ∀ r d, a (ix2 d r) = (A r d : EReal)) (hb : ∀ r s, b (ix2 r s) = (B r s : EReal)) (hc : ∀ d s, acc (ix3 0 d s) = (C d s : EReal)) (d : Fin 64) (s : Fin 512) :
    accT a b acc (ix3 0 d s) = ((C d s + ∑ r, A r d * B r s : ℝ) : EReal) := by
  pointwise [accT]
  simp only [ha, hb, hc, of_zero, ← EReal.coe_mul, coe_sum, ← EReal.coe_add, zero_add]

include H hk hv in
theorem Hd.dk_apply {acc : Vec Ideal S1x64x512 .f32} {C : Fin 64 → Fin 512 → ℝ} (hc : ∀ d s, acc (ix3 0 d s) = (C d s : EReal)) (d : Fin 64) (s : Fin 512) :
    h.dk kc vc acc (ix3 0 d s) = ((C d s + ∑ r, Q r d * dsR (Q r) (DO r) (K s) (V s) (D r) (L r) : ℝ) : EReal) :=
  accT_apply _ _ acc Q _ C (fun r d => by pointwise; exact H.qt r d) (Hd.ds_apply H hk hv) hc d s

include H hk in
theorem Hd.dv_apply {acc : Vec Ideal S1x64x512 .f32} {C : Fin 64 → Fin 512 → ℝ} (hc : ∀ d s, acc (ix3 0 d s) = (C d s : EReal)) (d : Fin 64) (s : Fin 512) :
    h.dv kc acc (ix3 0 d s) = ((C d s + ∑ r, DO r d * prR (Q r) (K s) (L r) : ℝ) : EReal) :=
  accT_apply _ (truncf .bf16 (h.pr kc) bitsLt_bf16_f32) acc DO _ C H.dot (fun r s => Hd.pr_apply H hk r s) hc d s

include H hk hv in
theorem Hd.dq_apply {acc : FVec Ideal S1024x64 .f32} {C : Fin 1024 → Fin 64 → ℝ} (hc : ∀ r d, acc (ix2 r d) = (C r d : EReal)) (r : Fin 1024) (d : Fin 64) :
    h.dq acc kc vc (ix2 r d) = ((C r d + ∑ s, dsR (Q r) (DO r) (K s) (V s) (D r) (L r) * K s d : ℝ) : EReal) := by
  have hp := Hd.ds_apply H hk hv
  unfold Hd.dq
  generalize h.ds kc vc = p at *
  pointwise
  simp only [hp, hc, hk, of_zero, ← EReal.coe_mul, coe_sum, ← EReal.coe_add, zero_add]
end

/-- The blocks a grid point reads. -/
structure Blk where
  x0 : Vec Ideal S2x1024x64 .bf16
  x1 : Vec Ideal S2x64x1024 .bf16
  x2 : Vec Ideal S1x4096x64 .bf16
  x3 : Vec Ideal S1x4096x64 .bf16
  x4 : Vec Ideal S1024x128 .f32
  x5 : Vec Ideal S1024x128 .f32
  x6 : Vec Ideal S2x1x1024 .f32

/-- The point's first head. -/
def Blk.hd0 (b : Blk) : Hd where
  q := View.ld b.x0 (Rect.unit ![0, 0, 0] ![1, 1024, 64] inb_S2x1024x64_S1x1024x64_0_0_0)
  qt := View.ld b.x1 (Rect.unit ![0, 0, 0] ![1, 64, 1024] inb_S2x64x1024_S1x64x1024_0_0_0)
  dob := k0_pay9 b.x4
  dot := k0_pay10 b.x4
  dd := k0_pay11 b.x4 b.x5
  lse := k0_pay12 (View.ld b.x6 (Rect.unit ![0, 0, 0] ![1, 1, 1024] inb_S2x1x1024_S1x1x1024_0_0_0))

/-- The point's second head. -/
def Blk.hd1 (b : Blk) : Hd where
  q := View.ld b.x0 (Rect.unit ![1, 0, 0] ![1, 1024, 64] inb_S2x1024x64_S1x1024x64_1_0_0)
  qt := View.ld b.x1 (Rect.unit ![1, 0, 0] ![1, 64, 1024] inb_S2x64x1024_S1x64x1024_1_0_0)
  dob := k0_pay70 (k0_pay3 b.x4)
  dot := k0_pay71 (k0_pay5 b.x4)
  dd := k0_pay72 (k0_pay3 b.x4) (k0_pay4 b.x5)
  lse := k0_pay73 (View.ld b.x6 (Rect.unit ![1, 0, 0] ![1, 1, 1024] inb_S2x1x1024_S1x1x1024_1_0_0))

/-- The blocks hold these reals: two heads' queries, cotangents, outputs and log-sums, and the group's keys and values. -/
structure Blk.On (b : Blk) (Q DO O : Fin 2 → Fin 1024 → Fin 64 → ℝ) (L : Fin 2 → Fin 1024 → ℝ) (K V : Fin 4096 → Fin 64 → ℝ) : Prop where
  x0 : ∀ j r d, b.x0 (ix3 j r d) = (Q j r d : EReal)
  x1 : ∀ j r d, b.x1 (ix3 j d r) = (Q j r d : EReal)
  x2 : ∀ s d, b.x2 (ix3 0 s d) = (K s d : EReal)
  x3 : ∀ s d, b.x3 (ix3 0 s d) = (V s d : EReal)
  x4 : ∀ (j : Fin 2) r (d : Fin 64), b.x4 (ix2 r ⟨64 * j.val + d.val, by omega⟩) = (DO j r d : EReal)
  x5 : ∀ (j : Fin 2) r (d : Fin 64), b.x5 (ix2 r ⟨64 * j.val + d.val, by omega⟩) = (O j r d : EReal)
  x6 : ∀ j r, b.x6 (ix3 j 0 r) = (L j r : EReal)

section
variable {b : Blk} {Q DO O : Fin 2 → Fin 1024 → Fin 64 → ℝ} {L : Fin 2 → Fin 1024 → ℝ} {K V : Fin 4096 → Fin 64 → ℝ} (B : b.On Q DO O L K V)

include B in
theorem Blk.On.x4_0 (r : Fin 1024) (d : Fin 64) : b.x4 (ix2 r ⟨d.val, by omega⟩) = (DO 0 r d : EReal) := by
  simpa using B.x4 0 r d

include B in
theorem Blk.On.x5_0 (r : Fin 1024) (d : Fin 64) : b.x5 (ix2 r ⟨d.val, by omega⟩) = (O 0 r d : EReal) := by
  simpa using B.x5 0 r d

include B in
theorem Blk.hd0_on : b.hd0.On (Q 0) (DO 0) (fun r => ∑ d, DO 0 r d * O 0 r d) (L 0) where
  q r d := by unfold Blk.hd0; pointwise; exact B.x0 0 r d
  qt r d := by unfold Blk.hd0; pointwise; exact B.x1 0 r d
  dob r d := by unfold Blk.hd0; pointwise [k0_pay9, k0_pay8, k0_pay3]; exact B.x4_0 r d
  dot r d := by unfold Blk.hd0; pointwise [k0_pay10, k0_pay5, k0_pay3]; exact B.x4_0 r d
  dd r s := by
    unfold Blk.hd0
    pointwise [k0_pay11, k0_pay8, k0_pay4, k0_pay3]
    simp only [B.x4_0, B.x5_0, dite_eq_ite, ite_self, ← EReal.coe_mul, coe_sum]
  lse r s := by
    unfold Blk.hd0
    pointwise [k0_pay12]
    simp only [B.x6, dite_eq_ite, ite_self]

include B in
theorem Blk.hd1_on : b.hd1.On (Q 1) (DO 1) (fun r => ∑ d, DO 1 r d * O 1 r d) (L 1) where
  q r d := by unfold Blk.hd1; pointwise; exact B.x0 1 r d
  qt r d := by unfold Blk.hd1; pointwise; exact B.x1 1 r d
  dob r d := by unfold Blk.hd1; pointwise [k0_pay70, k0_pay69, k0_pay3]; exact B.x4 1 r d
  dot r d := by unfold Blk.hd1; pointwise [k0_pay71, k0_pay5, k0_pay3]; exact B.x4 1 r d
  dd r s := by
    unfold Blk.hd1
    pointwise [k0_pay72, k0_pay69, k0_pay4, k0_pay3]
    simp only [show ∀ x : Fin 64, b.x4 (ix2 r ⟨64 + x.val, by omega⟩) = (DO 1 r x : EReal) from B.x4 1 r,
      show ∀ x : Fin 64, b.x5 (ix2 r ⟨64 + x.val, by omega⟩) = (O 1 r x : EReal) from B.x5 1 r, dite_eq_ite, ite_self, ← EReal.coe_mul, coe_sum]
  lse r s := by
    unfold Blk.hd1
    pointwise [k0_pay73]
    simp only [B.x6, dite_eq_ite, ite_self]
end

/-- A chunk of 512 keys (or values) of the group's block. -/
abbrev chunk (x : Vec Ideal S1x4096x64 .bf16) (e : Fin 8) : Vec Ideal S1x512x64 .bf16 :=
  View.ld x (Rect.unit (s := S1x4096x64) ![0, 512 * e.val, 0] ![1, 512, 64] (by have := e.isLt; intro a; fin_cases a <;> simp <;> omega))

theorem chunk_apply (x : Vec Ideal S1x4096x64 .bf16) (K : Fin 4096 → Fin 64 → ℝ) (hx : ∀ s d, x (ix3 0 s d) = (K s d : EReal)) (e : Fin 8) (s : Fin 512) (d : Fin 64) :
    chunk x e (ix3 0 s d) = (K ⟨512 * e.val + s.val, by omega⟩ d : EReal) := by
  unfold chunk
  pointwise
  exact hx _ d

/-- The columns of a chunk. -/
abbrev cols (e : Fin 8) : Rect S1x64x4096 :=
  Rect.unit (s := S1x64x4096) ![0, 0, 512 * e.val] ![1, 64, 512] (by have := e.isLt; intro a; fin_cases a <;> simp <;> omega)

/-- A head's eight steps over the keys, from zero, and the scale. -/
def Hd.dqAll (h : Hd) (k v : Vec Ideal S1x4096x64 .bf16) : FVec Ideal S1024x64 .f32 :=
  mulf (h.dq (h.dq (h.dq (h.dq (h.dq (h.dq (h.dq (h.dq k0_pay13 (chunk k 0) (chunk v 0)) (chunk k 1) (chunk v 1)) (chunk k 2) (chunk v 2))
    (chunk k 3) (chunk v 3)) (chunk k 4) (chunk v 4)) (chunk k 5) (chunk v 5)) (chunk k 6) (chunk v 6)) (chunk k 7) (chunk v 7))
    (broadcast S1024x64 (Scalar.ofBits (F := Ideal) .f32 0x3E000000#32))

/-- What a point leaves in dk's chunk: both heads' products over what it held. -/
def Blk.dk0 (b : Blk) (prev : Vec Ideal S1x64x4096 .f32) (e : Fin 8) : Vec Ideal S1x64x512 .f32 :=
  b.hd0.dk (chunk b.x2 e) (chunk b.x3 e) (View.ld prev (cols e))
def Blk.dk1 (b : Blk) (prev : Vec Ideal S1x64x4096 .f32) (e : Fin 8) : Vec Ideal S1x64x512 .f32 :=
  b.hd1.dk (chunk b.x2 e) (chunk b.x3 e) (b.dk0 prev e)
def Blk.dv0 (b : Blk) (prev : Vec Ideal S1x64x4096 .f32) (e : Fin 8) : Vec Ideal S1x64x512 .f32 :=
  b.hd0.dv (chunk b.x2 e) (View.ld prev (cols e))
def Blk.dv1 (b : Blk) (prev : Vec Ideal S1x64x4096 .f32) (e : Fin 8) : Vec Ideal S1x64x512 .f32 :=
  b.hd1.dv (chunk b.x2 e) (b.dv0 prev e)

/-- Eight chunks stored, the last first. -/
def stores (P : Fin 8 → Vec Ideal S1x64x512 .f32) : List (View.Piece (Elt Ideal) S1x64x4096 .f32) :=
  [⟨cols 7, P 7⟩, ⟨cols 6, P 6⟩, ⟨cols 5, P 5⟩, ⟨cols 4, P 4⟩, ⟨cols 3, P 3⟩, ⟨cols 2, P 2⟩, ⟨cols 1, P 1⟩, ⟨cols 0, P 0⟩]

end Cert.AttnBwdIdeal.Pay
-- ==== Proof.AttnBwdState.lean ====
/- What each grid point of the attention's gradient leaves: its rows' dq, and the running dk and dv of its group. -/
module

public import proofs.«01_k».proof.Proof.AttnBwdPay

@[expose] public section

set_option maxRecDepth 16384

noncomputable section

namespace Cert.AttnBwdIdeal.Pay

open Cert.AttnBwdIdeal Cert.AttnBwdIdeal.Gen Cert.AttnBwdIdeal.Value Cert.Common Idealize.ShloMosaic Idealize.ShloMosaic.TcCoe Idealize.SL.Sem Idealize.ShloMosaic.Tactic

variable (m : (ℓ : Loc nD τ sig) → Buf (Elt Ideal) ℓ) (c : Dev nD)

/-- The blocks of a point. -/
def blkAt (t : Fin cfg0.N) : Blk := ⟨iblk m c 0 t, iblk m c 1 t, iblk m c 2 t, iblk m c 3 t, iblk m c 4 t, iblk m c 5 t, iblk m c 6 t⟩

/-- The state the point before left. -/
abbrev before (t : Fin cfg0.N) := outsAt0 m c (t.val - 1) (Nat.lt_of_le_of_lt (Nat.sub_le _ _) t.isLt)

/-- The row gradient a point stores, from its blocks. -/
def Blk.dq (b : Blk) : FVec Ideal S1024x128 .f32 :=
  concatenate S1024x128 1 [⟨S1024x64, b.hd0.dqAll b.x2 b.x3⟩, ⟨S1024x64, b.hd1.dqAll b.x2 b.x3⟩] concatenates_S1024x64_S1024x64_S1024x128_d1

/-- What is left over a state: the row gradient, then both heads' eight chunks stored over dk and dv. -/
def Left (b : Blk) (k v : Vec Ideal S1x64x4096 .f32) (o : Vec Ideal S1024x128 .f32 × Vec Ideal S1x64x4096 .f32 × Vec Ideal S1x64x4096 .f32) : Prop :=
  o.1 = b.dq ∧ (∃ L, o.2.1 = View.canon (stores (b.dk1 k) ++ L)) ∧ ∃ L, o.2.2 = View.canon (stores (b.dv1 v) ++ L)

set_option maxHeartbeats 8000000 in
/-- A point is over what the point before left, or over zeros at a group's first point. -/
theorem left_at (t : Fin cfg0.N) : Left (blkAt m c t) (if t.val % 8 = 0 then k0_pay1 (F := Ideal) else (before m c t).2.1) (if t.val % 8 = 0 then k0_pay2 (F := Ideal) else (before m c t).2.2)
    (outsAt0 m c t.val t.isLt) := by
  by_cases h0 : t.val % 8 = 0
  case' pos =>
    rw [if_pos h0, if_pos h0, outsAt0_A m c t h0]
    refine ⟨?_, ⟨stores ((blkAt m c t).dk0 (k0_pay1 (F := Ideal))) ++ [⟨Rect.unit ![0, 0, 0] S1x64x4096.size inb_S1x64x4096_S1x64x4096_0_0_0, k0_pay1 (F := Ideal)⟩], ?_⟩,
      ⟨stores ((blkAt m c t).dv0 (k0_pay2 (F := Ideal))) ++ [⟨Rect.unit ![0, 0, 0] S1x64x4096.size inb_S1x64x4096_S1x64x4096_0_0_0, k0_pay2 (F := Ideal)⟩], ?_⟩⟩
  case' neg =>
    rw [if_neg h0, if_neg h0, outsAt0_B m c t h0]
    refine ⟨?_, ⟨stores ((blkAt m c t).dk0 (before m c t).2.1), ?_⟩, ⟨stores ((blkAt m c t).dv0 (before m c t).2.2), ?_⟩⟩
  all_goals
   frame_open
   try simp (disch := decide) only [↓ View.readCov_skip, ↓ View.readCov_cons_toLoadRect, ↓ View.readCov_fill]
   frame_out
   dsimp only [Blk.dq, k0_pay3, k0_pay4, k0_pay5, k0_pay6, k0_pay7, k0_pay8, k0_pay9, k0_pay10, k0_pay11, k0_pay12, k0_pay13, k0_pay14, k0_pay15, k0_pay16,
    k0_pay17, k0_pay18, k0_pay19, k0_pay20, k0_pay21, k0_pay22, k0_pay23, k0_pay24, k0_pay25, k0_pay26, k0_pay27, k0_pay28, k0_pay29, k0_pay30,
    k0_pay31, k0_pay32, k0_pay33, k0_pay34, k0_pay35, k0_pay36, k0_pay37, k0_pay38, k0_pay39, k0_pay40, k0_pay41, k0_pay42, k0_pay43, k0_pay44,
    k0_pay45, k0_pay46, k0_pay47, k0_pay48, k0_pay49, k0_pay50, k0_pay51, k0_pay52, k0_pay53, k0_pay54, k0_pay55, k0_pay56, k0_pay57, k0_pay58,
    k0_pay59, k0_pay60, k0_pay61, k0_pay62, k0_pay63, k0_pay64, k0_pay65, k0_pay66, k0_pay67, k0_pay68, k0_pay69, k0_pay70, k0_pay71, k0_pay72,
    k0_pay73, k0_pay74, k0_pay75, k0_pay76, k0_pay77, k0_pay78, k0_pay79, k0_pay80, k0_pay81, k0_pay82, k0_pay83, k0_pay84, k0_pay85, k0_pay86,
    k0_pay87, k0_pay88, k0_pay89, k0_pay90, k0_pay91, k0_pay92, k0_pay93, k0_pay94, k0_pay95, k0_pay96, k0_pay97, k0_pay98, k0_pay99, k0_pay100,
    k0_pay101, k0_pay102, k0_pay103, k0_pay104, k0_pay105, k0_pay106, k0_pay107, k0_pay108, k0_pay109, k0_pay110, k0_pay111, k0_pay112, k0_pay113, k0_pay114,
    k0_pay115, k0_pay116, k0_pay117, k0_pay118, k0_pay119, k0_pay120, k0_pay121, k0_pay122, k0_pay123, k0_pay124, k0_pay125, k0_pay126, k0_pay127,
    Blk.dk1, Blk.dk0, Blk.dv1, Blk.dv0, Hd.dqAll, Hd.dk, Hd.dv, Hd.dq, Hd.ds, Hd.pr, accT, stores, blkAt, Blk.hd0, Blk.hd1, List.cons_append, List.nil_append]
   rfl

end Cert.AttnBwdIdeal.Pay
-- ==== Proof.AttnReal.lean ====
/- The attention's gradient over real arrays: the softmax, its products, and the three gradients. -/
module

public import proofs.«01_k».proof.Proof.Common

@[expose] public section

noncomputable section

namespace Cert.AttnReal

open Cert.Common

/-- Real arguments: queries, keys, values, and the cotangent of the output. -/
structure Args where
  q : Fin 4096 → Fin 8 → Fin 64 → ℝ
  k : Fin 4096 → Fin 2 → Fin 64 → ℝ
  v : Fin 4096 → Fin 2 → Fin 64 → ℝ
  g : Fin 4096 → Fin 512 → ℝ

/-- The group of keys a query head reads, and its place among the group's four. -/
abbrev grp (h : Fin 8) : Fin 2 := ⟨h.val / 4, by omega⟩
abbrev col (h : Fin 8) (d : Fin 64) : Fin 512 := ⟨64 * h.val + d.val, by omega⟩
abbrev hd (j : Fin 2) (n : Fin 4) : Fin 8 := ⟨4 * j.val + n.val, by omega⟩

variable (a : Args)

def Args.sc (h : Fin 8) (T s : Fin 4096) : ℝ := ∑ d, a.q T h d * (1 / 8) * a.k s (grp h) d
def Args.mx (h : Fin 8) (T : Fin 4096) : ℝ := maxR (a.sc h T)
def Args.e (h : Fin 8) (T s : Fin 4096) : ℝ := Real.exp (a.sc h T s - a.mx h T)
def Args.ls (h : Fin 8) (T : Fin 4096) : ℝ := ∑ s, a.e h T s
def Args.p (h : Fin 8) (T s : Fin 4096) : ℝ := a.e h T s / a.ls h T
def Args.dP (h : Fin 8) (T s : Fin 4096) : ℝ := ∑ d, a.g T (col h d) * a.v s (grp h) d
def Args.oa (h : Fin 8) (T : Fin 4096) (d : Fin 64) : ℝ := (∑ s, a.e h T s * a.v s (grp h) d) / a.ls h T
def Args.lse (h : Fin 8) (T : Fin 4096) : ℝ := a.mx h T + Real.log (a.ls h T)
def Args.dd (h : Fin 8) (T : Fin 4096) : ℝ := ∑ d, a.g T (col h d) * a.oa h T d
def Args.ds (h : Fin 8) (T s : Fin 4096) : ℝ := a.p h T s * (a.dP h T s - a.dd h T)

/-- The three gradients. -/
def Args.dq (T : Fin 4096) (h : Fin 8) (d : Fin 64) : ℝ := (∑ s, a.ds h T s * a.k s (grp h) d) * (1 / 8)
def Args.dk (j : Fin 2) (d : Fin 64) (s : Fin 4096) : ℝ := ∑ n : Fin 4, ∑ T, a.q T (hd j n) d * (1 / 8) * a.ds (hd j n) T s
def Args.dv (j : Fin 2) (d : Fin 64) (s : Fin 4096) : ℝ := ∑ n : Fin 4, ∑ T, a.g T (col (hd j n) d) * a.p (hd j n) T s

theorem Args.ls_pos (h : Fin 8) (T : Fin 4096) : 0 < a.ls h T := Finset.sum_pos (fun _ _ => Real.exp_pos _) ⟨0, Finset.mem_univ _⟩

/-- The softmax from the row's log-sum. -/
theorem Args.p_of_lse (h : Fin 8) (T s : Fin 4096) : Real.exp (a.sc h T s - a.lse h T) = a.p h T s := by
  unfold Args.lse Args.p Args.e
  rw [← sub_sub, Real.exp_sub (a.sc h T s - a.mx h T), Real.exp_log (a.ls_pos h T)]

/-- The row's sum of cotangent times output is its sum of softmax times the softmax's cotangent. -/
theorem Args.dd_eq (h : Fin 8) (T : Fin 4096) : a.dd h T = ∑ s, a.p h T s * a.dP h T s := by
  unfold Args.dd Args.oa Args.p Args.dP
  simp only [Finset.mul_sum, Finset.sum_div]
  rw [Finset.sum_comm]
  exact Finset.sum_congr rfl fun s _ => Finset.sum_congr rfl fun d _ => by ring

end Cert.AttnReal

end
-- ==== Proof.AttnBwdHost.lean ====
/- The attention gradient's prepared arrays over real arguments, and the blocks a grid point reads of them. -/
module

public import proofs.«01_k».proof.Proof.AttnBwdState
public import proofs.«01_k».proof.Proof.AttnReal

@[expose] public section
set_option maxRecDepth 16384
noncomputable section
namespace Cert.AttnBwdIdeal.Pay
open Cert.AttnBwdIdeal Cert.AttnBwdIdeal.Gen Cert.AttnBwdIdeal.Value Cert.Common Idealize.ShloMosaic Idealize.ShloMosaic.TcCoe Idealize.SL.Sem Idealize.ShloMosaic.Tactic
variable (m : (ℓ : Loc nD τ sig) → Buf (Elt Ideal) ℓ) (c : Dev nD)

/-- The arguments. -/
abbrev aq : S1x4096x8x64.Idx → EReal := m ((c : Thread nD τ).loc main_arg0)
abbrev ak : S1x4096x2x64.Idx → EReal := m ((c : Thread nD τ).loc main_arg1)
abbrev av : S1x4096x2x64.Idx → EReal := m ((c : Thread nD τ).loc main_arg2)
abbrev ag : S1x4096x512.Idx → EReal := m ((c : Thread nD τ).loc main_arg3)

/-- The prepared scores, their row maxima, exponentials and row sums, and the values. -/
abbrev sc : FVec Ideal S2x4x4096x4096 .f32 := V m c main_v9
abbrev mx : FVec Ideal S2x4x4096x1 .f32 := V m c main_v11
abbrev ex : FVec Ideal S2x4x4096x4096 .f32 := V m c main_v14
abbrev ls : FVec Ideal S2x4x4096x1 .f32 := V m c main_v16
abbrev vh : FVec Ideal S2x4096x64 .f32 := V m c main_v7

theorem sc_eq (k : Fin 2) (g : Fin 4) (T s : Fin 4096) : sc m c (ix4 k g T s) = ∑ d, aq m c (ix4 0 T ⟨k.val * 4 + g.val, by omega⟩ d) *
    Ideal.ofBits .f32 0x3E000000#32 * ak m c (ix4 0 s k d) := by
  unfold sc V; after_reads_at

theorem vh_eq (k : Fin 2) (s : Fin 4096) (d : Fin 64) : vh m c (ix3 k s d) = av m c (ix4 0 s k d) := by
  unfold vh V; after_reads_at

theorem mx_eq (k : Fin 2) (g : Fin 4) (T : Fin 4096) : mx m c (ix4 k g T 0) = Finset.fold max (Ideal.ofBits FTy.f32 0xFF800000#32) (fun s => sc m c (ix4 k g T s)) Finset.univ := by
  unfold mx sc V
  after_reads_simp
  clean_types
  generalize Host.dotGeneral (F := Ideal) _ _ _ _ = x
  pointwise

theorem ex_eq (k : Fin 2) (g : Fin 4) (T s : Fin 4096) : ex m c (ix4 k g T s) = Ideal.exp (sc m c (ix4 k g T s) - mx m c (ix4 k g T 0)) := by
  unfold ex mx sc V
  after_reads_simp
  clean_types
  generalize broadcastInDim (s := S2x4x4096) S2x4x4096x1 ![0, 1, 2] bcast_S2x4x4096_S2x4x4096x1_0_1_2 _ = y
  generalize Host.dotGeneral (F := Ideal) _ _ _ _ = x
  pointwise

theorem ls_eq (k : Fin 2) (g : Fin 4) (T : Fin 4096) : ls m c (ix4 k g T 0) = ∑ s, ex m c (ix4 k g T s) := by
  unfold ls ex V
  after_reads_simp
  generalize Host.exp (F := Ideal) _ = x
  pointwise

theorem oa_eq (T : Fin 4096) (h : Fin 512) : (V m c main_v26 : FVec Ideal S4096x512 .f32) (ix2 T h) =
    Ideal.div (∑ x, ex m c (ix4 ⟨h.val / 256, by omega⟩ ⟨h.val / 64 % 4, by omega⟩ T x) * vh m c (ix3 ⟨h.val / 256, by omega⟩ x ⟨h.val % 64, by omega⟩))
      (ls m c (ix4 ⟨h.val / 256, by omega⟩ ⟨h.val / 64 % 4, by omega⟩ T 0)) := by
  unfold ex ls vh V
  after_reads_simp
  clean_types
  generalize broadcastInDim (s := S2x4x4096) S2x4x4096x1 ![0, 1, 2] bcast_S2x4x4096_S2x4x4096x1_0_1_2 (Host.reduceAdd (F := Ideal) _ _ _ _) = z
  generalize Host.exp (F := Ideal) _ = x
  generalize transpose S2x4096x64 _ _ _ = y
  pointwise

/-- A maximum and the logarithm of a sum, added. -/
def lseOf (x y : EReal) : EReal := x + Ideal.log y

theorem lseOf_apply (x y : FVec Ideal S2x4x4096x1 .f32) (h : Fin 8) (T : Fin 4096) : (shapeCast S8x1x4096 (addf y (Host.log x)) shapeCasts_S2x4x4096x1_S8x1x4096 (ix3 h 0 T) : EReal) =
    lseOf (y (ix4 ⟨h.val / 4, by omega⟩ ⟨h.val % 4, by omega⟩ T 0)) (x (ix4 ⟨h.val / 4, by omega⟩ ⟨h.val % 4, by omega⟩ T 0)) := by
  unfold lseOf
  pointwise

theorem lse_eq (h : Fin 8) (T : Fin 4096) : (V m c main_v29 : FVec Ideal S8x1x4096 .f32) (ix3 h 0 T) =
    lseOf (mx m c (ix4 ⟨h.val / 4, by omega⟩ ⟨h.val % 4, by omega⟩ T 0)) (ls m c (ix4 ⟨h.val / 4, by omega⟩ ⟨h.val % 4, by omega⟩ T 0)) := by
  unfold mx ls V
  after_reads_simp
  clean_types
  generalize broadcastInDim (s := S2x4x4096) S2x4x4096x1 ![0, 1, 2] bcast_S2x4x4096_S2x4x4096x1_0_1_2 (Host.reduceAdd (F := Ideal) _ _ _ _) = x
  generalize broadcastInDim (s := S2x4x4096) S2x4x4096x1 ![0, 1, 2] bcast_S2x4x4096_S2x4x4096x1_0_1_2 _ = y
  exact lseOf_apply x y h T

theorem q_eq (h : Fin 8) (T : Fin 4096) (d : Fin 64) : (V m c main_v20 : FVec Ideal S8x4096x64 .bf16) (ix3 h T d) =
    aq m c (ix4 0 T h d) * Ideal.ofBits .f32 0x3E000000#32 := by
  unfold V; after_reads_at
theorem qt_eq (h : Fin 8) (T : Fin 4096) (d : Fin 64) : (V m c main_v21 : FVec Ideal S8x64x4096 .bf16) (ix3 h d T) =
    aq m c (ix4 0 T h d) * Ideal.ofBits .f32 0x3E000000#32 := by
  unfold V; after_reads_at
theorem k_eq (j : Fin 2) (s : Fin 4096) (d : Fin 64) : (V m c main_v22 : FVec Ideal S2x4096x64 .bf16) (ix3 j s d) = ak m c (ix4 0 s j d) := by
  unfold V; after_reads_at
theorem v_eq (j : Fin 2) (s : Fin 4096) (d : Fin 64) : (V m c main_v23 : FVec Ideal S2x4096x64 .bf16) (ix3 j s d) = av m c (ix4 0 s j d) := by
  unfold V; after_reads_at
theorem do_eq (T : Fin 4096) (l : Fin 512) : (V m c main_v24 : FVec Ideal S4096x512 .f32) (ix2 T l) = ag m c (ix3 0 T l) := by
  unfold V; after_reads_at

theorem N16 (t : Fin cfg0.N) : t.val < 16 := lt_of_lt_of_eq t.isLt N_0

theorem idx : ∀ t : Fin cfg0.N, win0_0.index t = ![t.val / 4, t.val % 4, 0] ∧ win0_1.index t = ![t.val / 4, 0, t.val % 4] ∧ win0_2.index t = ![t.val / 8, 0, 0]
    ∧ win0_3.index t = ![t.val / 8, 0, 0] ∧ win0_4.index t = ![t.val % 4, t.val / 4] ∧ win0_5.index t = ![t.val % 4, t.val / 4] ∧ win0_6.index t = ![t.val / 4, 0, t.val % 4] :=
  (by decide +kernel : ∀ t : Fin grid0.N, _)

/-- The row, the head and the group of a point. -/
def row (t : Fin cfg0.N) (r : Fin 1024) : Fin 4096 := ⟨1024 * (t.val % 4) + r.val, by have := N16 t; omega⟩
def hdAt (t : Fin cfg0.N) (j : Fin 2) : Fin 8 := ⟨2 * (t.val / 4) + j.val, by have := N16 t; omega⟩
def grpAt (t : Fin cfg0.N) : Fin 2 := ⟨t.val / 8, by have := N16 t; omega⟩

theorem row_val (t : Fin cfg0.N) (r : Fin 1024) : (row t r).val = 1024 * (t.val % 4) + r.val := rfl
theorem hdAt_val (t : Fin cfg0.N) (j : Fin 2) : (hdAt t j).val = 2 * (t.val / 4) + j.val := rfl
theorem grpAt_val (t : Fin cfg0.N) : (grpAt t).val = t.val / 8 := rfl

/-- The blocks a point reads, from the prepared arrays. -/
theorem blk0 (t : Fin cfg0.N) (j : Fin 2) (r : Fin 1024) (d : Fin 64) : iblk m c 0 t (ix3 j r d) = V m c main_v20 (ix3 (hdAt t j) (row t r) d) := by
  unfold iblk
  change _ = V m c (Pipeline.arrRef spec0 0) (ix3 (hdAt t j) (row t r) d)
  generalize V m c (Pipeline.arrRef spec0 0) = W
  blk_ext [idx t, row_val t, hdAt_val t]
theorem blk1 (t : Fin cfg0.N) (j : Fin 2) (r : Fin 1024) (d : Fin 64) : iblk m c 1 t (ix3 j d r) = V m c main_v21 (ix3 (hdAt t j) d (row t r)) := by
  unfold iblk
  change _ = V m c (Pipeline.arrRef spec0 1) (ix3 (hdAt t j) d (row t r))
  generalize V m c (Pipeline.arrRef spec0 1) = W
  blk_ext [idx t, row_val t, hdAt_val t]
theorem blk2 (t : Fin cfg0.N) (s : Fin 4096) (d : Fin 64) : iblk m c 2 t (ix3 0 s d) = V m c main_v22 (ix3 (grpAt t) s d) := by
  unfold iblk
  change _ = V m c (Pipeline.arrRef spec0 2) (ix3 (grpAt t) s d)
  generalize V m c (Pipeline.arrRef spec0 2) = W
  blk_ext [idx t, grpAt_val t]
theorem blk3 (t : Fin cfg0.N) (s : Fin 4096) (d : Fin 64) : iblk m c 3 t (ix3 0 s d) = V m c main_v23 (ix3 (grpAt t) s d) := by
  unfold iblk
  change _ = V m c (Pipeline.arrRef spec0 3) (ix3 (grpAt t) s d)
  generalize V m c (Pipeline.arrRef spec0 3) = W
  blk_ext [idx t, grpAt_val t]
theorem blk4 (t : Fin cfg0.N) (j : Fin 2) (r : Fin 1024) (d : Fin 64) :
    iblk m c 4 t (ix2 r ⟨64 * j.val + d.val, by omega⟩) = V m c main_v24 (ix2 (row t r) (AttnReal.col (hdAt t j) d)) := by
  unfold iblk
  change _ = V m c (Pipeline.arrRef spec0 4) (ix2 (row t r) (AttnReal.col (hdAt t j) d))
  generalize V m c (Pipeline.arrRef spec0 4) = W
  blk_ext [idx t, row_val t, hdAt_val t]
  rw [hdAt_val]; omega
theorem blk5 (t : Fin cfg0.N) (j : Fin 2) (r : Fin 1024) (d : Fin 64) :
    iblk m c 5 t (ix2 r ⟨64 * j.val + d.val, by omega⟩) = V m c main_v26 (ix2 (row t r) (AttnReal.col (hdAt t j) d)) := by
  unfold iblk
  change _ = V m c (Pipeline.arrRef spec0 5) (ix2 (row t r) (AttnReal.col (hdAt t j) d))
  generalize V m c (Pipeline.arrRef spec0 5) = W
  blk_ext [idx t, row_val t, hdAt_val t]
  rw [hdAt_val]; omega
theorem blk6_read (W : Buf (Elt Ideal) ((c : Thread nD τ).loc (Pipeline.arrRef spec0 6))) (t : Fin cfg0.N) (j : Fin 2) (r : Fin 1024) :
    ((cfg0.win 6).blk t).view.read (Elt Ideal) W (ix3 j 0 r) = W (ix3 (hdAt t j) 0 (row t r)) := by
  blk_ext [idx t, row_val t, hdAt_val t]
theorem blk6 (t : Fin cfg0.N) (j : Fin 2) (r : Fin 1024) : iblk m c 6 t (ix3 j 0 r) = V m c (Pipeline.arrRef spec0 6) (ix3 (hdAt t j) 0 (row t r)) := by
  unfold iblk
  exact blk6_read c _ t j r

/-- The arguments in memory are these reals. -/
structure _root_.Cert.AttnReal.Args.On (a : AttnReal.Args) (q : S1x4096x8x64.Idx → EReal) (k v : S1x4096x2x64.Idx → EReal) (g : S1x4096x512.Idx → EReal) : Prop where
  q : ∀ T h d, q (ix4 0 T h d) = (a.q T h d : EReal)
  k : ∀ s j d, k (ix4 0 s j d) = (a.k s j d : EReal)
  v : ∀ s j d, v (ix4 0 s j d) = (a.v s j d : EReal)
  g : ∀ T l, g (ix3 0 T l) = (a.g T l : EReal)

variable {m c} {a : AttnReal.Args} (ha : a.On (aq m c) (ak m c) (av m c) (ag m c))
include ha
open AttnReal

theorem sc_real (k : Fin 2) (g : Fin 4) (T s : Fin 4096) : sc m c (ix4 k g T s) = (a.sc (hd k g) T s : EReal) := by
  rw [sc_eq]
  simp only [ha.q, ha.k, of_eighth, ← EReal.coe_mul, coe_sum]
  unfold Args.sc
  have e1 : (⟨k.val * 4 + g.val, by omega⟩ : Fin 8) = hd k g := Fin.ext (by show k.val * 4 + g.val = 4 * k.val + g.val; omega)
  have e2 : grp (hd k g) = k := Fin.ext (by show (4 * k.val + g.val) / 4 = k.val; omega)
  rw [e1, e2]

theorem mx_real (k : Fin 2) (g : Fin 4) (T : Fin 4096) : mx m c (ix4 k g T 0) = (a.mx (hd k g) T : EReal) := by
  rw [mx_eq]
  simp only [sc_real ha, of_neg_inf]
  exact fold_max_real (by decide) _

theorem ex_real (k : Fin 2) (g : Fin 4) (T s : Fin 4096) : ex m c (ix4 k g T s) = (a.e (hd k g) T s : EReal) := by
  rw [ex_eq, sc_real ha, mx_real ha, ← EReal.coe_sub, Ideal.exp_coe]; rfl

theorem ls_real (k : Fin 2) (g : Fin 4) (T : Fin 4096) : ls m c (ix4 k g T 0) = (a.ls (hd k g) T : EReal) := by
  rw [ls_eq]
  simp only [ex_real ha, coe_sum]; rfl

theorem oa_real (T : Fin 4096) (h : Fin 8) (d : Fin 64) : (V m c main_v26 : FVec Ideal S4096x512 .f32) (ix2 T (col h d)) = (a.oa h T d : EReal) := by
  rw [oa_eq]
  have hv : ∀ j s d, vh m c (ix3 j s d) = (a.v s j d : EReal) := fun j s d => (vh_eq m c j s d).trans (ha.v s j d)
  simp only [ex_real ha, ls_real ha, hv, ← EReal.coe_mul, coe_sum, div_real _ (a.ls_pos _ T).ne']
  unfold Args.oa
  have e1 : hd ⟨(col h d).val / 256, by omega⟩ ⟨(col h d).val / 64 % 4, by omega⟩ = h := Fin.ext (by show 4 * ((64 * h.val + d.val) / 256) + (64 * h.val + d.val) / 64 % 4 = h.val; omega)
  have e2 : (⟨(col h d).val / 256, by omega⟩ : Fin 2) = grp h := Fin.ext (by show (64 * h.val + d.val) / 256 = h.val / 4; omega)
  have e3 : (⟨(col h d).val % 64, by omega⟩ : Fin 64) = d := Fin.ext (by show (64 * h.val + d.val) % 64 = d.val; omega)
  rw [e1, e2, e3]

theorem lse_real (h : Fin 8) (T : Fin 4096) : (V m c main_v29 : FVec Ideal S8x1x4096 .f32) (ix3 h 0 T) = (a.lse h T : EReal) := by
  have e1 : hd ⟨h.val / 4, by omega⟩ ⟨h.val % 4, by omega⟩ = h := Fin.ext (by show 4 * (h.val / 4) + h.val % 4 = h.val; omega)
  rw [lse_eq, mx_real ha, ls_real ha, e1]
  unfold lseOf
  rw [Ideal.log_coe, if_neg (a.ls_pos h T).not_ge, ← EReal.coe_add]; rfl

/-- A point's blocks hold its heads' rows. -/
theorem blk_on (t : Fin cfg0.N) : (blkAt m c t).On (fun j r d => a.q (row t r) (hdAt t j) d * (1 / 8)) (fun j r d => a.g (row t r) (col (hdAt t j) d))
    (fun j r d => a.oa (hdAt t j) (row t r) d) (fun j r => a.lse (hdAt t j) (row t r)) (fun s d => a.k s (grpAt t) d) (fun s d => a.v s (grpAt t) d) := by
  constructor
  · intro j r d; unfold blkAt; dsimp only; rw [blk0, q_eq, ha.q, of_eighth, ← EReal.coe_mul]
  · intro j r d; unfold blkAt; dsimp only; rw [blk1, qt_eq, ha.q, of_eighth, ← EReal.coe_mul]
  · intro s d; unfold blkAt; dsimp only; rw [blk2, k_eq, ha.k]
  · intro s d; unfold blkAt; dsimp only; rw [blk3, v_eq, ha.v]
  · intro j r d; unfold blkAt; dsimp only; rw [blk4, do_eq, ha.g]
  · intro j r d; unfold blkAt; dsimp only; rw [blk5, oa_real ha]
  · intro j r; unfold blkAt; dsimp only; exact (blk6 m c t j r).trans (lse_real ha _ _)

end Cert.AttnBwdIdeal.Pay
-- ==== Proof.AttnBwdKernel.lean ====
/- What the attention's gradient kernel computes over real arguments, in closed form. -/
module

public import proofs.«01_k».proof.Proof.AttnBwdHost
public import proofs.«01_k».proof.Proof.AttnReal

@[expose] public section
set_option maxRecDepth 16384
noncomputable section
namespace Cert.AttnBwdIdeal.Pay
open Cert.AttnBwdIdeal Cert.AttnBwdIdeal.Gen Cert.AttnBwdIdeal.Value Cert.Common Idealize.ShloMosaic Idealize.ShloMosaic.TcCoe Idealize.SL.Sem Idealize.ShloMosaic.Tactic
open AttnReal

/-- Reading what eight stored chunks leave. -/
theorem stores_apply (P : Fin 8 → Vec Ideal S1x64x512 .f32) (L : List (View.Piece (Elt Ideal) S1x64x4096 .f32)) (d : Fin 64) (s : Fin 4096) :
    View.canon (stores P ++ L) (ix3 0 d s) = P ⟨s.val / 512, by omega⟩ (ix3 0 d ⟨s.val % 512, by omega⟩) := by
  have hG : View.PiecesOf (fun y : S1x64x4096.Idx => P ⟨(y 2).val / 512, by idx_bounds y; omega⟩ (ix3 0 (y 1) ⟨(y 2).val % 512, by omega⟩)) (stores P) := by
    have key : ∀ (e : Fin 8) (x : S1x64x512.Idx), P e x = (fun y : S1x64x4096.Idx => P ⟨(y 2).val / 512, by idx_bounds y; omega⟩ (ix3 0 (y 1) ⟨(y 2).val % 512, by omega⟩)) ((cols e).emb x) := by
      intro e x
      have h2 : ((cols e).emb x 2).val = 512 * e.val + (x 2).val := by show 512 * e.val + 1 * (x 2).val = _; omega
      have h1 : (cols e).emb x 1 = x 1 := Fin.ext (by show 0 + 1 * (x 1).val = _; omega)
      have h0 : x 0 = (0 : Fin 1) := Fin.ext (by have h : (x 0).val < 1 := (x 0).isLt; show (x 0).val = 0; omega)
      have hx : (x 2).val < 512 := (x 2).isLt
      dsimp only
      have e1 : (⟨((cols e).emb x 2).val / 512, by idx_bounds ((cols e).emb x); omega⟩ : Fin 8) = e := Fin.ext (by show ((cols e).emb x 2).val / 512 = e.val; omega)
      have e2 : (⟨((cols e).emb x 2).val % 512, by omega⟩ : Fin 512) = x 2 := Fin.ext (by show ((cols e).emb x 2).val % 512 = (x 2).val; omega)
      rw [e1, e2, h1]
      exact congrArg (P e) ((eq_ix3 x).trans (by rw [h0]))
    exact ⟨key 7, key 6, key 5, key 4, key 3, key 2, key 1, key 0, trivial⟩
  refine View.canon_append_of_piecesOf _ L _ hG _ ?_
  have hm : ∀ e : Fin 8, (⟨cols e, P e⟩ : View.Piece (Elt Ideal) S1x64x4096 .f32) ∈ stores P := by
    intro e; unfold stores; fin_cases e <;> simp
  refine ⟨_, hm ⟨s.val / 512, by omega⟩, ?_⟩
  rw [Rect.mem_set_unit]
  intro a
  match a with
  | ⟨0, _⟩ => exact ⟨Nat.le_refl 0, Nat.one_pos⟩
  | ⟨1, _⟩ => show 0 ≤ d.val ∧ d.val < 0 + 64; omega
  | ⟨2, _⟩ => show 512 * (s.val / 512) ≤ s.val ∧ s.val < 512 * (s.val / 512) + 512; omega

section
variable {b : Blk} {Q DO O : Fin 2 → Fin 1024 → Fin 64 → ℝ} {L : Fin 2 → Fin 1024 → ℝ} {K W : Fin 4096 → Fin 64 → ℝ} (B : b.On Q DO O L K W)
  {prev : Vec Ideal S1x64x4096 .f32} {C : Fin 64 → Fin 4096 → ℝ} (hp : ∀ d s, prev (ix3 0 d s) = (C d s : EReal))

/-- A head's probabilities and score gradients over the whole group. -/
abbrev prB (Q : Fin 2 → Fin 1024 → Fin 64 → ℝ) (L : Fin 2 → Fin 1024 → ℝ) (K : Fin 4096 → Fin 64 → ℝ) (j : Fin 2) (r : Fin 1024) (s : Fin 4096) : ℝ := prR (Q j r) (K s) (L j r)
abbrev dsB (Q DO O : Fin 2 → Fin 1024 → Fin 64 → ℝ) (L : Fin 2 → Fin 1024 → ℝ) (K W : Fin 4096 → Fin 64 → ℝ) (j : Fin 2) (r : Fin 1024) (s : Fin 4096) : ℝ :=
  dsR (Q j r) (DO j r) (K s) (W s) (∑ d, DO j r d * O j r d) (L j r)

include hp in
theorem ld_cols (e : Fin 8) (d : Fin 64) (s : Fin 512) : View.ld prev (cols e) (ix3 0 d s) = (C d ⟨512 * e.val + s.val, by omega⟩ : EReal) := by
  pointwise
  exact hp d _

include B hp in
theorem dk1_apply (e : Fin 8) (d : Fin 64) (s : Fin 512) : b.dk1 prev e (ix3 0 d s) = ((C d ⟨512 * e.val + s.val, by omega⟩
    + ∑ r, Q 0 r d * dsB Q DO O L K W 0 r ⟨512 * e.val + s.val, by omega⟩ + ∑ r, Q 1 r d * dsB Q DO O L K W 1 r ⟨512 * e.val + s.val, by omega⟩ : ℝ) : EReal) :=
  Hd.dk_apply (Blk.hd1_on B) (chunk_apply _ K B.x2 e) (chunk_apply _ W B.x3 e)
    (Hd.dk_apply (Blk.hd0_on B) (chunk_apply _ K B.x2 e) (chunk_apply _ W B.x3 e) (ld_cols hp e)) d s

include B hp in
theorem dv1_apply (e : Fin 8) (d : Fin 64) (s : Fin 512) : b.dv1 prev e (ix3 0 d s) = ((C d ⟨512 * e.val + s.val, by omega⟩
    + ∑ r, DO 0 r d * prB Q L K 0 r ⟨512 * e.val + s.val, by omega⟩ + ∑ r, DO 1 r d * prB Q L K 1 r ⟨512 * e.val + s.val, by omega⟩ : ℝ) : EReal) :=
  Hd.dv_apply (Blk.hd1_on B) (chunk_apply _ K B.x2 e)
    (Hd.dv_apply (Blk.hd0_on B) (chunk_apply _ K B.x2 e) (ld_cols hp e)) d s

theorem k0_pay13_apply (r : Fin 1024) (d : Fin 64) : (k0_pay13 (F := Ideal)) (ix2 r d) = ((0 : ℝ) : EReal) := by
  pointwise [k0_pay13]
  exact EReal.coe_zero.symm

/-- A head's eight steps, as one sum over the keys. -/
theorem dqAll_apply {h : Hd} {q g : Fin 1024 → Fin 64 → ℝ} {D l : Fin 1024 → ℝ} (H : h.On q g D l) {k v : Vec Ideal S1x4096x64 .bf16}
    (hk : ∀ s d, k (ix3 0 s d) = (K s d : EReal)) (hv : ∀ s d, v (ix3 0 s d) = (W s d : EReal)) (r : Fin 1024) (d : Fin 64) :
    h.dqAll k v (ix2 r d) = (((∑ s, dsR (q r) (g r) (K s) (W s) (D r) (l r) * K s d) * (1 / 8) : ℝ) : EReal) := by
  have st : ∀ (e : Fin 8) {acc : FVec Ideal S1024x64 .f32} {C : Fin 1024 → Fin 64 → ℝ} (_ : ∀ r d, acc (ix2 r d) = (C r d : EReal)) (r : Fin 1024) (d : Fin 64), _ :=
    fun e _ _ hc => Hd.dq_apply H (chunk_apply k K hk e) (chunk_apply v W hv e) hc
  have h8 := st 7 (st 6 (st 5 (st 4 (st 3 (st 2 (st 1 (st 0 k0_pay13_apply))))))) r d
  unfold Hd.dqAll
  generalize h.dq _ (chunk k 7) (chunk v 7) = x at *
  pointwise
  rw [h8, of_eighth, ← EReal.coe_mul, sum_tile 8 512 rfl, Fin.sum_univ_eight]
  dsimp only
  rw [zero_add]
end

variable (m : (ℓ : Loc nD τ sig) → Buf (Elt Ideal) ℓ) (c : Dev nD) (a : Args)

/-- A head's share of dk and of dv from a tile of 1024 rows. -/
def tk (a : Args) (d : Fin 64) (s : Fin 4096) (h : Fin 8) (i : Fin 4) : ℝ := ∑ r : Fin 1024, a.q ⟨1024 * i.val + r.val, by omega⟩ h d * (1 / 8) * a.ds h ⟨1024 * i.val + r.val, by omega⟩ s
def tv (a : Args) (d : Fin 64) (s : Fin 4096) (h : Fin 8) (i : Fin 4) : ℝ := ∑ r : Fin 1024, a.g ⟨1024 * i.val + r.val, by omega⟩ (col h d) * a.p h ⟨1024 * i.val + r.val, by omega⟩ s

/-- Both heads' shares at point `t`. -/
def pt (f : Fin 8 → Fin 4 → ℝ) (t : ℕ) : ℝ := if h : t < 16 then f ⟨2 * (t / 4), by omega⟩ ⟨t % 4, by omega⟩ + f ⟨2 * (t / 4) + 1, by omega⟩ ⟨t % 4, by omega⟩ else 0

/-- The eight points of a group visit its four heads' four tiles. -/
theorem pt_group (f : Fin 8 → Fin 4 → ℝ) (j : Fin 2) : ∑ u ∈ Finset.range 8, pt f (8 * j.val + u) = ∑ n : Fin 4, ∑ i : Fin 4, f (hd j n) i := by
  fin_cases j <;> simp [Finset.sum_range_succ, Fin.sum_univ_four, pt, hd] <;> ring

theorem dk_tiles (d : Fin 64) (s : Fin 4096) (j : Fin 2) : ∑ n : Fin 4, ∑ i : Fin 4, tk a d s (hd j n) i = a.dk j d s := by
  unfold Args.dk
  refine Finset.sum_congr rfl fun n _ => ?_
  rw [sum_tile 4 1024 rfl]; rfl

theorem dv_tiles (d : Fin 64) (s : Fin 4096) (j : Fin 2) : ∑ n : Fin 4, ∑ i : Fin 4, tv a d s (hd j n) i = a.dv j d s := by
  unfold Args.dv
  refine Finset.sum_congr rfl fun n _ => ?_
  rw [sum_tile 4 1024 rfl]; rfl

/-- A point's probabilities and score gradients are the softmax's. -/
theorem prB_eq (t : Fin cfg0.N) (j : Fin 2) (r : Fin 1024) (s : Fin 4096) : prB (fun j r d => a.q (row t r) (hdAt t j) d * (1 / 8)) (fun j r => a.lse (hdAt t j) (row t r))
    (fun s d => a.k s (grpAt t) d) j r s = a.p (hdAt t j) (row t r) s := by
  rw [← a.p_of_lse]
  have e : grpAt t = grp (hdAt t j) := Fin.ext (by show t.val / 8 = (2 * (t.val / 4) + j.val) / 4; omega)
  unfold prB prR Args.sc
  rw [e]

theorem dsB_eq (t : Fin cfg0.N) (j : Fin 2) (r : Fin 1024) (s : Fin 4096) : dsB (fun j r d => a.q (row t r) (hdAt t j) d * (1 / 8)) (fun j r d => a.g (row t r) (col (hdAt t j) d))
    (fun j r d => a.oa (hdAt t j) (row t r) d) (fun j r => a.lse (hdAt t j) (row t r)) (fun s d => a.k s (grpAt t) d) (fun s d => a.v s (grpAt t) d) j r s
    = a.ds (hdAt t j) (row t r) s := by
  have h := prB_eq a t j r s
  have e : grpAt t = grp (hdAt t j) := Fin.ext (by show t.val / 8 = (2 * (t.val / 4) + j.val) / 4; omega)
  unfold prB at h
  unfold dsB dsR Args.ds Args.dP Args.dd
  rw [h, e]

variable {m c a} (ha : a.On (aq m c) (ak m c) (av m c) (ag m c))
include ha

/-- One point over a state of reals. -/
theorem step_k (t : Fin cfg0.N) (prev : Vec Ideal S1x64x4096 .f32) (C : Fin 64 → Fin 4096 → ℝ) (hp : ∀ d s, prev (ix3 0 d s) = (C d s : EReal))
    (L : List (View.Piece (Elt Ideal) S1x64x4096 .f32)) (d : Fin 64) (s : Fin 4096) :
    View.canon (stores ((blkAt m c t).dk1 prev) ++ L) (ix3 0 d s) = ((C d s + pt (tk a d s) t.val : ℝ) : EReal) := by
  have hs : (⟨512 * (s.val / 512) + s.val % 512, by omega⟩ : Fin 4096) = s := Fin.ext (by show 512 * (s.val / 512) + s.val % 512 = s.val; omega)
  rw [stores_apply, dk1_apply (blk_on ha t) hp]
  simp only [dsB_eq, hs]
  unfold pt
  rw [dif_pos (N16 t), add_assoc]
  rfl

theorem step_v (t : Fin cfg0.N) (prev : Vec Ideal S1x64x4096 .f32) (C : Fin 64 → Fin 4096 → ℝ) (hp : ∀ d s, prev (ix3 0 d s) = (C d s : EReal))
    (L : List (View.Piece (Elt Ideal) S1x64x4096 .f32)) (d : Fin 64) (s : Fin 4096) :
    View.canon (stores ((blkAt m c t).dv1 prev) ++ L) (ix3 0 d s) = ((C d s + pt (tv a d s) t.val : ℝ) : EReal) := by
  have hs : (⟨512 * (s.val / 512) + s.val % 512, by omega⟩ : Fin 4096) = s := Fin.ext (by show 512 * (s.val / 512) + s.val % 512 = s.val; omega)
  rw [stores_apply, dv1_apply (blk_on ha t) hp]
  simp only [prB_eq, hs]
  unfold pt
  rw [dif_pos (N16 t), add_assoc]
  rfl

/-- The running dk and dv of a group after its point `n`. -/
theorem state_at (n : ℕ) (hn : n < cfg0.N) : (∀ d s, (outsAt0 m c n hn).2.1 (ix3 0 d s) = ((∑ u ∈ Finset.range (n % 8 + 1), pt (tk a d s) (8 * (n / 8) + u) : ℝ) : EReal))
    ∧ ∀ d s, (outsAt0 m c n hn).2.2 (ix3 0 d s) = ((∑ u ∈ Finset.range (n % 8 + 1), pt (tv a d s) (8 * (n / 8) + u) : ℝ) : EReal) := by
  induction n with
  | zero =>
    obtain ⟨-, ⟨L, h1⟩, ⟨L', h2⟩⟩ := left_at m c ⟨0, hn⟩
    dsimp only at h1 h2
    rw [if_pos (by rfl)] at h1 h2
    refine ⟨fun d s => ?_, fun d s => ?_⟩
    · rw [h1, step_k ha ⟨0, hn⟩ _ (fun _ _ => 0) (fun d s => by pointwise [k0_pay1]; exact EReal.coe_zero.symm)]; simp
    · rw [h2, step_v ha ⟨0, hn⟩ _ (fun _ _ => 0) (fun d s => by pointwise [k0_pay2]; exact EReal.coe_zero.symm)]; simp
  | succ n ih =>
    obtain ⟨i1, i2⟩ := ih (Nat.lt_of_succ_lt hn)
    obtain ⟨-, ⟨L, h1⟩, ⟨L', h2⟩⟩ := left_at m c ⟨n + 1, hn⟩
    dsimp only at h1 h2
    by_cases h0 : (n + 1) % 8 = 0
    · rw [if_pos h0] at h1 h2
      have e : 8 * ((n + 1) / 8) = n + 1 := by omega
      refine ⟨fun d s => ?_, fun d s => ?_⟩
      · rw [h1, step_k ha ⟨n + 1, hn⟩ _ (fun _ _ => 0) (fun d s => by pointwise [k0_pay1]; exact EReal.coe_zero.symm), h0, e]; simp
      · rw [h2, step_v ha ⟨n + 1, hn⟩ _ (fun _ _ => 0) (fun d s => by pointwise [k0_pay2]; exact EReal.coe_zero.symm), h0, e]; simp
    · rw [if_neg h0] at h1 h2
      have e : (n + 1) % 8 = n % 8 + 1 := by omega
      have e' : (n + 1) / 8 = n / 8 := by omega
      have e2 : 8 * (n / 8) + (n % 8 + 1) = n + 1 := by omega
      refine ⟨fun d s => ?_, fun d s => ?_⟩
      · rw [h1, step_k ha ⟨n + 1, hn⟩ (before m c ⟨n + 1, hn⟩).2.1 _ i1, e, e', Finset.sum_range_succ _ (n % 8 + 1), e2]
      · rw [h2, step_v ha ⟨n + 1, hn⟩ (before m c ⟨n + 1, hn⟩).2.2 _ i2, e, e', Finset.sum_range_succ _ (n % 8 + 1), e2]

/-- A point's rows of dq. -/
theorem dq_at (t : Fin cfg0.N) (r : Fin 1024) (l : Fin 128) : (outsAt0 m c t.val t.isLt).1 (ix2 r l)
    = (a.dq (row t r) (hdAt t ⟨l.val / 64, by omega⟩) ⟨l.val % 64, by omega⟩ : EReal) := by
  have B := blk_on ha t
  have q0 := fun (d : Fin 64) => dqAll_apply (Blk.hd0_on B) B.x2 B.x3 r d
  have q1 := fun (d : Fin 64) => dqAll_apply (Blk.hd1_on B) B.x2 B.x3 r d
  have e := fun (j : Fin 2) (s : Fin 4096) => dsB_eq a t j r s
  unfold dsB at e
  simp only [e] at q0 q1
  have eg : ∀ j, grpAt t = grp (hdAt t j) := fun j => Fin.ext (by show t.val / 8 = (2 * (t.val / 4) + j.val) / 4; omega)
  rw [(left_at m c t).1]
  unfold Blk.dq
  generalize (blkAt m c t).hd0.dqAll _ _ = x0 at *
  generalize (blkAt m c t).hd1.dqAll _ _ = x1 at *
  by_cases hl : l.val < 64
  case' pos =>
    have e1 : (⟨l.val / 64, by omega⟩ : Fin 2) = 0 := Fin.ext (by show l.val / 64 = 0; omega)
    have e2 : (⟨l.val % 64, by omega⟩ : Fin 64) = ⟨l.val, hl⟩ := Fin.ext (Nat.mod_eq_of_lt hl)
    have hq := q0 ⟨l.val, hl⟩
  case' neg =>
    have e1 : (⟨l.val / 64, by omega⟩ : Fin 2) = 1 := Fin.ext (by show l.val / 64 = 1; omega)
    have e2 : (⟨l.val % 64, by omega⟩ : Fin 64) = ⟨l.val - 64, by omega⟩ := Fin.ext (by show l.val % 64 = l.val - 64; omega)
    have hq := q1 ⟨l.val - 64, by omega⟩
  all_goals
    rw [e1, e2]
    refine Eq.trans ?_ (hq.trans ?_)
    · pointwise
      split <;> first | rfl | omega
    · unfold Args.dq
      rw [eg]

omit ha in
theorem oidx : ∀ t : Fin cfg0.N, win0_7.index t = ![t.val % 4, t.val / 4] ∧ win0_8.index t = ![t.val / 8, 0, 0] ∧ win0_9.index t = ![t.val / 8, 0, 0] :=
  (by decide +kernel : ∀ t : Fin grid0.N, _)

/-- The gradients as arrays. -/
def dqArr (a : Args) : S4096x512.Idx → EReal := fun i => (a.dq (i 0) ⟨(i 1).val / 64, by idx_bounds i; omega⟩ ⟨(i 1).val % 64, by omega⟩ : EReal)
def dkArr (a : Args) : S2x64x4096.Idx → EReal := fun i => (a.dk (i 0) (i 1) (i 2) : EReal)
def dvArr (a : Args) : S2x64x4096.Idx → EReal := fun i => (a.dv (i 0) (i 1) (i 2) : EReal)

/-- The three results over the whole run. -/
theorem final7 : (dats m 0 c).arrAt 7 cfg0.N = dqArr a := by
  refine (dats m 0 c).arrAt_eq_of_covers 7 _ (by decide +kernel) fun t hf y => ?_
  blk_simp
  rw [after0_7]
  obtain ⟨r, l, rfl⟩ : ∃ (r : Fin 1024) (l : Fin 128), y = ix2 r l := ⟨y 0, y 1, eq_ix2 y⟩
  refine (dq_at ha t r l).trans ?_
  have e0 : (win0_7.blk t).view.emb (ix2 r l) 0 = row t r := Fin.ext (by blk_simp [oidx t]; rw [row_val]; omega)
  have e1 : ((win0_7.blk t).view.emb (ix2 r l) 1).val = 128 * (t.val / 4) + l.val := by blk_simp [oidx t]; omega
  unfold dqArr
  rw [e0]
  have e2 : hdAt t ⟨l.val / 64, by omega⟩ = ⟨((win0_7.blk t).view.emb (ix2 r l) 1).val / 64, by have := N16 t; omega⟩ :=
    Fin.ext (by show 2 * (t.val / 4) + l.val / 64 = ((win0_7.blk t).view.emb (ix2 r l) 1).val / 64; omega)
  have e3 : (⟨l.val % 64, by omega⟩ : Fin 64) = ⟨((win0_7.blk t).view.emb (ix2 r l) 1).val % 64, by omega⟩ :=
    Fin.ext (by show l.val % 64 = ((win0_7.blk t).view.emb (ix2 r l) 1).val % 64; omega)
  rw [e2, e3]

theorem final8 : (dats m 0 c).arrAt 8 cfg0.N = dkArr a := by
  refine (dats m 0 c).arrAt_eq_of_covers 8 _ (by decide +kernel) fun t hf y => ?_
  have h7 : t.val % 8 = 7 := (flush0_8 t).1 hf
  blk_simp
  rw [after0_8]
  obtain ⟨d, s, rfl⟩ : ∃ (d : Fin 64) (s : Fin 4096), y = ix3 (0 : Fin 1) d s := ⟨y 1, y 2, (eq_ix3 y).trans (by rw [show y 0 = (0 : Fin 1) from Subsingleton.elim (α := Fin 1) _ _])⟩
  refine ((state_at ha t.val t.isLt).1 d s).trans ?_
  have e0 : (win0_8.blk t).view.emb (ix3 (0 : Fin 1) d s) 0 = grpAt t := Fin.ext (by blk_simp [oidx t]; rw [grpAt_val]; omega)
  have e1 : (win0_8.blk t).view.emb (ix3 (0 : Fin 1) d s) 1 = d := Fin.ext (by blk_simp [oidx t])
  have e2 : (win0_8.blk t).view.emb (ix3 (0 : Fin 1) d s) 2 = s := Fin.ext (by blk_simp [oidx t])
  unfold dkArr
  rw [e0, e1, e2, h7, ← dk_tiles, ← pt_group]; rfl

theorem final9 : (dats m 0 c).arrAt 9 cfg0.N = dvArr a := by
  refine (dats m 0 c).arrAt_eq_of_covers 9 _ (by decide +kernel) fun t hf y => ?_
  have h7 : t.val % 8 = 7 := (flush0_9 t).1 hf
  blk_simp
  rw [after0_9]
  obtain ⟨d, s, rfl⟩ : ∃ (d : Fin 64) (s : Fin 4096), y = ix3 (0 : Fin 1) d s := ⟨y 1, y 2, (eq_ix3 y).trans (by rw [show y 0 = (0 : Fin 1) from Subsingleton.elim (α := Fin 1) _ _])⟩
  refine ((state_at ha t.val t.isLt).2 d s).trans ?_
  have e0 : (win0_9.blk t).view.emb (ix3 (0 : Fin 1) d s) 0 = grpAt t := Fin.ext (by blk_simp [oidx t]; rw [grpAt_val]; omega)
  have e1 : (win0_9.blk t).view.emb (ix3 (0 : Fin 1) d s) 1 = d := Fin.ext (by blk_simp [oidx t])
  have e2 : (win0_9.blk t).view.emb (ix3 (0 : Fin 1) d s) 2 = s := Fin.ext (by blk_simp [oidx t])
  unfold dvArr
  rw [e0, e1, e2, h7, ← dv_tiles, ← pt_group]; rfl

end Cert.AttnBwdIdeal.Pay
-- ==== Proof.AttnBwdReference.lean ====
/- The attention's reference gradients over real arguments, stage by stage, and that they are the kernel's. -/
module

public import proofs.«01_k».proof.Defs
public import proofs.«01_k».proof.Proof.AttnBwdKernel
public import proofs.«01_k».proof.Proof.Gen.AttnBwdRefIdeal.Run
public import proofs.«01_k».proof.Proof.Gen.AttnBwdRefIdeal.Read

@[expose] public section

set_option maxRecDepth 16384

noncomputable section

namespace Cert.AttnBwdRefIdeal.Stages

open Cert.AttnBwdRefIdeal Cert.AttnBwdRefIdeal.Gen Cert.AttnBwdRefIdeal.Read Cert.AttnReal Cert.Common Idealize.ShloMosaic Idealize.ShloMosaic.Tactic

variable (a : Args) (q : Vec Ideal S1x4096x8x64 .f32) (k v : Vec Ideal S1x4096x2x64 .f32) (g : Vec Ideal S1x4096x512 .f32) (ha : a.On q k v g)

theorem grp_hd (j : Fin 2) (n : Fin 4) : grp (hd j n) = j := Fin.ext (by show (4 * j.val + n.val) / 4 = j.val; omega)

include ha

theorem v4 (j : Fin 2) (n : Fin 4) (T s : Fin 4096) : val_main_v4 (F := Ideal) q k (ix5 0 j n T s) = (a.sc (hd j n) T s : EReal) := by
  pointwise [val_main_v4, val_main_v3, val_main_v2, val_main_v1, val_main_v0, val_main_cst]
  have hq : ∀ d, q (ix4 0 T ⟨j.val * 4 + n.val, by omega⟩ d) = (a.q T (hd j n) d : EReal) := fun d => by
    rw [← ha.q]; exact congrArg q (by congr 1; exact Fin.ext (by show j.val * 4 + n.val = 4 * j.val + n.val; omega))
  simp only [hq, ha.k, of_eighth, ← EReal.coe_mul, coe_sum]
  unfold Args.sc
  rw [grp_hd, Finset.sum_mul]
  exact congrArg _ (Finset.sum_congr rfl fun d _ => by ring)

theorem v5 (j : Fin 2) (n : Fin 4) (T : Fin 4096) : val_main_v5 (F := Ideal) q k (ix4 0 j n T) = (a.mx (hd j n) T : EReal) := by
  have h := fun s => v4 a q k v g ha j n T s
  unfold val_main_v5
  generalize val_main_v4 (F := Ideal) q k = y at *
  refine Eq.trans ?_ (fold_max_real (by decide) (a.sc (hd j n) T))
  pointwise [val_main_cst_0]
  simp only [h, of_neg_inf]

omit ha in
/-- The maximum with minus infinity is the other argument. -/
theorem max_bot (z : EReal) : FloatOps.maximumf (F := Ideal) (φ := .f32) (⊥ : EReal) z = z := bot_sup_eq z

omit ha in
theorem v11 (i : S1x2x4x4096.Idx) : val_main_v11 (F := Ideal) i = (⊥ : EReal) := by
  unfold val_main_v11 val_main_cst_2
  exact of_neg_inf

omit ha in
theorem v12_of (i : S1x2x4x4096.Idx) (z : EReal) (h : val_main_v5 (F := Ideal) q k i = z) : val_main_v12 (F := Ideal) q k i = z := by
  rw [val_main_v12_apply, h, v11]
  exact max_bot z

theorem v12 (j : Fin 2) (n : Fin 4) (T : Fin 4096) : val_main_v12 (F := Ideal) q k (ix4 0 j n T) = (a.mx (hd j n) T : EReal) :=
  v12_of q k _ _ (v5 a q k v g ha j n T)

theorem v25 (j : Fin 2) (n : Fin 4) (T s : Fin 4096) : val_main_v25 (F := Ideal) q k (ix5 0 j n T s) = (a.e (hd j n) T s : EReal) := by
  have h := v4 a q k v g ha j n T s
  have h' := v12 a q k v g ha j n T
  unfold val_main_v25 val_main_v24 val_main_v23 val_main_v22
  generalize val_main_v4 (F := Ideal) q k = y at *
  generalize val_main_v12 (F := Ideal) q k = y' at *
  pointwise []
  rw [h, h', ← EReal.coe_sub, Ideal.exp_coe]; rfl

theorem v27 (j : Fin 2) (n : Fin 4) (T : Fin 4096) : val_main_v27 (F := Ideal) q k (ix5 0 j n T 0) = (a.ls (hd j n) T : EReal) := by
  have h := fun s => v25 a q k v g ha j n T s
  unfold val_main_v27 val_main_v26
  generalize val_main_v25 (F := Ideal) q k = y at *
  pointwise [val_main_cst_8]
  simp only [h, of_zero, coe_sum, ← EReal.coe_add, zero_add]; rfl

theorem v29 (j : Fin 2) (n : Fin 4) (T s : Fin 4096) : val_main_v29 (F := Ideal) q k (ix5 0 j n T s) = (a.p (hd j n) T s : EReal) := by
  have h := v25 a q k v g ha j n T s
  have h' := v27 a q k v g ha j n T
  unfold val_main_v29 val_main_v28
  generalize val_main_v25 (F := Ideal) q k = y at *
  generalize val_main_v27 (F := Ideal) q k = y' at *
  pointwise []
  rw [h, h', div_real _ (a.ls_pos _ T).ne']; rfl

theorem v37 (j : Fin 2) (n : Fin 4) (T : Fin 4096) (d : Fin 64) : val_main_v37 (F := Ideal) g (ix5 0 j d n T) = (a.g T (col (hd j n) d) : EReal) := by
  pointwise [val_main_v37, val_main_v36]
  rw [← ha.g]
  exact congrArg g (by congr 1; exact Fin.ext (by show _ = 64 * (4 * j.val + n.val) + d.val; simp; omega))

theorem v38 (j : Fin 2) (n : Fin 4) (T s : Fin 4096) : val_main_v38 (F := Ideal) v g (ix5 0 j n T s) = (a.dP (hd j n) T s : EReal) := by
  have h := fun d => v37 a q k v g ha j n T d
  unfold val_main_v38
  generalize val_main_v37 (F := Ideal) g = y at *
  pointwise []
  simp only [h, ha.v, ← EReal.coe_mul, coe_sum]
  unfold Args.dP
  rw [grp_hd]

/-- The row's sum the softmax's gradient subtracts. -/
def sub (a : Args) (h : Fin 8) (T : Fin 4096) : ℝ := ∑ s, a.dP h T s * (1 / (a.ls h T * a.ls h T)) * a.e h T s

theorem v46 (j : Fin 2) (n : Fin 4) (T : Fin 4096) : val_main_v46 (F := Ideal) q k v g (ix5 0 j n T 0) = ((-sub a (hd j n) T : ℝ) : EReal) := by
  have h := fun s => v25 a q k v g ha j n T s
  have h' := v27 a q k v g ha j n T
  have h8 := fun s => v38 a q k v g ha j n T s
  unfold val_main_v46 val_main_v45 val_main_v44 val_main_v43 val_main_v42 val_main_v41 val_main_v32 val_main_v30
  generalize val_main_v25 (F := Ideal) q k = y at *
  generalize val_main_v27 (F := Ideal) q k = y' at *
  generalize val_main_v38 (F := Ideal) v g = y'' at *
  pointwise [val_main_cst_9, val_main_v31, val_main_cst_10]
  have hl := a.ls_pos (hd j n) T
  simp only [h, h', h8, of_zero, of_one, ← EReal.coe_mul, div_real _ (mul_pos hl hl).ne', coe_sum, ← EReal.coe_one, ← EReal.coe_add, zero_add, ← EReal.coe_neg]; rfl

theorem v49 (j : Fin 2) (n : Fin 4) (T : Fin 4096) : val_main_v49 (F := Ideal) q k v g (ix3 j n T) = ((-sub a (hd j n) T : ℝ) : EReal) := by
  have h := v46 a q k v g ha j n T
  unfold val_main_v49
  generalize val_main_v46 (F := Ideal) q k v g = y at *
  simp only [Host.reduceAdd, Ideal.hostReduceAdd_def]
  rw [hostReduceAdd_one _ _ _ _ (ix5 0 j n T 0), h]
  · pointwise [val_main_cst_11]
  · intro i
    constructor
    · intro e
      funext k
      fin_cases k
      · exact Subsingleton.elim (α := Fin 1) _ _
      · exact congrFun e 0
      · exact congrFun e 1
      · exact congrFun e 2
      · exact Subsingleton.elim (α := Fin 1) _ _
    · rintro rfl
      funext k; fin_cases k <;> rfl

omit ha in
/-- The reference's score gradient is the softmax times its cotangent less the row's sum. -/
theorem ds_eq (h : Fin 8) (T s : Fin 4096) : (a.dP h T s / a.ls h T + -sub a h T) * a.e h T s = a.ds h T s := by
  have hl := (a.ls_pos h T).ne'
  have e : sub a h T = a.dd h T / a.ls h T := by
    rw [a.dd_eq]; unfold sub Args.p
    rw [Finset.sum_div]
    exact Finset.sum_congr rfl fun s _ => by field_simp
  rw [e]; unfold Args.ds Args.p
  field_simp
  ring

theorem v55 (j : Fin 2) (n : Fin 4) (T s : Fin 4096) : val_main_v55 (F := Ideal) q k v g (ix5 0 j n T s) = ((a.ds (hd j n) T s * (1 / 8) : ℝ) : EReal) := by
  have h := v25 a q k v g ha j n T s
  have h' := v27 a q k v g ha j n T
  have h8 := v38 a q k v g ha j n T s
  have h9 := v49 a q k v g ha j n T
  unfold val_main_v55 val_main_v53 val_main_v52 val_main_v51 val_main_v50 val_main_v48 val_main_v47
  generalize val_main_v25 (F := Ideal) q k = y at *
  generalize val_main_v27 (F := Ideal) q k = y' at *
  generalize val_main_v38 (F := Ideal) v g = y'' at *
  generalize val_main_v49 (F := Ideal) q k v g = y''' at *
  pointwise [val_main_v54, val_main_cst_12]
  have hl := a.ls_pos (hd j n) T
  simp only [h, h', h8, h9, of_eighth, ← EReal.coe_mul, div_real _ hl.ne', ← EReal.coe_add]
  rw [ds_eq]

theorem v62 (T : Fin 4096) (l : Fin 512) : val_main_v62 (F := Ideal) q k v g (ix2 T l) = (a.dq T ⟨l.val / 64, by omega⟩ ⟨l.val % 64, by omega⟩ : EReal) := by
  have h := fun s => v55 a q k v g ha ⟨l.val / 256, by omega⟩ ⟨l.val / 64 % 4, by omega⟩ T s
  unfold val_main_v62 val_main_v61 val_main_v58 val_main_v57 val_main_v56
  generalize val_main_v55 (F := Ideal) q k v g = y at *
  have e : hd ⟨l.val / 256, by omega⟩ ⟨l.val / 64 % 4, by omega⟩ = ⟨l.val / 64, by omega⟩ := Fin.ext (by show 4 * (l.val / 256) + l.val / 64 % 4 = l.val / 64; omega)
  rw [e] at h
  pointwise []
  simp only [h, ha.k, ← EReal.coe_mul, coe_sum]
  unfold Args.dq
  rw [Finset.sum_mul]
  refine congrArg _ (Finset.sum_congr rfl fun s _ => ?_)
  rw [show grp ⟨l.val / 64, by omega⟩ = ⟨l.val / 256, by omega⟩ from Fin.ext (by show l.val / 64 / 4 = l.val / 256; omega)]
  ring

theorem v64 (j : Fin 2) (d : Fin 64) (s : Fin 4096) : val_main_v64 (F := Ideal) q k v g (ix3 j d s) = (a.dk j d s : EReal) := by
  have h := fun n T => v55 a q k v g ha j n T s
  unfold val_main_v64 val_main_v63 val_main_v60 val_main_v59 val_main_v56
  generalize val_main_v55 (F := Ideal) q k v g = y at *
  pointwise [val_main_v0]
  have hq : ∀ T n, q (ix4 0 T ⟨j.val * 4 + n.val, by omega⟩ d) = (a.q T (hd j n) d : EReal) := fun T n => by
    rw [← ha.q]; exact congrArg q (by congr 1; exact Fin.ext (by show j.val * 4 + n.val = 4 * j.val + n.val; omega))
  simp only [h, hq, ← EReal.coe_mul, coe_sum]
  unfold Args.dk
  rw [Finset.sum_comm]
  exact congrArg _ (Finset.sum_congr rfl fun n _ => Finset.sum_congr rfl fun T _ => by ring)

theorem v66 (j : Fin 2) (d : Fin 64) (s : Fin 4096) : val_main_v66 (F := Ideal) q k g (ix3 j d s) = (a.dv j d s : EReal) := by
  have h := fun n T => v29 a q k v g ha j n T s
  have h' := fun n T => v37 a q k v g ha j n T d
  unfold val_main_v66 val_main_v65 val_main_v40 val_main_v39
  generalize val_main_v29 (F := Ideal) q k = y at *
  generalize val_main_v37 (F := Ideal) g = y' at *
  pointwise []
  simp only [h, h', ← EReal.coe_mul, coe_sum]
  rfl

omit ha in
/-- Where the precondition holds of the arguments, they are real. -/
theorem args_of_finite [Cert.Pre_attn_finite.Facts] (h : Cert.Pre_attn_finite.fn (F := Ideal) q k v g = fun _ => 1#1) : ∃ a : Args, a.On q k v g := by
  have h1 := congrFun h (fun k => k.elim0)
  unfold Cert.Pre_attn_finite.fn Cert.Pre_attn_finite.fn_part1 at h1
  dsimp only at h1
  haveI : Subsingleton (Cert.Pre_attn_finite.S_).Idx := ⟨fun p q => funext fun k => k.elim0⟩
  obtain ⟨h1, h4⟩ := andi_split h1
  obtain ⟨h1, h3⟩ := andi_split h1
  obtain ⟨h1, h2⟩ := andi_split h1
  choose Q hQ using fun T n d => real_of_all _ _ _ _ _ h1 (ix4 0 T n d)
  choose K hK using fun s j d => real_of_all _ _ _ _ _ h2 (ix4 0 s j d)
  choose W hW using fun s j d => real_of_all _ _ _ _ _ h3 (ix4 0 s j d)
  choose O hO using fun T l => real_of_all _ _ _ _ _ h4 (ix3 0 T l)
  exact ⟨⟨Q, K, W, O⟩, hQ, hK, hW, hO⟩

end Cert.AttnBwdRefIdeal.Stages

namespace Cert.AttnBwdProof

open Cert.AttnBwdIdeal.Pay Cert.AttnBwdRefIdeal.Stages Idealize.ShloMosaic Idealize.ShloMosaic.TcCoe Idealize.SL.Sem

/-- Over the reals the kernel's gradients of queries, keys and values are the reference's. -/
theorem algebraic [Cert.Pre_attn_finite.Facts] : Cert.algebraic_AttnBwdIdeal_AttnBwdRefIdeal_pre_attn_finite := by
  intro m ρ m' ρ' hpre hargs
  refine ⟨_, _, _, Cert.AttnBwdIdeal.Value.run_blocks m ρ, ?_⟩
  refine (θ_run _ _ _).mono (fun r h c => ?_) (Cert.AttnBwdRefIdeal.Value.run (F := Ideal) m' ρ')
  obtain ⟨h0, h1, h2, hk⟩ := h c
  obtain ⟨a, ha⟩ := args_of_finite _ _ _ _ (hpre c)
  obtain ⟨e0, e1, e2, e3⟩ := hargs c
  refine ⟨h0.trans ?_, h1.trans ?_, h2.trans ?_, hk⟩
  · rw [Cert.AttnBwdRefIdeal.Read.val_main_v62_eq, e0, e1, e2, e3]
    refine Eq.trans ?_ (final7 ha).symm
    funext i
    obtain ⟨T, l, rfl⟩ : ∃ T l, i = ix2 T l := ⟨i 0, i 1, (ix2_eta i).symm⟩
    exact v62 a _ _ _ _ ha T l
  · rw [Cert.AttnBwdRefIdeal.Read.val_main_v64_eq, e0, e1, e2, e3]
    refine Eq.trans ?_ (final8 ha).symm
    funext i
    obtain ⟨j, d, s, rfl⟩ : ∃ j d s, i = ix3 j d s := ⟨i 0, i 1, i 2, eq_ix3 i⟩
    exact v64 a _ _ _ _ ha j d s
  · rw [Cert.AttnBwdRefIdeal.Read.val_main_v66_eq, e0, e1, e3]
    refine Eq.trans ?_ (final9 ha).symm
    funext i
    obtain ⟨j, d, s, rfl⟩ : ∃ j d s, i = ix3 j d s := ⟨i 0, i 1, i 2, eq_ix3 i⟩
    exact v66 a _ _ _ _ ha j d s

end Cert.AttnBwdProof

end
-- ==== Proof.MergeBwdHost.lean ====
/- The blocks the merge's gradient kernel reads, from the arguments: the projection in the kernel's column order, the
   two branches' projected rows recomputed, the weights side by side. -/
module

public import proofs.«01_k».proof.Proof.MergeBwdPay

@[expose] public section

set_option maxRecDepth 16384

noncomputable section

namespace Cert.MergeBwdIdeal.Pay

open Cert.MergeBwdIdeal Cert.MergeBwdIdeal.Gen Cert.MergeBwdIdeal.Value Cert.Common Idealize.ShloMosaic Idealize.ShloMosaic.TcCoe Idealize.SL.Sem Idealize.ShloMosaic.Tactic

variable (m : (ℓ : Loc nD τ sig) → Buf (Elt Ideal) ℓ) (c : Dev nD)

theorem idx : ∀ t : Fin cfg0.N, win0_0.index t = ![t.val, 0] ∧ win0_1.index t = ![t.val, 1] ∧ win0_2.index t = ![t.val, 5] ∧ win0_3.index t = ![t.val, 3]
    ∧ win0_4.index t = ![t.val, 4] ∧ win0_5.index t = ![t.val, 0] ∧ win0_6.index t = ![t.val, 0] ∧ win0_7.index t = ![t.val, 0] ∧ win0_8.index t = ![t.val, 0]
    ∧ win0_9.index t = ![0, 0] ∧ win0_10.index t = ![0, 0] :=
  (by decide +kernel : ∀ t : Fin grid0.N, _)

/-- The row of the arrays that row `r` of point `t`'s blocks is. -/
def row (t : Fin cfg0.N) (r : Fin 256) : Fin 4096 := ⟨256 * t.val + r.val, by have := N16 t; omega⟩

theorem row_val (t : Fin cfg0.N) (r : Fin 256) : (row t r).val = 256 * t.val + r.val := rfl

set_option maxHeartbeats 4000000 in
/-- The blocks a point reads, from the arrays the host prepared. -/
theorem blocks (t : Fin cfg0.N) :
    (∀ r l, iblk m c 0 t (ix2 r l) = V m c main_v23 (ix2 (row t r) l))
    ∧ (∀ r l, iblk m c 5 t (ix2 r l) = V m c main_v24 (ix2 (row t r) l)) ∧ (∀ r l, iblk m c 6 t (ix2 r l) = V m c main_v25 (ix2 (row t r) l))
    ∧ (∀ r l, iblk m c 7 t (ix2 r l) = V m c main_v26 (ix2 (row t r) l)) ∧ (∀ r l, iblk m c 8 t (ix2 r l) = V m c main_v27 (ix2 (row t r) l))
    ∧ (∀ j l, iblk m c 9 t (ix2 j l) = V m c main_v10 (ix2 j l)) ∧ (∀ j l, iblk m c 10 t (ix2 j l) = V m c main_v28 (ix2 j l)) := by
  refine ⟨?_, ?_, ?_, ?_, ?_, ?_, ?_⟩ <;> intros <;> blk_ext [iblk, idx t, row_val t]

set_option maxHeartbeats 4000000 in
theorem blocks_z (t : Fin cfg0.N) :
    (∀ r (j : Fin 512), X0_1 m c t (ix2 r j) = V m c main_v6 (ix2 (row t r) ⟨512 + j.val, by omega⟩))
    ∧ (∀ r (j : Fin 512), X0_2 m c t (ix2 r j) = V m c main_v6 (ix2 (row t r) ⟨2560 + j.val, by omega⟩))
    ∧ (∀ r (j : Fin 1024), X0_3 m c t (ix2 r j) = V m c main_v6 (ix2 (row t r) ⟨3072 + j.val, by omega⟩))
    ∧ (∀ r (j : Fin 1024), X0_4 m c t (ix2 r j) = V m c main_v6 (ix2 (row t r) ⟨4096 + j.val, by omega⟩)) := by
  refine ⟨?_, ?_, ?_, ?_⟩ <;> intro r j
  case' refine_1 => unfold X0_1 Pipeline.Window.fill; rw [dif_pos (moved0_1 t _)]
  case' refine_2 => unfold X0_2 Pipeline.Window.fill; rw [dif_pos (moved0_2 t _)]
  case' refine_3 => unfold X0_3 Pipeline.Window.fill; rw [dif_pos (moved0_3 t _)]
  case' refine_4 => unfold X0_4 Pipeline.Window.fill; rw [dif_pos (moved0_4 t _)]
  all_goals blk_ext [iblk, idx t, row_val t]

theorem host_z (R : Fin 4096) (k : Fin 5376) (h0 : 512 ≤ k.val) (h1 : k.val < 5120) :
    V m c main_v6 (ix2 R k) = m ((c : Thread nD τ).loc main_arg0) (ix3 0 R ⟨k.val + 256, by omega⟩) := by
  unfold V
  after_reads_simp
  clean_types
  pointwise
  rw [dif_neg (by omega), dif_pos (by omega)]
  after_reads_at
  have e : 768 + (k.val - 512) = k.val + 256 := by omega
  simp only [e]

theorem hosts :
    (∀ R l, V m c main_v23 (ix2 R l) = m ((c : Thread nD τ).loc main_arg6) (ix3 0 R l)) ∧ (∀ R l, V m c main_v24 (ix2 R l) = m ((c : Thread nD τ).loc main_arg1) (ix3 0 R l))
    ∧ (∀ R l, V m c main_v25 (ix2 R l) = m ((c : Thread nD τ).loc main_arg2) (ix3 0 R l)) ∧ (∀ R l, V m c main_v28 (ix2 R l) = m ((c : Thread nD τ).loc main_arg5) (ix2 R l)) := by
  refine ⟨?_, ?_, ?_, ?_⟩ <;> intros <;> unfold V <;> after_reads_at

theorem host_wa (l : Fin 1024) (j : Fin 512) : V m c main_v10 (ix2 l ⟨j.val, by omega⟩) = m ((c : Thread nD τ).loc main_arg3) (ix2 j l) := by
  unfold V; after_reads_at
  after_reads_at

theorem host_wr (l : Fin 1024) (j : Fin 512) : V m c main_v10 (ix2 l ⟨512 + j.val, by omega⟩) = m ((c : Thread nD τ).loc main_arg4) (ix2 j l) := by
  unfold V; after_reads_at
  after_reads_at

section
variable {Z : Fin 4096 → Fin 5376 → ℝ} {O : Fin 4096 → Fin 512 → ℝ} {W : Fin 512 → Fin 1024 → ℝ}
  (hz : ∀ R k, m ((c : Thread nD τ).loc main_arg0) (ix3 0 R k) = (Z R k : EReal))

include hz

/-- A branch's rows recomputed: gated, and against its weight. -/
theorem host_ya (ho : ∀ R j, m ((c : Thread nD τ).loc main_arg1) (ix3 0 R j) = (O R j : EReal)) (hw : ∀ j l, m ((c : Thread nD τ).loc main_arg3) (ix2 j l) = (W j l : EReal))
    (R : Fin 4096) (l : Fin 1024) :
    V m c main_v26 (ix2 R l) = ((∑ j : Fin 512, Z R ⟨768 + j.val, by omega⟩ * sg (Z R ⟨768 + j.val, by omega⟩) * O R j * W j l : ℝ) : EReal) := by
  unfold V
  after_reads_simp
  clean_types
  simp -implicitDefEqProofs only [StableHlo.TRef.toBuf, StableHlo.TRef.ofBuf, cast_cast, cast_eq]
  pointwise
  have hz' : ∀ R k, m (c, Proc.tc.devRef main_arg0) (ix3 0 R k) = (Z R k : EReal) := hz
  have ho' : ∀ R j, m (c, Proc.tc.devRef main_arg1) (ix3 0 R j) = (O R j : EReal) := ho
  have hw' : ∀ j l, m (c, Proc.tc.devRef main_arg3) (ix2 j l) = (W j l : EReal) := hw
  simp only [hz', ho', hw', of_one, ← EReal.coe_one, ← EReal.coe_neg, Ideal.exp_coe, ← EReal.coe_add, div_real _ (sg_pos _), ← EReal.coe_mul, coe_sum]
  rfl

theorem host_yr (ho : ∀ R j, m ((c : Thread nD τ).loc main_arg2) (ix3 0 R j) = (O R j : EReal)) (hw : ∀ j l, m ((c : Thread nD τ).loc main_arg4) (ix2 j l) = (W j l : EReal))
    (R : Fin 4096) (l : Fin 1024) :
    V m c main_v27 (ix2 R l) = ((∑ j : Fin 512, Z R ⟨2816 + j.val, by omega⟩ * sg (Z R ⟨2816 + j.val, by omega⟩) * O R j * W j l : ℝ) : EReal) := by
  unfold V
  after_reads_simp
  clean_types
  simp -implicitDefEqProofs only [StableHlo.TRef.toBuf, StableHlo.TRef.ofBuf, cast_cast, cast_eq]
  pointwise
  have hz' : ∀ R k, m (c, Proc.tc.devRef main_arg0) (ix3 0 R k) = (Z R k : EReal) := hz
  have ho' : ∀ R j, m (c, Proc.tc.devRef main_arg2) (ix3 0 R j) = (O R j : EReal) := ho
  have hw' : ∀ j l, m (c, Proc.tc.devRef main_arg4) (ix2 j l) = (W j l : EReal) := hw
  simp only [hz', ho', hw', of_one, ← EReal.coe_one, ← EReal.coe_neg, Ideal.exp_coe, ← EReal.coe_add, div_real _ (sg_pos _), ← EReal.coe_mul, coe_sum]
  rfl
end

end Cert.MergeBwdIdeal.Pay

end
-- ==== Proof.MergeBwdKernel.lean ====
/- What the merge's gradient kernel computes over real arguments, in closed form. -/
module

public import proofs.«01_k».proof.Proof.MergeBwdHost

@[expose] public section

set_option maxRecDepth 16384

noncomputable section

namespace Cert.MergeBwdIdeal.Pay

open Cert.MergeBwdIdeal Cert.MergeBwdIdeal.Gen Cert.MergeBwdIdeal.Value Cert.Common Idealize.ShloMosaic Idealize.ShloMosaic.TcCoe Idealize.SL.Sem Idealize.ShloMosaic.Tactic

/-- Real arguments: the projection, the two branches' rows, the three weights, the residual's gradient. -/
structure Args where
  Z : Fin 4096 → Fin 5376 → ℝ
  OA : Fin 4096 → Fin 512 → ℝ
  OR : Fin 4096 → Fin 512 → ℝ
  WA : Fin 512 → Fin 1024 → ℝ
  WR : Fin 512 → Fin 1024 → ℝ
  WO : Fin 1024 → Fin 1024 → ℝ
  DX : Fin 4096 → Fin 1024 → ℝ

namespace Args
variable (a : Args)
/-- The cotangent of the merged rows. -/
def dm (R : Fin 4096) (l : Fin 1024) : ℝ := ∑ k, a.DX R k * a.WO l k
/-- The two branches. -/
def A : Br 4096 := ⟨fun R j => a.Z R ⟨768 + j.val, by omega⟩, a.OA, a.WA, fun R l => a.Z R ⟨3328 + l.val, by omega⟩,
  fun R l => ∑ j : Fin 512, a.Z R ⟨768 + j.val, by omega⟩ * sg (a.Z R ⟨768 + j.val, by omega⟩) * a.OA R j * a.WA j l, a.dm⟩
def R : Br 4096 := ⟨fun R j => a.Z R ⟨2816 + j.val, by omega⟩, a.OR, a.WR, fun R l => a.Z R ⟨4352 + l.val, by omega⟩,
  fun R l => ∑ j : Fin 512, a.Z R ⟨2816 + j.val, by omega⟩ * sg (a.Z R ⟨2816 + j.val, by omega⟩) * a.OR R j * a.WR j l, a.dm⟩
/-- The gates' gradient, side by side. -/
def dz (R : Fin 4096) (k : Fin 3072) : ℝ :=
  if h0 : k.val < 512 then a.A.dG R ⟨k.val, h0⟩ else if h1 : k.val < 1024 then a.R.dG R ⟨k.val - 512, by omega⟩
  else if h2 : k.val < 2048 then a.A.dM R ⟨k.val - 1024, by omega⟩ else a.R.dM R ⟨k.val - 2048, by omega⟩
/-- A row's share of the output weight's gradient, and of the branch weights'. -/
def eo (l k : Fin 1024) (R : Fin 4096) : ℝ := (sg (a.A.M R l) * a.A.Y R l + sg (a.R.M R l) * a.R.Y R l) * a.DX R k
def ea (l : Fin 1024) (j : Fin 512) (R : Fin 4096) : ℝ := a.A.dy R l * a.A.u R j
def er (l : Fin 1024) (j : Fin 512) (R : Fin 4096) : ℝ := a.R.dy R l * a.R.u R j

/-- The arguments in memory are these reals. -/
structure On (a : Args) (z : Vec Ideal S1x4096x5376 .f32) (oa on : Vec Ideal S1x4096x512 .f32) (wa wr : Vec Ideal S512x1024 .f32)
    (wo : Vec Ideal S1024x1024 .f32) (dx : Vec Ideal S1x4096x1024 .f32) : Prop where
  z : ∀ R k, z (ix3 0 R k) = (a.Z R k : EReal)
  oa : ∀ R j, oa (ix3 0 R j) = (a.OA R j : EReal)
  on : ∀ R j, on (ix3 0 R j) = (a.OR R j : EReal)
  wa : ∀ j l, wa (ix2 j l) = (a.WA j l : EReal)
  wr : ∀ j l, wr (ix2 j l) = (a.WR j l : EReal)
  wo : ∀ l k, wo (ix2 l k) = (a.WO l k : EReal)
  dx : ∀ R k, dx (ix3 0 R k) = (a.DX R k : EReal)
end Args

/-- A sum over the rows of the tiles up to the `n`-th. -/
def sumTo (f : Fin 4096 → ℝ) (n : ℕ) : ℝ := ∑ t ∈ Finset.range n, ∑ r : Fin 256, if h : 256 * t + r.val < 4096 then f ⟨256 * t + r.val, h⟩ else 0

theorem sumTo_succ (f : Fin 4096 → ℝ) (t : Fin cfg0.N) : sumTo f (t.val + 1) = sumTo f t.val + ∑ r, f (row t r) := by
  unfold sumTo
  rw [Finset.sum_range_succ]
  refine congrArg (_ + ·) (Finset.sum_congr rfl fun r _ => ?_)
  exact dif_pos (row t r).isLt

theorem sumTo_all (f : Fin 4096 → ℝ) : sumTo f 16 = ∑ R, f R := by
  unfold sumTo
  rw [sum_tile 16 256 rfl, Finset.sum_range]
  refine Finset.sum_congr rfl fun t _ => Finset.sum_congr rfl fun r _ => ?_
  rw [dif_pos (by omega)]

variable (m : (ℓ : Loc nD τ sig) → Buf (Elt Ideal) ℓ) (c : Dev nD) (a : Args)
  (ha : a.On (m ((c : Thread nD τ).loc main_arg0)) (m ((c : Thread nD τ).loc main_arg1)) (m ((c : Thread nD τ).loc main_arg2)) (m ((c : Thread nD τ).loc main_arg3))
    (m ((c : Thread nD τ).loc main_arg4)) (m ((c : Thread nD τ).loc main_arg5)) (m ((c : Thread nD τ).loc main_arg6)))

include ha

set_option maxHeartbeats 4000000 in
theorem blk_on (t : Fin cfg0.N) : (blkAt m c t).On (a.A.at_ (row t)) (a.R.at_ (row t)) (fun r => a.DX (row t r)) a.WO := by
  obtain ⟨b0, b5, b6, b7, b8, b9, b10⟩ := blocks m c t
  obtain ⟨z1, z2, z3, z4⟩ := blocks_z m c t
  obtain ⟨h23, h24, h25, h28⟩ := hosts m c
  have hz : ∀ R (k : Fin 5376) (n : ℕ) (hn : n < 5376), 512 ≤ k.val → k.val < 5120 → n = k.val + 256 → V m c main_v6 (ix2 R k) = (a.Z R ⟨n, hn⟩ : EReal) := by
    intro R k n hn h0 h1 e
    subst e
    rw [host_z m c R k h0 h1]; exact ha.z _ _
  have y7 := host_ya m c ha.z ha.oa ha.wa
  have y8 := host_yr m c ha.z ha.on ha.wr
  unfold blkAt
  constructor <;> try dsimp only
  · intro r l; exact (b0 r l).trans ((h23 _ _).trans (ha.dx _ _))
  · intro r j; exact (z1 r j).trans (hz _ _ _ _ (by show 512 ≤ 512 + j.val; omega) (by show 512 + j.val < 5120; omega) (by show 768 + j.val = 512 + j.val + 256; omega))
  · intro r j; exact (z2 r j).trans (hz _ _ _ _ (by show 512 ≤ 2560 + j.val; omega) (by show 2560 + j.val < 5120; omega) (by show 2816 + j.val = 2560 + j.val + 256; omega))
  · intro r j; exact (z3 r j).trans (hz _ _ _ _ (by show 512 ≤ 3072 + j.val; omega) (by show 3072 + j.val < 5120; omega) (by show 3328 + j.val = 3072 + j.val + 256; omega))
  · intro r j; exact (z4 r j).trans (hz _ _ _ _ (by show 512 ≤ 4096 + j.val; omega) (by show 4096 + j.val < 5120; omega) (by show 4352 + j.val = 4096 + j.val + 256; omega))
  · intro r l; exact (b5 r l).trans ((h24 _ _).trans (ha.oa _ _))
  · intro r l; exact (b6 r l).trans ((h25 _ _).trans (ha.on _ _))
  · intro r l; exact (b7 r l).trans (y7 _ _)
  · intro r l; exact (b8 r l).trans (y8 _ _)
  · intro l j; exact (b9 _ _).trans ((host_wa m c l j).trans (ha.wa _ _))
  · intro l j; exact (b9 _ _).trans ((host_wr m c l j).trans (ha.wr _ _))
  · intro l k; exact (b10 _ _).trans ((h28 _ _).trans (ha.wo _ _))
  · intro r l; rfl
  · intro r l; rfl

/-- The running gradients after a point that started from the sums up to it. -/
theorem step (t : Fin cfg0.N) (hO : ∀ l k, carO m c t (ix2 l k) = (sumTo (a.eo l k) t.val : EReal))
    (hA : ∀ l (j : Fin 512), carB m c t (ix2 l ⟨j.val, by omega⟩) = (sumTo (a.ea l j) t.val : EReal))
    (hR : ∀ l (j : Fin 512), carB m c t (ix2 l ⟨512 + j.val, by omega⟩) = (sumTo (a.er l j) t.val : EReal)) :
    (∀ l k, (blkAt m c t).accO (carO m c t) (ix2 l k) = (sumTo (a.eo l k) (t.val + 1) : EReal))
    ∧ ∀ L, (∀ l (j : Fin 512), (blkAt m c t).accB (carB m c t) L (ix2 l ⟨j.val, by omega⟩) = (sumTo (a.ea l j) (t.val + 1) : EReal))
      ∧ (∀ l (j : Fin 512), (blkAt m c t).accB (carB m c t) L (ix2 l ⟨512 + j.val, by omega⟩) = (sumTo (a.er l j) (t.val + 1) : EReal)) := by
  have B := blk_on m c a ha t
  refine ⟨fun l k => ?_, fun L => ⟨fun l j => ?_, fun l j => ?_⟩⟩
  · rw [accO_apply B _ _ hO, sumTo_succ]; rfl
  · unfold Blk.accB
    refine (canon_out (n := 1024) (N := 1024) (w := 512) (o := 512) _ _ _ l _ (Or.inl j.isLt)).trans ?_
    refine (canon_in (n := 1024) (N := 1024) (w := 512) (o := 0) _ _ _ l _ j (Nat.zero_add _).symm).trans ?_
    rw [accA_apply B _ _ hA, sumTo_succ]; rfl
  · unfold Blk.accB
    refine (canon_in (n := 1024) (N := 1024) (w := 512) (o := 512) _ _ _ l _ j rfl).trans ?_
    rw [accR_apply B _ _ hR, sumTo_succ]; rfl

/-- The running gradients a point starts from: over the rows of the points before it. -/
theorem car (n : ℕ) (hn : n < cfg0.N) :
    (∀ l k, carO m c ⟨n, hn⟩ (ix2 l k) = (sumTo (a.eo l k) n : EReal))
    ∧ (∀ l (j : Fin 512), carB m c ⟨n, hn⟩ (ix2 l ⟨j.val, by omega⟩) = (sumTo (a.ea l j) n : EReal))
    ∧ (∀ l (j : Fin 512), carB m c ⟨n, hn⟩ (ix2 l ⟨512 + j.val, by omega⟩) = (sumTo (a.er l j) n : EReal)) := by
  induction n with
  | zero =>
    unfold carO carB
    rw [if_pos (show (0 : ℕ) % 16 = 0 from rfl), if_pos (show (0 : ℕ) % 16 = 0 from rfl)]
    refine ⟨?_, ?_, ?_⟩ <;> intros <;> pointwise [k0_pay6, k0_pay7] <;> exact EReal.coe_zero.symm
  | succ n ih =>
    have hN : n + 1 < 16 := lt_of_lt_of_eq hn N_0
    have h := ih (Nat.lt_of_succ_lt hn)
    have s := step m c a ha ⟨n, Nat.lt_of_succ_lt hn⟩ h.1 h.2.1 h.2.2
    have hc : ¬ (n + 1) % 16 = 0 := by omega
    obtain ⟨L, hL⟩ := accB_at m c ⟨n, Nat.lt_of_succ_lt hn⟩
    have hO : carO m c ⟨n + 1, hn⟩ = (blkAt m c ⟨n, Nat.lt_of_succ_lt hn⟩).accO (carO m c ⟨n, Nat.lt_of_succ_lt hn⟩) :=
      (if_neg hc).trans (accO_at m c ⟨n, Nat.lt_of_succ_lt hn⟩)
    have hB : carB m c ⟨n + 1, hn⟩ = (blkAt m c ⟨n, Nat.lt_of_succ_lt hn⟩).accB (carB m c ⟨n, Nat.lt_of_succ_lt hn⟩) L := (if_neg hc).trans hL
    rw [hO, hB]
    exact ⟨s.1, (s.2 L).1, (s.2 L).2⟩

omit ha in
theorem last_lt : 15 < cfg0.N := by rw [show cfg0.N = 16 from N_0]; decide

/-- The kernel's gradient of the output weight. -/
theorem G14_apply (l k : Fin 1024) : G14 m c (ix2 l k) = ((∑ R, a.eo l k R : ℝ) : EReal) := by
  have h := car m c a ha 15 last_lt
  rw [G14_last, ← outsAt0_sweep m c 15 last_lt, dwo_at m c ⟨15, last_lt⟩ rfl, ← sumTo_all]
  refine Eq.trans ?_ ((step m c a ha ⟨15, last_lt⟩ h.1 h.2.1 h.2.2).1 l k)
  generalize Blk.accO _ _ = x
  pointwise [k0_pay4]

/-- The kernel's gradient of the branch weights, side by side. -/
theorem G15_apply (l : Fin 1024) (j : Fin 512) : G15 m c (ix2 l ⟨j.val, by omega⟩) = ((∑ R, a.ea l j R : ℝ) : EReal)
    ∧ G15 m c (ix2 l ⟨512 + j.val, by omega⟩) = ((∑ R, a.er l j R : ℝ) : EReal) := by
  have h := car m c a ha 15 last_lt
  rw [G15_last, ← outsAt0_sweep m c 15 last_lt, dwb_at m c ⟨15, last_lt⟩ rfl, ← sumTo_all, ← sumTo_all]
  have s := (step m c a ha ⟨15, last_lt⟩ h.1 h.2.1 h.2.2).2 []
  refine ⟨Eq.trans ?_ (s.1 l j), Eq.trans ?_ (s.2 l j)⟩
  all_goals
    generalize Blk.accB _ _ _ = x
    pointwise [k0_pay5]

omit ha in
theorem tile_lt (R : Fin 4096) : R.val / 256 < cfg0.N := by rw [show cfg0.N = 16 from N_0]; omega

omit ha in
theorem row_eq (R : Fin 4096) : row ⟨R.val / 256, tile_lt R⟩ ⟨R.val % 256, by omega⟩ = R := Fin.ext (by show 256 * (R.val / 256) + R.val % 256 = R.val; omega)

/-- The kernel's gradients of the branches' rows. -/
theorem G11_apply (R : Fin 4096) (j : Fin 512) : G11 m c (ix2 R j) = (a.A.dO R j : EReal) := by
  have hp : pt11Of (ix2 R j) = R.val / 256 := by show 1 * (R.val / 256 - 0) + 1 * (j.val / 512 - 0) = R.val / 256; omega
  have hl : loc11Of (ix2 R j) = ix2 ⟨R.val % 256, by omega⟩ j := funext fun k => by
    fin_cases k
    · rfl
    · exact Fin.ext (Nat.mod_eq_of_lt j.isLt)
  unfold G11
  rw [dif_pos (by rw [hp]; exact tile_lt R), hl, ← outsAt0_sweep m c _ (by rw [hp]; exact tile_lt R)]
  simp only [hp]
  rw [doa_at m c ⟨R.val / 256, tile_lt R⟩, doa_apply (blk_on m c a ha _)]
  exact congrArg (fun x => (a.A.dO x j : EReal)) (row_eq R)

theorem G12_apply (R : Fin 4096) (j : Fin 512) : G12 m c (ix2 R j) = (a.R.dO R j : EReal) := by
  have hp : pt12Of (ix2 R j) = R.val / 256 := by show 1 * (R.val / 256 - 0) + 1 * (j.val / 512 - 0) = R.val / 256; omega
  have hl : loc12Of (ix2 R j) = ix2 ⟨R.val % 256, by omega⟩ j := funext fun k => by
    fin_cases k
    · rfl
    · exact Fin.ext (Nat.mod_eq_of_lt j.isLt)
  unfold G12
  rw [dif_pos (by rw [hp]; exact tile_lt R), hl, ← outsAt0_sweep m c _ (by rw [hp]; exact tile_lt R)]
  simp only [hp]
  rw [don_at m c ⟨R.val / 256, tile_lt R⟩, don_apply (blk_on m c a ha _)]
  exact congrArg (fun x => (a.R.dO x j : EReal)) (row_eq R)

/-- A tile's gates' gradient, read off the four bands stored. -/
theorem dz_apply (t : Fin cfg0.N) (r : Fin 256) (k : Fin 3072) : (blkAt m c t).dz (ix2 r k) = (a.dz (row t r) k : EReal) := by
  have B := blk_on m c a ha t
  unfold Blk.dz Args.dz
  by_cases h0 : k.val < 512
  · rw [dif_pos h0]
    refine (canon_out (n := 256) (N := 3072) (w := 512) (o := 512) _ _ _ r _ (Or.inl h0)).trans ?_
    refine (canon_in (n := 256) (N := 3072) (w := 512) (o := 0) _ _ _ r _ ⟨k.val, h0⟩ (Nat.zero_add _).symm).trans ?_
    exact dza_apply B _ _
  · by_cases h1 : k.val < 1024
    · rw [dif_neg h0, dif_pos h1]
      refine (canon_in (n := 256) (N := 3072) (w := 512) (o := 512) _ _ _ r _ ⟨k.val - 512, by omega⟩ (by show k.val = 512 + (k.val - 512); omega)).trans ?_
      exact dzr_apply B _ _
    · refine (canon_out (n := 256) (N := 3072) (w := 512) (o := 512) _ _ _ r _ (Or.inr (by omega))).trans ?_
      refine (canon_out (n := 256) (N := 3072) (w := 512) (o := 0) _ _ _ r _ (Or.inr (by omega))).trans ?_
      by_cases h2 : k.val < 2048
      · rw [dif_neg h0, dif_neg h1, dif_pos h2]
        refine (canon_out (n := 256) (N := 3072) (w := 1024) (o := 2048) _ _ _ r _ (Or.inl h2)).trans ?_
        refine (canon_in (n := 256) (N := 3072) (w := 1024) (o := 1024) _ _ _ r _ ⟨k.val - 1024, by omega⟩ (by show k.val = 1024 + (k.val - 1024); omega)).trans ?_
        exact dz0_apply B _ _
      · rw [dif_neg h0, dif_neg h1, dif_neg h2]
        refine (canon_in (n := 256) (N := 3072) (w := 1024) (o := 2048) _ _ _ r _ ⟨k.val - 2048, by omega⟩ (by show k.val = 2048 + (k.val - 2048); omega)).trans ?_
        exact dz1_apply B _ _

/-- The kernel's gradient of the gates. -/
theorem G13_apply (R : Fin 4096) (k : Fin 3072) : G13 m c (ix2 R k) = (a.dz R k : EReal) := by
  have hp : pt13Of (ix2 R k) = R.val / 256 := by show 1 * (R.val / 256 - 0) + 1 * (k.val / 3072 - 0) = R.val / 256; omega
  have hl : loc13Of (ix2 R k) = ix2 ⟨R.val % 256, by omega⟩ k := funext fun b => by
    fin_cases b
    · rfl
    · exact Fin.ext (Nat.mod_eq_of_lt k.isLt)
  unfold G13
  rw [dif_pos (by rw [hp]; exact tile_lt R), hl, ← outsAt0_sweep m c _ (by rw [hp]; exact tile_lt R)]
  simp only [hp]
  rw [dz_at m c ⟨R.val / 256, tile_lt R⟩, dz_apply m c a ha, row_eq]

end Cert.MergeBwdIdeal.Pay

end
-- ==== Proof.MergeBwdReference.lean ====
/- The merge's reference gradients over real arguments, stage by stage, and that they are the kernel's. -/
module

public import proofs.«01_k».proof.Defs
public import proofs.«01_k».proof.Proof.MergeBwdKernel
public import proofs.«01_k».proof.Proof.Gen.MergeBwdRefIdeal.Run
public import proofs.«01_k».proof.Proof.Gen.MergeBwdRefIdeal.Read

@[expose] public section

set_option maxRecDepth 16384

noncomputable section

namespace Cert.MergeBwdRefIdeal.Stages

open Cert.MergeBwdRefIdeal Cert.MergeBwdRefIdeal.Gen Cert.MergeBwdRefIdeal.Read Cert.MergeBwdIdeal.Pay Cert.Common Idealize.ShloMosaic Idealize.ShloMosaic.Tactic

variable (a : Args) (z : Vec Ideal S1x4096x5376 .f32) (oa on : Vec Ideal S1x4096x512 .f32) (wa wr : Vec Ideal S512x1024 .f32)
    (wo : Vec Ideal S1024x1024 .f32) (dx : Vec Ideal S1x4096x1024 .f32) (ha : a.On z oa on wa wr wo dx)

include ha

theorem v9_2 (R : Fin 4096) (j : Fin 512) : val_main_v9_2 (F := Ideal) z (ix3 0 R j) = (sg (a.A.G R j) : EReal) := by
  pointwise [val_main_v9_2, val_main_call0_v4, val_main_call0_cst_0, val_main_call0_v3, val_main_call0_v2, val_main_call0_cst, val_main_call0_v1, val_main_call0_v0, val_main_v3]
  simp only [ha.z, of_one, ← EReal.coe_one, ← EReal.coe_neg, Ideal.exp_coe, ← EReal.coe_add, div_real _ (sg_pos _)]
  rfl

theorem v12_2 (R : Fin 4096) (j : Fin 512) : val_main_v12_2 (F := Ideal) z (ix3 0 R j) = (sg (a.R.G R j) : EReal) := by
  pointwise [val_main_v12_2, val_main_call1_v4, val_main_call1_cst_0, val_main_call1_v3, val_main_call1_v2, val_main_call1_cst, val_main_call1_v1, val_main_call1_v0, val_main_v7]
  simp only [ha.z, of_one, ← EReal.coe_one, ← EReal.coe_neg, Ideal.exp_coe, ← EReal.coe_add, div_real _ (sg_pos _)]
  rfl

theorem v20 (R : Fin 4096) (l : Fin 2048) : val_main_v20 (F := Ideal) z (ix3 0 R l) = (sg (a.Z R ⟨3328 + l.val, by omega⟩) : EReal) := by
  pointwise [val_main_v20, val_main_v19, val_main_cst_0, val_main_v18, val_main_v17, val_main_cst, val_main_v16, val_main_v15, val_main_v8]
  simp only [ha.z, of_one, ← EReal.coe_one, ← EReal.coe_neg, Ideal.exp_coe, ← EReal.coe_add, div_real _ (sg_pos _)]
  rfl

theorem v10 (R : Fin 4096) (j : Fin 512) : val_main_v10 (F := Ideal) z oa (ix3 0 R j) = (a.A.u R j : EReal) := by
  have h := v9_2 a z oa on wa wr wo dx ha
  unfold val_main_v10 val_main_v9_0
  generalize val_main_v9_2 (F := Ideal) z = y at *
  pointwise [val_main_v3]
  simp only [h, ha.z, ha.oa, ← EReal.coe_mul]
  rfl

theorem v13 (R : Fin 4096) (j : Fin 512) : val_main_v13 (F := Ideal) z on (ix3 0 R j) = (a.R.u R j : EReal) := by
  have h := v12_2 a z oa on wa wr wo dx ha
  unfold val_main_v13 val_main_v12_0
  generalize val_main_v12_2 (F := Ideal) z = y at *
  pointwise [val_main_v7]
  simp only [h, ha.z, ha.on, ← EReal.coe_mul]
  rfl

theorem v11 (R : Fin 4096) (l : Fin 1024) : val_main_v11 (F := Ideal) z oa wa (ix3 0 R l) = (a.A.Y R l : EReal) := by
  have h := v10 a z oa on wa wr wo dx ha
  unfold val_main_v11
  generalize val_main_v10 (F := Ideal) z oa = y at *
  pointwise
  simp only [h, ha.wa, ← EReal.coe_mul, coe_sum]
  rfl

theorem v14 (R : Fin 4096) (l : Fin 1024) : val_main_v14 (F := Ideal) z on wr (ix3 0 R l) = (a.R.Y R l : EReal) := by
  have h := v13 a z oa on wa wr wo dx ha
  unfold val_main_v14
  generalize val_main_v13 (F := Ideal) z on = y at *
  pointwise
  simp only [h, ha.wr, ← EReal.coe_mul, coe_sum]
  rfl

theorem v26 (R : Fin 4096) (l : Fin 1024) : val_main_v26 (F := Ideal) z (ix3 0 R l) = (sg (a.A.M R l) : EReal) := by
  have h := v20 a z oa on wa wr wo dx ha
  unfold val_main_v26 val_main_v25 val_main_v24
  generalize val_main_v20 (F := Ideal) z = y at *
  pointwise
  rw [h]
  rfl

theorem v29 (R : Fin 4096) (l : Fin 1024) : val_main_v29 (F := Ideal) z (ix3 0 R l) = (sg (a.R.M R l) : EReal) := by
  have h := v20 a z oa on wa wr wo dx ha
  unfold val_main_v29 val_main_v28 val_main_v24
  generalize val_main_v20 (F := Ideal) z = y at *
  pointwise
  rw [h]
  refine congrArg (fun k => (sg (a.Z R k) : EReal)) (Fin.ext ?_)
  show 3328 + (1024 + l.val) = 4352 + l.val
  omega

theorem v31 (R : Fin 4096) (l : Fin 1024) : val_main_v31 (F := Ideal) z oa on wa wr (ix3 0 R l) = ((sg (a.A.M R l) * a.A.Y R l + sg (a.R.M R l) * a.R.Y R l : ℝ) : EReal) := by
  have h0 := v26 a z oa on wa wr wo dx ha
  have h1 := v29 a z oa on wa wr wo dx ha
  have h2 := v11 a z oa on wa wr wo dx ha
  have h3 := v14 a z oa on wa wr wo dx ha
  unfold val_main_v31 val_main_v27 val_main_v30
  generalize val_main_v26 (F := Ideal) z = y0 at *
  generalize val_main_v29 (F := Ideal) z = y1 at *
  generalize val_main_v11 (F := Ideal) z oa wa = y2 at *
  generalize val_main_v14 (F := Ideal) z on wr = y3 at *
  pointwise
  simp only [h0, h1, h2, h3, ← EReal.coe_mul, ← EReal.coe_add]

/-- The output weight's gradient. -/
theorem v66 (l k : Fin 1024) : val_main_v66 (F := Ideal) z oa on wa wr dx (ix2 l k) = ((∑ R, a.eo l k R : ℝ) : EReal) := by
  have h := v31 a z oa on wa wr wo dx ha
  unfold val_main_v66 val_main_v34 val_main_v33
  generalize val_main_v31 (F := Ideal) z oa on wa wr = y at *
  pointwise
  rw [Fin.sum_univ_one]
  simp only [h, ha.dx, ← EReal.coe_mul, coe_sum]
  unfold Args.eo
  exact congrArg _ (Finset.sum_congr rfl fun R _ => mul_comm _ _)

theorem v35 (R : Fin 4096) (l : Fin 1024) : val_main_v35 (F := Ideal) wo dx (ix3 0 R l) = (a.dm R l : EReal) := by
  pointwise [val_main_v35]
  simp only [ha.dx, ha.wo, ← EReal.coe_mul, coe_sum]
  rfl

theorem v40 (R : Fin 4096) (l : Fin 1024) : val_main_v40 (F := Ideal) z wo dx (ix3 0 R l) = (a.A.dy R l : EReal) := by
  have h0 := v26 a z oa on wa wr wo dx ha
  have h1 := v35 a z oa on wa wr wo dx ha
  unfold val_main_v40
  generalize val_main_v26 (F := Ideal) z = y0 at *
  generalize val_main_v35 (F := Ideal) wo dx = y1 at *
  pointwise
  rw [h0, h1, ← EReal.coe_mul, mul_comm]
  rfl

theorem v36 (R : Fin 4096) (l : Fin 1024) : val_main_v36 (F := Ideal) z wo dx (ix3 0 R l) = (a.R.dy R l : EReal) := by
  have h0 := v29 a z oa on wa wr wo dx ha
  have h1 := v35 a z oa on wa wr wo dx ha
  unfold val_main_v36
  generalize val_main_v29 (F := Ideal) z = y0 at *
  generalize val_main_v35 (F := Ideal) wo dx = y1 at *
  pointwise
  rw [h0, h1, ← EReal.coe_mul, mul_comm]
  rfl

theorem v55 (R : Fin 4096) (j : Fin 512) : val_main_v55 (F := Ideal) z wa wo dx (ix3 0 R j) = (a.A.du R j : EReal) := by
  have h := v40 a z oa on wa wr wo dx ha
  unfold val_main_v55
  generalize val_main_v40 (F := Ideal) z wo dx = y at *
  pointwise
  simp only [h, ha.wa, ← EReal.coe_mul, coe_sum]
  rfl

theorem v49 (R : Fin 4096) (j : Fin 512) : val_main_v49 (F := Ideal) z wr wo dx (ix3 0 R j) = (a.R.du R j : EReal) := by
  have h := v36 a z oa on wa wr wo dx ha
  unfold val_main_v49
  generalize val_main_v36 (F := Ideal) z wo dx = y at *
  pointwise
  simp only [h, ha.wr, ← EReal.coe_mul, coe_sum]
  rfl

/-- The gradients of the branches' rows. -/
theorem v59 (R : Fin 4096) (j : Fin 512) : val_main_v59 (F := Ideal) z wa wo dx (ix2 R j) = (a.A.dO R j : EReal) := by
  have h := v55 a z oa on wa wr wo dx ha
  have hs := v9_2 a z oa on wa wr wo dx ha
  unfold val_main_v59 val_main_v56 val_main_v9_0
  generalize val_main_v55 (F := Ideal) z wa wo dx = y at *
  generalize val_main_v9_2 (F := Ideal) z = s at *
  pointwise [val_main_v3]
  simp only [h, hs, ha.z, ← EReal.coe_mul]
  rw [mul_comm]; rfl

theorem v60 (R : Fin 4096) (j : Fin 512) : val_main_v60 (F := Ideal) z wr wo dx (ix2 R j) = (a.R.dO R j : EReal) := by
  have h := v49 a z oa on wa wr wo dx ha
  have hs := v12_2 a z oa on wa wr wo dx ha
  unfold val_main_v60 val_main_v50 val_main_v12_0
  generalize val_main_v49 (F := Ideal) z wr wo dx = y at *
  generalize val_main_v12_2 (F := Ideal) z = s at *
  pointwise [val_main_v7]
  simp only [h, hs, ha.z, ← EReal.coe_mul]
  rw [mul_comm]; rfl

/-- The gradients of the branches' gates. -/
theorem v61 (R : Fin 4096) (j : Fin 512) : val_main_v61 (F := Ideal) z oa wa wo dx (ix2 R j) = (a.A.dG R j : EReal) := by
  have h := v55 a z oa on wa wr wo dx ha
  have hs := v9_2 a z oa on wa wr wo dx ha
  unfold val_main_v61 val_main_v58 val_main_call3_v1 val_main_call3_v2 val_main_call3_v0 val_main_v57 val_main_v9_1 val_main_call0_v7
  generalize val_main_v55 (F := Ideal) z wa wo dx = y at *
  generalize val_main_v9_2 (F := Ideal) z = s at *
  pointwise [val_main_v3, val_main_call0_v6, val_main_call0_cst_1]
  simp only [h, hs, ha.z, ha.oa, of_one, ← EReal.coe_one, ← EReal.coe_mul, ← EReal.coe_sub, ← EReal.coe_add]
  refine congrArg _ ?_
  show _ = a.A.du R j * a.A.O R j * (sg (a.A.G R j) * (1 + a.A.G R j * (1 - sg (a.A.G R j))))
  rw [show a.OA R j = a.A.O R j from rfl, show a.Z R ⟨768 + j.val, by omega⟩ = a.A.G R j from rfl]
  ring

theorem v62 (R : Fin 4096) (j : Fin 512) : val_main_v62 (F := Ideal) z on wr wo dx (ix2 R j) = (a.R.dG R j : EReal) := by
  have h := v49 a z oa on wa wr wo dx ha
  have hs := v12_2 a z oa on wa wr wo dx ha
  unfold val_main_v62 val_main_v52 val_main_call2_v1 val_main_call2_v2 val_main_call2_v0 val_main_v51 val_main_v12_1 val_main_call1_v7
  generalize val_main_v49 (F := Ideal) z wr wo dx = y at *
  generalize val_main_v12_2 (F := Ideal) z = s at *
  pointwise [val_main_v7, val_main_call1_v6, val_main_call1_cst_1]
  simp only [h, hs, ha.z, ha.on, of_one, ← EReal.coe_one, ← EReal.coe_mul, ← EReal.coe_sub, ← EReal.coe_add]
  refine congrArg _ ?_
  show _ = a.R.du R j * a.R.O R j * (sg (a.R.G R j) * (1 + a.R.G R j * (1 - sg (a.R.G R j))))
  rw [show a.OR R j = a.R.O R j from rfl, show a.Z R ⟨2816 + j.val, by omega⟩ = a.R.G R j from rfl]
  ring

set_option maxHeartbeats 4000000 in
/-- The gradient of the merge gates. -/
theorem v63 (R : Fin 4096) (k : Fin 2048) : val_main_v63 (F := Ideal) z oa on wa wr wo dx (ix2 R k)
    = ((if h : k.val < 1024 then a.A.dM R ⟨k.val, h⟩ else a.R.dM R ⟨k.val - 1024, by omega⟩ : ℝ) : EReal) := by
  have h0 := v20 a z oa on wa wr wo dx ha
  have h1 := v35 a z oa on wa wr wo dx ha
  have h2 := v11 a z oa on wa wr wo dx ha
  have h3 := v14 a z oa on wa wr wo dx ha
  unfold val_main_v63 val_main_v46 val_main_v45 val_main_v44 val_main_v43 val_main_v39 val_main_v42 val_main_v38 val_main_v41 val_main_v37 val_main_v23 val_main_v22
  generalize val_main_v20 (F := Ideal) z = y0 at *
  generalize val_main_v35 (F := Ideal) wo dx = y1 at *
  generalize val_main_v11 (F := Ideal) z oa wa = y2 at *
  generalize val_main_v14 (F := Ideal) z on wr = y3 at *
  pointwise [val_main_v21, val_main_cst_1, val_main_cst_2, val_main_cst_3]
  have hk : k.val % 1024 < 1024 := Nat.mod_lt _ (by decide)
  by_cases hk0 : k.val < 1024
  · have e : k.val % 1024 = k.val := Nat.mod_eq_of_lt hk0
    rw [dif_neg (by omega), dif_pos ⟨by omega, hk⟩, dif_pos hk0, h0, h1, h2, zero_add]
    simp only [e, ← EReal.coe_one, ← EReal.coe_mul, ← EReal.coe_sub]
    rw [show a.Z R ⟨3328 + k.val, by omega⟩ = a.A.M R ⟨k.val, hk0⟩ from rfl]
    refine congrArg _ ?_
    unfold Br.dM
    rw [show a.A.D R ⟨k.val, hk0⟩ = a.dm R ⟨k.val, hk0⟩ from rfl]
    ring
  · have e : k.val % 1024 = k.val - 1024 := by omega
    rw [dif_pos ⟨by omega, hk⟩, dif_neg (by omega), dif_neg hk0, h0, h1, h3, add_zero]
    simp only [e, ← EReal.coe_one, ← EReal.coe_mul, ← EReal.coe_sub]
    have ez : a.Z R ⟨3328 + k.val, by omega⟩ = a.R.M R ⟨k.val - 1024, by omega⟩ :=
      congrArg (a.Z R) (Fin.ext (by show 3328 + k.val = 4352 + (k.val - 1024); omega))
    rw [ez]
    refine congrArg _ ?_
    unfold Br.dM
    rw [show a.R.D R ⟨k.val - 1024, by omega⟩ = a.dm R ⟨k.val - 1024, by omega⟩ from rfl]
    ring

/-- The branch weights' gradients. -/
theorem v67 (l : Fin 1024) (j : Fin 512) : val_main_v67 (F := Ideal) z oa wo dx (ix2 l j) = ((∑ R, a.ea l j R : ℝ) : EReal) := by
  have h := v40 a z oa on wa wr wo dx ha
  have h' := v10 a z oa on wa wr wo dx ha
  unfold val_main_v67 val_main_v54 val_main_v53
  generalize val_main_v40 (F := Ideal) z wo dx = y at *
  generalize val_main_v10 (F := Ideal) z oa = y' at *
  pointwise
  rw [Fin.sum_univ_one]
  simp only [h, h', ← EReal.coe_mul, coe_sum]
  rfl

theorem v68 (l : Fin 1024) (j : Fin 512) : val_main_v68 (F := Ideal) z on wo dx (ix2 l j) = ((∑ R, a.er l j R : ℝ) : EReal) := by
  have h := v36 a z oa on wa wr wo dx ha
  have h' := v13 a z oa on wa wr wo dx ha
  unfold val_main_v68 val_main_v48 val_main_v47
  generalize val_main_v36 (F := Ideal) z wo dx = y at *
  generalize val_main_v13 (F := Ideal) z on = y' at *
  pointwise
  rw [Fin.sum_univ_one]
  simp only [h, h', ← EReal.coe_mul, coe_sum]
  rfl

theorem v65 (R : Fin 4096) (k : Fin 3072) : val_main_v65 (F := Ideal) z oa on wa wr wo dx (ix2 R k) = (a.dz R k : EReal) := by
  have h0 := v61 a z oa on wa wr wo dx ha
  have h1 := v62 a z oa on wa wr wo dx ha
  have h2 := v63 a z oa on wa wr wo dx ha
  unfold val_main_v65 val_main_v64 Args.dz
  generalize val_main_v61 (F := Ideal) z oa wa wo dx = y0 at *
  generalize val_main_v62 (F := Ideal) z on wr wo dx = y1 at *
  generalize val_main_v63 (F := Ideal) z oa on wa wr wo dx = y2 at *
  pointwise
  by_cases k0 : k.val < 512
  · rw [dif_pos k0, dif_pos k0, h0]
  rw [dif_neg k0, dif_neg k0]
  by_cases k1 : k.val < 1024
  · rw [dif_pos (by omega), dif_pos k1, h1]
  rw [dif_neg (by omega), dif_neg k1, h2]
  by_cases k2 : k.val < 2048
  · rw [dif_pos k2, dif_pos (show k.val - 512 - 512 < 1024 by omega)]
    simp only [Nat.sub_sub]
  · rw [dif_neg k2, dif_neg (show ¬ k.val - 512 - 512 < 1024 by omega)]
    simp only [Nat.sub_sub]

theorem v70 (l : Fin 1024) (j : Fin 512) : val_main_v70 (F := Ideal) z oa on wo dx (ix2 l ⟨j.val, by omega⟩) = ((∑ R, a.ea l j R : ℝ) : EReal)
    ∧ val_main_v70 (F := Ideal) z oa on wo dx (ix2 l ⟨512 + j.val, by omega⟩) = ((∑ R, a.er l j R : ℝ) : EReal) := by
  have h0 := v67 a z oa on wa wr wo dx ha
  have h1 := v68 a z oa on wa wr wo dx ha
  unfold val_main_v70 val_main_v69
  generalize val_main_v67 (F := Ideal) z oa wo dx = y0 at *
  generalize val_main_v68 (F := Ideal) z on wo dx = y1 at *
  constructor
  · pointwise
    exact h0 l j
  · pointwise
    exact h1 l j

omit ha in
/-- Where the precondition holds of the arguments, they are real. -/
theorem args_of_finite [Cert.Pre_merge_finite.Facts] (h : Cert.Pre_merge_finite.fn (F := Ideal) z oa on wa wr wo dx = fun _ => 1#1) : ∃ a : Args, a.On z oa on wa wr wo dx := by
  have h1 := congrFun h (fun k => k.elim0)
  unfold Cert.Pre_merge_finite.fn Cert.Pre_merge_finite.fn_part1 at h1
  dsimp only at h1
  haveI : Subsingleton (Cert.Pre_merge_finite.S_).Idx := ⟨fun p q => funext fun k => k.elim0⟩
  obtain ⟨h1, h7⟩ := andi_split h1
  obtain ⟨h1, h6⟩ := andi_split h1
  obtain ⟨h1, h5⟩ := andi_split h1
  obtain ⟨h1, h4⟩ := andi_split h1
  obtain ⟨h1, h3⟩ := andi_split h1
  obtain ⟨h1, h2⟩ := andi_split h1
  choose Z hZ using fun R k => real_of_all _ _ _ _ _ h1 (ix3 0 R k)
  choose OA hOA using fun R j => real_of_all _ _ _ _ _ h2 (ix3 0 R j)
  choose ON hON using fun R j => real_of_all _ _ _ _ _ h3 (ix3 0 R j)
  choose WA hWA using fun j l => real_of_all _ _ _ _ _ h4 (ix2 j l)
  choose WR hWR using fun j l => real_of_all _ _ _ _ _ h5 (ix2 j l)
  choose WO hWO using fun l k => real_of_all _ _ _ _ _ h6 (ix2 l k)
  choose DX hDX using fun R k => real_of_all _ _ _ _ _ h7 (ix3 0 R k)
  exact ⟨⟨Z, OA, ON, WA, WR, WO, DX⟩, hZ, hOA, hON, hWA, hWR, hWO, hDX⟩

end Cert.MergeBwdRefIdeal.Stages

namespace Cert.MergeBwdProof

open Cert.MergeBwdIdeal.Pay Cert.MergeBwdRefIdeal.Stages Idealize.ShloMosaic Idealize.ShloMosaic.TcCoe Idealize.SL.Sem

set_option maxHeartbeats 8000000 in
theorem algebraic [Cert.Pre_merge_finite.Facts] : Cert.algebraic_MergeBwdIdeal_MergeBwdRefIdeal_pre_merge_finite := by
  intro m ρ m' ρ' hpre hargs
  refine ⟨_, _, _, _, _, Cert.MergeBwdIdeal.Value.run_blocks m ρ, ?_⟩
  refine (θ_run _ _ _).mono (fun r h c => ?_) (Cert.MergeBwdRefIdeal.Value.run (F := Ideal) m' ρ')
  obtain ⟨h0, h1, h2, h3, h4, hk⟩ := h c
  obtain ⟨a, ha⟩ := args_of_finite _ _ _ _ _ _ _ (hpre c)
  obtain ⟨e0, e1, e2, e3, e4, e5, e6⟩ := hargs c
  refine ⟨h0.trans ?_, h1.trans ?_, h2.trans ?_, h3.trans ?_, h4.trans ?_, hk⟩
  · rw [Cert.MergeBwdRefIdeal.Read.val_main_v59_eq, e0, e3, e5, e6]
    refine Eq.trans ?_ (Cert.MergeBwdIdeal.Value.final11 m c).symm
    funext i
    obtain ⟨R, j, rfl⟩ : ∃ R j, i = ix2 R j := ⟨i 0, i 1, (ix2_eta i).symm⟩
    exact (v59 a _ _ _ _ _ _ _ ha R j).trans (G11_apply m c a ha R j).symm
  · rw [Cert.MergeBwdRefIdeal.Read.val_main_v60_eq, e0, e4, e5, e6]
    refine Eq.trans ?_ (Cert.MergeBwdIdeal.Value.final12 m c).symm
    funext i
    obtain ⟨R, j, rfl⟩ : ∃ R j, i = ix2 R j := ⟨i 0, i 1, (ix2_eta i).symm⟩
    exact (v60 a _ _ _ _ _ _ _ ha R j).trans (G12_apply m c a ha R j).symm
  · rw [Cert.MergeBwdRefIdeal.Read.val_main_v65_eq, e0, e1, e2, e3, e4, e5, e6]
    refine Eq.trans ?_ (Cert.MergeBwdIdeal.Value.final13 m c).symm
    funext i
    obtain ⟨R, k, rfl⟩ : ∃ R k, i = ix2 R k := ⟨i 0, i 1, (ix2_eta i).symm⟩
    exact (v65 a _ _ _ _ _ _ _ ha R k).trans (G13_apply m c a ha R k).symm
  · rw [Cert.MergeBwdRefIdeal.Read.val_main_v66_eq, e0, e1, e2, e3, e4, e6]
    refine Eq.trans ?_ (Cert.MergeBwdIdeal.Value.final14 m c).symm
    funext i
    obtain ⟨l, k, rfl⟩ : ∃ l k, i = ix2 l k := ⟨i 0, i 1, (ix2_eta i).symm⟩
    exact (v66 a _ _ _ _ _ _ _ ha l k).trans (G14_apply m c a ha l k).symm
  · rw [Cert.MergeBwdRefIdeal.Read.val_main_v70_eq, e0, e1, e2, e5, e6]
    refine Eq.trans ?_ (Cert.MergeBwdIdeal.Value.final15 m c).symm
    funext i
    obtain ⟨l, k, rfl⟩ : ∃ l k, i = ix2 l k := ⟨i 0, i 1, (ix2_eta i).symm⟩
    have hb : k.val < 1024 := k.isLt
    by_cases hk : k.val < 512
    · exact (v70 a _ _ _ _ _ _ _ ha l ⟨k.val, hk⟩).1.trans (G15_apply m c a ha l ⟨k.val, hk⟩).1.symm
    · have e : k = ⟨512 + (⟨k.val - 512, by omega⟩ : Fin 512).val, by show 512 + (k.val - 512) < 1024; omega⟩ := Fin.ext (by show k.val = 512 + (k.val - 512); omega)
      rw [e]
      exact (v70 a _ _ _ _ _ _ _ ha l _).2.trans (G15_apply m c a ha l _).2.symm

end Cert.MergeBwdProof

end
-- ==== Proof.HeadBwdState.lean ====
/- What each grid point of the head leaves: its rows' projected branches and gradient, and the running sums of the
   gain's gradient and of the loss; then the blocks the points read, from the arguments. -/
module

public import proofs.«01_k».proof.Proof.Gen.HeadBwdIdeal.Value
public import proofs.«01_k».proof.Proof.Common
public import proofs.«01_k».proof.Proof.InBwdPay
public import proofs.«01_k».proof.Proof.MergeBwdPay
public import Idealize.ShloMosaic.Lib.Pointwise
public import Idealize.ShloMosaic.Lib.Pipeline.ValueKit
public import Idealize.ShloMosaic.Lib.Pipeline.ReadBack
public import Idealize.ShloMosaic.Lib.StableHlo.ReadAt

@[expose] public section

set_option maxRecDepth 16384

noncomputable section

namespace Cert.HeadBwdIdeal.Pay

open Cert.HeadBwdIdeal Cert.HeadBwdIdeal.Gen Cert.HeadBwdIdeal.Value Cert.Common Idealize.ShloMosaic Idealize.ShloMosaic.TcCoe Idealize.SL.Sem Idealize.ShloMosaic.Tactic

variable (m : (ℓ : Loc nD τ sig) → Buf (Elt Ideal) ℓ) (c : Dev nD)

/-- The blocks one point reads. -/
structure Blk where
  x : Vec Ideal S256x1024 .f32
  ga : Vec Ideal S256x512 .f32
  gr : Vec Ideal S256x512 .f32
  m0 : Vec Ideal S256x1024 .f32
  m1 : Vec Ideal S256x1024 .f32
  oa : Vec Ideal S256x512 .f32
  on : Vec Ideal S256x512 .f32
  wb : Vec Ideal S1024x1024 .bf16
  wo : Vec Ideal S1024x1024 .bf16
  g : Vec Ideal S1x1024 .f32
  tg : Vec Ideal S256x1024 .f32

namespace Blk
variable (b : Blk)
/-- The two branches' projected rows. -/
def ya : FVec Ideal S256x1024 .f32 := k0_pay5 b.ga b.oa (View.ld b.wb (Rect.unit ![0, 0] ![1024, 512] inb_S1024x1024_S1024x512_0_0))
def yb : FVec Ideal S256x1024 .f32 := k0_pay6 b.gr b.on (View.ld b.wb (Rect.unit ![0, 512] ![1024, 512] inb_S1024x1024_S1024x512_0_512))
/-- The layer's output, its reciprocal root mean square down a column and across the tile. -/
def xn : FVec Ideal S256x1024 .f32 := k0_pay8 b.ya b.yb (k0_pay7 b.m0) (Scalar.ofBits .f32 0x00000000#32) b.m1 b.x b.wo
def rc : FVec Ideal S256x1 .f32 := k0_pay12 b.ya b.yb (k0_pay7 b.m0) (Scalar.ofBits .f32 0x00000000#32) b.m1 b.x b.wo
def rb : FVec Ideal S256x1024 .f32 := k0_pay13 b.ya b.yb (k0_pay7 b.m0) (Scalar.ofBits .f32 0x00000000#32) b.m1 b.x b.wo
/-- What a point stores of its rows, and the running sums after it. -/
def dx : FVec Ideal S256x1024 .f32 := k0_pay17 b.xn (k0_pay11 b.g) b.rc b.rb b.tg
def accG (s : Vec Ideal S8x1024 .f32) : FVec Ideal S8x1024 .f32 := k0_pay18 b.xn (k0_pay11 b.g) b.rb b.tg s
def accL (s : Vec Ideal S8x1024 .f32) : FVec Ideal S8x1024 .f32 := k0_pay19 b.xn (k0_pay11 b.g) b.rb b.tg s
end Blk

/-- The blocks of a point. -/
def blkAt (t : Fin cfg0.N) : Blk :=
  ⟨iblk m c 0 t, X0_1 m c t, X0_2 m c t, X0_3 m c t, X0_4 m c t, iblk m c 5 t, iblk m c 6 t, iblk m c 7 t, iblk m c 8 t, iblk m c 9 t, iblk m c 10 t⟩

theorem N16 (t : Fin cfg0.N) : t.val < 16 := lt_of_lt_of_eq t.isLt N_0

/-- The state the point before left. -/
abbrev before (t : Fin cfg0.N) := outsAt0 m c (t.val - 1) (Nat.lt_of_le_of_lt (Nat.sub_le _ _) t.isLt)

/-- The running sums a point starts from. -/
def carG (t : Fin cfg0.N) : Vec Ideal S8x1024 .f32 := if t.val % 16 = 0 then k0_pay9 (F := Ideal) else (before m c t).2.2.2.2.2.1
def carL (t : Fin cfg0.N) : Vec Ideal S8x1024 .f32 := if t.val % 16 = 0 then k0_pay10 (F := Ideal) else (before m c t).2.2.2.2.2.2

set_option maxHeartbeats 8000000 in
theorem rows_at (t : Fin cfg0.N) : (outsAt0 m c t.val t.isLt).1 = (blkAt m c t).dx ∧ (outsAt0 m c t.val t.isLt).2.1 = k0_pay3 (blkAt m c t).ya
    ∧ (outsAt0 m c t.val t.isLt).2.2.1 = k0_pay4 (blkAt m c t).yb := by
  by_cases h0 : t.val % 16 = 0
  case' pos => rw [outsAt0_A m c t h0 (by omega)]
  case' neg =>
    by_cases h1 : t.val % 16 = 15
    case' pos => rw [outsAt0_C m c t h0 h1]
    case' neg => rw [outsAt0_B m c t h0 h1]
  all_goals refine ⟨?_, ?_, ?_⟩
  all_goals frame_open
  all_goals frame_out
  all_goals rfl

set_option maxHeartbeats 8000000 in
theorem accG_at (t : Fin cfg0.N) : (outsAt0 m c t.val t.isLt).2.2.2.2.2.1 = (blkAt m c t).accG (carG m c t) := by
  by_cases h0 : t.val % 16 = 0
  case' pos => rw [outsAt0_A m c t h0 (by omega)]
  case' neg =>
    by_cases h1 : t.val % 16 = 15
    case' pos => rw [outsAt0_C m c t h0 h1]
    case' neg => rw [outsAt0_B m c t h0 h1]
  all_goals frame_open
  all_goals frame_out
  all_goals simp only [carG, h0, if_true, if_false, read_unread_whole]
  all_goals rfl

set_option maxHeartbeats 8000000 in
theorem accL_at (t : Fin cfg0.N) : (outsAt0 m c t.val t.isLt).2.2.2.2.2.2 = (blkAt m c t).accL (carL m c t) := by
  by_cases h0 : t.val % 16 = 0
  case' pos => rw [outsAt0_A m c t h0 (by omega)]
  case' neg =>
    by_cases h1 : t.val % 16 = 15
    case' pos => rw [outsAt0_C m c t h0 h1]
    case' neg => rw [outsAt0_B m c t h0 h1]
  all_goals frame_open
  all_goals frame_out
  all_goals simp only [carL, h0, if_true, if_false, read_unread_whole]
  all_goals rfl

set_option maxHeartbeats 8000000 in
theorem last_at (t : Fin cfg0.N) (h1 : t.val % 16 = 15) : (outsAt0 m c t.val t.isLt).2.2.2.1 = k0_pay1 (F := Ideal) ((blkAt m c t).accG (carG m c t))
    ∧ (outsAt0 m c t.val t.isLt).2.2.2.2.1 = k0_pay2 (F := Ideal) ((blkAt m c t).accL (carL m c t)) := by
  have h0 : ¬ t.val % 16 = 0 := by omega
  rw [outsAt0_C m c t h0 h1]
  constructor
  all_goals frame_open
  all_goals frame_out
  all_goals simp only [carG, carL, h0, if_false, read_unread_whole]
  all_goals rfl

theorem idx : ∀ t : Fin cfg0.N, win0_0.index t = ![t.val, 0] ∧ win0_1.index t = ![t.val, 1] ∧ win0_2.index t = ![t.val, 5] ∧ win0_3.index t = ![t.val, 3]
    ∧ win0_4.index t = ![t.val, 4] ∧ win0_5.index t = ![t.val, 0] ∧ win0_6.index t = ![t.val, 0] ∧ win0_7.index t = ![0, 0] ∧ win0_8.index t = ![0, 0]
    ∧ win0_9.index t = ![0, 0] ∧ win0_10.index t = ![t.val, 0] :=
  (by decide +kernel : ∀ t : Fin grid0.N, _)

/-- The row of the arrays that row `r` of point `t`'s blocks is. -/
def row (t : Fin cfg0.N) (r : Fin 256) : Fin 4096 := ⟨256 * t.val + r.val, by have := N16 t; omega⟩

theorem row_val (t : Fin cfg0.N) (r : Fin 256) : (row t r).val = 256 * t.val + r.val := rfl

set_option maxHeartbeats 4000000 in
/-- The blocks a point reads, from the arrays the host prepared. -/
theorem blocks (t : Fin cfg0.N) :
    (∀ r l, iblk m c 0 t (ix2 r l) = V m c main_v11 (ix2 (row t r) l))
    ∧ (∀ r l, iblk m c 5 t (ix2 r l) = V m c main_v12 (ix2 (row t r) l)) ∧ (∀ r l, iblk m c 6 t (ix2 r l) = V m c main_v13 (ix2 (row t r) l))
    ∧ (∀ j l, iblk m c 7 t (ix2 j l) = V m c main_v10 (ix2 j l)) ∧ (∀ j l, iblk m c 8 t (ix2 j l) = V m c main_v14 (ix2 j l))
    ∧ (∀ l, iblk m c 9 t (ix2 0 l) = V m c main_v15 (ix2 0 l)) ∧ (∀ r l, iblk m c 10 t (ix2 r l) = V m c main_v16 (ix2 (row t r) l)) := by
  refine ⟨?_, ?_, ?_, ?_, ?_, ?_, ?_⟩ <;> intros <;> blk_ext [iblk, idx t, row_val t]

set_option maxHeartbeats 4000000 in
theorem blocks_z (t : Fin cfg0.N) :
    (∀ r (j : Fin 512), X0_1 m c t (ix2 r j) = V m c main_v6 (ix2 (row t r) ⟨512 + j.val, by omega⟩))
    ∧ (∀ r (j : Fin 512), X0_2 m c t (ix2 r j) = V m c main_v6 (ix2 (row t r) ⟨2560 + j.val, by omega⟩))
    ∧ (∀ r (j : Fin 1024), X0_3 m c t (ix2 r j) = V m c main_v6 (ix2 (row t r) ⟨3072 + j.val, by omega⟩))
    ∧ (∀ r (j : Fin 1024), X0_4 m c t (ix2 r j) = V m c main_v6 (ix2 (row t r) ⟨4096 + j.val, by omega⟩)) := by
  refine ⟨?_, ?_, ?_, ?_⟩ <;> intro r j
  case' refine_1 => unfold X0_1 Pipeline.Window.fill; rw [dif_pos (moved0_1 t _)]
  case' refine_2 => unfold X0_2 Pipeline.Window.fill; rw [dif_pos (moved0_2 t _)]
  case' refine_3 => unfold X0_3 Pipeline.Window.fill; rw [dif_pos (moved0_3 t _)]
  case' refine_4 => unfold X0_4 Pipeline.Window.fill; rw [dif_pos (moved0_4 t _)]
  all_goals blk_ext [iblk, idx t, row_val t]

theorem host_z (R : Fin 4096) (k : Fin 5376) (h0 : 512 ≤ k.val) (h1 : k.val < 5120) :
    V m c main_v6 (ix2 R k) = m ((c : Thread nD τ).loc main_arg1) (ix3 0 R ⟨k.val + 256, by omega⟩) := by
  unfold V
  after_reads_simp
  clean_types
  pointwise
  rw [dif_neg (by omega), dif_pos (by omega)]
  after_reads_at
  have e : 768 + (k.val - 512) = k.val + 256 := by omega
  simp only [e]

/-- The host's other arrays, from the arguments. -/
theorem hosts :
    (∀ R l, V m c main_v11 (ix2 R l) = m ((c : Thread nD τ).loc main_arg0) (ix3 0 R l)) ∧ (∀ R l, V m c main_v12 (ix2 R l) = m ((c : Thread nD τ).loc main_arg2) (ix3 0 R l))
    ∧ (∀ R l, V m c main_v13 (ix2 R l) = m ((c : Thread nD τ).loc main_arg3) (ix3 0 R l)) ∧ (∀ R l, V m c main_v14 (ix2 R l) = m ((c : Thread nD τ).loc main_arg6) (ix2 R l))
    ∧ (∀ l, V m c main_v15 (ix2 0 l) = m ((c : Thread nD τ).loc main_arg7) (ix1 l)) ∧ (∀ R l, V m c main_v16 (ix2 R l) = m ((c : Thread nD τ).loc main_arg8) (ix3 0 R l))
    ∧ (∀ l (j : Fin 512), V m c main_v10 (ix2 l ⟨j.val, by omega⟩) = m ((c : Thread nD τ).loc main_arg4) (ix2 j l))
    ∧ (∀ l (j : Fin 512), V m c main_v10 (ix2 l ⟨512 + j.val, by omega⟩) = m ((c : Thread nD τ).loc main_arg5) (ix2 j l)) := by
  refine ⟨?_, ?_, ?_, ?_, ?_, ?_, ?_, ?_⟩ <;> intros <;> unfold V <;> after_reads_at
  all_goals after_reads_at

end Cert.HeadBwdIdeal.Pay

end
-- ==== Proof.HeadBwdPay.lean ====
/- The values one tile of the head stores, over real operands. -/
module

public import proofs.«01_k».proof.Proof.HeadBwdState

@[expose] public section

set_option maxRecDepth 16384

noncomputable section

namespace Cert.HeadBwdIdeal.Pay

open Cert.HeadBwdIdeal Cert.HeadBwdIdeal.Gen Cert.HeadBwdIdeal.Value Cert.Common Idealize.ShloMosaic Idealize.ShloMosaic.TcCoe Idealize.SL.Sem Idealize.ShloMosaic.Tactic
open Cert.MergeBwdIdeal.Pay (sg sg_pos)
open Cert.InBwdIdeal.Pay (rms rms_arg_pos)

/-- Real operands over `n` rows: the layer's input, the gates' logits, the merge gates' logits, the branches' rows and
    weights, the output weight, the final gain and the target. -/
structure Hd (n : ℕ) where
  X : Fin n → Fin 1024 → ℝ
  GA : Fin n → Fin 512 → ℝ
  GR : Fin n → Fin 512 → ℝ
  M0 : Fin n → Fin 1024 → ℝ
  M1 : Fin n → Fin 1024 → ℝ
  OA : Fin n → Fin 512 → ℝ
  ON : Fin n → Fin 512 → ℝ
  WA : Fin 512 → Fin 1024 → ℝ
  WR : Fin 512 → Fin 1024 → ℝ
  WO : Fin 1024 → Fin 1024 → ℝ
  G : Fin 1024 → ℝ
  T : Fin n → Fin 1024 → ℝ

namespace Hd
variable {n : ℕ} (b : Hd n)
/-- The branches' projected rows, the merged rows, the layer's output, its normalised rows and their error. -/
def ya (r : Fin n) (l : Fin 1024) : ℝ := ∑ j, b.GA r j * sg (b.GA r j) * b.OA r j * b.WA j l
def yb (r : Fin n) (l : Fin 1024) : ℝ := ∑ j, b.GR r j * sg (b.GR r j) * b.ON r j * b.WR j l
def mg (r : Fin n) (l : Fin 1024) : ℝ := sg (b.M0 r l) * b.ya r l + sg (b.M1 r l) * b.yb r l
def xn (r : Fin n) (l : Fin 1024) : ℝ := b.X r l + ∑ j, b.mg r j * b.WO j l
def xh (r : Fin n) (l : Fin 1024) : ℝ := b.xn r l * rms (b.xn r)
def er (r : Fin n) (l : Fin 1024) : ℝ := b.xh r l * b.G l - b.T r l
/-- The error's cotangent, and the rows' gradient. -/
def dy (r : Fin n) (l : Fin 1024) : ℝ := b.er r l * (1 / 1024)
def dx (r : Fin n) (l : Fin 1024) : ℝ := rms (b.xn r) * (b.dy r l * b.G l - b.xh r l * ((∑ k, b.dy r k * b.G k * b.xh r k) / 1024))
/-- A row's share of the gain's gradient, and of the squared error. -/
def eg (r : Fin n) (l : Fin 1024) : ℝ := b.dy r l * b.xh r l
def el (r : Fin n) (l : Fin 1024) : ℝ := b.er r l * b.er r l
/-- Some of the rows. -/
def at_ {k : ℕ} (f : Fin k → Fin n) : Hd k :=
  ⟨fun r => b.X (f r), fun r => b.GA (f r), fun r => b.GR (f r), fun r => b.M0 (f r), fun r => b.M1 (f r), fun r => b.OA (f r), fun r => b.ON (f r), b.WA, b.WR, b.WO, b.G, fun r => b.T (f r)⟩
end Hd

/-- A tile's blocks are these reals. -/
structure Blk.On (b : Blk) (h : Hd 256) : Prop where
  x : ∀ r l, b.x (ix2 r l) = (h.X r l : EReal)
  ga : ∀ r l, b.ga (ix2 r l) = (h.GA r l : EReal)
  gr : ∀ r l, b.gr (ix2 r l) = (h.GR r l : EReal)
  m0 : ∀ r l, b.m0 (ix2 r l) = (h.M0 r l : EReal)
  m1 : ∀ r l, b.m1 (ix2 r l) = (h.M1 r l : EReal)
  oa : ∀ r l, b.oa (ix2 r l) = (h.OA r l : EReal)
  on : ∀ r l, b.on (ix2 r l) = (h.ON r l : EReal)
  wa : ∀ l (j : Fin 512), b.wb (ix2 l ⟨j.val, by omega⟩) = (h.WA j l : EReal)
  wr : ∀ l (j : Fin 512), b.wb (ix2 l ⟨512 + j.val, by omega⟩) = (h.WR j l : EReal)
  wo : ∀ j l, b.wo (ix2 j l) = (h.WO j l : EReal)
  g : ∀ l, b.g (ix2 0 l) = (h.G l : EReal)
  tg : ∀ r l, b.tg (ix2 r l) = (h.T r l : EReal)

theorem of_tiny : Ideal.ofBits .f32 0x3A800000#32 = ((1 / 1024 : ℝ) : EReal) := by
  simp [Ideal.ofBits, Ideal.ieee, -EReal.coe_mul]; norm_num

theorem of_tiny' : Ideal.ofBits .f32 0x3A000000#32 = ((1 / 2048 : ℝ) : EReal) := by
  simp [Ideal.ofBits, Ideal.ieee, -EReal.coe_mul]; norm_num

section
variable {b : Blk} {h : Hd 256} (B : b.On h)
include B

theorem ya_apply (r : Fin 256) (l : Fin 1024) : b.ya (ix2 r l) = (h.ya r l : EReal) := by
  unfold Blk.ya
  pointwise [k0_pay5]
  simp only [B.ga, B.oa, B.wa, of_zero, of_one, ← EReal.coe_zero, ← EReal.coe_sub, Ideal.exp_coe, ← EReal.coe_one, ← EReal.coe_add, zero_sub, div_real _ (sg_pos _), ← EReal.coe_mul,
    coe_sum, zero_add]
  rfl

theorem yb_apply (r : Fin 256) (l : Fin 1024) : b.yb (ix2 r l) = (h.yb r l : EReal) := by
  unfold Blk.yb
  pointwise [k0_pay6]
  simp only [B.gr, B.on, B.wr, of_zero, of_one, ← EReal.coe_zero, ← EReal.coe_sub, Ideal.exp_coe, ← EReal.coe_one, ← EReal.coe_add, zero_sub, div_real _ (sg_pos _), ← EReal.coe_mul,
    coe_sum, zero_add]
  rfl

theorem xn_apply (r : Fin 256) (l : Fin 1024) : b.xn (ix2 r l) = (h.xn r l : EReal) := by
  have ha := ya_apply B
  have hb := yb_apply B
  unfold Blk.xn
  generalize b.ya = y at *
  generalize b.yb = y' at *
  pointwise [k0_pay8, k0_pay7]
  simp only [ha, hb, B.x, B.m0, B.m1, B.wo, of_zero, of_one, ← EReal.coe_zero, ← EReal.coe_sub, Ideal.exp_coe, ← EReal.coe_one, ← EReal.coe_add, zero_sub, div_real _ (sg_pos _),
    ← EReal.coe_mul, coe_sum, zero_add]
  rfl

theorem rc_apply (r : Fin 256) : b.rc (ix2 r 0) = (rms (h.xn r) : EReal) := by
  have hx := xn_apply B
  unfold Blk.xn at hx
  unfold Blk.rc k0_pay12
  generalize k0_pay8 b.ya b.yb (k0_pay7 b.m0) (Scalar.ofBits .f32 0x00000000#32) b.m1 b.x b.wo = y at *
  pointwise
  simp only [hx, of_zero, of_1024, of_eps, ← EReal.coe_mul, coe_sum, ← EReal.coe_add, div_real _ (show (1024 : ℝ) ≠ 0 by norm_num), zero_add, rsqrt_real (rms_arg_pos (h.xn r))]
  rfl

theorem rb_apply (r : Fin 256) (l : Fin 1024) : b.rb (ix2 r l) = (rms (h.xn r) : EReal) := by
  have hr := rc_apply B
  unfold Blk.rc at hr
  unfold Blk.rb k0_pay13
  generalize k0_pay12 b.ya b.yb (k0_pay7 b.m0) (Scalar.ofBits .f32 0x00000000#32) b.m1 b.x b.wo = y at *
  pointwise
  exact hr r

theorem xh_apply (r : Fin 256) (l : Fin 1024) : k0_pay14 b.xn b.rb (ix2 r l) = (h.xh r l : EReal) := by
  have hx := xn_apply B
  have hr := rb_apply B
  generalize b.xn = x at *
  generalize b.rb = y at *
  pointwise [k0_pay14]
  rw [hx, hr, ← EReal.coe_mul]; rfl

theorem er_apply (r : Fin 256) (l : Fin 1024) : k0_pay15 b.xn (k0_pay11 b.g) b.rb b.tg (ix2 r l) = (h.er r l : EReal) := by
  have hx := xh_apply B
  unfold k0_pay15
  generalize k0_pay14 b.xn b.rb = x at *
  pointwise [k0_pay11]
  simp only [hx, B.g, B.tg, ← EReal.coe_mul, ← EReal.coe_sub]; rfl

theorem dy_apply (r : Fin 256) (l : Fin 1024) : k0_pay16 b.xn (k0_pay11 b.g) b.rb b.tg (ix2 r l) = (h.dy r l : EReal) := by
  have hx := er_apply B
  unfold k0_pay16
  generalize k0_pay15 b.xn (k0_pay11 b.g) b.rb b.tg = x at *
  pointwise
  rw [hx, of_tiny, ← EReal.coe_mul]; rfl

theorem dx_apply (r : Fin 256) (l : Fin 1024) : b.dx (ix2 r l) = (h.dx r l : EReal) := by
  have hx := xh_apply B
  have hd := dy_apply B
  have hr := rc_apply B
  unfold Blk.dx k0_pay17
  generalize k0_pay14 b.xn b.rb = x at *
  generalize k0_pay16 b.xn (k0_pay11 b.g) b.rb b.tg = d at *
  generalize b.rc = y at *
  pointwise [k0_pay11]
  simp only [hx, hd, hr, B.g, of_zero, of_1024, ← EReal.coe_mul, coe_sum, zero_add, ← EReal.coe_sub, div_real _ (show (1024 : ℝ) ≠ 0 by norm_num)]
  rfl

theorem accG_apply (s : Vec Ideal S8x1024 .f32) (A : Fin 8 → Fin 1024 → ℝ) (hs : ∀ i l, s (ix2 i l) = (A i l : EReal)) (i : Fin 8) (l : Fin 1024) :
    b.accG s (ix2 i l) = ((A i l + ∑ k : Fin 32, h.eg ⟨k.val * 8 + i.val, by omega⟩ l : ℝ) : EReal) := by
  have hx := xh_apply B
  have hd := dy_apply B
  unfold Blk.accG k0_pay18
  generalize k0_pay14 b.xn b.rb = x at *
  generalize k0_pay16 b.xn (k0_pay11 b.g) b.rb b.tg = d at *
  pointwise
  simp only [hx, hd, hs, of_zero, ← EReal.coe_mul, coe_sum, ← EReal.coe_add, zero_add]
  rfl

theorem accL_apply (s : Vec Ideal S8x1024 .f32) (A : Fin 8 → Fin 1024 → ℝ) (hs : ∀ i l, s (ix2 i l) = (A i l : EReal)) (i : Fin 8) (l : Fin 1024) :
    b.accL s (ix2 i l) = ((A i l + ∑ k : Fin 32, h.el ⟨k.val * 8 + i.val, by omega⟩ l : ℝ) : EReal) := by
  have hd := er_apply B
  unfold Blk.accL k0_pay19
  generalize k0_pay15 b.xn (k0_pay11 b.g) b.rb b.tg = d at *
  pointwise
  simp only [hd, hs, of_zero, ← EReal.coe_mul, coe_sum, ← EReal.coe_add, zero_add]
  rfl
end

theorem last_apply (s : Vec Ideal S8x1024 .f32) (A : Fin 8 → Fin 1024 → ℝ) (hs : ∀ i l, s (ix2 i l) = (A i l : EReal)) :
    (∀ l, k0_pay1 s (ix2 0 l) = ((∑ i, A i l : ℝ) : EReal)) ∧ ∀ l, k0_pay2 s (ix2 0 l) = (((∑ l, ∑ i, A i l) * (1 / 2048) : ℝ) : EReal) := by
  refine ⟨fun l => ?_, fun l => ?_⟩
  · pointwise [k0_pay1]
    simp only [hs, of_zero, coe_sum, ← EReal.coe_add, zero_add]
  · pointwise [k0_pay2]
    simp only [hs, of_zero, of_tiny', coe_sum, ← EReal.coe_add, zero_add, ← EReal.coe_mul]

end Cert.HeadBwdIdeal.Pay

end
-- ==== Proof.HeadBwdKernel.lean ====
/- What the head's kernel computes over real arguments, in closed form. -/
module

public import proofs.«01_k».proof.Proof.HeadBwdPay

@[expose] public section

set_option maxRecDepth 16384

noncomputable section

namespace Cert.HeadBwdIdeal.Pay

open Cert.HeadBwdIdeal Cert.HeadBwdIdeal.Gen Cert.HeadBwdIdeal.Value Cert.Common Idealize.ShloMosaic Idealize.ShloMosaic.TcCoe Idealize.SL.Sem Idealize.ShloMosaic.Tactic

/-- Real arguments: the layer's input, the projection, the two branches' rows, the three weights, the final gain, the target. -/
structure Args where
  X : Fin 4096 → Fin 1024 → ℝ
  Z : Fin 4096 → Fin 5376 → ℝ
  OA : Fin 4096 → Fin 512 → ℝ
  ON : Fin 4096 → Fin 512 → ℝ
  WA : Fin 512 → Fin 1024 → ℝ
  WR : Fin 512 → Fin 1024 → ℝ
  WO : Fin 1024 → Fin 1024 → ℝ
  G : Fin 1024 → ℝ
  T : Fin 4096 → Fin 1024 → ℝ

/-- The head's operands over all the rows. -/
def Args.hd (a : Args) : Hd 4096 :=
  ⟨a.X, fun R j => a.Z R ⟨768 + j.val, by omega⟩, fun R j => a.Z R ⟨2816 + j.val, by omega⟩, fun R l => a.Z R ⟨3328 + l.val, by omega⟩, fun R l => a.Z R ⟨4352 + l.val, by omega⟩,
    a.OA, a.ON, a.WA, a.WR, a.WO, a.G, a.T⟩

/-- The arguments in memory are these reals. -/
structure Args.On (a : Args) (x : Vec Ideal S1x4096x1024 .f32) (z : Vec Ideal S1x4096x5376 .f32) (oa on : Vec Ideal S1x4096x512 .f32) (wa wr : Vec Ideal S512x1024 .f32)
    (wo : Vec Ideal S1024x1024 .f32) (g : Vec Ideal S1024 .f32) (tg : Vec Ideal S1x4096x1024 .f32) : Prop where
  x : ∀ R l, x (ix3 0 R l) = (a.X R l : EReal)
  z : ∀ R k, z (ix3 0 R k) = (a.Z R k : EReal)
  oa : ∀ R j, oa (ix3 0 R j) = (a.OA R j : EReal)
  on : ∀ R j, on (ix3 0 R j) = (a.ON R j : EReal)
  wa : ∀ j l, wa (ix2 j l) = (a.WA j l : EReal)
  wr : ∀ j l, wr (ix2 j l) = (a.WR j l : EReal)
  wo : ∀ l k, wo (ix2 l k) = (a.WO l k : EReal)
  g : ∀ l, g (ix1 l) = (a.G l : EReal)
  tg : ∀ R l, tg (ix3 0 R l) = (a.T R l : EReal)

/-- A sum over every eighth row, from the `s`-th, of the tiles up to the `n`-th. -/
def part (f : Fin 4096 → ℝ) (n : ℕ) (s : Fin 8) : ℝ :=
  ∑ t ∈ Finset.range n, ∑ i : Fin 32, if h : 256 * t + (i.val * 8 + s.val) < 4096 then f ⟨256 * t + (i.val * 8 + s.val), h⟩ else 0

theorem part_succ (f : Fin 4096 → ℝ) (t : Fin cfg0.N) (s : Fin 8) : part f (t.val + 1) s = part f t.val s + ∑ i : Fin 32, f (row t ⟨i.val * 8 + s.val, by omega⟩) := by
  unfold part
  rw [Finset.sum_range_succ]
  refine congrArg (_ + ·) (Finset.sum_congr rfl fun i _ => ?_)
  exact dif_pos (row t ⟨i.val * 8 + s.val, by omega⟩).isLt

theorem part_all (f : Fin 4096 → ℝ) : ∑ s, part f 16 s = ∑ R, f R := by
  unfold part
  rw [Finset.sum_comm, Finset.sum_range, sum_tile 16 256 rfl f]
  refine Finset.sum_congr rfl fun t _ => ?_
  rw [sum_tile 32 8 rfl, Finset.sum_comm]
  refine Finset.sum_congr rfl fun i _ => Finset.sum_congr rfl fun s _ => ?_
  rw [dif_pos (by omega)]
  exact congrArg f (Fin.ext (by show 256 * t.val + (i.val * 8 + s.val) = 256 * t.val + (8 * i.val + s.val); omega))

variable (m : (ℓ : Loc nD τ sig) → Buf (Elt Ideal) ℓ) (c : Dev nD) (a : Args)
  (ha : a.On (m ((c : Thread nD τ).loc main_arg0)) (m ((c : Thread nD τ).loc main_arg1)) (m ((c : Thread nD τ).loc main_arg2)) (m ((c : Thread nD τ).loc main_arg3))
    (m ((c : Thread nD τ).loc main_arg4)) (m ((c : Thread nD τ).loc main_arg5)) (m ((c : Thread nD τ).loc main_arg6)) (m ((c : Thread nD τ).loc main_arg7))
    (m ((c : Thread nD τ).loc main_arg8)))

include ha

set_option maxHeartbeats 4000000 in
theorem blk_on (t : Fin cfg0.N) : (blkAt m c t).On (a.hd.at_ (row t)) := by
  obtain ⟨b0, b5, b6, b7, b8, b9, b10⟩ := blocks m c t
  obtain ⟨z1, z2, z3, z4⟩ := blocks_z m c t
  obtain ⟨h11, h12, h13, h14, h15, h16, hwa, hwr⟩ := hosts m c
  have hz : ∀ R (k : Fin 5376) (n : ℕ) (hn : n < 5376), 512 ≤ k.val → k.val < 5120 → n = k.val + 256 → V m c main_v6 (ix2 R k) = (a.Z R ⟨n, hn⟩ : EReal) := by
    intro R k n hn h0 h1 e
    subst e
    rw [host_z m c R k h0 h1]; exact ha.z _ _
  unfold blkAt
  constructor <;> try dsimp only
  · intro r l; exact (b0 r l).trans ((h11 _ _).trans (ha.x _ _))
  · intro r j; exact (z1 r j).trans (hz _ _ _ _ (by show 512 ≤ 512 + j.val; omega) (by show 512 + j.val < 5120; omega) (by show 768 + j.val = 512 + j.val + 256; omega))
  · intro r j; exact (z2 r j).trans (hz _ _ _ _ (by show 512 ≤ 2560 + j.val; omega) (by show 2560 + j.val < 5120; omega) (by show 2816 + j.val = 2560 + j.val + 256; omega))
  · intro r j; exact (z3 r j).trans (hz _ _ _ _ (by show 512 ≤ 3072 + j.val; omega) (by show 3072 + j.val < 5120; omega) (by show 3328 + j.val = 3072 + j.val + 256; omega))
  · intro r j; exact (z4 r j).trans (hz _ _ _ _ (by show 512 ≤ 4096 + j.val; omega) (by show 4096 + j.val < 5120; omega) (by show 4352 + j.val = 4096 + j.val + 256; omega))
  · intro r l; exact (b5 r l).trans ((h12 _ _).trans (ha.oa _ _))
  · intro r l; exact (b6 r l).trans ((h13 _ _).trans (ha.on _ _))
  · intro l j; exact (b7 _ _).trans ((hwa l j).trans (ha.wa _ _))
  · intro l j; exact (b7 _ _).trans ((hwr l j).trans (ha.wr _ _))
  · intro l k; exact (b8 _ _).trans ((h14 _ _).trans (ha.wo _ _))
  · intro l; exact (b9 _).trans ((h15 _).trans (ha.g _))
  · intro r l; exact (b10 r l).trans ((h16 _ _).trans (ha.tg _ _))

/-- The running sums after a point that started from the sums up to it. -/
theorem step (t : Fin cfg0.N) (hG : ∀ s l, carG m c t (ix2 s l) = (part (fun R => a.hd.eg R l) t.val s : EReal))
    (hL : ∀ s l, carL m c t (ix2 s l) = (part (fun R => a.hd.el R l) t.val s : EReal)) :
    (∀ s l, (blkAt m c t).accG (carG m c t) (ix2 s l) = (part (fun R => a.hd.eg R l) (t.val + 1) s : EReal))
    ∧ ∀ s l, (blkAt m c t).accL (carL m c t) (ix2 s l) = (part (fun R => a.hd.el R l) (t.val + 1) s : EReal) := by
  have B := blk_on m c a ha t
  refine ⟨fun s l => ?_, fun s l => ?_⟩
  · rw [accG_apply B _ _ hG, part_succ]; rfl
  · rw [accL_apply B _ _ hL, part_succ]; rfl

/-- The running sums a point starts from: over the rows of the points before it. -/
theorem car (n : ℕ) (hn : n < cfg0.N) : (∀ s l, carG m c ⟨n, hn⟩ (ix2 s l) = (part (fun R => a.hd.eg R l) n s : EReal))
    ∧ ∀ s l, carL m c ⟨n, hn⟩ (ix2 s l) = (part (fun R => a.hd.el R l) n s : EReal) := by
  induction n with
  | zero =>
    unfold carG carL
    rw [if_pos (show (0 : ℕ) % 16 = 0 from rfl), if_pos (show (0 : ℕ) % 16 = 0 from rfl)]
    refine ⟨?_, ?_⟩ <;> intros <;> pointwise [k0_pay9, k0_pay10] <;> exact EReal.coe_zero.symm
  | succ n ih =>
    have hN : n + 1 < 16 := lt_of_lt_of_eq hn N_0
    have h := ih (Nat.lt_of_succ_lt hn)
    have s := step m c a ha ⟨n, Nat.lt_of_succ_lt hn⟩ h.1 h.2
    have hc : ¬ (n + 1) % 16 = 0 := by omega
    have hG : carG m c ⟨n + 1, hn⟩ = (blkAt m c ⟨n, Nat.lt_of_succ_lt hn⟩).accG (carG m c ⟨n, Nat.lt_of_succ_lt hn⟩) := (if_neg hc).trans (accG_at m c ⟨n, Nat.lt_of_succ_lt hn⟩)
    have hL : carL m c ⟨n + 1, hn⟩ = (blkAt m c ⟨n, Nat.lt_of_succ_lt hn⟩).accL (carL m c ⟨n, Nat.lt_of_succ_lt hn⟩) := (if_neg hc).trans (accL_at m c ⟨n, Nat.lt_of_succ_lt hn⟩)
    rw [hG, hL]
    exact s

omit ha in
theorem narrow3 (y : FVec Ideal S256x1024 .f32) (r : Fin 256) (l : Fin 1024) : (k0_pay3 (F := Ideal) y (ix2 r l) : EReal) = y (ix2 r l) := by pointwise [k0_pay3]

omit ha in
theorem narrow4 (y : FVec Ideal S256x1024 .f32) (r : Fin 256) (l : Fin 1024) : (k0_pay4 (F := Ideal) y (ix2 r l) : EReal) = y (ix2 r l) := by pointwise [k0_pay4]

omit ha in
theorem last_lt : 15 < cfg0.N := by rw [show cfg0.N = 16 from N_0]; decide

/-- The kernel's gradient of the final gain. -/
theorem G14_apply (l : Fin 1024) : G14 m c (ix2 0 l) = ((∑ R, a.hd.eg R l : ℝ) : EReal) := by
  have h := car m c a ha 15 last_lt
  have s := step m c a ha ⟨15, last_lt⟩ h.1 h.2
  rw [G14_last, ← outsAt0_sweep m c 15 last_lt, (last_at m c ⟨15, last_lt⟩ rfl).1, (last_apply _ _ s.1).1 l, ← part_all]

/-- The kernel's loss, across its row. -/
theorem G15_apply (l : Fin 128) : G15 m c (ix2 0 l) = (((∑ k, ∑ R, a.hd.el R k) * (1 / 2048) : ℝ) : EReal) := by
  have h := car m c a ha 15 last_lt
  have s := step m c a ha ⟨15, last_lt⟩ h.1 h.2
  rw [G15_last, ← outsAt0_sweep m c 15 last_lt, (last_at m c ⟨15, last_lt⟩ rfl).2, (last_apply _ _ s.2).2 l]
  simp only [← part_all]

omit ha in
theorem tile_lt (R : Fin 4096) : R.val / 256 < cfg0.N := by rw [show cfg0.N = 16 from N_0]; omega

omit ha in
theorem row_eq (R : Fin 4096) : row ⟨R.val / 256, tile_lt R⟩ ⟨R.val % 256, by omega⟩ = R := Fin.ext (by show 256 * (R.val / 256) + R.val % 256 = R.val; omega)

/-- The kernel's gradient of the layer's input. -/
theorem G11_apply (R : Fin 4096) (l : Fin 1024) : G11 m c (ix2 R l) = (a.hd.dx R l : EReal) := by
  have hp : pt11Of (ix2 R l) = R.val / 256 := by show 1 * (R.val / 256 - 0) + 1 * (l.val / 1024 - 0) = R.val / 256; omega
  have hl : loc11Of (ix2 R l) = ix2 ⟨R.val % 256, by omega⟩ l := funext fun k => by
    fin_cases k
    · rfl
    · exact Fin.ext (Nat.mod_eq_of_lt l.isLt)
  unfold G11
  rw [dif_pos (by rw [hp]; exact tile_lt R), hl, ← outsAt0_sweep m c _ (by rw [hp]; exact tile_lt R)]
  simp only [hp]
  rw [(rows_at m c ⟨R.val / 256, tile_lt R⟩).1, dx_apply (blk_on m c a ha _)]
  exact congrArg (fun x => (a.hd.dx x l : EReal)) (row_eq R)

/-- The kernel's projected rows of the two branches. -/
theorem G12_apply (R : Fin 4096) (l : Fin 1024) : G12 m c (ix2 R l) = (a.hd.ya R l : EReal) := by
  have hp : pt12Of (ix2 R l) = R.val / 256 := by show 1 * (R.val / 256 - 0) + 1 * (l.val / 1024 - 0) = R.val / 256; omega
  have hl : loc12Of (ix2 R l) = ix2 ⟨R.val % 256, by omega⟩ l := funext fun k => by
    fin_cases k
    · rfl
    · exact Fin.ext (Nat.mod_eq_of_lt l.isLt)
  unfold G12
  rw [dif_pos (by rw [hp]; exact tile_lt R), hl, ← outsAt0_sweep m c _ (by rw [hp]; exact tile_lt R)]
  simp only [hp]
  rw [(rows_at m c ⟨R.val / 256, tile_lt R⟩).2.1]
  rw [narrow3, ya_apply (blk_on m c a ha _)]
  exact congrArg (fun x => (a.hd.ya x l : EReal)) (row_eq R)

/-- The same, of the second branch. -/
theorem G13_apply (R : Fin 4096) (l : Fin 1024) : G13 m c (ix2 R l) = (a.hd.yb R l : EReal) := by
  have hp : pt13Of (ix2 R l) = R.val / 256 := by show 1 * (R.val / 256 - 0) + 1 * (l.val / 1024 - 0) = R.val / 256; omega
  have hl : loc13Of (ix2 R l) = ix2 ⟨R.val % 256, by omega⟩ l := funext fun k => by
    fin_cases k
    · rfl
    · exact Fin.ext (Nat.mod_eq_of_lt l.isLt)
  unfold G13
  rw [dif_pos (by rw [hp]; exact tile_lt R), hl, ← outsAt0_sweep m c _ (by rw [hp]; exact tile_lt R)]
  simp only [hp]
  rw [(rows_at m c ⟨R.val / 256, tile_lt R⟩).2.2]
  rw [narrow4, yb_apply (blk_on m c a ha _)]
  exact congrArg (fun x => (a.hd.yb x l : EReal)) (row_eq R)

end Cert.HeadBwdIdeal.Pay

end
-- ==== Proof.HeadBwdReference.lean ====
/- The head's reference over real arguments, stage by stage, and that its loss and gradients are the kernel's. -/
module

public import proofs.«01_k».proof.Defs
public import proofs.«01_k».proof.Proof.HeadBwdKernel
public import proofs.«01_k».proof.Proof.InBwdReference
public import proofs.«01_k».proof.Proof.Gen.HeadBwdRefIdeal.Run
public import proofs.«01_k».proof.Proof.Gen.HeadBwdRefIdeal.Read

@[expose] public section

set_option maxRecDepth 16384

noncomputable section

namespace Cert.HeadBwdRefIdeal.Stages

open Cert.HeadBwdRefIdeal Cert.HeadBwdRefIdeal.Gen Cert.HeadBwdRefIdeal.Read Cert.HeadBwdIdeal.Pay Cert.Common Idealize.ShloMosaic Idealize.ShloMosaic.Tactic
open Cert.MergeBwdIdeal.Pay (sg sg_pos)
open Cert.InBwdIdeal.Pay (rms rms_arg_pos)
open Cert.InBwdRefIdeal.Stages (ms ms_pos)

variable (a : Args) (x : Vec Ideal S1x4096x1024 .f32) (z : Vec Ideal S1x4096x5376 .f32) (oa on : Vec Ideal S1x4096x512 .f32) (wa wr : Vec Ideal S512x1024 .f32)
    (wo : Vec Ideal S1024x1024 .f32) (g : Vec Ideal S1024 .f32) (tg : Vec Ideal S1x4096x1024 .f32) (ha : a.On x z oa on wa wr wo g tg)

include ha

theorem c0 (R : Fin 4096) (j : Fin 512) : val_main_v9 (F := Ideal) z (ix3 0 R j) = ((a.hd.GA R j * sg (a.hd.GA R j) : ℝ) : EReal) := by
  pointwise [val_main_v9, val_main_call0_v5, val_main_call0_v4, val_main_call0_cst_0, val_main_call0_v3, val_main_call0_v2, val_main_call0_cst, val_main_call0_v1, val_main_call0_v0, val_main_v3]
  simp only [ha.z, of_one, ← EReal.coe_one, ← EReal.coe_neg, Ideal.exp_coe, ← EReal.coe_add, div_real _ (sg_pos _), ← EReal.coe_mul]
  rfl

theorem c1 (R : Fin 4096) (j : Fin 512) : val_main_v12 (F := Ideal) z (ix3 0 R j) = ((a.hd.GR R j * sg (a.hd.GR R j) : ℝ) : EReal) := by
  pointwise [val_main_v12, val_main_call1_v5, val_main_call1_v4, val_main_call1_cst_0, val_main_call1_v3, val_main_call1_v2, val_main_call1_cst, val_main_call1_v1, val_main_call1_v0, val_main_v7]
  simp only [ha.z, of_one, ← EReal.coe_one, ← EReal.coe_neg, Ideal.exp_coe, ← EReal.coe_add, div_real _ (sg_pos _), ← EReal.coe_mul]
  rfl

theorem v20 (R : Fin 4096) (l : Fin 2048) : val_main_v20 (F := Ideal) z (ix3 0 R l) = (sg (a.Z R ⟨3328 + l.val, by omega⟩) : EReal) := by
  pointwise [val_main_v20, val_main_v19, val_main_cst_0, val_main_v18, val_main_v17, val_main_cst, val_main_v16, val_main_v15, val_main_v8]
  simp only [ha.z, of_one, ← EReal.coe_one, ← EReal.coe_neg, Ideal.exp_coe, ← EReal.coe_add, div_real _ (sg_pos _)]
  rfl

theorem v11 (R : Fin 4096) (l : Fin 1024) : val_main_v11 (F := Ideal) z oa wa (ix3 0 R l) = (a.hd.ya R l : EReal) := by
  have h := c0 a x z oa on wa wr wo g tg ha
  unfold val_main_v11 val_main_v10
  generalize val_main_v9 (F := Ideal) z = y at *
  pointwise
  simp only [h, ha.oa, ha.wa, ← EReal.coe_mul, coe_sum]
  rfl

theorem v14 (R : Fin 4096) (l : Fin 1024) : val_main_v14 (F := Ideal) z on wr (ix3 0 R l) = (a.hd.yb R l : EReal) := by
  have h := c1 a x z oa on wa wr wo g tg ha
  unfold val_main_v14 val_main_v13
  generalize val_main_v12 (F := Ideal) z = y at *
  pointwise
  simp only [h, ha.on, ha.wr, ← EReal.coe_mul, coe_sum]
  rfl

theorem v28 (R : Fin 4096) (l : Fin 1024) : val_main_v28 (F := Ideal) z oa on wa wr (ix3 0 R l) = (a.hd.mg R l : EReal) := by
  have h := v20 a x z oa on wa wr wo g tg ha
  have h2 := v11 a x z oa on wa wr wo g tg ha
  have h3 := v14 a x z oa on wa wr wo g tg ha
  unfold val_main_v28 val_main_v24 val_main_v27 val_main_v26 val_main_v25 val_main_v23 val_main_v22 val_main_v21
  generalize val_main_v20 (F := Ideal) z = y0 at *
  generalize val_main_v11 (F := Ideal) z oa wa = y2 at *
  generalize val_main_v14 (F := Ideal) z on wr = y3 at *
  pointwise
  have e : (⟨3328 + (1024 + l.val), by omega⟩ : Fin 5376) = ⟨4352 + l.val, by omega⟩ := Fin.ext (by show 3328 + (1024 + l.val) = 4352 + l.val; omega)
  simp only [h, h2, h3, e, ← EReal.coe_mul, ← EReal.coe_add]
  rfl

theorem v30 (R : Fin 4096) (l : Fin 1024) : val_main_v30 (F := Ideal) x z oa on wa wr wo (ix3 0 R l) = (a.hd.xn R l : EReal) := by
  have h := v28 a x z oa on wa wr wo g tg ha
  unfold val_main_v30 val_main_v29
  generalize val_main_v28 (F := Ideal) z oa on wa wr = y at *
  pointwise
  simp only [h, ha.x, ha.wo, ← EReal.coe_mul, coe_sum, ← EReal.coe_add]
  rfl

theorem v37 (R : Fin 4096) : val_main_v37 (F := Ideal) x z oa on wa wr wo (ix3 0 R 0) = (ms (a.hd.xn R) : EReal) := by
  have h := v30 a x z oa on wa wr wo g tg ha R
  unfold val_main_v37 val_main_v35 val_main_v33 val_main_v32 val_main_v31
  generalize val_main_v30 (F := Ideal) x z oa on wa wr wo = y at *
  pointwise [val_main_v36, val_main_v34, val_main_cst_1, val_main_cst_2, val_main_cst_3]
  simp only [h, of_zero, of_1024, of_eps, ← EReal.coe_mul, coe_sum, ← EReal.coe_add, div_real _ (show (1024 : ℝ) ≠ 0 by norm_num), zero_add]
  rfl

theorem v38 (R : Fin 4096) : val_main_v38 (F := Ideal) x z oa on wa wr wo (ix3 0 R 0) = (rms (a.hd.xn R) : EReal) := by
  have h := v37 a x z oa on wa wr wo g tg ha R
  unfold val_main_v38
  generalize val_main_v37 (F := Ideal) x z oa on wa wr wo = y at *
  pointwise
  rw [h, rsqrt_real (ms_pos _)]; rfl

theorem v41 (R : Fin 4096) : val_main_v41 (F := Ideal) x z oa on wa wr wo (ix3 0 R 0) = ((-(1 / 2) * (rms (a.hd.xn R) / ms (a.hd.xn R)) : ℝ) : EReal) := by
  have h := v37 a x z oa on wa wr wo g tg ha R
  have h' := v38 a x z oa on wa wr wo g tg ha R
  unfold val_main_v41 val_main_v39
  generalize val_main_v37 (F := Ideal) x z oa on wa wr wo = y at *
  generalize val_main_v38 (F := Ideal) x z oa on wa wr wo = y' at *
  pointwise [val_main_v40, val_main_cst_4]
  rw [h, h', div_real _ (ms_pos _).ne', of_neg_half, ← EReal.coe_mul]

theorem v43 (R : Fin 4096) (l : Fin 1024) : val_main_v43 (F := Ideal) x z oa on wa wr wo (ix3 0 R l) = (a.hd.xh R l : EReal) := by
  have h := v30 a x z oa on wa wr wo g tg ha R l
  have h' := v38 a x z oa on wa wr wo g tg ha R
  unfold val_main_v43 val_main_v42
  generalize val_main_v30 (F := Ideal) x z oa on wa wr wo = y at *
  generalize val_main_v38 (F := Ideal) x z oa on wa wr wo = y' at *
  pointwise
  rw [h, h', ← EReal.coe_mul]; rfl

theorem v47 (R : Fin 4096) (l : Fin 1024) : val_main_v47 (F := Ideal) x z oa on wa wr wo g tg (ix3 0 R l) = (a.hd.er R l : EReal) := by
  have h := v43 a x z oa on wa wr wo g tg ha R l
  unfold val_main_v47 val_main_v46
  generalize val_main_v43 (F := Ideal) x z oa on wa wr wo = y at *
  pointwise [val_main_v45, val_main_v44]
  rw [h, ha.g, ha.tg, ← EReal.coe_mul, ← EReal.coe_sub]; rfl

omit ha in
theorem of_half : Ideal.ofBits .f32 0x3F000000#32 = ((1 / 2 : ℝ) : EReal) := by
  simp [Ideal.ofBits, Ideal.ieee, -EReal.coe_mul]; norm_num

theorem v61 (R : Fin 4096) (l : Fin 1024) : val_main_v61 (F := Ideal) x z oa on wa wr wo g tg (ix3 0 R l) = (a.hd.dy R l : EReal) := by
  have h := v47 a x z oa on wa wr wo g tg ha R l
  unfold val_main_v61 val_main_v50
  generalize val_main_v47 (F := Ideal) x z oa on wa wr wo g tg = y at *
  pointwise [val_main_v49, val_main_cst_5, val_main_v60, val_main_v59, val_main_v58, val_main_v57, val_main_v56, val_main_cst_10, val_main_cst_11, val_main_cst_12]
  simp only [h, of_half, of_one, of_1024, of_two, ← EReal.coe_one, ← EReal.coe_mul, div_real _ (show (1024 : ℝ) ≠ 0 by norm_num)]
  refine congrArg _ ?_
  unfold Hd.dy
  ring

/-- The reference's loss, across the row. -/
theorem v89 (l : Fin 128) : val_main_v89 (F := Ideal) x z oa on wa wr wo g tg (ix2 0 l) = (((∑ k, ∑ R, a.hd.el R k) * (1 / 2048) : ℝ) : EReal) := by
  have h := v47 a x z oa on wa wr wo g tg ha
  unfold val_main_v89 val_main_v55 val_main_v54 val_main_v53 val_main_v51 val_main_v48
  generalize val_main_v47 (F := Ideal) x z oa on wa wr wo g tg = y at *
  pointwise [val_main_cst_9, val_main_cst_8, val_main_v52, val_main_cst_7, val_main_cst_6]
  rw [Fin.sum_univ_one]
  simp only [h, of_half, of_1024, ← EReal.coe_mul, coe_sum, div_real _ (show (1024 : ℝ) ≠ 0 by norm_num)]
  refine congrArg _ ?_
  rw [← Finset.sum_div, Finset.sum_comm]
  unfold Hd.el
  ring

theorem v66 (R : Fin 4096) (l : Fin 1024) : val_main_v66 (F := Ideal) x z oa on wa wr wo g tg (ix3 0 R l) = ((a.hd.dy R l * a.hd.G l : ℝ) : EReal) := by
  have h := v61 a x z oa on wa wr wo g tg ha R l
  unfold val_main_v66
  generalize val_main_v61 (F := Ideal) x z oa on wa wr wo g tg = y at *
  pointwise [val_main_v65, val_main_v44]
  rw [h, ha.g, ← EReal.coe_mul]; rfl

/-- The factor of the row in its gradient that comes through the mean square. -/
def coef (a : Args) (R : Fin 4096) : ℝ := (∑ l, a.hd.xn R l * (a.hd.dy R l * a.hd.G l)) * (-(1 / 2) * (rms (a.hd.xn R) / ms (a.hd.xn R))) / 1024

theorem v75 (R : Fin 4096) : val_main_v75 (F := Ideal) x z oa on wa wr wo g tg (ix3 0 R 0) = (coef a R : EReal) := by
  have h := v66 a x z oa on wa wr wo g tg ha R
  have h0 := v30 a x z oa on wa wr wo g tg ha R
  have h1 := v41 a x z oa on wa wr wo g tg ha R
  unfold val_main_v75 val_main_v73 val_main_v70 val_main_v69 val_main_v68
  generalize val_main_v66 (F := Ideal) x z oa on wa wr wo g tg = y at *
  generalize val_main_v30 (F := Ideal) x z oa on wa wr wo = y0 at *
  generalize val_main_v41 (F := Ideal) x z oa on wa wr wo = y1 at *
  pointwise [val_main_v74, val_main_cst_15, val_main_cst_16]
  simp only [h, h0, h1, of_zero, of_1024, ← EReal.coe_mul, coe_sum, ← EReal.coe_add, div_real _ (show (1024 : ℝ) ≠ 0 by norm_num), zero_add]
  rfl

theorem v76 (R : Fin 4096) : val_main_v76 (F := Ideal) x z oa on wa wr wo g tg (ix1 R) = (coef a R : EReal) := by
  have h := v75 a x z oa on wa wr wo g tg ha R
  unfold val_main_v76
  generalize val_main_v75 (F := Ideal) x z oa on wa wr wo g tg = y at *
  simp only [Host.reduceAdd, Ideal.hostReduceAdd_def]
  rw [hostReduceAdd_one _ _ _ _ (ix3 0 R 0), h]
  · pointwise [val_main_cst_17]
  · intro i
    constructor
    · intro e
      funext k
      fin_cases k
      · exact Subsingleton.elim (α := Fin 1) _ _
      · exact congrFun e 0
      · exact Subsingleton.elim (α := Fin 1) _ _
    · rintro rfl
      funext k; fin_cases k; rfl

/-- The reference's row gradient. -/
theorem v83 (R : Fin 4096) (l : Fin 1024) : val_main_v83 (F := Ideal) x z oa on wa wr wo g tg (ix2 R l)
    = ((a.hd.dy R l * a.hd.G l * rms (a.hd.xn R) + a.hd.xn R l * coef a R + coef a R * a.hd.xn R l : ℝ) : EReal) := by
  have h := v76 a x z oa on wa wr wo g tg ha R
  have h0 := v30 a x z oa on wa wr wo g tg ha R l
  have h1 := v66 a x z oa on wa wr wo g tg ha R l
  have h2 := v38 a x z oa on wa wr wo g tg ha R
  unfold val_main_v83 val_main_v82 val_main_v81 val_main_v80 val_main_v79 val_main_v78 val_main_v77 val_main_v72 val_main_v71
  generalize val_main_v76 (F := Ideal) x z oa on wa wr wo g tg = y at *
  generalize val_main_v66 (F := Ideal) x z oa on wa wr wo g tg = y0 at *
  generalize val_main_v30 (F := Ideal) x z oa on wa wr wo = y1 at *
  generalize val_main_v38 (F := Ideal) x z oa on wa wr wo = y2 at *
  pointwise
  simp only [h, h0, h1, h2, ← EReal.coe_mul, ← EReal.coe_add]

theorem v64 (l : Fin 1024) : val_main_v64 (F := Ideal) x z oa on wa wr wo g tg (ix3 0 0 l) = ((∑ R, a.hd.eg R l : ℝ) : EReal) := by
  have h := fun R => v61 a x z oa on wa wr wo g tg ha R l
  have h' := fun R => v43 a x z oa on wa wr wo g tg ha R l
  unfold val_main_v64 val_main_v63 val_main_v62
  generalize val_main_v61 (F := Ideal) x z oa on wa wr wo g tg = y at *
  generalize val_main_v43 (F := Ideal) x z oa on wa wr wo = y' at *
  pointwise [val_main_cst_13]
  simp only [h, h', of_zero, ← EReal.coe_mul, coe_sum, ← EReal.coe_add, zero_add]
  exact congrArg (fun z : ℝ => (z : EReal)) (Finset.sum_congr rfl fun R _ => mul_comm _ _)

/-- The reference's gradient of the gain. -/
theorem v88 (l : Fin 1024) : val_main_v88 (F := Ideal) x z oa on wa wr wo g tg (ix2 0 l) = ((∑ R, a.hd.eg R l : ℝ) : EReal) := by
  have h := v64 a x z oa on wa wr wo g tg ha l
  unfold val_main_v88 val_main_v67
  generalize val_main_v64 (F := Ideal) x z oa on wa wr wo g tg = y at *
  pointwise
  rw [hostReduceAdd_one _ _ _ _ (ix3 0 0 l), h]
  · pointwise [val_main_cst_14]
  · intro i
    constructor
    · intro e
      funext k
      fin_cases k
      · exact Subsingleton.elim (α := Fin 1) _ _
      · exact Subsingleton.elim (α := Fin 1) _ _
      · exact congrFun e 0
    · rintro rfl
      funext k; fin_cases k; rfl

/-- The reference's projected rows. -/
theorem v85 (R : Fin 4096) (l : Fin 1024) : val_main_v85 (F := Ideal) z oa wa (ix2 R l) = (a.hd.ya R l : EReal) := by
  have h := v11 a x z oa on wa wr wo g tg ha R l
  unfold val_main_v85 val_main_v84
  generalize val_main_v11 (F := Ideal) z oa wa = y at *
  pointwise
  exact h

theorem v87 (R : Fin 4096) (l : Fin 1024) : val_main_v87 (F := Ideal) z on wr (ix2 R l) = (a.hd.yb R l : EReal) := by
  have h := v14 a x z oa on wa wr wo g tg ha R l
  unfold val_main_v87 val_main_v86
  generalize val_main_v14 (F := Ideal) z on wr = y at *
  pointwise
  exact h

omit ha in
/-- The reference's row gradient is the kernel's. -/
theorem dx_eq (a : Args) (R : Fin 4096) (l : Fin 1024) :
    a.hd.dy R l * a.hd.G l * rms (a.hd.xn R) + a.hd.xn R l * coef a R + coef a R * a.hd.xn R l = a.hd.dx R l := by
  have hm := ms_pos (a.hd.xn R)
  have hr : rms (a.hd.xn R) * rms (a.hd.xn R) * ms (a.hd.xn R) = 1 := by
    have : rms (a.hd.xn R) = (√(ms (a.hd.xn R)))⁻¹ := rfl
    rw [this, ← mul_inv, Real.mul_self_sqrt hm.le, inv_mul_cancel₀ hm.ne']
  have hd : rms (a.hd.xn R) / ms (a.hd.xn R) = rms (a.hd.xn R) * rms (a.hd.xn R) * rms (a.hd.xn R) := by
    rw [div_eq_iff hm.ne']; linear_combination -(rms (a.hd.xn R)) * hr
  have hs : ∑ k, a.hd.dy R k * a.hd.G k * (a.hd.xn R k * rms (a.hd.xn R)) = (∑ k, a.hd.xn R k * (a.hd.dy R k * a.hd.G k)) * rms (a.hd.xn R) := by
    rw [Finset.sum_mul]; exact Finset.sum_congr rfl fun k _ => by ring
  unfold Hd.dx coef Hd.xh
  rw [hd, hs]
  ring

omit ha in
/-- Where the precondition holds of the arguments, they are real. -/
theorem args_of_finite [Cert.Pre_head_finite.Facts] (h : Cert.Pre_head_finite.fn (F := Ideal) x z oa on wa wr wo g tg = fun _ => 1#1) : ∃ a : Args, a.On x z oa on wa wr wo g tg := by
  have h1 := congrFun h (fun k => k.elim0)
  unfold Cert.Pre_head_finite.fn Cert.Pre_head_finite.fn_part1 Cert.Pre_head_finite.fn_part2 at h1
  dsimp only at h1
  haveI : Subsingleton (Cert.Pre_head_finite.S_).Idx := ⟨fun p q => funext fun k => k.elim0⟩
  obtain ⟨h1, h9⟩ := andi_split h1
  obtain ⟨h1, h8⟩ := andi_split h1
  obtain ⟨h1, h7⟩ := andi_split h1
  obtain ⟨h1, h6⟩ := andi_split h1
  obtain ⟨h1, h5⟩ := andi_split h1
  obtain ⟨h1, h4⟩ := andi_split h1
  obtain ⟨h1, h3⟩ := andi_split h1
  obtain ⟨h1, h2⟩ := andi_split h1
  choose X hX using fun R k => real_of_all _ _ _ _ _ h1 (ix3 0 R k)
  choose Z hZ using fun R k => real_of_all _ _ _ _ _ h2 (ix3 0 R k)
  choose OA hOA using fun R j => real_of_all _ _ _ _ _ h3 (ix3 0 R j)
  choose ON hON using fun R j => real_of_all _ _ _ _ _ h4 (ix3 0 R j)
  choose WA hWA using fun j l => real_of_all _ _ _ _ _ h5 (ix2 j l)
  choose WR hWR using fun j l => real_of_all _ _ _ _ _ h6 (ix2 j l)
  choose WO hWO using fun l k => real_of_all _ _ _ _ _ h7 (ix2 l k)
  choose G hG using fun l => real_of_all _ _ _ _ _ h8 (ix1 l)
  choose T hT using fun R k => real_of_all _ _ _ _ _ h9 (ix3 0 R k)
  exact ⟨⟨X, Z, OA, ON, WA, WR, WO, G, T⟩, hX, hZ, hOA, hON, hWA, hWR, hWO, hG, hT⟩

end Cert.HeadBwdRefIdeal.Stages

namespace Cert.HeadBwdProof

open Cert.HeadBwdIdeal.Pay Cert.HeadBwdRefIdeal.Stages Idealize.ShloMosaic Idealize.ShloMosaic.TcCoe Idealize.SL.Sem

set_option maxHeartbeats 8000000 in
theorem algebraic [Cert.Pre_head_finite.Facts] : Cert.algebraic_HeadBwdIdeal_HeadBwdRefIdeal_pre_head_finite := by
  intro m ρ m' ρ' hpre hargs
  refine ⟨_, _, _, _, _, Cert.HeadBwdIdeal.Value.run_blocks m ρ, ?_⟩
  refine (θ_run _ _ _).mono (fun r h c => ?_) (Cert.HeadBwdRefIdeal.Value.run (F := Ideal) m' ρ')
  obtain ⟨h0, h1, h2, h3, h4, hk⟩ := h c
  obtain ⟨a, ha⟩ := args_of_finite _ _ _ _ _ _ _ _ _ (hpre c)
  obtain ⟨e0, e1, e2, e3, e4, e5, e6, e7, e8⟩ := hargs c
  refine ⟨h0.trans ?_, h1.trans ?_, h2.trans ?_, h3.trans ?_, h4.trans ?_, hk⟩
  · rw [Cert.HeadBwdRefIdeal.Read.val_main_v83_eq, e0, e1, e2, e3, e4, e5, e6, e7, e8]
    refine Eq.trans ?_ (Cert.HeadBwdIdeal.Value.final11 m c).symm
    funext i
    obtain ⟨R, l, rfl⟩ : ∃ R l, i = ix2 R l := ⟨i 0, i 1, (ix2_eta i).symm⟩
    exact (v83 a _ _ _ _ _ _ _ _ _ ha R l).trans ((congrArg _ (dx_eq a R l)).trans (G11_apply m c a ha R l).symm)
  · rw [Cert.HeadBwdRefIdeal.Read.val_main_v85_eq, e1, e2, e4]
    refine Eq.trans ?_ (Cert.HeadBwdIdeal.Value.final12 m c).symm
    funext i
    obtain ⟨R, l, rfl⟩ : ∃ R l, i = ix2 R l := ⟨i 0, i 1, (ix2_eta i).symm⟩
    exact (v85 a _ _ _ _ _ _ _ _ _ ha R l).trans (G12_apply m c a ha R l).symm
  · rw [Cert.HeadBwdRefIdeal.Read.val_main_v87_eq, e1, e3, e5]
    refine Eq.trans ?_ (Cert.HeadBwdIdeal.Value.final13 m c).symm
    funext i
    obtain ⟨R, l, rfl⟩ : ∃ R l, i = ix2 R l := ⟨i 0, i 1, (ix2_eta i).symm⟩
    exact (v87 a _ _ _ _ _ _ _ _ _ ha R l).trans (G13_apply m c a ha R l).symm
  · rw [Cert.HeadBwdRefIdeal.Read.val_main_v88_eq, e0, e1, e2, e3, e4, e5, e6, e7, e8]
    refine Eq.trans ?_ (Cert.HeadBwdIdeal.Value.final14 m c).symm
    funext i
    obtain ⟨l, rfl⟩ : ∃ l, i = ix2 0 l := ⟨i 1, (eq_ix2 i).trans (congrArg (fun z => ix2 z (i 1)) (Subsingleton.elim (α := Fin 1) _ _))⟩
    exact (v88 a _ _ _ _ _ _ _ _ _ ha l).trans (G14_apply m c a ha l).symm
  · rw [Cert.HeadBwdRefIdeal.Read.val_main_v89_eq, e0, e1, e2, e3, e4, e5, e6, e7, e8]
    refine Eq.trans ?_ (Cert.HeadBwdIdeal.Value.final15 m c).symm
    funext i
    obtain ⟨l, rfl⟩ : ∃ l, i = ix2 0 l := ⟨i 1, (eq_ix2 i).trans (congrArg (fun z => ix2 z (i 1)) (Subsingleton.elim (α := Fin 1) _ _))⟩
    exact (v89 a _ _ _ _ _ _ _ _ _ ha l).trans (G15_apply m c a ha l).symm

end Cert.HeadBwdProof

end
-- ==== Proof.AttnFwdBlk.lean ====
/- What one grid point of the attention's forward call makes of the blocks it reads: four heads' scores chunk by chunk,
   their row maxima, and the weighted sums of the values. -/
module

public import proofs.«01_k».proof.Proof.Gen.AttnFwdIdeal.Value
public import proofs.«01_k».proof.Proof.Common
public import Idealize.ShloMosaic.Lib.Pointwise
public import Idealize.ShloMosaic.Lib.Pipeline.ValueKit
public import Idealize.ShloMosaic.Lib.Pipeline.ReadBack
public import Idealize.ShloMosaic.Lib.StableHlo.ReadAt

@[expose] public section

set_option maxRecDepth 16384

noncomputable section

namespace Cert.AttnFwdIdeal.Pay

open Cert.AttnFwdIdeal Cert.AttnFwdIdeal.Gen Cert.AttnFwdIdeal.Value Cert.Common Idealize.ShloMosaic Idealize.ShloMosaic.TcCoe Idealize.SL.Sem Idealize.ShloMosaic.Tactic

/-- The scores of a chunk of keys (down) against a tile of queries (across). -/
def st (k q : Vec Ideal S1x512x64 .bf16) : FVec Ideal S512x512 .f32 :=
  matmul (φ₁ := .bf16) (φ₂ := .bf16) dot_S512x64_S512x64_S512x512_1_1_0_0_n_n none (shapeCast S512x64 k shapeCasts_S1x512x64_S512x64)
    (shapeCast S512x64 q shapeCasts_S1x512x64_S512x64) (constant S512x512 .f32 0x00000000#32)

/-- The eight running maxima of each query, with a chunk's scores. -/
def upMax (acc : FVec Ideal S8x512 .f32) (s : FVec Ideal S512x512 .f32) : FVec Ideal S8x512 .f32 :=
  maximumf acc (multiReduction .maximumf [0] S8x512 (shapeCast S64x8x512 s shapeCasts_S512x512_S64x8x512) 0xFF800000#32 reduces_S64x8x512_S8x512 (.inl rfl) rfl)

/-- Each query's maximum. -/
def rowMax (acc : FVec Ideal S8x512 .f32) : FVec Ideal S1x512 .f32 :=
  shapeCast S1x512 (multiReduction .maximumf [0] S512 acc 0xFF800000#32 reduces_S8x512_S512 (.inl rfl) rfl) shapeCasts_S512_S1x512

/-- The weighted sums with a chunk's: the values against the exponentials of the scores less the maximum, to which a zero multiple of
    `aft` is added. -/
def upAcc (acc : FVec Ideal S128x512 .f32) (m aft : FVec Ideal S1x512 .f32) (s : Vec Ideal S1x512x512 .f32) (v : Vec Ideal S1x1x128x512 .bf16) : FVec Ideal S128x512 .f32 :=
  addf acc (matmul (φ₁ := .bf16) (φ₂ := .bf16) dot_S128x512_S512x512_S128x512_1_0_0_1_n_n none (shapeCast S128x512 v shapeCasts_S1x1x128x512_S128x512)
    (truncf .bf16 (exp (subf (shapeCast S512x512 s shapeCasts_S1x512x512_S512x512)
      (broadcastTo S512x512 (addf m (mulf aft (broadcast S1x512 (Scalar.ofBits (F := Ideal) .f32 0x00000000#32)))) broadcasts_S1x512_S512x512))) bitsLt_bf16_f32)
    (constant S128x512 .f32 0x00000000#32))

/-- The row of the weighted sums that sums the exponentials. -/
def row64 (acc : FVec Ideal S128x512 .f32) : FVec Ideal S1x512 .f32 := extractStridedSlice S1x512 ![64, 0] acc slices_S128x512_o64_0_S1x512

/-- A head's output. -/
def out (acc : FVec Ideal S128x512 .f32) : FVec Ideal S512x64 .f32 :=
  transpose S512x64 [1, 0] (divf (extractStridedSlice S64x512 ![0, 0] acc slices_S128x512_o0_0_S64x512) (broadcastTo S64x512 (row64 acc) broadcasts_S1x512_S64x512))
    transposes_S64x512_p1_0_S512x64

/-- The blocks a grid point reads. -/
structure Blk where
  x0 : Vec Ideal S4x512x64 .bf16
  x1 : Vec Ideal S1x4096x64 .bf16
  x2 : Vec Ideal S1x8x128x512 .bf16

namespace Blk
variable (b : Blk)

/-- A head's queries, a chunk of keys, and a chunk of values. -/
abbrev q (n : ℕ) (h : n < 4) : Vec Ideal S1x512x64 .bf16 :=
  View.ld b.x0 (Rect.unit (s := S4x512x64) ![n, 0, 0] ![1, 512, 64] (by intro a; fin_cases a <;> simp <;> omega))
abbrev k (e : ℕ) (h : e < 8) : Vec Ideal S1x512x64 .bf16 :=
  View.ld b.x1 (Rect.unit (s := S1x4096x64) ![0, 512 * e, 0] ![1, 512, 64] (by intro a; fin_cases a <;> simp <;> omega))
abbrev v (e : ℕ) (h : e < 8) : Vec Ideal S1x1x128x512 .bf16 :=
  View.ld b.x2 (Rect.unit (s := S1x8x128x512) ![0, e, 0, 0] ![1, 1, 128, 512] (by intro a; fin_cases a <;> simp <;> omega))

/-- A head's running maxima with a chunk's, and after its chunks up to each one. -/
def up (n : ℕ) (h : n < 4) (acc : FVec Ideal S8x512 .f32) (e : ℕ) (he : e < 8) : FVec Ideal S8x512 .f32 := upMax acc (st (b.k e he) (b.q n h))
def m1 (n : ℕ) (h : n < 4) := b.up n h (k0_pay3 (F := Ideal)) 0 (by decide)
def m2 (n : ℕ) (h : n < 4) := b.up n h (b.m1 n h) 1 (by decide)
def m3 (n : ℕ) (h : n < 4) := b.up n h (b.m2 n h) 2 (by decide)
def m4 (n : ℕ) (h : n < 4) := b.up n h (b.m3 n h) 3 (by decide)
def m5 (n : ℕ) (h : n < 4) := b.up n h (b.m4 n h) 4 (by decide)
def mx (n : ℕ) (h : n < 4) : FVec Ideal S1x512 .f32 := rowMax (b.up n h (b.up n h (b.up n h (b.m5 n h) 5 (by decide)) 6 (by decide)) 7 (by decide))

/-- One step of a head's weighted sums, below the maximum `m`. -/
def u (n : ℕ) (h : n < 4) (m : FVec Ideal S1x512 .f32) (acc : FVec Ideal S128x512 .f32) (aft : FVec Ideal S1x512 .f32) (e : ℕ) (he : e < 8) : FVec Ideal S128x512 .f32 :=
  upAcc acc m aft (shapeCast S1x512x512 (st (b.k e he) (b.q n h)) shapeCasts_S512x512_S1x512x512) (b.v e he)

/-- A head's weighted sums after its chunks up to each one. -/
def c1 (n : ℕ) (h : n < 4) (m : FVec Ideal S1x512 .f32) := b.u n h m (broadcast S128x512 (Scalar.ofBits (F := Ideal) .f32 0x00000000#32)) m 0 (by decide)
def c2 (n : ℕ) (h : n < 4) (m : FVec Ideal S1x512 .f32) := b.u n h m (b.c1 n h m) m 1 (by decide)
def c3 (n : ℕ) (h : n < 4) (m : FVec Ideal S1x512 .f32) := b.u n h m (b.c2 n h m) m 2 (by decide)
def c4 (n : ℕ) (h : n < 4) (m f1 : FVec Ideal S1x512 .f32) := b.u n h m (b.c3 n h m) f1 3 (by decide)
def c5 (n : ℕ) (h : n < 4) (m f1 f2 : FVec Ideal S1x512 .f32) := b.u n h m (b.c4 n h m f1) f2 4 (by decide)
def c8 (n : ℕ) (h : n < 4) (m f1 f2 f3 f4 f5 : FVec Ideal S1x512 .f32) :=
  b.u n h m (b.u n h m (b.u n h m (b.c5 n h m f1 f2) f3 5 (by decide)) f4 6 (by decide)) f5 7 (by decide)

/-- The first row of eight running maxima. -/
def top (acc : FVec Ideal S8x512 .f32) : FVec Ideal S1x512 .f32 := extractStridedSlice S1x512 ![0, 0] acc slices_S8x512_o0_0_S1x512

/-- A head's weighted sums: the first three heads run beside the maxima of the next one, the last beside its own sums. -/
def acc (n n' : ℕ) (h : n < 4) (h' : n' < 4) : FVec Ideal S128x512 .f32 :=
  b.c8 n h (b.mx n h) (top (b.m1 n' h')) (top (b.m2 n' h')) (top (b.m3 n' h')) (top (b.m4 n' h')) (top (b.m5 n' h'))
def last (m : FVec Ideal S1x512 .f32) : FVec Ideal S128x512 .f32 :=
  b.c8 3 (by decide) m (row64 (b.c1 3 (by decide) m)) (row64 (b.c2 3 (by decide) m)) (row64 (b.c3 3 (by decide) m))
    (row64 (b.c4 3 (by decide) m (row64 (b.c1 3 (by decide) m)))) (row64 (b.c5 3 (by decide) m (row64 (b.c1 3 (by decide) m)) (row64 (b.c2 3 (by decide) m))))

/-- The four heads' weighted sums. -/
def sums : Fin 4 → FVec Ideal S128x512 .f32
  | 0 => b.acc 0 1 (by decide) (by decide)
  | 1 => b.acc 1 2 (by decide) (by decide)
  | 2 => b.acc 2 3 (by decide) (by decide)
  | 3 => b.last (b.mx 3 (by decide))

/-- A row of log-sums, and the four heads'. -/
def row (m : FVec Ideal S1x512 .f32) (acc : FVec Ideal S128x512 .f32) : FVec Ideal S1x1x512 .f32 := shapeCast S1x1x512 (addf m (log (row64 acc))) shapeCasts_S1x512_S1x1x512
def lse : Fin 4 → FVec Ideal S1x1x512 .f32
  | 0 => row (b.mx 0 (by decide)) (b.sums 0)
  | 1 => row (b.mx 1 (by decide)) (b.sums 1)
  | 2 => row (b.mx 2 (by decide)) (b.sums 2)
  | 3 => row (b.mx 3 (by decide)) (b.sums 3)

end Blk

/-- Four rows stored, the last first. -/
abbrev band (n : ℕ) (h : n < 4) : Rect S4x1x512 :=
  Rect.unit (s := S4x1x512) ![n, 0, 0] ![1, 1, 512] (by intro a; fin_cases a <;> simp <;> omega)
def stores (P : Fin 4 → Vec Ideal S1x1x512 .f32) : List (View.Piece (Elt Ideal) S4x1x512 .f32) :=
  [⟨band 3 (by decide), P 3⟩, ⟨band 2 (by decide), P 2⟩, ⟨band 1 (by decide), P 1⟩, ⟨band 0 (by decide), P 0⟩]

variable (m : (ℓ : Loc nD τ sig) → Buf (Elt Ideal) ℓ) (c : Dev nD)

/-- The blocks of a point. -/
def blkAt (t : Fin cfg0.N) : Blk := ⟨iblk m c 0 t, iblk m c 1 t, iblk m c 2 t⟩

set_option maxHeartbeats 16000000 in
/-- A point stores its heads' outputs side by side, and their log-sums one below the other. -/
theorem left_at (t : Fin cfg0.N) : (outsAt0 m c t).1 = concatenate S512x256 1 [⟨S512x64, out ((blkAt m c t).sums 0)⟩, ⟨S512x64, out ((blkAt m c t).sums 1)⟩,
      ⟨S512x64, out ((blkAt m c t).sums 2)⟩, ⟨S512x64, out ((blkAt m c t).sums 3)⟩] concatenates_S512x64_S512x64_S512x64_S512x64_S512x256_d1
    ∧ (outsAt0 m c t).2 = View.canon (stores (blkAt m c t).lse) := by
  unfold outsAt0 blkAt
  refine ⟨?_, ?_⟩
  all_goals
   frame_open
   frame_out
   simp (disch := decide) only [↓ View.readCov_skip, ↓ View.readCov_cons_toLoadRect, ↓ View.readCov_fill]
   generalize iblk m c 0 t = x0
   generalize iblk m c 1 t = x1
   generalize iblk m c 2 t = x2
   dsimp only [k0_pay1, k0_pay2, k0_pay3, k0_pay4, k0_pay5, k0_pay6, k0_pay7, k0_pay8, k0_pay9, k0_pay10, k0_pay11, k0_pay12, k0_pay13, k0_pay14,
    k0_pay15, k0_pay16, k0_pay17, k0_pay18, k0_pay19, k0_pay20, k0_pay21, k0_pay22, k0_pay23, k0_pay24, k0_pay25, k0_pay26, k0_pay27, k0_pay28,
    k0_pay29, k0_pay30, k0_pay31, k0_pay32, k0_pay33, k0_pay34, k0_pay35, k0_pay36, k0_pay37, k0_pay38, k0_pay39, k0_pay40, k0_pay41, k0_pay42,
    k0_pay43, k0_pay44, k0_pay45, k0_pay46, k0_pay47, k0_pay48, k0_pay49, k0_pay50, k0_pay51, k0_pay52, k0_pay53, k0_pay54, k0_pay55, k0_pay56,
    k0_pay57, k0_pay58, k0_pay59, k0_pay60, k0_pay61, k0_pay62, k0_pay63, k0_pay64, k0_pay65, k0_pay66, k0_pay67, k0_pay68, k0_pay69, k0_pay70,
    k0_pay71, k0_pay72, k0_pay73, k0_pay74, k0_pay75, k0_pay76, k0_pay77, k0_pay78, k0_pay79, k0_pay80, k0_pay81, k0_pay82, k0_pay83, k0_pay84,
    k0_pay85, k0_pay86, k0_pay87, k0_pay88, k0_pay89, k0_pay90, k0_pay91, k0_pay92, k0_pay93, k0_pay94, k0_pay95, k0_pay96, k0_pay97, k0_pay98,
    k0_pay99, k0_pay100, k0_pay101, k0_pay102, k0_pay103, k0_pay104, k0_pay105, k0_pay106, k0_pay107, k0_pay108, k0_pay109, k0_pay110, k0_pay111,
    k0_pay112, k0_pay113, k0_pay114, k0_pay115, k0_pay116, k0_pay117, k0_pay118, k0_pay119, k0_pay120, k0_pay121, k0_pay122, k0_pay123, k0_pay124,
    k0_pay125, k0_pay126, k0_pay127, k0_pay128, k0_pay129, k0_pay130, k0_pay131, k0_pay132, k0_pay133, k0_pay134, k0_pay135, k0_pay136, k0_pay137,
    k0_pay138, k0_pay139, k0_pay140, k0_pay141, k0_pay142, k0_pay143, k0_pay144, k0_pay145, k0_pay146, k0_pay147, k0_pay148, k0_pay149, k0_pay150,
    k0_pay151, k0_pay152, k0_pay153, k0_pay154, k0_pay155, k0_pay156, k0_pay157, k0_pay158, k0_pay159, k0_pay160, k0_pay161, k0_pay162, k0_pay163,
    k0_pay164, k0_pay165, k0_pay166, k0_pay167, k0_pay168, k0_pay169,
    stores, band, Blk.q, Blk.k, Blk.v, out, row64, Blk.lse, Blk.row, Blk.sums, Blk.acc, Blk.last, Blk.top, Blk.c8, Blk.c5, Blk.c4, Blk.c3, Blk.c2, Blk.c1, Blk.u, upAcc, Blk.mx,
    rowMax, Blk.mx, Blk.m5, Blk.m4, Blk.m3, Blk.m2, Blk.m1, Blk.up, upMax, st, Nat.reduceMul]

end Cert.AttnFwdIdeal.Pay
-- ==== Proof.AttnFwdPay.lean ====
/- The forward attention's payloads over real operands: the scores, the row maxima, and the weighted sums. -/
module

public import proofs.«01_k».proof.Proof.AttnFwdBlk
public import proofs.«01_k».proof.Proof.AttnReal

@[expose] public section
set_option maxRecDepth 16384
noncomputable section
namespace Cert.AttnFwdIdeal.Pay
open Cert.AttnFwdIdeal Cert.AttnFwdIdeal.Gen Cert.AttnFwdIdeal.Value Cert.Common Idealize.ShloMosaic Idealize.ShloMosaic.TcCoe Idealize.SL.Sem Idealize.ShloMosaic.Tactic

theorem st_apply {k q : Vec Ideal S1x512x64 .bf16} {K Q : Fin 512 → Fin 64 → ℝ} (hk : ∀ s d, k (ix3 0 s d) = (K s d : EReal)) (hq : ∀ r d, q (ix3 0 r d) = (Q r d : EReal))
    (s r : Fin 512) : st k q (ix2 s r) = ((∑ d, K s d * Q r d : ℝ) : EReal) := by
  pointwise [st]
  simp only [hk, hq, of_zero, ← EReal.coe_mul, coe_sum, ← EReal.coe_add, zero_add]

/-- A maximum of something below plus infinity and a real is real. -/
theorem max_real {x : EReal} (h : x ≠ ⊤) (y : ℝ) : ∃ z : ℝ, max x (y : EReal) = z := by
  induction x with
  | bot => exact ⟨y, max_eq_right bot_le⟩
  | top => exact absurd rfl h
  | coe x => exact ⟨max x y, (EReal.coe_strictMono.monotone.map_max).symm⟩

/-- Every entry of the running maxima, of a row, is a real. -/
def R8 (x : FVec Ideal S8x512 .f32) : Prop := ∀ j r, ∃ z : ℝ, x (ix2 j r) = (z : EReal)
def R1 (x : FVec Ideal S1x512 .f32) : Prop := ∃ F : Fin 512 → ℝ, ∀ r, x (ix2 0 r) = (F r : EReal)

theorem R8.ne_top {x : FVec Ideal S8x512 .f32} (h : R8 x) (j : Fin 8) (r : Fin 512) : x (ix2 j r) ≠ (⊤ : EReal) := by
  obtain ⟨z, hz⟩ := h j r
  rw [hz]; exact EReal.coe_ne_top z

theorem upMax_real {acc : FVec Ideal S8x512 .f32} (ha : ∀ j r, acc (ix2 j r) ≠ (⊤ : EReal)) {s : FVec Ideal S512x512 .f32} {S : Fin 512 → Fin 512 → ℝ}
    (hs : ∀ i r, s (ix2 i r) = (S i r : EReal)) : R8 (upMax acc s) := by
  intro j r
  have h := ha j r
  pointwise [upMax]
  simp only [hs, of_neg_inf]
  rw [fold_max_real (by decide)]
  exact max_real h _

theorem rowMax_real {acc : FVec Ideal S8x512 .f32} (ha : R8 acc) : R1 (rowMax acc) := by
  choose A hA using ha
  refine ⟨fun r => maxR fun j => A j r, fun r => ?_⟩
  pointwise [rowMax]
  simp only [hA, of_neg_inf]
  exact fold_max_real (by decide) _

theorem top_real {acc : FVec Ideal S8x512 .f32} (ha : R8 acc) : R1 (Blk.top acc) := by
  choose A hA using ha
  refine ⟨fun r => A 0 r, fun r => ?_⟩
  pointwise [Blk.top]
  exact hA 0 r

theorem row64_apply {acc : FVec Ideal S128x512 .f32} {A : Fin 128 → Fin 512 → ℝ} (ha : ∀ i r, acc (ix2 i r) = (A i r : EReal)) (r : Fin 512) : row64 acc (ix2 0 r) = (A 64 r : EReal) := by
  pointwise [row64]
  exact ha 64 r

theorem upAcc_apply {acc : FVec Ideal S128x512 .f32} {A : Fin 128 → Fin 512 → ℝ} (ha : ∀ i r, acc (ix2 i r) = (A i r : EReal))
    {m aft : FVec Ideal S1x512 .f32} {M : Fin 512 → ℝ} (hm : ∀ r, m (ix2 0 r) = (M r : EReal)) (hf : R1 aft)
    {s : Vec Ideal S1x512x512 .f32} {S : Fin 512 → Fin 512 → ℝ} (hs : ∀ i r, s (ix3 0 i r) = (S i r : EReal))
    {v : Vec Ideal S1x1x128x512 .bf16} {W : Fin 128 → Fin 512 → ℝ} (hv : ∀ i s, v (ix4 0 0 i s) = (W i s : EReal)) (i : Fin 128) (r : Fin 512) :
    upAcc acc m aft s v (ix2 i r) = ((A i r + ∑ s, W i s * Real.exp (S s r - M r) : ℝ) : EReal) := by
  obtain ⟨F, hF⟩ := hf
  pointwise [upAcc]
  simp only [ha, hm, hF, hs, hv, of_zero, ← EReal.coe_mul, ← EReal.coe_add, ← EReal.coe_sub, Ideal.exp_coe, coe_sum, zero_add, mul_zero, add_zero]

theorem out_apply {acc : FVec Ideal S128x512 .f32} {A : Fin 128 → Fin 512 → ℝ} (ha : ∀ i r, acc (ix2 i r) = (A i r : EReal)) (h : ∀ r, A 64 r ≠ 0) (r : Fin 512) (d : Fin 64) :
    out acc (ix2 r d) = ((A ⟨d.val, by omega⟩ r / A 64 r : ℝ) : EReal) := by
  have h64 := row64_apply ha r
  unfold out
  generalize row64 acc = x at *
  pointwise
  rw [h64, ha, div_real _ (h r)]

theorem row_apply {m : FVec Ideal S1x512 .f32} {M : Fin 512 → ℝ} (hm : ∀ r, m (ix2 0 r) = (M r : EReal)) {acc : FVec Ideal S128x512 .f32} {A : Fin 128 → Fin 512 → ℝ}
    (ha : ∀ i r, acc (ix2 i r) = (A i r : EReal)) (h : ∀ r, 0 < A 64 r) (r : Fin 512) : Blk.row m acc (ix3 0 0 r) = ((M r + Real.log (A 64 r) : ℝ) : EReal) := by
  have h64 := row64_apply ha r
  unfold Blk.row
  generalize row64 acc = x at *
  pointwise
  rw [hm, h64, Ideal.log_coe, if_neg (h r).not_ge, ← EReal.coe_add]

theorem pay3_ne_top (j : Fin 8) (r : Fin 512) : (k0_pay3 (F := Ideal)) (ix2 j r) ≠ (⊤ : EReal) := by
  pointwise [k0_pay3]
  rw [of_neg_inf]
  exact bot_ne_top

/-- The blocks of a point hold these reals. -/
structure Blk.On (b : Blk) (Q : Fin 4 → Fin 512 → Fin 64 → ℝ) (K : Fin 4096 → Fin 64 → ℝ) (W : Fin 128 → Fin 4096 → ℝ) : Prop where
  x0 : ∀ n r d, b.x0 (ix3 n r d) = (Q n r d : EReal)
  x1 : ∀ s d, b.x1 (ix3 0 s d) = (K s d : EReal)
  x2 : ∀ (e : Fin 8) i (s : Fin 512), b.x2 (ix4 0 e i s) = (W i ⟨512 * e.val + s.val, by omega⟩ : EReal)

namespace Blk
variable {b : Blk} {Q : Fin 4 → Fin 512 → Fin 64 → ℝ} {K : Fin 4096 → Fin 64 → ℝ} {W : Fin 128 → Fin 4096 → ℝ} (B : b.On Q K W)
include B

theorem q_apply (n : ℕ) (h : n < 4) (r : Fin 512) (d : Fin 64) : b.q n h (ix3 0 r d) = (Q ⟨n, h⟩ r d : EReal) := by
  rw [← B.x0]; unfold q; pointwise
theorem k_apply (e : ℕ) (he : e < 8) (s : Fin 512) (d : Fin 64) : b.k e he (ix3 0 s d) = (K ⟨512 * e + s.val, by omega⟩ d : EReal) := by
  rw [← B.x1]; unfold k; pointwise
theorem v_apply (e : ℕ) (he : e < 8) (i : Fin 128) (s : Fin 512) : b.v e he (ix4 0 0 i s) = (W i ⟨512 * e + s.val, by omega⟩ : EReal) := by
  have h := B.x2 ⟨e, he⟩ i s
  rw [← h]; unfold v; pointwise

omit B in
/-- A head's score of a query and a key. -/
def sR (Q : Fin 4 → Fin 512 → Fin 64 → ℝ) (K : Fin 4096 → Fin 64 → ℝ) (n : Fin 4) (s : Fin 4096) (r : Fin 512) : ℝ := ∑ d, K s d * Q n r d

theorem s_apply (n : ℕ) (h : n < 4) (e : ℕ) (he : e < 8) (s r : Fin 512) : st (b.k e he) (b.q n h) (ix2 s r) = (sR Q K ⟨n, h⟩ ⟨512 * e + s.val, by omega⟩ r : EReal) :=
  st_apply (k_apply B e he) (q_apply B n h) s r

theorem up_real (n : ℕ) (h : n < 4) {acc : FVec Ideal S8x512 .f32} (ha : ∀ j r, acc (ix2 j r) ≠ (⊤ : EReal)) (e : ℕ) (he : e < 8) : R8 (b.up n h acc e he) :=
  upMax_real ha (s_apply B n h e he)
theorem m1_real (n : ℕ) (h : n < 4) : R8 (b.m1 n h) := up_real B n h pay3_ne_top 0 (by decide)
theorem m2_real (n : ℕ) (h : n < 4) : R8 (b.m2 n h) := up_real B n h (m1_real B n h).ne_top 1 (by decide)
theorem m3_real (n : ℕ) (h : n < 4) : R8 (b.m3 n h) := up_real B n h (m2_real B n h).ne_top 2 (by decide)
theorem m4_real (n : ℕ) (h : n < 4) : R8 (b.m4 n h) := up_real B n h (m3_real B n h).ne_top 3 (by decide)
theorem m5_real (n : ℕ) (h : n < 4) : R8 (b.m5 n h) := up_real B n h (m4_real B n h).ne_top 4 (by decide)
theorem mx_real (n : ℕ) (h : n < 4) : R1 (b.mx n h) :=
  rowMax_real (up_real B n h (up_real B n h (up_real B n h (m5_real B n h).ne_top 5 (by decide)).ne_top 6 (by decide)).ne_top 7 (by decide))

omit B in
/-- A chunk's share of a head's weighted sums, and all of them. -/
def part (Q : Fin 4 → Fin 512 → Fin 64 → ℝ) (K : Fin 4096 → Fin 64 → ℝ) (W : Fin 128 → Fin 4096 → ℝ) (n : Fin 4) (M : Fin 512 → ℝ) (i : Fin 128) (r : Fin 512) (e : Fin 8) : ℝ :=
  ∑ s : Fin 512, W i ⟨512 * e.val + s.val, by omega⟩ * Real.exp (sR Q K n ⟨512 * e.val + s.val, by omega⟩ r - M r)
omit B in
def total (Q : Fin 4 → Fin 512 → Fin 64 → ℝ) (K : Fin 4096 → Fin 64 → ℝ) (W : Fin 128 → Fin 4096 → ℝ) (n : Fin 4) (M : Fin 512 → ℝ) (i : Fin 128) (r : Fin 512) : ℝ :=
  ∑ s, W i s * Real.exp (sR Q K n s r - M r)

variable {m : FVec Ideal S1x512 .f32} {M : Fin 512 → ℝ} (hm : ∀ r, m (ix2 0 r) = (M r : EReal))
include hm

theorem u_apply (n : ℕ) (h : n < 4) {acc : FVec Ideal S128x512 .f32} {A : Fin 128 → Fin 512 → ℝ} (ha : ∀ i r, acc (ix2 i r) = (A i r : EReal)) {aft : FVec Ideal S1x512 .f32} (hf : R1 aft)
    (e : ℕ) (he : e < 8) (i : Fin 128) (r : Fin 512) : b.u n h m acc aft e he (ix2 i r) = ((A i r + part Q K W ⟨n, h⟩ M i r ⟨e, he⟩ : ℝ) : EReal) := by
  refine upAcc_apply ha hm hf (fun s r => ?_) (v_apply B e he) i r
  have hs := s_apply B n h e he s r
  rw [← hs]
  generalize st (b.k e he) (b.q n h) = y
  pointwise

omit B hm in
theorem zero_apply (i : Fin 128) (r : Fin 512) : (broadcast S128x512 (Scalar.ofBits (F := Ideal) .f32 0x00000000#32) : FVec Ideal S128x512 .f32) (ix2 i r) = ((0 : ℝ) : EReal) := by
  pointwise
  exact EReal.coe_zero.symm

omit B hm in
/-- The weighted sums of the first chunks. -/
def upto (Q : Fin 4 → Fin 512 → Fin 64 → ℝ) (K : Fin 4096 → Fin 64 → ℝ) (W : Fin 128 → Fin 4096 → ℝ) (n : Fin 4) (M : Fin 512 → ℝ) : ℕ → Fin 128 → Fin 512 → ℝ
  | 0 => fun _ _ => 0
  | e + 1 => fun i r => upto Q K W n M e i r + if h : e < 8 then part Q K W n M i r ⟨e, h⟩ else 0

theorem next_apply (n : ℕ) (h : n < 4) (e : ℕ) (he : e < 8) {acc : FVec Ideal S128x512 .f32} (ha : ∀ i r, acc (ix2 i r) = (upto Q K W ⟨n, h⟩ M e i r : EReal)) {aft : FVec Ideal S1x512 .f32} (hf : R1 aft)
    (i : Fin 128) (r : Fin 512) : b.u n h m acc aft e he (ix2 i r) = (upto Q K W ⟨n, h⟩ M (e + 1) i r : EReal) := by
  refine (u_apply B hm n h ha hf e he i r).trans (congrArg _ ?_)
  show _ = upto Q K W ⟨n, h⟩ M e i r + dite _ _ _
  rw [dif_pos he]

theorem c1_apply (n : ℕ) (h : n < 4) : ∀ i r, b.c1 n h m (ix2 i r) = (upto Q K W ⟨n, h⟩ M 1 i r : EReal) :=
  next_apply B hm n h 0 (by decide) zero_apply ⟨M, hm⟩
theorem c2_apply (n : ℕ) (h : n < 4) : ∀ i r, b.c2 n h m (ix2 i r) = (upto Q K W ⟨n, h⟩ M 2 i r : EReal) :=
  next_apply B hm n h 1 (by decide) (c1_apply B hm n h) ⟨M, hm⟩
theorem c3_apply (n : ℕ) (h : n < 4) : ∀ i r, b.c3 n h m (ix2 i r) = (upto Q K W ⟨n, h⟩ M 3 i r : EReal) :=
  next_apply B hm n h 2 (by decide) (c2_apply B hm n h) ⟨M, hm⟩
theorem c4_apply (n : ℕ) (h : n < 4) {f1 : FVec Ideal S1x512 .f32} (h1 : R1 f1) : ∀ i r, b.c4 n h m f1 (ix2 i r) = (upto Q K W ⟨n, h⟩ M 4 i r : EReal) :=
  next_apply B hm n h 3 (by decide) (c3_apply B hm n h) h1
theorem c5_apply (n : ℕ) (h : n < 4) {f1 f2 : FVec Ideal S1x512 .f32} (h1 : R1 f1) (h2 : R1 f2) : ∀ i r, b.c5 n h m f1 f2 (ix2 i r) = (upto Q K W ⟨n, h⟩ M 5 i r : EReal) :=
  next_apply B hm n h 4 (by decide) (c4_apply B hm n h h1) h2

theorem c8_apply (n : ℕ) (h : n < 4) {f1 f2 f3 f4 f5 : FVec Ideal S1x512 .f32} (h1 : R1 f1) (h2 : R1 f2) (h3 : R1 f3) (h4 : R1 f4) (h5 : R1 f5) (i : Fin 128) (r : Fin 512) :
    b.c8 n h m f1 f2 f3 f4 f5 (ix2 i r) = (total Q K W ⟨n, h⟩ M i r : EReal) := by
  refine (next_apply B hm n h 7 (by decide) (next_apply B hm n h 6 (by decide) (next_apply B hm n h 5 (by decide) (c5_apply B hm n h h1 h2) h3) h4) h5 i r).trans ?_
  unfold total
  rw [sum_tile 8 512 rfl, Fin.sum_univ_eight]
  simp [upto, part]

omit hm in
/-- A head's weighted sums, below a maximum that is real, and its row of log-sums. -/
theorem sums_apply (n : Fin 4) : ∃ M : Fin 512 → ℝ, (∀ i r, b.sums n (ix2 i r) = (total Q K W n M i r : EReal))
    ∧ ((∀ s, W 64 s = 1) → ∀ r, b.lse n (ix3 0 0 r) = ((M r + Real.log (total Q K W n M 64 r) : ℝ) : EReal)) := by
  have pos : (∀ s, W 64 s = 1) → ∀ (n : Fin 4) (M : Fin 512 → ℝ) (r : Fin 512), 0 < total Q K W n M 64 r := fun hW n M r => by
    unfold total
    simp only [hW, one_mul]
    exact Finset.sum_pos (fun _ _ => Real.exp_pos _) ⟨0, Finset.mem_univ _⟩
  have beside : ∀ (n n' : ℕ) (h : n < 4) (h' : n' < 4), ∃ M : Fin 512 → ℝ, (∀ r, b.mx n h (ix2 0 r) = (M r : EReal)) ∧ ∀ i r, b.acc n n' h h' (ix2 i r) = (total Q K W ⟨n, h⟩ M i r : EReal) := by
    intro n n' h h'
    obtain ⟨M, hm⟩ := mx_real B n h
    exact ⟨M, hm, c8_apply B hm n h (top_real (m1_real B n' h')) (top_real (m2_real B n' h')) (top_real (m3_real B n' h')) (top_real (m4_real B n' h')) (top_real (m5_real B n' h'))⟩
  match n with
  | 0 => obtain ⟨M, hm, hs⟩ := beside 0 1 (by decide) (by decide); exact ⟨M, hs, fun hW => row_apply hm hs (pos hW 0 M)⟩
  | 1 => obtain ⟨M, hm, hs⟩ := beside 1 2 (by decide) (by decide); exact ⟨M, hs, fun hW => row_apply hm hs (pos hW 1 M)⟩
  | 2 => obtain ⟨M, hm, hs⟩ := beside 2 3 (by decide) (by decide); exact ⟨M, hs, fun hW => row_apply hm hs (pos hW 2 M)⟩
  | 3 =>
    obtain ⟨M, hm⟩ := mx_real B 3 (by decide)
    have f1 : R1 (row64 (b.c1 3 (by decide) (b.mx 3 (by decide)))) := ⟨_, row64_apply (c1_apply B hm 3 (by decide))⟩
    have f2 : R1 (row64 (b.c2 3 (by decide) (b.mx 3 (by decide)))) := ⟨_, row64_apply (c2_apply B hm 3 (by decide))⟩
    have f3 : R1 (row64 (b.c3 3 (by decide) (b.mx 3 (by decide)))) := ⟨_, row64_apply (c3_apply B hm 3 (by decide))⟩
    have f4 := row64_apply (c4_apply B hm 3 (by decide) f1)
    have f5 := row64_apply (c5_apply B hm 3 (by decide) f1 f2)
    have hs := c8_apply B hm 3 (by decide) f1 f2 f3 ⟨_, f4⟩ ⟨_, f5⟩
    exact ⟨M, hs, fun hW => row_apply hm hs (pos hW 3 M)⟩

end Blk

end Cert.AttnFwdIdeal.Pay
-- ==== Proof.AttnFwdHost.lean ====
/- The forward attention's prepared arrays over real arguments, and the blocks a grid point reads of them. -/
module

public import proofs.«01_k».proof.Proof.AttnFwdPay

@[expose] public section
set_option maxRecDepth 16384
noncomputable section
namespace Cert.AttnFwdIdeal.Pay
open Cert.AttnFwdIdeal Cert.AttnFwdIdeal.Gen Cert.AttnFwdIdeal.Value Cert.Common Idealize.ShloMosaic Idealize.ShloMosaic.TcCoe Idealize.SL.Sem Idealize.ShloMosaic.Tactic
variable (m : (ℓ : Loc nD τ sig) → Buf (Elt Ideal) ℓ) (c : Dev nD)

/-- The arguments. -/
abbrev aq : S1x4096x8x64.Idx → EReal := m ((c : Thread nD τ).loc main_arg0)
abbrev ak : S1x4096x2x64.Idx → EReal := m ((c : Thread nD τ).loc main_arg1)
abbrev av : S1x4096x2x64.Idx → EReal := m ((c : Thread nD τ).loc main_arg2)

theorem q_eq (h : Fin 8) (T : Fin 4096) (d : Fin 64) : (V m c main_v4 : FVec Ideal S8x4096x64 .bf16) (ix3 h T d) = aq m c (ix4 0 T h d) * Ideal.ofBits .f32 0x3E000000#32 := by
  unfold V; after_reads_at
theorem k_eq (j : Fin 2) (s : Fin 4096) (d : Fin 64) : (V m c main_v7 : FVec Ideal S2x4096x64 .bf16) (ix3 j s d) = ak m c (ix4 0 s j d) := by
  unfold V; after_reads_at
theorem v_eq (j : Fin 2) (e : Fin 8) (i : Fin 128) (s : Fin 512) : (V m c main_v13 : FVec Ideal S2x8x128x512 .bf16) (ix4 j e i s)
    = if h : i.val < 64 then av m c (ix4 0 ⟨512 * e.val + s.val, by omega⟩ j ⟨i.val, h⟩) else Ideal.ofBits .f32 0x3F800000#32 := by
  unfold V
  after_reads_at
  split
  · after_reads_at
    exact congrArg (av m c) (by congr 1; exact Fin.ext (by show e.val * 512 + s.val = 512 * e.val + s.val; omega))
  · after_reads_at

theorem N16 (t : Fin cfg0.N) : t.val < 16 := lt_of_lt_of_eq t.isLt N_0

theorem idx : ∀ t : Fin cfg0.N, win0_0.index t = ![t.val / 8, t.val % 8, 0] ∧ win0_1.index t = ![t.val / 8, 0, 0] ∧ win0_2.index t = ![t.val / 8, 0, 0, 0]
    ∧ win0_3.index t = ![t.val % 8, t.val / 8] ∧ win0_4.index t = ![t.val / 8, 0, t.val % 8] :=
  (by decide +kernel : ∀ t : Fin grid0.N, _)

/-- The row, the head and the group of a point. -/
def trow (t : Fin cfg0.N) (r : Fin 512) : Fin 4096 := ⟨512 * (t.val % 8) + r.val, by have := N16 t; omega⟩
def hdAt (t : Fin cfg0.N) (n : Fin 4) : Fin 8 := ⟨4 * (t.val / 8) + n.val, by have := N16 t; omega⟩
def grpAt (t : Fin cfg0.N) : Fin 2 := ⟨t.val / 8, by have := N16 t; omega⟩

theorem trow_val (t : Fin cfg0.N) (r : Fin 512) : (trow t r).val = 512 * (t.val % 8) + r.val := rfl
theorem hdAt_val (t : Fin cfg0.N) (n : Fin 4) : (hdAt t n).val = 4 * (t.val / 8) + n.val := rfl
theorem grpAt_val (t : Fin cfg0.N) : (grpAt t).val = t.val / 8 := rfl
theorem grp_hdAt (t : Fin cfg0.N) (n : Fin 4) : AttnReal.grp (hdAt t n) = grpAt t := Fin.ext (by show (4 * (t.val / 8) + n.val) / 4 = t.val / 8; omega)

/-- The blocks a point reads, from the prepared arrays. -/
theorem blk0 (t : Fin cfg0.N) (n : Fin 4) (r : Fin 512) (d : Fin 64) : iblk m c 0 t (ix3 n r d) = V m c main_v4 (ix3 (hdAt t n) (trow t r) d) := by
  unfold iblk
  change _ = V m c (Pipeline.arrRef spec0 0) (ix3 (hdAt t n) (trow t r) d)
  generalize V m c (Pipeline.arrRef spec0 0) = W
  blk_ext [idx t, trow_val t, hdAt_val t]
theorem blk1 (t : Fin cfg0.N) (s : Fin 4096) (d : Fin 64) : iblk m c 1 t (ix3 0 s d) = V m c main_v7 (ix3 (grpAt t) s d) := by
  unfold iblk
  change _ = V m c (Pipeline.arrRef spec0 1) (ix3 (grpAt t) s d)
  generalize V m c (Pipeline.arrRef spec0 1) = W
  blk_ext [idx t, grpAt_val t]
theorem blk2 (t : Fin cfg0.N) (e : Fin 8) (i : Fin 128) (s : Fin 512) : iblk m c 2 t (ix4 0 e i s) = V m c main_v13 (ix4 (grpAt t) e i s) := by
  unfold iblk
  change _ = V m c (Pipeline.arrRef spec0 2) (ix4 (grpAt t) e i s)
  generalize V m c (Pipeline.arrRef spec0 2) = W
  blk_ext [idx t, grpAt_val t]

/-- The arguments in memory are these reals. -/
structure _root_.Cert.AttnReal.Args.Holds (a : AttnReal.Args) (q : S1x4096x8x64.Idx → EReal) (k v : S1x4096x2x64.Idx → EReal) : Prop where
  q : ∀ T h d, q (ix4 0 T h d) = (a.q T h d : EReal)
  k : ∀ s j d, k (ix4 0 s j d) = (a.k s j d : EReal)
  v : ∀ s j d, v (ix4 0 s j d) = (a.v s j d : EReal)

/-- A group's values, and below them rows of ones. -/
def wts (a : AttnReal.Args) (j : Fin 2) (i : Fin 128) (s : Fin 4096) : ℝ := if h : i.val < 64 then a.v s j ⟨i.val, h⟩ else 1

variable {m c} {a : AttnReal.Args} (ha : a.Holds (aq m c) (ak m c) (av m c))
include ha

/-- A point's blocks hold its heads' rows. -/
theorem blk_on (t : Fin cfg0.N) : (blkAt m c t).On (fun n r d => a.q (trow t r) (hdAt t n) d * (1 / 8)) (fun s d => a.k s (grpAt t) d) (wts a (grpAt t)) := by
  constructor
  · intro n r d; unfold blkAt; dsimp only; rw [blk0, q_eq, ha.q, of_eighth, ← EReal.coe_mul]
  · intro s d; unfold blkAt; dsimp only; rw [blk1, k_eq, ha.k]
  · intro e i s; unfold blkAt wts; dsimp only; rw [blk2, v_eq]
    split
    · exact ha.v _ _ _
    · exact of_one

end Cert.AttnFwdIdeal.Pay
-- ==== Proof.AttnFwdKernel.lean ====
/- What the attention's forward kernel computes over real arguments, in closed form. -/
module

public import proofs.«01_k».proof.Proof.AttnFwdHost

@[expose] public section
set_option maxRecDepth 16384
noncomputable section
namespace Cert.AttnReal

variable (a : Args)

/-- An exponential below another number than the maximum. -/
theorem Args.exp_shift (h : Fin 8) (T s : Fin 4096) (μ : ℝ) : Real.exp (a.sc h T s - μ) = Real.exp (a.mx h T - μ) * a.e h T s := by
  unfold Args.e
  rw [← Real.exp_add]
  exact congrArg Real.exp (by ring)

theorem Args.ls_shift (h : Fin 8) (T : Fin 4096) (μ : ℝ) : ∑ s, Real.exp (a.sc h T s - μ) = Real.exp (a.mx h T - μ) * a.ls h T := by
  simp only [a.exp_shift h T _ μ]
  rw [← Finset.mul_sum]; rfl

/-- The output and the log-sum do not depend on the number the exponentials are taken below. -/
theorem Args.oa_shift (h : Fin 8) (T : Fin 4096) (d : Fin 64) (μ : ℝ) : (∑ s, a.v s (grp h) d * Real.exp (a.sc h T s - μ)) / ∑ s, Real.exp (a.sc h T s - μ) = a.oa h T d := by
  rw [a.ls_shift]
  simp only [a.exp_shift h T _ μ]
  unfold Args.oa
  have e1 : ∑ s, a.v s (grp h) d * (Real.exp (a.mx h T - μ) * a.e h T s) = Real.exp (a.mx h T - μ) * ∑ s, a.e h T s * a.v s (grp h) d := by
    rw [Finset.mul_sum]
    exact Finset.sum_congr rfl fun s _ => by ring
  rw [e1, mul_div_mul_left _ _ (Real.exp_pos _).ne']

theorem Args.lse_shift (h : Fin 8) (T : Fin 4096) (μ : ℝ) : μ + Real.log (∑ s, Real.exp (a.sc h T s - μ)) = a.lse h T := by
  rw [a.ls_shift, Real.log_mul (Real.exp_pos _).ne' (a.ls_pos h T).ne', Real.log_exp]
  unfold Args.lse
  ring

end Cert.AttnReal

namespace Cert.AttnFwdIdeal.Pay
open Cert.AttnFwdIdeal Cert.AttnFwdIdeal.Gen Cert.AttnFwdIdeal.Value Cert.Common Idealize.ShloMosaic Idealize.ShloMosaic.TcCoe Idealize.SL.Sem Idealize.ShloMosaic.Tactic
open AttnReal

/-- Reading what four stored rows leave. -/
theorem stores_apply (P : Fin 4 → Vec Ideal S1x1x512 .f32) (n : Fin 4) (r : Fin 512) : View.canon (stores P) (ix3 n 0 r) = P n (ix3 0 0 r) := by
  have hG : View.PiecesOf (fun y : S4x1x512.Idx => P (y 0) (ix3 0 0 (y 2))) (stores P) := by
    have key : ∀ (e : ℕ) (h : e < 4) (x : S1x1x512.Idx), P ⟨e, h⟩ x = (fun y : S4x1x512.Idx => P (y 0) (ix3 0 0 (y 2))) ((band e h).emb x) := by
      intro e h x
      have h0 : x 0 = (0 : Fin 1) := Subsingleton.elim (α := Fin 1) _ _
      have h1 : x 1 = (0 : Fin 1) := Subsingleton.elim (α := Fin 1) _ _
      have e0 : (band e h).emb x 0 = (⟨e, h⟩ : Fin 4) := Fin.ext (by show e + 1 * (x 0).val = e; rw [h0]; simp)
      have e2 : (band e h).emb x 2 = x 2 := Fin.ext (by show 0 + 1 * (x 2).val = _; omega)
      dsimp only
      rw [e0, e2]
      exact congrArg (P ⟨e, h⟩) ((eq_ix3 x).trans (by rw [h0, h1]))
    exact ⟨key 3 (by decide), key 2 (by decide), key 1 (by decide), key 0 (by decide), trivial⟩
  have hG' := View.canon_append_of_piecesOf _ [] _ hG (ix3 n 0 r) ?_
  · rw [List.append_nil] at hG'
    exact hG'
  have hm : ∀ e : Fin 4, (⟨band e.val e.isLt, P e⟩ : View.Piece (Elt Ideal) S4x1x512 .f32) ∈ stores P := by
    intro e; unfold stores; fin_cases e <;> simp
  refine ⟨_, hm n, ?_⟩
  rw [Rect.mem_set_unit]
  intro a
  match a with
  | ⟨0, _⟩ => show n.val ≤ n.val ∧ n.val < n.val + 1; omega
  | ⟨1, _⟩ => exact ⟨Nat.le_refl 0, Nat.one_pos⟩
  | ⟨2, _⟩ => show 0 ≤ r.val ∧ r.val < 0 + 512; omega

/-- Four blocks of 64 columns side by side. -/
theorem side_apply (x0 x1 x2 x3 : FVec Ideal S512x64 .f32) (r : Fin 512) (l : Fin 256) (z : EReal)
    (h : ∀ n : Fin 4, l.val / 64 = n.val → (![x0, x1, x2, x3] n) (ix2 r ⟨l.val % 64, by omega⟩) = z) :
    concatenate S512x256 1 [⟨S512x64, x0⟩, ⟨S512x64, x1⟩, ⟨S512x64, x2⟩, ⟨S512x64, x3⟩] concatenates_S512x64_S512x64_S512x64_S512x64_S512x256_d1 (ix2 r l) = z := by
  have at_ : ∀ (y : FVec Ideal S512x64 .f32) (p : ℕ) (hp : p < 64), p = l.val % 64 → y (ix2 r ⟨l.val % 64, by omega⟩) = z → y (ix2 r ⟨p, hp⟩) = z := by
    rintro y p hp rfl hy
    exact hy
  pointwise
  by_cases a : l.val < 64
  · rw [dif_pos a]
    exact at_ x0 _ _ (by omega) (h 0 (by show l.val / 64 = 0; omega))
  rw [dif_neg a]
  by_cases b : l.val - 64 < 64
  · rw [dif_pos b]
    exact at_ x1 _ _ (by omega) (h 1 (by show l.val / 64 = 1; omega))
  rw [dif_neg b]
  by_cases c : l.val - 64 - 64 < 64
  · rw [dif_pos c]
    exact at_ x2 _ _ (by omega) (h 2 (by show l.val / 64 = 2; omega))
  rw [dif_neg c]
  exact at_ x3 _ _ (by omega) (h 3 (by show l.val / 64 = 3; omega))

variable {m : (ℓ : Loc nD τ sig) → Buf (Elt Ideal) ℓ} {c : Dev nD} {a : Args} (ha : a.Holds (aq m c) (ak m c) (av m c))

/-- A point's scores are the softmax's. -/
theorem sR_eq (a : Args) (t : Fin cfg0.N) (n : Fin 4) (s : Fin 4096) (r : Fin 512) : Blk.sR (fun n r d => a.q (trow t r) (hdAt t n) d * (1 / 8)) (fun s d => a.k s (grpAt t) d) n s r = a.sc (hdAt t n) (trow t r) s := by
  unfold Blk.sR Args.sc
  rw [grp_hdAt]
  exact Finset.sum_congr rfl fun d _ => mul_comm _ _

theorem wts_one (a : Args) (j : Fin 2) (s : Fin 4096) : wts a j 64 s = 1 := dif_neg (by decide)

include ha

theorem head_out (t : Fin cfg0.N) (n : Fin 4) (r : Fin 512) (d : Fin 64) : out ((blkAt m c t).sums n) (ix2 r d) = (a.oa (hdAt t n) (trow t r) d : EReal) := by
  obtain ⟨M, hs, -⟩ := Blk.sums_apply (blk_on ha t) n
  have e64 : ∀ r, Blk.total (fun n r d => a.q (trow t r) (hdAt t n) d * (1 / 8)) (fun s d => a.k s (grpAt t) d) (wts a (grpAt t)) n M 64 r
      = ∑ s, Real.exp (a.sc (hdAt t n) (trow t r) s - M r) := fun r => by
    unfold Blk.total
    simp only [wts_one, sR_eq, one_mul]
  have pos : ∀ r, ∑ s, Real.exp (a.sc (hdAt t n) (trow t r) s - M r) ≠ 0 := fun r => (Finset.sum_pos (fun _ _ => Real.exp_pos _) ⟨0, Finset.mem_univ _⟩).ne'
  rw [out_apply hs (fun r => by rw [e64]; exact pos r) r d, e64, ← a.oa_shift (hdAt t n) (trow t r) d (M r), grp_hdAt]
  unfold Blk.total
  simp only [sR_eq]
  have ew : ∀ s, wts a (grpAt t) ⟨d.val, by omega⟩ s = a.v s (grpAt t) d := fun s => dif_pos d.isLt
  simp only [ew]

theorem head_lse (t : Fin cfg0.N) (n : Fin 4) (r : Fin 512) : (blkAt m c t).lse n (ix3 0 0 r) = (a.lse (hdAt t n) (trow t r) : EReal) := by
  obtain ⟨M, -, hl⟩ := Blk.sums_apply (blk_on ha t) n
  rw [hl (wts_one a _) r, ← a.lse_shift _ _ (M r)]
  unfold Blk.total
  simp only [wts_one, sR_eq, one_mul]

/-- A point's two blocks. -/
theorem o_at (t : Fin cfg0.N) (r : Fin 512) (l : Fin 256) : (outsAt0 m c t).1 (ix2 r l) = (a.oa (hdAt t ⟨l.val / 64, by omega⟩) (trow t r) ⟨l.val % 64, by omega⟩ : EReal) := by
  rw [(left_at m c t).1]
  refine side_apply _ _ _ _ r l _ fun n hn => ?_
  have e : (⟨l.val / 64, by omega⟩ : Fin 4) = n := Fin.ext hn
  rw [e, ← head_out ha t n r]
  fin_cases n <;> rfl

theorem lse_at (t : Fin cfg0.N) (n : Fin 4) (r : Fin 512) : (outsAt0 m c t).2 (ix3 n 0 r) = (a.lse (hdAt t n) (trow t r) : EReal) := by
  rw [(left_at m c t).2, stores_apply]
  exact head_lse ha t n r

/-- The results as arrays. -/
def oArr (a : Args) : S4096x512.Idx → EReal := fun i => (a.oa ⟨(i 1).val / 64, by idx_bounds i; omega⟩ (i 0) ⟨(i 1).val % 64, by omega⟩ : EReal)
def lseArr (a : Args) : S8x1x4096.Idx → EReal := fun i => (a.lse (i 0) (i 2) : EReal)

/-- The two results over the whole run. -/
theorem final3 : (dats m 0 c).arrAt 3 cfg0.N = oArr a := by
  refine (dats m 0 c).arrAt_eq_of_covers 3 _ (by decide +kernel) fun t hf y => ?_
  blk_simp
  rw [after0_3]
  obtain ⟨r, l, rfl⟩ : ∃ (r : Fin 512) (l : Fin 256), y = ix2 r l := ⟨y 0, y 1, eq_ix2 y⟩
  refine (o_at ha t r l).trans ?_
  have e0 : (win0_3.blk t).view.emb (ix2 r l) 0 = trow t r := Fin.ext (by blk_simp [idx t]; rw [trow_val]; omega)
  have e1 : ((win0_3.blk t).view.emb (ix2 r l) 1).val = 256 * (t.val / 8) + l.val := by blk_simp [idx t]; omega
  unfold oArr
  rw [e0]
  have e2 : hdAt t ⟨l.val / 64, by omega⟩ = ⟨((win0_3.blk t).view.emb (ix2 r l) 1).val / 64, by have := N16 t; omega⟩ :=
    Fin.ext (by show 4 * (t.val / 8) + l.val / 64 = ((win0_3.blk t).view.emb (ix2 r l) 1).val / 64; omega)
  have e3 : (⟨l.val % 64, by omega⟩ : Fin 64) = ⟨((win0_3.blk t).view.emb (ix2 r l) 1).val % 64, by omega⟩ :=
    Fin.ext (by show l.val % 64 = ((win0_3.blk t).view.emb (ix2 r l) 1).val % 64; omega)
  rw [e2, e3]

theorem final4 : (dats m 0 c).arrAt 4 cfg0.N = lseArr a := by
  refine (dats m 0 c).arrAt_eq_of_covers 4 _ (by decide +kernel) fun t hf y => ?_
  blk_simp
  rw [after0_4]
  obtain ⟨n, r, rfl⟩ : ∃ (n : Fin 4) (r : Fin 512), y = ix3 n (0 : Fin 1) r := ⟨y 0, y 2, (eq_ix3 y).trans (by rw [show y 1 = (0 : Fin 1) from Subsingleton.elim (α := Fin 1) _ _])⟩
  refine (lse_at ha t n r).trans ?_
  have e0 : (win0_4.blk t).view.emb (ix3 n (0 : Fin 1) r) 0 = hdAt t n := Fin.ext (by blk_simp [idx t]; rw [hdAt_val]; omega)
  have e2 : (win0_4.blk t).view.emb (ix3 n (0 : Fin 1) r) 2 = trow t r := Fin.ext (by blk_simp [idx t]; rw [trow_val]; omega)
  unfold lseArr
  rw [e0, e2]

end Cert.AttnFwdIdeal.Pay
-- ==== Proof.AttnFwdStages.lean ====
/- The forward attention's reference over real arguments, stage by stage. -/
module

public import proofs.«01_k».proof.Proof.AttnFwdKernel
public import proofs.«01_k».proof.Proof.Gen.AttnFwdRefIdeal.Read

@[expose] public section

set_option maxRecDepth 16384

noncomputable section

namespace Cert.AttnFwdRefIdeal.Stages

open Cert.AttnFwdRefIdeal Cert.AttnFwdRefIdeal.Gen Cert.AttnFwdRefIdeal.Read Cert.AttnReal Cert.Common Idealize.ShloMosaic Idealize.ShloMosaic.Tactic

variable (a : Args) (q : Vec Ideal S1x4096x8x64 .f32) (k v : Vec Ideal S1x4096x2x64 .f32) (ha : a.Holds q k v)

theorem grp_hd (j : Fin 2) (n : Fin 4) : grp (hd j n) = j := Fin.ext (by show (4 * j.val + n.val) / 4 = j.val; omega)

/-- The maximum with minus infinity is the other argument. -/
theorem max_bot (z : EReal) : FloatOps.maximumf (F := Ideal) (φ := .f32) (⊥ : EReal) z = z := bot_sup_eq z

theorem v6 (i : S1x2x4x4096.Idx) : val_main_v6 (F := Ideal) i = (⊥ : EReal) := by
  unfold val_main_v6 val_main_cst_1
  exact of_neg_inf

theorem v7_of (i : S1x2x4x4096.Idx) (z : EReal) (h : val_main_v5 (F := Ideal) q k i = z) : val_main_v7 (F := Ideal) q k i = z := by
  rw [val_main_v7_apply, h, v6]
  exact max_bot z

include ha

theorem v4 (j : Fin 2) (n : Fin 4) (T s : Fin 4096) : val_main_v4 (F := Ideal) q k (ix5 0 j n T s) = (a.sc (hd j n) T s : EReal) := by
  pointwise [val_main_v4, val_main_v3, val_main_v2, val_main_v1, val_main_v0, val_main_cst]
  have hq : ∀ d, q (ix4 0 T ⟨j.val * 4 + n.val, by omega⟩ d) = (a.q T (hd j n) d : EReal) := fun d => by
    rw [← ha.q]; exact congrArg q (by congr 1; exact Fin.ext (by show j.val * 4 + n.val = 4 * j.val + n.val; omega))
  simp only [hq, ha.k, of_eighth, ← EReal.coe_mul, coe_sum]
  unfold Args.sc
  rw [grp_hd, Finset.sum_mul]
  exact congrArg _ (Finset.sum_congr rfl fun d _ => by ring)

theorem v5 (j : Fin 2) (n : Fin 4) (T : Fin 4096) : val_main_v5 (F := Ideal) q k (ix4 0 j n T) = (a.mx (hd j n) T : EReal) := by
  have h := fun s => v4 a q k v ha j n T s
  unfold val_main_v5
  generalize val_main_v4 (F := Ideal) q k = y at *
  refine Eq.trans ?_ (fold_max_real (by decide) (a.sc (hd j n) T))
  pointwise [val_main_cst_0]
  simp only [h, of_neg_inf]

theorem v11 (j : Fin 2) (n : Fin 4) (T s : Fin 4096) : val_main_v11 (F := Ideal) q k (ix5 0 j n T s) = (a.e (hd j n) T s : EReal) := by
  have h := v4 a q k v ha j n T s
  have h' := v7_of q k _ _ (v5 a q k v ha j n T)
  unfold val_main_v11 val_main_v10 val_main_v9 val_main_v8
  generalize val_main_v4 (F := Ideal) q k = y at *
  generalize val_main_v7 (F := Ideal) q k = y' at *
  pointwise []
  rw [h, h', ← EReal.coe_sub, Ideal.exp_coe]; rfl

theorem v12 (j : Fin 2) (n : Fin 4) (T : Fin 4096) : val_main_v12 (F := Ideal) q k (ix4 0 j n T) = (a.ls (hd j n) T : EReal) := by
  have h := fun s => v11 a q k v ha j n T s
  unfold val_main_v12
  generalize val_main_v11 (F := Ideal) q k = y at *
  pointwise [val_main_cst_2]
  simp only [h, of_zero, coe_sum, ← EReal.coe_add, zero_add]; rfl

theorem v15 (j : Fin 2) (n : Fin 4) (T s : Fin 4096) : val_main_v15 (F := Ideal) q k (ix5 0 j n T s) = (a.p (hd j n) T s : EReal) := by
  have h := v11 a q k v ha j n T s
  have h' := v12 a q k v ha j n T
  unfold val_main_v15 val_main_v14 val_main_v13
  generalize val_main_v11 (F := Ideal) q k = y at *
  generalize val_main_v12 (F := Ideal) q k = y' at *
  pointwise []
  rw [h, h', div_real _ (a.ls_pos _ T).ne']; rfl

theorem v27 (T : Fin 4096) (l : Fin 512) : val_main_v27 (F := Ideal) q k v (ix2 T l) = (a.oa ⟨l.val / 64, by omega⟩ T ⟨l.val % 64, by omega⟩ : EReal) := by
  have h := fun s => v15 a q k v ha ⟨l.val / 256, by omega⟩ ⟨l.val / 64 % 4, by omega⟩ T s
  unfold val_main_v27 val_main_v17 val_main_v16
  generalize val_main_v15 (F := Ideal) q k = y at *
  have e : hd ⟨l.val / 256, by omega⟩ ⟨l.val / 64 % 4, by omega⟩ = ⟨l.val / 64, by omega⟩ := Fin.ext (by show 4 * (l.val / 256) + l.val / 64 % 4 = l.val / 64; omega)
  rw [e] at h
  pointwise []
  simp only [h, ha.v, ← EReal.coe_mul, coe_sum]
  unfold Args.oa Args.p
  rw [Finset.sum_div]
  refine congrArg _ (Finset.sum_congr rfl fun s _ => ?_)
  rw [show grp ⟨l.val / 64, by omega⟩ = ⟨l.val / 256, by omega⟩ from Fin.ext (by show l.val / 64 / 4 = l.val / 256; omega)]
  ring

theorem v18 (j : Fin 2) (n : Fin 4) (T : Fin 4096) : val_main_v18 (F := Ideal) q k (ix4 0 j n T) = (a.mx (hd j n) T : EReal) := by
  have h := fun s => v4 a q k v ha j n T s
  unfold val_main_v18
  generalize val_main_v4 (F := Ideal) q k = y at *
  refine Eq.trans ?_ (fold_max_real (by decide) (a.sc (hd j n) T))
  pointwise [val_main_cst_3]
  simp only [h, of_neg_inf]

theorem v22 (j : Fin 2) (n : Fin 4) (T s : Fin 4096) : val_main_v22 (F := Ideal) q k (ix5 0 j n T s) = (a.e (hd j n) T s : EReal) := by
  have h := v4 a q k v ha j n T s
  have h' := v18 a q k v ha j n T
  unfold val_main_v22 val_main_v21 val_main_v20 val_main_v19
  generalize val_main_v4 (F := Ideal) q k = y at *
  generalize val_main_v18 (F := Ideal) q k = y' at *
  pointwise []
  rw [h, h', ← EReal.coe_sub, Ideal.exp_coe]; rfl

end Cert.AttnFwdRefIdeal.Stages

end
-- ==== Proof.AttnFwdReference.lean ====
/- The forward attention's log-sums over real arguments, and that the reference is the kernel. -/
module

public import proofs.«01_k».proof.Defs
public import proofs.«01_k».proof.Proof.AttnFwdStages
public import proofs.«01_k».proof.Proof.Gen.AttnFwdRefIdeal.Run

@[expose] public section

set_option maxRecDepth 16384

noncomputable section

namespace Cert.AttnFwdRefIdeal.Stages

open Cert.AttnFwdRefIdeal Cert.AttnFwdRefIdeal.Gen Cert.AttnFwdRefIdeal.Read Cert.AttnReal Cert.Common Idealize.ShloMosaic Idealize.ShloMosaic.Tactic

variable (a : Args) (q : Vec Ideal S1x4096x8x64 .f32) (k v : Vec Ideal S1x4096x2x64 .f32) (ha : a.Holds q k v)

include ha

theorem v23 (j : Fin 2) (n : Fin 4) (T : Fin 4096) : val_main_v23 (F := Ideal) q k (ix4 0 j n T) = (a.ls (hd j n) T : EReal) := by
  have h := fun s => v22 a q k v ha j n T s
  unfold val_main_v23
  generalize val_main_v22 (F := Ideal) q k = y at *
  pointwise [val_main_cst_4]
  simp only [h, of_zero, coe_sum, ← EReal.coe_add, zero_add]; rfl

/-- A maximum and the logarithm of a sum, added. -/
def lseOf (x y : EReal) : EReal := x + Ideal.log y

omit ha in
theorem lseOf_apply (x y : FVec Ideal S1x2x4x4096 .f32) (j : Fin 2) (n : Fin 4) (T : Fin 4096) :
    (addf (broadcastInDim S1x2x4x4096x1 ![0, 1, 2, 3] bcast_S1x2x4x4096_S1x2x4x4096x1_0_1_2_3 x) (Host.log (broadcastInDim S1x2x4x4096x1 ![0, 1, 2, 3] bcast_S1x2x4x4096_S1x2x4x4096x1_0_1_2_3 y))
      (ix5 0 j n T 0) : EReal) = lseOf (x (ix4 0 j n T)) (y (ix4 0 j n T)) := by
  unfold lseOf
  pointwise

omit ha in
theorem lseOf_real (h : Fin 8) (T : Fin 4096) : lseOf (a.mx h T : EReal) (a.ls h T : EReal) = (a.lse h T : EReal) := by
  unfold lseOf
  rw [Ideal.log_coe, if_neg (a.ls_pos h T).not_ge, ← EReal.coe_add]; rfl

theorem v26 (j : Fin 2) (n : Fin 4) (T : Fin 4096) : val_main_v26 (F := Ideal) q k (ix5 0 j n T 0) = (a.lse (hd j n) T : EReal) := by
  have h := v23 a q k v ha j n T
  have h' := v18 a q k v ha j n T
  unfold val_main_v26 val_main_v25 val_main_v24 val_main_v19
  generalize val_main_v23 (F := Ideal) q k = y at *
  generalize val_main_v18 (F := Ideal) q k = y' at *
  refine (lseOf_apply y' y j n T).trans ?_
  rw [h, h']
  exact lseOf_real a _ _

theorem v28 (h : Fin 8) (T : Fin 4096) : val_main_v28 (F := Ideal) q k (ix3 h 0 T) = (a.lse h T : EReal) := by
  have h' := v26 a q k v ha ⟨h.val / 4, by omega⟩ ⟨h.val % 4, by omega⟩ T
  have e1 : hd ⟨h.val / 4, by omega⟩ ⟨h.val % 4, by omega⟩ = h := Fin.ext (by show 4 * (h.val / 4) + h.val % 4 = h.val; omega)
  rw [e1] at h'
  unfold val_main_v28
  generalize val_main_v26 (F := Ideal) q k = y at *
  rw [← h']
  pointwise []

omit ha in
/-- Where the precondition holds of the arguments, they are real. -/
theorem args_of_finite [Cert.Pre_attnf_finite.Facts] (h : Cert.Pre_attnf_finite.fn (F := Ideal) q k v = fun _ => 1#1) : ∃ a : Args, a.Holds q k v := by
  have h1 := congrFun h (fun k => k.elim0)
  unfold Cert.Pre_attnf_finite.fn at h1
  dsimp only at h1
  haveI : Subsingleton (Cert.Pre_attnf_finite.S_).Idx := ⟨fun p q => funext fun k => k.elim0⟩
  obtain ⟨h1, h3⟩ := andi_split h1
  obtain ⟨h1, h2⟩ := andi_split h1
  choose Q hQ using fun T n d => real_of_all _ _ _ _ _ h1 (ix4 0 T n d)
  choose K hK using fun s j d => real_of_all _ _ _ _ _ h2 (ix4 0 s j d)
  choose W hW using fun s j d => real_of_all _ _ _ _ _ h3 (ix4 0 s j d)
  exact ⟨⟨Q, K, W, fun _ _ => 0⟩, hQ, hK, hW⟩

end Cert.AttnFwdRefIdeal.Stages

namespace Cert.AttnFwdProof

open Cert.AttnFwdIdeal.Pay Cert.AttnFwdRefIdeal.Stages Idealize.ShloMosaic Idealize.ShloMosaic.TcCoe Idealize.SL.Sem

/-- Over the reals the kernel's output and log-sums are the reference's. -/
theorem algebraic [Cert.Pre_attnf_finite.Facts] : Cert.algebraic_AttnFwdIdeal_AttnFwdRefIdeal_pre_attnf_finite := by
  intro m ρ m' ρ' hpre hargs
  refine ⟨_, _, Cert.AttnFwdIdeal.Value.run_blocks m ρ, ?_⟩
  refine (θ_run _ _ _).mono (fun r h c => ?_) (Cert.AttnFwdRefIdeal.Value.run (F := Ideal) m' ρ')
  obtain ⟨h0, h1, hk⟩ := h c
  obtain ⟨a, ha⟩ := args_of_finite _ _ _ (hpre c)
  obtain ⟨e0, e1, e2⟩ := hargs c
  refine ⟨h0.trans ?_, h1.trans ?_, hk⟩
  · rw [Cert.AttnFwdRefIdeal.Read.val_main_v27_eq, e0, e1, e2]
    refine Eq.trans ?_ (final3 ha).symm
    funext i
    obtain ⟨T, l, rfl⟩ : ∃ T l, i = ix2 T l := ⟨i 0, i 1, (ix2_eta i).symm⟩
    exact v27 a _ _ _ ha T l
  · rw [Cert.AttnFwdRefIdeal.Read.val_main_v28_eq, e0, e1]
    refine Eq.trans ?_ (final4 ha).symm
    funext i
    obtain ⟨h, T, rfl⟩ : ∃ h T, i = ix3 h (0 : Fin 1) T := ⟨i 0, i 2, (eq_ix3 i).trans (by rw [show i 1 = (0 : Fin 1) from Subsingleton.elim (α := Fin 1) _ _])⟩
    exact v28 a _ _ _ ha h T

end Cert.AttnFwdProof

end
-- ==== Proof.MergeFwdKernel.lean ====
/- What the first layer's merge computes, over any extended reals: a tile's rows, and then all the rows of its three results. -/
module

public import proofs.«01_k».proof.Proof.Gen.MergeFwdIdeal.Value
public import proofs.«01_k».proof.Proof.Common
public import Idealize.ShloMosaic.Lib.Pointwise
public import Idealize.ShloMosaic.Lib.Pipeline.ValueKit
public import Idealize.ShloMosaic.Lib.Pipeline.ReadBack
public import Idealize.ShloMosaic.Lib.StableHlo.ReadAt

@[expose] public section

set_option maxRecDepth 16384

noncomputable section

namespace Cert.MergeFwdIdeal.Pay

open Cert.MergeFwdIdeal Cert.MergeFwdIdeal.Gen Cert.MergeFwdIdeal.Value Cert.Common Idealize.ShloMosaic Idealize.ShloMosaic.TcCoe Idealize.SL.Sem Idealize.ShloMosaic.Tactic

/-- The logistic function. -/
def lgs (x : EReal) : EReal := Ideal.div 1 (1 + Ideal.exp (-x))

/-- The operands of a merge of `n` rows. -/
structure Mg (n : ℕ) where
  x : Fin n → Fin 1024 → EReal
  ga : Fin n → Fin 512 → EReal
  gr : Fin n → Fin 512 → EReal
  m0 : Fin n → Fin 1024 → EReal
  m1 : Fin n → Fin 1024 → EReal
  oa : Fin n → Fin 512 → EReal
  on : Fin n → Fin 512 → EReal
  wa : Fin 512 → Fin 1024 → EReal
  wr : Fin 512 → Fin 1024 → EReal
  wo : Fin 1024 → Fin 1024 → EReal

namespace Mg
variable {n : ℕ} (b : Mg n)
/-- The branches' products, the merged rows, the layer's output. -/
def ya (r : Fin n) (l : Fin 1024) : EReal := ∑ j, b.ga r j * lgs (b.ga r j) * b.oa r j * b.wa j l
def yb (r : Fin n) (l : Fin 1024) : EReal := ∑ j, b.gr r j * lgs (b.gr r j) * b.on r j * b.wr j l
def mg (r : Fin n) (l : Fin 1024) : EReal := lgs (b.m0 r l) * b.ya r l + lgs (b.m1 r l) * b.yb r l
def xn (r : Fin n) (l : Fin 1024) : EReal := b.x r l + ∑ j, b.mg r j * b.wo j l
/-- Some of the rows. -/
def pick {k : ℕ} (f : Fin k → Fin n) : Mg k :=
  ⟨fun r => b.x (f r), fun r => b.ga (f r), fun r => b.gr (f r), fun r => b.m0 (f r), fun r => b.m1 (f r), fun r => b.oa (f r), fun r => b.on (f r), b.wa, b.wr, b.wo⟩
end Mg

/-- The merge of the arguments' rows. -/
def mgOf (x : Vec Ideal S1x4096x1024 .f32) (z : Vec Ideal S1x4096x5376 .f32) (oa on : Vec Ideal S1x4096x512 .f32) (wa wr : Vec Ideal S512x1024 .f32) (wo : Vec Ideal S1024x1024 .f32) : Mg 4096 :=
  ⟨fun R l => x (ix3 0 R l), fun R j => z (ix3 0 R ⟨768 + j.val, by omega⟩), fun R j => z (ix3 0 R ⟨2816 + j.val, by omega⟩), fun R l => z (ix3 0 R ⟨3328 + l.val, by omega⟩),
    fun R l => z (ix3 0 R ⟨4352 + l.val, by omega⟩), fun R j => oa (ix3 0 R j), fun R j => on (ix3 0 R j), fun j l => wa (ix2 j l), fun j l => wr (ix2 j l), fun l k => wo (ix2 l k)⟩

/-- The blocks one point reads. -/
structure Tile where
  x : Vec Ideal S256x1024 .f32
  ga : Vec Ideal S256x512 .f32
  gr : Vec Ideal S256x512 .f32
  m0 : Vec Ideal S256x1024 .f32
  m1 : Vec Ideal S256x1024 .f32
  oa : Vec Ideal S256x512 .f32
  on : Vec Ideal S256x512 .f32
  wb : Vec Ideal S1024x1024 .bf16
  wo : Vec Ideal S1024x1024 .bf16

namespace Tile
variable (b : Tile)
/-- What a point makes of them: the branches' products and the layer's output. -/
def ya : FVec Ideal S256x1024 .f32 := k0_pay4 b.ga b.oa (View.ld b.wb (Rect.unit ![0, 0] ![1024, 512] inb_S1024x1024_S1024x512_0_0))
def yb : FVec Ideal S256x1024 .f32 := k0_pay5 b.gr b.on (View.ld b.wb (Rect.unit ![0, 512] ![1024, 512] inb_S1024x1024_S1024x512_0_512))
def xn : FVec Ideal S256x1024 .f32 := k0_pay1 b.ya b.yb (k0_pay6 b.m0) (Scalar.ofBits .f32 0x00000000#32) b.m1 b.x b.wo
/-- The same blocks as operands. -/
def mg : Mg 256 :=
  ⟨fun r l => b.x (ix2 r l), fun r l => b.ga (ix2 r l), fun r l => b.gr (ix2 r l), fun r l => b.m0 (ix2 r l), fun r l => b.m1 (ix2 r l), fun r l => b.oa (ix2 r l), fun r l => b.on (ix2 r l),
    fun j l => b.wb (ix2 l ⟨j.val, by omega⟩), fun j l => b.wb (ix2 l ⟨512 + j.val, by omega⟩), fun j l => b.wo (ix2 j l)⟩

theorem ya_apply (r : Fin 256) (l : Fin 1024) : b.ya (ix2 r l) = b.mg.ya r l := by
  unfold Tile.ya
  pointwise [k0_pay4]
  simp only [of_zero, of_one, EReal.coe_zero, EReal.coe_one, zero_sub, zero_add]
  rfl

theorem yb_apply (r : Fin 256) (l : Fin 1024) : b.yb (ix2 r l) = b.mg.yb r l := by
  unfold Tile.yb
  pointwise [k0_pay5]
  simp only [of_zero, of_one, EReal.coe_zero, EReal.coe_one, zero_sub, zero_add]
  rfl

theorem xn_apply (r : Fin 256) (l : Fin 1024) : b.xn (ix2 r l) = b.mg.xn r l := by
  have ha := b.ya_apply
  have hb := b.yb_apply
  unfold Tile.xn
  generalize b.ya = y at *
  generalize b.yb = y' at *
  pointwise [k0_pay1, k0_pay6]
  simp only [ha, hb, of_zero, of_one, EReal.coe_zero, EReal.coe_one, zero_sub, zero_add]
  rfl
end Tile

variable (m : (ℓ : Loc nD τ sig) → Buf (Elt Ideal) ℓ) (c : Dev nD)

/-- The blocks of a point. -/
def tileAt (t : Fin cfg0.N) : Tile :=
  ⟨iblk m c 0 t, X0_1 m c t, X0_2 m c t, X0_3 m c t, X0_4 m c t, iblk m c 5 t, iblk m c 6 t, iblk m c 7 t, iblk m c 8 t⟩

theorem N16 (t : Fin cfg0.N) : t.val < 16 := lt_of_lt_of_eq t.isLt N_0

set_option maxHeartbeats 8000000 in
theorem left_at (t : Fin cfg0.N) : (outsAt0 m c t).1 = (tileAt m c t).xn ∧ (outsAt0 m c t).2.1 = k0_pay2 (tileAt m c t).ya ∧ (outsAt0 m c t).2.2 = k0_pay3 (tileAt m c t).yb := by
  unfold outsAt0
  refine ⟨?_, ?_, ?_⟩
  all_goals frame_open
  all_goals frame_out
  all_goals rfl

theorem idx : ∀ t : Fin cfg0.N, (win0_0.index t = ![t.val, 0] ∧ win0_1.index t = ![t.val, 1] ∧ win0_2.index t = ![t.val, 5] ∧ win0_3.index t = ![t.val, 3]
    ∧ win0_4.index t = ![t.val, 4] ∧ win0_5.index t = ![t.val, 0] ∧ win0_6.index t = ![t.val, 0] ∧ win0_7.index t = ![0, 0] ∧ win0_8.index t = ![0, 0])
    ∧ win0_9.index t = ![t.val, 0] ∧ win0_10.index t = ![t.val, 0] ∧ win0_11.index t = ![t.val, 0] :=
  (by decide +kernel : ∀ t : Fin grid0.N, _)

/-- The row of the arrays that row `r` of point `t`'s blocks is. -/
def row (t : Fin cfg0.N) (r : Fin 256) : Fin 4096 := ⟨256 * t.val + r.val, by have := N16 t; omega⟩

theorem row_val (t : Fin cfg0.N) (r : Fin 256) : (row t r).val = 256 * t.val + r.val := rfl

set_option maxHeartbeats 4000000 in
/-- The blocks a point reads, from the arrays the host prepared. -/
theorem tiles (t : Fin cfg0.N) :
    ((∀ r l, iblk m c 0 t (ix2 r l) = V m c main_v11 (ix2 (row t r) l))
    ∧ (∀ r l, iblk m c 5 t (ix2 r l) = V m c main_v12 (ix2 (row t r) l)) ∧ (∀ r l, iblk m c 6 t (ix2 r l) = V m c main_v13 (ix2 (row t r) l)))
    ∧ (∀ j l, iblk m c 7 t (ix2 j l) = V m c main_v10 (ix2 j l)) ∧ (∀ j l, iblk m c 8 t (ix2 j l) = V m c main_v14 (ix2 j l)) := by
  refine ⟨⟨?_, ?_, ?_⟩, ?_, ?_⟩ <;> intros <;> blk_ext [iblk, idx t, row_val t]

set_option maxHeartbeats 4000000 in
theorem tiles_z (t : Fin cfg0.N) (r : Fin 256) :
    (∀ j : Fin 512, X0_1 m c t (ix2 r j) = V m c main_v6 (ix2 (row t r) ⟨512 + j.val, by omega⟩) ∧ X0_2 m c t (ix2 r j) = V m c main_v6 (ix2 (row t r) ⟨2560 + j.val, by omega⟩))
    ∧ ∀ j : Fin 1024, X0_3 m c t (ix2 r j) = V m c main_v6 (ix2 (row t r) ⟨3072 + j.val, by omega⟩) ∧ X0_4 m c t (ix2 r j) = V m c main_v6 (ix2 (row t r) ⟨4096 + j.val, by omega⟩) := by
  refine ⟨fun j => ⟨?_, ?_⟩, fun j => ⟨?_, ?_⟩⟩
  on_goal 1 => unfold X0_1 Pipeline.Window.fill; rw [dif_pos (moved0_1 t _)]
  on_goal 2 => unfold X0_2 Pipeline.Window.fill; rw [dif_pos (moved0_2 t _)]
  on_goal 3 => unfold X0_3 Pipeline.Window.fill; rw [dif_pos (moved0_3 t _)]
  on_goal 4 => unfold X0_4 Pipeline.Window.fill; rw [dif_pos (moved0_4 t _)]
  all_goals blk_ext [iblk, idx t, row_val t]

/-- The gates' columns of the projection, as the host orders them. -/
theorem host_z (R : Fin 4096) (k n : ℕ) (hk : k < 5376) (hn : n < 5376) (h0 : 512 ≤ k) (h1 : k < 5120) (e : n = k + 256) :
    V m c main_v6 (ix2 R ⟨k, hk⟩) = m ((c : Thread nD τ).loc main_arg1) (ix3 0 R ⟨n, hn⟩) := by
  subst e
  unfold V
  after_reads_simp
  clean_types
  pointwise
  rw [dif_neg (by omega), dif_pos (by omega)]
  after_reads_at
  have e : 768 + (k - 512) = k + 256 := by omega
  simp only [e]

/-- The host's other arrays, from the arguments. -/
theorem hosts :
    (∀ R l, V m c main_v11 (ix2 R l) = m ((c : Thread nD τ).loc main_arg0) (ix3 0 R l)) ∧ (∀ R l, V m c main_v12 (ix2 R l) = m ((c : Thread nD τ).loc main_arg2) (ix3 0 R l))
    ∧ (∀ R l, V m c main_v13 (ix2 R l) = m ((c : Thread nD τ).loc main_arg3) (ix3 0 R l)) ∧ (∀ R l, V m c main_v14 (ix2 R l) = m ((c : Thread nD τ).loc main_arg6) (ix2 R l))
    ∧ ∀ l (j : Fin 512), V m c main_v10 (ix2 l ⟨j.val, by omega⟩) = m ((c : Thread nD τ).loc main_arg4) (ix2 j l)
      ∧ V m c main_v10 (ix2 l ⟨512 + j.val, by omega⟩) = m ((c : Thread nD τ).loc main_arg5) (ix2 j l) := by
  refine ⟨?_, ?_, ?_, ?_, fun l j => ⟨?_, ?_⟩⟩ <;> intros <;> unfold V <;> after_reads_at
  all_goals after_reads_at

/-- The merge of the arguments in memory. -/
abbrev whole : Mg 4096 :=
  mgOf (m ((c : Thread nD τ).loc main_arg0)) (m ((c : Thread nD τ).loc main_arg1)) (m ((c : Thread nD τ).loc main_arg2)) (m ((c : Thread nD τ).loc main_arg3))
    (m ((c : Thread nD τ).loc main_arg4)) (m ((c : Thread nD τ).loc main_arg5)) (m ((c : Thread nD τ).loc main_arg6))

theorem pick_of {k : ℕ} (a : Mg k) (b : Mg 4096) (f : Fin k → Fin 4096) (h0 : ∀ r l, a.x r l = b.x (f r) l) (h1 : ∀ r l, a.ga r l = b.ga (f r) l) (h2 : ∀ r l, a.gr r l = b.gr (f r) l)
    (h3 : ∀ r l, a.m0 r l = b.m0 (f r) l) (h4 : ∀ r l, a.m1 r l = b.m1 (f r) l) (h5 : ∀ r l, a.oa r l = b.oa (f r) l) (h6 : ∀ r l, a.on r l = b.on (f r) l)
    (h7 : ∀ r l, a.wa r l = b.wa r l) (h8 : ∀ r l, a.wr r l = b.wr r l) (h9 : ∀ r l, a.wo r l = b.wo r l) : a = b.pick f := by
  obtain ⟨a0, a1, a2, a3, a4, a5, a6, a7, a8, a9⟩ := a
  unfold Mg.pick
  obtain rfl := funext fun r => funext (h0 r)
  obtain rfl := funext fun r => funext (h1 r)
  obtain rfl := funext fun r => funext (h2 r)
  obtain rfl := funext fun r => funext (h3 r)
  obtain rfl := funext fun r => funext (h4 r)
  obtain rfl := funext fun r => funext (h5 r)
  obtain rfl := funext fun r => funext (h6 r)
  obtain rfl := funext fun r => funext (h7 r)
  obtain rfl := funext fun r => funext (h8 r)
  obtain rfl := funext fun r => funext (h9 r)
  rfl

set_option maxHeartbeats 4000000 in
/-- A point's blocks are its rows of the arguments. -/
theorem tile_on (t : Fin cfg0.N) : (tileAt m c t).mg = (whole m c).pick (row t) := by
  obtain ⟨⟨b0, b5, b6⟩, b7, b8⟩ := tiles m c t
  have z := tiles_z m c t
  obtain ⟨h11, h12, h13, h14, hw⟩ := hosts m c
  apply pick_of
  · intro r l; exact (b0 r l).trans (h11 _ _)
  · intro r j; exact ((z r).1 j).1.trans (host_z m c _ _ _ _ _ (by omega) (by omega) (by omega))
  · intro r j; exact ((z r).1 j).2.trans (host_z m c _ _ _ _ _ (by omega) (by omega) (by omega))
  · intro r j; exact ((z r).2 j).1.trans (host_z m c _ _ _ _ _ (by omega) (by omega) (by omega))
  · intro r j; exact ((z r).2 j).2.trans (host_z m c _ _ _ _ _ (by omega) (by omega) (by omega))
  · intro r l; exact (b5 r l).trans (h12 _ _)
  · intro r l; exact (b6 r l).trans (h13 _ _)
  · intro j l; exact (b7 _ _).trans (hw l j).1
  · intro j l; exact (b7 _ _).trans (hw l j).2
  · intro j l; exact (b8 _ _).trans (h14 _ _)

/-- A point's three blocks, from the arguments. -/
theorem out_at (t : Fin cfg0.N) (r : Fin 256) (l : Fin 1024) : (outsAt0 m c t).1 (ix2 r l) = (whole m c).xn (row t r) l
    ∧ (outsAt0 m c t).2.1 (ix2 r l) = (whole m c).ya (row t r) l ∧ (outsAt0 m c t).2.2 (ix2 r l) = (whole m c).yb (row t r) l := by
  obtain ⟨e0, e1, e2⟩ := left_at m c t
  have h0 := (tileAt m c t).xn_apply r l
  have h1 := (tileAt m c t).ya_apply r l
  have h2 := (tileAt m c t).yb_apply r l
  rw [tile_on] at h0 h1 h2
  rw [e0, e1, e2]
  generalize (tileAt m c t).ya = y at *
  generalize (tileAt m c t).yb = y' at *
  refine ⟨h0, ?_, ?_⟩
  · pointwise [k0_pay2]; exact h1
  · pointwise [k0_pay3]; exact h2

/-- An array of rows. -/
def arr (f : Fin 4096 → Fin 1024 → EReal) : S4096x1024.Idx → EReal := fun i => f (i 0) (i 1)

/-- The three results over the whole run. -/
theorem final9 : (dats m 0 c).arrAt 9 cfg0.N = arr (whole m c).xn := by
  refine (dats m 0 c).arrAt_eq_of_covers 9 _ (by decide +kernel) fun t hf y => ?_
  blk_simp
  rw [after0_9]
  obtain ⟨r, l, rfl⟩ : ∃ (r : Fin 256) (l : Fin 1024), y = ix2 r l := ⟨y 0, y 1, eq_ix2 y⟩
  refine (out_at m c t r l).1.trans ?_
  have e0 : (win0_9.blk t).view.emb (ix2 r l) 0 = row t r := Fin.ext (by blk_simp [idx t]; rw [row_val]; omega)
  have e1 : (win0_9.blk t).view.emb (ix2 r l) 1 = l := Fin.ext (by blk_simp [idx t]; try omega)
  unfold arr
  rw [e0, e1]

theorem final10 : (dats m 0 c).arrAt 10 cfg0.N = arr (whole m c).ya := by
  refine (dats m 0 c).arrAt_eq_of_covers 10 _ (by decide +kernel) fun t hf y => ?_
  blk_simp
  rw [after0_10]
  obtain ⟨r, l, rfl⟩ : ∃ (r : Fin 256) (l : Fin 1024), y = ix2 r l := ⟨y 0, y 1, eq_ix2 y⟩
  refine (out_at m c t r l).2.1.trans ?_
  have e0 : (win0_10.blk t).view.emb (ix2 r l) 0 = row t r := Fin.ext (by blk_simp [idx t]; rw [row_val]; omega)
  have e1 : (win0_10.blk t).view.emb (ix2 r l) 1 = l := Fin.ext (by blk_simp [idx t]; try omega)
  unfold arr
  rw [e0, e1]

theorem final11 : (dats m 0 c).arrAt 11 cfg0.N = arr (whole m c).yb := by
  refine (dats m 0 c).arrAt_eq_of_covers 11 _ (by decide +kernel) fun t hf y => ?_
  blk_simp
  rw [after0_11]
  obtain ⟨r, l, rfl⟩ : ∃ (r : Fin 256) (l : Fin 1024), y = ix2 r l := ⟨y 0, y 1, eq_ix2 y⟩
  refine (out_at m c t r l).2.2.trans ?_
  have e0 : (win0_11.blk t).view.emb (ix2 r l) 0 = row t r := Fin.ext (by blk_simp [idx t]; rw [row_val]; omega)
  have e1 : (win0_11.blk t).view.emb (ix2 r l) 1 = l := Fin.ext (by blk_simp [idx t]; try omega)
  unfold arr
  rw [e0, e1]

end Cert.MergeFwdIdeal.Pay

end
-- ==== Proof.MergeFwdReference.lean ====
/- The first layer's merge as the reference computes it, over any extended reals, and that the kernel computes the same. -/
module

public import proofs.«01_k».proof.Defs
public import proofs.«01_k».proof.Proof.MergeFwdKernel
public import proofs.«01_k».proof.Proof.Gen.MergeFwdRefIdeal.Run
public import proofs.«01_k».proof.Proof.Gen.MergeFwdRefIdeal.Read

@[expose] public section

set_option maxRecDepth 16384

noncomputable section

namespace Cert.MergeFwdRefIdeal.Stages

open Cert.MergeFwdRefIdeal Cert.MergeFwdRefIdeal.Gen Cert.MergeFwdRefIdeal.Read Cert.MergeFwdIdeal.Pay Cert.Common Idealize.ShloMosaic Idealize.ShloMosaic.Tactic

variable (x : Vec Ideal S1x4096x1024 .f32) (z : Vec Ideal S1x4096x5376 .f32) (oa on : Vec Ideal S1x4096x512 .f32) (wa wr : Vec Ideal S512x1024 .f32) (wo : Vec Ideal S1024x1024 .f32)

/-- The gates. -/
theorem gate_a (R : Fin 4096) (j : Fin 512) : val_main_v9 (F := Ideal) z (ix3 0 R j) = z (ix3 0 R ⟨768 + j.val, by omega⟩) * lgs (z (ix3 0 R ⟨768 + j.val, by omega⟩)) := by
  pointwise [val_main_v9, val_main_call0_v5, val_main_call0_v4, val_main_call0_cst_0, val_main_call0_v3, val_main_call0_v2, val_main_call0_cst, val_main_call0_v1, val_main_call0_v0, val_main_v3]
  rfl

theorem gate_r (R : Fin 4096) (j : Fin 512) : val_main_v12 (F := Ideal) z (ix3 0 R j) = z (ix3 0 R ⟨2816 + j.val, by omega⟩) * lgs (z (ix3 0 R ⟨2816 + j.val, by omega⟩)) := by
  pointwise [val_main_v12, val_main_call1_v5, val_main_call1_v4, val_main_call1_cst_0, val_main_call1_v3, val_main_call1_v2, val_main_call1_cst, val_main_call1_v1, val_main_call1_v0, val_main_v7]
  rfl

theorem gate_m (R : Fin 4096) (l : Fin 2048) : val_main_v20 (F := Ideal) z (ix3 0 R l) = lgs (z (ix3 0 R ⟨3328 + l.val, by omega⟩)) := by
  pointwise [val_main_v20, val_main_v19, val_main_cst_0, val_main_v18, val_main_v17, val_main_cst, val_main_v16, val_main_v15, val_main_v8]
  rfl

/-- The branches' products. -/
theorem prod_a (R : Fin 4096) (l : Fin 1024) : val_main_v11 (F := Ideal) z oa wa (ix3 0 R l) = (mgOf x z oa on wa wr wo).ya R l := by
  have h := gate_a z
  unfold val_main_v11 val_main_v10
  generalize val_main_v9 (F := Ideal) z = y at *
  pointwise
  simp only [h]
  rfl

theorem prod_r (R : Fin 4096) (l : Fin 1024) : val_main_v14 (F := Ideal) z on wr (ix3 0 R l) = (mgOf x z oa on wa wr wo).yb R l := by
  have h := gate_r z
  unfold val_main_v14 val_main_v13
  generalize val_main_v12 (F := Ideal) z = y at *
  pointwise
  simp only [h]
  rfl

theorem merged (R : Fin 4096) (l : Fin 1024) : val_main_v28 (F := Ideal) z oa on wa wr (ix3 0 R l) = (mgOf x z oa on wa wr wo).mg R l := by
  have h := gate_m z
  have h2 := prod_a x z oa on wa wr wo
  have h3 := prod_r x z oa on wa wr wo
  unfold val_main_v28 val_main_v24 val_main_v27 val_main_v26 val_main_v25 val_main_v23 val_main_v22 val_main_v21
  generalize val_main_v20 (F := Ideal) z = y0 at *
  generalize val_main_v11 (F := Ideal) z oa wa = y2 at *
  generalize val_main_v14 (F := Ideal) z on wr = y3 at *
  pointwise
  have e : (⟨3328 + (1024 + l.val), by omega⟩ : Fin 5376) = ⟨4352 + l.val, by omega⟩ := Fin.ext (by show 3328 + (1024 + l.val) = 4352 + l.val; omega)
  simp only [h, h2, h3, e]
  rfl

/-- The reference's three results. -/
theorem out_x : val_main_v31 (F := Ideal) x z oa on wa wr wo = arr (mgOf x z oa on wa wr wo).xn := by
  have h := merged x z oa on wa wr wo
  funext i
  obtain ⟨R, l, rfl⟩ : ∃ R l, i = ix2 R l := ⟨i 0, i 1, (ix2_eta i).symm⟩
  unfold val_main_v31 val_main_v30 val_main_v29
  generalize val_main_v28 (F := Ideal) z oa on wa wr = y at *
  pointwise
  simp only [h]
  rfl

theorem out_a : val_main_v33 (F := Ideal) z oa wa = arr (mgOf x z oa on wa wr wo).ya := by
  have h := prod_a x z oa on wa wr wo
  funext i
  obtain ⟨R, l, rfl⟩ : ∃ R l, i = ix2 R l := ⟨i 0, i 1, (ix2_eta i).symm⟩
  unfold val_main_v33 val_main_v32
  generalize val_main_v11 (F := Ideal) z oa wa = y at *
  pointwise
  exact h R l

theorem out_r : val_main_v35 (F := Ideal) z on wr = arr (mgOf x z oa on wa wr wo).yb := by
  have h := prod_r x z oa on wa wr wo
  funext i
  obtain ⟨R, l, rfl⟩ : ∃ R l, i = ix2 R l := ⟨i 0, i 1, (ix2_eta i).symm⟩
  unfold val_main_v35 val_main_v34
  generalize val_main_v14 (F := Ideal) z on wr = y at *
  pointwise
  exact h R l

end Cert.MergeFwdRefIdeal.Stages

namespace Cert.MergeFwdProof

open Cert.MergeFwdIdeal.Pay Cert.MergeFwdRefIdeal.Stages Idealize.ShloMosaic Idealize.ShloMosaic.TcCoe Idealize.SL.Sem

set_option maxHeartbeats 4000000 in
/-- Over the extended reals the kernel's output and products are the reference's, whatever the arguments. -/
theorem algebraic : Cert.algebraic_MergeFwdIdeal_MergeFwdRefIdeal := by
  intro m ρ m' ρ' _ hargs
  refine ⟨_, _, _, Cert.MergeFwdIdeal.Value.run_blocks m ρ, ?_⟩
  refine (θ_run _ _ _).mono (fun r h c => ?_) (Cert.MergeFwdRefIdeal.Value.run (F := Ideal) m' ρ')
  obtain ⟨h0, h1, h2, hk⟩ := h c
  obtain ⟨e0, e1, e2, e3, e4, e5, e6⟩ := hargs c
  refine ⟨h0.trans ?_, h1.trans ?_, h2.trans ?_, hk⟩
  · rw [Cert.MergeFwdRefIdeal.Read.val_main_v31_eq, e0, e1, e2, e3, e4, e5, e6]
    exact (out_x _ _ _ _ _ _ _).trans (final9 m c).symm
  · rw [Cert.MergeFwdRefIdeal.Read.val_main_v33_eq, e1, e2, e4]
    exact (out_a _ _ _ _ _ _ _).trans (final10 m c).symm
  · rw [Cert.MergeFwdRefIdeal.Read.val_main_v35_eq, e1, e3, e5]
    exact (out_r _ _ _ _ _ _ _).trans (final11 m c).symm

end Cert.MergeFwdProof

end
-- ==== Proof.lean ====
module

public import proofs.«01_k».proof.Defs
public import proofs.«01_k».proof.Proof.AttnPostReference
public import proofs.«01_k».proof.Proof.Gen.AttnPost
public import proofs.«01_k».proof.Proof.Gen.AttnPost.Skeleton
public import proofs.«01_k».proof.Proof.Gen.AttnPost.Launch
public import proofs.«01_k».proof.Proof.Gen.AttnPost.Points
public import proofs.«01_k».proof.Proof.Gen.AttnPost.Frame
public import proofs.«01_k».proof.Proof.Gen.AttnPostIdeal
public import proofs.«01_k».proof.Proof.Gen.AttnPostIdeal.Skeleton
public import proofs.«01_k».proof.Proof.Gen.AttnPostIdeal.Launch
public import proofs.«01_k».proof.Proof.Gen.AttnPostIdeal.Points
public import proofs.«01_k».proof.Proof.Gen.AttnPostIdeal.Frame
public import proofs.«01_k».proof.Proof.Gen.AttnPostIdeal.Value
public import proofs.«01_k».proof.Proof.Gen.AttnPostRefIdeal
public import proofs.«01_k».proof.Proof.Gen.AttnPostRefIdeal.Run
public import proofs.«01_k».proof.Proof.Gen.AttnPostRefIdeal.Read
public import proofs.«01_k».proof.Proof.Gen.Pre_post_finite
public import proofs.«01_k».proof.Proof.Gen.InBwd
public import proofs.«01_k».proof.Proof.Gen.InBwd.Skeleton
public import proofs.«01_k».proof.Proof.Gen.InBwd.Launch
public import proofs.«01_k».proof.Proof.Gen.InBwd.Points
public import proofs.«01_k».proof.Proof.Gen.InBwd.Frame
public import proofs.«01_k».proof.Proof.Gen.InBwdIdeal
public import proofs.«01_k».proof.Proof.Gen.InBwdIdeal.Skeleton
public import proofs.«01_k».proof.Proof.Gen.InBwdIdeal.Launch
public import proofs.«01_k».proof.Proof.Gen.InBwdIdeal.Points
public import proofs.«01_k».proof.Proof.Gen.InBwdIdeal.Frame
public import proofs.«01_k».proof.Proof.Gen.InBwdRefIdeal
public import proofs.«01_k».proof.Proof.Gen.InBwdIdeal.Value
public import proofs.«01_k».proof.Proof.Gen.InBwdRefIdeal.Run
public import proofs.«01_k».proof.Proof.Gen.InBwdRefIdeal.Read
public import proofs.«01_k».proof.Proof.Gen.Pre_in_finite
public import proofs.«01_k».proof.Proof.InBwdReference
public import proofs.«01_k».proof.Proof.AttnBwdReference
public import proofs.«01_k».proof.Proof.MergeBwdReference
public import proofs.«01_k».proof.Proof.HeadBwdReference
public import proofs.«01_k».proof.Proof.AttnFwdReference
public import proofs.«01_k».proof.Proof.MergeFwdReference
public import proofs.«01_k».proof.Proof.Gen.AttnBwd
public import proofs.«01_k».proof.Proof.Gen.AttnBwd.Skeleton
public import proofs.«01_k».proof.Proof.Gen.AttnBwd.Launch
public import proofs.«01_k».proof.Proof.Gen.AttnBwd.Points
public import proofs.«01_k».proof.Proof.Gen.AttnBwd.Frame
public import proofs.«01_k».proof.Proof.Gen.AttnBwdIdeal
public import proofs.«01_k».proof.Proof.Gen.AttnBwdIdeal.Skeleton
public import proofs.«01_k».proof.Proof.Gen.AttnBwdIdeal.Launch
public import proofs.«01_k».proof.Proof.Gen.AttnBwdIdeal.Points
public import proofs.«01_k».proof.Proof.Gen.AttnBwdIdeal.Frame
public import proofs.«01_k».proof.Proof.Gen.AttnBwdIdeal.Value
public import proofs.«01_k».proof.Proof.Gen.AttnBwdRefIdeal
public import proofs.«01_k».proof.Proof.Gen.AttnBwdRefIdeal.Run
public import proofs.«01_k».proof.Proof.Gen.AttnBwdRefIdeal.Read
public import proofs.«01_k».proof.Proof.Gen.Pre_attn_finite
public import proofs.«01_k».proof.Proof.Gen.MergeBwd
public import proofs.«01_k».proof.Proof.Gen.MergeBwd.Skeleton
public import proofs.«01_k».proof.Proof.Gen.MergeBwd.Launch
public import proofs.«01_k».proof.Proof.Gen.MergeBwd.Points
public import proofs.«01_k».proof.Proof.Gen.MergeBwd.Frame
public import proofs.«01_k».proof.Proof.Gen.MergeBwdIdeal
public import proofs.«01_k».proof.Proof.Gen.MergeBwdIdeal.Skeleton
public import proofs.«01_k».proof.Proof.Gen.MergeBwdIdeal.Launch
public import proofs.«01_k».proof.Proof.Gen.MergeBwdIdeal.Points
public import proofs.«01_k».proof.Proof.Gen.MergeBwdIdeal.Frame
public import proofs.«01_k».proof.Proof.Gen.MergeBwdIdeal.Value
public import proofs.«01_k».proof.Proof.Gen.MergeBwdRefIdeal
public import proofs.«01_k».proof.Proof.Gen.MergeBwdRefIdeal.Run
public import proofs.«01_k».proof.Proof.Gen.MergeBwdRefIdeal.Read
public import proofs.«01_k».proof.Proof.Gen.Pre_merge_finite
public import proofs.«01_k».proof.Proof.Gen.HeadBwd
public import proofs.«01_k».proof.Proof.Gen.HeadBwd.Skeleton
public import proofs.«01_k».proof.Proof.Gen.HeadBwd.Launch
public import proofs.«01_k».proof.Proof.Gen.HeadBwd.Points
public import proofs.«01_k».proof.Proof.Gen.HeadBwd.Frame
public import proofs.«01_k».proof.Proof.Gen.HeadBwdIdeal
public import proofs.«01_k».proof.Proof.Gen.HeadBwdIdeal.Skeleton
public import proofs.«01_k».proof.Proof.Gen.HeadBwdIdeal.Launch
public import proofs.«01_k».proof.Proof.Gen.HeadBwdIdeal.Points
public import proofs.«01_k».proof.Proof.Gen.HeadBwdIdeal.Frame
public import proofs.«01_k».proof.Proof.Gen.HeadBwdIdeal.Value
public import proofs.«01_k».proof.Proof.Gen.HeadBwdRefIdeal
public import proofs.«01_k».proof.Proof.Gen.HeadBwdRefIdeal.Run
public import proofs.«01_k».proof.Proof.Gen.HeadBwdRefIdeal.Read
public import proofs.«01_k».proof.Proof.Gen.Pre_head_finite
public import proofs.«01_k».proof.Proof.Gen.MergeFwd
public import proofs.«01_k».proof.Proof.Gen.MergeFwd.Skeleton
public import proofs.«01_k».proof.Proof.Gen.MergeFwd.Launch
public import proofs.«01_k».proof.Proof.Gen.MergeFwd.Points
public import proofs.«01_k».proof.Proof.Gen.MergeFwd.Frame
public import proofs.«01_k».proof.Proof.Gen.MergeFwdIdeal
public import proofs.«01_k».proof.Proof.Gen.MergeFwdIdeal.Skeleton
public import proofs.«01_k».proof.Proof.Gen.MergeFwdIdeal.Launch
public import proofs.«01_k».proof.Proof.Gen.MergeFwdIdeal.Points
public import proofs.«01_k».proof.Proof.Gen.MergeFwdIdeal.Frame
public import proofs.«01_k».proof.Proof.Gen.MergeFwdIdeal.Value
public import proofs.«01_k».proof.Proof.Gen.MergeFwdRefIdeal
public import proofs.«01_k».proof.Proof.Gen.MergeFwdRefIdeal.Run
public import proofs.«01_k».proof.Proof.Gen.MergeFwdRefIdeal.Read
public import proofs.«01_k».proof.Proof.Gen.AttnFwd
public import proofs.«01_k».proof.Proof.Gen.AttnFwd.Skeleton
public import proofs.«01_k».proof.Proof.Gen.AttnFwd.Launch
public import proofs.«01_k».proof.Proof.Gen.AttnFwd.Points
public import proofs.«01_k».proof.Proof.Gen.AttnFwd.Frame
public import proofs.«01_k».proof.Proof.Gen.AttnFwdIdeal
public import proofs.«01_k».proof.Proof.Gen.AttnFwdIdeal.Skeleton
public import proofs.«01_k».proof.Proof.Gen.AttnFwdIdeal.Launch
public import proofs.«01_k».proof.Proof.Gen.AttnFwdIdeal.Points
public import proofs.«01_k».proof.Proof.Gen.AttnFwdIdeal.Frame
public import proofs.«01_k».proof.Proof.Gen.AttnFwdIdeal.Value
public import proofs.«01_k».proof.Proof.Gen.AttnFwdRefIdeal
public import proofs.«01_k».proof.Proof.Gen.AttnFwdRefIdeal.Run
public import proofs.«01_k».proof.Proof.Gen.AttnFwdRefIdeal.Read
public import proofs.«01_k».proof.Proof.Gen.Pre_attnf_finite
public import Idealize.ShloMosaic.Adequacy
public import Idealize.ShloMosaic.Init

@[expose] public section

noncomputable section

namespace Cert.Proof

open Idealize.ShloMosaic Idealize.SL.Sem Cert.InBwd

/-- The input norm's reference runs, its arguments end as they were, and it declares no semaphore. -/
theorem in_ref_frame : Cert.quiescent_InBwdRefIdeal := fun m ρ _ =>
  (θ_run Cert.InBwdRefIdeal.defs _ _).mono (fun r h => ⟨fun c => (h c).2.2, sem_eq_zero_of_no_sems (by decide) r.2⟩)
    (Cert.InBwdRefIdeal.Value.run (F := Ideal) m ρ)

/-- The attention's reference likewise. -/
theorem attn_ref_frame : Cert.quiescent_AttnBwdRefIdeal := fun m ρ _ =>
  (θ_run Cert.AttnBwdRefIdeal.defs _ _).mono (fun r h => ⟨fun c => (h c).2.2.2, sem_eq_zero_of_no_sems (by decide) r.2⟩)
    (Cert.AttnBwdRefIdeal.Value.run (F := Ideal) m ρ)

/-- The merge's reference likewise. -/
theorem merge_ref_frame : Cert.quiescent_MergeBwdRefIdeal := fun m ρ _ =>
  (θ_run Cert.MergeBwdRefIdeal.defs _ _).mono (fun r h => ⟨fun c => (h c).2.2.2.2.2, sem_eq_zero_of_no_sems (by decide) r.2⟩)
    (Cert.MergeBwdRefIdeal.Value.run (F := Ideal) m ρ)

/-- The head norms' reference likewise. -/
theorem post_ref_frame : Cert.quiescent_AttnPostRefIdeal := fun m ρ _ =>
  (θ_run Cert.AttnPostRefIdeal.defs _ _).mono (fun r h => ⟨fun c => (h c).2.2.2, sem_eq_zero_of_no_sems (by decide) r.2⟩)
    (Cert.AttnPostRefIdeal.Value.run (F := Ideal) m ρ)

/-- The head's reference likewise. -/
theorem head_ref_frame : Cert.quiescent_HeadBwdRefIdeal := fun m ρ _ =>
  (θ_run Cert.HeadBwdRefIdeal.defs _ _).mono (fun r h => ⟨fun c => (h c).2.2.2.2.2, sem_eq_zero_of_no_sems (by decide) r.2⟩)
    (Cert.HeadBwdRefIdeal.Value.run (F := Ideal) m ρ)

/-- The forward attention's reference likewise. -/
theorem attnf_ref_frame : Cert.quiescent_AttnFwdRefIdeal := fun m ρ _ =>
  (θ_run Cert.AttnFwdRefIdeal.defs _ _).mono (fun r h => ⟨fun c => (h c).2.2, sem_eq_zero_of_no_sems (by decide) r.2⟩)
    (Cert.AttnFwdRefIdeal.Value.run (F := Ideal) m ρ)

/-- The forward merge's reference likewise. -/
theorem mergef_ref_frame : Cert.quiescent_MergeFwdRefIdeal := fun m ρ _ =>
  (θ_run Cert.MergeFwdRefIdeal.defs _ _).mono (fun r h => ⟨fun c => (h c).2.2.2, sem_eq_zero_of_no_sems (by decide) r.2⟩)
    (Cert.MergeFwdRefIdeal.Value.run (F := Ideal) m ρ)

theorem claim : Cert.Claim := ⟨Cert.InBwd.Gen.facts, Cert.InBwdIdeal.Gen.facts, Cert.InBwdRefIdeal.Gen.facts,
  Cert.AttnBwd.Gen.facts, Cert.AttnBwdIdeal.Gen.facts, Cert.AttnBwdRefIdeal.Gen.facts,
  Cert.MergeBwd.Gen.facts, Cert.MergeBwdIdeal.Gen.facts, Cert.MergeBwdRefIdeal.Gen.facts,
  Cert.AttnPost.Gen.facts, Cert.AttnPostIdeal.Gen.facts, Cert.AttnPostRefIdeal.Gen.facts,
  Cert.HeadBwd.Gen.facts, Cert.HeadBwdIdeal.Gen.facts, Cert.HeadBwdRefIdeal.Gen.facts,
  Cert.AttnFwd.Gen.facts, Cert.AttnFwdIdeal.Gen.facts, Cert.AttnFwdRefIdeal.Gen.facts,
  Cert.MergeFwd.Gen.facts, Cert.MergeFwdIdeal.Gen.facts, Cert.MergeFwdRefIdeal.Gen.facts,
  Cert.Pre_in_finite.Gen.facts, Cert.Pre_attn_finite.Gen.facts, Cert.Pre_merge_finite.Gen.facts, Cert.Pre_post_finite.Gen.facts, Cert.Pre_head_finite.Gen.facts, Cert.Pre_attnf_finite.Gen.facts,
  fun m ρ _ => Cert.InBwd.Gen.frame m ρ,
  fun m ρ _ => Cert.InBwdIdeal.Gen.frame m ρ, fun m ρ _ => Cert.InBwdIdeal.Gen.frame m ρ,
  in_ref_frame, fun m ρ _ => in_ref_frame m ρ trivial,
  fun m ρ _ => Cert.AttnBwd.Gen.frame m ρ,
  fun m ρ _ => Cert.AttnBwdIdeal.Gen.frame m ρ, fun m ρ _ => Cert.AttnBwdIdeal.Gen.frame m ρ,
  attn_ref_frame, fun m ρ _ => attn_ref_frame m ρ trivial,
  fun m ρ _ => Cert.MergeBwd.Gen.frame m ρ,
  fun m ρ _ => Cert.MergeBwdIdeal.Gen.frame m ρ, fun m ρ _ => Cert.MergeBwdIdeal.Gen.frame m ρ,
  merge_ref_frame, fun m ρ _ => merge_ref_frame m ρ trivial,
  fun m ρ _ => Cert.AttnPost.Gen.frame m ρ,
  fun m ρ _ => Cert.AttnPostIdeal.Gen.frame m ρ, fun m ρ _ => Cert.AttnPostIdeal.Gen.frame m ρ,
  post_ref_frame, fun m ρ _ => post_ref_frame m ρ trivial,
  fun m ρ _ => Cert.HeadBwd.Gen.frame m ρ,
  fun m ρ _ => Cert.HeadBwdIdeal.Gen.frame m ρ, fun m ρ _ => Cert.HeadBwdIdeal.Gen.frame m ρ,
  head_ref_frame, fun m ρ _ => head_ref_frame m ρ trivial,
  fun m ρ _ => Cert.AttnFwd.Gen.frame m ρ,
  fun m ρ _ => Cert.AttnFwdIdeal.Gen.frame m ρ, fun m ρ _ => Cert.AttnFwdIdeal.Gen.frame m ρ,
  attnf_ref_frame, fun m ρ _ => attnf_ref_frame m ρ trivial,
  fun m ρ _ => Cert.MergeFwd.Gen.frame m ρ,
  fun m ρ _ => Cert.MergeFwdIdeal.Gen.frame m ρ,
  mergef_ref_frame,
  trivial, Cert.InBwdProof.algebraic, trivial, Cert.AttnBwdProof.algebraic, trivial, Cert.MergeBwdProof.algebraic, trivial, Cert.AttnPostProof.algebraic, trivial, Cert.HeadBwdProof.algebraic, trivial, Cert.AttnFwdProof.algebraic, trivial, Cert.MergeFwdProof.algebraic⟩

end Cert.Proof

end
